-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_DwMain (m : (ℓ : Loc Cert.DwMain.nD Cert.DwMain.τ Cert.DwMain.sig) → Buf (Elt Bits) ℓ) : Prop :=
  True

def Pre_DwMainIdeal (m : (ℓ : Loc Cert.DwMainIdeal.nD Cert.DwMainIdeal.τ Cert.DwMainIdeal.sig) → Buf (Elt Ideal) ℓ) : Prop :=
  True

def Pre_DwMainRefIdeal (m : (ℓ : Loc Cert.DwMainRefIdeal.nD Cert.DwMainRefIdeal.τ Cert.DwMainRefIdeal.sig) → Buf (Elt Ideal) ℓ) : Prop :=
  True

def Pre_DxMain (m : (ℓ : Loc Cert.DxMain.nD Cert.DxMain.τ Cert.DxMain.sig) → Buf (Elt Bits) ℓ) : Prop :=
  True

def Pre_DxMainIdeal (m : (ℓ : Loc Cert.DxMainIdeal.nD Cert.DxMainIdeal.τ Cert.DxMainIdeal.sig) → Buf (Elt Ideal) ℓ) : Prop :=
  True

def Pre_DxMainRefIdeal (m : (ℓ : Loc Cert.DxMainRefIdeal.nD Cert.DxMainRefIdeal.τ Cert.DxMainRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_DwDt (m : (ℓ : Loc Cert.DwDt.nD Cert.DwDt.τ Cert.DwDt.sig) → Buf (Elt Bits) ℓ) : Prop :=
  True

def Pre_DwDtIdeal (m : (ℓ : Loc Cert.DwDtIdeal.nD Cert.DwDtIdeal.τ Cert.DwDtIdeal.sig) → Buf (Elt Ideal) ℓ) : Prop :=
  True

def Pre_DwDtRefIdeal (m : (ℓ : Loc Cert.DwDtRefIdeal.nD Cert.DwDtRefIdeal.τ Cert.DwDtRefIdeal.sig) → Buf (Elt Ideal) ℓ) : Prop :=
  True

def Pre_DxDt (m : (ℓ : Loc Cert.DxDt.nD Cert.DxDt.τ Cert.DxDt.sig) → Buf (Elt Bits) ℓ) : Prop :=
  True

def Pre_DxDtIdeal (m : (ℓ : Loc Cert.DxDtIdeal.nD Cert.DxDtIdeal.τ Cert.DxDtIdeal.sig) → Buf (Elt Ideal) ℓ) : Prop :=
  True

def Pre_DxDtRefIdeal (m : (ℓ : Loc Cert.DxDtRefIdeal.nD Cert.DxDtRefIdeal.τ Cert.DxDtRefIdeal.sig) → Buf (Elt Ideal) ℓ) : Prop :=
  True

def Pre_DtProj (m : (ℓ : Loc Cert.DtProj.nD Cert.DtProj.τ Cert.DtProj.sig) → Buf (Elt Bits) ℓ) : Prop :=
  True

def Pre_DtProjIdeal (m : (ℓ : Loc Cert.DtProjIdeal.nD Cert.DtProjIdeal.τ Cert.DtProjIdeal.sig) → Buf (Elt Ideal) ℓ) : Prop :=
  True

def Pre_DtProjRefIdeal (m : (ℓ : Loc Cert.DtProjRefIdeal.nD Cert.DtProjRefIdeal.τ Cert.DtProjRefIdeal.sig) → Buf (Elt Ideal) ℓ) : Prop :=
  True

def Pre_DwFfnIn (m : (ℓ : Loc Cert.DwFfnIn.nD Cert.DwFfnIn.τ Cert.DwFfnIn.sig) → Buf (Elt Bits) ℓ) : Prop :=
  True

def Pre_DwFfnInIdeal (m : (ℓ : Loc Cert.DwFfnInIdeal.nD Cert.DwFfnInIdeal.τ Cert.DwFfnInIdeal.sig) → Buf (Elt Ideal) ℓ) : Prop :=
  True

def Pre_DwFfnInRefIdeal (m : (ℓ : Loc Cert.DwFfnInRefIdeal.nD Cert.DwFfnInRefIdeal.τ Cert.DwFfnInRefIdeal.sig) → Buf (Elt Ideal) ℓ) : Prop :=
  True

def Pre_DxFfnIn (m : (ℓ : Loc Cert.DxFfnIn.nD Cert.DxFfnIn.τ Cert.DxFfnIn.sig) → Buf (Elt Bits) ℓ) : Prop :=
  True

def Pre_DxFfnInIdeal (m : (ℓ : Loc Cert.DxFfnInIdeal.nD Cert.DxFfnInIdeal.τ Cert.DxFfnInIdeal.sig) → Buf (Elt Ideal) ℓ) : Prop :=
  True

def Pre_DxFfnInRefIdeal (m : (ℓ : Loc Cert.DxFfnInRefIdeal.nD Cert.DxFfnInRefIdeal.τ Cert.DxFfnInRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_DwFfnOut (m : (ℓ : Loc Cert.DwFfnOut.nD Cert.DwFfnOut.τ Cert.DwFfnOut.sig) → Buf (Elt Bits) ℓ) : Prop :=
  True

def Pre_DwFfnOutIdeal (m : (ℓ : Loc Cert.DwFfnOutIdeal.nD Cert.DwFfnOutIdeal.τ Cert.DwFfnOutIdeal.sig) → Buf (Elt Ideal) ℓ) : Prop :=
  True

def Pre_DwFfnOutRefIdeal (m : (ℓ : Loc Cert.DwFfnOutRefIdeal.nD Cert.DwFfnOutRefIdeal.τ Cert.DwFfnOutRefIdeal.sig) → Buf (Elt Ideal) ℓ) : Prop :=
  True

def Pre_DxFfnOut (m : (ℓ : Loc Cert.DxFfnOut.nD Cert.DxFfnOut.τ Cert.DxFfnOut.sig) → Buf (Elt Bits) ℓ) : Prop :=
  True

def Pre_DxFfnOutIdeal (m : (ℓ : Loc Cert.DxFfnOutIdeal.nD Cert.DxFfnOutIdeal.τ Cert.DxFfnOutIdeal.sig) → Buf (Elt Ideal) ℓ) : Prop :=
  True

def Pre_DxFfnOutRefIdeal (m : (ℓ : Loc Cert.DxFfnOutRefIdeal.nD Cert.DxFfnOutRefIdeal.τ Cert.DxFfnOutRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_DwBrB (m : (ℓ : Loc Cert.DwBrB.nD Cert.DwBrB.τ Cert.DwBrB.sig) → Buf (Elt Bits) ℓ) : Prop :=
  True

def Pre_DwBrBIdeal (m : (ℓ : Loc Cert.DwBrBIdeal.nD Cert.DwBrBIdeal.τ Cert.DwBrBIdeal.sig) → Buf (Elt Ideal) ℓ) : Prop :=
  True

def Pre_DwBrBRefIdeal (m : (ℓ : Loc Cert.DwBrBRefIdeal.nD Cert.DwBrBRefIdeal.τ Cert.DwBrBRefIdeal.sig) → Buf (Elt Ideal) ℓ) : Prop :=
  True

def Pre_DxBrB (m : (ℓ : Loc Cert.DxBrB.nD Cert.DxBrB.τ Cert.DxBrB.sig) → Buf (Elt Bits) ℓ) : Prop :=
  True

def Pre_DxBrBIdeal (m : (ℓ : Loc Cert.DxBrBIdeal.nD Cert.DxBrBIdeal.τ Cert.DxBrBIdeal.sig) → Buf (Elt Ideal) ℓ) : Prop :=
  True

def Pre_DxBrBRefIdeal (m : (ℓ : Loc Cert.DxBrBRefIdeal.nD Cert.DxBrBRefIdeal.τ Cert.DxBrBRefIdeal.sig) → Buf (Elt Ideal) ℓ) : Prop :=
  True

def Pre_BrB (m : (ℓ : Loc Cert.BrB.nD Cert.BrB.τ Cert.BrB.sig) → Buf (Elt Bits) ℓ) : Prop :=
  True

def Pre_BrBIdeal (m : (ℓ : Loc Cert.BrBIdeal.nD Cert.BrBIdeal.τ Cert.BrBIdeal.sig) → Buf (Elt Ideal) ℓ) : Prop :=
  True

def Pre_BrBRefIdeal (m : (ℓ : Loc Cert.BrBRefIdeal.nD Cert.BrBRefIdeal.τ Cert.BrBRefIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareRefIdeal (m : (ℓ : Loc Cert.DwSquareRefIdeal.nD Cert.DwSquareRefIdeal.τ Cert.DwSquareRefIdeal.sig) → Buf (Elt Ideal) ℓ) : Prop :=
  True

def Pre_DxSquareLow (m : (ℓ : Loc Cert.DxSquareLow.nD Cert.DxSquareLow.τ Cert.DxSquareLow.sig) → Buf (Elt Bits) ℓ) : Prop :=
  True

def Pre_DxSquareLowIdeal (m : (ℓ : Loc Cert.DxSquareLowIdeal.nD Cert.DxSquareLowIdeal.τ Cert.DxSquareLowIdeal.sig) → Buf (Elt Ideal) ℓ) : Prop :=
  True

def Pre_DxSquareLowRefIdeal (m : (ℓ : Loc Cert.DxSquareLowRefIdeal.nD Cert.DxSquareLowRefIdeal.τ Cert.DxSquareLowRefIdeal.sig) → Buf (Elt Ideal) ℓ) : Prop :=
  True

def Pre_DxSquare (m : (ℓ : Loc Cert.DxSquare.nD Cert.DxSquare.τ Cert.DxSquare.sig) → Buf (Elt Bits) ℓ) : Prop :=
  True

def Pre_DxSquareIdeal (m : (ℓ : Loc Cert.DxSquareIdeal.nD Cert.DxSquareIdeal.τ Cert.DxSquareIdeal.sig) → Buf (Elt Ideal) ℓ) : Prop :=
  True

def Pre_DxSquareRefIdeal (m : (ℓ : Loc Cert.DxSquareRefIdeal.nD Cert.DxSquareRefIdeal.τ Cert.DxSquareRefIdeal.sig) → Buf (Elt Ideal) ℓ) : Prop :=
  True

def Pre_SquareLow (m : (ℓ : Loc Cert.SquareLow.nD Cert.SquareLow.τ Cert.SquareLow.sig) → Buf (Elt Bits) ℓ) : Prop :=
  True

def Pre_SquareLowIdeal (m : (ℓ : Loc Cert.SquareLowIdeal.nD Cert.SquareLowIdeal.τ Cert.SquareLowIdeal.sig) → Buf (Elt Ideal) ℓ) : Prop :=
  True

def Pre_SquareLowRefIdeal (m : (ℓ : Loc Cert.SquareLowRefIdeal.nD Cert.SquareLowRefIdeal.τ Cert.SquareLowRefIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvRefIdeal (m : (ℓ : Loc Cert.DwKvRefIdeal.nD Cert.DwKvRefIdeal.τ Cert.DwKvRefIdeal.sig) → Buf (Elt Ideal) ℓ) : Prop :=
  True

def Pre_DxKv (m : (ℓ : Loc Cert.DxKv.nD Cert.DxKv.τ Cert.DxKv.sig) → Buf (Elt Bits) ℓ) : Prop :=
  True

def Pre_DxKvIdeal (m : (ℓ : Loc Cert.DxKvIdeal.nD Cert.DxKvIdeal.τ Cert.DxKvIdeal.sig) → Buf (Elt Ideal) ℓ) : Prop :=
  True

def Pre_DxKvRefIdeal (m : (ℓ : Loc Cert.DxKvRefIdeal.nD Cert.DxKvRefIdeal.τ Cert.DxKvRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_real_entries [hPre_real_entries : Cert.Pre_real_entries.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_real_entries.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_real_entries [hPre_real_entries : Cert.Pre_real_entries.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_real_entries.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_real_hidden [hPre_real_hidden : Cert.Pre_real_hidden.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_real_hidden.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1))) = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_real_hidden [hPre_real_hidden : Cert.Pre_real_hidden.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_real_hidden.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1))) = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_real_cotangent [hPre_real_cotangent : Cert.Pre_real_cotangent.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_real_cotangent.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_real_cotangent [hPre_real_cotangent : Cert.Pre_real_cotangent.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_real_cotangent.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_real_normed [hPre_real_normed : Cert.Pre_real_normed.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_real_normed.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))) = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_real_normed [hPre_real_normed : Cert.Pre_real_normed.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_real_normed.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DwMain [hDwMain : Cert.DwMain.Facts] : Prop :=
  ∀ (m : (ℓ : Loc Cert.DwMain.nD Cert.DwMain.τ Cert.DwMain.sig) → Buf (Elt Bits) ℓ) (g : Dev Cert.DwMain.nD → PrngReg), Pre_DwMain m →
    θ_run (Cert.DwMain.defs (F := Bits)) (onTc (τ := Cert.DwMain.τ) (Cert.DwMain.main (F := Bits))) ⟨m, fun _ => 0, g⟩ (fun r => (∀ c : Dev Cert.DwMain.nD,
      r.2.mem ((c.tc : Thread Cert.DwMain.nD Cert.DwMain.τ).loc Cert.DwMain.main_arg0) = m ((c.tc : Thread Cert.DwMain.nD Cert.DwMain.τ).loc Cert.DwMain.main_arg0)
      ∧ r.2.mem ((c.tc : Thread Cert.DwMain.nD Cert.DwMain.τ).loc Cert.DwMain.main_arg1) = m ((c.tc : Thread Cert.DwMain.nD Cert.DwMain.τ).loc Cert.DwMain.main_arg1))
      ∧ r.2.sem = fun _ => 0)

def quiescent_DwMainIdeal [hDwMainIdeal : Cert.DwMainIdeal.Facts] : Prop :=
  ∀ (m : (ℓ : Loc Cert.DwMainIdeal.nD Cert.DwMainIdeal.τ Cert.DwMainIdeal.sig) → Buf (Elt Ideal) ℓ) (g : Dev Cert.DwMainIdeal.nD → PrngReg), Pre_DwMainIdeal m →
    θ_run (Cert.DwMainIdeal.defs (F := Ideal)) (onTc (τ := Cert.DwMainIdeal.τ) (Cert.DwMainIdeal.main (F := Ideal))) ⟨m, fun _ => 0, g⟩ (fun r => (∀ c : Dev Cert.DwMainIdeal.nD,
      r.2.mem ((c.tc : Thread Cert.DwMainIdeal.nD Cert.DwMainIdeal.τ).loc Cert.DwMainIdeal.main_arg0) = m ((c.tc : Thread Cert.DwMainIdeal.nD Cert.DwMainIdeal.τ).loc Cert.DwMainIdeal.main_arg0)
      ∧ r.2.mem ((c.tc : Thread Cert.DwMainIdeal.nD Cert.DwMainIdeal.τ).loc Cert.DwMainIdeal.main_arg1) = m ((c.tc : Thread Cert.DwMainIdeal.nD Cert.DwMainIdeal.τ).loc Cert.DwMainIdeal.main_arg1))
      ∧ r.2.sem = fun _ => 0)

def quiescent_DwMainRefIdeal [hDwMainRefIdeal : Cert.DwMainRefIdeal.Facts] : Prop :=
  ∀ (m : (ℓ : Loc Cert.DwMainRefIdeal.nD Cert.DwMainRefIdeal.τ Cert.DwMainRefIdeal.sig) → Buf (Elt Ideal) ℓ) (g : Dev Cert.DwMainRefIdeal.nD → PrngReg), Pre_DwMainRefIdeal m →
    θ_run (Cert.DwMainRefIdeal.defs (F := Ideal)) (onTc (τ := Cert.DwMainRefIdeal.τ) (Cert.DwMainRefIdeal.main (F := Ideal))) ⟨m, fun _ => 0, g⟩ (fun r => (∀ c : Dev Cert.DwMainRefIdeal.nD,
      r.2.mem ((c.tc : Thread Cert.DwMainRefIdeal.nD Cert.DwMainRefIdeal.τ).loc Cert.DwMainRefIdeal.main_arg0) = m ((c.tc : Thread Cert.DwMainRefIdeal.nD Cert.DwMainRefIdeal.τ).loc Cert.DwMainRefIdeal.main_arg0)
      ∧ r.2.mem ((c.tc : Thread Cert.DwMainRefIdeal.nD Cert.DwMainRefIdeal.τ).loc Cert.DwMainRefIdeal.main_arg1) = m ((c.tc : Thread Cert.DwMainRefIdeal.nD Cert.DwMainRefIdeal.τ).loc Cert.DwMainRefIdeal.main_arg1))
      ∧ r.2.sem = fun _ => 0)

def quiescent_DxMain [hDxMain : Cert.DxMain.Facts] : Prop :=
  ∀ (m : (ℓ : Loc Cert.DxMain.nD Cert.DxMain.τ Cert.DxMain.sig) → Buf (Elt Bits) ℓ) (g : Dev Cert.DxMain.nD → PrngReg), Pre_DxMain m →
    θ_run (Cert.DxMain.defs (F := Bits)) (onTc (τ := Cert.DxMain.τ) (Cert.DxMain.main (F := Bits))) ⟨m, fun _ => 0, g⟩ (fun r => (∀ c : Dev Cert.DxMain.nD,
      r.2.mem ((c.tc : Thread Cert.DxMain.nD Cert.DxMain.τ).loc Cert.DxMain.main_arg0) = m ((c.tc : Thread Cert.DxMain.nD Cert.DxMain.τ).loc Cert.DxMain.main_arg0)
      ∧ r.2.mem ((c.tc : Thread Cert.DxMain.nD Cert.DxMain.τ).loc Cert.DxMain.main_arg1) = m ((c.tc : Thread Cert.DxMain.nD Cert.DxMain.τ).loc Cert.DxMain.main_arg1)
      ∧ r.2.mem ((c.tc : Thread Cert.DxMain.nD Cert.DxMain.τ).loc Cert.DxMain.main_arg2) = m ((c.tc : Thread Cert.DxMain.nD Cert.DxMain.τ).loc Cert.DxMain.main_arg2))
      ∧ r.2.sem = fun _ => 0)

def quiescent_DxMainIdeal [hDxMainIdeal : Cert.DxMainIdeal.Facts] : Prop :=
  ∀ (m : (ℓ : Loc Cert.DxMainIdeal.nD Cert.DxMainIdeal.τ Cert.DxMainIdeal.sig) → Buf (Elt Ideal) ℓ) (g : Dev Cert.DxMainIdeal.nD → PrngReg), Pre_DxMainIdeal m →
    θ_run (Cert.DxMainIdeal.defs (F := Ideal)) (onTc (τ := Cert.DxMainIdeal.τ) (Cert.DxMainIdeal.main (F := Ideal))) ⟨m, fun _ => 0, g⟩ (fun r => (∀ c : Dev Cert.DxMainIdeal.nD,
      r.2.mem ((c.tc : Thread Cert.DxMainIdeal.nD Cert.DxMainIdeal.τ).loc Cert.DxMainIdeal.main_arg0) = m ((c.tc : Thread Cert.DxMainIdeal.nD Cert.DxMainIdeal.τ).loc Cert.DxMainIdeal.main_arg0)
      ∧ r.2.mem ((c.tc : Thread Cert.DxMainIdeal.nD Cert.DxMainIdeal.τ).loc Cert.DxMainIdeal.main_arg1) = m ((c.tc : Thread Cert.DxMainIdeal.nD Cert.DxMainIdeal.τ).loc Cert.DxMainIdeal.main_arg1)
      ∧ r.2.mem ((c.tc : Thread Cert.DxMainIdeal.nD Cert.DxMainIdeal.τ).loc Cert.DxMainIdeal.main_arg2) = m ((c.tc : Thread Cert.DxMainIdeal.nD Cert.DxMainIdeal.τ).loc Cert.DxMainIdeal.main_arg2))
      ∧ r.2.sem = fun _ => 0)

def quiescent_DxMainRefIdeal [hDxMainRefIdeal : Cert.DxMainRefIdeal.Facts] : Prop :=
  ∀ (m : (ℓ : Loc Cert.DxMainRefIdeal.nD Cert.DxMainRefIdeal.τ Cert.DxMainRefIdeal.sig) → Buf (Elt Ideal) ℓ) (g : Dev Cert.DxMainRefIdeal.nD → PrngReg), Pre_DxMainRefIdeal m →
    θ_run (Cert.DxMainRefIdeal.defs (F := Ideal)) (onTc (τ := Cert.DxMainRefIdeal.τ) (Cert.DxMainRefIdeal.main (F := Ideal))) ⟨m, fun _ => 0, g⟩ (fun r => (∀ c : Dev Cert.DxMainRefIdeal.nD,
      r.2.mem ((c.tc : Thread Cert.DxMainRefIdeal.nD Cert.DxMainRefIdeal.τ).loc Cert.DxMainRefIdeal.main_arg0) = m ((c.tc : Thread Cert.DxMainRefIdeal.nD Cert.DxMainRefIdeal.τ).loc Cert.DxMainRefIdeal.main_arg0)
      ∧ r.2.mem ((c.tc : Thread Cert.DxMainRefIdeal.nD Cert.DxMainRefIdeal.τ).loc Cert.DxMainRefIdeal.main_arg1) = m ((c.tc : Thread Cert.DxMainRefIdeal.nD Cert.DxMainRefIdeal.τ).loc Cert.DxMainRefIdeal.main_arg1)
      ∧ r.2.mem ((c.tc : Thread Cert.DxMainRefIdeal.nD Cert.DxMainRefIdeal.τ).loc Cert.DxMainRefIdeal.main_arg2) = m ((c.tc : Thread Cert.DxMainRefIdeal.nD Cert.DxMainRefIdeal.τ).loc Cert.DxMainRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_DwDt [hDwDt : Cert.DwDt.Facts] : Prop :=
  ∀ (m : (ℓ : Loc Cert.DwDt.nD Cert.DwDt.τ Cert.DwDt.sig) → Buf (Elt Bits) ℓ) (g : Dev Cert.DwDt.nD → PrngReg), Pre_DwDt m →
    θ_run (Cert.DwDt.defs (F := Bits)) (onTc (τ := Cert.DwDt.τ) (Cert.DwDt.main (F := Bits))) ⟨m, fun _ => 0, g⟩ (fun r => (∀ c : Dev Cert.DwDt.nD,
      r.2.mem ((c.tc : Thread Cert.DwDt.nD Cert.DwDt.τ).loc Cert.DwDt.main_arg0) = m ((c.tc : Thread Cert.DwDt.nD Cert.DwDt.τ).loc Cert.DwDt.main_arg0)
      ∧ r.2.mem ((c.tc : Thread Cert.DwDt.nD Cert.DwDt.τ).loc Cert.DwDt.main_arg1) = m ((c.tc : Thread Cert.DwDt.nD Cert.DwDt.τ).loc Cert.DwDt.main_arg1))
      ∧ r.2.sem = fun _ => 0)

def quiescent_DwDtIdeal [hDwDtIdeal : Cert.DwDtIdeal.Facts] : Prop :=
  ∀ (m : (ℓ : Loc Cert.DwDtIdeal.nD Cert.DwDtIdeal.τ Cert.DwDtIdeal.sig) → Buf (Elt Ideal) ℓ) (g : Dev Cert.DwDtIdeal.nD → PrngReg), Pre_DwDtIdeal m →
    θ_run (Cert.DwDtIdeal.defs (F := Ideal)) (onTc (τ := Cert.DwDtIdeal.τ) (Cert.DwDtIdeal.main (F := Ideal))) ⟨m, fun _ => 0, g⟩ (fun r => (∀ c : Dev Cert.DwDtIdeal.nD,
      r.2.mem ((c.tc : Thread Cert.DwDtIdeal.nD Cert.DwDtIdeal.τ).loc Cert.DwDtIdeal.main_arg0) = m ((c.tc : Thread Cert.DwDtIdeal.nD Cert.DwDtIdeal.τ).loc Cert.DwDtIdeal.main_arg0)
      ∧ r.2.mem ((c.tc : Thread Cert.DwDtIdeal.nD Cert.DwDtIdeal.τ).loc Cert.DwDtIdeal.main_arg1) = m ((c.tc : Thread Cert.DwDtIdeal.nD Cert.DwDtIdeal.τ).loc Cert.DwDtIdeal.main_arg1))
      ∧ r.2.sem = fun _ => 0)

def quiescent_DwDtRefIdeal [hDwDtRefIdeal : Cert.DwDtRefIdeal.Facts] : Prop :=
  ∀ (m : (ℓ : Loc Cert.DwDtRefIdeal.nD Cert.DwDtRefIdeal.τ Cert.DwDtRefIdeal.sig) → Buf (Elt Ideal) ℓ) (g : Dev Cert.DwDtRefIdeal.nD → PrngReg), Pre_DwDtRefIdeal m →
    θ_run (Cert.DwDtRefIdeal.defs (F := Ideal)) (onTc (τ := Cert.DwDtRefIdeal.τ) (Cert.DwDtRefIdeal.main (F := Ideal))) ⟨m, fun _ => 0, g⟩ (fun r => (∀ c : Dev Cert.DwDtRefIdeal.nD,
      r.2.mem ((c.tc : Thread Cert.DwDtRefIdeal.nD Cert.DwDtRefIdeal.τ).loc Cert.DwDtRefIdeal.main_arg0) = m ((c.tc : Thread Cert.DwDtRefIdeal.nD Cert.DwDtRefIdeal.τ).loc Cert.DwDtRefIdeal.main_arg0)
      ∧ r.2.mem ((c.tc : Thread Cert.DwDtRefIdeal.nD Cert.DwDtRefIdeal.τ).loc Cert.DwDtRefIdeal.main_arg1) = m ((c.tc : Thread Cert.DwDtRefIdeal.nD Cert.DwDtRefIdeal.τ).loc Cert.DwDtRefIdeal.main_arg1))
      ∧ r.2.sem = fun _ => 0)

def quiescent_DxDt [hDxDt : Cert.DxDt.Facts] : Prop :=
  ∀ (m : (ℓ : Loc Cert.DxDt.nD Cert.DxDt.τ Cert.DxDt.sig) → Buf (Elt Bits) ℓ) (g : Dev Cert.DxDt.nD → PrngReg), Pre_DxDt m →
    θ_run (Cert.DxDt.defs (F := Bits)) (onTc (τ := Cert.DxDt.τ) (Cert.DxDt.main (F := Bits))) ⟨m, fun _ => 0, g⟩ (fun r => (∀ c : Dev Cert.DxDt.nD,
      r.2.mem ((c.tc : Thread Cert.DxDt.nD Cert.DxDt.τ).loc Cert.DxDt.main_arg0) = m ((c.tc : Thread Cert.DxDt.nD Cert.DxDt.τ).loc Cert.DxDt.main_arg0)
      ∧ r.2.mem ((c.tc : Thread Cert.DxDt.nD Cert.DxDt.τ).loc Cert.DxDt.main_arg1) = m ((c.tc : Thread Cert.DxDt.nD Cert.DxDt.τ).loc Cert.DxDt.main_arg1)
      ∧ r.2.mem ((c.tc : Thread Cert.DxDt.nD Cert.DxDt.τ).loc Cert.DxDt.main_arg2) = m ((c.tc : Thread Cert.DxDt.nD Cert.DxDt.τ).loc Cert.DxDt.main_arg2))
      ∧ r.2.sem = fun _ => 0)

def quiescent_DxDtIdeal [hDxDtIdeal : Cert.DxDtIdeal.Facts] : Prop :=
  ∀ (m : (ℓ : Loc Cert.DxDtIdeal.nD Cert.DxDtIdeal.τ Cert.DxDtIdeal.sig) → Buf (Elt Ideal) ℓ) (g : Dev Cert.DxDtIdeal.nD → PrngReg), Pre_DxDtIdeal m →
    θ_run (Cert.DxDtIdeal.defs (F := Ideal)) (onTc (τ := Cert.DxDtIdeal.τ) (Cert.DxDtIdeal.main (F := Ideal))) ⟨m, fun _ => 0, g⟩ (fun r => (∀ c : Dev Cert.DxDtIdeal.nD,
      r.2.mem ((c.tc : Thread Cert.DxDtIdeal.nD Cert.DxDtIdeal.τ).loc Cert.DxDtIdeal.main_arg0) = m ((c.tc : Thread Cert.DxDtIdeal.nD Cert.DxDtIdeal.τ).loc Cert.DxDtIdeal.main_arg0)
      ∧ r.2.mem ((c.tc : Thread Cert.DxDtIdeal.nD Cert.DxDtIdeal.τ).loc Cert.DxDtIdeal.main_arg1) = m ((c.tc : Thread Cert.DxDtIdeal.nD Cert.DxDtIdeal.τ).loc Cert.DxDtIdeal.main_arg1)
      ∧ r.2.mem ((c.tc : Thread Cert.DxDtIdeal.nD Cert.DxDtIdeal.τ).loc Cert.DxDtIdeal.main_arg2) = m ((c.tc : Thread Cert.DxDtIdeal.nD Cert.DxDtIdeal.τ).loc Cert.DxDtIdeal.main_arg2))
      ∧ r.2.sem = fun _ => 0)

def quiescent_DxDtRefIdeal [hDxDtRefIdeal : Cert.DxDtRefIdeal.Facts] : Prop :=
  ∀ (m : (ℓ : Loc Cert.DxDtRefIdeal.nD Cert.DxDtRefIdeal.τ Cert.DxDtRefIdeal.sig) → Buf (Elt Ideal) ℓ) (g : Dev Cert.DxDtRefIdeal.nD → PrngReg), Pre_DxDtRefIdeal m →
    θ_run (Cert.DxDtRefIdeal.defs (F := Ideal)) (onTc (τ := Cert.DxDtRefIdeal.τ) (Cert.DxDtRefIdeal.main (F := Ideal))) ⟨m, fun _ => 0, g⟩ (fun r => (∀ c : Dev Cert.DxDtRefIdeal.nD,
      r.2.mem ((c.tc : Thread Cert.DxDtRefIdeal.nD Cert.DxDtRefIdeal.τ).loc Cert.DxDtRefIdeal.main_arg0) = m ((c.tc : Thread Cert.DxDtRefIdeal.nD Cert.DxDtRefIdeal.τ).loc Cert.DxDtRefIdeal.main_arg0)
      ∧ r.2.mem ((c.tc : Thread Cert.DxDtRefIdeal.nD Cert.DxDtRefIdeal.τ).loc Cert.DxDtRefIdeal.main_arg1) = m ((c.tc : Thread Cert.DxDtRefIdeal.nD Cert.DxDtRefIdeal.τ).loc Cert.DxDtRefIdeal.main_arg1)
      ∧ r.2.mem ((c.tc : Thread Cert.DxDtRefIdeal.nD Cert.DxDtRefIdeal.τ).loc Cert.DxDtRefIdeal.main_arg2) = m ((c.tc : Thread Cert.DxDtRefIdeal.nD Cert.DxDtRefIdeal.τ).loc Cert.DxDtRefIdeal.main_arg2))
      ∧ r.2.sem = fun _ => 0)

def quiescent_DtProj [hDtProj : Cert.DtProj.Facts] : Prop :=
  ∀ (m : (ℓ : Loc Cert.DtProj.nD Cert.DtProj.τ Cert.DtProj.sig) → Buf (Elt Bits) ℓ) (g : Dev Cert.DtProj.nD → PrngReg), Pre_DtProj m →
    θ_run (Cert.DtProj.defs (F := Bits)) (onTc (τ := Cert.DtProj.τ) (Cert.DtProj.main (F := Bits))) ⟨m, fun _ => 0, g⟩ (fun r => (∀ c : Dev Cert.DtProj.nD,
      r.2.mem ((c.tc : Thread Cert.DtProj.nD Cert.DtProj.τ).loc Cert.DtProj.main_arg0) = m ((c.tc : Thread Cert.DtProj.nD Cert.DtProj.τ).loc Cert.DtProj.main_arg0)
      ∧ r.2.mem ((c.tc : Thread Cert.DtProj.nD Cert.DtProj.τ).loc Cert.DtProj.main_arg1) = m ((c.tc : Thread Cert.DtProj.nD Cert.DtProj.τ).loc Cert.DtProj.main_arg1))
      ∧ r.2.sem = fun _ => 0)

def quiescent_DtProjIdeal [hDtProjIdeal : Cert.DtProjIdeal.Facts] : Prop :=
  ∀ (m : (ℓ : Loc Cert.DtProjIdeal.nD Cert.DtProjIdeal.τ Cert.DtProjIdeal.sig) → Buf (Elt Ideal) ℓ) (g : Dev Cert.DtProjIdeal.nD → PrngReg), Pre_DtProjIdeal m →
    θ_run (Cert.DtProjIdeal.defs (F := Ideal)) (onTc (τ := Cert.DtProjIdeal.τ) (Cert.DtProjIdeal.main (F := Ideal))) ⟨m, fun _ => 0, g⟩ (fun r => (∀ c : Dev Cert.DtProjIdeal.nD,
      r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
      ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ r.2.sem = fun _ => 0)

def quiescent_DtProjRefIdeal [hDtProjRefIdeal : Cert.DtProjRefIdeal.Facts] : Prop :=
  ∀ (m : (ℓ : Loc Cert.DtProjRefIdeal.nD Cert.DtProjRefIdeal.τ Cert.DtProjRefIdeal.sig) → Buf (Elt Ideal) ℓ) (g : Dev Cert.DtProjRefIdeal.nD → PrngReg), Pre_DtProjRefIdeal m →
    θ_run (Cert.DtProjRefIdeal.defs (F := Ideal)) (onTc (τ := Cert.DtProjRefIdeal.τ) (Cert.DtProjRefIdeal.main (F := Ideal))) ⟨m, fun _ => 0, g⟩ (fun r => (∀ c : Dev Cert.DtProjRefIdeal.nD,
      r.2.mem ((c.tc : Thread Cert.DtProjRefIdeal.nD Cert.DtProjRefIdeal.τ).loc Cert.DtProjRefIdeal.main_arg0) = m ((c.tc : Thread Cert.DtProjRefIdeal.nD Cert.DtProjRefIdeal.τ).loc Cert.DtProjRefIdeal.main_arg0)
      ∧ r.2.mem ((c.tc : Thread Cert.DtProjRefIdeal.nD Cert.DtProjRefIdeal.τ).loc Cert.DtProjRefIdeal.main_arg1) = m ((c.tc : Thread Cert.DtProjRefIdeal.nD Cert.DtProjRefIdeal.τ).loc Cert.DtProjRefIdeal.main_arg1))
      ∧ r.2.sem = fun _ => 0)

def quiescent_DwFfnIn [hDwFfnIn : Cert.DwFfnIn.Facts] : Prop :=
  ∀ (m : (ℓ : Loc Cert.DwFfnIn.nD Cert.DwFfnIn.τ Cert.DwFfnIn.sig) → Buf (Elt Bits) ℓ) (g : Dev Cert.DwFfnIn.nD → PrngReg), Pre_DwFfnIn m →
    θ_run (Cert.DwFfnIn.defs (F := Bits)) (onTc (τ := Cert.DwFfnIn.τ) (Cert.DwFfnIn.main (F := Bits))) ⟨m, fun _ => 0, g⟩ (fun r => (∀ c : Dev Cert.DwFfnIn.nD,
      r.2.mem ((c.tc : Thread Cert.DwFfnIn.nD Cert.DwFfnIn.τ).loc Cert.DwFfnIn.main_arg0) = m ((c.tc : Thread Cert.DwFfnIn.nD Cert.DwFfnIn.τ).loc Cert.DwFfnIn.main_arg0)
      ∧ r.2.mem ((c.tc : Thread Cert.DwFfnIn.nD Cert.DwFfnIn.τ).loc Cert.DwFfnIn.main_arg1) = m ((c.tc : Thread Cert.DwFfnIn.nD Cert.DwFfnIn.τ).loc Cert.DwFfnIn.main_arg1))
      ∧ r.2.sem = fun _ => 0)

def quiescent_DwFfnInIdeal [hDwFfnInIdeal : Cert.DwFfnInIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg), Pre_DwFfnInIdeal m →
    θ_run (Cert.DwFfnInIdeal.defs (F := Ideal)) (onTc (τ := Cert.DwFfnInIdeal.τ) (Cert.DwFfnInIdeal.main (F := Ideal))) ⟨m, fun _ => 0, g⟩ (fun r => (∀ c : Dev Cert.DwFfnInIdeal.nD,
      r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
      ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ r.2.sem = fun _ => 0)

def quiescent_DwFfnInRefIdeal [hDwFfnInRefIdeal : Cert.DwFfnInRefIdeal.Facts] : Prop :=
  ∀ (m : (ℓ : Loc Cert.DwFfnInRefIdeal.nD Cert.DwFfnInRefIdeal.τ Cert.DwFfnInRefIdeal.sig) → Buf (Elt Ideal) ℓ) (g : Dev Cert.DwFfnInRefIdeal.nD → PrngReg), Pre_DwFfnInRefIdeal m →
    θ_run (Cert.DwFfnInRefIdeal.defs (F := Ideal)) (onTc (τ := Cert.DwFfnInRefIdeal.τ) (Cert.DwFfnInRefIdeal.main (F := Ideal))) ⟨m, fun _ => 0, g⟩ (fun r => (∀ c : Dev Cert.DwFfnInRefIdeal.nD,
      r.2.mem ((c.tc : Thread Cert.DwFfnInRefIdeal.nD Cert.DwFfnInRefIdeal.τ).loc Cert.DwFfnInRefIdeal.main_arg0) = m ((c.tc : Thread Cert.DwFfnInRefIdeal.nD Cert.DwFfnInRefIdeal.τ).loc Cert.DwFfnInRefIdeal.main_arg0)
      ∧ r.2.mem ((c.tc : Thread Cert.DwFfnInRefIdeal.nD Cert.DwFfnInRefIdeal.τ).loc Cert.DwFfnInRefIdeal.main_arg1) = m ((c.tc : Thread Cert.DwFfnInRefIdeal.nD Cert.DwFfnInRefIdeal.τ).loc Cert.DwFfnInRefIdeal.main_arg1))
      ∧ r.2.sem = fun _ => 0)

def quiescent_DxFfnIn [hDxFfnIn : Cert.DxFfnIn.Facts] : Prop :=
  ∀ (m : (ℓ : Loc Cert.DxFfnIn.nD Cert.DxFfnIn.τ Cert.DxFfnIn.sig) → Buf (Elt Bits) ℓ) (g : Dev Cert.DxFfnIn.nD → PrngReg), Pre_DxFfnIn m →
    θ_run (Cert.DxFfnIn.defs (F := Bits)) (onTc (τ := Cert.DxFfnIn.τ) (Cert.DxFfnIn.main (F := Bits))) ⟨m, fun _ => 0, g⟩ (fun r => (∀ c : Dev Cert.DxFfnIn.nD,
      r.2.mem ((c.tc : Thread Cert.DxFfnIn.nD Cert.DxFfnIn.τ).loc Cert.DxFfnIn.main_arg0) = m ((c.tc : Thread Cert.DxFfnIn.nD Cert.DxFfnIn.τ).loc Cert.DxFfnIn.main_arg0)
      ∧ r.2.mem ((c.tc : Thread Cert.DxFfnIn.nD Cert.DxFfnIn.τ).loc Cert.DxFfnIn.main_arg1) = m ((c.tc : Thread Cert.DxFfnIn.nD Cert.DxFfnIn.τ).loc Cert.DxFfnIn.main_arg1))
      ∧ r.2.sem = fun _ => 0)

def quiescent_DxFfnInIdeal [hDxFfnInIdeal : Cert.DxFfnInIdeal.Facts] : Prop :=
  ∀ (m : (ℓ : Loc Cert.DxFfnInIdeal.nD Cert.DxFfnInIdeal.τ Cert.DxFfnInIdeal.sig) → Buf (Elt Ideal) ℓ) (g : Dev Cert.DxFfnInIdeal.nD → PrngReg), Pre_DxFfnInIdeal m →
    θ_run (Cert.DxFfnInIdeal.defs (F := Ideal)) (onTc (τ := Cert.DxFfnInIdeal.τ) (Cert.DxFfnInIdeal.main (F := Ideal))) ⟨m, fun _ => 0, g⟩ (fun r => (∀ c : Dev Cert.DxFfnInIdeal.nD,
      r.2.mem ((c.tc : Thread Cert.DxFfnInIdeal.nD Cert.DxFfnInIdeal.τ).loc Cert.DxFfnInIdeal.main_arg0) = m ((c.tc : Thread Cert.DxFfnInIdeal.nD Cert.DxFfnInIdeal.τ).loc Cert.DxFfnInIdeal.main_arg0)
      ∧ r.2.mem ((c.tc : Thread Cert.DxFfnInIdeal.nD Cert.DxFfnInIdeal.τ).loc Cert.DxFfnInIdeal.main_arg1) = m ((c.tc : Thread Cert.DxFfnInIdeal.nD Cert.DxFfnInIdeal.τ).loc Cert.DxFfnInIdeal.main_arg1))
      ∧ r.2.sem = fun _ => 0)

def quiescent_DxFfnInRefIdeal [hDxFfnInRefIdeal : Cert.DxFfnInRefIdeal.Facts] : Prop :=
  ∀ (m : (ℓ : Loc Cert.DxFfnInRefIdeal.nD Cert.DxFfnInRefIdeal.τ Cert.DxFfnInRefIdeal.sig) → Buf (Elt Ideal) ℓ) (g : Dev Cert.DxFfnInRefIdeal.nD → PrngReg), Pre_DxFfnInRefIdeal m →
    θ_run (Cert.DxFfnInRefIdeal.defs (F := Ideal)) (onTc (τ := Cert.DxFfnInRefIdeal.τ) (Cert.DxFfnInRefIdeal.main (F := Ideal))) ⟨m, fun _ => 0, g⟩ (fun r => (∀ c : Dev Cert.DxFfnInRefIdeal.nD,
      r.2.mem ((c.tc : Thread Cert.DxFfnInRefIdeal.nD Cert.DxFfnInRefIdeal.τ).loc Cert.DxFfnInRefIdeal.main_arg0) = m ((c.tc : Thread Cert.DxFfnInRefIdeal.nD Cert.DxFfnInRefIdeal.τ).loc Cert.DxFfnInRefIdeal.main_arg0)
      ∧ r.2.mem ((c.tc : Thread Cert.DxFfnInRefIdeal.nD Cert.DxFfnInRefIdeal.τ).loc Cert.DxFfnInRefIdeal.main_arg1) = m ((c.tc : Thread Cert.DxFfnInRefIdeal.nD Cert.DxFfnInRefIdeal.τ).loc Cert.DxFfnInRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_DwFfnOut [hDwFfnOut : Cert.DwFfnOut.Facts] : Prop :=
  ∀ (m : (ℓ : Loc Cert.DwFfnOut.nD Cert.DwFfnOut.τ Cert.DwFfnOut.sig) → Buf (Elt Bits) ℓ) (g : Dev Cert.DwFfnOut.nD → PrngReg), Pre_DwFfnOut m →
    θ_run (Cert.DwFfnOut.defs (F := Bits)) (onTc (τ := Cert.DwFfnOut.τ) (Cert.DwFfnOut.main (F := Bits))) ⟨m, fun _ => 0, g⟩ (fun r => (∀ c : Dev Cert.DwFfnOut.nD,
      r.2.mem ((c.tc : Thread Cert.DwFfnOut.nD Cert.DwFfnOut.τ).loc Cert.DwFfnOut.main_arg0) = m ((c.tc : Thread Cert.DwFfnOut.nD Cert.DwFfnOut.τ).loc Cert.DwFfnOut.main_arg0)
      ∧ r.2.mem ((c.tc : Thread Cert.DwFfnOut.nD Cert.DwFfnOut.τ).loc Cert.DwFfnOut.main_arg1) = m ((c.tc : Thread Cert.DwFfnOut.nD Cert.DwFfnOut.τ).loc Cert.DwFfnOut.main_arg1))
      ∧ r.2.sem = fun _ => 0)

def quiescent_DwFfnOutIdeal [hDwFfnOutIdeal : Cert.DwFfnOutIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg), Pre_DwFfnOutIdeal m →
    θ_run (Cert.DwFfnOutIdeal.defs (F := Ideal)) (onTc (τ := Cert.DwFfnOutIdeal.τ) (Cert.DwFfnOutIdeal.main (F := Ideal))) ⟨m, fun _ => 0, g⟩ (fun r => (∀ c : Dev Cert.DwFfnOutIdeal.nD,
      r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
      ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ r.2.sem = fun _ => 0)

def quiescent_DwFfnOutRefIdeal [hDwFfnOutRefIdeal : Cert.DwFfnOutRefIdeal.Facts] : Prop :=
  ∀ (m : (ℓ : Loc Cert.DwFfnOutRefIdeal.nD Cert.DwFfnOutRefIdeal.τ Cert.DwFfnOutRefIdeal.sig) → Buf (Elt Ideal) ℓ) (g : Dev Cert.DwFfnOutRefIdeal.nD → PrngReg), Pre_DwFfnOutRefIdeal m →
    θ_run (Cert.DwFfnOutRefIdeal.defs (F := Ideal)) (onTc (τ := Cert.DwFfnOutRefIdeal.τ) (Cert.DwFfnOutRefIdeal.main (F := Ideal))) ⟨m, fun _ => 0, g⟩ (fun r => (∀ c : Dev Cert.DwFfnOutRefIdeal.nD,
      r.2.mem ((c.tc : Thread Cert.DwFfnOutRefIdeal.nD Cert.DwFfnOutRefIdeal.τ).loc Cert.DwFfnOutRefIdeal.main_arg0) = m ((c.tc : Thread Cert.DwFfnOutRefIdeal.nD Cert.DwFfnOutRefIdeal.τ).loc Cert.DwFfnOutRefIdeal.main_arg0)
      ∧ r.2.mem ((c.tc : Thread Cert.DwFfnOutRefIdeal.nD Cert.DwFfnOutRefIdeal.τ).loc Cert.DwFfnOutRefIdeal.main_arg1) = m ((c.tc : Thread Cert.DwFfnOutRefIdeal.nD Cert.DwFfnOutRefIdeal.τ).loc Cert.DwFfnOutRefIdeal.main_arg1))
      ∧ r.2.sem = fun _ => 0)

def quiescent_DxFfnOut [hDxFfnOut : Cert.DxFfnOut.Facts] : Prop :=
  ∀ (m : (ℓ : Loc Cert.DxFfnOut.nD Cert.DxFfnOut.τ Cert.DxFfnOut.sig) → Buf (Elt Bits) ℓ) (g : Dev Cert.DxFfnOut.nD → PrngReg), Pre_DxFfnOut m →
    θ_run (Cert.DxFfnOut.defs (F := Bits)) (onTc (τ := Cert.DxFfnOut.τ) (Cert.DxFfnOut.main (F := Bits))) ⟨m, fun _ => 0, g⟩ (fun r => (∀ c : Dev Cert.DxFfnOut.nD,
      r.2.mem ((c.tc : Thread Cert.DxFfnOut.nD Cert.DxFfnOut.τ).loc Cert.DxFfnOut.main_arg0) = m ((c.tc : Thread Cert.DxFfnOut.nD Cert.DxFfnOut.τ).loc Cert.DxFfnOut.main_arg0)
      ∧ r.2.mem ((c.tc : Thread Cert.DxFfnOut.nD Cert.DxFfnOut.τ).loc Cert.DxFfnOut.main_arg1) = m ((c.tc : Thread Cert.DxFfnOut.nD Cert.DxFfnOut.τ).loc Cert.DxFfnOut.main_arg1))
      ∧ r.2.sem = fun _ => 0)

def quiescent_DxFfnOutIdeal [hDxFfnOutIdeal : Cert.DxFfnOutIdeal.Facts] : Prop :=
  ∀ (m : (ℓ : Loc Cert.DxFfnOutIdeal.nD Cert.DxFfnOutIdeal.τ Cert.DxFfnOutIdeal.sig) → Buf (Elt Ideal) ℓ) (g : Dev Cert.DxFfnOutIdeal.nD → PrngReg), Pre_DxFfnOutIdeal m →
    θ_run (Cert.DxFfnOutIdeal.defs (F := Ideal)) (onTc (τ := Cert.DxFfnOutIdeal.τ) (Cert.DxFfnOutIdeal.main (F := Ideal))) ⟨m, fun _ => 0, g⟩ (fun r => (∀ c : Dev Cert.DxFfnOutIdeal.nD,
      r.2.mem ((c.tc : Thread Cert.DxFfnOutIdeal.nD Cert.DxFfnOutIdeal.τ).loc Cert.DxFfnOutIdeal.main_arg0) = m ((c.tc : Thread Cert.DxFfnOutIdeal.nD Cert.DxFfnOutIdeal.τ).loc Cert.DxFfnOutIdeal.main_arg0)
      ∧ r.2.mem ((c.tc : Thread Cert.DxFfnOutIdeal.nD Cert.DxFfnOutIdeal.τ).loc Cert.DxFfnOutIdeal.main_arg1) = m ((c.tc : Thread Cert.DxFfnOutIdeal.nD Cert.DxFfnOutIdeal.τ).loc Cert.DxFfnOutIdeal.main_arg1))
      ∧ r.2.sem = fun _ => 0)

def quiescent_DxFfnOutRefIdeal [hDxFfnOutRefIdeal : Cert.DxFfnOutRefIdeal.Facts] : Prop :=
  ∀ (m : (ℓ : Loc Cert.DxFfnOutRefIdeal.nD Cert.DxFfnOutRefIdeal.τ Cert.DxFfnOutRefIdeal.sig) → Buf (Elt Ideal) ℓ) (g : Dev Cert.DxFfnOutRefIdeal.nD → PrngReg), Pre_DxFfnOutRefIdeal m →
    θ_run (Cert.DxFfnOutRefIdeal.defs (F := Ideal)) (onTc (τ := Cert.DxFfnOutRefIdeal.τ) (Cert.DxFfnOutRefIdeal.main (F := Ideal))) ⟨m, fun _ => 0, g⟩ (fun r => (∀ c : Dev Cert.DxFfnOutRefIdeal.nD,
      r.2.mem ((c.tc : Thread Cert.DxFfnOutRefIdeal.nD Cert.DxFfnOutRefIdeal.τ).loc Cert.DxFfnOutRefIdeal.main_arg0) = m ((c.tc : Thread Cert.DxFfnOutRefIdeal.nD Cert.DxFfnOutRefIdeal.τ).loc Cert.DxFfnOutRefIdeal.main_arg0)
      ∧ r.2.mem ((c.tc : Thread Cert.DxFfnOutRefIdeal.nD Cert.DxFfnOutRefIdeal.τ).loc Cert.DxFfnOutRefIdeal.main_arg1) = m ((c.tc : Thread Cert.DxFfnOutRefIdeal.nD Cert.DxFfnOutRefIdeal.τ).loc Cert.DxFfnOutRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_DwBrB [hDwBrB : Cert.DwBrB.Facts] : Prop :=
  ∀ (m : (ℓ : Loc Cert.DwBrB.nD Cert.DwBrB.τ Cert.DwBrB.sig) → Buf (Elt Bits) ℓ) (g : Dev Cert.DwBrB.nD → PrngReg), Pre_DwBrB m →
    θ_run (Cert.DwBrB.defs (F := Bits)) (onTc (τ := Cert.DwBrB.τ) (Cert.DwBrB.main (F := Bits))) ⟨m, fun _ => 0, g⟩ (fun r => (∀ c : Dev Cert.DwBrB.nD,
      r.2.mem ((c.tc : Thread Cert.DwBrB.nD Cert.DwBrB.τ).loc Cert.DwBrB.main_arg0) = m ((c.tc : Thread Cert.DwBrB.nD Cert.DwBrB.τ).loc Cert.DwBrB.main_arg0)
      ∧ r.2.mem ((c.tc : Thread Cert.DwBrB.nD Cert.DwBrB.τ).loc Cert.DwBrB.main_arg1) = m ((c.tc : Thread Cert.DwBrB.nD Cert.DwBrB.τ).loc Cert.DwBrB.main_arg1))
      ∧ r.2.sem = fun _ => 0)

def quiescent_DwBrBIdeal [hDwBrBIdeal : Cert.DwBrBIdeal.Facts] : Prop :=
  ∀ (m : (ℓ : Loc Cert.DwBrBIdeal.nD Cert.DwBrBIdeal.τ Cert.DwBrBIdeal.sig) → Buf (Elt Ideal) ℓ) (g : Dev Cert.DwBrBIdeal.nD → PrngReg), Pre_DwBrBIdeal m →
    θ_run (Cert.DwBrBIdeal.defs (F := Ideal)) (onTc (τ := Cert.DwBrBIdeal.τ) (Cert.DwBrBIdeal.main (F := Ideal))) ⟨m, fun _ => 0, g⟩ (fun r => (∀ c : Dev Cert.DwBrBIdeal.nD,
      r.2.mem ((c.tc : Thread Cert.DwBrBIdeal.nD Cert.DwBrBIdeal.τ).loc Cert.DwBrBIdeal.main_arg0) = m ((c.tc : Thread Cert.DwBrBIdeal.nD Cert.DwBrBIdeal.τ).loc Cert.DwBrBIdeal.main_arg0)
      ∧ r.2.mem ((c.tc : Thread Cert.DwBrBIdeal.nD Cert.DwBrBIdeal.τ).loc Cert.DwBrBIdeal.main_arg1) = m ((c.tc : Thread Cert.DwBrBIdeal.nD Cert.DwBrBIdeal.τ).loc Cert.DwBrBIdeal.main_arg1))
      ∧ r.2.sem = fun _ => 0)

def quiescent_DwBrBRefIdeal [hDwBrBRefIdeal : Cert.DwBrBRefIdeal.Facts] : Prop :=
  ∀ (m : (ℓ : Loc Cert.DwBrBRefIdeal.nD Cert.DwBrBRefIdeal.τ Cert.DwBrBRefIdeal.sig) → Buf (Elt Ideal) ℓ) (g : Dev Cert.DwBrBRefIdeal.nD → PrngReg), Pre_DwBrBRefIdeal m →
    θ_run (Cert.DwBrBRefIdeal.defs (F := Ideal)) (onTc (τ := Cert.DwBrBRefIdeal.τ) (Cert.DwBrBRefIdeal.main (F := Ideal))) ⟨m, fun _ => 0, g⟩ (fun r => (∀ c : Dev Cert.DwBrBRefIdeal.nD,
      r.2.mem ((c.tc : Thread Cert.DwBrBRefIdeal.nD Cert.DwBrBRefIdeal.τ).loc Cert.DwBrBRefIdeal.main_arg0) = m ((c.tc : Thread Cert.DwBrBRefIdeal.nD Cert.DwBrBRefIdeal.τ).loc Cert.DwBrBRefIdeal.main_arg0)
      ∧ r.2.mem ((c.tc : Thread Cert.DwBrBRefIdeal.nD Cert.DwBrBRefIdeal.τ).loc Cert.DwBrBRefIdeal.main_arg1) = m ((c.tc : Thread Cert.DwBrBRefIdeal.nD Cert.DwBrBRefIdeal.τ).loc Cert.DwBrBRefIdeal.main_arg1))
      ∧ r.2.sem = fun _ => 0)

def quiescent_DxBrB [hDxBrB : Cert.DxBrB.Facts] : Prop :=
  ∀ (m : (ℓ : Loc Cert.DxBrB.nD Cert.DxBrB.τ Cert.DxBrB.sig) → Buf (Elt Bits) ℓ) (g : Dev Cert.DxBrB.nD → PrngReg), Pre_DxBrB m →
    θ_run (Cert.DxBrB.defs (F := Bits)) (onTc (τ := Cert.DxBrB.τ) (Cert.DxBrB.main (F := Bits))) ⟨m, fun _ => 0, g⟩ (fun r => (∀ c : Dev Cert.DxBrB.nD,
      r.2.mem ((c.tc : Thread Cert.DxBrB.nD Cert.DxBrB.τ).loc Cert.DxBrB.main_arg0) = m ((c.tc : Thread Cert.DxBrB.nD Cert.DxBrB.τ).loc Cert.DxBrB.main_arg0)
      ∧ r.2.mem ((c.tc : Thread Cert.DxBrB.nD Cert.DxBrB.τ).loc Cert.DxBrB.main_arg1) = m ((c.tc : Thread Cert.DxBrB.nD Cert.DxBrB.τ).loc Cert.DxBrB.main_arg1))
      ∧ r.2.sem = fun _ => 0)

def quiescent_DxBrBIdeal [hDxBrBIdeal : Cert.DxBrBIdeal.Facts] : Prop :=
  ∀ (m : (ℓ : Loc Cert.DxBrBIdeal.nD Cert.DxBrBIdeal.τ Cert.DxBrBIdeal.sig) → Buf (Elt Ideal) ℓ) (g : Dev Cert.DxBrBIdeal.nD → PrngReg), Pre_DxBrBIdeal m →
    θ_run (Cert.DxBrBIdeal.defs (F := Ideal)) (onTc (τ := Cert.DxBrBIdeal.τ) (Cert.DxBrBIdeal.main (F := Ideal))) ⟨m, fun _ => 0, g⟩ (fun r => (∀ c : Dev Cert.DxBrBIdeal.nD,
      r.2.mem ((c.tc : Thread Cert.DxBrBIdeal.nD Cert.DxBrBIdeal.τ).loc Cert.DxBrBIdeal.main_arg0) = m ((c.tc : Thread Cert.DxBrBIdeal.nD Cert.DxBrBIdeal.τ).loc Cert.DxBrBIdeal.main_arg0)
      ∧ r.2.mem ((c.tc : Thread Cert.DxBrBIdeal.nD Cert.DxBrBIdeal.τ).loc Cert.DxBrBIdeal.main_arg1) = m ((c.tc : Thread Cert.DxBrBIdeal.nD Cert.DxBrBIdeal.τ).loc Cert.DxBrBIdeal.main_arg1))
      ∧ r.2.sem = fun _ => 0)

def quiescent_DxBrBRefIdeal [hDxBrBRefIdeal : Cert.DxBrBRefIdeal.Facts] : Prop :=
  ∀ (m : (ℓ : Loc Cert.DxBrBRefIdeal.nD Cert.DxBrBRefIdeal.τ Cert.DxBrBRefIdeal.sig) → Buf (Elt Ideal) ℓ) (g : Dev Cert.DxBrBRefIdeal.nD → PrngReg), Pre_DxBrBRefIdeal m →
    θ_run (Cert.DxBrBRefIdeal.defs (F := Ideal)) (onTc (τ := Cert.DxBrBRefIdeal.τ) (Cert.DxBrBRefIdeal.main (F := Ideal))) ⟨m, fun _ => 0, g⟩ (fun r => (∀ c : Dev Cert.DxBrBRefIdeal.nD,
      r.2.mem ((c.tc : Thread Cert.DxBrBRefIdeal.nD Cert.DxBrBRefIdeal.τ).loc Cert.DxBrBRefIdeal.main_arg0) = m ((c.tc : Thread Cert.DxBrBRefIdeal.nD Cert.DxBrBRefIdeal.τ).loc Cert.DxBrBRefIdeal.main_arg0)
      ∧ r.2.mem ((c.tc : Thread Cert.DxBrBRefIdeal.nD Cert.DxBrBRefIdeal.τ).loc Cert.DxBrBRefIdeal.main_arg1) = m ((c.tc : Thread Cert.DxBrBRefIdeal.nD Cert.DxBrBRefIdeal.τ).loc Cert.DxBrBRefIdeal.main_arg1))
      ∧ r.2.sem = fun _ => 0)

def quiescent_BrB [hBrB : Cert.BrB.Facts] : Prop :=
  ∀ (m : (ℓ : Loc Cert.BrB.nD Cert.BrB.τ Cert.BrB.sig) → Buf (Elt Bits) ℓ) (g : Dev Cert.BrB.nD → PrngReg), Pre_BrB m →
    θ_run (Cert.BrB.defs (F := Bits)) (onTc (τ := Cert.BrB.τ) (Cert.BrB.main (F := Bits))) ⟨m, fun _ => 0, g⟩ (fun r => (∀ c : Dev Cert.BrB.nD,
      r.2.mem ((c.tc : Thread Cert.BrB.nD Cert.BrB.τ).loc Cert.BrB.main_arg0) = m ((c.tc : Thread Cert.BrB.nD Cert.BrB.τ).loc Cert.BrB.main_arg0)
      ∧ r.2.mem ((c.tc : Thread Cert.BrB.nD Cert.BrB.τ).loc Cert.BrB.main_arg1) = m ((c.tc : Thread Cert.BrB.nD Cert.BrB.τ).loc Cert.BrB.main_arg1))
      ∧ r.2.sem = fun _ => 0)

def quiescent_BrBIdeal [hBrBIdeal : Cert.BrBIdeal.Facts] : Prop :=
  ∀ (m : (ℓ : Loc Cert.BrBIdeal.nD Cert.BrBIdeal.τ Cert.BrBIdeal.sig) → Buf (Elt Ideal) ℓ) (g : Dev Cert.BrBIdeal.nD → PrngReg), Pre_BrBIdeal m →
    θ_run (Cert.BrBIdeal.defs (F := Ideal)) (onTc (τ := Cert.BrBIdeal.τ) (Cert.BrBIdeal.main (F := Ideal))) ⟨m, fun _ => 0, g⟩ (fun r => (∀ c : Dev Cert.BrBIdeal.nD,
      r.2.mem ((c.tc : Thread Cert.BrBIdeal.nD Cert.BrBIdeal.τ).loc Cert.BrBIdeal.main_arg0) = m ((c.tc : Thread Cert.BrBIdeal.nD Cert.BrBIdeal.τ).loc Cert.BrBIdeal.main_arg0)
      ∧ r.2.mem ((c.tc : Thread Cert.BrBIdeal.nD Cert.BrBIdeal.τ).loc Cert.BrBIdeal.main_arg1) = m ((c.tc : Thread Cert.BrBIdeal.nD Cert.BrBIdeal.τ).loc Cert.BrBIdeal.main_arg1))
      ∧ r.2.sem = fun _ => 0)

def quiescent_BrBRefIdeal [hBrBRefIdeal : Cert.BrBRefIdeal.Facts] : Prop :=
  ∀ (m : (ℓ : Loc Cert.BrBRefIdeal.nD Cert.BrBRefIdeal.τ Cert.BrBRefIdeal.sig) → Buf (Elt Ideal) ℓ) (g : Dev Cert.BrBRefIdeal.nD → PrngReg), Pre_BrBRefIdeal m →
    θ_run (Cert.BrBRefIdeal.defs (F := Ideal)) (onTc (τ := Cert.BrBRefIdeal.τ) (Cert.BrBRefIdeal.main (F := Ideal))) ⟨m, fun _ => 0, g⟩ (fun r => (∀ c : Dev Cert.BrBRefIdeal.nD,
      r.2.mem ((c.tc : Thread Cert.BrBRefIdeal.nD Cert.BrBRefIdeal.τ).loc Cert.BrBRefIdeal.main_arg0) = m ((c.tc : Thread Cert.BrBRefIdeal.nD Cert.BrBRefIdeal.τ).loc Cert.BrBRefIdeal.main_arg0)
      ∧ r.2.mem ((c.tc : Thread Cert.BrBRefIdeal.nD Cert.BrBRefIdeal.τ).loc Cert.BrBRefIdeal.main_arg1) = m ((c.tc : Thread Cert.BrBRefIdeal.nD Cert.BrBRefIdeal.τ).loc Cert.BrBRefIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareRefIdeal [hDwSquareRefIdeal : Cert.DwSquareRefIdeal.Facts] : Prop :=
  ∀ (m : (ℓ : Loc Cert.DwSquareRefIdeal.nD Cert.DwSquareRefIdeal.τ Cert.DwSquareRefIdeal.sig) → Buf (Elt Ideal) ℓ) (g : Dev Cert.DwSquareRefIdeal.nD → PrngReg), Pre_DwSquareRefIdeal m →
    θ_run (Cert.DwSquareRefIdeal.defs (F := Ideal)) (onTc (τ := Cert.DwSquareRefIdeal.τ) (Cert.DwSquareRefIdeal.main (F := Ideal))) ⟨m, fun _ => 0, g⟩ (fun r => (∀ c : Dev Cert.DwSquareRefIdeal.nD,
      r.2.mem ((c.tc : Thread Cert.DwSquareRefIdeal.nD Cert.DwSquareRefIdeal.τ).loc Cert.DwSquareRefIdeal.main_arg0) = m ((c.tc : Thread Cert.DwSquareRefIdeal.nD Cert.DwSquareRefIdeal.τ).loc Cert.DwSquareRefIdeal.main_arg0)
      ∧ r.2.mem ((c.tc : Thread Cert.DwSquareRefIdeal.nD Cert.DwSquareRefIdeal.τ).loc Cert.DwSquareRefIdeal.main_arg1) = m ((c.tc : Thread Cert.DwSquareRefIdeal.nD Cert.DwSquareRefIdeal.τ).loc Cert.DwSquareRefIdeal.main_arg1))
      ∧ r.2.sem = fun _ => 0)

def quiescent_DxSquareLow [hDxSquareLow : Cert.DxSquareLow.Facts] : Prop :=
  ∀ (m : (ℓ : Loc Cert.DxSquareLow.nD Cert.DxSquareLow.τ Cert.DxSquareLow.sig) → Buf (Elt Bits) ℓ) (g : Dev Cert.DxSquareLow.nD → PrngReg), Pre_DxSquareLow m →
    θ_run (Cert.DxSquareLow.defs (F := Bits)) (onTc (τ := Cert.DxSquareLow.τ) (Cert.DxSquareLow.main (F := Bits))) ⟨m, fun _ => 0, g⟩ (fun r => (∀ c : Dev Cert.DxSquareLow.nD,
      r.2.mem ((c.tc : Thread Cert.DxSquareLow.nD Cert.DxSquareLow.τ).loc Cert.DxSquareLow.main_arg0) = m ((c.tc : Thread Cert.DxSquareLow.nD Cert.DxSquareLow.τ).loc Cert.DxSquareLow.main_arg0)
      ∧ r.2.mem ((c.tc : Thread Cert.DxSquareLow.nD Cert.DxSquareLow.τ).loc Cert.DxSquareLow.main_arg1) = m ((c.tc : Thread Cert.DxSquareLow.nD Cert.DxSquareLow.τ).loc Cert.DxSquareLow.main_arg1))
      ∧ r.2.sem = fun _ => 0)

def quiescent_DxSquareLowIdeal [hDxSquareLowIdeal : Cert.DxSquareLowIdeal.Facts] : Prop :=
  ∀ (m : (ℓ : Loc Cert.DxSquareLowIdeal.nD Cert.DxSquareLowIdeal.τ Cert.DxSquareLowIdeal.sig) → Buf (Elt Ideal) ℓ) (g : Dev Cert.DxSquareLowIdeal.nD → PrngReg), Pre_DxSquareLowIdeal m →
    θ_run (Cert.DxSquareLowIdeal.defs (F := Ideal)) (onTc (τ := Cert.DxSquareLowIdeal.τ) (Cert.DxSquareLowIdeal.main (F := Ideal))) ⟨m, fun _ => 0, g⟩ (fun r => (∀ c : Dev Cert.DxSquareLowIdeal.nD,
      r.2.mem ((c.tc : Thread Cert.DxSquareLowIdeal.nD Cert.DxSquareLowIdeal.τ).loc Cert.DxSquareLowIdeal.main_arg0) = m ((c.tc : Thread Cert.DxSquareLowIdeal.nD Cert.DxSquareLowIdeal.τ).loc Cert.DxSquareLowIdeal.main_arg0)
      ∧ r.2.mem ((c.tc : Thread Cert.DxSquareLowIdeal.nD Cert.DxSquareLowIdeal.τ).loc Cert.DxSquareLowIdeal.main_arg1) = m ((c.tc : Thread Cert.DxSquareLowIdeal.nD Cert.DxSquareLowIdeal.τ).loc Cert.DxSquareLowIdeal.main_arg1))
      ∧ r.2.sem = fun _ => 0)

def quiescent_DxSquareLowRefIdeal [hDxSquareLowRefIdeal : Cert.DxSquareLowRefIdeal.Facts] : Prop :=
  ∀ (m : (ℓ : Loc Cert.DxSquareLowRefIdeal.nD Cert.DxSquareLowRefIdeal.τ Cert.DxSquareLowRefIdeal.sig) → Buf (Elt Ideal) ℓ) (g : Dev Cert.DxSquareLowRefIdeal.nD → PrngReg), Pre_DxSquareLowRefIdeal m →
    θ_run (Cert.DxSquareLowRefIdeal.defs (F := Ideal)) (onTc (τ := Cert.DxSquareLowRefIdeal.τ) (Cert.DxSquareLowRefIdeal.main (F := Ideal))) ⟨m, fun _ => 0, g⟩ (fun r => (∀ c : Dev Cert.DxSquareLowRefIdeal.nD,
      r.2.mem ((c.tc : Thread Cert.DxSquareLowRefIdeal.nD Cert.DxSquareLowRefIdeal.τ).loc Cert.DxSquareLowRefIdeal.main_arg0) = m ((c.tc : Thread Cert.DxSquareLowRefIdeal.nD Cert.DxSquareLowRefIdeal.τ).loc Cert.DxSquareLowRefIdeal.main_arg0)
      ∧ r.2.mem ((c.tc : Thread Cert.DxSquareLowRefIdeal.nD Cert.DxSquareLowRefIdeal.τ).loc Cert.DxSquareLowRefIdeal.main_arg1) = m ((c.tc : Thread Cert.DxSquareLowRefIdeal.nD Cert.DxSquareLowRefIdeal.τ).loc Cert.DxSquareLowRefIdeal.main_arg1))
      ∧ r.2.sem = fun _ => 0)

def quiescent_DxSquare [hDxSquare : Cert.DxSquare.Facts] : Prop :=
  ∀ (m : (ℓ : Loc Cert.DxSquare.nD Cert.DxSquare.τ Cert.DxSquare.sig) → Buf (Elt Bits) ℓ) (g : Dev Cert.DxSquare.nD → PrngReg), Pre_DxSquare m →
    θ_run (Cert.DxSquare.defs (F := Bits)) (onTc (τ := Cert.DxSquare.τ) (Cert.DxSquare.main (F := Bits))) ⟨m, fun _ => 0, g⟩ (fun r => (∀ c : Dev Cert.DxSquare.nD,
      r.2.mem ((c.tc : Thread Cert.DxSquare.nD Cert.DxSquare.τ).loc Cert.DxSquare.main_arg0) = m ((c.tc : Thread Cert.DxSquare.nD Cert.DxSquare.τ).loc Cert.DxSquare.main_arg0)
      ∧ r.2.mem ((c.tc : Thread Cert.DxSquare.nD Cert.DxSquare.τ).loc Cert.DxSquare.main_arg1) = m ((c.tc : Thread Cert.DxSquare.nD Cert.DxSquare.τ).loc Cert.DxSquare.main_arg1))
      ∧ r.2.sem = fun _ => 0)

def quiescent_DxSquareIdeal [hDxSquareIdeal : Cert.DxSquareIdeal.Facts] : Prop :=
  ∀ (m : (ℓ : Loc Cert.DxSquareIdeal.nD Cert.DxSquareIdeal.τ Cert.DxSquareIdeal.sig) → Buf (Elt Ideal) ℓ) (g : Dev Cert.DxSquareIdeal.nD → PrngReg), Pre_DxSquareIdeal m →
    θ_run (Cert.DxSquareIdeal.defs (F := Ideal)) (onTc (τ := Cert.DxSquareIdeal.τ) (Cert.DxSquareIdeal.main (F := Ideal))) ⟨m, fun _ => 0, g⟩ (fun r => (∀ c : Dev Cert.DxSquareIdeal.nD,
      r.2.mem ((c.tc : Thread Cert.DxSquareIdeal.nD Cert.DxSquareIdeal.τ).loc Cert.DxSquareIdeal.main_arg0) = m ((c.tc : Thread Cert.DxSquareIdeal.nD Cert.DxSquareIdeal.τ).loc Cert.DxSquareIdeal.main_arg0)
      ∧ r.2.mem ((c.tc : Thread Cert.DxSquareIdeal.nD Cert.DxSquareIdeal.τ).loc Cert.DxSquareIdeal.main_arg1) = m ((c.tc : Thread Cert.DxSquareIdeal.nD Cert.DxSquareIdeal.τ).loc Cert.DxSquareIdeal.main_arg1))
      ∧ r.2.sem = fun _ => 0)

def quiescent_DxSquareRefIdeal [hDxSquareRefIdeal : Cert.DxSquareRefIdeal.Facts] : Prop :=
  ∀ (m : (ℓ : Loc Cert.DxSquareRefIdeal.nD Cert.DxSquareRefIdeal.τ Cert.DxSquareRefIdeal.sig) → Buf (Elt Ideal) ℓ) (g : Dev Cert.DxSquareRefIdeal.nD → PrngReg), Pre_DxSquareRefIdeal m →
    θ_run (Cert.DxSquareRefIdeal.defs (F := Ideal)) (onTc (τ := Cert.DxSquareRefIdeal.τ) (Cert.DxSquareRefIdeal.main (F := Ideal))) ⟨m, fun _ => 0, g⟩ (fun r => (∀ c : Dev Cert.DxSquareRefIdeal.nD,
      r.2.mem ((c.tc : Thread Cert.DxSquareRefIdeal.nD Cert.DxSquareRefIdeal.τ).loc Cert.DxSquareRefIdeal.main_arg0) = m ((c.tc : Thread Cert.DxSquareRefIdeal.nD Cert.DxSquareRefIdeal.τ).loc Cert.DxSquareRefIdeal.main_arg0)
      ∧ r.2.mem ((c.tc : Thread Cert.DxSquareRefIdeal.nD Cert.DxSquareRefIdeal.τ).loc Cert.DxSquareRefIdeal.main_arg1) = m ((c.tc : Thread Cert.DxSquareRefIdeal.nD Cert.DxSquareRefIdeal.τ).loc Cert.DxSquareRefIdeal.main_arg1))
      ∧ r.2.sem = fun _ => 0)

def quiescent_SquareLow [hSquareLow : Cert.SquareLow.Facts] : Prop :=
  ∀ (m : (ℓ : Loc Cert.SquareLow.nD Cert.SquareLow.τ Cert.SquareLow.sig) → Buf (Elt Bits) ℓ) (g : Dev Cert.SquareLow.nD → PrngReg), Pre_SquareLow m →
    θ_run (Cert.SquareLow.defs (F := Bits)) (onTc (τ := Cert.SquareLow.τ) (Cert.SquareLow.main (F := Bits))) ⟨m, fun _ => 0, g⟩ (fun r => (∀ c : Dev Cert.SquareLow.nD,
      r.2.mem ((c.tc : Thread Cert.SquareLow.nD Cert.SquareLow.τ).loc Cert.SquareLow.main_arg0) = m ((c.tc : Thread Cert.SquareLow.nD Cert.SquareLow.τ).loc Cert.SquareLow.main_arg0)
      ∧ r.2.mem ((c.tc : Thread Cert.SquareLow.nD Cert.SquareLow.τ).loc Cert.SquareLow.main_arg1) = m ((c.tc : Thread Cert.SquareLow.nD Cert.SquareLow.τ).loc Cert.SquareLow.main_arg1))
      ∧ r.2.sem = fun _ => 0)

def quiescent_SquareLowIdeal [hSquareLowIdeal : Cert.SquareLowIdeal.Facts] : Prop :=
  ∀ (m : (ℓ : Loc Cert.SquareLowIdeal.nD Cert.SquareLowIdeal.τ Cert.SquareLowIdeal.sig) → Buf (Elt Ideal) ℓ) (g : Dev Cert.SquareLowIdeal.nD → PrngReg), Pre_SquareLowIdeal m →
    θ_run (Cert.SquareLowIdeal.defs (F := Ideal)) (onTc (τ := Cert.SquareLowIdeal.τ) (Cert.SquareLowIdeal.main (F := Ideal))) ⟨m, fun _ => 0, g⟩ (fun r => (∀ c : Dev Cert.SquareLowIdeal.nD,
      r.2.mem ((c.tc : Thread Cert.SquareLowIdeal.nD Cert.SquareLowIdeal.τ).loc Cert.SquareLowIdeal.main_arg0) = m ((c.tc : Thread Cert.SquareLowIdeal.nD Cert.SquareLowIdeal.τ).loc Cert.SquareLowIdeal.main_arg0)
      ∧ r.2.mem ((c.tc : Thread Cert.SquareLowIdeal.nD Cert.SquareLowIdeal.τ).loc Cert.SquareLowIdeal.main_arg1) = m ((c.tc : Thread Cert.SquareLowIdeal.nD Cert.SquareLowIdeal.τ).loc Cert.SquareLowIdeal.main_arg1))
      ∧ r.2.sem = fun _ => 0)

def quiescent_SquareLowRefIdeal [hSquareLowRefIdeal : Cert.SquareLowRefIdeal.Facts] : Prop :=
  ∀ (m : (ℓ : Loc Cert.SquareLowRefIdeal.nD Cert.SquareLowRefIdeal.τ Cert.SquareLowRefIdeal.sig) → Buf (Elt Ideal) ℓ) (g : Dev Cert.SquareLowRefIdeal.nD → PrngReg), Pre_SquareLowRefIdeal m →
    θ_run (Cert.SquareLowRefIdeal.defs (F := Ideal)) (onTc (τ := Cert.SquareLowRefIdeal.τ) (Cert.SquareLowRefIdeal.main (F := Ideal))) ⟨m, fun _ => 0, g⟩ (fun r => (∀ c : Dev Cert.SquareLowRefIdeal.nD,
      r.2.mem ((c.tc : Thread Cert.SquareLowRefIdeal.nD Cert.SquareLowRefIdeal.τ).loc Cert.SquareLowRefIdeal.main_arg0) = m ((c.tc : Thread Cert.SquareLowRefIdeal.nD Cert.SquareLowRefIdeal.τ).loc Cert.SquareLowRefIdeal.main_arg0)
      ∧ r.2.mem ((c.tc : Thread Cert.SquareLowRefIdeal.nD Cert.SquareLowRefIdeal.τ).loc Cert.SquareLowRefIdeal.main_arg1) = m ((c.tc : Thread Cert.SquareLowRefIdeal.nD Cert.SquareLowRefIdeal.τ).loc Cert.SquareLowRefIdeal.main_arg1))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ r.2.sem = fun _ => 0)

def quiescent_DwKvRefIdeal [hDwKvRefIdeal : Cert.DwKvRefIdeal.Facts] : Prop :=
  ∀ (m : (ℓ : Loc Cert.DwKvRefIdeal.nD Cert.DwKvRefIdeal.τ Cert.DwKvRefIdeal.sig) → Buf (Elt Ideal) ℓ) (g : Dev Cert.DwKvRefIdeal.nD → PrngReg), Pre_DwKvRefIdeal m →
    θ_run (Cert.DwKvRefIdeal.defs (F := Ideal)) (onTc (τ := Cert.DwKvRefIdeal.τ) (Cert.DwKvRefIdeal.main (F := Ideal))) ⟨m, fun _ => 0, g⟩ (fun r => (∀ c : Dev Cert.DwKvRefIdeal.nD,
      r.2.mem ((c.tc : Thread Cert.DwKvRefIdeal.nD Cert.DwKvRefIdeal.τ).loc Cert.DwKvRefIdeal.main_arg0) = m ((c.tc : Thread Cert.DwKvRefIdeal.nD Cert.DwKvRefIdeal.τ).loc Cert.DwKvRefIdeal.main_arg0)
      ∧ r.2.mem ((c.tc : Thread Cert.DwKvRefIdeal.nD Cert.DwKvRefIdeal.τ).loc Cert.DwKvRefIdeal.main_arg1) = m ((c.tc : Thread Cert.DwKvRefIdeal.nD Cert.DwKvRefIdeal.τ).loc Cert.DwKvRefIdeal.main_arg1))
      ∧ r.2.sem = fun _ => 0)

def quiescent_DxKv [hDxKv : Cert.DxKv.Facts] : Prop :=
  ∀ (m : (ℓ : Loc Cert.DxKv.nD Cert.DxKv.τ Cert.DxKv.sig) → Buf (Elt Bits) ℓ) (g : Dev Cert.DxKv.nD → PrngReg), Pre_DxKv m →
    θ_run (Cert.DxKv.defs (F := Bits)) (onTc (τ := Cert.DxKv.τ) (Cert.DxKv.main (F := Bits))) ⟨m, fun _ => 0, g⟩ (fun r => (∀ c : Dev Cert.DxKv.nD,
      r.2.mem ((c.tc : Thread Cert.DxKv.nD Cert.DxKv.τ).loc Cert.DxKv.main_arg0) = m ((c.tc : Thread Cert.DxKv.nD Cert.DxKv.τ).loc Cert.DxKv.main_arg0)
      ∧ r.2.mem ((c.tc : Thread Cert.DxKv.nD Cert.DxKv.τ).loc Cert.DxKv.main_arg1) = m ((c.tc : Thread Cert.DxKv.nD Cert.DxKv.τ).loc Cert.DxKv.main_arg1))
      ∧ r.2.sem = fun _ => 0)

def quiescent_DxKvIdeal [hDxKvIdeal : Cert.DxKvIdeal.Facts] : Prop :=
  ∀ (m : (ℓ : Loc Cert.DxKvIdeal.nD Cert.DxKvIdeal.τ Cert.DxKvIdeal.sig) → Buf (Elt Ideal) ℓ) (g : Dev Cert.DxKvIdeal.nD → PrngReg), Pre_DxKvIdeal m →
    θ_run (Cert.DxKvIdeal.defs (F := Ideal)) (onTc (τ := Cert.DxKvIdeal.τ) (Cert.DxKvIdeal.main (F := Ideal))) ⟨m, fun _ => 0, g⟩ (fun r => (∀ c : Dev Cert.DxKvIdeal.nD,
      r.2.mem ((c.tc : Thread Cert.DxKvIdeal.nD Cert.DxKvIdeal.τ).loc Cert.DxKvIdeal.main_arg0) = m ((c.tc : Thread Cert.DxKvIdeal.nD Cert.DxKvIdeal.τ).loc Cert.DxKvIdeal.main_arg0)
      ∧ r.2.mem ((c.tc : Thread Cert.DxKvIdeal.nD Cert.DxKvIdeal.τ).loc Cert.DxKvIdeal.main_arg1) = m ((c.tc : Thread Cert.DxKvIdeal.nD Cert.DxKvIdeal.τ).loc Cert.DxKvIdeal.main_arg1))
      ∧ r.2.sem = fun _ => 0)

def quiescent_DxKvRefIdeal [hDxKvRefIdeal : Cert.DxKvRefIdeal.Facts] : Prop :=
  ∀ (m : (ℓ : Loc Cert.DxKvRefIdeal.nD Cert.DxKvRefIdeal.τ Cert.DxKvRefIdeal.sig) → Buf (Elt Ideal) ℓ) (g : Dev Cert.DxKvRefIdeal.nD → PrngReg), Pre_DxKvRefIdeal m →
    θ_run (Cert.DxKvRefIdeal.defs (F := Ideal)) (onTc (τ := Cert.DxKvRefIdeal.τ) (Cert.DxKvRefIdeal.main (F := Ideal))) ⟨m, fun _ => 0, g⟩ (fun r => (∀ c : Dev Cert.DxKvRefIdeal.nD,
      r.2.mem ((c.tc : Thread Cert.DxKvRefIdeal.nD Cert.DxKvRefIdeal.τ).loc Cert.DxKvRefIdeal.main_arg0) = m ((c.tc : Thread Cert.DxKvRefIdeal.nD Cert.DxKvRefIdeal.τ).loc Cert.DxKvRefIdeal.main_arg0)
      ∧ r.2.mem ((c.tc : Thread Cert.DxKvRefIdeal.nD Cert.DxKvRefIdeal.τ).loc Cert.DxKvRefIdeal.main_arg1) = m ((c.tc : Thread Cert.DxKvRefIdeal.nD Cert.DxKvRefIdeal.τ).loc Cert.DxKvRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_real_entries [hAttnBwdIdeal : Cert.AttnBwdIdeal.Facts] [hPre_real_entries : Cert.Pre_real_entries.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_real_entries m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_real_entries [hAttnBwdRefIdeal : Cert.AttnBwdRefIdeal.Facts] [hPre_real_entries : Cert.Pre_real_entries.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_real_entries m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdIdeal_pre_real_hidden [hSwigluBwdIdeal : Cert.SwigluBwdIdeal.Facts] [hPre_real_hidden : Cert.Pre_real_hidden.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_real_hidden m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_SwigluBwdRefIdeal_pre_real_hidden [hSwigluBwdRefIdeal : Cert.SwigluBwdRefIdeal.Facts] [hPre_real_hidden : Cert.Pre_real_hidden.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_real_hidden m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ r.2.sem = fun _ => 0)

def quiescent_ConvBwdIdeal_pre_real_cotangent [hConvBwdIdeal : Cert.ConvBwdIdeal.Facts] [hPre_real_cotangent : Cert.Pre_real_cotangent.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_real_cotangent m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4))
      ∧ r.2.sem = fun _ => 0)

def quiescent_ConvBwdRefIdeal_pre_real_cotangent [hConvBwdRefIdeal : Cert.ConvBwdRefIdeal.Facts] [hPre_real_cotangent : Cert.Pre_real_cotangent.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_real_cotangent m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdIdeal_pre_real_normed [hNormBwdIdeal : Cert.NormBwdIdeal.Facts] [hPre_real_normed : Cert.Pre_real_normed.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_real_normed m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_NormBwdRefIdeal_pre_real_normed [hNormBwdRefIdeal : Cert.NormBwdRefIdeal.Facts] [hPre_real_normed : Cert.Pre_real_normed.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_real_normed m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_v157) = v3 c
          ∧ r.2.mem ((c.tc : Thread Cert.ReferenceIdeal.nD Cert.ReferenceIdeal.τ).loc Cert.ReferenceIdeal.main_v158) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DwMain_DwMainIdeal : Prop :=
  True

def algebraic_DwMainIdeal_DwMainRefIdeal [hDwMainIdeal : Cert.DwMainIdeal.Facts] [hDwMainRefIdeal : Cert.DwMainRefIdeal.Facts] : Prop :=
  ∀ (m : (ℓ : Loc Cert.DwMainIdeal.nD Cert.DwMainIdeal.τ Cert.DwMainIdeal.sig) → Buf (Elt Ideal) ℓ) (g : Dev Cert.DwMainIdeal.nD → PrngReg)
    (m' : (ℓ : Loc Cert.DwMainRefIdeal.nD Cert.DwMainRefIdeal.τ Cert.DwMainRefIdeal.sig) → Buf (Elt Ideal) ℓ) (g' : Dev Cert.DwMainRefIdeal.nD → PrngReg), Pre_DwMainIdeal m →
    (∀ c : Dev Cert.DwMainIdeal.nD,
      m' ((c.tc : Thread Cert.DwMainRefIdeal.nD Cert.DwMainRefIdeal.τ).loc Cert.DwMainRefIdeal.main_arg0) = m ((c.tc : Thread Cert.DwMainIdeal.nD Cert.DwMainIdeal.τ).loc Cert.DwMainIdeal.main_arg0)
      ∧ m' ((c.tc : Thread Cert.DwMainRefIdeal.nD Cert.DwMainRefIdeal.τ).loc Cert.DwMainRefIdeal.main_arg1) = m ((c.tc : Thread Cert.DwMainIdeal.nD Cert.DwMainIdeal.τ).loc Cert.DwMainIdeal.main_arg1)) →
    ∃ (v0 : (c : Dev Cert.DwMainIdeal.nD) → Buf (Elt Ideal) ((c.tc : Thread Cert.DwMainIdeal.nD Cert.DwMainIdeal.τ).loc Cert.DwMainIdeal.main_v0)),
      θ_run (Cert.DwMainIdeal.defs (F := Ideal)) (onTc (τ := Cert.DwMainIdeal.τ) (Cert.DwMainIdeal.main (F := Ideal))) ⟨m, fun _ => 0, g⟩ (fun r => ∀ c : Dev Cert.DwMainIdeal.nD,
          r.2.mem ((c.tc : Thread Cert.DwMainIdeal.nD Cert.DwMainIdeal.τ).loc Cert.DwMainIdeal.main_v0) = v0 c
          ∧ r.2.mem ((c.tc : Thread Cert.DwMainIdeal.nD Cert.DwMainIdeal.τ).loc Cert.DwMainIdeal.main_arg0) = m ((c.tc : Thread Cert.DwMainIdeal.nD Cert.DwMainIdeal.τ).loc Cert.DwMainIdeal.main_arg0)
          ∧ r.2.mem ((c.tc : Thread Cert.DwMainIdeal.nD Cert.DwMainIdeal.τ).loc Cert.DwMainIdeal.main_arg1) = m ((c.tc : Thread Cert.DwMainIdeal.nD Cert.DwMainIdeal.τ).loc Cert.DwMainIdeal.main_arg1))
      ∧ θ_run (Cert.DwMainRefIdeal.defs (F := Ideal)) (onTc (τ := Cert.DwMainRefIdeal.τ) (Cert.DwMainRefIdeal.main (F := Ideal))) ⟨m', fun _ => 0, g'⟩ (fun r => ∀ c : Dev Cert.DwMainRefIdeal.nD,
          r.2.mem ((c.tc : Thread Cert.DwMainRefIdeal.nD Cert.DwMainRefIdeal.τ).loc Cert.DwMainRefIdeal.main_v5) = v0 c
          ∧ r.2.mem ((c.tc : Thread Cert.DwMainRefIdeal.nD Cert.DwMainRefIdeal.τ).loc Cert.DwMainRefIdeal.main_arg0) = m' ((c.tc : Thread Cert.DwMainRefIdeal.nD Cert.DwMainRefIdeal.τ).loc Cert.DwMainRefIdeal.main_arg0)
          ∧ r.2.mem ((c.tc : Thread Cert.DwMainRefIdeal.nD Cert.DwMainRefIdeal.τ).loc Cert.DwMainRefIdeal.main_arg1) = m' ((c.tc : Thread Cert.DwMainRefIdeal.nD Cert.DwMainRefIdeal.τ).loc Cert.DwMainRefIdeal.main_arg1))

def preserves_DxMain_DxMainIdeal : Prop :=
  True

def algebraic_DxMainIdeal_DxMainRefIdeal [hDxMainIdeal : Cert.DxMainIdeal.Facts] [hDxMainRefIdeal : Cert.DxMainRefIdeal.Facts] : Prop :=
  ∀ (m : (ℓ : Loc Cert.DxMainIdeal.nD Cert.DxMainIdeal.τ Cert.DxMainIdeal.sig) → Buf (Elt Ideal) ℓ) (g : Dev Cert.DxMainIdeal.nD → PrngReg)
    (m' : (ℓ : Loc Cert.DxMainRefIdeal.nD Cert.DxMainRefIdeal.τ Cert.DxMainRefIdeal.sig) → Buf (Elt Ideal) ℓ) (g' : Dev Cert.DxMainRefIdeal.nD → PrngReg), Pre_DxMainIdeal m →
    (∀ c : Dev Cert.DxMainIdeal.nD,
      m' ((c.tc : Thread Cert.DxMainRefIdeal.nD Cert.DxMainRefIdeal.τ).loc Cert.DxMainRefIdeal.main_arg0) = m ((c.tc : Thread Cert.DxMainIdeal.nD Cert.DxMainIdeal.τ).loc Cert.DxMainIdeal.main_arg0)
      ∧ m' ((c.tc : Thread Cert.DxMainRefIdeal.nD Cert.DxMainRefIdeal.τ).loc Cert.DxMainRefIdeal.main_arg1) = m ((c.tc : Thread Cert.DxMainIdeal.nD Cert.DxMainIdeal.τ).loc Cert.DxMainIdeal.main_arg1)
      ∧ m' ((c.tc : Thread Cert.DxMainRefIdeal.nD Cert.DxMainRefIdeal.τ).loc Cert.DxMainRefIdeal.main_arg2) = m ((c.tc : Thread Cert.DxMainIdeal.nD Cert.DxMainIdeal.τ).loc Cert.DxMainIdeal.main_arg2)) →
    ∃ (v0 : (c : Dev Cert.DxMainIdeal.nD) → Buf (Elt Ideal) ((c.tc : Thread Cert.DxMainIdeal.nD Cert.DxMainIdeal.τ).loc Cert.DxMainIdeal.main_v0)),
      θ_run (Cert.DxMainIdeal.defs (F := Ideal)) (onTc (τ := Cert.DxMainIdeal.τ) (Cert.DxMainIdeal.main (F := Ideal))) ⟨m, fun _ => 0, g⟩ (fun r => ∀ c : Dev Cert.DxMainIdeal.nD,
          r.2.mem ((c.tc : Thread Cert.DxMainIdeal.nD Cert.DxMainIdeal.τ).loc Cert.DxMainIdeal.main_v0) = v0 c
          ∧ r.2.mem ((c.tc : Thread Cert.DxMainIdeal.nD Cert.DxMainIdeal.τ).loc Cert.DxMainIdeal.main_arg0) = m ((c.tc : Thread Cert.DxMainIdeal.nD Cert.DxMainIdeal.τ).loc Cert.DxMainIdeal.main_arg0)
          ∧ r.2.mem ((c.tc : Thread Cert.DxMainIdeal.nD Cert.DxMainIdeal.τ).loc Cert.DxMainIdeal.main_arg1) = m ((c.tc : Thread Cert.DxMainIdeal.nD Cert.DxMainIdeal.τ).loc Cert.DxMainIdeal.main_arg1)
          ∧ r.2.mem ((c.tc : Thread Cert.DxMainIdeal.nD Cert.DxMainIdeal.τ).loc Cert.DxMainIdeal.main_arg2) = m ((c.tc : Thread Cert.DxMainIdeal.nD Cert.DxMainIdeal.τ).loc Cert.DxMainIdeal.main_arg2))
      ∧ θ_run (Cert.DxMainRefIdeal.defs (F := Ideal)) (onTc (τ := Cert.DxMainRefIdeal.τ) (Cert.DxMainRefIdeal.main (F := Ideal))) ⟨m', fun _ => 0, g'⟩ (fun r => ∀ c : Dev Cert.DxMainRefIdeal.nD,
          r.2.mem ((c.tc : Thread Cert.DxMainRefIdeal.nD Cert.DxMainRefIdeal.τ).loc Cert.DxMainRefIdeal.main_v4) = v0 c
          ∧ r.2.mem ((c.tc : Thread Cert.DxMainRefIdeal.nD Cert.DxMainRefIdeal.τ).loc Cert.DxMainRefIdeal.main_arg0) = m' ((c.tc : Thread Cert.DxMainRefIdeal.nD Cert.DxMainRefIdeal.τ).loc Cert.DxMainRefIdeal.main_arg0)
          ∧ r.2.mem ((c.tc : Thread Cert.DxMainRefIdeal.nD Cert.DxMainRefIdeal.τ).loc Cert.DxMainRefIdeal.main_arg1) = m' ((c.tc : Thread Cert.DxMainRefIdeal.nD Cert.DxMainRefIdeal.τ).loc Cert.DxMainRefIdeal.main_arg1)
          ∧ r.2.mem ((c.tc : Thread Cert.DxMainRefIdeal.nD Cert.DxMainRefIdeal.τ).loc Cert.DxMainRefIdeal.main_arg2) = m' ((c.tc : Thread Cert.DxMainRefIdeal.nD Cert.DxMainRefIdeal.τ).loc Cert.DxMainRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_DwDt_DwDtIdeal : Prop :=
  True

def algebraic_DwDtIdeal_DwDtRefIdeal [hDwDtIdeal : Cert.DwDtIdeal.Facts] [hDwDtRefIdeal : Cert.DwDtRefIdeal.Facts] : Prop :=
  ∀ (m : (ℓ : Loc Cert.DwDtIdeal.nD Cert.DwDtIdeal.τ Cert.DwDtIdeal.sig) → Buf (Elt Ideal) ℓ) (g : Dev Cert.DwDtIdeal.nD → PrngReg)
    (m' : (ℓ : Loc Cert.DwDtRefIdeal.nD Cert.DwDtRefIdeal.τ Cert.DwDtRefIdeal.sig) → Buf (Elt Ideal) ℓ) (g' : Dev Cert.DwDtRefIdeal.nD → PrngReg), Pre_DwDtIdeal m →
    (∀ c : Dev Cert.DwDtIdeal.nD,
      m' ((c.tc : Thread Cert.DwDtRefIdeal.nD Cert.DwDtRefIdeal.τ).loc Cert.DwDtRefIdeal.main_arg0) = m ((c.tc : Thread Cert.DwDtIdeal.nD Cert.DwDtIdeal.τ).loc Cert.DwDtIdeal.main_arg0)
      ∧ m' ((c.tc : Thread Cert.DwDtRefIdeal.nD Cert.DwDtRefIdeal.τ).loc Cert.DwDtRefIdeal.main_arg1) = m ((c.tc : Thread Cert.DwDtIdeal.nD Cert.DwDtIdeal.τ).loc Cert.DwDtIdeal.main_arg1)) →
    ∃ (v0 : (c : Dev Cert.DwDtIdeal.nD) → Buf (Elt Ideal) ((c.tc : Thread Cert.DwDtIdeal.nD Cert.DwDtIdeal.τ).loc Cert.DwDtIdeal.main_v0)),
      θ_run (Cert.DwDtIdeal.defs (F := Ideal)) (onTc (τ := Cert.DwDtIdeal.τ) (Cert.DwDtIdeal.main (F := Ideal))) ⟨m, fun _ => 0, g⟩ (fun r => ∀ c : Dev Cert.DwDtIdeal.nD,
          r.2.mem ((c.tc : Thread Cert.DwDtIdeal.nD Cert.DwDtIdeal.τ).loc Cert.DwDtIdeal.main_v0) = v0 c
          ∧ r.2.mem ((c.tc : Thread Cert.DwDtIdeal.nD Cert.DwDtIdeal.τ).loc Cert.DwDtIdeal.main_arg0) = m ((c.tc : Thread Cert.DwDtIdeal.nD Cert.DwDtIdeal.τ).loc Cert.DwDtIdeal.main_arg0)
          ∧ r.2.mem ((c.tc : Thread Cert.DwDtIdeal.nD Cert.DwDtIdeal.τ).loc Cert.DwDtIdeal.main_arg1) = m ((c.tc : Thread Cert.DwDtIdeal.nD Cert.DwDtIdeal.τ).loc Cert.DwDtIdeal.main_arg1))
      ∧ θ_run (Cert.DwDtRefIdeal.defs (F := Ideal)) (onTc (τ := Cert.DwDtRefIdeal.τ) (Cert.DwDtRefIdeal.main (F := Ideal))) ⟨m', fun _ => 0, g'⟩ (fun r => ∀ c : Dev Cert.DwDtRefIdeal.nD,
          r.2.mem ((c.tc : Thread Cert.DwDtRefIdeal.nD Cert.DwDtRefIdeal.τ).loc Cert.DwDtRefIdeal.main_v4) = v0 c
          ∧ r.2.mem ((c.tc : Thread Cert.DwDtRefIdeal.nD Cert.DwDtRefIdeal.τ).loc Cert.DwDtRefIdeal.main_arg0) = m' ((c.tc : Thread Cert.DwDtRefIdeal.nD Cert.DwDtRefIdeal.τ).loc Cert.DwDtRefIdeal.main_arg0)
          ∧ r.2.mem ((c.tc : Thread Cert.DwDtRefIdeal.nD Cert.DwDtRefIdeal.τ).loc Cert.DwDtRefIdeal.main_arg1) = m' ((c.tc : Thread Cert.DwDtRefIdeal.nD Cert.DwDtRefIdeal.τ).loc Cert.DwDtRefIdeal.main_arg1))

def preserves_DxDt_DxDtIdeal : Prop :=
  True

def algebraic_DxDtIdeal_DxDtRefIdeal [hDxDtIdeal : Cert.DxDtIdeal.Facts] [hDxDtRefIdeal : Cert.DxDtRefIdeal.Facts] : Prop :=
  ∀ (m : (ℓ : Loc Cert.DxDtIdeal.nD Cert.DxDtIdeal.τ Cert.DxDtIdeal.sig) → Buf (Elt Ideal) ℓ) (g : Dev Cert.DxDtIdeal.nD → PrngReg)
    (m' : (ℓ : Loc Cert.DxDtRefIdeal.nD Cert.DxDtRefIdeal.τ Cert.DxDtRefIdeal.sig) → Buf (Elt Ideal) ℓ) (g' : Dev Cert.DxDtRefIdeal.nD → PrngReg), Pre_DxDtIdeal m →
    (∀ c : Dev Cert.DxDtIdeal.nD,
      m' ((c.tc : Thread Cert.DxDtRefIdeal.nD Cert.DxDtRefIdeal.τ).loc Cert.DxDtRefIdeal.main_arg0) = m ((c.tc : Thread Cert.DxDtIdeal.nD Cert.DxDtIdeal.τ).loc Cert.DxDtIdeal.main_arg0)
      ∧ m' ((c.tc : Thread Cert.DxDtRefIdeal.nD Cert.DxDtRefIdeal.τ).loc Cert.DxDtRefIdeal.main_arg1) = m ((c.tc : Thread Cert.DxDtIdeal.nD Cert.DxDtIdeal.τ).loc Cert.DxDtIdeal.main_arg1)
      ∧ m' ((c.tc : Thread Cert.DxDtRefIdeal.nD Cert.DxDtRefIdeal.τ).loc Cert.DxDtRefIdeal.main_arg2) = m ((c.tc : Thread Cert.DxDtIdeal.nD Cert.DxDtIdeal.τ).loc Cert.DxDtIdeal.main_arg2)) →
    ∃ (v0 : (c : Dev Cert.DxDtIdeal.nD) → Buf (Elt Ideal) ((c.tc : Thread Cert.DxDtIdeal.nD Cert.DxDtIdeal.τ).loc Cert.DxDtIdeal.main_v0)),
      θ_run (Cert.DxDtIdeal.defs (F := Ideal)) (onTc (τ := Cert.DxDtIdeal.τ) (Cert.DxDtIdeal.main (F := Ideal))) ⟨m, fun _ => 0, g⟩ (fun r => ∀ c : Dev Cert.DxDtIdeal.nD,
          r.2.mem ((c.tc : Thread Cert.DxDtIdeal.nD Cert.DxDtIdeal.τ).loc Cert.DxDtIdeal.main_v0) = v0 c
          ∧ r.2.mem ((c.tc : Thread Cert.DxDtIdeal.nD Cert.DxDtIdeal.τ).loc Cert.DxDtIdeal.main_arg0) = m ((c.tc : Thread Cert.DxDtIdeal.nD Cert.DxDtIdeal.τ).loc Cert.DxDtIdeal.main_arg0)
          ∧ r.2.mem ((c.tc : Thread Cert.DxDtIdeal.nD Cert.DxDtIdeal.τ).loc Cert.DxDtIdeal.main_arg1) = m ((c.tc : Thread Cert.DxDtIdeal.nD Cert.DxDtIdeal.τ).loc Cert.DxDtIdeal.main_arg1)
          ∧ r.2.mem ((c.tc : Thread Cert.DxDtIdeal.nD Cert.DxDtIdeal.τ).loc Cert.DxDtIdeal.main_arg2) = m ((c.tc : Thread Cert.DxDtIdeal.nD Cert.DxDtIdeal.τ).loc Cert.DxDtIdeal.main_arg2))
      ∧ θ_run (Cert.DxDtRefIdeal.defs (F := Ideal)) (onTc (τ := Cert.DxDtRefIdeal.τ) (Cert.DxDtRefIdeal.main (F := Ideal))) ⟨m', fun _ => 0, g'⟩ (fun r => ∀ c : Dev Cert.DxDtRefIdeal.nD,
          r.2.mem ((c.tc : Thread Cert.DxDtRefIdeal.nD Cert.DxDtRefIdeal.τ).loc Cert.DxDtRefIdeal.main_v3) = v0 c
          ∧ r.2.mem ((c.tc : Thread Cert.DxDtRefIdeal.nD Cert.DxDtRefIdeal.τ).loc Cert.DxDtRefIdeal.main_arg0) = m' ((c.tc : Thread Cert.DxDtRefIdeal.nD Cert.DxDtRefIdeal.τ).loc Cert.DxDtRefIdeal.main_arg0)
          ∧ r.2.mem ((c.tc : Thread Cert.DxDtRefIdeal.nD Cert.DxDtRefIdeal.τ).loc Cert.DxDtRefIdeal.main_arg1) = m' ((c.tc : Thread Cert.DxDtRefIdeal.nD Cert.DxDtRefIdeal.τ).loc Cert.DxDtRefIdeal.main_arg1)
          ∧ r.2.mem ((c.tc : Thread Cert.DxDtRefIdeal.nD Cert.DxDtRefIdeal.τ).loc Cert.DxDtRefIdeal.main_arg2) = m' ((c.tc : Thread Cert.DxDtRefIdeal.nD Cert.DxDtRefIdeal.τ).loc Cert.DxDtRefIdeal.main_arg2))

def preserves_DtProj_DtProjIdeal : Prop :=
  True

def algebraic_DtProjIdeal_DtProjRefIdeal [hDtProjIdeal : Cert.DtProjIdeal.Facts] [hDtProjRefIdeal : Cert.DtProjRefIdeal.Facts] : Prop :=
  ∀ (m : (ℓ : Loc Cert.DtProjIdeal.nD Cert.DtProjIdeal.τ Cert.DtProjIdeal.sig) → Buf (Elt Ideal) ℓ) (g : Dev Cert.DtProjIdeal.nD → PrngReg)
    (m' : (ℓ : Loc Cert.DtProjRefIdeal.nD Cert.DtProjRefIdeal.τ Cert.DtProjRefIdeal.sig) → Buf (Elt Ideal) ℓ) (g' : Dev Cert.DtProjRefIdeal.nD → PrngReg), Pre_DtProjIdeal m →
    (∀ c : Dev Cert.DtProjIdeal.nD,
      m' ((c.tc : Thread Cert.DtProjRefIdeal.nD Cert.DtProjRefIdeal.τ).loc Cert.DtProjRefIdeal.main_arg0) = m ((c.tc : Thread Cert.DtProjIdeal.nD Cert.DtProjIdeal.τ).loc Cert.DtProjIdeal.main_arg0)
      ∧ m' ((c.tc : Thread Cert.DtProjRefIdeal.nD Cert.DtProjRefIdeal.τ).loc Cert.DtProjRefIdeal.main_arg1) = m ((c.tc : Thread Cert.DtProjIdeal.nD Cert.DtProjIdeal.τ).loc Cert.DtProjIdeal.main_arg1)) →
    ∃ (v0 : (c : Dev Cert.DtProjIdeal.nD) → Buf (Elt Ideal) ((c.tc : Thread Cert.DtProjIdeal.nD Cert.DtProjIdeal.τ).loc Cert.DtProjIdeal.main_v0)),
      θ_run (Cert.DtProjIdeal.defs (F := Ideal)) (onTc (τ := Cert.DtProjIdeal.τ) (Cert.DtProjIdeal.main (F := Ideal))) ⟨m, fun _ => 0, g⟩ (fun r => ∀ c : Dev Cert.DtProjIdeal.nD,
          r.2.mem ((c.tc : Thread Cert.DtProjIdeal.nD Cert.DtProjIdeal.τ).loc Cert.DtProjIdeal.main_v0) = v0 c
          ∧ r.2.mem ((c.tc : Thread Cert.DtProjIdeal.nD Cert.DtProjIdeal.τ).loc Cert.DtProjIdeal.main_arg0) = m ((c.tc : Thread Cert.DtProjIdeal.nD Cert.DtProjIdeal.τ).loc Cert.DtProjIdeal.main_arg0)
          ∧ r.2.mem ((c.tc : Thread Cert.DtProjIdeal.nD Cert.DtProjIdeal.τ).loc Cert.DtProjIdeal.main_arg1) = m ((c.tc : Thread Cert.DtProjIdeal.nD Cert.DtProjIdeal.τ).loc Cert.DtProjIdeal.main_arg1))
      ∧ θ_run (Cert.DtProjRefIdeal.defs (F := Ideal)) (onTc (τ := Cert.DtProjRefIdeal.τ) (Cert.DtProjRefIdeal.main (F := Ideal))) ⟨m', fun _ => 0, g'⟩ (fun r => ∀ c : Dev Cert.DtProjRefIdeal.nD,
          r.2.mem ((c.tc : Thread Cert.DtProjRefIdeal.nD Cert.DtProjRefIdeal.τ).loc Cert.DtProjRefIdeal.main_v2) = v0 c
          ∧ r.2.mem ((c.tc : Thread Cert.DtProjRefIdeal.nD Cert.DtProjRefIdeal.τ).loc Cert.DtProjRefIdeal.main_arg0) = m' ((c.tc : Thread Cert.DtProjRefIdeal.nD Cert.DtProjRefIdeal.τ).loc Cert.DtProjRefIdeal.main_arg0)
          ∧ r.2.mem ((c.tc : Thread Cert.DtProjRefIdeal.nD Cert.DtProjRefIdeal.τ).loc Cert.DtProjRefIdeal.main_arg1) = m' ((c.tc : Thread Cert.DtProjRefIdeal.nD Cert.DtProjRefIdeal.τ).loc Cert.DtProjRefIdeal.main_arg1))

def preserves_DwFfnIn_DwFfnInIdeal : Prop :=
  True

def algebraic_DwFfnInIdeal_DwFfnInRefIdeal [hDwFfnInIdeal : Cert.DwFfnInIdeal.Facts] [hDwFfnInRefIdeal : Cert.DwFfnInRefIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg)
    (m' : (ℓ : Loc Cert.DwFfnInRefIdeal.nD Cert.DwFfnInRefIdeal.τ Cert.DwFfnInRefIdeal.sig) → Buf (Elt Ideal) ℓ) (g' : Dev Cert.DwFfnInRefIdeal.nD → PrngReg), Pre_DwFfnInIdeal m →
    (∀ c : Dev Cert.DwFfnInIdeal.nD,
      m' ((c.tc : Thread Cert.DwFfnInRefIdeal.nD Cert.DwFfnInRefIdeal.τ).loc Cert.DwFfnInRefIdeal.main_arg0) = m ((c.tc : Thread Cert.DwFfnInIdeal.nD Cert.DwFfnInIdeal.τ).loc Cert.DwFfnInIdeal.main_arg0)
      ∧ m' ((c.tc : Thread Cert.DwFfnInRefIdeal.nD Cert.DwFfnInRefIdeal.τ).loc Cert.DwFfnInRefIdeal.main_arg1) = m ((c.tc : Thread Cert.DwFfnInIdeal.nD Cert.DwFfnInIdeal.τ).loc Cert.DwFfnInIdeal.main_arg1)) →
    ∃ (v0 : (c : Dev Cert.DwFfnInIdeal.nD) → Buf (Elt Ideal) ((c.tc : Thread Cert.DwFfnInIdeal.nD Cert.DwFfnInIdeal.τ).loc Cert.DwFfnInIdeal.main_v0)),
      θ_run (Cert.DwFfnInIdeal.defs (F := Ideal)) (onTc (τ := Cert.DwFfnInIdeal.τ) (Cert.DwFfnInIdeal.main (F := Ideal))) ⟨m, fun _ => 0, g⟩ (fun r => ∀ c : Dev Cert.DwFfnInIdeal.nD,
          r.2.mem ((c.tc : Thread Cert.DwFfnInIdeal.nD Cert.DwFfnInIdeal.τ).loc Cert.DwFfnInIdeal.main_v0) = v0 c
          ∧ r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
          ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ θ_run (Cert.DwFfnInRefIdeal.defs (F := Ideal)) (onTc (τ := Cert.DwFfnInRefIdeal.τ) (Cert.DwFfnInRefIdeal.main (F := Ideal))) ⟨m', fun _ => 0, g'⟩ (fun r => ∀ c : Dev Cert.DwFfnInRefIdeal.nD,
          r.2.mem ((c.tc : Thread Cert.DwFfnInRefIdeal.nD Cert.DwFfnInRefIdeal.τ).loc Cert.DwFfnInRefIdeal.main_v5) = v0 c
          ∧ r.2.mem ((c.tc : Thread Cert.DwFfnInRefIdeal.nD Cert.DwFfnInRefIdeal.τ).loc Cert.DwFfnInRefIdeal.main_arg0) = m' ((c.tc : Thread Cert.DwFfnInRefIdeal.nD Cert.DwFfnInRefIdeal.τ).loc Cert.DwFfnInRefIdeal.main_arg0)
          ∧ r.2.mem ((c.tc : Thread Cert.DwFfnInRefIdeal.nD Cert.DwFfnInRefIdeal.τ).loc Cert.DwFfnInRefIdeal.main_arg1) = m' ((c.tc : Thread Cert.DwFfnInRefIdeal.nD Cert.DwFfnInRefIdeal.τ).loc Cert.DwFfnInRefIdeal.main_arg1))

def preserves_DxFfnIn_DxFfnInIdeal : Prop :=
  True

def algebraic_DxFfnInIdeal_DxFfnInRefIdeal [hDxFfnInIdeal : Cert.DxFfnInIdeal.Facts] [hDxFfnInRefIdeal : Cert.DxFfnInRefIdeal.Facts] : Prop :=
  ∀ (m : (ℓ : Loc Cert.DxFfnInIdeal.nD Cert.DxFfnInIdeal.τ Cert.DxFfnInIdeal.sig) → Buf (Elt Ideal) ℓ) (g : Dev Cert.DxFfnInIdeal.nD → PrngReg)
    (m' : (ℓ : Loc Cert.DxFfnInRefIdeal.nD Cert.DxFfnInRefIdeal.τ Cert.DxFfnInRefIdeal.sig) → Buf (Elt Ideal) ℓ) (g' : Dev Cert.DxFfnInRefIdeal.nD → PrngReg), Pre_DxFfnInIdeal m →
    (∀ c : Dev Cert.DxFfnInIdeal.nD,
      m' ((c.tc : Thread Cert.DxFfnInRefIdeal.nD Cert.DxFfnInRefIdeal.τ).loc Cert.DxFfnInRefIdeal.main_arg0) = m ((c.tc : Thread Cert.DxFfnInIdeal.nD Cert.DxFfnInIdeal.τ).loc Cert.DxFfnInIdeal.main_arg0)
      ∧ m' ((c.tc : Thread Cert.DxFfnInRefIdeal.nD Cert.DxFfnInRefIdeal.τ).loc Cert.DxFfnInRefIdeal.main_arg1) = m ((c.tc : Thread Cert.DxFfnInIdeal.nD Cert.DxFfnInIdeal.τ).loc Cert.DxFfnInIdeal.main_arg1)) →
    ∃ (v0 : (c : Dev Cert.DxFfnInIdeal.nD) → Buf (Elt Ideal) ((c.tc : Thread Cert.DxFfnInIdeal.nD Cert.DxFfnInIdeal.τ).loc Cert.DxFfnInIdeal.main_v0)),
      θ_run (Cert.DxFfnInIdeal.defs (F := Ideal)) (onTc (τ := Cert.DxFfnInIdeal.τ) (Cert.DxFfnInIdeal.main (F := Ideal))) ⟨m, fun _ => 0, g⟩ (fun r => ∀ c : Dev Cert.DxFfnInIdeal.nD,
          r.2.mem ((c.tc : Thread Cert.DxFfnInIdeal.nD Cert.DxFfnInIdeal.τ).loc Cert.DxFfnInIdeal.main_v0) = v0 c
          ∧ r.2.mem ((c.tc : Thread Cert.DxFfnInIdeal.nD Cert.DxFfnInIdeal.τ).loc Cert.DxFfnInIdeal.main_arg0) = m ((c.tc : Thread Cert.DxFfnInIdeal.nD Cert.DxFfnInIdeal.τ).loc Cert.DxFfnInIdeal.main_arg0)
          ∧ r.2.mem ((c.tc : Thread Cert.DxFfnInIdeal.nD Cert.DxFfnInIdeal.τ).loc Cert.DxFfnInIdeal.main_arg1) = m ((c.tc : Thread Cert.DxFfnInIdeal.nD Cert.DxFfnInIdeal.τ).loc Cert.DxFfnInIdeal.main_arg1))
      ∧ θ_run (Cert.DxFfnInRefIdeal.defs (F := Ideal)) (onTc (τ := Cert.DxFfnInRefIdeal.τ) (Cert.DxFfnInRefIdeal.main (F := Ideal))) ⟨m', fun _ => 0, g'⟩ (fun r => ∀ c : Dev Cert.DxFfnInRefIdeal.nD,
          r.2.mem ((c.tc : Thread Cert.DxFfnInRefIdeal.nD Cert.DxFfnInRefIdeal.τ).loc Cert.DxFfnInRefIdeal.main_v4) = v0 c
          ∧ r.2.mem ((c.tc : Thread Cert.DxFfnInRefIdeal.nD Cert.DxFfnInRefIdeal.τ).loc Cert.DxFfnInRefIdeal.main_arg0) = m' ((c.tc : Thread Cert.DxFfnInRefIdeal.nD Cert.DxFfnInRefIdeal.τ).loc Cert.DxFfnInRefIdeal.main_arg0)
          ∧ r.2.mem ((c.tc : Thread Cert.DxFfnInRefIdeal.nD Cert.DxFfnInRefIdeal.τ).loc Cert.DxFfnInRefIdeal.main_arg1) = m' ((c.tc : Thread Cert.DxFfnInRefIdeal.nD Cert.DxFfnInRefIdeal.τ).loc Cert.DxFfnInRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v3) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_DwFfnOut_DwFfnOutIdeal : Prop :=
  True

def algebraic_DwFfnOutIdeal_DwFfnOutRefIdeal [hDwFfnOutIdeal : Cert.DwFfnOutIdeal.Facts] [hDwFfnOutRefIdeal : Cert.DwFfnOutRefIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg)
    (m' : (ℓ : Loc Cert.DwFfnOutRefIdeal.nD Cert.DwFfnOutRefIdeal.τ Cert.DwFfnOutRefIdeal.sig) → Buf (Elt Ideal) ℓ) (g' : Dev Cert.DwFfnOutRefIdeal.nD → PrngReg), Pre_DwFfnOutIdeal m →
    (∀ c : Dev Cert.DwFfnOutIdeal.nD,
      m' ((c.tc : Thread Cert.DwFfnOutRefIdeal.nD Cert.DwFfnOutRefIdeal.τ).loc Cert.DwFfnOutRefIdeal.main_arg0) = m ((c.tc : Thread Cert.DwFfnOutIdeal.nD Cert.DwFfnOutIdeal.τ).loc Cert.DwFfnOutIdeal.main_arg0)
      ∧ m' ((c.tc : Thread Cert.DwFfnOutRefIdeal.nD Cert.DwFfnOutRefIdeal.τ).loc Cert.DwFfnOutRefIdeal.main_arg1) = m ((c.tc : Thread Cert.DwFfnOutIdeal.nD Cert.DwFfnOutIdeal.τ).loc Cert.DwFfnOutIdeal.main_arg1)) →
    ∃ (v0 : (c : Dev Cert.DwFfnOutIdeal.nD) → Buf (Elt Ideal) ((c.tc : Thread Cert.DwFfnOutIdeal.nD Cert.DwFfnOutIdeal.τ).loc Cert.DwFfnOutIdeal.main_v0)),
      θ_run (Cert.DwFfnOutIdeal.defs (F := Ideal)) (onTc (τ := Cert.DwFfnOutIdeal.τ) (Cert.DwFfnOutIdeal.main (F := Ideal))) ⟨m, fun _ => 0, g⟩ (fun r => ∀ c : Dev Cert.DwFfnOutIdeal.nD,
          r.2.mem ((c.tc : Thread Cert.DwFfnOutIdeal.nD Cert.DwFfnOutIdeal.τ).loc Cert.DwFfnOutIdeal.main_v0) = v0 c
          ∧ r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
          ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ θ_run (Cert.DwFfnOutRefIdeal.defs (F := Ideal)) (onTc (τ := Cert.DwFfnOutRefIdeal.τ) (Cert.DwFfnOutRefIdeal.main (F := Ideal))) ⟨m', fun _ => 0, g'⟩ (fun r => ∀ c : Dev Cert.DwFfnOutRefIdeal.nD,
          r.2.mem ((c.tc : Thread Cert.DwFfnOutRefIdeal.nD Cert.DwFfnOutRefIdeal.τ).loc Cert.DwFfnOutRefIdeal.main_v5) = v0 c
          ∧ r.2.mem ((c.tc : Thread Cert.DwFfnOutRefIdeal.nD Cert.DwFfnOutRefIdeal.τ).loc Cert.DwFfnOutRefIdeal.main_arg0) = m' ((c.tc : Thread Cert.DwFfnOutRefIdeal.nD Cert.DwFfnOutRefIdeal.τ).loc Cert.DwFfnOutRefIdeal.main_arg0)
          ∧ r.2.mem ((c.tc : Thread Cert.DwFfnOutRefIdeal.nD Cert.DwFfnOutRefIdeal.τ).loc Cert.DwFfnOutRefIdeal.main_arg1) = m' ((c.tc : Thread Cert.DwFfnOutRefIdeal.nD Cert.DwFfnOutRefIdeal.τ).loc Cert.DwFfnOutRefIdeal.main_arg1))

def preserves_DxFfnOut_DxFfnOutIdeal : Prop :=
  True

def algebraic_DxFfnOutIdeal_DxFfnOutRefIdeal [hDxFfnOutIdeal : Cert.DxFfnOutIdeal.Facts] [hDxFfnOutRefIdeal : Cert.DxFfnOutRefIdeal.Facts] : Prop :=
  ∀ (m : (ℓ : Loc Cert.DxFfnOutIdeal.nD Cert.DxFfnOutIdeal.τ Cert.DxFfnOutIdeal.sig) → Buf (Elt Ideal) ℓ) (g : Dev Cert.DxFfnOutIdeal.nD → PrngReg)
    (m' : (ℓ : Loc Cert.DxFfnOutRefIdeal.nD Cert.DxFfnOutRefIdeal.τ Cert.DxFfnOutRefIdeal.sig) → Buf (Elt Ideal) ℓ) (g' : Dev Cert.DxFfnOutRefIdeal.nD → PrngReg), Pre_DxFfnOutIdeal m →
    (∀ c : Dev Cert.DxFfnOutIdeal.nD,
      m' ((c.tc : Thread Cert.DxFfnOutRefIdeal.nD Cert.DxFfnOutRefIdeal.τ).loc Cert.DxFfnOutRefIdeal.main_arg0) = m ((c.tc : Thread Cert.DxFfnOutIdeal.nD Cert.DxFfnOutIdeal.τ).loc Cert.DxFfnOutIdeal.main_arg0)
      ∧ m' ((c.tc : Thread Cert.DxFfnOutRefIdeal.nD Cert.DxFfnOutRefIdeal.τ).loc Cert.DxFfnOutRefIdeal.main_arg1) = m ((c.tc : Thread Cert.DxFfnOutIdeal.nD Cert.DxFfnOutIdeal.τ).loc Cert.DxFfnOutIdeal.main_arg1)) →
    ∃ (v0 : (c : Dev Cert.DxFfnOutIdeal.nD) → Buf (Elt Ideal) ((c.tc : Thread Cert.DxFfnOutIdeal.nD Cert.DxFfnOutIdeal.τ).loc Cert.DxFfnOutIdeal.main_v0)),
      θ_run (Cert.DxFfnOutIdeal.defs (F := Ideal)) (onTc (τ := Cert.DxFfnOutIdeal.τ) (Cert.DxFfnOutIdeal.main (F := Ideal))) ⟨m, fun _ => 0, g⟩ (fun r => ∀ c : Dev Cert.DxFfnOutIdeal.nD,
          r.2.mem ((c.tc : Thread Cert.DxFfnOutIdeal.nD Cert.DxFfnOutIdeal.τ).loc Cert.DxFfnOutIdeal.main_v0) = v0 c
          ∧ r.2.mem ((c.tc : Thread Cert.DxFfnOutIdeal.nD Cert.DxFfnOutIdeal.τ).loc Cert.DxFfnOutIdeal.main_arg0) = m ((c.tc : Thread Cert.DxFfnOutIdeal.nD Cert.DxFfnOutIdeal.τ).loc Cert.DxFfnOutIdeal.main_arg0)
          ∧ r.2.mem ((c.tc : Thread Cert.DxFfnOutIdeal.nD Cert.DxFfnOutIdeal.τ).loc Cert.DxFfnOutIdeal.main_arg1) = m ((c.tc : Thread Cert.DxFfnOutIdeal.nD Cert.DxFfnOutIdeal.τ).loc Cert.DxFfnOutIdeal.main_arg1))
      ∧ θ_run (Cert.DxFfnOutRefIdeal.defs (F := Ideal)) (onTc (τ := Cert.DxFfnOutRefIdeal.τ) (Cert.DxFfnOutRefIdeal.main (F := Ideal))) ⟨m', fun _ => 0, g'⟩ (fun r => ∀ c : Dev Cert.DxFfnOutRefIdeal.nD,
          r.2.mem ((c.tc : Thread Cert.DxFfnOutRefIdeal.nD Cert.DxFfnOutRefIdeal.τ).loc Cert.DxFfnOutRefIdeal.main_v5) = v0 c
          ∧ r.2.mem ((c.tc : Thread Cert.DxFfnOutRefIdeal.nD Cert.DxFfnOutRefIdeal.τ).loc Cert.DxFfnOutRefIdeal.main_arg0) = m' ((c.tc : Thread Cert.DxFfnOutRefIdeal.nD Cert.DxFfnOutRefIdeal.τ).loc Cert.DxFfnOutRefIdeal.main_arg0)
          ∧ r.2.mem ((c.tc : Thread Cert.DxFfnOutRefIdeal.nD Cert.DxFfnOutRefIdeal.τ).loc Cert.DxFfnOutRefIdeal.main_arg1) = m' ((c.tc : Thread Cert.DxFfnOutRefIdeal.nD Cert.DxFfnOutRefIdeal.τ).loc Cert.DxFfnOutRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_DwBrB_DwBrBIdeal : Prop :=
  True

def algebraic_DwBrBIdeal_DwBrBRefIdeal [hDwBrBIdeal : Cert.DwBrBIdeal.Facts] [hDwBrBRefIdeal : Cert.DwBrBRefIdeal.Facts] : Prop :=
  ∀ (m : (ℓ : Loc Cert.DwBrBIdeal.nD Cert.DwBrBIdeal.τ Cert.DwBrBIdeal.sig) → Buf (Elt Ideal) ℓ) (g : Dev Cert.DwBrBIdeal.nD → PrngReg)
    (m' : (ℓ : Loc Cert.DwBrBRefIdeal.nD Cert.DwBrBRefIdeal.τ Cert.DwBrBRefIdeal.sig) → Buf (Elt Ideal) ℓ) (g' : Dev Cert.DwBrBRefIdeal.nD → PrngReg), Pre_DwBrBIdeal m →
    (∀ c : Dev Cert.DwBrBIdeal.nD,
      m' ((c.tc : Thread Cert.DwBrBRefIdeal.nD Cert.DwBrBRefIdeal.τ).loc Cert.DwBrBRefIdeal.main_arg0) = m ((c.tc : Thread Cert.DwBrBIdeal.nD Cert.DwBrBIdeal.τ).loc Cert.DwBrBIdeal.main_arg0)
      ∧ m' ((c.tc : Thread Cert.DwBrBRefIdeal.nD Cert.DwBrBRefIdeal.τ).loc Cert.DwBrBRefIdeal.main_arg1) = m ((c.tc : Thread Cert.DwBrBIdeal.nD Cert.DwBrBIdeal.τ).loc Cert.DwBrBIdeal.main_arg1)) →
    ∃ (v0 : (c : Dev Cert.DwBrBIdeal.nD) → Buf (Elt Ideal) ((c.tc : Thread Cert.DwBrBIdeal.nD Cert.DwBrBIdeal.τ).loc Cert.DwBrBIdeal.main_v0)),
      θ_run (Cert.DwBrBIdeal.defs (F := Ideal)) (onTc (τ := Cert.DwBrBIdeal.τ) (Cert.DwBrBIdeal.main (F := Ideal))) ⟨m, fun _ => 0, g⟩ (fun r => ∀ c : Dev Cert.DwBrBIdeal.nD,
          r.2.mem ((c.tc : Thread Cert.DwBrBIdeal.nD Cert.DwBrBIdeal.τ).loc Cert.DwBrBIdeal.main_v0) = v0 c
          ∧ r.2.mem ((c.tc : Thread Cert.DwBrBIdeal.nD Cert.DwBrBIdeal.τ).loc Cert.DwBrBIdeal.main_arg0) = m ((c.tc : Thread Cert.DwBrBIdeal.nD Cert.DwBrBIdeal.τ).loc Cert.DwBrBIdeal.main_arg0)
          ∧ r.2.mem ((c.tc : Thread Cert.DwBrBIdeal.nD Cert.DwBrBIdeal.τ).loc Cert.DwBrBIdeal.main_arg1) = m ((c.tc : Thread Cert.DwBrBIdeal.nD Cert.DwBrBIdeal.τ).loc Cert.DwBrBIdeal.main_arg1))
      ∧ θ_run (Cert.DwBrBRefIdeal.defs (F := Ideal)) (onTc (τ := Cert.DwBrBRefIdeal.τ) (Cert.DwBrBRefIdeal.main (F := Ideal))) ⟨m', fun _ => 0, g'⟩ (fun r => ∀ c : Dev Cert.DwBrBRefIdeal.nD,
          r.2.mem ((c.tc : Thread Cert.DwBrBRefIdeal.nD Cert.DwBrBRefIdeal.τ).loc Cert.DwBrBRefIdeal.main_v5) = v0 c
          ∧ r.2.mem ((c.tc : Thread Cert.DwBrBRefIdeal.nD Cert.DwBrBRefIdeal.τ).loc Cert.DwBrBRefIdeal.main_arg0) = m' ((c.tc : Thread Cert.DwBrBRefIdeal.nD Cert.DwBrBRefIdeal.τ).loc Cert.DwBrBRefIdeal.main_arg0)
          ∧ r.2.mem ((c.tc : Thread Cert.DwBrBRefIdeal.nD Cert.DwBrBRefIdeal.τ).loc Cert.DwBrBRefIdeal.main_arg1) = m' ((c.tc : Thread Cert.DwBrBRefIdeal.nD Cert.DwBrBRefIdeal.τ).loc Cert.DwBrBRefIdeal.main_arg1))

def preserves_DxBrB_DxBrBIdeal : Prop :=
  True

def algebraic_DxBrBIdeal_DxBrBRefIdeal [hDxBrBIdeal : Cert.DxBrBIdeal.Facts] [hDxBrBRefIdeal : Cert.DxBrBRefIdeal.Facts] : Prop :=
  ∀ (m : (ℓ : Loc Cert.DxBrBIdeal.nD Cert.DxBrBIdeal.τ Cert.DxBrBIdeal.sig) → Buf (Elt Ideal) ℓ) (g : Dev Cert.DxBrBIdeal.nD → PrngReg)
    (m' : (ℓ : Loc Cert.DxBrBRefIdeal.nD Cert.DxBrBRefIdeal.τ Cert.DxBrBRefIdeal.sig) → Buf (Elt Ideal) ℓ) (g' : Dev Cert.DxBrBRefIdeal.nD → PrngReg), Pre_DxBrBIdeal m →
    (∀ c : Dev Cert.DxBrBIdeal.nD,
      m' ((c.tc : Thread Cert.DxBrBRefIdeal.nD Cert.DxBrBRefIdeal.τ).loc Cert.DxBrBRefIdeal.main_arg0) = m ((c.tc : Thread Cert.DxBrBIdeal.nD Cert.DxBrBIdeal.τ).loc Cert.DxBrBIdeal.main_arg0)
      ∧ m' ((c.tc : Thread Cert.DxBrBRefIdeal.nD Cert.DxBrBRefIdeal.τ).loc Cert.DxBrBRefIdeal.main_arg1) = m ((c.tc : Thread Cert.DxBrBIdeal.nD Cert.DxBrBIdeal.τ).loc Cert.DxBrBIdeal.main_arg1)) →
    ∃ (v0 : (c : Dev Cert.DxBrBIdeal.nD) → Buf (Elt Ideal) ((c.tc : Thread Cert.DxBrBIdeal.nD Cert.DxBrBIdeal.τ).loc Cert.DxBrBIdeal.main_v0)),
      θ_run (Cert.DxBrBIdeal.defs (F := Ideal)) (onTc (τ := Cert.DxBrBIdeal.τ) (Cert.DxBrBIdeal.main (F := Ideal))) ⟨m, fun _ => 0, g⟩ (fun r => ∀ c : Dev Cert.DxBrBIdeal.nD,
          r.2.mem ((c.tc : Thread Cert.DxBrBIdeal.nD Cert.DxBrBIdeal.τ).loc Cert.DxBrBIdeal.main_v0) = v0 c
          ∧ r.2.mem ((c.tc : Thread Cert.DxBrBIdeal.nD Cert.DxBrBIdeal.τ).loc Cert.DxBrBIdeal.main_arg0) = m ((c.tc : Thread Cert.DxBrBIdeal.nD Cert.DxBrBIdeal.τ).loc Cert.DxBrBIdeal.main_arg0)
          ∧ r.2.mem ((c.tc : Thread Cert.DxBrBIdeal.nD Cert.DxBrBIdeal.τ).loc Cert.DxBrBIdeal.main_arg1) = m ((c.tc : Thread Cert.DxBrBIdeal.nD Cert.DxBrBIdeal.τ).loc Cert.DxBrBIdeal.main_arg1))
      ∧ θ_run (Cert.DxBrBRefIdeal.defs (F := Ideal)) (onTc (τ := Cert.DxBrBRefIdeal.τ) (Cert.DxBrBRefIdeal.main (F := Ideal))) ⟨m', fun _ => 0, g'⟩ (fun r => ∀ c : Dev Cert.DxBrBRefIdeal.nD,
          r.2.mem ((c.tc : Thread Cert.DxBrBRefIdeal.nD Cert.DxBrBRefIdeal.τ).loc Cert.DxBrBRefIdeal.main_v5) = v0 c
          ∧ r.2.mem ((c.tc : Thread Cert.DxBrBRefIdeal.nD Cert.DxBrBRefIdeal.τ).loc Cert.DxBrBRefIdeal.main_arg0) = m' ((c.tc : Thread Cert.DxBrBRefIdeal.nD Cert.DxBrBRefIdeal.τ).loc Cert.DxBrBRefIdeal.main_arg0)
          ∧ r.2.mem ((c.tc : Thread Cert.DxBrBRefIdeal.nD Cert.DxBrBRefIdeal.τ).loc Cert.DxBrBRefIdeal.main_arg1) = m' ((c.tc : Thread Cert.DxBrBRefIdeal.nD Cert.DxBrBRefIdeal.τ).loc Cert.DxBrBRefIdeal.main_arg1))

def preserves_BrB_BrBIdeal : Prop :=
  True

def algebraic_BrBIdeal_BrBRefIdeal [hBrBIdeal : Cert.BrBIdeal.Facts] [hBrBRefIdeal : Cert.BrBRefIdeal.Facts] : Prop :=
  ∀ (m : (ℓ : Loc Cert.BrBIdeal.nD Cert.BrBIdeal.τ Cert.BrBIdeal.sig) → Buf (Elt Ideal) ℓ) (g : Dev Cert.BrBIdeal.nD → PrngReg)
    (m' : (ℓ : Loc Cert.BrBRefIdeal.nD Cert.BrBRefIdeal.τ Cert.BrBRefIdeal.sig) → Buf (Elt Ideal) ℓ) (g' : Dev Cert.BrBRefIdeal.nD → PrngReg), Pre_BrBIdeal m →
    (∀ c : Dev Cert.BrBIdeal.nD,
      m' ((c.tc : Thread Cert.BrBRefIdeal.nD Cert.BrBRefIdeal.τ).loc Cert.BrBRefIdeal.main_arg0) = m ((c.tc : Thread Cert.BrBIdeal.nD Cert.BrBIdeal.τ).loc Cert.BrBIdeal.main_arg0)
      ∧ m' ((c.tc : Thread Cert.BrBRefIdeal.nD Cert.BrBRefIdeal.τ).loc Cert.BrBRefIdeal.main_arg1) = m ((c.tc : Thread Cert.BrBIdeal.nD Cert.BrBIdeal.τ).loc Cert.BrBIdeal.main_arg1)) →
    ∃ (v0 : (c : Dev Cert.BrBIdeal.nD) → Buf (Elt Ideal) ((c.tc : Thread Cert.BrBIdeal.nD Cert.BrBIdeal.τ).loc Cert.BrBIdeal.main_v0)),
      θ_run (Cert.BrBIdeal.defs (F := Ideal)) (onTc (τ := Cert.BrBIdeal.τ) (Cert.BrBIdeal.main (F := Ideal))) ⟨m, fun _ => 0, g⟩ (fun r => ∀ c : Dev Cert.BrBIdeal.nD,
          r.2.mem ((c.tc : Thread Cert.BrBIdeal.nD Cert.BrBIdeal.τ).loc Cert.BrBIdeal.main_v0) = v0 c
          ∧ r.2.mem ((c.tc : Thread Cert.BrBIdeal.nD Cert.BrBIdeal.τ).loc Cert.BrBIdeal.main_arg0) = m ((c.tc : Thread Cert.BrBIdeal.nD Cert.BrBIdeal.τ).loc Cert.BrBIdeal.main_arg0)
          ∧ r.2.mem ((c.tc : Thread Cert.BrBIdeal.nD Cert.BrBIdeal.τ).loc Cert.BrBIdeal.main_arg1) = m ((c.tc : Thread Cert.BrBIdeal.nD Cert.BrBIdeal.τ).loc Cert.BrBIdeal.main_arg1))
      ∧ θ_run (Cert.BrBRefIdeal.defs (F := Ideal)) (onTc (τ := Cert.BrBRefIdeal.τ) (Cert.BrBRefIdeal.main (F := Ideal))) ⟨m', fun _ => 0, g'⟩ (fun r => ∀ c : Dev Cert.BrBRefIdeal.nD,
          r.2.mem ((c.tc : Thread Cert.BrBRefIdeal.nD Cert.BrBRefIdeal.τ).loc Cert.BrBRefIdeal.main_v3) = v0 c
          ∧ r.2.mem ((c.tc : Thread Cert.BrBRefIdeal.nD Cert.BrBRefIdeal.τ).loc Cert.BrBRefIdeal.main_arg0) = m' ((c.tc : Thread Cert.BrBRefIdeal.nD Cert.BrBRefIdeal.τ).loc Cert.BrBRefIdeal.main_arg0)
          ∧ r.2.mem ((c.tc : Thread Cert.BrBRefIdeal.nD Cert.BrBRefIdeal.τ).loc Cert.BrBRefIdeal.main_arg1) = m' ((c.tc : Thread Cert.BrBRefIdeal.nD Cert.BrBRefIdeal.τ).loc Cert.BrBRefIdeal.main_arg1))

def preserves_DwSquare_DwSquareIdeal : Prop :=
  True

def algebraic_DwSquareIdeal_DwSquareRefIdeal [hDwSquareIdeal : Cert.DwSquareIdeal.Facts] [hDwSquareRefIdeal : Cert.DwSquareRefIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareRefIdeal.nD Cert.DwSquareRefIdeal.τ Cert.DwSquareRefIdeal.sig) → Buf (Elt Ideal) ℓ) (g' : Dev Cert.DwSquareRefIdeal.nD → PrngReg), Pre_DwSquareIdeal m →
    (∀ c : Dev Cert.DwSquareIdeal.nD,
      m' ((c.tc : Thread Cert.DwSquareRefIdeal.nD Cert.DwSquareRefIdeal.τ).loc Cert.DwSquareRefIdeal.main_arg0) = m ((c.tc : Thread Cert.DwSquareIdeal.nD Cert.DwSquareIdeal.τ).loc Cert.DwSquareIdeal.main_arg0)
      ∧ m' ((c.tc : Thread Cert.DwSquareRefIdeal.nD Cert.DwSquareRefIdeal.τ).loc Cert.DwSquareRefIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareRefIdeal.defs (F := Ideal)) (onTc (τ := Cert.DwSquareRefIdeal.τ) (Cert.DwSquareRefIdeal.main (F := Ideal))) ⟨m', fun _ => 0, g'⟩ (fun r => ∀ c : Dev Cert.DwSquareRefIdeal.nD,
          r.2.mem ((c.tc : Thread Cert.DwSquareRefIdeal.nD Cert.DwSquareRefIdeal.τ).loc Cert.DwSquareRefIdeal.main_v5) = v0 c
          ∧ r.2.mem ((c.tc : Thread Cert.DwSquareRefIdeal.nD Cert.DwSquareRefIdeal.τ).loc Cert.DwSquareRefIdeal.main_arg0) = m' ((c.tc : Thread Cert.DwSquareRefIdeal.nD Cert.DwSquareRefIdeal.τ).loc Cert.DwSquareRefIdeal.main_arg0)
          ∧ r.2.mem ((c.tc : Thread Cert.DwSquareRefIdeal.nD Cert.DwSquareRefIdeal.τ).loc Cert.DwSquareRefIdeal.main_arg1) = m' ((c.tc : Thread Cert.DwSquareRefIdeal.nD Cert.DwSquareRefIdeal.τ).loc Cert.DwSquareRefIdeal.main_arg1))

def preserves_DxSquareLow_DxSquareLowIdeal : Prop :=
  True

def algebraic_DxSquareLowIdeal_DxSquareLowRefIdeal [hDxSquareLowIdeal : Cert.DxSquareLowIdeal.Facts] [hDxSquareLowRefIdeal : Cert.DxSquareLowRefIdeal.Facts] : Prop :=
  ∀ (m : (ℓ : Loc Cert.DxSquareLowIdeal.nD Cert.DxSquareLowIdeal.τ Cert.DxSquareLowIdeal.sig) → Buf (Elt Ideal) ℓ) (g : Dev Cert.DxSquareLowIdeal.nD → PrngReg)
    (m' : (ℓ : Loc Cert.DxSquareLowRefIdeal.nD Cert.DxSquareLowRefIdeal.τ Cert.DxSquareLowRefIdeal.sig) → Buf (Elt Ideal) ℓ) (g' : Dev Cert.DxSquareLowRefIdeal.nD → PrngReg), Pre_DxSquareLowIdeal m →
    (∀ c : Dev Cert.DxSquareLowIdeal.nD,
      m' ((c.tc : Thread Cert.DxSquareLowRefIdeal.nD Cert.DxSquareLowRefIdeal.τ).loc Cert.DxSquareLowRefIdeal.main_arg0) = m ((c.tc : Thread Cert.DxSquareLowIdeal.nD Cert.DxSquareLowIdeal.τ).loc Cert.DxSquareLowIdeal.main_arg0)
      ∧ m' ((c.tc : Thread Cert.DxSquareLowRefIdeal.nD Cert.DxSquareLowRefIdeal.τ).loc Cert.DxSquareLowRefIdeal.main_arg1) = m ((c.tc : Thread Cert.DxSquareLowIdeal.nD Cert.DxSquareLowIdeal.τ).loc Cert.DxSquareLowIdeal.main_arg1)) →
    ∃ (v0 : (c : Dev Cert.DxSquareLowIdeal.nD) → Buf (Elt Ideal) ((c.tc : Thread Cert.DxSquareLowIdeal.nD Cert.DxSquareLowIdeal.τ).loc Cert.DxSquareLowIdeal.main_v0)),
      θ_run (Cert.DxSquareLowIdeal.defs (F := Ideal)) (onTc (τ := Cert.DxSquareLowIdeal.τ) (Cert.DxSquareLowIdeal.main (F := Ideal))) ⟨m, fun _ => 0, g⟩ (fun r => ∀ c : Dev Cert.DxSquareLowIdeal.nD,
          r.2.mem ((c.tc : Thread Cert.DxSquareLowIdeal.nD Cert.DxSquareLowIdeal.τ).loc Cert.DxSquareLowIdeal.main_v0) = v0 c
          ∧ r.2.mem ((c.tc : Thread Cert.DxSquareLowIdeal.nD Cert.DxSquareLowIdeal.τ).loc Cert.DxSquareLowIdeal.main_arg0) = m ((c.tc : Thread Cert.DxSquareLowIdeal.nD Cert.DxSquareLowIdeal.τ).loc Cert.DxSquareLowIdeal.main_arg0)
          ∧ r.2.mem ((c.tc : Thread Cert.DxSquareLowIdeal.nD Cert.DxSquareLowIdeal.τ).loc Cert.DxSquareLowIdeal.main_arg1) = m ((c.tc : Thread Cert.DxSquareLowIdeal.nD Cert.DxSquareLowIdeal.τ).loc Cert.DxSquareLowIdeal.main_arg1))
      ∧ θ_run (Cert.DxSquareLowRefIdeal.defs (F := Ideal)) (onTc (τ := Cert.DxSquareLowRefIdeal.τ) (Cert.DxSquareLowRefIdeal.main (F := Ideal))) ⟨m', fun _ => 0, g'⟩ (fun r => ∀ c : Dev Cert.DxSquareLowRefIdeal.nD,
          r.2.mem ((c.tc : Thread Cert.DxSquareLowRefIdeal.nD Cert.DxSquareLowRefIdeal.τ).loc Cert.DxSquareLowRefIdeal.main_v5) = v0 c
          ∧ r.2.mem ((c.tc : Thread Cert.DxSquareLowRefIdeal.nD Cert.DxSquareLowRefIdeal.τ).loc Cert.DxSquareLowRefIdeal.main_arg0) = m' ((c.tc : Thread Cert.DxSquareLowRefIdeal.nD Cert.DxSquareLowRefIdeal.τ).loc Cert.DxSquareLowRefIdeal.main_arg0)
          ∧ r.2.mem ((c.tc : Thread Cert.DxSquareLowRefIdeal.nD Cert.DxSquareLowRefIdeal.τ).loc Cert.DxSquareLowRefIdeal.main_arg1) = m' ((c.tc : Thread Cert.DxSquareLowRefIdeal.nD Cert.DxSquareLowRefIdeal.τ).loc Cert.DxSquareLowRefIdeal.main_arg1))

def preserves_DxSquare_DxSquareIdeal : Prop :=
  True

def algebraic_DxSquareIdeal_DxSquareRefIdeal [hDxSquareIdeal : Cert.DxSquareIdeal.Facts] [hDxSquareRefIdeal : Cert.DxSquareRefIdeal.Facts] : Prop :=
  ∀ (m : (ℓ : Loc Cert.DxSquareIdeal.nD Cert.DxSquareIdeal.τ Cert.DxSquareIdeal.sig) → Buf (Elt Ideal) ℓ) (g : Dev Cert.DxSquareIdeal.nD → PrngReg)
    (m' : (ℓ : Loc Cert.DxSquareRefIdeal.nD Cert.DxSquareRefIdeal.τ Cert.DxSquareRefIdeal.sig) → Buf (Elt Ideal) ℓ) (g' : Dev Cert.DxSquareRefIdeal.nD → PrngReg), Pre_DxSquareIdeal m →
    (∀ c : Dev Cert.DxSquareIdeal.nD,
      m' ((c.tc : Thread Cert.DxSquareRefIdeal.nD Cert.DxSquareRefIdeal.τ).loc Cert.DxSquareRefIdeal.main_arg0) = m ((c.tc : Thread Cert.DxSquareIdeal.nD Cert.DxSquareIdeal.τ).loc Cert.DxSquareIdeal.main_arg0)
      ∧ m' ((c.tc : Thread Cert.DxSquareRefIdeal.nD Cert.DxSquareRefIdeal.τ).loc Cert.DxSquareRefIdeal.main_arg1) = m ((c.tc : Thread Cert.DxSquareIdeal.nD Cert.DxSquareIdeal.τ).loc Cert.DxSquareIdeal.main_arg1)) →
    ∃ (v0 : (c : Dev Cert.DxSquareIdeal.nD) → Buf (Elt Ideal) ((c.tc : Thread Cert.DxSquareIdeal.nD Cert.DxSquareIdeal.τ).loc Cert.DxSquareIdeal.main_v0)),
      θ_run (Cert.DxSquareIdeal.defs (F := Ideal)) (onTc (τ := Cert.DxSquareIdeal.τ) (Cert.DxSquareIdeal.main (F := Ideal))) ⟨m, fun _ => 0, g⟩ (fun r => ∀ c : Dev Cert.DxSquareIdeal.nD,
          r.2.mem ((c.tc : Thread Cert.DxSquareIdeal.nD Cert.DxSquareIdeal.τ).loc Cert.DxSquareIdeal.main_v0) = v0 c
          ∧ r.2.mem ((c.tc : Thread Cert.DxSquareIdeal.nD Cert.DxSquareIdeal.τ).loc Cert.DxSquareIdeal.main_arg0) = m ((c.tc : Thread Cert.DxSquareIdeal.nD Cert.DxSquareIdeal.τ).loc Cert.DxSquareIdeal.main_arg0)
          ∧ r.2.mem ((c.tc : Thread Cert.DxSquareIdeal.nD Cert.DxSquareIdeal.τ).loc Cert.DxSquareIdeal.main_arg1) = m ((c.tc : Thread Cert.DxSquareIdeal.nD Cert.DxSquareIdeal.τ).loc Cert.DxSquareIdeal.main_arg1))
      ∧ θ_run (Cert.DxSquareRefIdeal.defs (F := Ideal)) (onTc (τ := Cert.DxSquareRefIdeal.τ) (Cert.DxSquareRefIdeal.main (F := Ideal))) ⟨m', fun _ => 0, g'⟩ (fun r => ∀ c : Dev Cert.DxSquareRefIdeal.nD,
          r.2.mem ((c.tc : Thread Cert.DxSquareRefIdeal.nD Cert.DxSquareRefIdeal.τ).loc Cert.DxSquareRefIdeal.main_v4) = v0 c
          ∧ r.2.mem ((c.tc : Thread Cert.DxSquareRefIdeal.nD Cert.DxSquareRefIdeal.τ).loc Cert.DxSquareRefIdeal.main_arg0) = m' ((c.tc : Thread Cert.DxSquareRefIdeal.nD Cert.DxSquareRefIdeal.τ).loc Cert.DxSquareRefIdeal.main_arg0)
          ∧ r.2.mem ((c.tc : Thread Cert.DxSquareRefIdeal.nD Cert.DxSquareRefIdeal.τ).loc Cert.DxSquareRefIdeal.main_arg1) = m' ((c.tc : Thread Cert.DxSquareRefIdeal.nD Cert.DxSquareRefIdeal.τ).loc Cert.DxSquareRefIdeal.main_arg1))

def preserves_SquareLow_SquareLowIdeal : Prop :=
  True

def algebraic_SquareLowIdeal_SquareLowRefIdeal [hSquareLowIdeal : Cert.SquareLowIdeal.Facts] [hSquareLowRefIdeal : Cert.SquareLowRefIdeal.Facts] : Prop :=
  ∀ (m : (ℓ : Loc Cert.SquareLowIdeal.nD Cert.SquareLowIdeal.τ Cert.SquareLowIdeal.sig) → Buf (Elt Ideal) ℓ) (g : Dev Cert.SquareLowIdeal.nD → PrngReg)
    (m' : (ℓ : Loc Cert.SquareLowRefIdeal.nD Cert.SquareLowRefIdeal.τ Cert.SquareLowRefIdeal.sig) → Buf (Elt Ideal) ℓ) (g' : Dev Cert.SquareLowRefIdeal.nD → PrngReg), Pre_SquareLowIdeal m →
    (∀ c : Dev Cert.SquareLowIdeal.nD,
      m' ((c.tc : Thread Cert.SquareLowRefIdeal.nD Cert.SquareLowRefIdeal.τ).loc Cert.SquareLowRefIdeal.main_arg0) = m ((c.tc : Thread Cert.SquareLowIdeal.nD Cert.SquareLowIdeal.τ).loc Cert.SquareLowIdeal.main_arg0)
      ∧ m' ((c.tc : Thread Cert.SquareLowRefIdeal.nD Cert.SquareLowRefIdeal.τ).loc Cert.SquareLowRefIdeal.main_arg1) = m ((c.tc : Thread Cert.SquareLowIdeal.nD Cert.SquareLowIdeal.τ).loc Cert.SquareLowIdeal.main_arg1)) →
    ∃ (v0 : (c : Dev Cert.SquareLowIdeal.nD) → Buf (Elt Ideal) ((c.tc : Thread Cert.SquareLowIdeal.nD Cert.SquareLowIdeal.τ).loc Cert.SquareLowIdeal.main_v0)),
      θ_run (Cert.SquareLowIdeal.defs (F := Ideal)) (onTc (τ := Cert.SquareLowIdeal.τ) (Cert.SquareLowIdeal.main (F := Ideal))) ⟨m, fun _ => 0, g⟩ (fun r => ∀ c : Dev Cert.SquareLowIdeal.nD,
          r.2.mem ((c.tc : Thread Cert.SquareLowIdeal.nD Cert.SquareLowIdeal.τ).loc Cert.SquareLowIdeal.main_v0) = v0 c
          ∧ r.2.mem ((c.tc : Thread Cert.SquareLowIdeal.nD Cert.SquareLowIdeal.τ).loc Cert.SquareLowIdeal.main_arg0) = m ((c.tc : Thread Cert.SquareLowIdeal.nD Cert.SquareLowIdeal.τ).loc Cert.SquareLowIdeal.main_arg0)
          ∧ r.2.mem ((c.tc : Thread Cert.SquareLowIdeal.nD Cert.SquareLowIdeal.τ).loc Cert.SquareLowIdeal.main_arg1) = m ((c.tc : Thread Cert.SquareLowIdeal.nD Cert.SquareLowIdeal.τ).loc Cert.SquareLowIdeal.main_arg1))
      ∧ θ_run (Cert.SquareLowRefIdeal.defs (F := Ideal)) (onTc (τ := Cert.SquareLowRefIdeal.τ) (Cert.SquareLowRefIdeal.main (F := Ideal))) ⟨m', fun _ => 0, g'⟩ (fun r => ∀ c : Dev Cert.SquareLowRefIdeal.nD,
          r.2.mem ((c.tc : Thread Cert.SquareLowRefIdeal.nD Cert.SquareLowRefIdeal.τ).loc Cert.SquareLowRefIdeal.main_v3) = v0 c
          ∧ r.2.mem ((c.tc : Thread Cert.SquareLowRefIdeal.nD Cert.SquareLowRefIdeal.τ).loc Cert.SquareLowRefIdeal.main_arg0) = m' ((c.tc : Thread Cert.SquareLowRefIdeal.nD Cert.SquareLowRefIdeal.τ).loc Cert.SquareLowRefIdeal.main_arg0)
          ∧ r.2.mem ((c.tc : Thread Cert.SquareLowRefIdeal.nD Cert.SquareLowRefIdeal.τ).loc Cert.SquareLowRefIdeal.main_arg1) = m' ((c.tc : Thread Cert.SquareLowRefIdeal.nD Cert.SquareLowRefIdeal.τ).loc Cert.SquareLowRefIdeal.main_arg1))

def preserves_Square_SquareIdeal : Prop :=
  True

def algebraic_SquareIdeal_SquareRefIdeal [hSquareIdeal : Cert.SquareIdeal.Facts] [hSquareRefIdeal : Cert.SquareRefIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareIdeal m →
    (∀ c : Dev Cert.SquareIdeal.nD,
      m' ((c.tc : Thread Cert.SquareRefIdeal.nD Cert.SquareRefIdeal.τ).loc Cert.SquareRefIdeal.main_arg0) = m ((c.tc : Thread Cert.SquareIdeal.nD Cert.SquareIdeal.τ).loc Cert.SquareIdeal.main_arg0)
      ∧ m' ((c.tc : Thread Cert.SquareRefIdeal.nD Cert.SquareRefIdeal.τ).loc Cert.SquareRefIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v0)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v0) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v2) = v0 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1))

def preserves_DwKv_DwKvIdeal : Prop :=
  True

def algebraic_DwKvIdeal_DwKvRefIdeal [hDwKvIdeal : Cert.DwKvIdeal.Facts] [hDwKvRefIdeal : Cert.DwKvRefIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvRefIdeal.nD Cert.DwKvRefIdeal.τ Cert.DwKvRefIdeal.sig) → Buf (Elt Ideal) ℓ) (g' : Dev Cert.DwKvRefIdeal.nD → PrngReg), Pre_DwKvIdeal m →
    (∀ c : Dev Cert.DwKvIdeal.nD,
      m' ((c.tc : Thread Cert.DwKvRefIdeal.nD Cert.DwKvRefIdeal.τ).loc Cert.DwKvRefIdeal.main_arg0) = m ((c.tc : Thread Cert.DwKvIdeal.nD Cert.DwKvIdeal.τ).loc Cert.DwKvIdeal.main_arg0)
      ∧ m' ((c.tc : Thread Cert.DwKvRefIdeal.nD Cert.DwKvRefIdeal.τ).loc Cert.DwKvRefIdeal.main_arg1) = m ((c.tc : Thread Cert.DwKvIdeal.nD Cert.DwKvIdeal.τ).loc Cert.DwKvIdeal.main_arg1)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ θ_run (Cert.DwKvRefIdeal.defs (F := Ideal)) (onTc (τ := Cert.DwKvRefIdeal.τ) (Cert.DwKvRefIdeal.main (F := Ideal))) ⟨m', fun _ => 0, g'⟩ (fun r => ∀ c : Dev Cert.DwKvRefIdeal.nD,
          r.2.mem ((c.tc : Thread Cert.DwKvRefIdeal.nD Cert.DwKvRefIdeal.τ).loc Cert.DwKvRefIdeal.main_v5) = v0 c
          ∧ r.2.mem ((c.tc : Thread Cert.DwKvRefIdeal.nD Cert.DwKvRefIdeal.τ).loc Cert.DwKvRefIdeal.main_arg0) = m' ((c.tc : Thread Cert.DwKvRefIdeal.nD Cert.DwKvRefIdeal.τ).loc Cert.DwKvRefIdeal.main_arg0)
          ∧ r.2.mem ((c.tc : Thread Cert.DwKvRefIdeal.nD Cert.DwKvRefIdeal.τ).loc Cert.DwKvRefIdeal.main_arg1) = m' ((c.tc : Thread Cert.DwKvRefIdeal.nD Cert.DwKvRefIdeal.τ).loc Cert.DwKvRefIdeal.main_arg1))

def preserves_DxKv_DxKvIdeal : Prop :=
  True

def algebraic_DxKvIdeal_DxKvRefIdeal [hDxKvIdeal : Cert.DxKvIdeal.Facts] [hDxKvRefIdeal : Cert.DxKvRefIdeal.Facts] : Prop :=
  ∀ (m : (ℓ : Loc Cert.DxKvIdeal.nD Cert.DxKvIdeal.τ Cert.DxKvIdeal.sig) → Buf (Elt Ideal) ℓ) (g : Dev Cert.DxKvIdeal.nD → PrngReg)
    (m' : (ℓ : Loc Cert.DxKvRefIdeal.nD Cert.DxKvRefIdeal.τ Cert.DxKvRefIdeal.sig) → Buf (Elt Ideal) ℓ) (g' : Dev Cert.DxKvRefIdeal.nD → PrngReg), Pre_DxKvIdeal m →
    (∀ c : Dev Cert.DxKvIdeal.nD,
      m' ((c.tc : Thread Cert.DxKvRefIdeal.nD Cert.DxKvRefIdeal.τ).loc Cert.DxKvRefIdeal.main_arg0) = m ((c.tc : Thread Cert.DxKvIdeal.nD Cert.DxKvIdeal.τ).loc Cert.DxKvIdeal.main_arg0)
      ∧ m' ((c.tc : Thread Cert.DxKvRefIdeal.nD Cert.DxKvRefIdeal.τ).loc Cert.DxKvRefIdeal.main_arg1) = m ((c.tc : Thread Cert.DxKvIdeal.nD Cert.DxKvIdeal.τ).loc Cert.DxKvIdeal.main_arg1)) →
    ∃ (v0 : (c : Dev Cert.DxKvIdeal.nD) → Buf (Elt Ideal) ((c.tc : Thread Cert.DxKvIdeal.nD Cert.DxKvIdeal.τ).loc Cert.DxKvIdeal.main_v0)),
      θ_run (Cert.DxKvIdeal.defs (F := Ideal)) (onTc (τ := Cert.DxKvIdeal.τ) (Cert.DxKvIdeal.main (F := Ideal))) ⟨m, fun _ => 0, g⟩ (fun r => ∀ c : Dev Cert.DxKvIdeal.nD,
          r.2.mem ((c.tc : Thread Cert.DxKvIdeal.nD Cert.DxKvIdeal.τ).loc Cert.DxKvIdeal.main_v0) = v0 c
          ∧ r.2.mem ((c.tc : Thread Cert.DxKvIdeal.nD Cert.DxKvIdeal.τ).loc Cert.DxKvIdeal.main_arg0) = m ((c.tc : Thread Cert.DxKvIdeal.nD Cert.DxKvIdeal.τ).loc Cert.DxKvIdeal.main_arg0)
          ∧ r.2.mem ((c.tc : Thread Cert.DxKvIdeal.nD Cert.DxKvIdeal.τ).loc Cert.DxKvIdeal.main_arg1) = m ((c.tc : Thread Cert.DxKvIdeal.nD Cert.DxKvIdeal.τ).loc Cert.DxKvIdeal.main_arg1))
      ∧ θ_run (Cert.DxKvRefIdeal.defs (F := Ideal)) (onTc (τ := Cert.DxKvRefIdeal.τ) (Cert.DxKvRefIdeal.main (F := Ideal))) ⟨m', fun _ => 0, g'⟩ (fun r => ∀ c : Dev Cert.DxKvRefIdeal.nD,
          r.2.mem ((c.tc : Thread Cert.DxKvRefIdeal.nD Cert.DxKvRefIdeal.τ).loc Cert.DxKvRefIdeal.main_v4) = v0 c
          ∧ r.2.mem ((c.tc : Thread Cert.DxKvRefIdeal.nD Cert.DxKvRefIdeal.τ).loc Cert.DxKvRefIdeal.main_arg0) = m' ((c.tc : Thread Cert.DxKvRefIdeal.nD Cert.DxKvRefIdeal.τ).loc Cert.DxKvRefIdeal.main_arg0)
          ∧ r.2.mem ((c.tc : Thread Cert.DxKvRefIdeal.nD Cert.DxKvRefIdeal.τ).loc Cert.DxKvRefIdeal.main_arg1) = m' ((c.tc : Thread Cert.DxKvRefIdeal.nD Cert.DxKvRefIdeal.τ).loc Cert.DxKvRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_AttnBwd_AttnBwdIdeal : Prop :=
  True

def algebraic_AttnBwdIdeal_AttnBwdRefIdeal_pre_real_entries [hAttnBwdIdeal : Cert.AttnBwdIdeal.Facts] [hAttnBwdRefIdeal : Cert.AttnBwdRefIdeal.Facts] [hPre_real_entries : Cert.Pre_real_entries.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_real_entries m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v72) = v0 c
          ∧ r.2.mem ((c.tc : Thread Cert.AttnBwdRefIdeal.nD Cert.AttnBwdRefIdeal.τ).loc Cert.AttnBwdRefIdeal.main_v74) = v1 c
          ∧ r.2.mem ((c.tc : Thread Cert.AttnBwdRefIdeal.nD Cert.AttnBwdRefIdeal.τ).loc Cert.AttnBwdRefIdeal.main_v76) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v27) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_SwigluBwd_SwigluBwdIdeal : Prop :=
  True

def algebraic_SwigluBwdIdeal_SwigluBwdRefIdeal_pre_real_hidden [hSwigluBwdIdeal : Cert.SwigluBwdIdeal.Facts] [hSwigluBwdRefIdeal : Cert.SwigluBwdRefIdeal.Facts] [hPre_real_hidden : Cert.Pre_real_hidden.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_real_hidden m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)) →
    ∃ (v0 : (c : Dev Cert.SwigluBwdIdeal.nD) → Buf (Elt Ideal) ((c.tc : Thread Cert.SwigluBwdIdeal.nD Cert.SwigluBwdIdeal.τ).loc Cert.SwigluBwdIdeal.main_v0)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v10) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v1)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v1) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v34) = v0 c
          ∧ r.2.mem ((c.tc : Thread Cert.MergeBwdRefIdeal.nD Cert.MergeBwdRefIdeal.τ).loc Cert.MergeBwdRefIdeal.main_v35) = v1 c
          ∧ r.2.mem ((c.tc : Thread Cert.MergeBwdRefIdeal.nD Cert.MergeBwdRefIdeal.τ).loc Cert.MergeBwdRefIdeal.main_v37) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v5) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_ConvBwd_ConvBwdIdeal : Prop :=
  True

def algebraic_ConvBwdIdeal_ConvBwdRefIdeal_pre_real_cotangent [hConvBwdIdeal : Cert.ConvBwdIdeal.Facts] [hConvBwdRefIdeal : Cert.ConvBwdRefIdeal.Facts] [hPre_real_cotangent : Cert.Pre_real_cotangent.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_real_cotangent m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v1_1)) (v2 : (c : Dev Cert.ConvBwdIdeal.nD) → Buf (Elt Ideal) ((c.tc : Thread Cert.ConvBwdIdeal.nD Cert.ConvBwdIdeal.τ).loc Cert.ConvBwdIdeal.main_v1_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v1_1) = v1 c
          ∧ r.2.mem ((c.tc : Thread Cert.ConvBwdIdeal.nD Cert.ConvBwdIdeal.τ).loc Cert.ConvBwdIdeal.main_v1_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v92) = v0 c
          ∧ r.2.mem ((c.tc : Thread Cert.ConvBwdRefIdeal.nD Cert.ConvBwdRefIdeal.τ).loc Cert.ConvBwdRefIdeal.main_v84) = v1 c
          ∧ r.2.mem ((c.tc : Thread Cert.ConvBwdRefIdeal.nD Cert.ConvBwdRefIdeal.τ).loc Cert.ConvBwdRefIdeal.main_v93) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v39) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_NormBwd_NormBwdIdeal : Prop :=
  True

def algebraic_NormBwdIdeal_NormBwdRefIdeal_pre_real_normed [hNormBwdIdeal : Cert.NormBwdIdeal.Facts] [hNormBwdRefIdeal : Cert.NormBwdRefIdeal.Facts] [hPre_real_normed : Cert.Pre_real_normed.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_real_normed m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)) (v2 : (c : Dev Cert.NormBwdIdeal.nD) → Buf (Elt Ideal) ((c.tc : Thread Cert.NormBwdIdeal.nD Cert.NormBwdIdeal.τ).loc Cert.NormBwdIdeal.main_v1_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_v1_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v54) = v0 c
          ∧ r.2.mem ((c.tc : Thread Cert.NormBwdRefIdeal.nD Cert.NormBwdRefIdeal.τ).loc Cert.NormBwdRefIdeal.main_v53) = v1 c
          ∧ r.2.mem ((c.tc : Thread Cert.NormBwdRefIdeal.nD Cert.NormBwdRefIdeal.τ).loc Cert.NormBwdRefIdeal.main_v55) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v20) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def Claim : Prop :=
  ∃ (hKernel : Cert.Kernel.Facts) (hKernelIdeal : Cert.KernelIdeal.Facts) (hReferenceIdeal : Cert.ReferenceIdeal.Facts) (hDwMain : Cert.DwMain.Facts) (hDwMainIdeal : Cert.DwMainIdeal.Facts) (hDwMainRefIdeal : Cert.DwMainRefIdeal.Facts) (hDxMain : Cert.DxMain.Facts) (hDxMainIdeal : Cert.DxMainIdeal.Facts) (hDxMainRefIdeal : Cert.DxMainRefIdeal.Facts) (hProj : Cert.Proj.Facts) (hProjIdeal : Cert.ProjIdeal.Facts) (hProjRefIdeal : Cert.ProjRefIdeal.Facts) (hDwDt : Cert.DwDt.Facts) (hDwDtIdeal : Cert.DwDtIdeal.Facts) (hDwDtRefIdeal : Cert.DwDtRefIdeal.Facts) (hDxDt : Cert.DxDt.Facts) (hDxDtIdeal : Cert.DxDtIdeal.Facts) (hDxDtRefIdeal : Cert.DxDtRefIdeal.Facts) (hDtProj : Cert.DtProj.Facts) (hDtProjIdeal : Cert.DtProjIdeal.Facts) (hDtProjRefIdeal : Cert.DtProjRefIdeal.Facts) (hDwFfnIn : Cert.DwFfnIn.Facts) (hDwFfnInIdeal : Cert.DwFfnInIdeal.Facts) (hDwFfnInRefIdeal : Cert.DwFfnInRefIdeal.Facts) (hDxFfnIn : Cert.DxFfnIn.Facts) (hDxFfnInIdeal : Cert.DxFfnInIdeal.Facts) (hDxFfnInRefIdeal : Cert.DxFfnInRefIdeal.Facts) (hFfnIn : Cert.FfnIn.Facts) (hFfnInIdeal : Cert.FfnInIdeal.Facts) (hFfnInRefIdeal : Cert.FfnInRefIdeal.Facts) (hDwFfnOut : Cert.DwFfnOut.Facts) (hDwFfnOutIdeal : Cert.DwFfnOutIdeal.Facts) (hDwFfnOutRefIdeal : Cert.DwFfnOutRefIdeal.Facts) (hDxFfnOut : Cert.DxFfnOut.Facts) (hDxFfnOutIdeal : Cert.DxFfnOutIdeal.Facts) (hDxFfnOutRefIdeal : Cert.DxFfnOutRefIdeal.Facts) (hFfnOut : Cert.FfnOut.Facts) (hFfnOutIdeal : Cert.FfnOutIdeal.Facts) (hFfnOutRefIdeal : Cert.FfnOutRefIdeal.Facts) (hDwBrB : Cert.DwBrB.Facts) (hDwBrBIdeal : Cert.DwBrBIdeal.Facts) (hDwBrBRefIdeal : Cert.DwBrBRefIdeal.Facts) (hDxBrB : Cert.DxBrB.Facts) (hDxBrBIdeal : Cert.DxBrBIdeal.Facts) (hDxBrBRefIdeal : Cert.DxBrBRefIdeal.Facts) (hBrB : Cert.BrB.Facts) (hBrBIdeal : Cert.BrBIdeal.Facts) (hBrBRefIdeal : Cert.BrBRefIdeal.Facts) (hDwSquare : Cert.DwSquare.Facts) (hDwSquareIdeal : Cert.DwSquareIdeal.Facts) (hDwSquareRefIdeal : Cert.DwSquareRefIdeal.Facts) (hDxSquareLow : Cert.DxSquareLow.Facts) (hDxSquareLowIdeal : Cert.DxSquareLowIdeal.Facts) (hDxSquareLowRefIdeal : Cert.DxSquareLowRefIdeal.Facts) (hDxSquare : Cert.DxSquare.Facts) (hDxSquareIdeal : Cert.DxSquareIdeal.Facts) (hDxSquareRefIdeal : Cert.DxSquareRefIdeal.Facts) (hSquareLow : Cert.SquareLow.Facts) (hSquareLowIdeal : Cert.SquareLowIdeal.Facts) (hSquareLowRefIdeal : Cert.SquareLowRefIdeal.Facts) (hSquare : Cert.Square.Facts) (hSquareIdeal : Cert.SquareIdeal.Facts) (hSquareRefIdeal : Cert.SquareRefIdeal.Facts) (hDwKv : Cert.DwKv.Facts) (hDwKvIdeal : Cert.DwKvIdeal.Facts) (hDwKvRefIdeal : Cert.DwKvRefIdeal.Facts) (hDxKv : Cert.DxKv.Facts) (hDxKvIdeal : Cert.DxKvIdeal.Facts) (hDxKvRefIdeal : Cert.DxKvRefIdeal.Facts) (hKv : Cert.Kv.Facts) (hKvIdeal : Cert.KvIdeal.Facts) (hKvRefIdeal : Cert.KvRefIdeal.Facts) (hAttnBwd : Cert.AttnBwd.Facts) (hAttnBwdIdeal : Cert.AttnBwdIdeal.Facts) (hAttnBwdRefIdeal : Cert.AttnBwdRefIdeal.Facts) (hAttn : Cert.Attn.Facts) (hAttnIdeal : Cert.AttnIdeal.Facts) (hAttnRefIdeal : Cert.AttnRefIdeal.Facts) (hSwigluBwd : Cert.SwigluBwd.Facts) (hSwigluBwdIdeal : Cert.SwigluBwdIdeal.Facts) (hSwigluBwdRefIdeal : Cert.SwigluBwdRefIdeal.Facts) (hMergeBwd : Cert.MergeBwd.Facts) (hMergeBwdIdeal : Cert.MergeBwdIdeal.Facts) (hMergeBwdRefIdeal : Cert.MergeBwdRefIdeal.Facts) (hSwiglu : Cert.Swiglu.Facts) (hSwigluIdeal : Cert.SwigluIdeal.Facts) (hSwigluRefIdeal : Cert.SwigluRefIdeal.Facts) (hMerge : Cert.Merge.Facts) (hMergeIdeal : Cert.MergeIdeal.Facts) (hMergeRefIdeal : Cert.MergeRefIdeal.Facts) (hConvBwd : Cert.ConvBwd.Facts) (hConvBwdIdeal : Cert.ConvBwdIdeal.Facts) (hConvBwdRefIdeal : Cert.ConvBwdRefIdeal.Facts) (hConv : Cert.Conv.Facts) (hConvIdeal : Cert.ConvIdeal.Facts) (hConvRefIdeal : Cert.ConvRefIdeal.Facts) (hNormBwd : Cert.NormBwd.Facts) (hNormBwdIdeal : Cert.NormBwdIdeal.Facts) (hNormBwdRefIdeal : Cert.NormBwdRefIdeal.Facts) (hNorm : Cert.Norm.Facts) (hNormIdeal : Cert.NormIdeal.Facts) (hNormRefIdeal : Cert.NormRefIdeal.Facts) (hPre_finite : Cert.Pre_finite.Facts) (hPre_real_entries : Cert.Pre_real_entries.Facts) (hPre_real_hidden : Cert.Pre_real_hidden.Facts) (hPre_real_cotangent : Cert.Pre_real_cotangent.Facts) (hPre_real_normed : Cert.Pre_real_normed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwMain (hDwMain := hDwMain)
    ∧ quiescent_DwMainIdeal (hDwMainIdeal := hDwMainIdeal)
    ∧ quiescent_DwMainRefIdeal (hDwMainRefIdeal := hDwMainRefIdeal)
    ∧ quiescent_DxMain (hDxMain := hDxMain)
    ∧ quiescent_DxMainIdeal (hDxMainIdeal := hDxMainIdeal)
    ∧ quiescent_DxMainRefIdeal (hDxMainRefIdeal := hDxMainRefIdeal)
    ∧ quiescent_Proj (hProj := hProj)
    ∧ quiescent_ProjIdeal (hProjIdeal := hProjIdeal)
    ∧ quiescent_ProjRefIdeal (hProjRefIdeal := hProjRefIdeal)
    ∧ quiescent_DwDt (hDwDt := hDwDt)
    ∧ quiescent_DwDtIdeal (hDwDtIdeal := hDwDtIdeal)
    ∧ quiescent_DwDtRefIdeal (hDwDtRefIdeal := hDwDtRefIdeal)
    ∧ quiescent_DxDt (hDxDt := hDxDt)
    ∧ quiescent_DxDtIdeal (hDxDtIdeal := hDxDtIdeal)
    ∧ quiescent_DxDtRefIdeal (hDxDtRefIdeal := hDxDtRefIdeal)
    ∧ quiescent_DtProj (hDtProj := hDtProj)
    ∧ quiescent_DtProjIdeal (hDtProjIdeal := hDtProjIdeal)
    ∧ quiescent_DtProjRefIdeal (hDtProjRefIdeal := hDtProjRefIdeal)
    ∧ quiescent_DwFfnIn (hDwFfnIn := hDwFfnIn)
    ∧ quiescent_DwFfnInIdeal (hDwFfnInIdeal := hDwFfnInIdeal)
    ∧ quiescent_DwFfnInRefIdeal (hDwFfnInRefIdeal := hDwFfnInRefIdeal)
    ∧ quiescent_DxFfnIn (hDxFfnIn := hDxFfnIn)
    ∧ quiescent_DxFfnInIdeal (hDxFfnInIdeal := hDxFfnInIdeal)
    ∧ quiescent_DxFfnInRefIdeal (hDxFfnInRefIdeal := hDxFfnInRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_DwFfnOut (hDwFfnOut := hDwFfnOut)
    ∧ quiescent_DwFfnOutIdeal (hDwFfnOutIdeal := hDwFfnOutIdeal)
    ∧ quiescent_DwFfnOutRefIdeal (hDwFfnOutRefIdeal := hDwFfnOutRefIdeal)
    ∧ quiescent_DxFfnOut (hDxFfnOut := hDxFfnOut)
    ∧ quiescent_DxFfnOutIdeal (hDxFfnOutIdeal := hDxFfnOutIdeal)
    ∧ quiescent_DxFfnOutRefIdeal (hDxFfnOutRefIdeal := hDxFfnOutRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_DwBrB (hDwBrB := hDwBrB)
    ∧ quiescent_DwBrBIdeal (hDwBrBIdeal := hDwBrBIdeal)
    ∧ quiescent_DwBrBRefIdeal (hDwBrBRefIdeal := hDwBrBRefIdeal)
    ∧ quiescent_DxBrB (hDxBrB := hDxBrB)
    ∧ quiescent_DxBrBIdeal (hDxBrBIdeal := hDxBrBIdeal)
    ∧ quiescent_DxBrBRefIdeal (hDxBrBRefIdeal := hDxBrBRefIdeal)
    ∧ quiescent_BrB (hBrB := hBrB)
    ∧ quiescent_BrBIdeal (hBrBIdeal := hBrBIdeal)
    ∧ quiescent_BrBRefIdeal (hBrBRefIdeal := hBrBRefIdeal)
    ∧ quiescent_DwSquare (hDwSquare := hDwSquare)
    ∧ quiescent_DwSquareIdeal (hDwSquareIdeal := hDwSquareIdeal)
    ∧ quiescent_DwSquareRefIdeal (hDwSquareRefIdeal := hDwSquareRefIdeal)
    ∧ quiescent_DxSquareLow (hDxSquareLow := hDxSquareLow)
    ∧ quiescent_DxSquareLowIdeal (hDxSquareLowIdeal := hDxSquareLowIdeal)
    ∧ quiescent_DxSquareLowRefIdeal (hDxSquareLowRefIdeal := hDxSquareLowRefIdeal)
    ∧ quiescent_DxSquare (hDxSquare := hDxSquare)
    ∧ quiescent_DxSquareIdeal (hDxSquareIdeal := hDxSquareIdeal)
    ∧ quiescent_DxSquareRefIdeal (hDxSquareRefIdeal := hDxSquareRefIdeal)
    ∧ quiescent_SquareLow (hSquareLow := hSquareLow)
    ∧ quiescent_SquareLowIdeal (hSquareLowIdeal := hSquareLowIdeal)
    ∧ quiescent_SquareLowRefIdeal (hSquareLowRefIdeal := hSquareLowRefIdeal)
    ∧ quiescent_Square (hSquare := hSquare)
    ∧ quiescent_SquareIdeal (hSquareIdeal := hSquareIdeal)
    ∧ quiescent_SquareRefIdeal (hSquareRefIdeal := hSquareRefIdeal)
    ∧ quiescent_DwKv (hDwKv := hDwKv)
    ∧ quiescent_DwKvIdeal (hDwKvIdeal := hDwKvIdeal)
    ∧ quiescent_DwKvRefIdeal (hDwKvRefIdeal := hDwKvRefIdeal)
    ∧ quiescent_DxKv (hDxKv := hDxKv)
    ∧ quiescent_DxKvIdeal (hDxKvIdeal := hDxKvIdeal)
    ∧ quiescent_DxKvRefIdeal (hDxKvRefIdeal := hDxKvRefIdeal)
    ∧ quiescent_Kv (hKv := hKv)
    ∧ quiescent_KvIdeal (hKvIdeal := hKvIdeal)
    ∧ quiescent_KvRefIdeal (hKvRefIdeal := hKvRefIdeal)
    ∧ quiescent_AttnBwd (hAttnBwd := hAttnBwd)
    ∧ quiescent_AttnBwdIdeal (hAttnBwdIdeal := hAttnBwdIdeal)
    ∧ quiescent_AttnBwdIdeal_pre_real_entries (hAttnBwdIdeal := hAttnBwdIdeal) (hPre_real_entries := hPre_real_entries)
    ∧ quiescent_AttnBwdRefIdeal (hAttnBwdRefIdeal := hAttnBwdRefIdeal)
    ∧ quiescent_AttnBwdRefIdeal_pre_real_entries (hAttnBwdRefIdeal := hAttnBwdRefIdeal) (hPre_real_entries := hPre_real_entries)
    ∧ quiescent_Attn (hAttn := hAttn)
    ∧ quiescent_AttnIdeal (hAttnIdeal := hAttnIdeal)
    ∧ quiescent_AttnRefIdeal (hAttnRefIdeal := hAttnRefIdeal)
    ∧ quiescent_SwigluBwd (hSwigluBwd := hSwigluBwd)
    ∧ quiescent_SwigluBwdIdeal (hSwigluBwdIdeal := hSwigluBwdIdeal)
    ∧ quiescent_SwigluBwdIdeal_pre_real_hidden (hSwigluBwdIdeal := hSwigluBwdIdeal) (hPre_real_hidden := hPre_real_hidden)
    ∧ quiescent_SwigluBwdRefIdeal (hSwigluBwdRefIdeal := hSwigluBwdRefIdeal)
    ∧ quiescent_SwigluBwdRefIdeal_pre_real_hidden (hSwigluBwdRefIdeal := hSwigluBwdRefIdeal) (hPre_real_hidden := hPre_real_hidden)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Merge (hMerge := hMerge)
    ∧ quiescent_MergeIdeal (hMergeIdeal := hMergeIdeal)
    ∧ quiescent_MergeRefIdeal (hMergeRefIdeal := hMergeRefIdeal)
    ∧ quiescent_ConvBwd (hConvBwd := hConvBwd)
    ∧ quiescent_ConvBwdIdeal (hConvBwdIdeal := hConvBwdIdeal)
    ∧ quiescent_ConvBwdIdeal_pre_real_cotangent (hConvBwdIdeal := hConvBwdIdeal) (hPre_real_cotangent := hPre_real_cotangent)
    ∧ quiescent_ConvBwdRefIdeal (hConvBwdRefIdeal := hConvBwdRefIdeal)
    ∧ quiescent_ConvBwdRefIdeal_pre_real_cotangent (hConvBwdRefIdeal := hConvBwdRefIdeal) (hPre_real_cotangent := hPre_real_cotangent)
    ∧ quiescent_Conv (hConv := hConv)
    ∧ quiescent_ConvIdeal (hConvIdeal := hConvIdeal)
    ∧ quiescent_ConvRefIdeal (hConvRefIdeal := hConvRefIdeal)
    ∧ quiescent_NormBwd (hNormBwd := hNormBwd)
    ∧ quiescent_NormBwdIdeal (hNormBwdIdeal := hNormBwdIdeal)
    ∧ quiescent_NormBwdIdeal_pre_real_normed (hNormBwdIdeal := hNormBwdIdeal) (hPre_real_normed := hPre_real_normed)
    ∧ quiescent_NormBwdRefIdeal (hNormBwdRefIdeal := hNormBwdRefIdeal)
    ∧ quiescent_NormBwdRefIdeal_pre_real_normed (hNormBwdRefIdeal := hNormBwdRefIdeal) (hPre_real_normed := hPre_real_normed)
    ∧ quiescent_Norm (hNorm := hNorm)
    ∧ quiescent_NormIdeal (hNormIdeal := hNormIdeal)
    ∧ quiescent_NormRefIdeal (hNormRefIdeal := hNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwMain_DwMainIdeal
    ∧ algebraic_DwMainIdeal_DwMainRefIdeal (hDwMainIdeal := hDwMainIdeal) (hDwMainRefIdeal := hDwMainRefIdeal)
    ∧ preserves_DxMain_DxMainIdeal
    ∧ algebraic_DxMainIdeal_DxMainRefIdeal (hDxMainIdeal := hDxMainIdeal) (hDxMainRefIdeal := hDxMainRefIdeal)
    ∧ preserves_Proj_ProjIdeal
    ∧ algebraic_ProjIdeal_ProjRefIdeal (hProjIdeal := hProjIdeal) (hProjRefIdeal := hProjRefIdeal)
    ∧ preserves_DwDt_DwDtIdeal
    ∧ algebraic_DwDtIdeal_DwDtRefIdeal (hDwDtIdeal := hDwDtIdeal) (hDwDtRefIdeal := hDwDtRefIdeal)
    ∧ preserves_DxDt_DxDtIdeal
    ∧ algebraic_DxDtIdeal_DxDtRefIdeal (hDxDtIdeal := hDxDtIdeal) (hDxDtRefIdeal := hDxDtRefIdeal)
    ∧ preserves_DtProj_DtProjIdeal
    ∧ algebraic_DtProjIdeal_DtProjRefIdeal (hDtProjIdeal := hDtProjIdeal) (hDtProjRefIdeal := hDtProjRefIdeal)
    ∧ preserves_DwFfnIn_DwFfnInIdeal
    ∧ algebraic_DwFfnInIdeal_DwFfnInRefIdeal (hDwFfnInIdeal := hDwFfnInIdeal) (hDwFfnInRefIdeal := hDwFfnInRefIdeal)
    ∧ preserves_DxFfnIn_DxFfnInIdeal
    ∧ algebraic_DxFfnInIdeal_DxFfnInRefIdeal (hDxFfnInIdeal := hDxFfnInIdeal) (hDxFfnInRefIdeal := hDxFfnInRefIdeal)
    ∧ preserves_FfnIn_FfnInIdeal
    ∧ algebraic_FfnInIdeal_FfnInRefIdeal (hFfnInIdeal := hFfnInIdeal) (hFfnInRefIdeal := hFfnInRefIdeal)
    ∧ preserves_DwFfnOut_DwFfnOutIdeal
    ∧ algebraic_DwFfnOutIdeal_DwFfnOutRefIdeal (hDwFfnOutIdeal := hDwFfnOutIdeal) (hDwFfnOutRefIdeal := hDwFfnOutRefIdeal)
    ∧ preserves_DxFfnOut_DxFfnOutIdeal
    ∧ algebraic_DxFfnOutIdeal_DxFfnOutRefIdeal (hDxFfnOutIdeal := hDxFfnOutIdeal) (hDxFfnOutRefIdeal := hDxFfnOutRefIdeal)
    ∧ preserves_FfnOut_FfnOutIdeal
    ∧ algebraic_FfnOutIdeal_FfnOutRefIdeal (hFfnOutIdeal := hFfnOutIdeal) (hFfnOutRefIdeal := hFfnOutRefIdeal)
    ∧ preserves_DwBrB_DwBrBIdeal
    ∧ algebraic_DwBrBIdeal_DwBrBRefIdeal (hDwBrBIdeal := hDwBrBIdeal) (hDwBrBRefIdeal := hDwBrBRefIdeal)
    ∧ preserves_DxBrB_DxBrBIdeal
    ∧ algebraic_DxBrBIdeal_DxBrBRefIdeal (hDxBrBIdeal := hDxBrBIdeal) (hDxBrBRefIdeal := hDxBrBRefIdeal)
    ∧ preserves_BrB_BrBIdeal
    ∧ algebraic_BrBIdeal_BrBRefIdeal (hBrBIdeal := hBrBIdeal) (hBrBRefIdeal := hBrBRefIdeal)
    ∧ preserves_DwSquare_DwSquareIdeal
    ∧ algebraic_DwSquareIdeal_DwSquareRefIdeal (hDwSquareIdeal := hDwSquareIdeal) (hDwSquareRefIdeal := hDwSquareRefIdeal)
    ∧ preserves_DxSquareLow_DxSquareLowIdeal
    ∧ algebraic_DxSquareLowIdeal_DxSquareLowRefIdeal (hDxSquareLowIdeal := hDxSquareLowIdeal) (hDxSquareLowRefIdeal := hDxSquareLowRefIdeal)
    ∧ preserves_DxSquare_DxSquareIdeal
    ∧ algebraic_DxSquareIdeal_DxSquareRefIdeal (hDxSquareIdeal := hDxSquareIdeal) (hDxSquareRefIdeal := hDxSquareRefIdeal)
    ∧ preserves_SquareLow_SquareLowIdeal
    ∧ algebraic_SquareLowIdeal_SquareLowRefIdeal (hSquareLowIdeal := hSquareLowIdeal) (hSquareLowRefIdeal := hSquareLowRefIdeal)
    ∧ preserves_Square_SquareIdeal
    ∧ algebraic_SquareIdeal_SquareRefIdeal (hSquareIdeal := hSquareIdeal) (hSquareRefIdeal := hSquareRefIdeal)
    ∧ preserves_DwKv_DwKvIdeal
    ∧ algebraic_DwKvIdeal_DwKvRefIdeal (hDwKvIdeal := hDwKvIdeal) (hDwKvRefIdeal := hDwKvRefIdeal)
    ∧ preserves_DxKv_DxKvIdeal
    ∧ algebraic_DxKvIdeal_DxKvRefIdeal (hDxKvIdeal := hDxKvIdeal) (hDxKvRefIdeal := hDxKvRefIdeal)
    ∧ preserves_Kv_KvIdeal
    ∧ algebraic_KvIdeal_KvRefIdeal (hKvIdeal := hKvIdeal) (hKvRefIdeal := hKvRefIdeal)
    ∧ preserves_AttnBwd_AttnBwdIdeal
    ∧ algebraic_AttnBwdIdeal_AttnBwdRefIdeal_pre_real_entries (hAttnBwdIdeal := hAttnBwdIdeal) (hAttnBwdRefIdeal := hAttnBwdRefIdeal) (hPre_real_entries := hPre_real_entries)
    ∧ preserves_Attn_AttnIdeal
    ∧ algebraic_AttnIdeal_AttnRefIdeal (hAttnIdeal := hAttnIdeal) (hAttnRefIdeal := hAttnRefIdeal)
    ∧ preserves_SwigluBwd_SwigluBwdIdeal
    ∧ algebraic_SwigluBwdIdeal_SwigluBwdRefIdeal_pre_real_hidden (hSwigluBwdIdeal := hSwigluBwdIdeal) (hSwigluBwdRefIdeal := hSwigluBwdRefIdeal) (hPre_real_hidden := hPre_real_hidden)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Swiglu_SwigluIdeal
    ∧ algebraic_SwigluIdeal_SwigluRefIdeal (hSwigluIdeal := hSwigluIdeal) (hSwigluRefIdeal := hSwigluRefIdeal)
    ∧ preserves_Merge_MergeIdeal
    ∧ algebraic_MergeIdeal_MergeRefIdeal (hMergeIdeal := hMergeIdeal) (hMergeRefIdeal := hMergeRefIdeal)
    ∧ preserves_ConvBwd_ConvBwdIdeal
    ∧ algebraic_ConvBwdIdeal_ConvBwdRefIdeal_pre_real_cotangent (hConvBwdIdeal := hConvBwdIdeal) (hConvBwdRefIdeal := hConvBwdRefIdeal) (hPre_real_cotangent := hPre_real_cotangent)
    ∧ preserves_Conv_ConvIdeal
    ∧ algebraic_ConvIdeal_ConvRefIdeal (hConvIdeal := hConvIdeal) (hConvRefIdeal := hConvRefIdeal)
    ∧ preserves_NormBwd_NormBwdIdeal
    ∧ algebraic_NormBwdIdeal_NormBwdRefIdeal_pre_real_normed (hNormBwdIdeal := hNormBwdIdeal) (hNormBwdRefIdeal := hNormBwdRefIdeal) (hPre_real_normed := hPre_real_normed)
    ∧ preserves_Norm_NormIdeal
    ∧ algebraic_NormIdeal_NormRefIdeal (hNormIdeal := hNormIdeal) (hNormRefIdeal := hNormRefIdeal)
-- ==== Pre_finite.lean ====
abbrev S4096x9216 : Shape := ⟨2, ![4096, 9216]⟩
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩

class Facts : Prop where
  slices_S4096x9216_S4096x2048_0_0 : S4096x9216.Slices ![0, 0] S4096x2048
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part2 {F : FTy → Type} [FloatOps F] (main_arg5 : FVec F S8x128 .f32) (main_v29 : IVec S_ 1) (main_v31 : IVec S8x128x128 1) (main_v33 : IVec S8x128x128 1) : IVec S_ 1 :=
  let main_v34 : IVec S8x128x128 1 := andi main_v31 main_v33
  let main_c_12 : IVec S_ 1 := constantI S_ 1 1#1
  let main_v35 : IVec S_ 1 := (fun x v => Host.reduce IntOp.andi x v reducesTo_S8x128x128_S_d0_1_2 h_S_) main_v34 main_c_12
  let main_v36 : IVec S_ 1 := andi main_v29 main_v35
  let main_cst_13 : FVec F S_ .f32 := constant S_ .f32 0xFF800000#32
  let main_v37 : FVec F S8x128 .f32 := broadcastInDim S8x128 ![] bcast_S_S8x128 main_cst_13
  let main_v38 : IVec S8x128 1 := cmpf .ogt main_arg5 main_v37
  let main_cst_14 : FVec F S_ .f32 := constant S_ .f32 0x7F800000#32
  let main_v39 : FVec F S8x128 .f32 := broadcastInDim S8x128 ![] bcast_S_S8x128 main_cst_14
  let main_v40 : IVec S8x128 1 := cmpf .olt main_arg5 main_v39
  let main_v41 : IVec S8x128 1 := andi main_v38 main_v40
  let main_c_15 : IVec S_ 1 := constantI S_ 1 1#1
  let main_v42 : IVec S_ 1 := (fun x v => Host.reduce IntOp.andi x v reducesTo_S8x128_S_d0_1 h_S_) main_v41 main_c_15
  let main_v43 : IVec S_ 1 := andi main_v36 main_v42
  main_v43

def fn_part1 {F : FTy → Type} [FloatOps F] (main_arg2 : FVec F S1024 .f32) (main_arg3 : FVec F S1024 .f32) (main_arg4 : FVec F S8x128x128 .f32) (main_arg5 : FVec F S8x128 .f32) (main_v15 : IVec S_ 1) (main_v16 : FVec F S1024 .f32) : IVec S_ 1 :=
  let main_v17 : IVec S1024 1 := cmpf .ogt main_arg2 main_v16
  let main_cst_5 : FVec F S_ .f32 := constant S_ .f32 0x7F800000#32
  let main_v18 : FVec F S1024 .f32 := broadcastInDim S1024 ![] bcast_S_S1024 main_cst_5
  let main_v19 : IVec S1024 1 := cmpf .olt main_arg2 main_v18
  let main_v20 : IVec S1024 1 := andi main_v17 main_v19
  let main_c_6 : IVec S_ 1 := constantI S_ 1 1#1
  let main_v21 : IVec S_ 1 := (fun x v => Host.reduce IntOp.andi x v reducesTo_S1024_S_d0 h_S_) main_v20 main_c_6
  let main_v22 : IVec S_ 1 := andi main_v15 main_v21
  let main_cst_7 : FVec F S_ .f32 := constant S_ .f32 0xFF800000#32
  let main_v23 : FVec F S1024 .f32 := broadcastInDim S1024 ![] bcast_S_S1024 main_cst_7
  let main_v24 : IVec S1024 1 := cmpf .ogt main_arg3 main_v23
  let main_cst_8 : FVec F S_ .f32 := constant S_ .f32 0x7F800000#32
  let main_v25 : FVec F S1024 .f32 := broadcastInDim S1024 ![] bcast_S_S1024 main_cst_8
  let main_v26 : IVec S1024 1 := cmpf .olt main_arg3 main_v25
  let main_v27 : IVec S1024 1 := andi main_v24 main_v26
  let main_c_9 : IVec S_ 1 := constantI S_ 1 1#1
  let main_v28 : IVec S_ 1 := (fun x v => Host.reduce IntOp.andi x v reducesTo_S1024_S_d0 h_S_) main_v27 main_c_9
  let main_v29 : IVec S_ 1 := andi main_v22 main_v28
  let main_cst_10 : FVec F S_ .f32 := constant S_ .f32 0xFF800000#32
  let main_v30 : FVec F S8x128x128 .f32 := broadcastInDim S8x128x128 ![] bcast_S_S8x128x128 main_cst_10
  let main_v31 : IVec S8x128x128 1 := cmpf .ogt main_arg4 main_v30
  let main_cst_11 : FVec F S_ .f32 := constant S_ .f32 0x7F800000#32
  let main_v32 : FVec F S8x128x128 .f32 := broadcastInDim S8x128x128 ![] bcast_S_S8x128x128 main_cst_11
  let main_v33 : IVec S8x128x128 1 := cmpf .olt main_arg4 main_v32
  fn_part2 (F := F) main_arg5 main_v29 main_v31 main_v33

def fn {F : FTy → Type} [FloatOps F] (main_arg0 : FVec F S4096x9216 .bf16) (main_arg1 : FVec F S4096x1024 .bf16) (main_arg2 : FVec F S1024 .f32) (main_arg3 : FVec F S1024 .f32) (main_arg4 : FVec F S8x128x128 .f32) (main_arg5 : FVec F S8x128 .f32) (main_arg6 : FVec F S4096x9216 .bf16) : IVec S_ 1 :=
  let main_v0 : FVec F S4096x2048 .bf16 := (extractStridedSlice S4096x2048 ![0, 0] · slices_S4096x9216_S4096x2048_0_0) main_arg0
  let main_v1 : FVec F S4096x2048 .f32 := (extf .f32 · bitsLt_bf16_f32) main_v0
  let main_cst : FVec F S_ .f32 := constant S_ .f32 0xFF800000#32
  let main_v2 : FVec F S4096x2048 .f32 := broadcastInDim S4096x2048 ![] bcast_S_S4096x2048 main_cst
  let main_v3 : IVec S4096x2048 1 := cmpf .ogt main_v1 main_v2
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v1 main_v4
  let main_v6 : IVec S4096x2048 1 := andi main_v3 main_v5
  let main_c : IVec S_ 1 := constantI S_ 1 1#1
  let main_v7 : IVec S_ 1 := (fun x v => Host.reduce IntOp.andi x v reducesTo_S4096x2048_S_d0_1 h_S_) main_v6 main_c
  let main_v8 : FVec F S4096x1024 .f32 := (extf .f32 · bitsLt_bf16_f32) main_arg1
  let main_cst_1 : FVec F S_ .f32 := constant S_ .f32 0xFF800000#32
  let main_v9 : FVec F S4096x1024 .f32 := broadcastInDim S4096x1024 ![] bcast_S_S4096x1024 main_cst_1
  let main_v10 : IVec S4096x1024 1 := cmpf .ogt main_v8 main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v8 main_v11
  let main_v13 : IVec S4096x1024 1 := andi main_v10 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v7 main_v14
  let main_cst_4 : FVec F S_ .f32 := constant S_ .f32 0xFF800000#32
  let main_v16 : FVec F S1024 .f32 := broadcastInDim S1024 ![] bcast_S_S1024 main_cst_4
  fn_part1 (F := F) main_arg2 main_arg3 main_arg4 main_arg5 main_v15 main_v16
-- ==== Pre_real_cotangent.lean ====
abbrev S4096x9216 : Shape := ⟨2, ![4096, 9216]⟩
abbrev S4096x3072 : Shape := ⟨2, ![4096, 3072]⟩
abbrev S4x3072 : Shape := ⟨2, ![4, 3072]⟩
abbrev S3072 : Shape := ⟨1, ![3072]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x9216 .bf16) (main_arg1 : FVec F S4096x3072 .bf16) (main_arg2 : FVec F S4x3072 .f32) (main_arg3 : FVec F S3072 .f32) (main_arg4 : FVec F S4096x9216 .bf16) : IVec S_ 1 :=
  let main_v0 : FVec F S4096x3072 .f32 := (extf .f32 · bitsLt_bf16_f32) main_arg1
  let main_cst : FVec F S_ .f32 := constant S_ .f32 0xFF800000#32
  let main_v1 : FVec F S4096x3072 .f32 := broadcastInDim S4096x3072 ![] bcast_S_S4096x3072 main_cst
  let main_v2 : IVec S4096x3072 1 := cmpf .ogt main_v0 main_v1
  let main_cst_0 : FVec F S_ .f32 := constant S_ .f32 0x7F800000#32
  let main_v3 : FVec F S4096x3072 .f32 := broadcastInDim S4096x3072 ![] bcast_S_S4096x3072 main_cst_0
  let main_v4 : IVec S4096x3072 1 := cmpf .olt main_v0 main_v3
  let main_v5 : IVec S4096x3072 1 := andi main_v2 main_v4
  let main_c : IVec S_ 1 := constantI S_ 1 1#1
  let main_v6 : IVec S_ 1 := (fun x v => Host.reduce IntOp.andi x v reducesTo_S4096x3072_S_d0_1 h_S_) main_v5 main_c
  main_v6
-- ==== Pre_real_entries.lean ====
abbrev S4096x1024 : Shape := ⟨2, ![4096, 1024]⟩
abbrev S512x2048 : Shape := ⟨2, ![512, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_v14 : IVec S_ 1) (main_v15 : FVec F S4096x1024 .f32) (main_v16 : FVec F S4096x1024 .f32) : IVec S_ 1 :=
  let main_v17 : IVec S4096x1024 1 := cmpf .ogt main_v15 main_v16
  let main_cst_5 : FVec F S_ .f32 := constant S_ .f32 0x7F800000#32
  let main_v18 : FVec F S4096x1024 .f32 := broadcastInDim S4096x1024 ![] bcast_S_S4096x1024 main_cst_5
  let main_v19 : IVec S4096x1024 1 := cmpf .olt main_v15 main_v18
  let main_v20 : IVec S4096x1024 1 := andi main_v17 main_v19
  let main_c_6 : IVec S_ 1 := constantI S_ 1 1#1
  let main_v21 : IVec S_ 1 := (fun x v => Host.reduce IntOp.andi x v reducesTo_S4096x1024_S_d0_1 h_S_) main_v20 main_c_6
  let main_v22 : IVec S_ 1 := andi main_v14 main_v21
  main_v22

def fn {F : FTy → Type} [FloatOps F] (main_arg0 : FVec F S4096x1024 .bf16) (main_arg1 : FVec F S512x2048 .bf16) (main_arg2 : FVec F S4096x1024 .bf16) : IVec S_ 1 :=
  let main_v0 : FVec F S4096x1024 .f32 := (extf .f32 · bitsLt_bf16_f32) main_arg0
  let main_cst : FVec F S_ .f32 := constant S_ .f32 0xFF800000#32
  let main_v1 : FVec F S4096x1024 .f32 := broadcastInDim S4096x1024 ![] bcast_S_S4096x1024 main_cst
  let main_v2 : IVec S4096x1024 1 := cmpf .ogt main_v0 main_v1
  let main_cst_0 : FVec F S_ .f32 := constant S_ .f32 0x7F800000#32
  let main_v3 : FVec F S4096x1024 .f32 := broadcastInDim S4096x1024 ![] bcast_S_S4096x1024 main_cst_0
  let main_v4 : IVec S4096x1024 1 := cmpf .olt main_v0 main_v3
  let main_v5 : IVec S4096x1024 1 := andi main_v2 main_v4
  let main_c : IVec S_ 1 := constantI S_ 1 1#1
  let main_v6 : IVec S_ 1 := (fun x v => Host.reduce IntOp.andi x v reducesTo_S4096x1024_S_d0_1 h_S_) main_v5 main_c
  let main_v7 : FVec F S512x2048 .f32 := (extf .f32 · bitsLt_bf16_f32) main_arg1
  let main_cst_1 : FVec F S_ .f32 := constant S_ .f32 0xFF800000#32
  let main_v8 : FVec F S512x2048 .f32 := broadcastInDim S512x2048 ![] bcast_S_S512x2048 main_cst_1
  let main_v9 : IVec S512x2048 1 := cmpf .ogt main_v7 main_v8
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v7 main_v10
  let main_v12 : IVec S512x2048 1 := andi main_v9 main_v11
  let main_c_3 : IVec S_ 1 := constantI S_ 1 1#1
  let main_v13 : IVec S_ 1 := (fun x v => Host.reduce IntOp.andi x v reducesTo_S512x2048_S_d0_1 h_S_) main_v12 main_c_3
  let main_v14 : IVec S_ 1 := andi main_v6 main_v13
  let main_v15 : FVec F S4096x1024 .f32 := (extf .f32 · bitsLt_bf16_f32) main_arg2
  let main_cst_4 : FVec F S_ .f32 := constant S_ .f32 0xFF800000#32
  let main_v16 : FVec F S4096x1024 .f32 := broadcastInDim S4096x1024 ![] bcast_S_S4096x1024 main_cst_4
  fn_part1 (F := F) main_v14 main_v15 main_v16
-- ==== Pre_real_hidden.lean ====
abbrev S4096x5632 : Shape := ⟨2, ![4096, 5632]⟩
abbrev S4096x2816 : Shape := ⟨2, ![4096, 2816]⟩
abbrev S_ : Shape := ⟨0, ![]⟩

class Facts : Prop where
  slices_S4096x5632_S4096x2816_0_2816 : S4096x5632.Slices ![0, 2816] S4096x2816
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel

variable [Facts]

def fn {F : FTy → Type} [FloatOps F] (main_arg0 : FVec F S4096x5632 .bf16) (main_arg1 : FVec F S4096x2816 .bf16) : IVec S_ 1 :=
  let main_v0 : FVec F S4096x2816 .bf16 := (extractStridedSlice S4096x2816 ![0, 2816] · slices_S4096x5632_S4096x2816_0_2816) main_arg0
  let main_v1 : FVec F S4096x2816 .f32 := (extf .f32 · bitsLt_bf16_f32) main_v0
  let main_cst : FVec F S_ .f32 := constant S_ .f32 0xFF800000#32
  let main_v2 : FVec F S4096x2816 .f32 := broadcastInDim S4096x2816 ![] bcast_S_S4096x2816 main_cst
  let main_v3 : IVec S4096x2816 1 := cmpf .ogt main_v1 main_v2
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v1 main_v4
  let main_v6 : IVec S4096x2816 1 := andi main_v3 main_v5
  let main_c : IVec S_ 1 := constantI S_ 1 1#1
  let main_v7 : IVec S_ 1 := (fun x v => Host.reduce IntOp.andi x v reducesTo_S4096x2816_S_d0_1 h_S_) main_v6 main_c
  let main_v8 : FVec F S4096x2816 .f32 := (extf .f32 · bitsLt_bf16_f32) main_arg1
  let main_cst_1 : FVec F S_ .f32 := constant S_ .f32 0xFF800000#32
  let main_v9 : FVec F S4096x2816 .f32 := broadcastInDim S4096x2816 ![] bcast_S_S4096x2816 main_cst_1
  let main_v10 : IVec S4096x2816 1 := cmpf .ogt main_v8 main_v9
  let main_cst_2 : FVec F S_ .f32 := constant S_ .f32 0x7F800000#32
  let main_v11 : FVec F S4096x2816 .f32 := broadcastInDim S4096x2816 ![] bcast_S_S4096x2816 main_cst_2
  let main_v12 : IVec S4096x2816 1 := cmpf .olt main_v8 main_v11
  let main_v13 : IVec S4096x2816 1 := andi main_v10 main_v12
  let main_c_3 : IVec S_ 1 := constantI S_ 1 1#1
  let main_v14 : IVec S_ 1 := (fun x v => Host.reduce IntOp.andi x v reducesTo_S4096x2816_S_d0_1 h_S_) main_v13 main_c_3
  let main_v15 : IVec S_ 1 := andi main_v7 main_v14
  main_v15
-- ==== Pre_real_normed.lean ====
abbrev S4096x2048 : Shape := ⟨2, ![4096, 2048]⟩
abbrev S4096x9216 : Shape := ⟨2, ![4096, 9216]⟩
abbrev S2048 : Shape := ⟨1, ![2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .bf16) (main_arg1 : FVec F S4096x2048 .bf16) (main_arg2 : FVec F S4096x9216 .bf16) (main_arg3 : FVec F S2048 .f32) (main_arg4 : FVec F S4096x9216 .bf16) : IVec S_ 1 :=
  let main_v0 : FVec F S4096x2048 .f32 := (extf .f32 · bitsLt_bf16_f32) main_arg0
  let main_cst : FVec F S_ .f32 := constant S_ .f32 0xFF800000#32
  let main_v1 : FVec F S4096x2048 .f32 := broadcastInDim S4096x2048 ![] bcast_S_S4096x2048 main_cst
  let main_v2 : IVec S4096x2048 1 := cmpf .ogt main_v0 main_v1
  let main_cst_0 : FVec F S_ .f32 := constant S_ .f32 0x7F800000#32
  let main_v3 : FVec F S4096x2048 .f32 := broadcastInDim S4096x2048 ![] bcast_S_S4096x2048 main_cst_0
  let main_v4 : IVec S4096x2048 1 := cmpf .olt main_v0 main_v3
  let main_v5 : IVec S4096x2048 1 := andi main_v2 main_v4
  let main_c : IVec S_ 1 := constantI S_ 1 1#1
  let main_v6 : IVec S_ 1 := (fun x v => Host.reduce IntOp.andi x v reducesTo_S4096x2048_S_d0_1 h_S_) main_v5 main_c
  let main_cst_1 : FVec F S_ .f32 := constant S_ .f32 0xFF800000#32
  let main_v7 : FVec F S2048 .f32 := broadcastInDim S2048 ![] bcast_S_S2048 main_cst_1
  let main_v8 : IVec S2048 1 := cmpf .ogt main_arg3 main_v7
  let main_cst_2 : FVec F S_ .f32 := constant S_ .f32 0x7F800000#32
  let main_v9 : FVec F S2048 .f32 := broadcastInDim S2048 ![] bcast_S_S2048 main_cst_2
  let main_v10 : IVec S2048 1 := cmpf .olt main_arg3 main_v9
  let main_v11 : IVec S2048 1 := andi main_v8 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v6 main_v12
  main_v13
-- ==== Kernel.lean ====
abbrev S4096x9216 : Shape := ⟨2, ![4096, 9216]⟩
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S8x128x1 : Shape := ⟨3, ![8, 128, 1]⟩
abbrev S1x1024 : Shape := ⟨2, ![1, 1024]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S1x128x1 : Shape := ⟨3, ![1, 128, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x9216, .bf16⟩
  | .hbm, ⟨1, _⟩ => ⟨S4096x1024, .bf16⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S4096x9216, .bf16⟩
  | .hbm, ⟨7, _⟩ => ⟨S8x128x1, .f32⟩
  | .hbm, ⟨8, _⟩ => ⟨S1x1024, .f32⟩
  | .hbm, ⟨9, _⟩ => ⟨S1x1024, .f32⟩
  | .hbm, ⟨10, _⟩ => ⟨S4096x9216, .bf16⟩
  | .hbm, ⟨11, _⟩ => ⟨S8x128x128, .f32⟩
  | .hbm, ⟨12, _⟩ => ⟨S8x128x1, .f32⟩
  | .hbm, ⟨13, _⟩ => ⟨S1x1024, .f32⟩
  | .hbm, ⟨14, _⟩ => ⟨S1x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x1, .f32⟩
  | .local _ .vmem, ⟨10, _⟩ => ⟨S128x2048, .bf16⟩
  | .local _ .vmem, ⟨11, _⟩ => ⟨S128x2048, .bf16⟩
  | .local _ .vmem, ⟨12, _⟩ => ⟨S8x128x128, .f32⟩
  | .local _ .vmem, ⟨13, _⟩ => ⟨S8x128x1, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceIdeal.lean ====
abbrev S4096x9216 : Shape := ⟨2, ![4096, 9216]⟩
abbrev S4096x1024 : Shape := ⟨2, ![4096, 1024]⟩
abbrev S1024 : Shape := ⟨1, ![1024]⟩
abbrev S8x128x128 : Shape := ⟨3, ![8, 128, 128]⟩
abbrev S8x128 : Shape := ⟨2, ![8, 128]⟩
abbrev S2x2048x9216 : Shape := ⟨3, ![2, 2048, 9216]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x16x128x8x128 : Shape := ⟨5, ![2, 16, 128, 8, 128]⟩
abbrev S128x128 : Shape := ⟨2, ![128, 128]⟩
abbrev S1x128x128 : Shape := ⟨3, ![1, 128, 128]⟩
abbrev S8x2x16x128x128 : Shape := ⟨5, ![8, 2, 16, 128, 128]⟩
abbrev S128x8 : Shape := ⟨2, ![128, 8]⟩
abbrev S1x1x128x8x1 : Shape := ⟨5, ![1, 1, 128, 8, 1]⟩
abbrev S4096x2048 : Shape := ⟨2, ![4096, 2048]⟩
abbrev S4096x7168 : Shape := ⟨2, ![4096, 7168]⟩
abbrev S8x128x1 : Shape := ⟨3, ![8, 128, 1]⟩
abbrev S1x1024 : Shape := ⟨2, ![1, 1024]⟩

abbrev nBuf : Space → Nat
  | .hbm => 216
  | .vmem => 0
  | .smem => 0
  | _ => 0

abbrev hbmTy0_0 (i : Nat) : BufTy := match i % 128 with
  | 0 => ⟨S4096x9216, .bf16⟩
  | 1 => ⟨S4096x1024, .bf16⟩
  | 2 => ⟨S1024, .f32⟩
  | 3 => ⟨S1024, .f32⟩
  | 4 => ⟨S8x128x128, .f32⟩
  | 5 => ⟨S8x128, .f32⟩
  | 6 => ⟨S4096x9216, .bf16⟩
  | 7 => ⟨S4096x9216, .f32⟩
  | 8 => ⟨S2x2048x9216, .f32⟩
  | 9 => ⟨S4096x1024, .f32⟩
  | 10 => ⟨S2x2048x1024, .f32⟩
  | 11 => ⟨S2x2048x1024, .f32⟩
  | 12 => ⟨S2x2048x1024, .f32⟩
  | 13 => ⟨S_, .f32⟩
  | 14 => ⟨S2x2048x1024, .f32⟩
  | 15 => ⟨S2x2048x1024, .f32⟩
  | 16 => ⟨S_, .f32⟩
  | 17 => ⟨S_, .f32⟩
  | 18 => ⟨S_, .f32⟩
  | 19 => ⟨S2x2048x1024, .f32⟩
  | 20 => ⟨S2x2048x1024, .f32⟩
  | 21 => ⟨S_, .f32⟩
  | 22 => ⟨S_, .f32⟩
  | 23 => ⟨S_, .f32⟩
  | 24 => ⟨S_, .f32⟩
  | 25 => ⟨S2x2048x1024, .f32⟩
  | 26 => ⟨S_, .f32⟩
  | 27 => ⟨S_, .f32⟩
  | 28 => ⟨S_, .f32⟩
  | 29 => ⟨S2x2048x1024, .f32⟩
  | 30 => ⟨S2x2048x1024, .f32⟩
  | 31 => ⟨S2x2048x1024, .f32⟩
  | 32 => ⟨S_, .f32⟩
  | 33 => ⟨S2x2048x1024, .f32⟩
  | 34 => ⟨S2x2048x1024, .f32⟩
  | 35 => ⟨S_, .f32⟩
  | 36 => ⟨S2x2048x1024, .f32⟩
  | 37 => ⟨S2x2048x1024, .f32⟩
  | 38 => ⟨S2x2048x1024, .f32⟩
  | 39 => ⟨S_, .f32⟩
  | 40 => ⟨S2x2048x1024, .f32⟩
  | 41 => ⟨S2x2048x1024, .f32⟩
  | 42 => ⟨S_, .f32⟩
  | 43 => ⟨S_, .f32⟩
  | 44 => ⟨S_, .f32⟩
  | 45 => ⟨S2x2048x1024, .f32⟩
  | 46 => ⟨S2x2048x1024, .f32⟩
  | 47 => ⟨S_, .f32⟩
  | 48 => ⟨S_, .f32⟩
  | 49 => ⟨S_, .f32⟩
  | 50 => ⟨S_, .f32⟩
  | 51 => ⟨S2x2048x1024, .f32⟩
  | 52 => ⟨S_, .f32⟩
  | 53 => ⟨S_, .f32⟩
  | 54 => ⟨S_, .f32⟩
  | 55 => ⟨S2x2048x1024, .f32⟩
  | 56 => ⟨S2x2048x1024, .f32⟩
  | 57 => ⟨S2x2048x1024, .f32⟩
  | 58 => ⟨S_, .f32⟩
  | 59 => ⟨S2x2048x1024, .f32⟩
  | 60 => ⟨S2x2048x1024, .f32⟩
  | 61 => ⟨S_, .f32⟩
  | 62 => ⟨S2x2048x1024, .f32⟩
  | 63 => ⟨S2x2048x1024, .f32⟩
  | 64 => ⟨S2x2048x1024, .f32⟩
  | 65 => ⟨S_, .f32⟩
  | 66 => ⟨S2x2048, .f32⟩
  | 67 => ⟨S2x2048x1, .f32⟩
  | 68 => ⟨S_, .f32⟩
  | 69 => ⟨S2x2048x1, .f32⟩
  | 70 => ⟨S2x2048x1, .f32⟩
  | 71 => ⟨S2x2048x1024, .f32⟩
  | 72 => ⟨S2x2048x1024, .f32⟩
  | 73 => ⟨S2x2048x1024, .f32⟩
  | 74 => ⟨S_, .f32⟩
  | 75 => ⟨S2x2048x1024, .f32⟩
  | 76 => ⟨S2x2048x1024, .f32⟩
  | 77 => ⟨S_, .f32⟩
  | 78 => ⟨S2x2048, .f32⟩
  | 79 => ⟨S2x2048x1, .f32⟩
  | 80 => ⟨S_, .f32⟩
  | 81 => ⟨S2x2048x1, .f32⟩
  | 82 => ⟨S2x2048x1, .f32⟩
  | 83 => ⟨S2x2048x1024, .f32⟩
  | 84 => ⟨S2x2048x1024, .f32⟩
  | 85 => ⟨S_, .f32⟩
  | 86 => ⟨S2x2048x1, .f32⟩
  | 87 => ⟨S2x2048x1, .f32⟩
  | 88 => ⟨S2x2048x1, .f32⟩
  | 89 => ⟨S2x2048x1, .f32⟩
  | 90 => ⟨S_, .f32⟩
  | 91 => ⟨S2x2048x1, .f32⟩
  | 92 => ⟨S2x2048x1, .f32⟩
  | 93 => ⟨S2x2048x1024, .f32⟩
  | 94 => ⟨S2x2048x1024, .f32⟩
  | 95 => ⟨S1x1x1024, .f32⟩
  | 96 => ⟨S2x2048x1024, .f32⟩
  | 97 => ⟨S2x2048x1024, .f32⟩
  | 98 => ⟨S1x1x1024, .f32⟩
  | 99 => ⟨S2x2048x1024, .f32⟩
  | 100 => ⟨S2x2048x1024, .f32⟩
  | 101 => ⟨S2x16x128x8x128, .f32⟩
  | 102 => ⟨S_, .i1⟩
  | 103 => ⟨S128x128, .i1⟩
  | 104 => ⟨S128x128, .i32⟩
  | 105 => ⟨S_, .i32⟩
  | 106 => ⟨S128x128, .i32⟩
  | 107 => ⟨S128x128, .i32⟩
  | 108 => ⟨S128x128, .i32⟩
  | 109 => ⟨S128x128, .i1⟩
  | 110 => ⟨S_, .i1⟩
  | 111 => ⟨S128x128, .i1⟩
  | 112 => ⟨S128x128, .i1⟩
  | 113 => ⟨S1x128x128, .i1⟩
  | 114 => ⟨S_, .f32⟩
  | 115 => ⟨S8x128x128, .i1⟩
  | 116 => ⟨S8x128x128, .f32⟩
  | 117 => ⟨S8x128x128, .f32⟩
  | 118 => ⟨S_, .f32⟩
  | 119 => ⟨S8x128x128, .f32⟩
  | 120 => ⟨S8x2x16x128x128, .f32⟩
  | 121 => ⟨S2x16x128x8x128, .f32⟩
  | 122 => ⟨S128x8, .f32⟩
  | 123 => ⟨S1x1x128x8x1, .f32⟩
  | 124 => ⟨S2x16x128x8x128, .f32⟩
  | 125 => ⟨S2x16x128x8x128, .f32⟩
  | 126 => ⟨S2x2048x1024, .f32⟩
  | 127 => ⟨S2x2048x1024, .f32⟩
  | _ => ⟨S4096x9216, .bf16⟩

abbrev hbmTy0_1 (i : Nat) : BufTy := match i % 128 with
  | 0 => ⟨S2x2048x1024, .f32⟩
  | 1 => ⟨S2x2048x1024, .f32⟩
  | 2 => ⟨S2x16x128x8x128, .f32⟩
  | 3 => ⟨S_, .f32⟩
  | 4 => ⟨S128x8, .f32⟩
  | 5 => ⟨S1x1x128x8x1, .f32⟩
  | 6 => ⟨S_, .f32⟩
  | 7 => ⟨S128x8, .f32⟩
  | 8 => ⟨S8x128, .f32⟩
  | 9 => ⟨S8x2x16x128x128, .f32⟩
  | 10 => ⟨S8x128x128, .f32⟩
  | 11 => ⟨S8x2x16x128x128, .f32⟩
  | 12 => ⟨S2x16x128x8x128, .f32⟩
  | 13 => ⟨S_, .f32⟩
  | 14 => ⟨S8x128x128, .f32⟩
  | 15 => ⟨S8x128x128, .f32⟩
  | 16 => ⟨S2x2048x1024, .f32⟩
  | 17 => ⟨S_, .f32⟩
  | 18 => ⟨S1024, .f32⟩
  | 19 => ⟨S1x1x1024, .f32⟩
  | 20 => ⟨S_, .f32⟩
  | 21 => ⟨S1024, .f32⟩
  | 22 => ⟨S2x2048x1024, .f32⟩
  | 23 => ⟨S_, .f32⟩
  | 24 => ⟨S1024, .f32⟩
  | 25 => ⟨S1x1x1024, .f32⟩
  | 26 => ⟨S2x2048x1024, .f32⟩
  | 27 => ⟨S2x2048x1024, .f32⟩
  | 28 => ⟨S_, .f32⟩
  | 29 => ⟨S1024, .f32⟩
  | 30 => ⟨S2x2048x1024, .f32⟩
  | 31 => ⟨S_, .f32⟩
  | 32 => ⟨S2x2048, .f32⟩
  | 33 => ⟨S2x2048x1, .f32⟩
  | 34 => ⟨S2x2048x1024, .f32⟩
  | 35 => ⟨S2x2048x1024, .f32⟩
  | 36 => ⟨S2x2048x1, .f32⟩
  | 37 => ⟨S2x2048x1024, .f32⟩
  | 38 => ⟨S_, .f32⟩
  | 39 => ⟨S2x2048, .f32⟩
  | 40 => ⟨S2x2048x1, .f32⟩
  | 41 => ⟨S_, .f32⟩
  | 42 => ⟨S2x2048x1, .f32⟩
  | 43 => ⟨S2x2048x1, .f32⟩
  | 44 => ⟨S_, .f32⟩
  | 45 => ⟨S2x2048, .f32⟩
  | 46 => ⟨S2x2048x1024, .f32⟩
  | 47 => ⟨S2x2048x1024, .f32⟩
  | 48 => ⟨S2x2048x1024, .f32⟩
  | 49 => ⟨S_, .f32⟩
  | 50 => ⟨S2x2048, .f32⟩
  | 51 => ⟨S2x2048x1, .f32⟩
  | 52 => ⟨S2x2048x1024, .f32⟩
  | 53 => ⟨S2x2048x1, .f32⟩
  | 54 => ⟨S_, .f32⟩
  | 55 => ⟨S2x2048x1, .f32⟩
  | 56 => ⟨S2x2048x1, .f32⟩
  | 57 => ⟨S_, .f32⟩
  | 58 => ⟨S2x2048, .f32⟩
  | 59 => ⟨S2x2048x1024, .f32⟩
  | 60 => ⟨S2x2048x1024, .f32⟩
  | 61 => ⟨S2x2048x1024, .f32⟩
  | 62 => ⟨S2x2048x1024, .f32⟩
  | 63 => ⟨S2x2048x1024, .f32⟩
  | 64 => ⟨S2x2048x1024, .f32⟩
  | 65 => ⟨S2x2048x1024, .f32⟩
  | 66 => ⟨S_, .f32⟩
  | 67 => ⟨S2x2048x1024, .f32⟩
  | 68 => ⟨S2x2048x1024, .f32⟩
  | 69 => ⟨S2x2048x1024, .f32⟩
  | 70 => ⟨S2x2048x1024, .f32⟩
  | 71 => ⟨S2x2048x1024, .f32⟩
  | 72 => ⟨S2x2048x1024, .f32⟩
  | 73 => ⟨S2x2048x1024, .f32⟩
  | 74 => ⟨S2x2048x1024, .f32⟩
  | 75 => ⟨S_, .f32⟩
  | 76 => ⟨S2x2048x1024, .f32⟩
  | 77 => ⟨S2x2048x1024, .f32⟩
  | 78 => ⟨S2x2048x1024, .f32⟩
  | 79 => ⟨S4096x1024, .f32⟩
  | 80 => ⟨S4096x1024, .f32⟩
  | 81 => ⟨S4096x2048, .f32⟩
  | 82 => ⟨S4096x2048, .bf16⟩
  | 83 => ⟨S4096x7168, .bf16⟩
  | 84 => ⟨S4096x9216, .bf16⟩
  | 85 => ⟨S8x128x1, .f32⟩
  | 86 => ⟨S1x1024, .f32⟩
  | 87 => ⟨S1x1024, .f32⟩
  | _ => ⟨S4096x9216, .bf16⟩

abbrev hbmTy (i : Nat) : BufTy := match i / 128 with
  | 0 => hbmTy0_0 i
  | 1 => hbmTy0_1 i
  | _ => ⟨S4096x9216, .bf16⟩

abbrev bufTy : (tb : Table) → Fin (tcTables nBuf tb) → BufTy
  | .hbm, ⟨i, _⟩ => hbmTy i
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c : Ref sig .tc := ⟨.hbm, 102, rfl⟩
abbrev main_v76 : Ref sig .tc := ⟨.hbm, 103, rfl⟩
abbrev main_call0_v0 : Ref sig .tc := ⟨.hbm, 104, rfl⟩
abbrev main_call0_c : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_c_0 : Ref sig .tc := ⟨.hbm, 110, rfl⟩
abbrev main_call0_v5 : Ref sig .tc := ⟨.hbm, 111, rfl⟩
abbrev main_v77 : Ref sig .tc := ⟨.hbm, 112, rfl⟩
abbrev main_v78 : Ref sig .tc := ⟨.hbm, 113, rfl⟩
abbrev main_cst_18 : Ref sig .tc := ⟨.hbm, 114, rfl⟩
abbrev main_v79_1 : Ref sig .tc := ⟨.hbm, 115, rfl⟩
abbrev main_call1_v1 : Ref sig .tc := ⟨.hbm, 116, rfl⟩
abbrev main_v79_0 : Ref sig .tc := ⟨.hbm, 117, rfl⟩
abbrev main_call1_cst : Ref sig .tc := ⟨.hbm, 118, rfl⟩
abbrev main_v79_2 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_cst_20 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_call2_cst : Ref sig .tc := ⟨.hbm, 141, rfl⟩
abbrev main_call2_v0 : Ref sig .tc := ⟨.hbm, 142, rfl⟩
abbrev main_v99 : Ref sig .tc := ⟨.hbm, 143, rfl⟩
abbrev main_v100 : Ref sig .tc := ⟨.hbm, 144, rfl⟩
abbrev main_cst_21 : Ref sig .tc := ⟨.hbm, 145, rfl⟩
abbrev main_v101 : Ref sig .tc := ⟨.hbm, 146, rfl⟩
abbrev main_v102 : Ref sig .tc := ⟨.hbm, 147, rfl⟩
abbrev main_cst_22 : Ref sig .tc := ⟨.hbm, 148, rfl⟩
abbrev main_v103 : Ref sig .tc := ⟨.hbm, 149, rfl⟩
abbrev main_v104 : Ref sig .tc := ⟨.hbm, 150, rfl⟩
abbrev main_cst_23 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_24 : Ref sig .tc := ⟨.hbm, 156, rfl⟩
abbrev main_v109 : Ref sig .tc := ⟨.hbm, 157, rfl⟩
abbrev main_v110 : Ref sig .tc := ⟨.hbm, 158, rfl⟩
abbrev main_cst_25 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_26 : Ref sig .tc := ⟨.hbm, 166, rfl⟩
abbrev main_v117 : Ref sig .tc := ⟨.hbm, 167, rfl⟩
abbrev main_v118 : Ref sig .tc := ⟨.hbm, 168, rfl⟩
abbrev main_cst_27 : Ref sig .tc := ⟨.hbm, 169, rfl⟩
abbrev main_v119 : Ref sig .tc := ⟨.hbm, 170, rfl⟩
abbrev main_v120 : Ref sig .tc := ⟨.hbm, 171, rfl⟩
abbrev main_cst_28 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_29 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_cst_31 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_32 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_cst_33 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩

abbrev nD : Nat := 1
abbrev τ : Topo := Topo.v7x

variable {F : FTy → Type} [FloatOps F]
-- ==== DwMain.lean ====
abbrev S4096x1024 : Shape := ⟨2, ![4096, 1024]⟩
abbrev S4096x9216 : Shape := ⟨2, ![4096, 9216]⟩
abbrev S1024x9216 : Shape := ⟨2, ![1024, 9216]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x9216, .bf16⟩
  | .hbm, ⟨2, _⟩ => ⟨S1024x9216, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMainRefIdeal.lean ====
abbrev S4096x1024 : Shape := ⟨2, ![4096, 1024]⟩
abbrev S4096x9216 : Shape := ⟨2, ![4096, 9216]⟩
abbrev S_ : Shape := ⟨0, ![]⟩
abbrev S1024x9216 : Shape := ⟨2, ![1024, 9216]⟩
abbrev S9216x1024 : Shape := ⟨2, ![9216, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x9216, .bf16⟩
  | .hbm, ⟨2, _⟩ => ⟨S_, .f32⟩
  | .hbm, ⟨3, _⟩ => ⟨S1024x9216, .f32⟩
  | .hbm, ⟨4, _⟩ => ⟨S4096x1024, .f32⟩
  | .hbm, ⟨5, _⟩ => ⟨S4096x9216, .f32⟩
  | .hbm, ⟨6, _⟩ => ⟨S4096x9216, .f32⟩
  | .hbm, ⟨7, _⟩ => ⟨S9216x1024, .f32⟩
  | .hbm, ⟨8, _⟩ => ⟨S1024x9216, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxMain.lean ====
abbrev S4096x9216 : Shape := ⟨2, ![4096, 9216]⟩
abbrev S1024x9216 : Shape := ⟨2, ![1024, 9216]⟩
abbrev S8x128 : Shape := ⟨2, ![8, 128]⟩
abbrev S4096x1024 : Shape := ⟨2, ![4096, 1024]⟩
abbrev S1024x3072 : Shape := ⟨2, ![1024, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x9216, .bf16⟩
  | .hbm, ⟨1, _⟩ => ⟨S1024x9216, .bf16⟩
  | .hbm, ⟨2, _⟩ => ⟨S8x128, .f32⟩
  | .hbm, ⟨3, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxMainRefIdeal.lean ====
abbrev S4096x9216 : Shape := ⟨2, ![4096, 9216]⟩
abbrev S1024x9216 : Shape := ⟨2, ![1024, 9216]⟩
abbrev S8x128 : Shape := ⟨2, ![8, 128]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S1024x9216, .bf16⟩
  | .hbm, ⟨2, _⟩ => ⟨S8x128, .f32⟩
  | .hbm, ⟨3, _⟩ => ⟨S_, .f32⟩
  | .hbm, ⟨4, _⟩ => ⟨S4096x1024, .f32⟩
  | .hbm, ⟨5, _⟩ => ⟨S1024x9216, .f32⟩
  | .hbm, ⟨6, _⟩ => ⟨S4096x9216, .f32⟩
  | .hbm, ⟨7, _⟩ => ⟨S4096x9216, .f32⟩
  | .hbm, ⟨8, _⟩ => ⟨S4096x1024, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proj.lean ====
abbrev S4096x1024 : Shape := ⟨2, ![4096, 1024]⟩
abbrev S1024x9216 : Shape := ⟨2, ![1024, 9216]⟩
abbrev S4096x9216 : Shape := ⟨2, ![4096, 9216]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x9216 : Shape := ⟨2, ![1024, 9216]⟩
abbrev S4096x9216 : Shape := ⟨2, ![4096, 9216]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x1024, .f32⟩
  | .hbm, ⟨3, _⟩ => ⟨S1024x9216, .f32⟩
  | .hbm, ⟨4, _⟩ => ⟨S4096x9216, .f32⟩
  | .hbm, ⟨5, _⟩ => ⟨S4096x9216, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwDt.lean ====
abbrev S4096x1024 : Shape := ⟨2, ![4096, 1024]⟩
abbrev S4096x128 : Shape := ⟨2, ![4096, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .f32⟩
  | .local _ .vmem, ⟨0, _⟩ => ⟨S4096x1024, .bf16⟩
  | .local _ .vmem, ⟨1, _⟩ => ⟨S4096x128, .f32⟩
  | .local _ .vmem, ⟨2, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwDtRefIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S128x1024, .f32⟩
  | .hbm, ⟨7, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxDt.lean ====
abbrev S4096x128 : Shape := ⟨2, ![4096, 128]⟩
abbrev S1024x128 : Shape := ⟨2, ![1024, 128]⟩
abbrev S8x128 : Shape := ⟨2, ![8, 128]⟩
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S8x128, .f32⟩
  | .hbm, ⟨3, _⟩ => ⟨S4096x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxDtRefIdeal.lean ====
abbrev S4096x128 : Shape := ⟨2, ![4096, 128]⟩
abbrev S1024x128 : Shape := ⟨2, ![1024, 128]⟩
abbrev S8x128 : Shape := ⟨2, ![8, 128]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1024x128, .bf16⟩
  | .hbm, ⟨2, _⟩ => ⟨S8x128, .f32⟩
  | .hbm, ⟨3, _⟩ => ⟨S_, .f32⟩
  | .hbm, ⟨4, _⟩ => ⟨S4096x1024, .f32⟩
  | .hbm, ⟨5, _⟩ => ⟨S1024x128, .f32⟩
  | .hbm, ⟨6, _⟩ => ⟨S4096x128, .f32⟩
  | .hbm, ⟨7, _⟩ => ⟨S4096x1024, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DtProj.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtProjRefIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwFfnIn.lean ====
abbrev S4096x1024 : Shape := ⟨2, ![4096, 1024]⟩
abbrev S4096x5632 : Shape := ⟨2, ![4096, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnInRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxFfnIn.lean ====
abbrev S4096x5632 : Shape := ⟨2, ![4096, 5632]⟩
abbrev S1024x5632 : Shape := ⟨2, ![1024, 5632]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxFfnInRefIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwFfnOut.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnOutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxFfnOut.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxFfnOutRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwBrB.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBrBRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxBrB.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxBrBRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BrB.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrBRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DwSquare.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSquareRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxSquareLow.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxSquareLowRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxSquare.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxSquareRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SquareLow.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareLowRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Square.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwKv.lean ====
abbrev S512x1024 : Shape := ⟨2, ![512, 1024]⟩
abbrev S512x2048 : Shape := ⟨2, ![512, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwKvRefIdeal.lean ====
abbrev S512x1024 : Shape := ⟨2, ![512, 1024]⟩
abbrev S512x2048 : Shape := ⟨2, ![512, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S_, .f32⟩
  | .hbm, ⟨3, _⟩ => ⟨S1024x2048, .f32⟩
  | .hbm, ⟨4, _⟩ => ⟨S512x1024, .f32⟩
  | .hbm, ⟨5, _⟩ => ⟨S512x2048, .f32⟩
  | .hbm, ⟨6, _⟩ => ⟨S512x2048, .f32⟩
  | .hbm, ⟨7, _⟩ => ⟨S2048x1024, .f32⟩
  | .hbm, ⟨8, _⟩ => ⟨S1024x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxKv.lean ====
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S1024x2048, .bf16⟩
  | .hbm, ⟨2, _⟩ => ⟨S512x1024, .f32⟩
  | .local _ .vmem, ⟨0, _⟩ => ⟨S512x2048, .bf16⟩
  | .local _ .vmem, ⟨1, _⟩ => ⟨S1024x2048, .bf16⟩
  | .local _ .vmem, ⟨2, _⟩ => ⟨S512x1024, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DxKvRefIdeal.lean ====
abbrev S512x2048 : Shape := ⟨2, ![512, 2048]⟩
abbrev S1024x2048 : Shape := ⟨2, ![1024, 2048]⟩
abbrev S_ : Shape := ⟨0, ![]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1024x2048, .bf16⟩
  | .hbm, ⟨2, _⟩ => ⟨S_, .f32⟩
  | .hbm, ⟨3, _⟩ => ⟨S512x1024, .f32⟩
  | .hbm, ⟨4, _⟩ => ⟨S1024x2048, .f32⟩
  | .hbm, ⟨5, _⟩ => ⟨S512x2048, .f32⟩
  | .hbm, ⟨6, _⟩ => ⟨S512x2048, .f32⟩
  | .hbm, ⟨7, _⟩ => ⟨S512x1024, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kv.lean ====
abbrev S512x1024 : Shape := ⟨2, ![512, 1024]⟩
abbrev S1024x2048 : Shape := ⟨2, ![1024, 2048]⟩
abbrev S512x2048 : Shape := ⟨2, ![512, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S1024x2048, .bf16⟩
  | .hbm, ⟨2, _⟩ => ⟨S512x2048, .bf16⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x2048, .bf16⟩
  | .hbm, ⟨2, _⟩ => ⟨S512x1024, .f32⟩
  | .hbm, ⟨3, _⟩ => ⟨S1024x2048, .f32⟩
  | .hbm, ⟨4, _⟩ => ⟨S512x2048, .f32⟩
  | .hbm, ⟨5, _⟩ => ⟨S512x2048, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttnBwd.lean ====
abbrev S4096x1024 : Shape := ⟨2, ![4096, 1024]⟩
abbrev S512x2048 : Shape := ⟨2, ![512, 2048]⟩
abbrev S512x1024 : Shape := ⟨2, ![512, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 6
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .hbm, ⟨3, _⟩ => ⟨S4096x1024, .bf16⟩
  | .hbm, ⟨4, _⟩ => ⟨S512x1024, .bf16⟩
  | .hbm, ⟨5, _⟩ => ⟨S512x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnBwdRefIdeal.lean ====
abbrev S4096x1024 : Shape := ⟨2, ![4096, 1024]⟩
abbrev S512x2048 : Shape := ⟨2, ![512, 2048]⟩
abbrev S2x2048x1024 : Shape := ⟨3, ![2, 2048, 1024]⟩
abbrev S2x256x2048 : Shape := ⟨3, ![2, 256, 2048]⟩
abbrev S2x256x1024 : Shape := ⟨3, ![2, 256, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩
abbrev S512x1024 : Shape := ⟨2, ![512, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .hbm, ⟨3, _⟩ => ⟨S4096x1024, .f32⟩
  | .hbm, ⟨4, _⟩ => ⟨S2x2048x1024, .f32⟩
  | .hbm, ⟨5, _⟩ => ⟨S512x2048, .f32⟩
  | .hbm, ⟨6, _⟩ => ⟨S2x256x2048, .f32⟩
  | .hbm, ⟨7, _⟩ => ⟨S2x256x1024, .f32⟩
  | .hbm, ⟨8, _⟩ => ⟨S2x256x1024, .f32⟩
  | .hbm, ⟨9, _⟩ => ⟨S4096x1024, .f32⟩
  | .hbm, ⟨10, _⟩ => ⟨S2x2048x1024, .f32⟩
  | .hbm, ⟨11, _⟩ => ⟨S2x2048x4x256, .f32⟩
  | .hbm, ⟨12, _⟩ => ⟨S2x256x4x256, .f32⟩
  | .hbm, ⟨13, _⟩ => ⟨S2x256x4x256, .f32⟩
  | .hbm, ⟨14, _⟩ => ⟨S2x4x2048x256, .f32⟩
  | .hbm, ⟨15, _⟩ => ⟨S_, .f32⟩
  | .hbm, ⟨16, _⟩ => ⟨S2x4x2048x256, .f32⟩
  | .hbm, ⟨17, _⟩ => ⟨S2x4x2048x256, .f32⟩
  | .hbm, ⟨18, _⟩ => ⟨S_, .f32⟩
  | .hbm, ⟨19, _⟩ => ⟨S2x4x2048, .f32⟩
  | .hbm, ⟨20, _⟩ => ⟨S2x4x2048x1, .f32⟩
  | .hbm, ⟨21, _⟩ => ⟨S2x4x2048x256, .f32⟩
  | .hbm, ⟨22, _⟩ => ⟨S2x4x2048x256, .i1⟩
  | .hbm, ⟨23, _⟩ => ⟨S2x4x2048x256, .f32⟩
  | .hbm, ⟨24, _⟩ => ⟨S_, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .f32⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S2x4x2048, .i1⟩
  | .hbm, ⟨35, _⟩ => ⟨S_, .f32⟩
  | .hbm, ⟨36, _⟩ => ⟨S2x4x2048, .f32⟩
  | .hbm, ⟨37, _⟩ => ⟨S_, .f32⟩
  | .hbm, ⟨38, _⟩ => ⟨S2x4x2048, .f32⟩
  | .hbm, ⟨39, _⟩ => ⟨S_, .f32⟩
  | .hbm, ⟨40, _⟩ => ⟨S2x4x2048, .f32⟩
  | .hbm, ⟨41, _⟩ => ⟨S2x4x2048, .f32⟩
  | .hbm, ⟨42, _⟩ => ⟨S2x4x2048, .f32⟩
  | .hbm, ⟨43, _⟩ => ⟨S2x4x2048x1, .f32⟩
  | .hbm, ⟨44, _⟩ => ⟨S2x4x2048x256, .f32⟩
  | .hbm, ⟨45, _⟩ => ⟨S2x4x2048x256, .f32⟩
  | .hbm, ⟨46, _⟩ => ⟨S2x4x2048x256, .f32⟩
  | .hbm, ⟨47, _⟩ => ⟨S_, .f32⟩
  | .hbm, ⟨48, _⟩ => ⟨S2x4x2048, .f32⟩
  | .hbm, ⟨49, _⟩ => ⟨S2x4x2048x1, .f32⟩
  | .hbm, ⟨50, _⟩ => ⟨S2x4x2048x256, .f32⟩
  | .hbm, ⟨51, _⟩ => ⟨S2x4x2048x256, .f32⟩
  | .hbm, ⟨52, _⟩ => ⟨S2x4x2048x1, .f32⟩
  | .hbm, ⟨53, _⟩ => ⟨S_, .f32⟩
  | .hbm, ⟨54, _⟩ => ⟨S2x4x2048x1, .f32⟩
  | .hbm, ⟨55, _⟩ => ⟨S2x4x2048x1, .f32⟩
  | .hbm, ⟨56, _⟩ => ⟨S2x4x256x2048, .f32⟩
  | .hbm, ⟨57, _⟩ => ⟨S2x2048x4x256, .f32⟩
  | .hbm, ⟨58, _⟩ => ⟨S2x2048x1024, .f32⟩
  | .hbm, ⟨59, _⟩ => ⟨S2x2048x4x256, .f32⟩
  | .hbm, ⟨60, _⟩ => ⟨S2x4x256x2048, .f32⟩
  | .hbm, ⟨61, _⟩ => ⟨S2x4x2048x256, .f32⟩
  | .hbm, ⟨62, _⟩ => ⟨S2x4x256x256, .f32⟩
  | .hbm, ⟨63, _⟩ => ⟨S2x256x4x256, .f32⟩
  | .hbm, ⟨64, _⟩ => ⟨S2x4x2048x256, .f32⟩
  | .hbm, ⟨65, _⟩ => ⟨S2x4x2048x256, .f32⟩
  | .hbm, ⟨66, _⟩ => ⟨S2x4x2048x256, .f32⟩
  | .hbm, ⟨67, _⟩ => ⟨S_, .f32⟩
  | .hbm, ⟨68, _⟩ => ⟨S2x4x2048, .f32⟩
  | .hbm, ⟨69, _⟩ => ⟨S2x4x2048x1, .f32⟩
  | .hbm, ⟨70, _⟩ => ⟨S2x4x2048x1, .f32⟩
  | .hbm, ⟨71, _⟩ => ⟨S2x4x2048x256, .f32⟩
  | .hbm, ⟨72, _⟩ => ⟨S2x4x2048x256, .f32⟩
  | .hbm, ⟨73, _⟩ => ⟨S_, .f32⟩
  | .hbm, ⟨74, _⟩ => ⟨S2x4x2048, .f32⟩
  | .hbm, ⟨75, _⟩ => ⟨S2x4x2048x256, .f32⟩
  | .hbm, ⟨76, _⟩ => ⟨S2x4x2048x256, .f32⟩
  | .hbm, ⟨77, _⟩ => ⟨S2x4x2048x256, .f32⟩
  | .hbm, ⟨78, _⟩ => ⟨S_, .f32⟩
  | .hbm, ⟨79, _⟩ => ⟨S2x4x2048x256, .f32⟩
  | .hbm, ⟨80, _⟩ => ⟨S2x4x2048x256, .f32⟩
  | .hbm, ⟨81, _⟩ => ⟨S2x4x256x256, .f32⟩
  | .hbm, ⟨82, _⟩ => ⟨S2x256x4x256, .f32⟩
  | .hbm, ⟨83, _⟩ => ⟨S2x4x2048x256, .f32⟩
  | .hbm, ⟨84, _⟩ => ⟨S2x2048x4x256, .f32⟩
  | .hbm, ⟨85, _⟩ => ⟨S2x256x1024, .f32⟩
  | .hbm, ⟨86, _⟩ => ⟨S2x256x1024, .f32⟩
  | .hbm, ⟨87, _⟩ => ⟨S2x2048x1024, .f32⟩
  | .hbm, ⟨88, _⟩ => ⟨S4096x1024, .f32⟩
  | .hbm, ⟨89, _⟩ => ⟨S4096x1024, .bf16⟩
  | .hbm, ⟨90, _⟩ => ⟨S512x1024, .f32⟩
  | .hbm, ⟨91, _⟩ => ⟨S512x1024, .bf16⟩
  | .hbm, ⟨92, _⟩ => ⟨S512x1024, .f32⟩
  | .hbm, ⟨93, _⟩ => ⟨S512x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== Attn.lean ====
abbrev S4096x1024 : Shape := ⟨2, ![4096, 1024]⟩
abbrev S512x2048 : Shape := ⟨2, ![512, 2048]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S4096x1024 : Shape := ⟨2, ![4096, 1024]⟩
abbrev S512x2048 : Shape := ⟨2, ![512, 2048]⟩
abbrev S2x256x2048 : Shape := ⟨3, ![2, 256, 2048]⟩
abbrev S2x256x1024 : Shape := ⟨3, ![2, 256, 1024]⟩
abbrev S2x2048x1024 : Shape := ⟨3, ![2, 2048, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S512x2048, .f32⟩
  | .hbm, ⟨3, _⟩ => ⟨S2x256x2048, .f32⟩
  | .hbm, ⟨4, _⟩ => ⟨S2x256x1024, .f32⟩
  | .hbm, ⟨5, _⟩ => ⟨S2x256x1024, .f32⟩
  | .hbm, ⟨6, _⟩ => ⟨S4096x1024, .f32⟩
  | .hbm, ⟨7, _⟩ => ⟨S2x2048x1024, .f32⟩
  | .hbm, ⟨8, _⟩ => ⟨S2x2048x4x256, .f32⟩
  | .hbm, ⟨9, _⟩ => ⟨S2x256x4x256, .f32⟩
  | .hbm, ⟨10, _⟩ => ⟨S2x256x4x256, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S_, .f32⟩
  | .hbm, ⟨18, _⟩ => ⟨S2x4x2048, .f32⟩
  | .hbm, ⟨19, _⟩ => ⟨S2x4x2048, .f32⟩
  | .hbm, ⟨20, _⟩ => ⟨S2x4x2048x1, .f32⟩
  | .hbm, ⟨21, _⟩ => ⟨S2x4x2048x256, .f32⟩
  | .hbm, ⟨22, _⟩ => ⟨S2x4x2048x256, .f32⟩
  | .hbm, ⟨23, _⟩ => ⟨S2x4x2048x256, .f32⟩
  | .hbm, ⟨24, _⟩ => ⟨S_, .f32⟩
  | .hbm, ⟨25, _⟩ => ⟨S2x4x2048, .f32⟩
  | .hbm, ⟨26, _⟩ => ⟨S2x4x2048x1, .f32⟩
  | .hbm, ⟨27, _⟩ => ⟨S2x4x2048x256, .f32⟩
  | .hbm, ⟨28, _⟩ => ⟨S2x4x2048x256, .f32⟩
  | .hbm, ⟨29, _⟩ => ⟨S2x4x256x2048, .f32⟩
  | .hbm, ⟨30, _⟩ => ⟨S2x2048x4x256, .f32⟩
  | .hbm, ⟨31, _⟩ => ⟨S2x2048x1024, .f32⟩
  | .hbm, ⟨32, _⟩ => ⟨S4096x1024, .f32⟩
  | .hbm, ⟨33, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== SwigluBwd.lean ====
abbrev S4096x5632 : Shape := ⟨2, ![4096, 5632]⟩
abbrev S4096x2816 : Shape := ⟨2, ![4096, 2816]⟩
abbrev S512x2816 : Shape := ⟨2, ![512, 2816]⟩
abbrev S512x5632 : Shape := ⟨2, ![512, 5632]⟩

abbrev nBuf : Space → Nat
  | .hbm => 3
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x5632, .bf16⟩
  | .local _ .vmem, ⟨7, _⟩ => ⟨S512x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwigluBwdRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x5632, .f32⟩
  | .hbm, ⟨27, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== MergeBwd.lean ====
abbrev S4096x1024 : Shape := ⟨2, ![4096, 1024]⟩
abbrev S4096x9216 : Shape := ⟨2, ![4096, 9216]⟩
abbrev S1024x1024 : Shape := ⟨2, ![1024, 1024]⟩
abbrev S1024x2048 : Shape := ⟨2, ![1024, 2048]⟩
abbrev S4096x2048 : Shape := ⟨2, ![4096, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x9216, .bf16⟩
  | .hbm, ⟨4, _⟩ => ⟨S4096x1024, .bf16⟩
  | .hbm, ⟨5, _⟩ => ⟨S4096x1024, .bf16⟩
  | .hbm, ⟨6, _⟩ => ⟨S4096x9216, .bf16⟩
  | .hbm, ⟨7, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x2048, .bf16⟩
  | .local _ .vmem, ⟨15, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeBwdRefIdeal.lean ====
abbrev S4096x1024 : Shape := ⟨2, ![4096, 1024]⟩
abbrev S4096x9216 : Shape := ⟨2, ![4096, 9216]⟩
abbrev S_ : Shape := ⟨0, ![]⟩
abbrev S4096x2048 : Shape := ⟨2, ![4096, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x9216, .bf16⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x1024, .bf16⟩
  | .hbm, ⟨46, _⟩ => ⟨S4096x2048, .f32⟩
  | .hbm, ⟨47, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Swiglu.lean ====
abbrev S4096x5632 : Shape := ⟨2, ![4096, 5632]⟩
abbrev S4096x2816 : Shape := ⟨2, ![4096, 2816]⟩
abbrev S512x2816 : Shape := ⟨2, ![512, 2816]⟩

abbrev nBuf : Space → Nat
  | .hbm => 2
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwigluRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Merge.lean ====
abbrev S4096x1024 : Shape := ⟨2, ![4096, 1024]⟩
abbrev S4096x9216 : Shape := ⟨2, ![4096, 9216]⟩
abbrev S1024x1024 : Shape := ⟨2, ![1024, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x9216, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S4096x1024 : Shape := ⟨2, ![4096, 1024]⟩
abbrev S4096x9216 : Shape := ⟨2, ![4096, 9216]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x9216, .bf16⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== ConvBwd.lean ====
abbrev S4096x9216 : Shape := ⟨2, ![4096, 9216]⟩
abbrev S4096x3072 : Shape := ⟨2, ![4096, 3072]⟩
abbrev S4x3072 : Shape := ⟨2, ![4, 3072]⟩
abbrev S3072 : Shape := ⟨1, ![3072]⟩
abbrev S1x3072 : Shape := ⟨2, ![1, 3072]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S4096x9216, .bf16⟩
  | .hbm, ⟨1, _⟩ => ⟨S4096x3072, .bf16⟩
  | .hbm, ⟨2, _⟩ => ⟨S4x3072, .f32⟩
  | .hbm, ⟨3, _⟩ => ⟨S3072, .f32⟩
  | .hbm, ⟨4, _⟩ => ⟨S4096x9216, .bf16⟩
  | .hbm, ⟨5, _⟩ => ⟨S1x3072, .f32⟩
  | .hbm, ⟨6, _⟩ => ⟨S4096x9216, .bf16⟩
  | .hbm, ⟨7, _⟩ => ⟨S4x3072, .f32⟩
  | .hbm, ⟨8, _⟩ => ⟨S1x3072, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvBwdRefIdeal.lean ====
abbrev S4096x9216 : Shape := ⟨2, ![4096, 9216]⟩
abbrev S4096x3072 : Shape := ⟨2, ![4096, 3072]⟩
abbrev S4x3072 : Shape := ⟨2, ![4, 3072]⟩
abbrev S3072 : Shape := ⟨1, ![3072]⟩
abbrev S2x2048x3072 : Shape := ⟨3, ![2, 2048, 3072]⟩
abbrev S_ : Shape := ⟨0, ![]⟩
abbrev S2x3x3072 : Shape := ⟨3, ![2, 3, 3072]⟩
abbrev S2x2051x3072 : Shape := ⟨3, ![2, 2051, 3072]⟩
abbrev S1x3072 : Shape := ⟨2, ![1, 3072]⟩
abbrev S1x1x3072 : Shape := ⟨3, ![1, 1, 3072]⟩
abbrev S4096x6144 : Shape := ⟨2, ![4096, 6144]⟩

abbrev nBuf : Space → Nat
  | .hbm => 135
  | .vmem => 0
  | .smem => 0
  | _ => 0

abbrev hbmTy0_0 (i : Nat) : BufTy := match i % 128 with
  | 0 => ⟨S4096x9216, .bf16⟩
  | 1 => ⟨S4096x3072, .bf16⟩
  | 2 => ⟨S4x3072, .f32⟩
  | 3 => ⟨S3072, .f32⟩
  | 4 => ⟨S4096x9216, .bf16⟩
  | 5 => ⟨S4096x3072, .f32⟩
  | 6 => ⟨S2x2048x3072, .f32⟩
  | 7 => ⟨S4096x3072, .bf16⟩
  | 8 => ⟨S4096x3072, .f32⟩
  | 9 => ⟨S2x2048x3072, .f32⟩
  | 10 => ⟨S_, .f32⟩
  | 11 => ⟨S2x3x3072, .f32⟩
  | 12 => ⟨S2x2051x3072, .f32⟩
  | 13 => ⟨S_, .f32⟩
  | 14 => ⟨S2x3x3072, .f32⟩
  | 15 => ⟨S2x2048x3072, .f32⟩
  | 16 => ⟨S1x3072, .f32⟩
  | 17 => ⟨S3072, .f32⟩
  | 18 => ⟨S1x1x3072, .f32⟩
  | 19 => ⟨S2x2048x3072, .f32⟩
  | 20 => ⟨S2x2048x3072, .f32⟩
  | 21 => ⟨S_, .f32⟩
  | 22 => ⟨S2x2048x3072, .f32⟩
  | 23 => ⟨S2x2048x3072, .f32⟩
  | 24 => ⟨S2x2048x3072, .f32⟩
  | 25 => ⟨S1x3072, .f32⟩
  | 26 => ⟨S3072, .f32⟩
  | 27 => ⟨S1x1x3072, .f32⟩
  | 28 => ⟨S2x2048x3072, .f32⟩
  | 29 => ⟨S2x2048x3072, .f32⟩
  | 30 => ⟨S2x2048x3072, .f32⟩
  | 31 => ⟨S2x2048x3072, .f32⟩
  | 32 => ⟨S1x3072, .f32⟩
  | 33 => ⟨S3072, .f32⟩
  | 34 => ⟨S1x1x3072, .f32⟩
  | 35 => ⟨S2x2048x3072, .f32⟩
  | 36 => ⟨S2x2048x3072, .f32⟩
  | 37 => ⟨S2x2048x3072, .f32⟩
  | 38 => ⟨S2x2048x3072, .f32⟩
  | 39 => ⟨S1x3072, .f32⟩
  | 40 => ⟨S3072, .f32⟩
  | 41 => ⟨S1x1x3072, .f32⟩
  | 42 => ⟨S2x2048x3072, .f32⟩
  | 43 => ⟨S2x2048x3072, .f32⟩
  | 44 => ⟨S2x2048x3072, .f32⟩
  | 45 => ⟨S1x1x3072, .f32⟩
  | 46 => ⟨S2x2048x3072, .f32⟩
  | 47 => ⟨S2x2048x3072, .f32⟩
  | 48 => ⟨S2x2048x3072, .f32⟩
  | 49 => ⟨S2x2048x3072, .f32⟩
  | 50 => ⟨S_, .f32⟩
  | 51 => ⟨S2x2048x3072, .f32⟩
  | 52 => ⟨S2x2048x3072, .f32⟩
  | 53 => ⟨S_, .f32⟩
  | 54 => ⟨S2x2048x3072, .f32⟩
  | 55 => ⟨S2x2048x3072, .f32⟩
  | 56 => ⟨S_, .f32⟩
  | 57 => ⟨S2x2048x3072, .f32⟩
  | 58 => ⟨S2x2048x3072, .f32⟩
  | 59 => ⟨S2x2048x3072, .f32⟩
  | 60 => ⟨S2x2048x3072, .f32⟩
  | 61 => ⟨S2x2048x3072, .f32⟩
  | 62 => ⟨S2x2048x3072, .f32⟩
  | 63 => ⟨S2x2048x3072, .f32⟩
  | 64 => ⟨S2x2048x3072, .f32⟩
  | 65 => ⟨S_, .f32⟩
  | 66 => ⟨S3072, .f32⟩
  | 67 => ⟨S1x1x3072, .f32⟩
  | 68 => ⟨S_, .f32⟩
  | 69 => ⟨S3072, .f32⟩
  | 70 => ⟨S2x2048x3072, .f32⟩
  | 71 => ⟨S_, .f32⟩
  | 72 => ⟨S3072, .f32⟩
  | 73 => ⟨S1x1x3072, .f32⟩
  | 74 => ⟨S2x2048x3072, .f32⟩
  | 75 => ⟨S2x2048x3072, .f32⟩
  | 76 => ⟨S_, .f32⟩
  | 77 => ⟨S3072, .f32⟩
  | 78 => ⟨S1x3072, .f32⟩
  | 79 => ⟨S_, .f32⟩
  | 80 => ⟨S4x3072, .f32⟩
  | 81 => ⟨S_, .f32⟩
  | 82 => ⟨S2x2051x3072, .f32⟩
  | 83 => ⟨S2x2048x3072, .f32⟩
  | 84 => ⟨S_, .f32⟩
  | 85 => ⟨S3072, .f32⟩
  | 86 => ⟨S1x1x3072, .f32⟩
  | 87 => ⟨S2x2048x3072, .f32⟩
  | 88 => ⟨S2x2048x3072, .f32⟩
  | 89 => ⟨S_, .f32⟩
  | 90 => ⟨S3072, .f32⟩
  | 91 => ⟨S1x3072, .f32⟩
  | 92 => ⟨S_, .f32⟩
  | 93 => ⟨S4x3072, .f32⟩
  | 94 => ⟨S4x3072, .f32⟩
  | 95 => ⟨S_, .f32⟩
  | 96 => ⟨S2x2051x3072, .f32⟩
  | 97 => ⟨S2x2051x3072, .f32⟩
  | 98 => ⟨S2x2048x3072, .f32⟩
  | 99 => ⟨S_, .f32⟩
  | 100 => ⟨S3072, .f32⟩
  | 101 => ⟨S1x1x3072, .f32⟩
  | 102 => ⟨S2x2048x3072, .f32⟩
  | 103 => ⟨S2x2048x3072, .f32⟩
  | 104 => ⟨S_, .f32⟩
  | 105 => ⟨S3072, .f32⟩
  | 106 => ⟨S1x3072, .f32⟩
  | 107 => ⟨S_, .f32⟩
  | 108 => ⟨S4x3072, .f32⟩
  | 109 => ⟨S4x3072, .f32⟩
  | 110 => ⟨S_, .f32⟩
  | 111 => ⟨S2x2051x3072, .f32⟩
  | 112 => ⟨S2x2051x3072, .f32⟩
  | 113 => ⟨S2x2048x3072, .f32⟩
  | 114 => ⟨S_, .f32⟩
  | 115 => ⟨S3072, .f32⟩
  | 116 => ⟨S1x1x3072, .f32⟩
  | 117 => ⟨S2x2048x3072, .f32⟩
  | 118 => ⟨S2x2048x3072, .f32⟩
  | 119 => ⟨S_, .f32⟩
  | 120 => ⟨S3072, .f32⟩
  | 121 => ⟨S1x3072, .f32⟩
  | 122 => ⟨S_, .f32⟩
  | 123 => ⟨S4x3072, .f32⟩
  | 124 => ⟨S4x3072, .f32⟩
  | 125 => ⟨S_, .f32⟩
  | 126 => ⟨S2x2051x3072, .f32⟩
  | 127 => ⟨S2x2051x3072, .f32⟩
  | _ => ⟨S4096x9216, .bf16⟩

abbrev hbmTy0_1 (i : Nat) : BufTy := match i % 128 with
  | 0 => ⟨S2x3x3072, .f32⟩
  | 1 => ⟨S2x2048x3072, .f32⟩
  | 2 => ⟨S4096x6144, .bf16⟩
  | 3 => ⟨S4096x3072, .f32⟩
  | 4 => ⟨S4096x3072, .bf16⟩
  | 5 => ⟨S4096x9216, .bf16⟩
  | 6 => ⟨S1x3072, .f32⟩
  | _ => ⟨S4096x9216, .bf16⟩

abbrev hbmTy (i : Nat) : BufTy := match i / 128 with
  | 0 => hbmTy0_0 i
  | 1 => hbmTy0_1 i
  | _ => ⟨S4096x9216, .bf16⟩

abbrev bufTy : (tb : Table) → Fin (tcTables nBuf tb) → BufTy
  | .hbm, ⟨i, _⟩ => hbmTy i
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v40_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v40_1 : Ref sig .tc := ⟨.hbm, 59, rfl⟩
abbrev main_v40_0 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v41 : Ref sig .tc := ⟨.hbm, 64, rfl⟩
abbrev main_cst_2 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_cst_7 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_v82 : Ref sig .tc := ⟨.hbm, 121, rfl⟩
abbrev main_cst_18 : Ref sig .tc := ⟨.hbm, 122, rfl⟩
abbrev main_v83 : Ref sig .tc := ⟨.hbm, 123, rfl⟩
abbrev main_v84 : Ref sig .tc := ⟨.hbm, 124, rfl⟩
abbrev main_cst_19 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩

abbrev nD : Nat := 1
abbrev τ : Topo := Topo.v7x

variable {F : FTy → Type} [FloatOps F]
-- ==== Conv.lean ====
abbrev S4096x9216 : Shape := ⟨2, ![4096, 9216]⟩
abbrev S4x3072 : Shape := ⟨2, ![4, 3072]⟩
abbrev S3072 : Shape := ⟨1, ![3072]⟩
abbrev S1x3072 : Shape := ⟨2, ![1, 3072]⟩
abbrev S4096x3072 : Shape := ⟨2, ![4096, 3072]⟩
abbrev S2048x256 : Shape := ⟨2, ![2048, 256]⟩
abbrev S4x256 : Shape := ⟨2, ![4, 256]⟩
abbrev S1x256 : Shape := ⟨2, ![1, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x9216, .bf16⟩
  | .hbm, ⟨1, _⟩ => ⟨S4x3072, .f32⟩
  | .hbm, ⟨2, _⟩ => ⟨S3072, .f32⟩
  | .hbm, ⟨3, _⟩ => ⟨S1x3072, .f32⟩
  | .hbm, ⟨4, _⟩ => ⟨S4096x3072, .bf16⟩
  | .local _ .vmem, ⟨0, _⟩ => ⟨S2048x256, .bf16⟩
  | .local _ .vmem, ⟨1, _⟩ => ⟨S2048x256, .bf16⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvRefIdeal.lean ====
abbrev S4096x9216 : Shape := ⟨2, ![4096, 9216]⟩
abbrev S4x3072 : Shape := ⟨2, ![4, 3072]⟩
abbrev S3072 : Shape := ⟨1, ![3072]⟩
abbrev S4096x3072 : Shape := ⟨2, ![4096, 3072]⟩
abbrev S2x2048x3072 : Shape := ⟨3, ![2, 2048, 3072]⟩
abbrev S_ : Shape := ⟨0, ![]⟩
abbrev S2x3x3072 : Shape := ⟨3, ![2, 3, 3072]⟩
abbrev S2x2051x3072 : Shape := ⟨3, ![2, 2051, 3072]⟩
abbrev S1x3072 : Shape := ⟨2, ![1, 3072]⟩
abbrev S1x1x3072 : Shape := ⟨3, ![1, 1, 3072]⟩

abbrev nBuf : Space → Nat
  | .hbm => 53
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S4x3072, .f32⟩
  | .hbm, ⟨2, _⟩ => ⟨S3072, .f32⟩
  | .hbm, ⟨3, _⟩ => ⟨S4096x3072, .bf16⟩
  | .hbm, ⟨4, _⟩ => ⟨S4096x3072, .f32⟩
  | .hbm, ⟨5, _⟩ => ⟨S2x2048x3072, .f32⟩
  | .hbm, ⟨6, _⟩ => ⟨S_, .f32⟩
  | .hbm, ⟨7, _⟩ => ⟨S2x3x3072, .f32⟩
  | .hbm, ⟨8, _⟩ => ⟨S2x2051x3072, .f32⟩
  | .hbm, ⟨9, _⟩ => ⟨S2x2048x3072, .f32⟩
  | .hbm, ⟨10, _⟩ => ⟨S1x3072, .f32⟩
  | .hbm, ⟨11, _⟩ => ⟨S3072, .f32⟩
  | .hbm, ⟨12, _⟩ => ⟨S1x1x3072, .f32⟩
  | .hbm, ⟨13, _⟩ => ⟨S2x2048x3072, .f32⟩
  | .hbm, ⟨14, _⟩ => ⟨S2x2048x3072, .f32⟩
  | .hbm, ⟨15, _⟩ => ⟨S_, .f32⟩
  | .hbm, ⟨16, _⟩ => ⟨S2x2048x3072, .f32⟩
  | .hbm, ⟨17, _⟩ => ⟨S2x2048x3072, .f32⟩
  | .hbm, ⟨18, _⟩ => ⟨S2x2048x3072, .f32⟩
  | .hbm, ⟨19, _⟩ => ⟨S1x3072, .f32⟩
  | .hbm, ⟨20, _⟩ => ⟨S3072, .f32⟩
  | .hbm, ⟨21, _⟩ => ⟨S1x1x3072, .f32⟩
  | .hbm, ⟨22, _⟩ => ⟨S2x2048x3072, .f32⟩
  | .hbm, ⟨23, _⟩ => ⟨S2x2048x3072, .f32⟩
  | .hbm, ⟨24, _⟩ => ⟨S2x2048x3072, .f32⟩
  | .hbm, ⟨25, _⟩ => ⟨S2x2048x3072, .f32⟩
  | .hbm, ⟨26, _⟩ => ⟨S1x3072, .f32⟩
  | .hbm, ⟨27, _⟩ => ⟨S3072, .f32⟩
  | .hbm, ⟨28, _⟩ => ⟨S1x1x3072, .f32⟩
  | .hbm, ⟨29, _⟩ => ⟨S2x2048x3072, .f32⟩
  | .hbm, ⟨30, _⟩ => ⟨S2x2048x3072, .f32⟩
  | .hbm, ⟨31, _⟩ => ⟨S2x2048x3072, .f32⟩
  | .hbm, ⟨32, _⟩ => ⟨S2x2048x3072, .f32⟩
  | .hbm, ⟨33, _⟩ => ⟨S1x3072, .f32⟩
  | .hbm, ⟨34, _⟩ => ⟨S3072, .f32⟩
  | .hbm, ⟨35, _⟩ => ⟨S1x1x3072, .f32⟩
  | .hbm, ⟨36, _⟩ => ⟨S2x2048x3072, .f32⟩
  | .hbm, ⟨37, _⟩ => ⟨S2x2048x3072, .f32⟩
  | .hbm, ⟨38, _⟩ => ⟨S2x2048x3072, .f32⟩
  | .hbm, ⟨39, _⟩ => ⟨S1x1x3072, .f32⟩
  | .hbm, ⟨40, _⟩ => ⟨S2x2048x3072, .f32⟩
  | .hbm, ⟨41, _⟩ => ⟨S2x2048x3072, .f32⟩
  | .hbm, ⟨42, _⟩ => ⟨S2x2048x3072, .f32⟩
  | .hbm, ⟨43, _⟩ => ⟨S2x2048x3072, .f32⟩
  | .hbm, ⟨44, _⟩ => ⟨S_, .f32⟩
  | .hbm, ⟨45, _⟩ => ⟨S2x2048x3072, .f32⟩
  | .hbm, ⟨46, _⟩ => ⟨S2x2048x3072, .f32⟩
  | .hbm, ⟨47, _⟩ => ⟨S_, .f32⟩
  | .hbm, ⟨48, _⟩ => ⟨S2x2048x3072, .f32⟩
  | .hbm, ⟨49, _⟩ => ⟨S2x2048x3072, .f32⟩
  | .hbm, ⟨50, _⟩ => ⟨S2x2048x3072, .f32⟩
  | .hbm, ⟨51, _⟩ => ⟨S4096x3072, .f32⟩
  | .hbm, ⟨52, _⟩ => ⟨S4096x3072, .bf16⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormBwd.lean ====
abbrev S4096x2048 : Shape := ⟨2, ![4096, 2048]⟩
abbrev S4096x9216 : Shape := ⟨2, ![4096, 9216]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x9216, .bf16⟩
  | .hbm, ⟨3, _⟩ => ⟨S2048, .f32⟩
  | .hbm, ⟨4, _⟩ => ⟨S4096x9216, .bf16⟩
  | .hbm, ⟨5, _⟩ => ⟨S1x2048, .f32⟩
  | .hbm, ⟨6, _⟩ => ⟨S4096x2048, .bf16⟩
  | .hbm, ⟨7, _⟩ => ⟨S4096x9216, .bf16⟩
  | .hbm, ⟨8, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S4096x2048 : Shape := ⟨2, ![4096, 2048]⟩
abbrev S4096x9216 : Shape := ⟨2, ![4096, 9216]⟩
abbrev S2048 : Shape := ⟨1, ![2048]⟩
abbrev S_ : Shape := ⟨0, ![]⟩
abbrev S4096x4x512 : Shape := ⟨3, ![4096, 4, 512]⟩
abbrev S4096x4 : Shape := ⟨2, ![4096, 4]⟩
abbrev S4096x4x1 : Shape := ⟨3, ![4096, 4, 1]⟩
abbrev S1x2048 : Shape := ⟨2, ![1, 2048]⟩
abbrev S4096x5120 : Shape := ⟨2, ![4096, 5120]⟩
abbrev S4096x7168 : Shape := ⟨2, ![4096, 7168]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x9216, .bf16⟩
  | .hbm, ⟨3, _⟩ => ⟨S2048, .f32⟩
  | .hbm, ⟨4, _⟩ => ⟨S4096x9216, .bf16⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x4x512, .f32⟩
  | .hbm, ⟨23, _⟩ => ⟨S4096x4x512, .f32⟩
  | .hbm, ⟨24, _⟩ => ⟨S_, .f32⟩
  | .hbm, ⟨25, _⟩ => ⟨S4096x4x512, .f32⟩
  | .hbm, ⟨26, _⟩ => ⟨S4096x4x512, .f32⟩
  | .hbm, ⟨27, _⟩ => ⟨S_, .f32⟩
  | .hbm, ⟨28, _⟩ => ⟨S4096x4, .f32⟩
  | .hbm, ⟨29, _⟩ => ⟨S4096x4x1, .f32⟩
  | .hbm, ⟨30, _⟩ => ⟨S_, .f32⟩
  | .hbm, ⟨31, _⟩ => ⟨S4096x4x1, .f32⟩
  | .hbm, ⟨32, _⟩ => ⟨S4096x4x1, .f32⟩
  | .hbm, ⟨33, _⟩ => ⟨S_, .f32⟩
  | .hbm, ⟨34, _⟩ => ⟨S4096x4x1, .f32⟩
  | .hbm, ⟨35, _⟩ => ⟨S4096x4x1, .f32⟩
  | .hbm, ⟨36, _⟩ => ⟨S4096x4x1, .f32⟩
  | .hbm, ⟨37, _⟩ => ⟨S4096x4x1, .f32⟩
  | .hbm, ⟨38, _⟩ => ⟨S_, .f32⟩
  | .hbm, ⟨39, _⟩ => ⟨S4096x4x1, .f32⟩
  | .hbm, ⟨40, _⟩ => ⟨S4096x4x1, .f32⟩
  | .hbm, ⟨41, _⟩ => ⟨S4096x4x512, .f32⟩
  | .hbm, ⟨42, _⟩ => ⟨S4096x4x512, .f32⟩
  | .hbm, ⟨43, _⟩ => ⟨S4096x2048, .f32⟩
  | .hbm, ⟨44, _⟩ => ⟨S1x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S4096x4x512, .f32⟩
  | .hbm, ⟨57, _⟩ => ⟨S4096x4x512, .f32⟩
  | .hbm, ⟨58, _⟩ => ⟨S_, .f32⟩
  | .hbm, ⟨59, _⟩ => ⟨S4096x4, .f32⟩
  | .hbm, ⟨60, _⟩ => ⟨S4096x4x1, .f32⟩
  | .hbm, ⟨61, _⟩ => ⟨S4096x4x512, .f32⟩
  | .hbm, ⟨62, _⟩ => ⟨S4096x4x512, .f32⟩
  | .hbm, ⟨63, _⟩ => ⟨S4096x4x1, .f32⟩
  | .hbm, ⟨64, _⟩ => ⟨S_, .f32⟩
  | .hbm, ⟨65, _⟩ => ⟨S4096x4x1, .f32⟩
  | .hbm, ⟨66, _⟩ => ⟨S4096x4x1, .f32⟩
  | .hbm, ⟨67, _⟩ => ⟨S_, .f32⟩
  | .hbm, ⟨68, _⟩ => ⟨S4096x4, .f32⟩
  | .hbm, ⟨69, _⟩ => ⟨S4096x4x512, .f32⟩
  | .hbm, ⟨70, _⟩ => ⟨S4096x4x512, .f32⟩
  | .hbm, ⟨71, _⟩ => ⟨S4096x4x512, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .bf16⟩
  | .hbm, ⟨80, _⟩ => ⟨S4096x5120, .bf16⟩
  | .hbm, ⟨81, _⟩ => ⟨S4096x7168, .bf16⟩
  | .hbm, ⟨82, _⟩ => ⟨S4096x2048, .bf16⟩
  | .hbm, ⟨83, _⟩ => ⟨S4096x9216, .bf16⟩
  | .hbm, ⟨84, _⟩ => ⟨S4096x2048, .bf16⟩
  | .hbm, ⟨85, _⟩ => ⟨S1x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩

abbrev nD : Nat := 1
abbrev τ : Topo := Topo.v7x

variable {F : FTy → Type} [FloatOps F]
-- ==== Norm.lean ====
abbrev S4096x2048 : Shape := ⟨2, ![4096, 2048]⟩
abbrev S4096x9216 : Shape := ⟨2, ![4096, 9216]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x9216, .bf16⟩
  | .hbm, ⟨2, _⟩ => ⟨S2048, .f32⟩
  | .hbm, ⟨3, _⟩ => ⟨S1x2048, .f32⟩
  | .hbm, ⟨4, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S4096x2048 : Shape := ⟨2, ![4096, 2048]⟩
abbrev S4096x9216 : Shape := ⟨2, ![4096, 9216]⟩
abbrev S2048 : Shape := ⟨1, ![2048]⟩
abbrev S_ : Shape := ⟨0, ![]⟩
abbrev S4096x4x512 : Shape := ⟨3, ![4096, 4, 512]⟩
abbrev S4096x4 : Shape := ⟨2, ![4096, 4]⟩
abbrev S4096x4x1 : Shape := ⟨3, ![4096, 4, 1]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x9216, .bf16⟩
  | .hbm, ⟨2, _⟩ => ⟨S2048, .f32⟩
  | .hbm, ⟨3, _⟩ => ⟨S4096x2048, .f32⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x4x512, .f32⟩
  | .hbm, ⟨17, _⟩ => ⟨S4096x4x512, .f32⟩
  | .hbm, ⟨18, _⟩ => ⟨S_, .f32⟩
  | .hbm, ⟨19, _⟩ => ⟨S4096x4, .f32⟩
  | .hbm, ⟨20, _⟩ => ⟨S4096x4x1, .f32⟩
  | .hbm, ⟨21, _⟩ => ⟨S_, .f32⟩
  | .hbm, ⟨22, _⟩ => ⟨S4096x4x1, .f32⟩
  | .hbm, ⟨23, _⟩ => ⟨S4096x4x1, .f32⟩
  | .hbm, ⟨24, _⟩ => ⟨S_, .f32⟩
  | .hbm, ⟨25, _⟩ => ⟨S4096x4x1, .f32⟩
  | .hbm, ⟨26, _⟩ => ⟨S4096x4x1, .f32⟩
  | .hbm, ⟨27, _⟩ => ⟨S4096x4x1, .f32⟩
  | .hbm, ⟨28, _⟩ => ⟨S4096x4x512, .f32⟩
  | .hbm, ⟨29, _⟩ => ⟨S4096x4x512, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.Sp.lean ====
module

public import Idealize.ShloMosaic.PureOps.Ideal.Laws

/- The mathematics of the gradient of the spatial gating unit, on extended reals: the gate's values and gradients as
   functions of the entries of the arguments, and the two places where the kernel's order of operations and the
   reference's agree on real numbers only (the gradient of the GELU and the gradient of the normalisation). -/

@[expose] public section

set_option maxRecDepth 16384

noncomputable section

namespace Cert.SG

open Idealize.ShloMosaic

/-- The constants of the two programs. -/
theorem c_zero : Ideal.ofBits .f32 0x00000000#32 = 0 := by
  simp [Ideal.ofBits, Ideal.ieee, -EReal.coe_mul]
theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_four : Ideal.ofBits .f32 0x40800000#32 = ((4 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_pinf : Ideal.ofBits .f32 0x7F800000#32 = ⊤ := by
  simp [Ideal.ofBits, Ideal.ieee, -EReal.coe_mul]
theorem c_ninf : Ideal.ofBits .f32 0xFF800000#32 = ⊥ := by
  simp [Ideal.ofBits, Ideal.ieee, -EReal.coe_mul]

/-- The normalisation's epsilon is a positive real. -/
theorem c_eps : ∃ e : ℝ, 0 < e ∧ Ideal.ofBits .f32 0x3727C5AC#32 = (e : EReal) := by
  refine ⟨_, ?_, by simp [Ideal.ofBits, Ideal.ieee, -EReal.coe_mul]; rfl⟩
  norm_num

/-- An extended real that is a real number. -/
def IsR (x : EReal) : Prop := ∃ r : ℝ, x = (r : EReal)

theorem isR_of_lt {x : EReal} (h1 : ⊥ < x) (h2 : x < ⊤) : IsR x :=
  ⟨x.toReal, (EReal.coe_toReal h2.ne h1.ne').symm⟩

theorem isR_coe (r : ℝ) : IsR (r : EReal) := ⟨r, rfl⟩
theorem isR_zero : IsR 0 := ⟨0, rfl⟩
theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.erf {x : EReal} : IsR x → IsR (Ideal.erf x) := by
  rintro ⟨a, rfl⟩; exact ⟨_, Ideal.erf_coe a⟩

/-- A finite sum of real numbers, read in the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem IsR.sum {ι : Type} (s : Finset ι) {f : ι → EReal} (h : ∀ k, IsR (f k)) : IsR (∑ k ∈ s, f k) := by
  choose r hr using h
  exact ⟨∑ k ∈ s, r k, by simp only [hr, coe_sum]⟩

/-- The reciprocal of the square root of two, and the density's constant. -/
abbrev rt2 : EReal := (((Real.sqrt 2)⁻¹ : ℝ) : EReal)
abbrev kd : EReal := (((Real.sqrt (2 * Real.pi))⁻¹ : ℝ) : EReal)
abbrev hf : EReal := ((1 / 2 : ℝ) : EReal)
abbrev eps : EReal := Ideal.ofBits .f32 0x3727C5AC#32

/-- The GELU. -/
def gel (x : EReal) : EReal := hf * x * (((1 : ℝ) : EReal) + Ideal.erf (x * rt2))

/-- Its gradient as the kernel computes it. -/
def gelD (x : EReal) : EReal :=
  hf * (((1 : ℝ) : EReal) + Ideal.erf (x * rt2)) + x * Ideal.exp (((-(1 / 2) : ℝ) : EReal) * x * x) * kd

/-- Its gradient applied to a cotangent, as the reference computes it. -/
def gelP (x d : EReal) : EReal :=
  (Ideal.div ((2 : ℝ) : EReal) (Ideal.sqrt (((4 : ℝ) : EReal) * Ideal.atan ((1 : ℝ) : EReal))) * Ideal.exp (-(x * rt2 * (x * rt2))))
      * (hf * x * d) * rt2
    + hf * (d * (((1 : ℝ) : EReal) + Ideal.erf (x * rt2)))

/-- The mean of a row of 1024 entries. -/
def mean (f : ℕ → EReal) : EReal := Ideal.div (∑ k : Fin 1024, f k.val) ((1024 : ℝ) : EReal)

section

variable (U V D : ℕ → ℕ → EReal) (g b : ℕ → EReal) (W : ℕ → ℕ → ℕ → EReal) (B : ℕ → ℕ → EReal)

/-- The centred gate. -/
def gc (r c : ℕ) : EReal := gel (V r c) - mean (fun k => gel (V r k))
def var (r : ℕ) : EReal := mean (fun k => gc V r k * gc V r k)
/-- The reciprocal standard deviation of a row. -/
def rstd (r : ℕ) : EReal := Ideal.rsqrt (var V r + eps)
def xh (r c : ℕ) : EReal := gc V r c * rstd V r
/-- The normalised gate. -/
def vn (r c : ℕ) : EReal := xh V r c * g c + b c
/-- The causal weights of a group. -/
def Wm (q t s : ℕ) : EReal := if s ≤ t then W q t s else 0
/-- The mixed gate: the group of a column is its column divided by 128, rows are mixed inside their chunk of 128. -/
def mix (R t c : ℕ) : EReal := ∑ s : Fin 128, Wm W (c / 128) t s.val * vn V g b (R + s.val) c + B (c / 128) t
/-- The gradient of the mixed gate. -/
def dmx (r c : ℕ) : EReal := D r c * gel (U r c)
/-- The gradient of the normalised gate. -/
def dvn (R s c : ℕ) : EReal := ∑ t : Fin 128, Wm W (c / 128) t.val s * dmx U D (R + t.val) c
def dxh (R s c : ℕ) : EReal := dvn U D W R s c * g c
/-- The gradient of the gate before the normalisation, as the kernel computes it. -/
def dgv (R s c : ℕ) : EReal :=
  rstd V (R + s) * (dxh U D g W R s c - mean (fun k => dxh U D g W R s k)
    - xh V (R + s) c * mean (fun k => dxh U D g W R s k * xh V (R + s) k))

/-- The results as the kernel computes them. -/
def oU (R t c : ℕ) : EReal := D (R + t) c * mix V g b W B R t c * gelD (U (R + t) c)
def oV (R s c : ℕ) : EReal := dgv U V D g W R s c * gelD (V (R + s) c)
def dwT (R q t s : ℕ) : EReal :=
  if s ≤ t then ∑ d : Fin 128, dmx U D (R + t) (128 * q + d.val) * vn V g b (R + s) (128 * q + d.val) else 0
def dbT (R q t : ℕ) : EReal := ∑ d : Fin 128, dmx U D (R + t) (128 * q + d.val)
def dgT (R c : ℕ) : EReal := ∑ s : Fin 128, dvn U D W R s.val c * xh V (R + s.val) c
def deT (R c : ℕ) : EReal := ∑ s : Fin 128, dvn U D W R s.val c

/-- The gradient of the gate before the normalisation, as the reference computes it: through the deviation's root. -/
def dgvP (gcf h : ℕ → EReal) (v c : EReal) (k : ℕ) : EReal :=
  let rs := Ideal.rsqrt (v + eps)
  let q := Ideal.div ((∑ k : Fin 1024, gcf k.val * h k.val) * (((-(1 / 2) : ℝ) : EReal) * Ideal.div rs (v + eps))) c
  (h k * rs + q * (((2 : ℝ) : EReal) * gcf k))
    + Ideal.div ((∑ k : Fin 1024, -(h k.val * rs)) + ∑ k : Fin 1024, -(q * (((2 : ℝ) : EReal) * gcf k.val))) c

def dgvR (R s c : ℕ) : EReal :=
  dgvP (gc V (R + s)) (dxh U D g W R s) (var V (R + s)) ((1024 : ℝ) : EReal) c
end

/-- The two forms of the GELU's gradient agree on the reals. -/
theorem gelP_eq {x d : EReal} (hx : IsR x) (hd : IsR d) : gelP x d = d * gelD x := by
  obtain ⟨x, rfl⟩ := hx
  obtain ⟨d, rfl⟩ := hd
  obtain ⟨e, he⟩ : IsR (Ideal.erf ((x : EReal) * rt2)) := IsR.erf (IsR.mul (isR_coe x) (isR_coe _))
  have hpi : (0 : ℝ) < Real.pi := Real.pi_pos
  have h2 : (0 : ℝ) < Real.sqrt 2 := Real.sqrt_pos.mpr two_pos
  have hs2 : Real.sqrt 2 * Real.sqrt 2 = 2 := Real.mul_self_sqrt two_pos.le
  have hp : (0 : ℝ) < Real.sqrt Real.pi := Real.sqrt_pos.mpr hpi
  have h4 : Ideal.sqrt (((4 : ℝ) : EReal) * Ideal.atan ((1 : ℝ) : EReal)) = ((Real.sqrt Real.pi : ℝ) : EReal) := by
    rw [Ideal.atan_coe, Real.arctan_one, ← EReal.coe_mul, show (4 : ℝ) * (Real.pi / 4) = Real.pi by ring, Ideal.sqrt_coe,
      if_neg hpi.le.not_gt]
  unfold gelP gelD
  rw [h4, he, Ideal.div_coe hp.ne']
  simp only [← EReal.coe_mul, ← EReal.coe_neg, Ideal.exp_coe, ← EReal.coe_add]
  rw [EReal.coe_eq_coe_iff]
  rw [Real.sqrt_mul two_pos.le]
  rw [show -(x * (Real.sqrt 2)⁻¹ * (x * (Real.sqrt 2)⁻¹)) = -(1 / 2) * x * x by
    field_simp
    rw [pow_two (Real.sqrt 2), hs2]]
  generalize Real.exp _ = E
  field_simp
  ring_nf

/-- The two forms of the normalisation's gradient agree on the reals. -/
theorem dgvP_eq (gcf h : ℕ → EReal) (hg : ∀ k, IsR (gcf k)) (hh : ∀ k, IsR (h k)) (h0 : ∑ k : Fin 1024, gcf k.val = 0) (k : ℕ) :
    dgvP gcf h (mean fun k => gcf k * gcf k) ((1024 : ℝ) : EReal) k
      = Ideal.rsqrt ((mean fun k => gcf k * gcf k) + eps)
        * (h k - mean h - (gcf k * Ideal.rsqrt ((mean fun k => gcf k * gcf k) + eps))
          * mean (fun j => h j * (gcf j * Ideal.rsqrt ((mean fun k => gcf k * gcf k) + eps)))) := by
  choose a ha using hg
  choose d hd using hh
  obtain ⟨e, he, hE⟩ := c_eps
  have hn : (1024 : ℝ) ≠ 0 := by norm_num
  obtain rfl : gcf = fun k => ((a k : ℝ) : EReal) := funext ha
  obtain rfl : h = fun k => ((d k : ℝ) : EReal) := funext hd
  rw [coe_sum, ← EReal.coe_zero, EReal.coe_eq_coe_iff] at h0
  have hv : (mean fun k => (a k : EReal) * (a k : EReal)) = (((∑ k : Fin 1024, a k.val * a k.val) * (1 / 1024) : ℝ) : EReal) := by
    unfold mean
    rw [Ideal.div_coe hn]
    simp only [← EReal.coe_mul, coe_sum]
  rw [hv]
  unfold dgvP mean
  simp only [eps, hE, ← EReal.coe_add]
  have hS : 0 ≤ ∑ k : Fin 1024, a k.val * a k.val := Finset.sum_nonneg fun k _ => mul_self_nonneg _
  generalize hw : (∑ k : Fin 1024, a k.val * a k.val) * (1 / 1024) + e = w
  have hw0 : 0 < w := by rw [← hw]; positivity
  rw [Ideal.rsqrt_coe, if_neg hw0.le.not_gt, if_neg hw0.ne']
  simp only [Ideal.div_coe hn, Ideal.div_coe hw0.ne', ← EReal.coe_mul, coe_sum, ← EReal.coe_add, ← EReal.coe_sub, ← EReal.coe_neg]
  rw [EReal.coe_eq_coe_iff]
  have hs : 0 < Real.sqrt w := Real.sqrt_pos.mpr hw0
  have hss : Real.sqrt w * Real.sqrt w = w := Real.mul_self_sqrt hw0.le
  generalize Real.sqrt w = s at hs hss
  rw [← hss]
  rw [show (∑ k : Fin 1024, -(d k.val * s⁻¹)) = -((∑ k : Fin 1024, d k.val) * s⁻¹) by
    rw [Finset.sum_mul, ← Finset.sum_neg_distrib]]
  rw [show (∑ k : Fin 1024, d k.val * (a k.val * s⁻¹)) = (∑ k : Fin 1024, a k.val * d k.val) * s⁻¹ by
    rw [Finset.sum_mul]; exact Finset.sum_congr rfl fun _ _ => by ring]
  generalize (∑ k : Fin 1024, a k.val * d k.val) = S
  have hz : ∀ q : ℝ, (∑ k : Fin 1024, -(q * (2 * a k.val))) = 0 := fun q => by
    rw [show (∑ k : Fin 1024, -(q * (2 * a k.val))) = -(q * 2) * ∑ k : Fin 1024, a k.val by
      rw [Finset.mul_sum]; exact Finset.sum_congr rfl fun _ _ => by ring, h0, mul_zero]
  rw [hz]
  field_simp
  ring

section

variable {U V D : ℕ → ℕ → EReal} {g b : ℕ → EReal} {W : ℕ → ℕ → ℕ → EReal} {B : ℕ → ℕ → EReal}

theorem IsR.gel {x : EReal} (h : IsR x) : IsR (gel x) :=
  ((isR_coe _).mul h).mul ((isR_coe _).add (h.mul (isR_coe _)).erf)

theorem IsR.mean {f : ℕ → EReal} (h : ∀ k, IsR (f k)) : IsR (mean f) := by
  unfold SG.mean
  rw [Ideal.div_coe (by norm_num)]
  exact (IsR.sum _ fun k : Fin 1024 => h k.val).mul (isR_coe _)

theorem isR_gc (hV : ∀ r c, IsR (V r c)) (r c : ℕ) : IsR (gc V r c) :=
  (hV r c).gel.sub (IsR.mean fun k => (hV r k).gel)

theorem isR_rstd (hV : ∀ r c, IsR (V r c)) (r : ℕ) : IsR (rstd V r) := by
  obtain ⟨e, he, hE⟩ := c_eps
  choose a ha using isR_gc hV r
  have hv : var V r = (((∑ k : Fin 1024, a k.val * a k.val) * (1 / 1024) : ℝ) : EReal) := by
    unfold var mean
    rw [Ideal.div_coe (by norm_num)]
    simp only [ha, ← EReal.coe_mul, coe_sum]
  have hS : 0 ≤ ∑ k : Fin 1024, a k.val * a k.val := Finset.sum_nonneg fun k _ => mul_self_nonneg _
  have hw : 0 < (∑ k : Fin 1024, a k.val * a k.val) * (1 / 1024) + e := by positivity
  unfold rstd
  rw [hv, eps, hE, ← EReal.coe_add, Ideal.rsqrt_coe, if_neg hw.le.not_gt, if_neg hw.ne']
  exact isR_coe _

theorem isR_Wm (hW : ∀ q t s, IsR (W q t s)) (q t s : ℕ) : IsR (Wm W q t s) := by
  unfold Wm
  split
  · exact hW q t s
  · exact isR_zero

theorem isR_vn (hV : ∀ r c, IsR (V r c)) (hg : ∀ c, IsR (g c)) (hb : ∀ c, IsR (b c)) (r c : ℕ) : IsR (vn V g b r c) :=
  (((isR_gc hV r c).mul (isR_rstd hV r)).mul (hg c)).add (hb c)

theorem isR_mix (hV : ∀ r c, IsR (V r c)) (hg : ∀ c, IsR (g c)) (hb : ∀ c, IsR (b c)) (hW : ∀ q t s, IsR (W q t s))
    (hB : ∀ q t, IsR (B q t)) (R t c : ℕ) : IsR (mix V g b W B R t c) :=
  (IsR.sum _ fun s => (isR_Wm hW _ _ _).mul (isR_vn hV hg hb _ _)).add (hB _ _)

theorem isR_dxh (hU : ∀ r c, IsR (U r c)) (hD : ∀ r c, IsR (D r c)) (hg : ∀ c, IsR (g c)) (hW : ∀ q t s, IsR (W q t s))
    (R s c : ℕ) : IsR (dxh U D g W R s c) :=
  (IsR.sum _ fun t => (isR_Wm hW _ _ _).mul ((hD _ _).mul (hU _ _).gel)).mul (hg c)

theorem sum_gc (hV : ∀ r c, IsR (V r c)) (r : ℕ) : ∑ k : Fin 1024, gc V r k.val = 0 := by
  choose a ha using fun c => (hV r c).gel
  unfold gc mean
  rw [Ideal.div_coe (by norm_num)]
  simp only [ha, ← EReal.coe_mul, coe_sum, ← EReal.coe_sub]
  rw [← EReal.coe_zero, EReal.coe_eq_coe_iff, Finset.sum_sub_distrib, Finset.sum_const, Finset.card_univ, Fintype.card_fin]
  simp only [nsmul_eq_mul]
  push_cast
  ring

theorem dgvR_eq (hU : ∀ r c, IsR (U r c)) (hV : ∀ r c, IsR (V r c)) (hD : ∀ r c, IsR (D r c)) (hg : ∀ c, IsR (g c))
    (hW : ∀ q t s, IsR (W q t s)) (R s c : ℕ) : dgvR U V D g W R s c = dgv U V D g W R s c :=
  dgvP_eq _ _ (isR_gc hV _) (isR_dxh hU hD hg hW R s) (sum_gc hV _) c

theorem isR_dgv (hU : ∀ r c, IsR (U r c)) (hV : ∀ r c, IsR (V r c)) (hD : ∀ r c, IsR (D r c)) (hg : ∀ c, IsR (g c))
    (hW : ∀ q t s, IsR (W q t s)) (R s c : ℕ) : IsR (dgv U V D g W R s c) :=
  (isR_rstd hV _).mul (((isR_dxh hU hD hg hW R s c).sub (IsR.mean (isR_dxh hU hD hg hW R s))).sub
    (((isR_gc hV _ _).mul (isR_rstd hV _)).mul
      (IsR.mean fun k => (isR_dxh hU hD hg hW R s k).mul ((isR_gc hV _ _).mul (isR_rstd hV _)))))

end

end Cert.SG

end

end
-- ==== Proof.Tile.lean ====
module

public import proofs.«01_k».proof.Proof.Gen.KernelIdeal.Value
public import proofs.«01_k».proof.Proof.Sp
public import Idealize.ShloMosaic.Lib.ValueIdx
public import Idealize.ShloMosaic.Lib.ValueLayout
public import Idealize.ShloMosaic.Lib.ValueLayoutCasts
public import Idealize.ShloMosaic.Lib.MatmulPlain

/- One grid point of the kernel, read at an index: the rows of a chunk, and one group of 128 columns of it at a
   variable column offset. Every printed tile is one of these at its own offset, by definition. -/

@[expose] public section

set_option maxRecDepth 16384

noncomputable section

namespace Cert.KernelIdeal.SG

open Idealize.ShloMosaic Idealize.ShloMosaic.TcCoe Idealize.ShloMosaic.ValueIdx
open Idealize.SL Idealize.SL.Sem Cert.KernelIdeal.Gen Cert.SG

theorem n_rt2 : Named.named (F := Ideal) (φ := .f32) κ "inv_sqrt2" 0x3F3504F3#32 = rt2 :=
  IdealRules.named_const.ideal_named_scalar κ "inv_sqrt2" _ _ rfl
theorem n_kd : Named.named (F := Ideal) (φ := .f32) κ "inv_sqrt_2pi" 0x3ECC422A#32 = kd :=
  IdealRules.named_const.ideal_named_scalar κ "inv_sqrt_2pi" _ _ rfl

theorem k_zero : Scalar.ofBits (F := Ideal) .f32 0x00000000#32 = 0 := c_zero
theorem k_1024 : Scalar.ofBits (F := Ideal) .f32 0x44800000#32 = ((1024 : ℝ) : EReal) := c_1024

theorem bc_a1 {a b : ℕ} (v : (⟨2, ![a, 1]⟩ : Shape).Idx → EReal) (h : (⟨2, ![a, 1]⟩ : Shape).Broadcasts ⟨2, ![a, b]⟩)
    (ha : a ≠ 1) (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ => exact (if_neg ha).symm
  | ⟨1, _⟩ => rfl

/-- A sum along the rows of a block, kept as a column. -/
theorem rowSum {a n : ℕ} (x : FVec Ideal ⟨2, ![a, n]⟩ .f32) (h : Shape.Reduces ⟨2, ![a, n]⟩ [1] ⟨1, ![a]⟩)
    (hc : (⟨1, ![a]⟩ : Shape).ShapeCasts ⟨2, ![a, 1]⟩)
    (i : Fin a) (u : Fin 1) :
    shapeCast ⟨2, ![a, 1]⟩ (multiReduction .add [1] ⟨1, ![a]⟩ x 0x00000000#32 h (.inl rfl) rfl) hc (ix2 i u) = ∑ k : Fin n, x (ix2 i k) := by
  rw [shapeCast_a_a1_apply]
  refine (Ideal.multiReduction_add_single x _ h (.inl rfl) rfl (ix1 i)).trans (Finset.sum_congr rfl fun k _ => congrArg x ?_)
  funext ax
  match ax with
  | ⟨0, _⟩ => rfl
  | ⟨1, _⟩ => rfl

/-- A sum along the columns of a block, kept as a row. -/
theorem colSum {a n : ℕ} (x : FVec Ideal ⟨2, ![a, n]⟩ .f32) (h : Shape.Reduces ⟨2, ![a, n]⟩ [0] ⟨1, ![n]⟩)
    (hc : (⟨1, ![n]⟩ : Shape).ShapeCasts ⟨2, ![1, n]⟩)
    (j : Fin n) (u : Fin 1) :
    shapeCast ⟨2, ![1, n]⟩ (multiReduction .add [0] ⟨1, ![n]⟩ x 0x00000000#32 h (.inl rfl) rfl) hc (ix2 u j) = ∑ k : Fin a, x (ix2 k j) := by
  rw [shapeCast_a_1a_apply]
  refine (Ideal.multiReduction_add_single x _ h (.inl rfl) rfl (ix1 j)).trans (Finset.sum_congr rfl fun k _ => congrArg x ?_)
  funext ax
  match ax with
  | ⟨0, _⟩ => rfl
  | ⟨1, _⟩ => rfl

/-- A product contracted over the first axis of both operands. -/
theorem tn_apply (lhs rhs : FVec Ideal S128x128 .bf16) (r c : Fin 128) :
    matmul dot_S128x128_S128x128_S128x128_0_0_1_1_n_n none lhs rhs (constant S128x128 .f32 0x00000000#32) (ix2 r c)
      = ∑ k : Fin 128, lhs (ix2 k r) * rhs (ix2 k c) := by
  refine (Ideal.matmul_constant_zero_apply dot_S128x128_S128x128_S128x128_0_0_1_1_n_n none lhs rhs (ix2 r c)).trans ?_
  rw [← Equiv.sum_comp (contrEquiv1 dot_S128x128_S128x128_S128x128_0_0_1_1_n_n 128 rfl rfl).symm]
  refine Finset.sum_congr rfl fun k _ => ?_
  have hk := contrEquiv1_symm_val dot_S128x128_S128x128_S128x128_0_0_1_1_n_n 128 rfl rfl k
  congr 1
  · refine congrArg lhs (funext fun ax => Fin.ext ?_)
    match ax with
    | ⟨0, _⟩ => exact hk
    | ⟨1, _⟩ => rfl
  · refine congrArg rhs (funext fun ax => Fin.ext ?_)
    match ax with
    | ⟨0, _⟩ => exact hk
    | ⟨1, _⟩ => rfl

theorem nn_apply (lhs rhs : FVec Ideal S128x128 .bf16) (r c : Fin 128) :
    matmul dot_S128x128_S128x128_S128x128_1_0_0_1_n_n none lhs rhs (constant S128x128 .f32 0x00000000#32) (ix2 r c)
      = ∑ k : Fin 128, lhs (ix2 r k) * rhs (ix2 k c) :=
  (Ideal.matmul_plain_apply none lhs rhs _ r c).trans (by rw [constant_apply, c_zero, zero_add])

theorem nt_apply (lhs rhs : FVec Ideal S128x128 .bf16) (r c : Fin 128) :
    matmul dot_S128x128_S128x128_S128x128_1_1_0_0_n_n none lhs rhs (constant S128x128 .f32 0x00000000#32) (ix2 r c)
      = ∑ k : Fin 128, lhs (ix2 r k) * rhs (ix2 c k) :=
  (Ideal.matmul_transposedRhs_apply none lhs rhs _ r c).trans (by rw [constant_apply, c_zero, zero_add])

/-- The causal mask. -/
theorem mask_apply (i j : Fin 128) : k0_pay17 (ix2 i j) = if j.val ≤ i.val then 1#1 else 0#1 := by
  have e0 : iota .tc S128x128 32 [0] iota_S128x128_d0_w32 (ix2 i j) = BitVec.ofNat 32 i.val := iota_single_apply _ _ _ _ _ _
  have e1 : iota .tc S128x128 32 [1] iota_S128x128_d1_w32 (ix2 i j) = BitVec.ofNat 32 j.val := iota_single_apply _ _ _ _ _ _
  show IntOp.cmpi .sge (iota .tc S128x128 32 [0] iota_S128x128_d0_w32 (ix2 i j)) (iota .tc S128x128 32 [1] iota_S128x128_d1_w32 (ix2 i j)) = _
  rw [e0, e1, WordCmp.cmpi_sge_ofNat (by have := i.isLt; omega) (by have := j.isLt; omega)]
  by_cases h : j.val ≤ i.val <;> simp [h]

theorem sel_mask (i j : Fin 128) (x y : EReal) : Scalar.select (k0_pay17 (ix2 i j)) x y = if j.val ≤ i.val then x else y := by
  rw [mask_apply]
  split <;> rfl

theorem w_apply (w : FVec Ideal S1x128x128 .f32) (i j : Fin 128) :
    k0_pay18 (F := Ideal) w (ix2 i j) = if j.val ≤ i.val then w (ix3 (0 : Fin 1) i j) else 0 := by
  show Scalar.select (k0_pay17 (ix2 i j)) (shapeCast S128x128 w shapeCasts_S1x128x128_S128x128 (ix2 i j)) (Ideal.ofBits .f32 0x00000000#32) = _
  rw [sel_mask, shapeCast_1ab_ab_apply, c_zero]

theorem gelu_apply (x : FVec Ideal S128x1024 .bf16) (i : Fin 128) (j : Fin 1024) : k0_pay9 (F := Ideal) x (ix2 i j) = gel (x (ix2 i j)) := by
  show Ideal.ofBits .f32 0x3F000000#32 * x (ix2 i j) * (Ideal.ofBits .f32 0x3F800000#32 + Ideal.erf (x (ix2 i j) * Named.named (F := Ideal) (φ := .f32) κ "inv_sqrt2" 0x3F3504F3#32)) = _
  rw [c_half, c_one, n_rt2]
  rfl

/-- The rows of a chunk are rows of the arguments. -/
structure Blk (U V D : ℕ → ℕ → EReal) (g b : ℕ → EReal) (R : ℕ) (x0 x1 x2 : FVec Ideal S128x1024 .bf16)
    (x3 x4 : FVec Ideal S1x1024 .f32) : Prop where
  hu : ∀ (i : Fin 128) (j : Fin 1024), x0 (ix2 i j) = U (R + i.val) j.val
  hv : ∀ (i : Fin 128) (j : Fin 1024), x1 (ix2 i j) = V (R + i.val) j.val
  hd : ∀ (i : Fin 128) (j : Fin 1024), x2 (ix2 i j) = D (R + i.val) j.val
  hg : ∀ j : Fin 1024, x3 (ix2 (0 : Fin 1) j) = g j.val
  hb : ∀ j : Fin 1024, x4 (ix2 (0 : Fin 1) j) = b j.val

variable {U V D : ℕ → ℕ → EReal} {g b : ℕ → EReal} {W : ℕ → ℕ → ℕ → EReal} {B : ℕ → ℕ → EReal} {R : ℕ}
  {x0 x1 x2 : FVec Ideal S128x1024 .bf16} {x3 x4 : FVec Ideal S1x1024 .f32}

theorem gc_apply (h : Blk U V D g b R x0 x1 x2 x3 x4) (i : Fin 128) (j : Fin 1024) :
    k0_pay12 (F := Ideal) x1 (ix2 i j) = gc V (R + i.val) j.val := by
  show k0_pay9 (F := Ideal) x1 (ix2 i j) - broadcastTo S128x1024 (divf (shapeCast S128x1 (multiReduction .add [1] S128 (k0_pay9 x1) 0x00000000#32
    reduces_S128x1024_S128 (.inl rfl) rfl) shapeCasts_S128_S128x1) (broadcast S128x1 (Ideal.ofBits .f32 0x44800000#32)))
    broadcasts_S128x1_S128x1024 (ix2 i j) = _
  rw [bc_a1 _ _ (by decide), divf_apply, rowSum, broadcast_apply, c_1024]
  simp only [gelu_apply, h.hv]
  rfl

theorem rstd_apply (h : Blk U V D g b R x0 x1 x2 x3 x4) (i : Fin 128) (u : Fin 1) :
    k0_pay14 (F := Ideal) (k0_pay13 x1) (ix2 i u) = rstd V (R + i.val) := by
  show Ideal.rsqrt (Ideal.div (shapeCast S128x1 (multiReduction .add [1] S128 (mulf (k0_pay12 (F := Ideal) x1) (k0_pay12 x1)) 0x00000000#32
    reduces_S128x1024_S128 (.inl rfl) rfl) shapeCasts_S128_S128x1 (ix2 i u)) (Ideal.ofBits .f32 0x44800000#32) + eps) = _
  rw [rowSum, c_1024]
  simp only [mulf_apply, gc_apply h]
  rfl

theorem xh_apply (h : Blk U V D g b R x0 x1 x2 x3 x4) (i : Fin 128) (j : Fin 1024) :
    k0_pay15 (F := Ideal) (k0_pay12 x1) (k0_pay13 x1) (ix2 i j) = xh V (R + i.val) j.val := by
  show k0_pay12 (F := Ideal) x1 (ix2 i j) * broadcastTo S128x1024 (k0_pay14 (k0_pay13 x1)) broadcasts_S128x1_S128x1024 (ix2 i j) = _
  rw [bc_a1 _ _ (by decide), rstd_apply h, gc_apply h]
  rfl

/-- The normalised gate of a chunk. -/
abbrev vnB (x1 : FVec Ideal S128x1024 .bf16) (x3 x4 : FVec Ideal S1x1024 .f32) : FVec Ideal S128x1024 .f32 :=
  k0_pay16 (F := Ideal) (k0_pay10 x3) (k0_pay11 x4) (k0_pay12 x1) (k0_pay13 x1)

theorem vn_apply (h : Blk U V D g b R x0 x1 x2 x3 x4) (i : Fin 128) (j : Fin 1024) :
    vnB x1 x3 x4 (ix2 i j) = vn V g b (R + i.val) j.val := by
  show k0_pay15 (F := Ideal) (k0_pay12 x1) (k0_pay13 x1) (ix2 i j)
      * broadcastTo S128x1024 (shapeCast S1x1024 x3 shapeCasts_S1x1024_S1x1024) broadcasts_S1x1024_S128x1024 (ix2 i j)
    + broadcastTo S128x1024 (shapeCast S1x1024 x4 shapeCasts_S1x1024_S1x1024) broadcasts_S1x1024_S128x1024 (ix2 i j) = _
  rw [broadcastTo_1b_ab_apply, broadcastTo_1b_ab_apply, shapeCast_self, shapeCast_self, xh_apply h, h.hg, h.hb]
  rfl

/-! ### A group of columns -/

/-- The columns of a group. -/
abbrev tS (o : ℕ) (h : S128x1024.Slices ![0, o] S128x128) (x : FVec Ideal S128x1024 .f32) : FVec Ideal S128x128 .f32 :=
  extractStridedSlice S128x128 ![0, o] x h

theorem tS_apply {o : ℕ} (h : S128x1024.Slices ![0, o] S128x128) (x : FVec Ideal S128x1024 .f32) (q : ℕ) (ho : o = 128 * q) (hq : q < 8)
    (i j : Fin 128) : tS o h x (ix2 i j) = x (ix2 i ⟨128 * q + j.val, by omega⟩) :=
  slice2_axis1_apply o x h i j _ (congrArg (· + j.val) ho.symm)

/-- The gradient of the mixed gate on a group. -/
abbrev tX (o : ℕ) (h : S128x1024.Slices ![0, o] S128x128) (dso gu : FVec Ideal S128x1024 .f32) : FVec Ideal S128x128 .f32 :=
  mulf (tS o h dso) (tS o h gu)

theorem tX_apply (hB : Blk U V D g b R x0 x1 x2 x3 x4) {o : ℕ} (h : S128x1024.Slices ![0, o] S128x128) (q : ℕ) (ho : o = 128 * q) (hq : q < 8)
    (i j : Fin 128) : tX o h (k0_pay8 x2) (k0_pay9 x0) (ix2 i j) = dmx U D (R + i.val) (128 * q + j.val) := by
  show tS o h (k0_pay8 x2) (ix2 i j) * tS o h (k0_pay9 x0) (ix2 i j) = _
  rw [tS_apply h _ q ho hq, tS_apply h _ q ho hq, gelu_apply, hB.hu]
  show x2 _ * _ = _
  rw [hB.hd]
  rfl

def tM (o : ℕ) (h : S128x1024.Slices ![0, o] S128x128) (vn : FVec Ideal S128x1024 .f32) (w : FVec Ideal S1x128x128 .f32)
    (b : FVec Ideal S1x128x1 .f32) : FVec Ideal S128x128 .f32 :=
  addf (matmul dot_S128x128_S128x128_S128x128_1_0_0_1_n_n none (k0_pay18 w) (truncf .bf16 (tS o h vn) bitsLt_bf16_f32)
      (constant S128x128 .f32 0x00000000#32))
    (broadcastTo S128x128 (shapeCast S128x1 b shapeCasts_S1x128x1_S128x1) broadcasts_S128x1_S128x128)

theorem tM_apply (hB : Blk U V D g b R x0 x1 x2 x3 x4) {o : ℕ} (h : S128x1024.Slices ![0, o] S128x128) (q : ℕ) (ho : o = 128 * q) (hq : q < 8)
    (w : FVec Ideal S1x128x128 .f32) (bb : FVec Ideal S1x128x1 .f32)
    (hw : ∀ i j : Fin 128, w (ix3 (0 : Fin 1) i j) = W q i.val j.val) (hb : ∀ i : Fin 128, bb (ix3 (0 : Fin 1) i (0 : Fin 1)) = B q i.val)
    (i j : Fin 128) : tM o h (vnB x1 x3 x4) w bb (ix2 i j) = mix V g b W B R i.val (128 * q + j.val) := by
  unfold tM
  rw [addf_apply, nn_apply, bc_a1 _ _ (by decide), shapeCast_1ab_ab_apply, hb]
  simp only [w_apply, truncf_apply, tS_apply h _ q ho hq, vn_apply hB, hw]
  have hq' : (128 * q + j.val) / 128 = q := by omega
  unfold mix Wm
  rw [hq']

/-- The gradient of the GELU on a block of any shape. -/
def gD {s : Shape} (u : FVec Ideal s .f32) : FVec Ideal s .f32 :=
  addf (mulf (broadcast s (Scalar.ofBits .f32 0x3F000000#32)) (addf (broadcast s (Scalar.ofBits .f32 0x3F800000#32))
      (erf (mulf u (broadcast s (Named.named (φ := .f32) κ "inv_sqrt2" 0x3F3504F3#32))))))
    (mulf (mulf u (exp (mulf (mulf (broadcast s (Scalar.ofBits .f32 0xBF000000#32)) u) u)))
      (broadcast s (Named.named (φ := .f32) κ "inv_sqrt_2pi" 0x3ECC422A#32)))

theorem gD_apply {s : Shape} (u : FVec Ideal s .f32) (i : s.Idx) : gD u i = gelD (u i) := by
  show Ideal.ofBits .f32 0x3F000000#32 * (Ideal.ofBits .f32 0x3F800000#32 + Ideal.erf (u i * Named.named (F := Ideal) (φ := .f32) κ "inv_sqrt2" 0x3F3504F3#32))
    + u i * Ideal.exp (Ideal.ofBits .f32 0xBF000000#32 * u i * u i) * Named.named (F := Ideal) (φ := .f32) κ "inv_sqrt_2pi" 0x3ECC422A#32 = _
  rw [c_half, c_one, c_neg_half, n_rt2, n_kd]
  rfl

def tU (o : ℕ) (h : S128x1024.Slices ![0, o] S128x128) (u dso vn : FVec Ideal S128x1024 .f32) (w : FVec Ideal S1x128x128 .f32)
    (b : FVec Ideal S1x128x1 .f32) : FVec Ideal S128x128 .bf16 :=
  truncf .bf16 (mulf (mulf (tS o h dso) (tM o h vn w b)) (gD (tS o h u))) bitsLt_bf16_f32

theorem tU_apply (hB : Blk U V D g b R x0 x1 x2 x3 x4) {o : ℕ} (h : S128x1024.Slices ![0, o] S128x128) (q : ℕ) (ho : o = 128 * q) (hq : q < 8)
    (w : FVec Ideal S1x128x128 .f32) (bb : FVec Ideal S1x128x1 .f32)
    (hw : ∀ i j : Fin 128, w (ix3 (0 : Fin 1) i j) = W q i.val j.val) (hb : ∀ i : Fin 128, bb (ix3 (0 : Fin 1) i (0 : Fin 1)) = B q i.val)
    (i j : Fin 128) :
    tU o h (k0_pay6 x0) (k0_pay8 x2) (vnB x1 x3 x4) w bb (ix2 i j) = oU U V D g b W B R i.val (128 * q + j.val) := by
  show tS o h (k0_pay8 x2) (ix2 i j) * tM o h (vnB x1 x3 x4) w bb (ix2 i j) * gD (tS o h (k0_pay6 x0)) (ix2 i j) = _
  rw [tM_apply hB h q ho hq w bb hw hb, gD_apply, tS_apply h _ q ho hq, tS_apply h _ q ho hq]
  show x2 _ * _ * gelD (x0 _) = _
  rw [hB.hd, hB.hu]
  rfl

def tV (o : ℕ) (h : S128x1024.Slices ![0, o] S128x128) (dso gu : FVec Ideal S128x1024 .f32) (w : FVec Ideal S1x128x128 .f32) :
    FVec Ideal S128x128 .f32 :=
  shapeCast S128x128 (matmul dot_S128x128_S128x128_S128x128_0_0_1_1_n_n none (k0_pay18 w) (truncf .bf16 (tX o h dso gu) bitsLt_bf16_f32)
    (constant S128x128 .f32 0x00000000#32)) shapeCasts_S128x128_S128x128

theorem tV_apply (hB : Blk U V D g b R x0 x1 x2 x3 x4) {o : ℕ} (h : S128x1024.Slices ![0, o] S128x128) (q : ℕ) (ho : o = 128 * q) (hq : q < 8)
    (w : FVec Ideal S1x128x128 .f32) (hw : ∀ i j : Fin 128, w (ix3 (0 : Fin 1) i j) = W q i.val j.val)
    (i j : Fin 128) : tV o h (k0_pay8 x2) (k0_pay9 x0) w (ix2 i j) = dvn U D W R i.val (128 * q + j.val) := by
  unfold tV
  rw [shapeCast_self, tn_apply]
  simp only [w_apply, truncf_apply, tX_apply hB h q ho hq, hw]
  have hq' : (128 * q + j.val) / 128 = q := by omega
  unfold dvn Wm
  rw [hq']

def tB (o : ℕ) (h : S128x1024.Slices ![0, o] S128x128) (dso gu : FVec Ideal S128x1024 .f32) (old : FVec Ideal S1x128x1 .f32) :
    FVec Ideal S1x128x1 .f32 :=
  shapeCast S1x128x1 (addf (shapeCast S128x1 old shapeCasts_S1x128x1_S128x1)
    (shapeCast S128x1 (multiReduction .add [1] S128 (tX o h dso gu) 0x00000000#32 reduces_S128x128_S128 (.inl rfl) rfl) shapeCasts_S128_S128x1))
    shapeCasts_S128x1_S1x128x1

theorem tB_apply (hB : Blk U V D g b R x0 x1 x2 x3 x4) {o : ℕ} (h : S128x1024.Slices ![0, o] S128x128) (q : ℕ) (ho : o = 128 * q) (hq : q < 8)
    (old : FVec Ideal S1x128x1 .f32) (u : Fin 1) (i : Fin 128) (v : Fin 1) :
    tB o h (k0_pay8 x2) (k0_pay9 x0) old (ix3 u i v) = old (ix3 (0 : Fin 1) i v) + dbT U D R q i.val := by
  unfold tB
  rw [shapeCast_ab_1ab_apply, addf_apply, shapeCast_1ab_ab_apply, rowSum]
  simp only [tX_apply hB h q ho hq]
  rfl

def tD (o : ℕ) (h : S128x1024.Slices ![0, o] S128x128) (dso gu vn : FVec Ideal S128x1024 .f32) (old : FVec Ideal S1x128x128 .f32) :
    FVec Ideal S1x128x128 .f32 :=
  shapeCast S1x128x128 (addf (shapeCast S128x128 old shapeCasts_S1x128x128_S128x128)
    (select k0_pay17 (matmul dot_S128x128_S128x128_S128x128_1_1_0_0_n_n none (truncf .bf16 (tX o h dso gu) bitsLt_bf16_f32)
      (truncf .bf16 (tS o h vn) bitsLt_bf16_f32) (constant S128x128 .f32 0x00000000#32)) (broadcast S128x128 (Scalar.ofBits .f32 0x00000000#32))))
    shapeCasts_S128x128_S1x128x128

theorem tD_apply (hB : Blk U V D g b R x0 x1 x2 x3 x4) {o : ℕ} (h : S128x1024.Slices ![0, o] S128x128) (q : ℕ) (ho : o = 128 * q) (hq : q < 8)
    (old : FVec Ideal S1x128x128 .f32) (u : Fin 1) (i j : Fin 128) :
    tD o h (k0_pay8 x2) (k0_pay9 x0) (vnB x1 x3 x4) old (ix3 u i j) = old (ix3 (0 : Fin 1) i j) + dwT U V D g b R q i.val j.val := by
  unfold tD
  rw [shapeCast_ab_1ab_apply, addf_apply, shapeCast_1ab_ab_apply, select_apply, sel_mask, nt_apply]
  simp only [truncf_apply, tX_apply hB h q ho hq, tS_apply h _ q ho hq, vn_apply hB]
  rw [broadcast_apply, k_zero]
  rfl

/-! ### The whole row of a chunk, after the gradient of the normalised gate -/

variable {dv : FVec Ideal S128x1024 .f32}

theorem dg_apply (hB : Blk U V D g b R x0 x1 x2 x3 x4) (hd : ∀ (i : Fin 128) (j : Fin 1024), dv (ix2 i j) = dvn U D W R i.val j.val)
    (old : FVec Ideal S1x1024 .f32) (u : Fin 1) (j : Fin 1024) :
    k0_pay98 (F := Ideal) (k0_pay15 (k0_pay12 x1) (k0_pay13 x1)) dv old (ix2 u j) = old (ix2 u j) + dgT U V D W R j.val := by
  show shapeCast S1x1024 old shapeCasts_S1x1024_S1x1024 (ix2 u j) + shapeCast S1x1024 (multiReduction .add [0] S1024
    (mulf dv (k0_pay15 (k0_pay12 x1) (k0_pay13 x1))) 0x00000000#32 reduces_S128x1024_S1024 (.inl rfl) rfl) shapeCasts_S1024_S1x1024 (ix2 u j) = _
  rw [shapeCast_self, colSum]
  simp only [mulf_apply, xh_apply hB, hd]
  rfl

theorem de_apply (hd : ∀ (i : Fin 128) (j : Fin 1024), dv (ix2 i j) = dvn U D W R i.val j.val)
    (old : FVec Ideal S1x1024 .f32) (u : Fin 1) (j : Fin 1024) :
    k0_pay99 (F := Ideal) dv old (ix2 u j) = old (ix2 u j) + deT U D W R j.val := by
  show shapeCast S1x1024 old shapeCasts_S1x1024_S1x1024 (ix2 u j) + shapeCast S1x1024 (multiReduction .add [0] S1024
    dv 0x00000000#32 reduces_S128x1024_S1024 (.inl rfl) rfl) shapeCasts_S1024_S1x1024 (ix2 u j) = _
  rw [shapeCast_self, colSum]
  simp only [hd]
  rfl

theorem dxh_apply (hB : Blk U V D g b R x0 x1 x2 x3 x4) (hd : ∀ (i : Fin 128) (j : Fin 1024), dv (ix2 i j) = dvn U D W R i.val j.val)
    (i : Fin 128) (j : Fin 1024) :
    mulf dv (broadcastTo S128x1024 (shapeCast S1x1024 x3 shapeCasts_S1x1024_S1x1024) broadcasts_S1x1024_S128x1024) (ix2 i j)
      = dxh U D g W R i.val j.val := by
  rw [mulf_apply, broadcastTo_1b_ab_apply, shapeCast_self, hd, hB.hg]
  rfl

theorem dgv_apply (hB : Blk U V D g b R x0 x1 x2 x3 x4) (hd : ∀ (i : Fin 128) (j : Fin 1024), dv (ix2 i j) = dvn U D W R i.val j.val)
    (i : Fin 128) (j : Fin 1024) :
    k0_pay100 (F := Ideal) (k0_pay14 (k0_pay13 x1)) (k0_pay15 (k0_pay12 x1) (k0_pay13 x1)) dv x3 (ix2 i j) = dgv U V D g W R i.val j.val := by
  have hx := dxh_apply hB hd (W := W)
  unfold k0_pay100
  dsimp only
  generalize mulf dv (broadcastTo S128x1024 (shapeCast S1x1024 x3 shapeCasts_S1x1024_S1x1024) broadcasts_S1x1024_S128x1024) = dx at hx ⊢
  rw [mulf_apply, subf_apply, subf_apply, mulf_apply, bc_a1 _ _ (by decide), bc_a1 _ _ (by decide), bc_a1 _ _ (by decide),
    divf_apply, divf_apply, rowSum, rowSum, broadcast_apply, k_1024, rstd_apply hB, xh_apply hB]
  simp only [mulf_apply, xh_apply hB, hx]
  rfl

theorem oV_apply (hB : Blk U V D g b R x0 x1 x2 x3 x4) (hd : ∀ (i : Fin 128) (j : Fin 1024), dv (ix2 i j) = dvn U D W R i.val j.val)
    (i : Fin 128) (j : Fin 1024) :
    k0_pay1 (F := Ideal) (k0_pay7 x1) (k0_pay100 (F := Ideal) (k0_pay14 (k0_pay13 x1)) (k0_pay15 (k0_pay12 x1) (k0_pay13 x1)) dv x3) (k0_pay101 (k0_pay7 x1)) k0_pay102 (ix2 i j)
      = oV U V D g W R i.val j.val := by
  show k0_pay100 (F := Ideal) (k0_pay14 (k0_pay13 x1)) (k0_pay15 (k0_pay12 x1) (k0_pay13 x1)) dv x3 (ix2 i j) * gD (s := S128x1024) (k0_pay7 x1) (ix2 i j) = _
  rw [dgv_apply hB hd, gD_apply]
  show _ * gelD (x1 _) = _
  rw [hB.hv]
  rfl

end Cert.KernelIdeal.SG

end

end
-- ==== Proof.Block.lean ====
module

public import proofs.«01_k».proof.Proof.Tile
public import Idealize.ShloMosaic.Lib.Pipeline.ValueKit
public import Idealize.ShloMosaic.Lib.Pipeline.ReadBack

/- What one grid point leaves in each output's block: the eight tiles of a window together, at an index. -/

@[expose] public section

set_option maxRecDepth 16384

noncomputable section

namespace Cert.KernelIdeal.SG

open Idealize.ShloMosaic hiding ix1 ix2 ix3 eq_ix1 eq_ix2 eq_ix3
open Idealize.ShloMosaic.TcCoe Idealize.ShloMosaic.ValueIdx
open Idealize.SL Idealize.SL.Sem Cert.KernelIdeal.Gen Cert.SG

theorem sl8 : ∀ q : Fin 8, S128x1024.Slices ![0, 128 * q.val] S128x128 := by decide
theorem inW : ∀ q : Fin 8, ∀ a, ![q.val, 0, 0] a + ![1, 128, 128] a ≤ S8x128x128.size a := by decide
theorem inC : ∀ q : Fin 8, ∀ a, ![q.val, 0, 0] a + ![1, 128, 1] a ≤ S8x128x1.size a := by decide
theorem inR : ∀ q : Fin 8, ∀ a, ![0, 128 * q.val] a + ![128, 128] a ≤ S128x1024.size a := by decide
theorem inO : ∀ q : Fin 8, ∀ a, ![0, 128 * q.val] a + ![128, 128] a ≤ S128x2048.size a := by decide

/-- Eight things, the last first. -/
def eight {α : Type} (f : Fin 8 → α) : List α := [f 7, f 6, f 5, f 4, f 3, f 2, f 1, f 0]

theorem mem_eight {α : Type} (f : Fin 8 → α) (q : Fin 8) : f q ∈ eight f := by
  unfold eight
  match q with
  | ⟨0, _⟩ | ⟨1, _⟩ | ⟨2, _⟩ | ⟨3, _⟩ | ⟨4, _⟩ | ⟨5, _⟩ | ⟨6, _⟩ | ⟨7, _⟩ => simp

abbrev Pc (s : Shape) (e : EltTy) := View.Piece (Elt Ideal) s e

theorem piecesOf_eight {s : Shape} {e : EltTy} (G : s.Idx → Elt Ideal e) (f : Fin 8 → Pc s e)
    (h : ∀ q, ∀ x : (f q).1.shape.Idx, (f q).2 x = G ((f q).1.emb x)) : View.PiecesOf G (eight f) :=
  ⟨h 7, h 6, h 5, h 4, h 3, h 2, h 1, h 0, trivial⟩

/-- The contents of a window written in eight pieces, over anything before. -/
theorem canon_eight {s : Shape} {e : EltTy} (G : s.Idx → Elt Ideal e) (f : Fin 8 → Pc s e) (L : List (Pc s e))
    (h : ∀ q, ∀ x : (f q).1.shape.Idx, (f q).2 x = G ((f q).1.emb x)) (y : s.Idx) (q : Fin 8) (hy : y ∈ (f q).1.set) :
    View.canon (eight f ++ L) y = G y :=
  View.canon_append_of_piecesOf G L (eight f) (piecesOf_eight G f h) y ⟨_, mem_eight f q, hy⟩

variable {U V D : ℕ → ℕ → EReal} {g b : ℕ → EReal} {W : ℕ → ℕ → ℕ → EReal} {B : ℕ → ℕ → EReal} {R : ℕ}
  {x0 x1 x2 : FVec Ideal S128x1024 .bf16} {x3 x4 : FVec Ideal S1x1024 .f32}

/-- A group's weights, and a group's column. -/
abbrev ldw (x : FVec Ideal S8x128x128 .f32) (q : Fin 8) : FVec Ideal S1x128x128 .f32 :=
  View.ld (Val := Elt Ideal) (e' := .f32) x (Rect.unit (s := S8x128x128) ![q.val, 0, 0] ![1, 128, 128] (inW q))
abbrev ldc (x : FVec Ideal S8x128x1 .f32) (q : Fin 8) : FVec Ideal S1x128x1 .f32 :=
  View.ld (Val := Elt Ideal) (e' := .f32) x (Rect.unit (s := S8x128x1) ![q.val, 0, 0] ![1, 128, 1] (inC q))

theorem ldW (x : FVec Ideal S8x128x128 .f32) (q : Fin 8) (i j : Fin 128) :
    ldw x q (ix3 (0 : Fin 1) i j) = x (ix3 q i j) :=
  View.ld_unit_apply_of (Val := Elt Ideal) (e := .f32) x _ _ _ _ _ fun a => match a with
    | ⟨0, _⟩ => rfl
    | ⟨1, _⟩ => (Nat.zero_add _).symm
    | ⟨2, _⟩ => (Nat.zero_add _).symm

theorem ldC (x : FVec Ideal S8x128x1 .f32) (q : Fin 8) (i : Fin 128) (j : Fin 1) :
    ldc x q (ix3 (0 : Fin 1) i j) = x (ix3 q i j) :=
  View.ld_unit_apply_of (Val := Elt Ideal) (e := .f32) x _ _ _ _ _ fun a => match a with
    | ⟨0, _⟩ => rfl
    | ⟨1, _⟩ => (Nat.zero_add _).symm
    | ⟨2, _⟩ => (Nat.zero_add _).symm

theorem embW (q : Fin 8) (u : Fin 1) (i j : Fin 128) :
    (Rect.unit (s := S8x128x128) ![q.val, 0, 0] ![1, 128, 128] (inW q)).emb (ix3 u i j) = ix3 q i j :=
  funext fun a => Fin.ext (match a with
    | ⟨0, _⟩ => by show q.val + 1 * u.val = q.val; omega
    | ⟨1, _⟩ => by show 0 + 1 * i.val = i.val; omega
    | ⟨2, _⟩ => by show 0 + 1 * j.val = j.val; omega)

theorem embC (q : Fin 8) (u : Fin 1) (i : Fin 128) (j : Fin 1) :
    (Rect.unit (s := S8x128x1) ![q.val, 0, 0] ![1, 128, 1] (inC q)).emb (ix3 u i j) = ix3 q i j :=
  funext fun a => Fin.ext (match a with
    | ⟨0, _⟩ => by show q.val + 1 * u.val = q.val; omega
    | ⟨1, _⟩ => by show 0 + 1 * i.val = i.val; omega
    | ⟨2, _⟩ => by show 0 + 1 * j.val = j.val; omega)

/-! ### The four tiled windows -/

/-- The pieces of the weight gradient over the contents `Z`. -/
def pD (x0 x1 x2 : FVec Ideal S128x1024 .bf16) (x3 x4 : FVec Ideal S1x1024 .f32) (Z : FVec Ideal S8x128x128 .f32) (q : Fin 8) : Pc S8x128x128 .f32 :=
  ⟨Rect.unit ![q.val, 0, 0] ![1, 128, 128] (inW q), tD (128 * q.val) (sl8 q) (k0_pay8 x2) (k0_pay9 x0) (vnB x1 x3 x4)
    (ldw Z q)⟩

theorem pD_apply (hB : Blk U V D g b R x0 x1 x2 x3 x4) (Z : FVec Ideal S8x128x128 .f32) (L : List (Pc S8x128x128 .f32)) (y : S8x128x128.Idx) :
    View.canon (Val := Elt Ideal) (eight (pD x0 x1 x2 x3 x4 Z) ++ L) y = Z y + dwT U V D g b R (y 0).val (y 1).val (y 2).val := by
  refine canon_eight (fun y => Z y + dwT U V D g b R (y 0).val (y 1).val (y 2).val) _ L (fun q x => ?_) y (y 0) ?_
  · change S1x128x128.Idx at x
    obtain ⟨u, i, j, rfl⟩ : ∃ (u : Fin 1) (i j : Fin 128), x = ix3 u i j := ⟨x 0, x 1, x 2, eq_ix3 x⟩
    refine (tD_apply hB (sl8 q) q.val rfl q.isLt _ u i j).trans ?_
    rw [ldW]
    exact congrArg (fun y : S8x128x128.Idx => Z y + dwT U V D g b R (y 0).val (y 1).val (y 2).val) (embW q u i j).symm
  · refine (Rect.mem_set_unit (inb := inW (y 0))).mpr fun a => ?_
    match a with
    | ⟨0, _⟩ => exact ⟨le_refl _, Nat.lt_succ_self _⟩
    | ⟨1, _⟩ => exact ⟨Nat.zero_le _, (y 1).isLt.trans_eq (Nat.zero_add _).symm⟩
    | ⟨2, _⟩ => exact ⟨Nat.zero_le _, (y 2).isLt.trans_eq (Nat.zero_add _).symm⟩

/-- The pieces of the bias gradient over the contents `Z`. -/
def pB (x0 x2 : FVec Ideal S128x1024 .bf16) (Z : FVec Ideal S8x128x1 .f32) (q : Fin 8) : Pc S8x128x1 .f32 :=
  ⟨Rect.unit ![q.val, 0, 0] ![1, 128, 1] (inC q), tB (128 * q.val) (sl8 q) (k0_pay8 x2) (k0_pay9 x0)
    (ldc Z q)⟩

theorem pB_apply (hB : Blk U V D g b R x0 x1 x2 x3 x4) (Z : FVec Ideal S8x128x1 .f32) (L : List (Pc S8x128x1 .f32)) (y : S8x128x1.Idx) :
    View.canon (Val := Elt Ideal) (eight (pB x0 x2 Z) ++ L) y = Z y + dbT U D R (y 0).val (y 1).val := by
  refine canon_eight (fun y => Z y + dbT U D R (y 0).val (y 1).val) _ L (fun q x => ?_) y (y 0) ?_
  · change S1x128x1.Idx at x
    obtain ⟨u, i, j, rfl⟩ : ∃ (u : Fin 1) (i : Fin 128) (j : Fin 1), x = ix3 u i j := ⟨x 0, x 1, x 2, eq_ix3 x⟩
    refine (tB_apply hB (sl8 q) q.val rfl q.isLt _ u i j).trans ?_
    rw [ldC]
    exact congrArg (fun y : S8x128x1.Idx => Z y + dbT U D R (y 0).val (y 1).val) (embC q u i j).symm
  · refine (Rect.mem_set_unit (inb := inC (y 0))).mpr fun a => ?_
    match a with
    | ⟨0, _⟩ => exact ⟨le_refl _, Nat.lt_succ_self _⟩
    | ⟨1, _⟩ => exact ⟨Nat.zero_le _, (y 1).isLt.trans_eq (Nat.zero_add _).symm⟩
    | ⟨2, _⟩ => exact ⟨Nat.zero_le _, (y 2).isLt.trans_eq (Nat.zero_add _).symm⟩

/-- The pieces of the gradient of the normalised gate, kept in scratch. -/
def pV (x0 x2 : FVec Ideal S128x1024 .bf16) (x5 : FVec Ideal S8x128x128 .f32) (q : Fin 8) : Pc S128x1024 .f32 :=
  ⟨Rect.unit ![0, 128 * q.val] ![128, 128] (inR q), tV (128 * q.val) (sl8 q) (k0_pay8 x2) (k0_pay9 x0)
    (ldw x5 q)⟩

theorem pV_apply (hB : Blk U V D g b R x0 x1 x2 x3 x4) (x5 : FVec Ideal S8x128x128 .f32)
    (hw : ∀ (q : Fin 8) (i j : Fin 128), x5 (ix3 q i j) = W q.val i.val j.val) (L : List (Pc S128x1024 .f32)) (y : S128x1024.Idx) :
    View.canon (Val := Elt Ideal) (eight (pV x0 x2 x5) ++ L) y = dvn U D W R (y 0).val (y 1).val := by
  have h1 : (y 1).val < 1024 := (y 1).isLt
  refine canon_eight (fun y => dvn U D W R (y 0).val (y 1).val) _ L (fun q x => ?_) y ⟨(y 1).val / 128, by omega⟩ ?_
  · change S128x128.Idx at x
    obtain ⟨i, j, rfl⟩ : ∃ (i j : Fin 128), x = ix2 i j := ⟨x 0, x 1, eq_ix2 x⟩
    refine (tV_apply (W := W) hB (sl8 q) q.val rfl q.isLt _ (fun i j => (ldW _ q i j).trans (hw q i j)) i j).trans ?_
    show _ = dvn U D W R (0 + 1 * i.val) (128 * q.val + 1 * j.val)
    rw [Nat.zero_add, Nat.one_mul, Nat.one_mul]
  · refine (Rect.mem_set_unit (inb := inR _)).mpr fun a => ?_
    match a with
    | ⟨0, _⟩ => exact ⟨Nat.zero_le _, (y 0).isLt.trans_eq (Nat.zero_add _).symm⟩
    | ⟨1, _⟩ => show 128 * ((y 1).val / 128) ≤ (y 1).val ∧ (y 1).val < 128 * ((y 1).val / 128) + 128; omega

/-- The pieces of the gradient of the gated half, in the left half of the output block. -/
def pU (x0 x1 x2 : FVec Ideal S128x1024 .bf16) (x3 x4 : FVec Ideal S1x1024 .f32) (x5 : FVec Ideal S8x128x128 .f32)
    (x6 : FVec Ideal S8x128x1 .f32) (q : Fin 8) : Pc S128x2048 .bf16 :=
  ⟨Rect.unit ![0, 128 * q.val] ![128, 128] (inO q), tU (128 * q.val) (sl8 q) (k0_pay6 x0) (k0_pay8 x2) (vnB x1 x3 x4)
    (ldw x5 q) (ldc x6 q)⟩

/-- The output block of a chunk at an index: the two halves. -/
def oUV (U V D : ℕ → ℕ → EReal) (g b : ℕ → EReal) (W : ℕ → ℕ → ℕ → EReal) (B : ℕ → ℕ → EReal) (R i c : ℕ) : EReal :=
  if c < 1024 then oU U V D g b W B R i c else oV U V D g W R i (c - 1024)

theorem pU_apply (hB : Blk U V D g b R x0 x1 x2 x3 x4) (x5 : FVec Ideal S8x128x128 .f32) (x6 : FVec Ideal S8x128x1 .f32)
    (hw : ∀ (q : Fin 8) (i j : Fin 128), x5 (ix3 q i j) = W q.val i.val j.val)
    (hb : ∀ (q : Fin 8) (i : Fin 128), x6 (ix3 q i (0 : Fin 1)) = B q.val i.val)
    (z : FVec Ideal S128x1024 .bf16) (hz : ∀ (i : Fin 128) (j : Fin 1024), z (ix2 i j) = oV U V D g W R i.val j.val) (y : S128x2048.Idx) :
    View.canon ((⟨Rect.unit ![0, 1024] ![128, 1024] inb_S128x2048_S128x1024_0_1024, z⟩ : Pc S128x2048 .bf16)
      :: eight (pU x0 x1 x2 x3 x4 x5 x6)) y = oUV U V D g b W B R (y 0).val (y 1).val := by
  have h1 : (y 1).val < 2048 := (y 1).isLt
  let G : S128x2048.Idx → Elt Ideal .bf16 := fun y => oUV U V D g b W B R (y 0).val (y 1).val
  have hL : View.PiecesOf G ((⟨Rect.unit ![0, 1024] ![128, 1024] inb_S128x2048_S128x1024_0_1024, z⟩ : Pc S128x2048 .bf16)
      :: eight (pU x0 x1 x2 x3 x4 x5 x6)) := by
    refine ⟨fun x => ?_, piecesOf_eight G _ fun q x => ?_⟩
    · change S128x1024.Idx at x
      obtain ⟨i, j, rfl⟩ : ∃ (i : Fin 128) (j : Fin 1024), x = ix2 i j := ⟨x 0, x 1, eq_ix2 x⟩
      refine (hz i j).trans ?_
      show _ = oUV U V D g b W B R (0 + 1 * i.val) (1024 + 1 * j.val)
      rw [Nat.zero_add, Nat.one_mul, Nat.one_mul, oUV, if_neg (by omega), Nat.add_sub_cancel_left]
    · change S128x128.Idx at x
      obtain ⟨i, j, rfl⟩ : ∃ (i j : Fin 128), x = ix2 i j := ⟨x 0, x 1, eq_ix2 x⟩
      refine (tU_apply (W := W) (B := B) hB (sl8 q) q.val rfl q.isLt _ _ (fun i j => (ldW _ q i j).trans (hw q i j))
        (fun i => (ldC _ q i 0).trans (hb q i)) i j).trans ?_
      show _ = oUV U V D g b W B R (0 + 1 * i.val) (128 * q.val + 1 * j.val)
      rw [Nat.zero_add, Nat.one_mul, Nat.one_mul, oUV, if_pos (by omega)]
  refine View.canon_apply_of_pieces G _ hL.mem y ?_
  by_cases h : (y 1).val < 1024
  · refine ⟨_, List.mem_cons_of_mem _ (mem_eight _ ⟨(y 1).val / 128, by omega⟩), (Rect.mem_set_unit (inb := inO _)).mpr fun a => ?_⟩
    match a with
    | ⟨0, _⟩ => exact ⟨Nat.zero_le _, (y 0).isLt.trans_eq (Nat.zero_add _).symm⟩
    | ⟨1, _⟩ => show 128 * ((y 1).val / 128) ≤ (y 1).val ∧ (y 1).val < 128 * ((y 1).val / 128) + 128; omega
  · refine ⟨_, List.mem_cons_self, (Rect.mem_set_unit (inb := inb_S128x2048_S128x1024_0_1024)).mpr fun a => ?_⟩
    match a with
    | ⟨0, _⟩ => exact ⟨Nat.zero_le _, (y 0).isLt.trans_eq (Nat.zero_add _).symm⟩
    | ⟨1, _⟩ => show 1024 ≤ (y 1).val ∧ (y 1).val < 1024 + 1024; omega

end Cert.KernelIdeal.SG

end

end
-- ==== Proof.Args.lean ====
module

public import proofs.«01_k».proof.Proof.Sp
public import Idealize.ShloMosaic.Lib.ValueIdx

/- The arguments of both programs as functions of natural-number coordinates. -/

@[expose] public section

noncomputable section

namespace Cert.SG

open Idealize.ShloMosaic
open Idealize.ShloMosaic.ValueIdx

def at1 {a : ℕ} (x : (⟨1, ![a]⟩ : Shape).Idx → EReal) (i : ℕ) : EReal := if h : i < a then x (ix1 ⟨i, h⟩) else 0
def at2 {a b : ℕ} (x : (⟨2, ![a, b]⟩ : Shape).Idx → EReal) (i j : ℕ) : EReal :=
  if h : i < a ∧ j < b then x (ix2 ⟨i, h.1⟩ ⟨j, h.2⟩) else 0
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem at1_eq {a : ℕ} (x : (⟨1, ![a]⟩ : Shape).Idx → EReal) (i : ℕ) (h : i < a) : at1 x i = x (ix1 ⟨i, h⟩) := dif_pos h
theorem at2_eq {a b : ℕ} (x : (⟨2, ![a, b]⟩ : Shape).Idx → EReal) (i j : ℕ) (h : i < a) (h' : j < b) :
    at2 x i j = x (ix2 ⟨i, h⟩ ⟨j, h'⟩) := dif_pos ⟨h, h'⟩
theorem at3_eq {a b c : ℕ} (x : (⟨3, ![a, b, c]⟩ : Shape).Idx → EReal) (i j k : ℕ) (h : i < a) (h' : j < b) (h'' : k < c) :
    at3 x i j k = x (ix3 ⟨i, h⟩ ⟨j, h'⟩ ⟨k, h''⟩) := dif_pos ⟨h, h', h''⟩

/-- The second half of the projected columns the gate takes. -/
def sh (x : ℕ → ℕ → EReal) (r k : ℕ) : EReal := x r (1024 + k)

end Cert.SG

end

end
-- ==== Proof.Point.lean ====
module

public import proofs.«01_k».proof.Proof.Block
public import proofs.«01_k».proof.Proof.Args

/- The blocks a grid point reads, and what it leaves in each output's block. -/

@[expose] public section

set_option maxRecDepth 16384

noncomputable section

namespace Cert.KernelIdeal.SG

open Idealize.ShloMosaic hiding ix1 ix2 ix3 eq_ix1 eq_ix2 eq_ix3
open Idealize.ShloMosaic.TcCoe Idealize.ShloMosaic.ValueIdx
open Idealize.SL Idealize.SL.Sem Cert.KernelIdeal.Gen Cert.SG

variable (m : (ℓ : Loc nD τ sig) → Buf (Elt Ideal) ℓ)

abbrev aP (c : Dev nD) : ℕ → ℕ → EReal := at2 (a := 4096) (b := 9216) (m ((c : Thread nD τ).loc main_arg0))
abbrev aD (c : Dev nD) : ℕ → ℕ → EReal := at2 (a := 4096) (b := 1024) (m ((c : Thread nD τ).loc main_arg1))
abbrev ag (c : Dev nD) : ℕ → EReal := at1 (a := 1024) (m ((c : Thread nD τ).loc main_arg2))
abbrev ab (c : Dev nD) : ℕ → EReal := at1 (a := 1024) (m ((c : Thread nD τ).loc main_arg3))
abbrev aW (c : Dev nD) : ℕ → ℕ → ℕ → EReal := at3 (a := 8) (b := 128) (c := 128) (m ((c : Thread nD τ).loc main_arg4))
abbrev aB (c : Dev nD) : ℕ → ℕ → EReal := at2 (a := 8) (b := 128) (m ((c : Thread nD τ).loc main_arg5))
abbrev aV (c : Dev nD) : ℕ → ℕ → EReal := sh (aP m c)

theorem i0 : ∀ t : Fin cfg0.N, win0_0.index t = ![t.val, 0] := (by decide +kernel : ∀ t : Fin grid0.N, _)
theorem i1 : ∀ t : Fin cfg0.N, win0_1.index t = ![t.val, 1] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0, 0] := (by decide +kernel : ∀ t : Fin grid0.N, _)
theorem i6 : ∀ t : Fin cfg0.N, win0_6.index t = ![0, 0, 0] := (by decide +kernel : ∀ t : Fin grid0.N, _)

variable (c : Dev nD) (t : Fin cfg0.N)

theorem tlt : t.val < 32 := t.isLt.trans_eq N_0

theorem r0 (i : Fin 128) (j : Fin 1024) : (iblk m c 0 t : FVec Ideal S128x1024 .bf16) (ix2 i j) = aP m c (128 * t.val + i.val) j.val := by
  have := tlt t
  refine Eq.trans ?_ (at2_eq (a := 4096) (b := 9216) _ _ _ (by omega) (by omega)).symm
  rw [← V_main_arg0 m c]
  show iblk m c 0 t (ix2 i j) = _
  blk_ext [iblk, V, i0 t]
  show t.val * 128 + i.val = 128 * t.val + i.val
  omega

theorem r1 (i : Fin 128) (j : Fin 1024) : (iblk m c 1 t : FVec Ideal S128x1024 .bf16) (ix2 i j) = aV m c (128 * t.val + i.val) j.val := by
  have := tlt t
  refine Eq.trans ?_ (at2_eq (a := 4096) (b := 9216) _ _ _ (by omega) (by omega)).symm
  rw [← V_main_arg0 m c]
  show iblk m c 1 t (ix2 i j) = _
  blk_ext [iblk, V, i1 t]
  show t.val * 128 + i.val = 128 * t.val + i.val
  omega

theorem r2 (i : Fin 128) (j : Fin 1024) : (iblk m c 2 t : FVec Ideal S128x1024 .bf16) (ix2 i j) = aD m c (128 * t.val + i.val) j.val := by
  have := tlt t
  refine Eq.trans ?_ (at2_eq (a := 4096) (b := 1024) _ _ _ (by omega) (by omega)).symm
  rw [← V_main_arg1 m c]
  show iblk m c 2 t (ix2 i j) = _
  blk_ext [iblk, V, i2 t]
  show t.val * 128 + i.val = 128 * t.val + i.val
  omega

theorem r5 (q : Fin 8) (i j : Fin 128) : (iblk m c 5 t : FVec Ideal S8x128x128 .f32) (ix3 q i j) = aW m c q.val i.val j.val := by
  refine Eq.trans ?_ (at3_eq _ _ _ _ q.isLt i.isLt j.isLt).symm
  rw [← V_main_arg4 m c]
  show iblk m c 5 t (ix3 q i j) = _
  blk_ext [iblk, V, i5 t]

theorem r3 (j : Fin 1024) : (iblk m c 3 t : FVec Ideal S1x1024 .f32) (ix2 (0 : Fin 1) j) = ag m c j.val := by
  refine Eq.trans ?_ (at1_eq _ _ j.isLt).symm
  show iblk m c 3 t (ix2 0 j) = _
  have e : ((View.whole main_v1).slice (win0_3.rect t)).emb (ix2 (0 : Fin 1) j) = ix2 (0 : Fin 1) j := by blk_ext [i3 t]
  blk_simp [iblk]; entry_read
  rw [e]
  exact shapeCast_a_1a_apply _ _ _ _

theorem r4 (j : Fin 1024) : (iblk m c 4 t : FVec Ideal S1x1024 .f32) (ix2 (0 : Fin 1) j) = ab m c j.val := by
  refine Eq.trans ?_ (at1_eq _ _ j.isLt).symm
  show iblk m c 4 t (ix2 0 j) = _
  have e : ((View.whole main_v2).slice (win0_4.rect t)).emb (ix2 (0 : Fin 1) j) = ix2 (0 : Fin 1) j := by blk_ext [i4 t]
  blk_simp [iblk]; entry_read
  rw [e]
  exact shapeCast_a_1a_apply _ _ _ _

theorem r6 (q : Fin 8) (i : Fin 128) : (iblk m c 6 t : FVec Ideal S8x128x1 .f32) (ix3 q i (0 : Fin 1)) = aB m c q.val i.val := by
  refine Eq.trans ?_ (at2_eq _ _ _ q.isLt i.isLt).symm
  show iblk m c 6 t (ix3 q i 0) = _
  have e : ((View.whole main_v0).slice (win0_6.rect t)).emb (ix3 q i (0 : Fin 1)) = ix3 q i (0 : Fin 1) := by blk_ext [i6 t]
  blk_simp [iblk]; entry_read
  rw [e]
  exact broadcastInDim_apply _ _ _ _ _ fun a => match a with | ⟨0, _⟩ => rfl | ⟨1, _⟩ => rfl

theorem blk : Blk (aP m c) (aV m c) (aD m c) (ag m c) (ab m c) (128 * t.val) (iblk m c 0 t) (iblk m c 1 t) (iblk m c 2 t) (iblk m c 3 t)
    (iblk m c 4 t) := ⟨r0 m c t, r1 m c t, r2 m c t, r3 m c t, r4 m c t⟩

/-! ### What a point leaves -/

theorem o8B (h0 : ¬t.val % 32 = 0) (y : S8x128x128.Idx) :
    (outsAt0 m c t.val t.isLt).2.1 y = (outsAt0 m c (t.val - 1) (by omega)).2.1 y
      + dwT (aP m c) (aV m c) (aD m c) (ag m c) (ab m c) (128 * t.val) (y 0).val (y 1).val (y 2).val := by
  rw [outsAt0_B m c t h0]
  frame_out
  try simp (disch := decide) only [↓View.readCov_skip, ↓View.readCov_fill]
  exact pD_apply (blk m c t) _ [] y

theorem o8A (h0 : t.val % 32 = 0) (y : S8x128x128.Idx) :
    (outsAt0 m c t.val t.isLt).2.1 y
      = 0 + dwT (aP m c) (aV m c) (aD m c) (ag m c) (ab m c) (128 * t.val) (y 0).val (y 1).val (y 2).val := by
  rw [outsAt0_A m c t h0]
  frame_out
  simp (disch := decide) only [↓View.readCov_skip, ↓View.readCov_fill]
  refine (pD_apply (blk m c t) k0_pay2 [_] y).trans (congrArg (· + _) ?_)
  exact k_zero

theorem o9B (h0 : ¬t.val % 32 = 0) (y : S8x128x1.Idx) :
    (outsAt0 m c t.val t.isLt).2.2.1 y = (outsAt0 m c (t.val - 1) (by omega)).2.2.1 y
      + dbT (aP m c) (aD m c) (128 * t.val) (y 0).val (y 1).val := by
  rw [outsAt0_B m c t h0]
  frame_out
  try simp (disch := decide) only [↓View.readCov_skip, ↓View.readCov_fill]
  exact pB_apply (blk m c t) _ [] y

theorem o9A (h0 : t.val % 32 = 0) (y : S8x128x1.Idx) :
    (outsAt0 m c t.val t.isLt).2.2.1 y = 0 + dbT (aP m c) (aD m c) (128 * t.val) (y 0).val (y 1).val := by
  rw [outsAt0_A m c t h0]
  frame_out
  simp (disch := decide) only [↓View.readCov_skip, ↓View.readCov_fill]
  refine (pB_apply (blk m c t) k0_pay3 [_] y).trans (congrArg (· + _) ?_)
  exact k_zero

/-- The scratch the eight groups filled, read back whole. -/
abbrev dvB (x0 x2 : FVec Ideal S128x1024 .bf16) (x5 : FVec Ideal S8x128x128 .f32) : FVec Ideal S128x1024 .f32 :=
  (View.whole cc0_scratch0).readCov (Val := Elt Ideal) (eight (pV x0 x2 x5)) (Rect.unit (s := S128x1024) ![0, 0] ![128, 1024] inb_S128x1024_S128x1024_0_0).toLoadRect

theorem dvB_apply (i : Fin 128) (j : Fin 1024) :
    dvB (iblk m c 0 t) (iblk m c 2 t) (iblk m c 5 t) (ix2 i j) = dvn (aP m c) (aD m c) (aW m c) (128 * t.val) i.val j.val := by
  unfold dvB
  rw [View.readCov_eq_canon']
  refine (pV_apply (W := aW m c) (blk m c t) (iblk m c 5 t) (r5 m c t) [] _).trans ?_
  show dvn _ _ _ _ (0 + 1 * i.val) (0 + 1 * j.val) = _
  rw [Nat.zero_add, Nat.zero_add, Nat.one_mul, Nat.one_mul]

theorem o10B (h0 : ¬t.val % 32 = 0) (y : S1x1024.Idx) :
    (outsAt0 m c t.val t.isLt).2.2.2.1 y = (outsAt0 m c (t.val - 1) (by omega)).2.2.2.1 y
      + dgT (aP m c) (aV m c) (aD m c) (aW m c) (128 * t.val) (y 1).val := by
  rw [outsAt0_B m c t h0]
  frame_out
  try simp (disch := decide) only [↓View.readCov_skip, ↓View.readCov_fill]
  obtain ⟨u, j, rfl⟩ : ∃ (u : Fin 1) (j : Fin 1024), y = ix2 u j := ⟨y 0, y 1, eq_ix2 y⟩
  exact dg_apply (blk m c t) (dvB_apply m c t) _ u j

theorem o10A (h0 : t.val % 32 = 0) (y : S1x1024.Idx) :
    (outsAt0 m c t.val t.isLt).2.2.2.1 y = 0 + dgT (aP m c) (aV m c) (aD m c) (aW m c) (128 * t.val) (y 1).val := by
  rw [outsAt0_A m c t h0]
  frame_out
  try simp (disch := decide) only [↓View.readCov_skip, ↓View.readCov_fill]
  obtain ⟨u, j, rfl⟩ : ∃ (u : Fin 1) (j : Fin 1024), y = ix2 u j := ⟨y 0, y 1, eq_ix2 y⟩
  refine (dg_apply (blk m c t) (dvB_apply m c t) k0_pay4 u j).trans (congrArg (· + _) ?_)
  exact k_zero

theorem o11B (h0 : ¬t.val % 32 = 0) (y : S1x1024.Idx) :
    (outsAt0 m c t.val t.isLt).2.2.2.2 y = (outsAt0 m c (t.val - 1) (by omega)).2.2.2.2 y
      + deT (aP m c) (aD m c) (aW m c) (128 * t.val) (y 1).val := by
  rw [outsAt0_B m c t h0]
  frame_out
  try simp (disch := decide) only [↓View.readCov_skip, ↓View.readCov_fill]
  obtain ⟨u, j, rfl⟩ : ∃ (u : Fin 1) (j : Fin 1024), y = ix2 u j := ⟨y 0, y 1, eq_ix2 y⟩
  exact de_apply (dvB_apply m c t) _ u j

theorem o11A (h0 : t.val % 32 = 0) (y : S1x1024.Idx) :
    (outsAt0 m c t.val t.isLt).2.2.2.2 y = 0 + deT (aP m c) (aD m c) (aW m c) (128 * t.val) (y 1).val := by
  rw [outsAt0_A m c t h0]
  frame_out
  try simp (disch := decide) only [↓View.readCov_skip, ↓View.readCov_fill]
  obtain ⟨u, j, rfl⟩ : ∃ (u : Fin 1) (j : Fin 1024), y = ix2 u j := ⟨y 0, y 1, eq_ix2 y⟩
  refine (de_apply (dvB_apply m c t) k0_pay5 u j).trans (congrArg (· + _) ?_)
  exact k_zero

theorem o7 (y : S128x2048.Idx) :
    (outsAt0 m c t.val t.isLt).1 y
      = oUV (aP m c) (aV m c) (aD m c) (ag m c) (ab m c) (aW m c) (aB m c) (128 * t.val) (y 0).val (y 1).val := by
  by_cases h0 : t.val % 32 = 0
  · rw [outsAt0_A m c t h0]
    frame_out
    try simp (disch := decide) only [↓View.readCov_skip, ↓View.readCov_fill]
    exact pU_apply (blk m c t) (iblk m c 5 t) (iblk m c 6 t) (r5 m c t) (r6 m c t) _ (oV_apply (blk m c t) (dvB_apply m c t)) y
  · rw [outsAt0_B m c t h0]
    frame_out
    try simp (disch := decide) only [↓View.readCov_skip, ↓View.readCov_fill]
    exact pU_apply (blk m c t) (iblk m c 5 t) (iblk m c 6 t) (r5 m c t) (r6 m c t) _ (oV_apply (blk m c t) (dvB_apply m c t)) y

end Cert.KernelIdeal.SG

end

end
-- ==== Proof.Arr.lean ====
module

public import proofs.«01_k».proof.Proof.Point

/- The five arrays after the kernel's run. -/

@[expose] public section

set_option maxRecDepth 16384

noncomputable section

namespace Cert.KernelIdeal.SG

open Idealize.ShloMosaic hiding ix1 ix2 ix3 eq_ix1 eq_ix2 eq_ix3
open Idealize.ShloMosaic.TcCoe Idealize.ShloMosaic.ValueIdx
open Idealize.SL Idealize.SL.Sem Cert.KernelIdeal.Gen Cert.SG

variable (m : (ℓ : Loc nD τ sig) → Buf (Elt Ideal) ℓ) (c : Dev nD)

/-- The last point. -/
def tL : Fin cfg0.N := ⟨31, by decide⟩

theorem sumN (f : ℕ → EReal) : ∑ p : Fin cfg0.N, f p.val = ∑ p : Fin 32, f p.val := by
  rw [Fin.sum_univ_eq_sum_range, Fin.sum_univ_eq_sum_range]
  exact congrArg (fun n => ∑ i ∈ Finset.range n, f i) N_0

/-- The weight gradient: the sum over the chunks. -/
def gW : FVec Ideal S8x128x128 .f32 := fun y =>
  ∑ p : Fin 32, dwT (aP m c) (aV m c) (aD m c) (ag m c) (ab m c) (128 * p.val) (y 0).val (y 1).val (y 2).val

theorem arr8 : (dats m 0 c).arrAt 8 cfg0.N = gW m c := by
  refine (dats m 0 c).arrAt_eq_of_after_last 8 tL (by decide +kernel) _ fun j => ?_
  blk_simp
  rw [after0_8, Pipeline.eq_sum_fin_of_reset_step_apply_last (fun n h => (outsAt0 m c n h).2.1) 32 (fun _ => 0) _
    (o8A m c) (o8B m c) (le_of_eq N_0) tL rfl j, zero_add]
  exact sumN fun p => dwT (aP m c) (aV m c) (aD m c) (ag m c) (ab m c) (128 * p) (j 0).val (j 1).val (j 2).val

/-- The bias gradient. -/
def gB : FVec Ideal S8x128x1 .f32 := fun y => ∑ p : Fin 32, dbT (aP m c) (aD m c) (128 * p.val) (y 0).val (y 1).val

theorem arr9 : (dats m 0 c).arrAt 9 cfg0.N = gB m c := by
  refine (dats m 0 c).arrAt_eq_of_after_last 9 tL (by decide +kernel) _ fun j => ?_
  blk_simp
  rw [after0_9, Pipeline.eq_sum_fin_of_reset_step_apply_last (fun n h => (outsAt0 m c n h).2.2.1) 32 (fun _ => 0) _
    (o9A m c) (o9B m c) (le_of_eq N_0) tL rfl j, zero_add]
  exact sumN fun p => dbT (aP m c) (aD m c) (128 * p) (j 0).val (j 1).val

/-- The gradients of the norm's scale and shift. -/
def gG : FVec Ideal S1x1024 .f32 := fun y => ∑ p : Fin 32, dgT (aP m c) (aV m c) (aD m c) (aW m c) (128 * p.val) (y 1).val
def gE : FVec Ideal S1x1024 .f32 := fun y => ∑ p : Fin 32, deT (aP m c) (aD m c) (aW m c) (128 * p.val) (y 1).val

theorem arr10 : (dats m 0 c).arrAt 10 cfg0.N = gG m c := by
  refine (dats m 0 c).arrAt_eq_of_after_last 10 tL (by decide +kernel) _ fun j => ?_
  blk_simp
  rw [after0_10, Pipeline.eq_sum_fin_of_reset_step_apply_last (fun n h => (outsAt0 m c n h).2.2.2.1) 32 (fun _ => 0) _
    (o10A m c) (o10B m c) (le_of_eq N_0) tL rfl j, zero_add]
  exact sumN fun p => dgT (aP m c) (aV m c) (aD m c) (aW m c) (128 * p) (j 1).val

theorem arr11 : (dats m 0 c).arrAt 11 cfg0.N = gE m c := by
  refine (dats m 0 c).arrAt_eq_of_after_last 11 tL (by decide +kernel) _ fun j => ?_
  blk_simp
  rw [after0_11, Pipeline.eq_sum_fin_of_reset_step_apply_last (fun n h => (outsAt0 m c n h).2.2.2.2) 32 (fun _ => 0) _
    (o11A m c) (o11B m c) (le_of_eq N_0) tL rfl j, zero_add]
  exact sumN fun p => deT (aP m c) (aD m c) (aW m c) (128 * p) (j 1).val

/-- The gradient of the projection: its first 2048 columns are written, the rest is kept. -/
def gP : FVec Ideal S4096x9216 .bf16 := fun y =>
  oUV (aP m c) (aV m c) (aD m c) (ag m c) (ab m c) (aW m c) (aB m c) (128 * ((y 0).val / 128)) ((y 0).val % 128) (y 1).val

theorem i7 : ∀ t : Fin cfg0.N, win0_7.index t = ![t.val, 0] := (by decide +kernel : ∀ t : Fin grid0.N, _)

theorem arr7 (y : S4096x9216.Idx) : (dats m 0 c).arrAt 7 cfg0.N y
    = if (y 1).val < 2048 then gP m c y else m ((c : Thread nD τ).loc main_arg6) y := by
  refine ((dats m 0 c).arrAt_apply_of_coversWhere 7 (gP m c) (P := fun y : S4096x9216.Idx => (y 1).val < 2048) (fun q => q 1 = 0) (by decide +kernel)
    (fun t _ j => ?_) (fun j => ?_) y).trans ?_
  · blk_simp
    rw [after0_7]
    have e0 : ((win0_7.blk t).view.emb j 0).val = t.val * 128 + (j 0).val := by
      refine (win0_7.rect_emb_val_off t j 0).trans ?_
      show win0_7.index t 0 * 128 + (j 0).val = _
      rw [i7]
      rfl
    have e1 : ((win0_7.blk t).view.emb j 1).val = (j 1).val := by
      refine (win0_7.rect_emb_val_off t j 1).trans ?_
      show win0_7.index t 1 * 2048 + (j 1).val = _
      rw [i7]
      exact Nat.zero_add _
    have hj : (j 0).val < 128 := ((cfg0.win 7).xinj (cfg0.grid.coords t) j 0).isLt
    refine (o7 m c t _).trans ?_
    unfold gP
    rw [e0, e1, show (t.val * 128 + (j 0).val) / 128 = t.val by omega, show (t.val * 128 + (j 0).val) % 128 = (j 0).val by omega]
  · blk_simp [Pipeline.Window.cell_apply]
    omega
  · refine if_congr Iff.rfl rfl ?_
    rw [A_eq]
    show V m c main_v3_0 y = _
    entry_read
    rfl

end Cert.KernelIdeal.SG

end

end
-- ==== Proof.Ref.lean ====
module

public import proofs.«01_k».proof.Proof.Args
public import proofs.«01_k».proof.Proof.Gen.ReferenceIdeal.Read
public import Idealize.ShloMosaic.Lib.WordCmp

/- The reference read at an index, from the arguments up to the gradients of the gate's two halves: each stage of the
   reference is a function of `Sp` at the entries of the arguments. Row `2048·b + s` of the arguments is row `s` of
   sequence `b`. -/

@[expose] public section

set_option maxRecDepth 16384

noncomputable section

namespace Cert.ReferenceIdeal.SG

open Idealize.ShloMosaic
open Idealize.ShloMosaic.ValueIdx
open Cert.SG Cert.ReferenceIdeal.Read

variable (x0 : (⟨S4096x9216, .bf16⟩ : BufTy).Contents (Elt Ideal)) (x1 : (⟨S4096x1024, .bf16⟩ : BufTy).Contents (Elt Ideal))
  (x2 x3 : (⟨S1024, .f32⟩ : BufTy).Contents (Elt Ideal)) (x4 : (⟨S8x128x128, .f32⟩ : BufTy).Contents (Elt Ideal))
  (x5 : (⟨S8x128, .f32⟩ : BufTy).Contents (Elt Ideal))

/-- The arguments as functions of coordinates. -/
abbrev rU : ℕ → ℕ → EReal := at2 (a := 4096) (b := 9216) x0
abbrev rV : ℕ → ℕ → EReal := sh (rU x0)
abbrev rD : ℕ → ℕ → EReal := at2 (a := 4096) (b := 1024) x1
abbrev rg : ℕ → EReal := at1 (a := 1024) x2
abbrev rW : ℕ → ℕ → ℕ → EReal := at3 (a := 8) (b := 128) (c := 128) x4
abbrev rB : ℕ → ℕ → EReal := at2 (a := 8) (b := 128) x5

/-- The row of the arguments a row of a sequence is. -/
abbrev row (i : S2x2048x1024.Idx) : ℕ := 2048 * (i 0).val + (i 1).val
abbrev rw1 (i : S2x2048x1.Idx) : ℕ := 2048 * (i 0).val + (i 1).val
abbrev rw2 (i : S2x2048.Idx) : ℕ := 2048 * (i 0).val + (i 1).val
/-- The row and the column of an entry in chunks and groups. -/
abbrev row5 (i : S2x16x128x8x128.Idx) : ℕ := 2048 * (i 0).val + 128 * (i 1).val + (i 2).val
abbrev col5 (i : S2x16x128x8x128.Idx) : ℕ := 128 * (i 3).val + (i 4).val

theorem div_s2 (x : EReal) : Ideal.div x (Ideal.sqrt (Ideal.ofBits .f32 0x40000000#32)) = x * rt2 := by
  rw [c_two, Ideal.sqrt_coe, if_neg (by norm_num), Ideal.div_coe (by positivity), one_div]

theorem u_ap (i : S2x2048x1024.Idx) : val_main_v4 (F := Ideal) x0 i = rU x0 (row i) (i 2).val := by
  have h0 : (i 0).val < 2 := (i 0).isLt
  have h1 : (i 1).val < 2048 := (i 1).isLt
  have h2 : (i 2).val < 1024 := (i 2).isLt
  rw [val_main_v4_apply, val_main_v1_apply]
  refine Eq.trans ?_ (at2_eq x0 _ _ (show row i < 4096 by simp only [row]; omega) (show (i 2).val < 9216 by omega)).symm
  refine congrArg x0 (funext fun a => Fin.ext ?_)
  match a with
  | ⟨0, _⟩ => show (((i 0).val * 2048 + (i 1).val) * 9216 + (i 2).val) / 9216 = 2048 * (i 0).val + (i 1).val; omega
  | ⟨1, _⟩ => show (((i 0).val * 2048 + (i 1).val) * 9216 + (i 2).val) % 9216 = (i 2).val; omega

theorem v_ap (i : S2x2048x1024.Idx) : val_main_v5 (F := Ideal) x0 i = rV x0 (row i) (i 2).val := by
  have h0 : (i 0).val < 2 := (i 0).isLt
  have h1 : (i 1).val < 2048 := (i 1).isLt
  have h2 : (i 2).val < 1024 := (i 2).isLt
  rw [val_main_v5_apply, val_main_v1_apply]
  refine Eq.trans ?_ (at2_eq x0 _ _ (show row i < 4096 by simp only [row]; omega) (show 1024 + (i 2).val < 9216 by omega)).symm
  refine congrArg x0 (funext fun a => Fin.ext ?_)
  match a with
  | ⟨0, _⟩ => show (((i 0).val * 2048 + (i 1).val) * 9216 + (1024 + (i 2).val)) / 9216 = 2048 * (i 0).val + (i 1).val; omega
  | ⟨1, _⟩ => show (((i 0).val * 2048 + (i 1).val) * 9216 + (1024 + (i 2).val)) % 9216 = 1024 + (i 2).val; omega

theorem d_ap (i : S2x2048x1024.Idx) : val_main_v3 (F := Ideal) x1 i = rD x1 (row i) (i 2).val := by
  have h0 : (i 0).val < 2 := (i 0).isLt
  have h1 : (i 1).val < 2048 := (i 1).isLt
  have h2 : (i 2).val < 1024 := (i 2).isLt
  rw [val_main_v3_apply]
  refine Eq.trans ?_ (at2_eq x1 _ _ (show row i < 4096 by simp only [row]; omega) h2).symm
  refine congrArg x1 (funext fun a => Fin.ext ?_)
  match a with
  | ⟨0, _⟩ => show (((i 0).val * 2048 + (i 1).val) * 1024 + (i 2).val) / 1024 = 2048 * (i 0).val + (i 1).val; omega
  | ⟨1, _⟩ => show (((i 0).val * 2048 + (i 1).val) * 1024 + (i 2).val) % 1024 = (i 2).val; omega

/-- The GELU of the two halves. -/
theorem gu_ap (i : S2x2048x1024.Idx) : val_main_v25 (F := Ideal) x0 i = gel (rU x0 (row i) (i 2).val) := by
  show Ideal.ofBits .f32 0x3F000000#32 * val_main_v4 (F := Ideal) x0 i
    * (Ideal.ofBits .f32 0x3F800000#32 + Ideal.erf (Ideal.div (val_main_v4 (F := Ideal) x0 i) (Ideal.sqrt (Ideal.ofBits .f32 0x40000000#32)))) = _
  rw [div_s2, u_ap, c_half, c_one]
  rfl

theorem gv_ap (i : S2x2048x1024.Idx) : val_main_v45 (F := Ideal) x0 i = gel (rV x0 (row i) (i 2).val) := by
  show Ideal.ofBits .f32 0x3F000000#32 * val_main_v5 (F := Ideal) x0 i
    * (Ideal.ofBits .f32 0x3F800000#32 + Ideal.erf (Ideal.div (val_main_v5 (F := Ideal) x0 i) (Ideal.sqrt (Ideal.ofBits .f32 0x40000000#32)))) = _
  rw [div_s2, v_ap, c_half, c_one]
  rfl

/-- The statistics of the normalisation. -/
theorem mean_ap (j : S2x2048x1.Idx) : val_main_v49 (F := Ideal) x0 j = mean (fun k => gel (rV x0 (rw1 j) k)) := by
  show Ideal.div (val_main_v47 (F := Ideal) x0 j) (Ideal.ofBits .f32 0x44800000#32) = _
  rw [val_main_v47_apply, val_main_v46_apply, c_1024]
  simp only [gv_ap]
  rw [show val_main_cst_11 (F := Ideal) (Shape.Idx.first Gen.h_S_) = 0 from c_zero, zero_add]
  rfl

theorem gc_ap (i : S2x2048x1024.Idx) : val_main_v51 (F := Ideal) x0 i = gc (rV x0) (row i) (i 2).val := by
  rw [val_main_v51_apply, gv_ap, val_main_v50_apply, mean_ap]
  rfl

theorem gc_ap' (i : S2x2048x1024.Idx) : val_main_v60 (F := Ideal) x0 i = gc (rV x0) (row i) (i 2).val := gc_ap x0 i

theorem vareps_ap (j : S2x2048x1.Idx) : val_main_v62 (F := Ideal) x0 j = var (rV x0) (rw1 j) + eps := by
  show Ideal.div (val_main_v56 (F := Ideal) x0 j) (Ideal.ofBits .f32 0x44800000#32) + eps = _
  rw [val_main_v56_apply, val_main_v55_apply, c_1024]
  simp only [val_main_v52_apply, gc_ap]
  rw [show val_main_cst_14 (F := Ideal) (Shape.Idx.first Gen.h_S_) = 0 from c_zero, zero_add]
  rfl

theorem rstd_ap (j : S2x2048x1.Idx) : val_main_v63 (F := Ideal) x0 j = rstd (rV x0) (rw1 j) := by
  show Ideal.rsqrt (val_main_v62 (F := Ideal) x0 j) = _
  rw [vareps_ap]
  rfl

theorem xh_ap (i : S2x2048x1024.Idx) : val_main_v68 (F := Ideal) x0 i = xh (rV x0) (row i) (i 2).val := by
  rw [val_main_v68_apply, gc_ap', val_main_v67_apply, rstd_ap]
  rfl

theorem g_ap (x : (⟨S1024, .f32⟩ : BufTy).Contents (Elt Ideal)) (i : S2x2048x1024.Idx) : val_main_v70 (F := Ideal) x i = rg x (i 2).val := by
  rw [val_main_v70_apply, val_main_v69_apply]
  refine Eq.trans (congrArg x (funext fun a => Fin.ext ?_)) (at1_eq x _ (i 2).isLt).symm
  match a with
  | ⟨0, _⟩ => rfl

theorem vn_ap (i : S2x2048x1024.Idx) : val_main_v74 (F := Ideal) x0 x2 x3 i = vn (rV x0) (rg x2) (rg x3) (row i) (i 2).val := by
  rw [val_main_v74_apply, val_main_v71_apply, xh_ap, g_ap, show val_main_v73 (F := Ideal) x3 i = rg x3 (i 2).val from g_ap x3 i]
  rfl

/-- The gate in chunks and groups. -/
theorem idx5 (i : S2x16x128x8x128.Idx) (f : ℕ → ℕ → EReal) :
    f (row (idx_main_v75 i)) ((idx_main_v75 i) 2).val = f (row5 i) (col5 i) := by
  have h0 : (i 0).val < 2 := (i 0).isLt
  have h1 : (i 1).val < 16 := (i 1).isLt
  have h2 : (i 2).val < 128 := (i 2).isLt
  have h3 : (i 3).val < 8 := (i 3).isLt
  have h4 : (i 4).val < 128 := (i 4).isLt
  refine congrArg₂ f ?_ ?_
  · show 2048 * ((((((i 0).val * 16 + (i 1).val) * 128 + (i 2).val) * 8 + (i 3).val) * 128 + (i 4).val) / 2097152)
      + (((((i 0).val * 16 + (i 1).val) * 128 + (i 2).val) * 8 + (i 3).val) * 128 + (i 4).val) / 1024 % 2048
      = 2048 * (i 0).val + 128 * (i 1).val + (i 2).val
    omega
  · show (((((i 0).val * 16 + (i 1).val) * 128 + (i 2).val) * 8 + (i 3).val) * 128 + (i 4).val) % 1024 = 128 * (i 3).val + (i 4).val
    omega

theorem vn5_ap (i : S2x16x128x8x128.Idx) : val_main_v75 (F := Ideal) x0 x2 x3 i = vn (rV x0) (rg x2) (rg x3) (row5 i) (col5 i) := by
  rw [val_main_v75_apply, vn_ap]
  exact idx5 i _

theorem dmx_ap (i : S2x2048x1024.Idx) : val_main_v88 (F := Ideal) x0 x1 i = dmx (rU x0) (rD x1) (row i) (i 2).val := by
  rw [val_main_v88_apply, gu_ap, d_ap]
  exact mul_comm _ _

theorem dmx5_ap (i : S2x16x128x8x128.Idx) : val_main_v90 (F := Ideal) x0 x1 i = dmx (rU x0) (rD x1) (row5 i) (col5 i) := by
  rw [val_main_v90_apply, dmx_ap]
  exact idx5 i _

/-- The causal mask and the masked weights. -/
theorem mask_ap (i : S8x128x128.Idx) : val_main_v79_1 (F := Ideal) i = if (i 2).val ≤ (i 1).val then 1#1 else 0#1 := by
  have h1 : (i 1).val < 128 := (i 1).isLt
  have h2 : (i 2).val < 128 := (i 2).isLt
  rw [val_main_v79_1_apply, val_main_v78_apply]
  show Scalar.select (IntOp.cmpi .sge (BitVec.ofNat 32 (i 1).val + 0#32) (BitVec.ofNat 32 (i 2).val)) 1#1 0#1 = _
  rw [BitVec.add_zero, WordCmp.cmpi_sge_ofNat (by omega) (by omega)]
  by_cases h : (i 2).val ≤ (i 1).val <;> simp [h, Scalar.select]

theorem wm_ap (i : S8x128x128.Idx) : val_main_v79_0 (F := Ideal) x4 i = Wm (rW x4) (i 0).val (i 1).val (i 2).val := by
  show Scalar.select (val_main_v79_1 (F := Ideal) i) (x4 i) (Ideal.ofBits .f32 0x00000000#32) = _
  rw [mask_ap, c_zero, Wm, rW, at3_eq x4 _ _ _ (i 0).isLt (i 1).isLt (i 2).isLt]
  rw [show x4 (ix3 (⟨(i 0).val, (i 0).isLt⟩ : Fin 8) ⟨(i 1).val, (i 1).isLt⟩ ⟨(i 2).val, (i 2).isLt⟩) = x4 i from
    congrArg x4 (eq_ix3 i).symm]
  split <;> rfl

/-- The mixed gate. -/
theorem mix5_ap (j : S2x16x128x8x128.Idx) : val_main_v85 (F := Ideal) x0 x2 x3 x4 x5 j
    = mix (rV x0) (rg x2) (rg x3) (rW x4) (rB x5) (2048 * (j 0).val + 128 * (j 1).val) (j 2).val (col5 j) := by
  have h4 : (j 4).val < 128 := (j 4).isLt
  have hq : col5 j / 128 = (j 3).val := by simp only [col5]; omega
  rw [val_main_v85_apply, val_main_v81_apply, val_main_v80_apply, val_main_v84_apply, val_main_v83_apply, val_main_v82_apply]
  simp only [vn5_ap, wm_ap]
  unfold mix
  rw [hq]
  refine congrArg₂ (· + ·) (Finset.sum_congr rfl fun k _ => mul_comm _ _) ?_
  refine Eq.trans (congrArg x5 (funext fun a => Fin.ext ?_)) (at2_eq x5 _ _ (j 3).isLt (j 2).isLt).symm
  match a with
  | ⟨0, _⟩ => rfl
  | ⟨1, _⟩ => rfl

/-- The gradient of the normalised gate. -/
theorem dvn5_ap (j : S2x16x128x8x128.Idx) : val_main_v98 (F := Ideal) x0 x1 x4 j
    = dvn (rU x0) (rD x1) (rW x4) (2048 * (j 0).val + 128 * (j 1).val) (j 2).val (col5 j) := by
  have h4 : (j 4).val < 128 := (j 4).isLt
  have hq : col5 j / 128 = (j 3).val := by simp only [col5]; omega
  rw [val_main_v98_apply, val_main_v97_apply]
  simp only [val_main_v95_apply, dmx5_ap, wm_ap]
  unfold dvn
  rw [hq]
  exact Finset.sum_congr rfl fun k _ => mul_comm _ _

/-- The chunks and groups laid back into rows and columns. -/
theorem idx3 (i : S2x2048x1024.Idx) (f : ℕ → ℕ → ℕ → EReal) :
    f (2048 * ((idx_main_v86 i) 0).val + 128 * ((idx_main_v86 i) 1).val) ((idx_main_v86 i) 2).val (col5 (idx_main_v86 i))
      = f (128 * (row i / 128)) (row i % 128) (i 2).val := by
  have h0 : (i 0).val < 2 := (i 0).isLt
  have h1 : (i 1).val < 2048 := (i 1).isLt
  have h2 : (i 2).val < 1024 := (i 2).isLt
  have e1 : 2048 * ((idx_main_v86 i) 0).val + 128 * ((idx_main_v86 i) 1).val = 128 * (row i / 128) := by
    show 2048 * ((((i 0).val * 2048 + (i 1).val) * 1024 + (i 2).val) / 2097152)
      + 128 * ((((i 0).val * 2048 + (i 1).val) * 1024 + (i 2).val) / 131072 % 16) = 128 * ((2048 * (i 0).val + (i 1).val) / 128)
    omega
  have e2 : ((idx_main_v86 i) 2).val = row i % 128 := by
    show (((i 0).val * 2048 + (i 1).val) * 1024 + (i 2).val) / 1024 % 128 = (2048 * (i 0).val + (i 1).val) % 128
    omega
  have e3 : col5 (idx_main_v86 i) = (i 2).val := by
    show 128 * ((((i 0).val * 2048 + (i 1).val) * 1024 + (i 2).val) / 128 % 8)
      + (((i 0).val * 2048 + (i 1).val) * 1024 + (i 2).val) % 128 = (i 2).val
    omega
  rw [e1, e2, e3]

theorem mix_ap (i : S2x2048x1024.Idx) : val_main_v86 (F := Ideal) x0 x2 x3 x4 x5 i
    = mix (rV x0) (rg x2) (rg x3) (rW x4) (rB x5) (128 * (row i / 128)) (row i % 128) (i 2).val := by
  rw [val_main_v86_apply, mix5_ap]
  exact idx3 i _

theorem dvn_ap (i : S2x2048x1024.Idx) : val_main_v100 (F := Ideal) x0 x1 x4 i
    = dvn (rU x0) (rD x1) (rW x4) (128 * (row i / 128)) (row i % 128) (i 2).val := by
  rw [val_main_v100_apply, dvn5_ap]
  exact idx3 i _

theorem dxh_ap (i : S2x2048x1024.Idx) : val_main_v108 (F := Ideal) x0 x1 x2 x4 i
    = dxh (rU x0) (rD x1) (rg x2) (rW x4) (128 * (row i / 128)) (row i % 128) (i 2).val := by
  rw [val_main_v108_apply, dvn_ap, show val_main_v107 (F := Ideal) x2 i = rg x2 (i 2).val from g_ap x2 i]
  rfl

/-- The gradient through the deviation's root: the coefficient of a row and its entries. -/
abbrev rq (r : ℕ) : EReal :=
  Ideal.div ((∑ k : Fin 1024, gc (rV x0) r k.val * dxh (rU x0) (rD x1) (rg x2) (rW x4) (128 * (r / 128)) (r % 128) k.val)
    * (((-(1 / 2) : ℝ) : EReal) * Ideal.div (Ideal.rsqrt (var (rV x0) r + eps)) (var (rV x0) r + eps))) ((1024 : ℝ) : EReal)

theorem zsum (x : EReal) (f : Fin 1 → EReal) (h : x = 0) : x + ∑ k : Fin 1, f k = f 0 := by
  rw [h, zero_add, Fin.sum_univ_one]

theorem col_ix (j : S2x2048x1.Idx) : rw2 (idx_main_v112 j) = rw1 j := by
  have h1 : (j 1).val < 2048 := (j 1).isLt
  have h2 : (j 2).val < 1 := (j 2).isLt
  show 2048 * ((((j 0).val * 2048 + (j 1).val) * 1 + (j 2).val) / 2048) + (((j 0).val * 2048 + (j 1).val) * 1 + (j 2).val) % 2048
    = 2048 * (j 0).val + (j 1).val
  omega

/-- The entries of the gradient that pass straight through the normalisation, and those through the deviation. -/
abbrev rh (r k : ℕ) : EReal :=
  dxh (rU x0) (rD x1) (rg x2) (rW x4) (128 * (r / 128)) (r % 128) k * Ideal.rsqrt (var (rV x0) r + eps)
abbrev rc (r k : ℕ) : EReal := rq x0 x1 x2 x4 r * (((2 : ℝ) : EReal) * gc (rV x0) r k)

theorem coef_ap (j : S2x2048x1.Idx) : val_main_v120 (F := Ideal) x0 x1 x2 x4 j = rq x0 x1 x2 x4 (rw1 j) := by
  show Ideal.div (val_main_v112 (F := Ideal) x0 x1 x2 x4 j * (Ideal.ofBits .f32 0xBF000000#32
    * Ideal.div (val_main_v63 (F := Ideal) x0 j) (val_main_v62 (F := Ideal) x0 j))) (Ideal.ofBits .f32 0x44800000#32) = _
  rw [val_main_v112_apply, val_main_v111_apply, c_neg_half, c_1024, rstd_ap, vareps_ap]
  rw [show val_main_cst_25 (F := Ideal) (Shape.Idx.first Gen.h_S_) = 0 from c_zero, zero_add]
  simp only [val_main_v110_apply, gc_ap', dxh_ap]
  rw [rq, ← col_ix j]
  rfl

theorem coefs_ap (i : S2x2048x1024.Idx) : val_main_v122 (F := Ideal) x0 x1 x2 x4 i = rq x0 x1 x2 x4 (row i) := by
  rw [val_main_v122_apply, val_main_v121_apply, zsum (val_main_cst_28 (F := Ideal) _) _ c_zero, coef_ap]

theorem rh_ap (i : S2x2048x1024.Idx) : val_main_v114 (F := Ideal) x0 x1 x2 x4 i = rh x0 x1 x2 x4 (row i) (i 2).val := by
  rw [val_main_v114_apply, dxh_ap, val_main_v113_apply, rstd_ap]
  rfl

theorem rc_ap (i : S2x2048x1024.Idx) : val_main_v123 (F := Ideal) x0 x1 x2 x4 i = rc x0 x1 x2 x4 (row i) (i 2).val := by
  rw [val_main_v123_apply, coefs_ap]
  show _ * (Ideal.ofBits .f32 0x40000000#32 * val_main_v51 (F := Ideal) x0 i) = _
  rw [gc_ap, c_two]

theorem sums_ap (j : S2x2048x1.Idx) : val_main_v130 (F := Ideal) x0 x1 x2 x4 j
    = Ideal.div ((∑ k : Fin 1024, -rh x0 x1 x2 x4 (rw1 j) k.val) + ∑ k : Fin 1024, -rc x0 x1 x2 x4 (rw1 j) k.val) ((1024 : ℝ) : EReal) := by
  show Ideal.div (val_main_v118 (F := Ideal) x0 x1 x2 x4 j + val_main_v126 (F := Ideal) x0 x1 x2 x4 j) (Ideal.ofBits .f32 0x44800000#32) = _
  rw [val_main_v118_apply, val_main_v126_apply, val_main_v117_apply, val_main_v125_apply, c_1024]
  rw [show val_main_cst_26 (F := Ideal) (Shape.Idx.first Gen.h_S_) = 0 from c_zero, zero_add,
    show val_main_cst_29 (F := Ideal) (Shape.Idx.first Gen.h_S_) = 0 from c_zero, zero_add]
  simp only [val_main_v116_apply, val_main_v124_apply, rh_ap, rc_ap]
  rw [← col_ix j]
  rfl

/-- The gradient of the gate before the normalisation. -/
theorem dgv_ap (i : S2x2048x1024.Idx) : val_main_v133 (F := Ideal) x0 x1 x2 x4 i
    = dgvR (rU x0) (rV x0) (rD x1) (rg x2) (rW x4) (128 * (row i / 128)) (row i % 128) (i 2).val := by
  rw [val_main_v133_apply, val_main_v127_apply, rh_ap, rc_ap, val_main_v132_apply, val_main_v131_apply, zsum (val_main_cst_31 (F := Ideal) _) _ c_zero, sums_ap]
  unfold dgvR
  rw [Nat.div_add_mod]
  rfl

/-- The gradients of the two halves. -/
theorem du_ap (i : S2x2048x1024.Idx) : val_main_v149 (F := Ideal) x0 x1 x2 x3 x4 x5 i
    = gelP (rU x0 (row i) (i 2).val) (rD x1 (row i) (i 2).val
      * mix (rV x0) (rg x2) (rg x3) (rW x4) (rB x5) (128 * (row i / 128)) (row i % 128) (i 2).val) := by
  rw [← mix_ap, ← d_ap, ← u_ap]
  unfold gelP
  rw [← div_s2, ← div_s2, ← c_two, ← c_four, ← c_one, hf, ← c_half]
  rfl

theorem dv_ap (i : S2x2048x1024.Idx) : val_main_v141 (F := Ideal) x0 x1 x2 x4 i
    = gelP (rV x0 (row i) (i 2).val)
      (dgvR (rU x0) (rV x0) (rD x1) (rg x2) (rW x4) (128 * (row i / 128)) (row i % 128) (i 2).val) := by
  rw [← dgv_ap, ← v_ap]
  unfold gelP
  rw [← div_s2, ← div_s2, ← c_two, ← c_four, ← c_one, hf, ← c_half]
  rfl

end Cert.ReferenceIdeal.SG

end

end
-- ==== Proof.RefSum.lean ====
module

public import proofs.«01_k».proof.Proof.Ref

/- The reference's results: the sums over several axes at once (the gradients of the mixing weights, of their bias and of
   the normalisation's scale and offset) as sums over the 32 chunks of 128 rows, and the gradient of the projection's row
   put together of its parts. -/

@[expose] public section

set_option maxRecDepth 16384

noncomputable section

namespace Cert.ReferenceIdeal.SG

open Idealize.ShloMosaic
open Idealize.ShloMosaic.ValueIdx
open Cert.SG Cert.ReferenceIdeal.Read Cert.ReferenceIdeal.Gen

/-- A host sum over several axes, by a list of the entries that are summed at one index. -/
theorem reduce_by {s t : Shape} {axes : List (Fin s.rank)} (h : s.ReducesTo axes t) (x : s.Idx → EReal) (init : EReal) (j : t.Idx)
    {κ : Type} [Fintype κ] (e : κ → s.Idx) (π : s.Idx → κ) (h1 : ∀ k, h.drop (e k) = j) (h2 : ∀ k, π (e k) = k)
    (h3 : ∀ i, h.drop i = j → e (π i) = i) : Ideal.hostReduceAdd h x init j = init + ∑ k, x (e k) := by
  unfold Ideal.hostReduceAdd
  refine congrArg (init + ·) (Finset.sum_bij' (fun i _ => π i) (fun k _ => e k) (fun _ _ => Finset.mem_univ _)
    (fun k _ => Finset.mem_filter.2 ⟨Finset.mem_univ _, h1 k⟩) (fun i hi => h3 i (Finset.mem_filter.1 hi).2) (fun k _ => h2 k)
    fun i hi => ?_)
  rw [h3 i (Finset.mem_filter.1 hi).2]

/-- Chunk `p` of 128 rows is chunk `p % 16` of sequence `p / 16`. -/
abbrev seqOf (p : Fin 32) : Fin 2 := ⟨p.val / 16, by have := p.isLt; omega⟩
abbrev chkOf (p : Fin 32) : Fin 16 := ⟨p.val % 16, by omega⟩

/-- A three-axis contraction index is a chunk and a column of a group. -/
def contrEquiv3 {sl sr so : Shape} (D : DotDims sl sr so) (hr : D.contr.rank = 3) (h0 : D.contr.size ⟨0, by omega⟩ = 2)
    (h1 : D.contr.size ⟨1, by omega⟩ = 16) (h2 : D.contr.size ⟨2, by omega⟩ = 128) : D.contr.Idx ≃ Fin 32 × Fin 128 where
  toFun q := (⟨16 * (q ⟨0, by omega⟩).val + (q ⟨1, by omega⟩).val, by
    have a0 := (q ⟨0, by omega⟩).isLt
    have a1 := (q ⟨1, by omega⟩).isLt
    omega⟩, (q ⟨2, by omega⟩).cast h2)
  invFun p := fun a =>
    if ha : a.val = 0 then (seqOf p.1).cast (h0.symm.trans (congrArg D.contr.size (Fin.ext ha.symm)))
    else if hb : a.val = 1 then (chkOf p.1).cast (h1.symm.trans (congrArg D.contr.size (Fin.ext hb.symm)))
    else p.2.cast (h2.symm.trans (congrArg D.contr.size (Fin.ext (by have := a.isLt; show 2 = a.val; omega))))
  left_inv q := by
    have p0 : 0 < D.contr.rank := by omega
    have p1 : 1 < D.contr.rank := by omega
    have p2 : 2 < D.contr.rank := by omega
    have a1 := (q ⟨1, p1⟩).isLt
    funext a
    refine Fin.ext ?_
    by_cases ha : a.val = 0
    · obtain rfl : a = ⟨0, p0⟩ := Fin.ext ha
      simp only [dite_true, Fin.val_cast]
      omega
    · by_cases hb : a.val = 1
      · obtain rfl : a = ⟨1, p1⟩ := Fin.ext hb
        simp
        omega
      · obtain rfl : a = ⟨2, p2⟩ := Fin.ext (by have := a.isLt; show a.val = 2; omega)
        simp
  right_inv p := by
    refine Prod.ext (Fin.ext ?_) (Fin.ext ?_)
    · simp; omega
    · simp

variable (x0 : (⟨S4096x9216, .bf16⟩ : BufTy).Contents (Elt Ideal)) (x1 : (⟨S4096x1024, .bf16⟩ : BufTy).Contents (Elt Ideal))
  (x2 x3 : (⟨S1024, .f32⟩ : BufTy).Contents (Elt Ideal)) (x4 : (⟨S8x128x128, .f32⟩ : BufTy).Contents (Elt Ideal))
  (x5 : (⟨S8x128, .f32⟩ : BufTy).Contents (Elt Ideal))

/-- The sum over sequences and rows of an array of the reference, at a column. -/
theorem rows_sum (x : S2x2048x1024.Idx → EReal) (init : EReal) (j : S1024.Idx) :
    Ideal.hostReduceAdd reducesTo_S2x2048x1024_S1024_d0_1 x init j
      = init + ∑ p : Fin 32, ∑ s : Fin 128, x (ix3 (seqOf p) (⟨128 * (p.val % 16) + s.val, by have := s.isLt; omega⟩ : Fin 2048) (j 0)) := by
  rw [← Fintype.sum_prod_type' (f := fun (p : Fin 32) (s : Fin 128) =>
    x (ix3 (seqOf p) (⟨128 * (p.val % 16) + s.val, by have := s.isLt; omega⟩ : Fin 2048) (j 0)))]
  refine reduce_by _ x init j _ (fun i => ((⟨16 * (i 0).val + (i 1).val / 128, by
      have h0 : (i 0).val < 2 := (i 0).isLt
      have h1 : (i 1).val < 2048 := (i 1).isLt
      omega⟩ : Fin 32), (⟨(i 1).val % 128, by omega⟩ : Fin 128))) (fun k => ?_) (fun k => ?_) fun i hi => ?_
  · refine funext fun a => Fin.ext ?_
    match a with
    | ⟨0, _⟩ => exact reducesTo_S2x2048x1024_S1024_d0_1.drop_apply_val_of_eq _ 0 2
  · have h1 := k.1.isLt
    have h2 := k.2.isLt
    refine Prod.ext (Fin.ext ?_) (Fin.ext ?_)
    · show 16 * (k.1.val / 16) + (128 * (k.1.val % 16) + k.2.val) / 128 = k.1.val
      omega
    · show (128 * (k.1.val % 16) + k.2.val) % 128 = k.2.val
      omega
  · have h0 : (i 0).val < 2 := (i 0).isLt
    have h1 : (i 1).val < 2048 := (i 1).isLt
    refine funext fun a => Fin.ext ?_
    match a with
    | ⟨0, _⟩ => show (16 * (i 0).val + (i 1).val / 128) / 16 = (i 0).val; omega
    | ⟨1, _⟩ => show 128 * ((16 * (i 0).val + (i 1).val / 128) % 16) + (i 1).val % 128 = (i 1).val; omega
    | ⟨2, _⟩ => show (j 0).val = (i 2).val; rw [← hi]; exact reducesTo_S2x2048x1024_S1024_d0_1.drop_apply_val_of_eq i 0 2

/-- The sum over two axes of size one. -/
theorem unit_sum (x : S1x1x1024.Idx → EReal) (init : EReal) (j : S1024.Idx) (h0 : init = 0) :
    Ideal.hostReduceAdd reducesTo_S1x1x1024_S1024_d0_1 x init j = x (ix3 (0 : Fin 1) (0 : Fin 1) (j 0)) := by
  rw [reduce_by _ x init j (κ := Unit) (fun _ => ix3 (0 : Fin 1) (0 : Fin 1) (j 0)) (fun _ => ()) (fun k => ?_) (fun k => rfl) fun i hi => ?_,
    h0, zero_add, Fintype.sum_unique]
  · refine funext fun a => Fin.ext ?_
    match a with
    | ⟨0, _⟩ => exact reducesTo_S1x1x1024_S1024_d0_1.drop_apply_val_of_eq _ 0 2
  · have h0 : (i 0).val < 1 := (i 0).isLt
    have h1 : (i 1).val < 1 := (i 1).isLt
    refine funext fun a => Fin.ext ?_
    match a with
    | ⟨0, _⟩ => show 0 = (i 0).val; omega
    | ⟨1, _⟩ => show 0 = (i 1).val; omega
    | ⟨2, _⟩ => show (j 0).val = (i 2).val; rw [← hi]; exact reducesTo_S1x1x1024_S1024_d0_1.drop_apply_val_of_eq i 0 2

/-- The sums over sequences, chunks and the columns of a group. -/
theorem group_sum (x : S2x16x128x8x128.Idx → EReal) (init : EReal) (j : S128x8.Idx) :
    Ideal.hostReduceAdd reducesTo_S2x16x128x8x128_S128x8_d0_1_4 x init j
      = init + ∑ p : Fin 32, ∑ d : Fin 128, x (ix5 (seqOf p) (chkOf p) (j 0) (j 1) d) := by
  rw [← Fintype.sum_prod_type' (f := fun (p : Fin 32) (d : Fin 128) => x (ix5 (seqOf p) (chkOf p) (j 0) (j 1) d))]
  refine reduce_by _ x init j _ (fun i => ((⟨16 * (i 0).val + (i 1).val, by
      have h0 : (i 0).val < 2 := (i 0).isLt
      have h1 : (i 1).val < 16 := (i 1).isLt
      omega⟩ : Fin 32), (i 4))) (fun k => ?_) (fun k => ?_) fun i hi => ?_
  · refine funext fun a => Fin.ext ?_
    match a with
    | ⟨0, _⟩ => exact reducesTo_S2x16x128x8x128_S128x8_d0_1_4.drop_apply_val_of_eq _ 0 2
    | ⟨1, _⟩ => exact reducesTo_S2x16x128x8x128_S128x8_d0_1_4.drop_apply_val_of_eq _ 1 3
  · have h1 := k.1.isLt
    refine Prod.ext (Fin.ext ?_) rfl
    show 16 * (k.1.val / 16) + k.1.val % 16 = k.1.val
    omega
  · have h0 : (i 0).val < 2 := (i 0).isLt
    have h1 : (i 1).val < 16 := (i 1).isLt
    refine funext fun a => Fin.ext ?_
    match a with
    | ⟨0, _⟩ => show (16 * (i 0).val + (i 1).val) / 16 = (i 0).val; omega
    | ⟨1, _⟩ => show (16 * (i 0).val + (i 1).val) % 16 = (i 1).val; omega
    | ⟨2, _⟩ => show (j 0).val = (i 2).val; rw [← hi]; exact reducesTo_S2x16x128x8x128_S128x8_d0_1_4.drop_apply_val_of_eq i 0 2
    | ⟨3, _⟩ => show (j 1).val = (i 3).val; rw [← hi]; exact reducesTo_S2x16x128x8x128_S128x8_d0_1_4.drop_apply_val_of_eq i 1 3
    | ⟨4, _⟩ => rfl

theorem unit_group (x : S1x1x128x8x1.Idx → EReal) (init : EReal) (j : S128x8.Idx) (h0 : init = 0) :
    Ideal.hostReduceAdd reducesTo_S1x1x128x8x1_S128x8_d0_1_4 x init j = x (ix5 (0 : Fin 1) (0 : Fin 1) (j 0) (j 1) (0 : Fin 1)) := by
  rw [reduce_by _ x init j (κ := Unit) (fun _ => ix5 (0 : Fin 1) (0 : Fin 1) (j 0) (j 1) (0 : Fin 1)) (fun _ => ()) (fun k => ?_) (fun k => rfl)
    fun i hi => ?_, h0, zero_add, Fintype.sum_unique]
  · refine funext fun a => Fin.ext ?_
    match a with
    | ⟨0, _⟩ => exact reducesTo_S1x1x128x8x1_S128x8_d0_1_4.drop_apply_val_of_eq _ 0 2
    | ⟨1, _⟩ => exact reducesTo_S1x1x128x8x1_S128x8_d0_1_4.drop_apply_val_of_eq _ 1 3
  · have h0 : (i 0).val < 1 := (i 0).isLt
    have h1 : (i 1).val < 1 := (i 1).isLt
    have h4 : (i 4).val < 1 := (i 4).isLt
    refine funext fun a => Fin.ext ?_
    match a with
    | ⟨0, _⟩ => show 0 = (i 0).val; omega
    | ⟨1, _⟩ => show 0 = (i 1).val; omega
    | ⟨2, _⟩ => show (j 0).val = (i 2).val; rw [← hi]; exact reducesTo_S1x1x128x8x1_S128x8_d0_1_4.drop_apply_val_of_eq i 0 2
    | ⟨3, _⟩ => show (j 1).val = (i 3).val; rw [← hi]; exact reducesTo_S1x1x128x8x1_S128x8_d0_1_4.drop_apply_val_of_eq i 1 3
    | ⟨4, _⟩ => show 0 = (i 4).val; omega

/-- A row of a chunk. -/
theorem row_chunk (p : Fin 32) (s : Fin 128) (k : Fin 1024) :
    row (ix3 (seqOf p) (⟨128 * (p.val % 16) + s.val, by have := s.isLt; omega⟩ : Fin 2048) k) = 128 * p.val + s.val := by
  show 2048 * (p.val / 16) + (128 * (p.val % 16) + s.val) = _
  omega

/-- The gradient of the offset. -/
theorem de_ap (i : S1x1024.Idx) : val_main_v158 (F := Ideal) x0 x1 x4 i
    = ∑ p : Fin 32, deT (rU x0) (rD x1) (rW x4) (128 * p.val) (i 1).val := by
  have h0 : (i 0).val < 1 := (i 0).isLt
  rw [val_main_v158_apply]
  unfold val_main_v103
  simp only [Host.reduceAdd, Ideal.hostReduceAdd_def]
  rw [unit_sum _ _ _ (show val_main_cst_22 (F := Ideal) (Shape.Idx.first h_S_) = 0 from c_zero), val_main_v102_apply]
  unfold val_main_v101
  simp only [Host.reduceAdd, Ideal.hostReduceAdd_def]
  rw [rows_sum, show val_main_cst_21 (F := Ideal) (Shape.Idx.first h_S_) = 0 from c_zero, zero_add]
  refine Finset.sum_congr rfl fun p _ => Finset.sum_congr rfl fun s _ => ?_
  rw [dvn_ap, row_chunk p s 0, show (128 * p.val + s.val) / 128 = p.val by have := s.isLt; omega,
    show (128 * p.val + s.val) % 128 = s.val by have := s.isLt; omega]
  refine congrArg (dvn (rU x0) (rD x1) (rW x4) (128 * p.val) s.val) ?_
  show ((0 * 1 + 0) * 1024 + ((i 0).val * 1024 + (i 1).val)) = (i 1).val
  omega

/-- The gradient of the scale. -/
theorem dg_ap (i : S1x1024.Idx) : val_main_v157 (F := Ideal) x0 x1 x4 i
    = ∑ p : Fin 32, dgT (rU x0) (rV x0) (rD x1) (rW x4) (128 * p.val) (i 1).val := by
  have h0 : (i 0).val < 1 := (i 0).isLt
  rw [val_main_v157_apply]
  unfold val_main_v109
  simp only [Host.reduceAdd, Ideal.hostReduceAdd_def]
  rw [unit_sum _ _ _ (show val_main_cst_24 (F := Ideal) (Shape.Idx.first h_S_) = 0 from c_zero), val_main_v106_apply]
  unfold val_main_v105
  simp only [Host.reduceAdd, Ideal.hostReduceAdd_def]
  rw [rows_sum, show val_main_cst_23 (F := Ideal) (Shape.Idx.first h_S_) = 0 from c_zero, zero_add]
  refine Finset.sum_congr rfl fun p _ => Finset.sum_congr rfl fun s _ => ?_
  rw [val_main_v104_apply, xh_ap, dvn_ap, row_chunk p s 0, show (128 * p.val + s.val) / 128 = p.val by have := s.isLt; omega,
    show (128 * p.val + s.val) % 128 = s.val by have := s.isLt; omega]
  have e : ((0 * 1 + 0) * 1024 + ((i 0).val * 1024 + (i 1).val)) = (i 1).val := by omega
  refine Eq.trans (mul_comm _ _) (congrArg (fun c => dvn (rU x0) (rD x1) (rW x4) (128 * p.val) s.val c * xh (rV x0) (128 * p.val + s.val) c) e)

/-- The gradient of the mixing bias. -/
theorem db_ap (i : S8x128x1.Idx) : val_main_v156 (F := Ideal) x0 x1 i
    = ∑ p : Fin 32, dbT (rU x0) (rD x1) (128 * p.val) (i 0).val (i 1).val := by
  rw [val_main_v156_apply, val_main_v94_apply]
  unfold val_main_v93
  simp only [Host.reduceAdd, Ideal.hostReduceAdd_def]
  rw [unit_group _ _ _ (show val_main_cst_20 (F := Ideal) (Shape.Idx.first h_S_) = 0 from c_zero), val_main_v92_apply]
  unfold val_main_v91
  simp only [Host.reduceAdd, Ideal.hostReduceAdd_def]
  rw [group_sum, show val_main_cst_19 (F := Ideal) (Shape.Idx.first h_S_) = 0 from c_zero, zero_add]
  refine Finset.sum_congr rfl fun p _ => Finset.sum_congr rfl fun d _ => ?_
  rw [dmx5_ap]
  have h0 : (i 0).val < 8 := (i 0).isLt
  have h1 : (i 1).val < 128 := (i 1).isLt
  refine congrArg₂ (dmx (rU x0) (rD x1)) ?_ ?_
  · show 2048 * (p.val / 16) + 128 * (p.val % 16) + ((((0 * 1 + 0) * 128 + (i 1).val) * 8 + (i 0).val) * 1 + 0) / 8 = 128 * p.val + (i 1).val
    omega
  · show 128 * (((((0 * 1 + 0) * 128 + (i 1).val) * 8 + (i 0).val) * 1 + 0) % 8) + d.val = 128 * (i 0).val + d.val
    omega

abbrev dd := dot_S8x2x16x128x128_S2x16x128x8x128_S8x128x128_123_014_4_2_0_3
abbrev ce : dd.contr.Idx ≃ Fin 32 × Fin 128 := contrEquiv3 dd rfl rfl rfl rfl

abbrev lix (i : S8x128x128.Idx) (p : Fin 32) (d : Fin 128) : S8x2x16x128x128.Idx := ix5 (i 0) (seqOf p) (chkOf p) d (i 1)
abbrev rix (i : S8x128x128.Idx) (p : Fin 32) (d : Fin 128) : S2x16x128x8x128.Idx := ix5 (seqOf p) (chkOf p) (i 2) (i 0) d

theorem dd_l (i : S8x128x128.Idx) (k : Fin 32 × Fin 128) :
    dd.lhsIdx i (ce.symm k) = lix i k.1 k.2 := by
  refine funext fun a => Fin.ext ?_
  match a with
  | ⟨0, _⟩ => rfl
  | ⟨1, _⟩ => rfl
  | ⟨2, _⟩ => rfl
  | ⟨3, _⟩ => rfl
  | ⟨4, _⟩ => rfl

theorem dd_r (i : S8x128x128.Idx) (k : Fin 32 × Fin 128) :
    dd.rhsIdx i (ce.symm k) = rix i k.1 k.2 := by
  refine funext fun a => Fin.ext ?_
  match a with
  | ⟨0, _⟩ => rfl
  | ⟨1, _⟩ => rfl
  | ⟨2, _⟩ => rfl
  | ⟨3, _⟩ => rfl
  | ⟨4, _⟩ => rfl

/-- The gradient of the mixing weights. -/
theorem dw_ap (i : S8x128x128.Idx) : val_main_v99 (F := Ideal) x0 x1 x2 x3 i
    = ∑ p : Fin 32, dwT (rU x0) (rV x0) (rD x1) (rg x2) (rg x3) (128 * p.val) (i 0).val (i 1).val (i 2).val := by
  show Scalar.select (val_main_v79_1 (F := Ideal) i) (val_main_v96 (F := Ideal) x0 x1 x2 x3 i) (Ideal.ofBits .f32 0x00000000#32) = _
  rw [mask_ap, c_zero]
  unfold dwT
  by_cases h : (i 2).val ≤ (i 1).val
  · simp only [if_pos h]
    show val_main_v96 (F := Ideal) x0 x1 x2 x3 i = _
    unfold val_main_v96
    simp only [Host.dotGeneral]
    rw [Ideal.dotGeneral_apply, ← Equiv.sum_comp ce.symm, Fintype.sum_prod_type]
    refine Finset.sum_congr rfl fun p _ => Finset.sum_congr rfl fun d _ => ?_
    rw [dd_l, dd_r, vn5_ap, show val_main_v95 (F := Ideal) x0 x1 (lix i p d) = _ from (val_main_v95_apply x0 x1 _).trans (dmx5_ap x0 x1 _)]
    have e : ∀ r : ℕ, 2048 * (p.val / 16) + 128 * (p.val % 16) + r = 128 * p.val + r := fun r => by omega
    refine congrArg₂ (· * ·) (congrArg₂ (dmx (rU x0) (rD x1)) (e _) rfl) (congrArg₂ (vn (rV x0) (rg x2) (rg x3)) (e _) rfl)
  · simp only [if_neg h, Finset.sum_const_zero]
    rfl

/-- A row and column of the two halves' gradients, in sequences. -/
theorem row150 (y : S4096x1024.Idx) : row (idx_main_v150 y) = (y 0).val := by
  have h0 : (y 0).val < 4096 := (y 0).isLt
  have h1 : (y 1).val < 1024 := (y 1).isLt
  show 2048 * (((y 0).val * 1024 + (y 1).val) / 2097152) + ((y 0).val * 1024 + (y 1).val) / 1024 % 2048 = _
  omega

theorem col150 (y : S4096x1024.Idx) : ((idx_main_v150 y) 2).val = (y 1).val := by
  have h1 : (y 1).val < 1024 := (y 1).isLt
  show ((y 0).val * 1024 + (y 1).val) % 1024 = (y 1).val
  omega

/-- The gradient of the projection: the two halves' gradients, then the columns handed through. -/
theorem dp_ap (x6 : (⟨S4096x9216, .bf16⟩ : BufTy).Contents (Elt Ideal)) (y : S4096x9216.Idx) :
    val_main_v155 (F := Ideal) x0 x1 x2 x3 x4 x5 x6 y
      = if (y 1).val < 2048 then
          if (y 1).val < 1024 then
            gelP (rU x0 (y 0).val (y 1).val) (rD x1 (y 0).val (y 1).val
              * mix (rV x0) (rg x2) (rg x3) (rW x4) (rB x5) (128 * ((y 0).val / 128)) ((y 0).val % 128) (y 1).val)
          else
            gelP (rV x0 (y 0).val ((y 1).val - 1024))
              (dgvR (rU x0) (rV x0) (rD x1) (rg x2) (rW x4) (128 * ((y 0).val / 128)) ((y 0).val % 128) ((y 1).val - 1024))
        else x6 y := by
  have h1 : (y 1).val < 9216 := (y 1).isLt
  unfold val_main_v155
  by_cases h : (y 1).val < 2048
  · rw [if_pos h]
    refine (concatenate_pair_apply_left (t := S4096x9216) (s₁ := S4096x2048) (s₂ := S4096x7168) (1 : Fin 2) _ _ _ y rfl (ix2 (y 0) (⟨(y 1).val, h⟩ : Fin 2048) : S4096x2048.Idx) fun b => ?_).trans ?_
    · match b with
      | ⟨0, _⟩ => rfl
      | ⟨1, _⟩ => rfl
    show val_main_v152 (F := Ideal) x0 x1 x2 x3 x4 x5 (ix2 (y 0) (⟨(y 1).val, h⟩ : Fin 2048) : S4096x2048.Idx) = _
    unfold val_main_v152
    by_cases hh : (y 1).val < 1024
    · rw [if_pos hh]
      refine (concatenate_pair_apply_left (t := S4096x2048) (s₁ := S4096x1024) (s₂ := S4096x1024) (1 : Fin 2) _ _ _ _ rfl (ix2 (y 0) (⟨(y 1).val, hh⟩ : Fin 1024) : S4096x1024.Idx) fun b => ?_).trans ?_
      · match b with
        | ⟨0, _⟩ => rfl
        | ⟨1, _⟩ => rfl
      refine (val_main_v150_apply x0 x1 x2 x3 x4 x5 _).trans ?_
      rw [du_ap, row150, col150]
    · rw [if_neg hh]
      have h3 : (y 1).val - 1024 < 1024 := by omega
      refine (concatenate_pair_apply_right (t := S4096x2048) (s₁ := S4096x1024) (s₂ := S4096x1024) (1 : Fin 2) _ _ _ _ rfl rfl (ix2 (y 0) (⟨(y 1).val - 1024, h3⟩ : Fin 1024) : S4096x1024.Idx) (fun b hb => ?_) ?_).trans ?_
      · match b with
        | ⟨0, _⟩ => rfl
        | ⟨1, _⟩ => exact absurd rfl hb
      · show (y 1).val - 1024 + 1024 = (y 1).val
        omega
      refine (val_main_v151_apply x0 x1 x2 x4 _).trans ?_
      rw [dv_ap, show row (idx_main_v151 (ix2 (y 0) (⟨(y 1).val - 1024, h3⟩ : Fin 1024) : S4096x1024.Idx)) = (y 0).val from
          row150 (ix2 (y 0) (⟨(y 1).val - 1024, h3⟩ : Fin 1024) : S4096x1024.Idx),
        show ((idx_main_v151 (ix2 (y 0) (⟨(y 1).val - 1024, h3⟩ : Fin 1024) : S4096x1024.Idx)) 2).val = (y 1).val - 1024 from
          col150 (ix2 (y 0) (⟨(y 1).val - 1024, h3⟩ : Fin 1024) : S4096x1024.Idx)]
  · rw [if_neg h]
    have h3 : (y 1).val - 2048 < 7168 := by omega
    refine (concatenate_pair_apply_right (t := S4096x9216) (s₁ := S4096x2048) (s₂ := S4096x7168) (1 : Fin 2) _ _ _ _ rfl rfl (ix2 (y 0) (⟨(y 1).val - 2048, h3⟩ : Fin 7168) : S4096x7168.Idx) (fun b hb => ?_) ?_).trans ?_
    · match b with
      | ⟨0, _⟩ => rfl
      | ⟨1, _⟩ => exact absurd rfl hb
    · show (y 1).val - 2048 + 2048 = (y 1).val
      omega
    refine (val_main_v154_apply x6 _).trans (congrArg x6 (funext fun a => Fin.ext ?_))
    match a with
    | ⟨0, _⟩ => rfl
    | ⟨1, _⟩ => show 2048 + ((y 1).val - 2048) = (y 1).val; omega

end Cert.ReferenceIdeal.SG

end

end
-- ==== Proof.Real.lean ====
module

public import proofs.«01_k».proof.Proof.Sp

/- On real entries the two orders of operations agree: the gradients of the gate's two halves as the kernel and as the
   reference compute them. Only the 1024 columns of each half are asked to be real. -/

@[expose] public section

noncomputable section

namespace Cert.SG

open Idealize.ShloMosaic

/-- The first 1024 columns, zero behind them. -/
def tr (U : ℕ → ℕ → EReal) (r c : ℕ) : EReal := if c < 1024 then U r c else 0

theorem tr_lt (U : ℕ → ℕ → EReal) (r : ℕ) {c : ℕ} (h : c < 1024) : tr U r c = U r c := if_pos h

theorem isR_tr {U : ℕ → ℕ → EReal} (h : ∀ r c, c < 1024 → IsR (U r c)) (r c : ℕ) : IsR (tr U r c) := by
  unfold tr
  split
  · exact h r c ‹_›
  · exact isR_zero

theorem mean_congr {f f' : ℕ → EReal} (h : ∀ k, k < 1024 → f k = f' k) : mean f = mean f' := by
  unfold mean
  rw [Finset.sum_congr rfl fun k _ => h k.val k.isLt]

variable (U V D : ℕ → ℕ → EReal) (g b : ℕ → EReal) (W : ℕ → ℕ → ℕ → EReal) (B : ℕ → ℕ → EReal)

theorem gc_tr (r : ℕ) {c : ℕ} (h : c < 1024) : gc (tr V) r c = gc V r c := by
  unfold gc
  rw [tr_lt V r h, mean_congr fun k hk => by rw [tr_lt V r hk]]

theorem var_tr (r : ℕ) : var (tr V) r = var V r :=
  mean_congr fun k hk => by rw [gc_tr V r hk]

theorem xh_tr (r : ℕ) {c : ℕ} (h : c < 1024) : xh (tr V) r c = xh V r c := by
  unfold xh rstd
  rw [gc_tr V r h, var_tr]

theorem dxh_tr (R s : ℕ) {c : ℕ} (h : c < 1024) : dxh (tr U) D g W R s c = dxh U D g W R s c := by
  unfold dxh dvn dmx
  simp only [tr_lt U _ h]

theorem mix_tr (R t : ℕ) {c : ℕ} (h : c < 1024) : mix (tr V) g b W B R t c = mix V g b W B R t c := by
  unfold mix vn
  simp only [xh_tr V _ h]

theorem dgv_tr (R s : ℕ) {c : ℕ} (h : c < 1024) : dgv (tr U) (tr V) D g W R s c = dgv U V D g W R s c := by
  unfold dgv rstd
  have e1 : mean (fun k => dxh (tr U) D g W R s k) = mean (fun k => dxh U D g W R s k) :=
    mean_congr fun k hk => dxh_tr U D g W R s hk
  have e2 : mean (fun k => dxh (tr U) D g W R s k * xh (tr V) (R + s) k) = mean (fun k => dxh U D g W R s k * xh V (R + s) k) :=
    mean_congr fun k hk => by rw [dxh_tr U D g W R s hk, xh_tr V _ hk]
  rw [var_tr, dxh_tr U D g W R s h, xh_tr V _ h, e1, e2]

theorem dgvR_tr (R s : ℕ) {c : ℕ} (h : c < 1024) : dgvR (tr U) (tr V) D g W R s c = dgvR U V D g W R s c := by
  unfold dgvR dgvP
  have e : ∀ k : Fin 1024, gc (tr V) (R + s) k.val = gc V (R + s) k.val := fun k => gc_tr V _ k.isLt
  have e' : ∀ k : Fin 1024, dxh (tr U) D g W R s k.val = dxh U D g W R s k.val := fun k => dxh_tr U D g W R s k.isLt
  simp only [e, e', gc_tr V _ h, dxh_tr U D g W R s h, var_tr]

variable {U V D g b W B} (hU : ∀ r c, c < 1024 → IsR (U r c)) (hV : ∀ r c, c < 1024 → IsR (V r c)) (hD : ∀ r c, IsR (D r c))
  (hg : ∀ c, IsR (g c)) (hb : ∀ c, IsR (b c)) (hW : ∀ q t s, IsR (W q t s)) (hB : ∀ q t, IsR (B q t))

include hU hV hD hg hb hW hB

/-- The first half. -/
theorem du_eq (r : ℕ) {c : ℕ} (h : c < 1024) :
    oU U V D g b W B (128 * (r / 128)) (r % 128) c = gelP (U r c) (D r c * mix V g b W B (128 * (r / 128)) (r % 128) c) := by
  unfold oU
  rw [Nat.div_add_mod, gelP_eq (hU r c h) ((hD r c).mul ?_)]
  rw [← mix_tr V g b W B _ _ h]
  exact isR_mix (isR_tr hV) hg hb hW hB _ _ _

omit hb hB in
/-- The second half. -/
theorem dv_eq (r : ℕ) {c : ℕ} (h : c < 1024) :
    oV U V D g W (128 * (r / 128)) (r % 128) c = gelP (V r c) (dgvR U V D g W (128 * (r / 128)) (r % 128) c) := by
  unfold oV
  rw [Nat.div_add_mod, ← dgvR_tr U V D g W _ _ h, dgvR_eq (isR_tr hU) (isR_tr hV) hD hg hW,
    gelP_eq (hV r c h) (isR_dgv (isR_tr hU) (isR_tr hV) hD hg hW _ _ _), dgv_tr U V D g W _ _ h]

end Cert.SG

end

end
-- ==== Proof.Pre.lean ====
module

public import proofs.«01_k».proof.Pre_finite
public import proofs.«01_k».proof.Proof.Args
public import Idealize.ShloMosaic.Lib.ReduceAll

/- What the precondition says: the entries of the projection's gate columns, of the cotangent, of the normalisation's
   scale and offset and of the mixing weights and bias are real numbers. -/

@[expose] public section

set_option maxRecDepth 16384

noncomputable section

namespace Cert.Pre_finite

open Idealize.ShloMosaic
open Cert.SG

theorem facts : Facts where
  slices_S4096x9216_S4096x2048_0_0 := by decide
  bitsLt_bf16_f32 := by decide
  bcast_S_S4096x2048 := by decide
  reducesTo_S4096x2048_S_d0_1 := by decide
  h_S_ := by decide
  bcast_S_S4096x1024 := by decide
  reducesTo_S4096x1024_S_d0_1 := by decide
  bcast_S_S1024 := by decide
  reducesTo_S1024_S_d0 := by decide
  bcast_S_S8x128x128 := by decide
  reducesTo_S8x128x128_S_d0_1_2 := by decide
  bcast_S_S8x128 := by decide
  reducesTo_S8x128_S_d0_1 := by decide

instance : Subsingleton S_.Idx := ⟨fun a b => funext fun k => k.elim0⟩

/-- The two comparisons say that an entry is neither infinite. -/
theorem isR_of_cmp (x : EReal) (h : IntOp.andi (BitVec.ofBool (decide (x > Ideal.ofBits .f32 0xFF800000#32)))
    (BitVec.ofBool (decide (x < Ideal.ofBits .f32 0x7F800000#32))) = 1#1) : IsR x := by
  rw [IntOp.andi_eq_one, c_ninf, c_pinf] at h
  refine isR_of_lt ?_ ?_
  · have := h.1; by_contra hn; simp [hn] at this
  · have := h.2; by_contra hn; simp [hn] at this

variable [Facts]
open Facts

/-- One conjunct of the precondition: every entry of an array is a real number. -/
theorem all_isR {s : Shape} {axes : List (Fin s.rank)} (x : FVec Ideal s .f32) (bc : S_.BroadcastsInDim s (![] : Fin 0 → Fin s.rank))
    (hr : s.ReducesTo axes S_) (h : Host.reduce IntOp.andi
      (andi (cmpf .ogt x (broadcastInDim s ![] bc (constant (F := Ideal) S_ .f32 0xFF800000#32)))
        (cmpf .olt x (broadcastInDim s ![] bc (constant (F := Ideal) S_ .f32 0x7F800000#32)))) (constantI S_ 1 1#1) hr h_S_ (fun a => a.elim0) = 1#1)
    (i : s.Idx) : IsR (x i) :=
  isR_of_cmp (x i) (Host.reduce_andi_all _ _ hr h_S_ _ h i)

theorem andi_split {a b : IVec S_ 1} (h : andi a b (fun k => k.elim0) = 1#1) : a (fun k => k.elim0) = 1#1 ∧ b (fun k => k.elim0) = 1#1 :=
  IntOp.andi_eq_one.1 h

theorem decode (x0 : FVec Ideal S4096x9216 .bf16) (x1 : FVec Ideal S4096x1024 .bf16) (x2 x3 : FVec Ideal S1024 .f32)
    (x4 : FVec Ideal S8x128x128 .f32) (x5 : FVec Ideal S8x128 .f32) (x6 : FVec Ideal S4096x9216 .bf16)
    (h : fn (F := Ideal) x0 x1 x2 x3 x4 x5 x6 = fun _ => 1#1) :
    (∀ i : S4096x2048.Idx, IsR (extractStridedSlice S4096x2048 ![0, 0] x0 slices_S4096x9216_S4096x2048_0_0 i)) ∧ (∀ i, IsR (x1 i))
      ∧ (∀ i, IsR (x2 i)) ∧ (∀ i, IsR (x3 i)) ∧ (∀ i, IsR (x4 i)) ∧ ∀ i, IsR (x5 i) := by
  have h := congrFun h (fun k => k.elim0)
  dsimp only [fn, fn_part1, fn_part2] at h
  obtain ⟨h, h5⟩ := andi_split h
  obtain ⟨h, h4⟩ := andi_split h
  obtain ⟨h, h3⟩ := andi_split h
  obtain ⟨h, h2⟩ := andi_split h
  obtain ⟨h0, h1⟩ := andi_split h
  exact ⟨all_isR _ _ _ h0, all_isR _ _ _ h1, all_isR _ _ _ h2, all_isR _ _ _ h3, all_isR _ _ _ h4, all_isR _ _ _ h5⟩

end Cert.Pre_finite

end

end
-- ==== Proof.Alg.lean ====
module

public import proofs.«01_k».proof.Defs
public import proofs.«01_k».proof.Proof.Arr
public import proofs.«01_k».proof.Proof.RefSum
public import proofs.«01_k».proof.Proof.Real
public import proofs.«01_k».proof.Proof.Pre

/- The gradient of the spatial gating unit: what the kernel leaves in its five result arrays is what the reference
   computes from the same arguments. -/

@[expose] public section

set_option maxRecDepth 16384

noncomputable section

namespace Cert.Proof

open Idealize.ShloMosaic Idealize.SL.Sem
open Cert.SG

variable (x0 : FVec Ideal Cert.Pre_finite.S4096x9216 .bf16) (x1 : FVec Ideal Cert.Pre_finite.S4096x1024 .bf16)
  (x2 x3 : FVec Ideal Cert.Pre_finite.S1024 .f32) (x4 : FVec Ideal Cert.Pre_finite.S8x128x128 .f32) (x5 : FVec Ideal Cert.Pre_finite.S8x128 .f32)
  (x6 : FVec Ideal Cert.Pre_finite.S4096x9216 .bf16)

theorem isR_at1 {a : ℕ} {x : (⟨1, ![a]⟩ : Shape).Idx → EReal} (h : ∀ i, IsR (x i)) (i : ℕ) : IsR (at1 x i) := by
  unfold at1
  split
  · exact h _
  · exact isR_zero

theorem isR_at2 {a b : ℕ} {x : (⟨2, ![a, b]⟩ : Shape).Idx → EReal} (h : ∀ i, IsR (x i)) (i j : ℕ) : IsR (at2 x i j) := by
  unfold at2
  split
  · exact h _
  · exact isR_zero

theorem isR_at3 {a b c : ℕ} {x : (⟨3, ![a, b, c]⟩ : Shape).Idx → EReal} (h : ∀ i, IsR (x i)) (i j k : ℕ) : IsR (at3 x i j k) := by
  unfold at3
  split
  · exact h _
  · exact isR_zero

/-- The gate's columns of the projection are real. -/
theorem isR_gate (hs : Cert.Pre_finite.S4096x9216.Slices ![0, 0] Cert.Pre_finite.S4096x2048)
    (h : ∀ i : Cert.Pre_finite.S4096x2048.Idx, IsR (extractStridedSlice Cert.Pre_finite.S4096x2048 ![0, 0] x0 hs i))
    (r k : ℕ) (hk : k < 2048) : IsR (at2 (a := 4096) (b := 9216) x0 r k) := by
  unfold at2
  split
  · rename_i hr
    have := h (ValueIdx.ix2 (⟨r, hr.1⟩ : Fin 4096) (⟨k, hk⟩ : Fin 2048))
    rw [extractStridedSlice_apply] at this
    convert this using 2
    intro a
    match a with
    | ⟨0, _⟩ => exact (Nat.zero_add _).symm
    | ⟨1, _⟩ => exact (Nat.zero_add _).symm
  · exact isR_zero

/-- The gradient of the projection, on real entries. -/
theorem dp_eq [Cert.Pre_finite.Facts] (h : Cert.Pre_finite.fn (F := Ideal) x0 x1 x2 x3 x4 x5 x6 = fun _ => 1#1)
    (y : Cert.Pre_finite.S4096x9216.Idx) :
    Cert.ReferenceIdeal.Read.val_main_v155 (F := Ideal) x0 x1 x2 x3 x4 x5 x6 y
      = if (y 1).val < 2048 then
          Cert.KernelIdeal.SG.oUV (at2 (a := 4096) (b := 9216) x0) (sh (at2 (a := 4096) (b := 9216) x0)) (at2 (a := 4096) (b := 1024) x1)
            (at1 (a := 1024) x2) (at1 (a := 1024) x3) (at3 (a := 8) (b := 128) (c := 128) x4) (at2 (a := 8) (b := 128) x5)
            (128 * ((y 0).val / 128)) ((y 0).val % 128) (y 1).val
        else x6 y := by
  obtain ⟨h0, h1, h2, h3, h4, h5⟩ := Cert.Pre_finite.decode x0 x1 x2 x3 x4 x5 x6 h
  have hU : ∀ r k, k < 1024 → IsR (at2 (a := 4096) (b := 9216) x0 r k) := fun r k hk => isR_gate x0 _ h0 r k (by omega)
  have hV : ∀ r k, k < 1024 → IsR (sh (at2 (a := 4096) (b := 9216) x0) r k) := fun r k hk => isR_gate x0 _ h0 r _ (by omega)
  rw [Cert.ReferenceIdeal.SG.dp_ap]
  by_cases hy : (y 1).val < 2048
  · rw [if_pos hy, if_pos hy]
    unfold Cert.KernelIdeal.SG.oUV
    by_cases hh : (y 1).val < 1024
    · rw [if_pos hh, if_pos hh]
      exact (du_eq hU hV (isR_at2 h1) (isR_at1 h2) (isR_at1 h3) (isR_at3 h4) (isR_at2 h5) _ hh).symm
    · rw [if_neg hh, if_neg hh]
      exact (dv_eq hU hV (isR_at2 h1) (isR_at1 h2) (isR_at3 h4) _ (by omega)).symm
  · rw [if_neg hy, if_neg hy]

end Cert.Proof

namespace Cert.Proof

open Idealize.ShloMosaic Idealize.SL.Sem
open Cert.SG

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp hm
  refine ⟨_, _, _, _, _, Cert.KernelIdeal.Value.run_blocks m g, ?_⟩
  refine (θ_run _ _ _).mono (fun r h c => ?_) (Cert.ReferenceIdeal.Value.run m' g')
  obtain ⟨r0, r1, r2, r3, r4, rest⟩ := h c
  obtain ⟨e0, e1, e2, e3, e4, e5, e6⟩ := hm c
  replace e0 : StableHlo.launchContents m' c (Proc.tc.devRef Cert.ReferenceIdeal.main_arg0) = m (c.tc.loc Cert.KernelIdeal.main_arg0) := e0
  replace e1 : StableHlo.launchContents m' c (Proc.tc.devRef Cert.ReferenceIdeal.main_arg1) = m (c.tc.loc Cert.KernelIdeal.main_arg1) := e1
  replace e2 : StableHlo.launchContents m' c (Proc.tc.devRef Cert.ReferenceIdeal.main_arg2) = m (c.tc.loc Cert.KernelIdeal.main_arg2) := e2
  replace e3 : StableHlo.launchContents m' c (Proc.tc.devRef Cert.ReferenceIdeal.main_arg3) = m (c.tc.loc Cert.KernelIdeal.main_arg3) := e3
  replace e4 : StableHlo.launchContents m' c (Proc.tc.devRef Cert.ReferenceIdeal.main_arg4) = m (c.tc.loc Cert.KernelIdeal.main_arg4) := e4
  replace e5 : StableHlo.launchContents m' c (Proc.tc.devRef Cert.ReferenceIdeal.main_arg5) = m (c.tc.loc Cert.KernelIdeal.main_arg5) := e5
  replace e6 : StableHlo.launchContents m' c (Proc.tc.devRef Cert.ReferenceIdeal.main_arg6) = m (c.tc.loc Cert.KernelIdeal.main_arg6) := e6
  refine ⟨r0.trans ((Cert.ReferenceIdeal.Read.val_main_v155_eq _).trans (funext fun y => ?_)),
    r1.trans ((Cert.ReferenceIdeal.Read.val_main_v99_eq _).trans (funext fun y => ?_)),
    r2.trans ((Cert.ReferenceIdeal.Read.val_main_v156_eq _).trans (funext fun y => ?_)),
    r3.trans ((Cert.ReferenceIdeal.Read.val_main_v157_eq _).trans (funext fun y => ?_)),
    r4.trans ((Cert.ReferenceIdeal.Read.val_main_v158_eq _).trans (funext fun y => ?_)), rest⟩
  all_goals clear r0 r1 r2 r3 r4 rest h
  · rw [e0, e1, e2, e3, e4, e5, e6, Cert.KernelIdeal.SG.arr7 m c y]
    exact @dp_eq _ _ _ _ _ _ _ Cert.Pre_finite.facts (hp c) y
  · rw [e0, e1, e2, e3, Cert.KernelIdeal.SG.arr8 m c]
    exact Cert.ReferenceIdeal.SG.dw_ap _ _ _ _ y
  · rw [e0, e1, Cert.KernelIdeal.SG.arr9 m c]
    exact Cert.ReferenceIdeal.SG.db_ap _ _ y
  · rw [e0, e1, e4, Cert.KernelIdeal.SG.arr10 m c]
    exact Cert.ReferenceIdeal.SG.dg_ap _ _ _ y
  · rw [e0, e1, e4, Cert.KernelIdeal.SG.arr11 m c]
    exact Cert.ReferenceIdeal.SG.de_ap _ _ _ y

end Cert.Proof

end

end
-- ==== Proof.Mm.lean ====
module

public import proofs.«01_k».proof.Proof.Args
public import Idealize.ShloMosaic.Lib.ValueIdx
public import Idealize.ShloMosaic.Lib.ValueLayout
public import Idealize.ShloMosaic.Lib.MatmulPlain

/- Products of two blocks read at an index, at any sizes, and sums cut into blocks. -/

@[expose] public section

noncomputable section

namespace Cert.MM

open Idealize.ShloMosaic Idealize.ShloMosaic.TcCoe Idealize.ShloMosaic.ValueIdx
open Cert.SG

/-- The contraction of the first axis of both operands. -/
abbrev tnDims (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- Part `o` of a sum of products, `K` terms long, with both operands' first axes contracted, -/
def tnS (K : ℕ) (A B : ℕ → ℕ → EReal) (o p q : ℕ) : EReal := ∑ k : Fin K, A (K * o + k.val) p * B (K * o + k.val) q
/-- with both last axes, -/
def ntS (K : ℕ) (A B : ℕ → ℕ → EReal) (o p q : ℕ) : EReal := ∑ k : Fin K, A p (K * o + k.val) * B q (K * o + k.val)
/-- and of a plain product. -/
def nnS (K : ℕ) (A B : ℕ → ℕ → EReal) (o p q : ℕ) : EReal := ∑ k : Fin K, A p (K * o + k.val) * B (K * o + k.val) q

/-- The products of two blocks, each read off an array at its place. -/
theorem tn {K M N : ℕ} {wf : DotDims.WF ⟨2, ![K, M]⟩ ⟨2, ![K, N]⟩ ⟨2, ![M, N]⟩ [0] [0] [1] [1] [] []}
    {x : FVec Ideal ⟨2, ![K, M]⟩ .bf16} {y : FVec Ideal ⟨2, ![K, N]⟩ .bf16} {A B : ℕ → ℕ → EReal} {o p q : ℕ}
    (hx : ∀ k r, x (ix2 k r) = A (K * o + k.val) (p + r.val)) (hy : ∀ k c, y (ix2 k c) = B (K * o + k.val) (q + c.val)) (r : Fin M) (c : Fin N) :
    matmul (tnDims K M N wf) none x y (constant ⟨2, ![M, N]⟩ .f32 0x00000000#32) (ix2 r c) = tnS K A B o (p + r.val) (q + c.val) := by
  refine (Ideal.matmul_constant_zero_apply (tnDims K M N wf) none x y (ix2 r c)).trans ?_
  rw [← Equiv.sum_comp (contrEquiv1 (tnDims K M N wf) K rfl rfl).symm]
  refine Finset.sum_congr rfl fun k _ => ?_
  have hk := contrEquiv1_symm_val (tnDims K M N wf) K rfl rfl k
  rw [← hx, ← hy]
  congr 1
  · refine congrArg x (funext fun ax => Fin.ext ?_)
    match ax with
    | ⟨0, _⟩ => exact hk
    | ⟨1, _⟩ => rfl
  · refine congrArg y (funext fun ax => Fin.ext ?_)
    match ax with
    | ⟨0, _⟩ => exact hk
    | ⟨1, _⟩ => rfl

theorem nt {K M N : ℕ} {x : FVec Ideal ⟨2, ![M, K]⟩ .bf16} {y : FVec Ideal ⟨2, ![N, K]⟩ .bf16} {A B : ℕ → ℕ → EReal} {o p q : ℕ}
    (hx : ∀ r k, x (ix2 r k) = A (p + r.val) (K * o + k.val)) (hy : ∀ c k, y (ix2 c k) = B (q + c.val) (K * o + k.val)) (r : Fin M) (c : Fin N) :
    matmul (DotDims.transposedRhs M K N) none x y (constant ⟨2, ![M, N]⟩ .f32 0x00000000#32) (ix2 r c) = ntS K A B o (p + r.val) (q + c.val) := by
  refine (Ideal.matmul_transposedRhs_apply none x y _ r c).trans ?_
  rw [constant_apply, c_zero, zero_add]
  exact Finset.sum_congr rfl fun k _ => by rw [hx, hy]

theorem nn {K M N : ℕ} {x : FVec Ideal ⟨2, ![M, K]⟩ .bf16} {y : FVec Ideal ⟨2, ![K, N]⟩ .bf16} {A B : ℕ → ℕ → EReal} {o p q : ℕ}
    (hx : ∀ r k, x (ix2 r k) = A (p + r.val) (K * o + k.val)) (hy : ∀ k c, y (ix2 k c) = B (K * o + k.val) (q + c.val)) (r : Fin M) (c : Fin N) :
    matmul (DotDims.plain M K N) none x y (constant ⟨2, ![M, N]⟩ .f32 0x00000000#32) (ix2 r c) = nnS K A B o (p + r.val) (q + c.val) := by
  refine (Ideal.matmul_plain_apply none x y _ r c).trans ?_
  rw [constant_apply, c_zero, zero_add]
  exact Finset.sum_congr rfl fun k _ => by rw [hx, hy]

/-- A sum in two parts, and in three. -/
theorem cut2 (n : ℕ) (f : ℕ → EReal) : ∑ k : Fin n, f (n * 0 + k.val) + ∑ k : Fin n, f (n * 1 + k.val) = ∑ k : Fin (n + n), f ((n + n) * 0 + k.val) := by
  rw [Fin.sum_univ_add]
  simp only [Nat.mul_zero, Nat.zero_add, Nat.mul_one]
  rfl

theorem cut3 (n : ℕ) (f : ℕ → EReal) :
    ∑ k : Fin n, f (n * 0 + k.val) + ∑ k : Fin n, f (n * 1 + k.val) + ∑ k : Fin n, f (n * 2 + k.val)
      = ∑ k : Fin (n + n + n), f ((n + n + n) * 0 + k.val) := by
  rw [cut2, mul_two]
  simp only [Nat.mul_zero, Nat.zero_add]
  exact (Fin.sum_univ_add (fun k : Fin (n + n + n) => f k.val)).symm

theorem tnS_two (n : ℕ) (A B : ℕ → ℕ → EReal) (p q : ℕ) : tnS n A B 0 p q + tnS n A B 1 p q = tnS (n + n) A B 0 p q :=
  cut2 n fun k => A k p * B k q
theorem ntS_two (n : ℕ) (A B : ℕ → ℕ → EReal) (p q : ℕ) : ntS n A B 0 p q + ntS n A B 1 p q = ntS (n + n) A B 0 p q :=
  cut2 n fun k => A p k * B q k
theorem ntS_three (n : ℕ) (A B : ℕ → ℕ → EReal) (p q : ℕ) :
    ntS n A B 0 p q + ntS n A B 1 p q + ntS n A B 2 p q = ntS (n + n + n) A B 0 p q := cut3 n fun k => A p k * B q k

/-- A two-axis array at an index and at its coordinates. -/
theorem at2_ix {a b : ℕ} (x : (⟨2, ![a, b]⟩ : Shape).Idx → EReal) (y : (⟨2, ![a, b]⟩ : Shape).Idx) : x y = at2 x (y 0).val (y 1).val := by
  refine Eq.trans (congrArg x (eq_ix2 y)) (at2_eq x _ _ (y 0).isLt (y 1).isLt).symm

/-- A window's block, read off the array at its place. -/
theorem blk {a b p q i k : ℕ} {X : (⟨2, ![a, b]⟩ : Shape).Idx → EReal} {x : (⟨2, ![p, q]⟩ : Shape).Idx → EReal}
    {E : (⟨2, ![p, q]⟩ : Shape).Idx → (⟨2, ![a, b]⟩ : Shape).Idx} {I : Fin 2 → ℕ}
    (hE : ∀ j (z : Fin 2), (E j z).val = I z * (![p, q] : Fin 2 → ℕ) z + (j z).val) (hi : I = ![i, k]) (hx : ∀ j, x j = X (E j)) (r : Fin p) (n : Fin q) :
    x (ix2 r n) = at2 X (p * i + r.val) (q * k + n.val) := by
  subst hi
  rw [hx, at2_ix X, hE _ 0, hE _ 1]
  show at2 X (i * p + r.val) (k * q + n.val) = _
  rw [Nat.mul_comm i, Nat.mul_comm k]

/-- A block's values known at its places in the array are the array's function there. -/
theorem put {a b p q i k : ℕ} {G : ℕ → ℕ → EReal} {v : (⟨2, ![p, q]⟩ : Shape).Idx → EReal}
    {E : (⟨2, ![p, q]⟩ : Shape).Idx → (⟨2, ![a, b]⟩ : Shape).Idx} {I : Fin 2 → ℕ}
    (hE : ∀ j (z : Fin 2), (E j z).val = I z * (![p, q] : Fin 2 → ℕ) z + (j z).val) (hi : I = ![i, k])
    (hv : ∀ (r : Fin p) (n : Fin q), v (ix2 r n) = G (p * i + r.val) (q * k + n.val)) (j : (⟨2, ![p, q]⟩ : Shape).Idx) :
    v j = G (E j 0).val (E j 1).val := by
  subst hi
  refine (congrArg v (eq_ix2 j)).trans ((hv (j 0) (j 1)).trans ?_)
  rw [hE _ 0, hE _ 1]
  show G (p * i + (j 0).val) (q * k + (j 1).val) = G (i * p + (j 0).val) (k * q + (j 1).val)
  rw [Nat.mul_comm i, Nat.mul_comm k]

/-- A sum accumulated over two grid points: the first leaves its part in the scratch buffer, the second adds its own to it. -/
theorem halves {L p q : ℕ} {S : ℕ → ℕ → ℕ → EReal} {S' : ℕ → ℕ → EReal} (hS : ∀ x y, S 0 x y + S 1 x y = S' x y)
    {pay scr out : Fin L → (⟨2, ![p, q]⟩ : Shape).Idx → EReal} {I J : ℕ → ℕ} (hI : ∀ t, t % 2 = 1 → I (t - 1) = I t) (hJ : ∀ t, t % 2 = 1 → J (t - 1) = J t)
    (hp : ∀ t (r : Fin p) (n : Fin q), pay t (ix2 r n) = S (t.val % 2) (p * I t.val + r.val) (q * J t.val + n.val))
    (hs : ∀ t : Fin L, t.val % 2 = 0 → scr t = pay t)
    (ho : ∀ t : Fin L, t.val % 2 = 1 → out t = fun j => scr ⟨t.val - 1, by have := t.isLt; omega⟩ j + pay t j)
    (t : Fin L) (h : t.val % 2 = 1) (r : Fin p) (n : Fin q) : out t (ix2 r n) = S' (p * I t.val + r.val) (q * J t.val + n.val) := by
  have h0 : (t.val - 1) % 2 = 0 := by omega
  rw [ho t h]
  show scr _ _ + pay t _ = _
  rw [hs _ h0, hp, hp, ← hS]
  show S ((t.val - 1) % 2) _ _ + _ = _
  rw [h0, h, hI _ h, hJ _ h]

/-- The same over three. -/
theorem thirds {L p q : ℕ} {S : ℕ → ℕ → ℕ → EReal} {S' : ℕ → ℕ → EReal} (hS : ∀ x y, S 0 x y + S 1 x y + S 2 x y = S' x y)
    {pay scr out : Fin L → (⟨2, ![p, q]⟩ : Shape).Idx → EReal} {I J : ℕ → ℕ} (hI : ∀ t, 0 < t % 3 → I (t - 1) = I t) (hJ : ∀ t, 0 < t % 3 → J (t - 1) = J t)
    (hp : ∀ t (r : Fin p) (n : Fin q), pay t (ix2 r n) = S (t.val % 3) (p * I t.val + r.val) (q * J t.val + n.val))
    (hs : ∀ t : Fin L, t.val % 3 = 0 → scr t = pay t)
    (hs' : ∀ t : Fin L, t.val % 3 = 1 → scr t = fun j => scr ⟨t.val - 1, by have := t.isLt; omega⟩ j + pay t j)
    (ho : ∀ t : Fin L, t.val % 3 = 2 → out t = fun j => scr ⟨t.val - 1, by have := t.isLt; omega⟩ j + pay t j)
    (t : Fin L) (h : t.val % 3 = 2) (r : Fin p) (n : Fin q) : out t (ix2 r n) = S' (p * I t.val + r.val) (q * J t.val + n.val) := by
  have h1 : (t.val - 1) % 3 = 1 := by omega
  have h0 : (t.val - 1 - 1) % 3 = 0 := by omega
  rw [ho t h]
  show scr _ _ + pay t _ = _
  rw [hs' _ h1]
  show scr _ _ + pay _ _ + pay t _ = _
  rw [hs _ h0, hp, hp, hp, ← hS]
  show S ((t.val - 1 - 1) % 3) (p * I (t.val - 1 - 1) + _) (q * J (t.val - 1 - 1) + _) + S ((t.val - 1) % 3) (p * I (t.val - 1) + _) (q * J (t.val - 1) + _) + _ = _
  rw [h0, h1, h, hI (t.val - 1) (by omega), hJ (t.val - 1) (by omega), hI _ (by omega), hJ _ (by omega)]

/-- The three products of whole arrays. -/
def tnOf {K M N : ℕ} (x : (⟨2, ![K, M]⟩ : Shape).Idx → EReal) (y : (⟨2, ![K, N]⟩ : Shape).Idx → EReal) : (⟨2, ![M, N]⟩ : Shape).Idx → EReal :=
  fun j => tnS K (at2 x) (at2 y) 0 (j 0).val (j 1).val
def ntOf {M K N : ℕ} (x : (⟨2, ![M, K]⟩ : Shape).Idx → EReal) (y : (⟨2, ![N, K]⟩ : Shape).Idx → EReal) : (⟨2, ![M, N]⟩ : Shape).Idx → EReal :=
  fun j => ntS K (at2 x) (at2 y) 0 (j 0).val (j 1).val
def nnOf {M K N : ℕ} (x : (⟨2, ![M, K]⟩ : Shape).Idx → EReal) (y : (⟨2, ![K, N]⟩ : Shape).Idx → EReal) : (⟨2, ![M, N]⟩ : Shape).Idx → EReal :=
  fun j => nnS K (at2 x) (at2 y) 0 (j 0).val (j 1).val

/-- Two runs whose results agree, and that each keep what they keep. -/
theorem agree {D R R' : Type} {β : D → Type} {W : (R → Prop) → Prop} {W' : (R' → Prop) → Prop} {out : R → (c : D) → β c} {out' : R' → (c : D) → β c}
    {K : R → D → Prop} {K' : R' → D → Prop} {f f' : (c : D) → β c} (run : W fun r => ∀ c, out r c = f c ∧ K r c)
    (mono : ∀ {P Q : R' → Prop}, (∀ r, P r → Q r) → W' P → W' Q) (run' : W' fun r => ∀ c, out' r c = f' c ∧ K' r c) (h : ∀ c, f' c = f c) :
    ∃ v : (c : D) → β c, W (fun r => ∀ c, out r c = v c ∧ K r c) ∧ W' (fun r => ∀ c, out' r c = v c ∧ K' r c) :=
  ⟨f, run, mono (fun _ hr c => ⟨(hr c).1.trans (h c), (hr c).2⟩) run'⟩

/-- A run that keeps its arguments, of a program with nothing else to leave. -/
theorem keeps {D R : Type} {W : (R → Prop) → Prop} {O K : R → D → Prop} {Z : R → Prop} (mono : ∀ {P Q : R → Prop}, (∀ r, P r → Q r) → W P → W Q)
    (hz : ∀ r, Z r) (run : W fun r => ∀ c, O r c ∧ K r c) : W fun r => (∀ c, K r c) ∧ Z r :=
  mono (fun r h => ⟨fun c => (h c).2, hz r⟩) run

/-- The references' sums. -/
theorem tn_ref {K : ℕ} {A B : ℕ → ℕ → EReal} {p q : ℕ} {f g : Fin K → EReal} (hf : ∀ k, f k = B k.val q) (hg : ∀ k, g k = A k.val p) :
    ∑ k, f k * g k = tnS K A B 0 p q :=
  Finset.sum_congr rfl fun k _ => by rw [hf, hg, Nat.mul_zero, Nat.zero_add]; exact mul_comm _ _
theorem nt_ref {K : ℕ} {A B : ℕ → ℕ → EReal} {p q : ℕ} {f g : Fin K → EReal} (hf : ∀ k, f k = A p k.val) (hg : ∀ k, g k = B q k.val) :
    ∑ k, f k * g k = ntS K A B 0 p q :=
  Finset.sum_congr rfl fun k _ => by rw [hf, hg, Nat.mul_zero, Nat.zero_add]
theorem nn_ref {K : ℕ} {A B : ℕ → ℕ → EReal} {p q : ℕ} {f g : Fin K → EReal} (hf : ∀ k, f k = A p k.val) (hg : ∀ k, g k = B k.val q) :
    ∑ k, f k * g k = nnS K A B 0 p q :=
  Finset.sum_congr rfl fun k _ => by rw [hf, hg, Nat.mul_zero, Nat.zero_add]

end Cert.MM

end

end
-- ==== Proof.Proj.lean ====
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import proofs.«01_k».proof.Proof.Mm
public import Idealize.ShloMosaic.Lib.Pipeline.ValueKit
public import Idealize.ShloMosaic.Lib.Pipeline.ReadBack

/- The forward products: each block in one step. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM

/-! The wide projection. -/
namespace Cert.ProjIdeal.MM

open Cert.ProjIdeal.Gen

theorem i0 : ∀ t : Fin cfg0.N, win0_0.index t = ![t.val / 6, 0] := (by decide +kernel : ∀ t : Fin grid0.N, _)
theorem i1 : ∀ t : Fin cfg0.N, win0_1.index t = ![0, t.val % 6] := (by decide +kernel : ∀ t : Fin grid0.N, _)
theorem i2 : ∀ t : Fin cfg0.N, win0_2.index t = ![t.val / 6, t.val % 6] := (by decide +kernel : ∀ t : Fin grid0.N, _)

theorem arr (m : (ℓ : Loc nD τ sig) → Buf (Elt Ideal) ℓ) (c : Dev nD) : (dats m 0 c).arrAt 2 cfg0.N
    = nnOf (M := 4096) (K := 1024) (N := 9216) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i2 t) (nn (blk (win0_0.rect_emb_val_off t) (i0 t) fun _ => congrFun (V_main_arg0 m c) _)
    (blk (win0_1.rect_emb_val_off t) (i1 t) fun _ => congrFun (V_main_arg1 m c) _)) j

theorem same : Cert.algebraic_ProjIdeal_ProjRefIdeal (hProjIdeal := facts) (hProjRefIdeal := Cert.ProjRefIdeal.Gen.facts) := fun m g m' g' _ hm =>
  agree (Cert.ProjIdeal.Value.run_blocks m g) (θ_run _ _ _).mono (Cert.ProjRefIdeal.Value.run m' g') fun c => by
    rw [(hm c).1, (hm c).2, arr m c]
    exact funext fun y => (Cert.ProjRefIdeal.Read.val_main_v2_apply _ _ y).trans (nn_ref (fun _ => at2_ix _ _) fun _ => at2_ix _ _)

end Cert.ProjIdeal.MM

end

end
-- ==== Proof.Forward.lean ====
module

public import proofs.«01_k».proof.Proof.Proj
public import proofs.«01_k».proof.Proof.Gen.DtProjIdeal.Value
public import proofs.«01_k».proof.Proof.Gen.DtProjRefIdeal.Run
public import proofs.«01_k».proof.Proof.Gen.DtProjRefIdeal.Read
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.Gen.BrBIdeal.Value
public import proofs.«01_k».proof.Proof.Gen.BrBRefIdeal.Run
public import proofs.«01_k».proof.Proof.Gen.BrBRefIdeal.Read
public import proofs.«01_k».proof.Proof.Gen.SquareLowIdeal.Value
public import proofs.«01_k».proof.Proof.Gen.SquareLowRefIdeal.Run
public import proofs.«01_k».proof.Proof.Gen.SquareLowRefIdeal.Read
public import proofs.«01_k».proof.Proof.Gen.SquareIdeal.Value
public import proofs.«01_k».proof.Proof.Gen.SquareRefIdeal.Run
public import proofs.«01_k».proof.Proof.Gen.SquareRefIdeal.Read
public import proofs.«01_k».proof.Proof.Gen.KvIdeal.Value
public import proofs.«01_k».proof.Proof.Gen.KvRefIdeal.Run
public import proofs.«01_k».proof.Proof.Gen.KvRefIdeal.Read

/- The other forward products: the lemmas of the products applied to each, with where its blocks lie. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM

/-! The step sizes' projection. -/
namespace Cert.DtProjIdeal.MM

open Cert.DtProjIdeal.Gen

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

theorem arr (m : (ℓ : Loc nD τ sig) → Buf (Elt Ideal) ℓ) (c : Dev nD) : (dats m 0 c).arrAt 2 cfg0.N
    = nnOf (M := 4096) (K := 1024) (N := 128) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i0 t) (nn (blk (win0_0.rect_emb_val_off t) (i0 t) fun _ => congrFun (V_main_arg0 m c) _)
    (blk (win0_1.rect_emb_val_off t) (i1 t) fun _ => congrFun (V_main_arg1 m c) _)) j

theorem same : Cert.algebraic_DtProjIdeal_DtProjRefIdeal (hDtProjIdeal := facts) (hDtProjRefIdeal := Cert.DtProjRefIdeal.Gen.facts) :=
  fun m g m' g' _ hm => agree (Cert.DtProjIdeal.Value.run_blocks m g) (θ_run _ _ _).mono (Cert.DtProjRefIdeal.Value.run m' g') fun c => by
    rw [(hm c).1, (hm c).2, arr m c]
    exact funext fun y => (Cert.DtProjRefIdeal.Read.val_main_v2_apply _ _ y).trans (nn_ref (fun _ => at2_ix _ _) fun _ => at2_ix _ _)

end Cert.DtProjIdeal.MM

/-! The feed-forward block's first product. -/
namespace Cert.FfnInIdeal.MM

open Cert.FfnInIdeal.Gen

theorem i0 : ∀ t : Fin cfg0.N, win0_0.index t = ![t.val / 4, 0] := (by decide +kernel : ∀ t : Fin grid0.N, _)
theorem i1 : ∀ t : Fin cfg0.N, win0_1.index t = ![0, t.val % 4] := (by decide +kernel : ∀ t : Fin grid0.N, _)
theorem i2 : ∀ t : Fin cfg0.N, win0_2.index t = ![t.val / 4, t.val % 4] := (by decide +kernel : ∀ t : Fin grid0.N, _)

theorem arr (m : (ℓ : Loc nD τ sig) → Buf (Elt Ideal) ℓ) (c : Dev nD) : (dats m 0 c).arrAt 2 cfg0.N
    = nnOf (M := 4096) (K := 1024) (N := 5632) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i2 t) (nn (blk (win0_0.rect_emb_val_off t) (i0 t) fun _ => congrFun (V_main_arg0 m c) _)
    (blk (win0_1.rect_emb_val_off t) (i1 t) fun _ => congrFun (V_main_arg1 m c) _)) j

theorem same : Cert.algebraic_FfnInIdeal_FfnInRefIdeal (hFfnInIdeal := facts) (hFfnInRefIdeal := Cert.FfnInRefIdeal.Gen.facts) :=
  fun m g m' g' _ hm => agree (Cert.FfnInIdeal.Value.run_blocks m g) (θ_run _ _ _).mono (Cert.FfnInRefIdeal.Value.run m' g') fun c => by
    rw [(hm c).1, (hm c).2, arr m c]
    exact funext fun y => (Cert.FfnInRefIdeal.Read.val_main_v2_apply _ _ y).trans (nn_ref (fun _ => at2_ix _ _) fun _ => at2_ix _ _)

end Cert.FfnInIdeal.MM

/-! The feed-forward block's second product. -/
namespace Cert.FfnOutIdeal.MM

open Cert.FfnOutIdeal.Gen

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

theorem arr (m : (ℓ : Loc nD τ sig) → Buf (Elt Ideal) ℓ) (c : Dev nD) : (dats m 0 c).arrAt 2 cfg0.N
    = nnOf (M := 4096) (K := 2816) (N := 1024) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i0 t) (nn (blk (win0_0.rect_emb_val_off t) (i0 t) fun _ => congrFun (V_main_arg0 m c) _)
    (blk (win0_1.rect_emb_val_off t) (i1 t) fun _ => congrFun (V_main_arg1 m c) _)) j

theorem same : Cert.algebraic_FfnOutIdeal_FfnOutRefIdeal (hFfnOutIdeal := facts) (hFfnOutRefIdeal := Cert.FfnOutRefIdeal.Gen.facts) :=
  fun m g m' g' _ hm => agree (Cert.FfnOutIdeal.Value.run_blocks m g) (θ_run _ _ _).mono (Cert.FfnOutRefIdeal.Value.run m' g') fun c => by
    rw [(hm c).1, (hm c).2, arr m c]
    exact funext fun y => (Cert.FfnOutRefIdeal.Read.val_main_v2_apply _ _ y).trans (nn_ref (fun _ => at2_ix _ _) fun _ => at2_ix _ _)

end Cert.FfnOutIdeal.MM

/-! The state space branch's projection. -/
namespace Cert.BrBIdeal.MM

open Cert.BrBIdeal.Gen

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

theorem arr (m : (ℓ : Loc nD τ sig) → Buf (Elt Ideal) ℓ) (c : Dev nD) : (dats m 0 c).arrAt 2 cfg0.N
    = nnOf (M := 4096) (K := 2048) (N := 1024) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i0 t) (nn (blk (win0_0.rect_emb_val_off t) (i0 t) fun _ => congrFun (V_main_arg0 m c) _)
    (blk (win0_1.rect_emb_val_off t) (i1 t) fun _ => congrFun (V_main_arg1 m c) _)) j

theorem same : Cert.algebraic_BrBIdeal_BrBRefIdeal (hBrBIdeal := facts) (hBrBRefIdeal := Cert.BrBRefIdeal.Gen.facts) :=
  fun m g m' g' _ hm => agree (Cert.BrBIdeal.Value.run_blocks m g) (θ_run _ _ _).mono (Cert.BrBRefIdeal.Value.run m' g') fun c => by
    rw [(hm c).1, (hm c).2, arr m c]
    exact funext fun y => (Cert.BrBRefIdeal.Read.val_main_v2_apply _ _ y).trans (nn_ref (fun _ => at2_ix _ _) fun _ => at2_ix _ _)

end Cert.BrBIdeal.MM

/-! The square products, rounded -/
namespace Cert.SquareLowIdeal.MM

open Cert.SquareLowIdeal.Gen

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

theorem arr (m : (ℓ : Loc nD τ sig) → Buf (Elt Ideal) ℓ) (c : Dev nD) : (dats m 0 c).arrAt 2 cfg0.N
    = nnOf (M := 4096) (K := 1024) (N := 1024) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i0 t) (nn (blk (win0_0.rect_emb_val_off t) (i0 t) fun _ => congrFun (V_main_arg0 m c) _)
    (blk (win0_1.rect_emb_val_off t) (i1 t) fun _ => congrFun (V_main_arg1 m c) _)) j

theorem same : Cert.algebraic_SquareLowIdeal_SquareLowRefIdeal (hSquareLowIdeal := facts) (hSquareLowRefIdeal := Cert.SquareLowRefIdeal.Gen.facts) :=
  fun m g m' g' _ hm => agree (Cert.SquareLowIdeal.Value.run_blocks m g) (θ_run _ _ _).mono (Cert.SquareLowRefIdeal.Value.run m' g') fun c => by
    rw [(hm c).1, (hm c).2, arr m c]
    exact funext fun y => (Cert.SquareLowRefIdeal.Read.val_main_v2_apply _ _ y).trans (nn_ref (fun _ => at2_ix _ _) fun _ => at2_ix _ _)

end Cert.SquareLowIdeal.MM

/-! and in single precision. -/
namespace Cert.SquareIdeal.MM

open Cert.SquareIdeal.Gen

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

theorem arr (m : (ℓ : Loc nD τ sig) → Buf (Elt Ideal) ℓ) (c : Dev nD) : (dats m 0 c).arrAt 2 cfg0.N
    = nnOf (M := 4096) (K := 1024) (N := 1024) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i0 t) (nn (blk (win0_0.rect_emb_val_off t) (i0 t) fun _ => congrFun (V_main_arg0 m c) _)
    (blk (win0_1.rect_emb_val_off t) (i1 t) fun _ => congrFun (V_main_arg1 m c) _)) j

theorem same : Cert.algebraic_SquareIdeal_SquareRefIdeal (hSquareIdeal := facts) (hSquareRefIdeal := Cert.SquareRefIdeal.Gen.facts) :=
  fun m g m' g' _ hm => agree (Cert.SquareIdeal.Value.run_blocks m g) (θ_run _ _ _).mono (Cert.SquareRefIdeal.Value.run m' g') fun c => by
    rw [(hm c).1, (hm c).2, arr m c]
    exact funext fun y => (Cert.SquareRefIdeal.Read.val_main_v2_apply _ _ y).trans (nn_ref (fun _ => at2_ix _ _) fun _ => at2_ix _ _)

end Cert.SquareIdeal.MM

/-! The keys and values of the memory. -/
namespace Cert.KvIdeal.MM

open Cert.KvIdeal.Gen

theorem i0 : ∀ t : Fin cfg0.N, win0_0.index t = ![0, 0] := (by decide +kernel : ∀ t : Fin grid0.N, _)
theorem i1 : ∀ t : Fin cfg0.N, win0_1.index t = ![0, t.val] := (by decide +kernel : ∀ t : Fin grid0.N, _)
theorem i2 : ∀ t : Fin cfg0.N, win0_2.index t = ![0, t.val] := (by decide +kernel : ∀ t : Fin grid0.N, _)

theorem arr (m : (ℓ : Loc nD τ sig) → Buf (Elt Ideal) ℓ) (c : Dev nD) : (dats m 0 c).arrAt 2 cfg0.N
    = nnOf (M := 512) (K := 1024) (N := 2048) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i2 t) (nn (blk (win0_0.rect_emb_val_off t) (i0 t) fun _ => congrFun (V_main_arg0 m c) _)
    (blk (win0_1.rect_emb_val_off t) (i1 t) fun _ => congrFun (V_main_arg1 m c) _)) j

theorem same : Cert.algebraic_KvIdeal_KvRefIdeal (hKvIdeal := facts) (hKvRefIdeal := Cert.KvRefIdeal.Gen.facts) :=
  fun m g m' g' _ hm => agree (Cert.KvIdeal.Value.run_blocks m g) (θ_run _ _ _).mono (Cert.KvRefIdeal.Value.run m' g') fun c => by
    rw [(hm c).1, (hm c).2, arr m c]
    exact funext fun y => (Cert.KvRefIdeal.Read.val_main_v2_apply _ _ y).trans (nn_ref (fun _ => at2_ix _ _) fun _ => at2_ix _ _)

end Cert.KvIdeal.MM

end

end
-- ==== Proof.DwMain.lean ====
module

public import proofs.«01_k».proof.Defs
public import proofs.«01_k».proof.Proof.Gen.DwMainIdeal.Value
public import proofs.«01_k».proof.Proof.Gen.DwMainRefIdeal.Run
public import proofs.«01_k».proof.Proof.Gen.DwMainRefIdeal.Read
public import proofs.«01_k».proof.Proof.Mm
public import Idealize.ShloMosaic.Lib.Pipeline.ValueKit
public import Idealize.ShloMosaic.Lib.Pipeline.ReadBack

/- The weight gradient of the wide projection: the product over all rows, taken in two halves. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM

namespace Cert.DwMainIdeal.MM

open Cert.DwMainIdeal.Gen

theorem i0 : ∀ t : Fin cfg0.N, win0_0.index t = ![t.val % 2, 0] := (by decide +kernel : ∀ t : Fin grid0.N, _)
theorem i1 : ∀ t : Fin cfg0.N, win0_1.index t = ![t.val % 2, t.val / 2] := (by decide +kernel : ∀ t : Fin grid0.N, _)
theorem i2 : ∀ t : Fin cfg0.N, win0_2.index t = ![0, t.val / 2] := (by decide +kernel : ∀ t : Fin grid0.N, _)
theorem f2 : ∀ t : Fin cfg0.N, win0_2.flush t = true → t.val % 2 = 1 := (by decide +kernel : ∀ t : Fin grid0.N, _)

variable (m : (ℓ : Loc nD τ sig) → Buf (Elt Ideal) ℓ) (c : Dev nD)

/-- The first half is left in the scratch buffer, -/
theorem scr (t : Fin cfg0.N) (h : t.val % 2 = 0) : (outsAt0 m c t.val t.isLt).2 = k0_pay1 (iblk m c 0 t) (iblk m c 1 t) := by
  rw [outsAt0_A m c t h (by omega)]
  frame_out
  unfold k0_pay2
  rw [shapeCast_self]

/-- and the second is added to it. -/
theorem out (t : Fin cfg0.N) (h : t.val % 2 = 1) : (outsAt0 m c t.val t.isLt).1
    = fun j => (outsAt0 m c (t.val - 1) (by have := t.isLt; omega)).2 j + k0_pay1 (iblk m c 0 t) (iblk m c 1 t) j := by
  rw [outsAt0_B m c t (by omega) h]
  frame_out
  rw [read_unread_whole]
  rfl

theorem arr : (dats m 0 c).arrAt 2 cfg0.N
    = tnOf (K := 4096) (M := 1024) (N := 9216) (m ((c : Thread nD τ).loc main_arg0)) (m ((c : Thread nD τ).loc main_arg1)) := by
  refine (dats m 0 c).arrAt_eq_of_covers 2 _ (by decide +kernel) fun t hf j => ?_
  blk_simp
  rw [after0_2]
  exact put (win0_2.rect_emb_val_off t) (i2 t) (halves (I := fun _ => 0) (J := fun t => t / 2) (tnS_two 2048 _ _) (fun _ _ => rfl) (fun _ _ => by omega)
    (fun t => tn (blk (win0_0.rect_emb_val_off t) (i0 t) fun _ => congrFun (V_main_arg0 m c) _)
      (blk (win0_1.rect_emb_val_off t) (i1 t) fun _ => congrFun (V_main_arg1 m c) _)) (scr m c) (out m c) t (f2 t hf)) j

theorem same : Cert.algebraic_DwMainIdeal_DwMainRefIdeal (hDwMainIdeal := facts) (hDwMainRefIdeal := Cert.DwMainRefIdeal.Gen.facts) :=
  fun m g m' g' _ hm => agree (Cert.DwMainIdeal.Value.run_blocks m g) (θ_run _ _ _).mono (Cert.DwMainRefIdeal.Value.run m' g') fun c => by
    rw [(hm c).1, (hm c).2, arr m c]
    exact funext fun y => (Cert.DwMainRefIdeal.Read.val_main_v5_apply _ _ y).trans ((Cert.DwMainRefIdeal.Read.val_main_v4_apply _ _ _).trans
      (tn_ref (fun _ => at2_ix _ _) fun _ => at2_ix _ _))

end Cert.DwMainIdeal.MM

end

end
-- ==== Proof.DxMain.lean ====
module

public import proofs.«01_k».proof.Defs
public import proofs.«01_k».proof.Proof.Gen.DxMainIdeal.Value
public import proofs.«01_k».proof.Proof.Gen.DxMainRefIdeal.Run
public import proofs.«01_k».proof.Proof.Gen.DxMainRefIdeal.Read
public import proofs.«01_k».proof.Proof.Mm
public import Idealize.ShloMosaic.Lib.Pipeline.ValueKit
public import Idealize.ShloMosaic.Lib.Pipeline.ReadBack

/- The input gradient of the wide projection: the product over all its columns, taken in three parts. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM

namespace Cert.DxMainIdeal.MM

open Cert.DxMainIdeal.Gen

theorem i0 : ∀ t : Fin cfg0.N, win0_0.index t = ![t.val / 3, t.val % 3] := (by decide +kernel : ∀ t : Fin grid0.N, _)
theorem i1 : ∀ t : Fin cfg0.N, win0_1.index t = ![0, t.val % 3] := (by decide +kernel : ∀ t : Fin grid0.N, _)
theorem i2 : ∀ t : Fin cfg0.N, win0_2.index t = ![t.val / 3, 0] := (by decide +kernel : ∀ t : Fin grid0.N, _)
theorem f2 : ∀ t : Fin cfg0.N, win0_2.flush t = true → t.val % 3 = 2 := (by decide +kernel : ∀ t : Fin grid0.N, _)

variable (m : (ℓ : Loc nD τ sig) → Buf (Elt Ideal) ℓ) (c : Dev nD)

/-- The first part is left in the scratch buffer, -/
theorem scr (t : Fin cfg0.N) (h : t.val % 3 = 0) : (outsAt0 m c t.val t.isLt).2 = k0_pay1 (iblk m c 0 t) (iblk m c 1 t) := by
  rw [outsAt0_A m c t h (by omega) (by omega)]
  frame_out
  unfold k0_pay2
  rw [shapeCast_self]

/-- the second is added there, -/
theorem scr' (t : Fin cfg0.N) (h : t.val % 3 = 1) : (outsAt0 m c t.val t.isLt).2
    = fun j => (outsAt0 m c (t.val - 1) (by have := t.isLt; omega)).2 j + k0_pay1 (iblk m c 0 t) (iblk m c 1 t) j := by
  rw [outsAt0_B m c t (by omega) h (by omega)]
  frame_out
  unfold k0_pay3
  dsimp only
  rw [shapeCast_self, read_unread_whole]
  rfl

/-- and the third to their sum. -/
theorem out (t : Fin cfg0.N) (h : t.val % 3 = 2) : (outsAt0 m c t.val t.isLt).1
    = fun j => (outsAt0 m c (t.val - 1) (by have := t.isLt; omega)).2 j + k0_pay1 (iblk m c 0 t) (iblk m c 1 t) j := by
  rw [outsAt0_C m c t (by omega) (by omega) h]
  frame_out
  rw [read_unread_whole]
  rfl

theorem arr : (dats m 0 c).arrAt 2 cfg0.N
    = ntOf (M := 4096) (K := 9216) (N := 1024) (m ((c : Thread nD τ).loc main_arg0)) (m ((c : Thread nD τ).loc main_arg1)) := by
  refine (dats m 0 c).arrAt_eq_of_covers 2 _ (by decide +kernel) fun t hf j => ?_
  blk_simp
  rw [after0_2]
  exact put (win0_2.rect_emb_val_off t) (i2 t) (thirds (I := fun t => t / 3) (J := fun _ => 0) (ntS_three 3072 _ _) (fun _ _ => by omega) (fun _ _ => rfl)
    (fun t => nt (blk (win0_0.rect_emb_val_off t) (i0 t) fun _ => congrFun (V_main_arg0 m c) _)
      (blk (win0_1.rect_emb_val_off t) (i1 t) fun _ => congrFun (V_main_arg1 m c) _)) (scr m c) (scr' m c) (out m c) t (f2 t hf)) j

theorem same : Cert.algebraic_DxMainIdeal_DxMainRefIdeal (hDxMainIdeal := facts) (hDxMainRefIdeal := Cert.DxMainRefIdeal.Gen.facts) :=
  fun m g m' g' _ hm => agree (Cert.DxMainIdeal.Value.run_blocks m g) (θ_run _ _ _).mono (Cert.DxMainRefIdeal.Value.run m' g') fun c => by
    rw [(hm c).1, (hm c).2.1, arr m c]
    exact funext fun y => (Cert.DxMainRefIdeal.Read.val_main_v4_apply _ _ y).trans (nt_ref (fun _ => at2_ix _ _) fun _ => at2_ix _ _)

end Cert.DxMainIdeal.MM

end

end
-- ==== Proof.Backward.lean ====
module

public import proofs.«01_k».proof.Proof.Mm
public import proofs.«01_k».proof.Defs
public import proofs.«01_k».proof.Proof.Gen.DxDtIdeal.Value
public import proofs.«01_k».proof.Proof.Gen.DxDtRefIdeal.Run
public import proofs.«01_k».proof.Proof.Gen.DxDtRefIdeal.Read
public import proofs.«01_k».proof.Proof.Gen.DxFfnOutIdeal.Value
public import proofs.«01_k».proof.Proof.Gen.DxFfnOutRefIdeal.Run
public import proofs.«01_k».proof.Proof.Gen.DxFfnOutRefIdeal.Read
public import proofs.«01_k».proof.Proof.Gen.DxBrBIdeal.Value
public import proofs.«01_k».proof.Proof.Gen.DxBrBRefIdeal.Run
public import proofs.«01_k».proof.Proof.Gen.DxBrBRefIdeal.Read
public import proofs.«01_k».proof.Proof.Gen.DxSquareLowIdeal.Value
public import proofs.«01_k».proof.Proof.Gen.DxSquareLowRefIdeal.Run
public import proofs.«01_k».proof.Proof.Gen.DxSquareLowRefIdeal.Read
public import proofs.«01_k».proof.Proof.Gen.DxSquareIdeal.Value
public import proofs.«01_k».proof.Proof.Gen.DxSquareRefIdeal.Run
public import proofs.«01_k».proof.Proof.Gen.DxSquareRefIdeal.Read
public import proofs.«01_k».proof.Proof.Gen.DxKvIdeal.Value
public import proofs.«01_k».proof.Proof.Gen.DxKvRefIdeal.Run
public import proofs.«01_k».proof.Proof.Gen.DxKvRefIdeal.Read
public import proofs.«01_k».proof.Proof.Gen.DwDtIdeal.Value
public import proofs.«01_k».proof.Proof.Gen.DwDtRefIdeal.Run
public import proofs.«01_k».proof.Proof.Gen.DwDtRefIdeal.Read
public import proofs.«01_k».proof.Proof.Gen.DwKvIdeal.Value
public import proofs.«01_k».proof.Proof.Gen.DwKvRefIdeal.Run
public import proofs.«01_k».proof.Proof.Gen.DwKvRefIdeal.Read
public import Idealize.ShloMosaic.Lib.Pipeline.ValueKit
public import Idealize.ShloMosaic.Lib.Pipeline.ReadBack

/- The backward products that take each block in one step: the lemmas of the products applied to each, with where its blocks lie. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM

/-! The input gradient of the step sizes' projection. -/
namespace Cert.DxDtIdeal.MM

open Cert.DxDtIdeal.Gen

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

theorem out (m : (ℓ : Loc nD τ sig) → Buf (Elt Ideal) ℓ) (c : Dev nD) (t : Fin cfg0.N) : outsAt0 m c t = k0_pay1 (iblk m c 0 t) (iblk m c 1 t) := by
  unfold outsAt0
  frame_out

theorem arr (m : (ℓ : Loc nD τ sig) → Buf (Elt Ideal) ℓ) (c : Dev nD) : (dats m 0 c).arrAt 2 cfg0.N
    = ntOf (M := 4096) (K := 128) (N := 1024) (m ((c : Thread nD τ).loc main_arg0)) (m ((c : Thread nD τ).loc main_arg1)) := by
  refine (dats m 0 c).arrAt_eq_of_covers 2 _ (by decide +kernel) fun t hf j => ?_
  blk_simp
  rw [after0_2, out]
  exact put (win0_2.rect_emb_val_off t) (i0 t) (nt (blk (win0_0.rect_emb_val_off t) (i0 t) fun _ => congrFun (V_main_arg0 m c) _)
    (blk (win0_1.rect_emb_val_off t) (i1 t) fun _ => congrFun (V_main_arg1 m c) _)) j

theorem same : Cert.algebraic_DxDtIdeal_DxDtRefIdeal (hDxDtIdeal := facts) (hDxDtRefIdeal := Cert.DxDtRefIdeal.Gen.facts) :=
  fun m g m' g' _ hm => agree (Cert.DxDtIdeal.Value.run_blocks m g) (θ_run _ _ _).mono (Cert.DxDtRefIdeal.Value.run m' g') fun c => by
    rw [(hm c).1, (hm c).2.1, arr m c]
    exact funext fun y => (Cert.DxDtRefIdeal.Read.val_main_v3_apply _ _ y).trans (nt_ref (fun _ => at2_ix _ _) fun _ => at2_ix _ _)

end Cert.DxDtIdeal.MM

/-! The input gradient of the feed-forward block's second product. -/
namespace Cert.DxFfnOutIdeal.MM

open Cert.DxFfnOutIdeal.Gen

theorem i0 : ∀ t : Fin cfg0.N, win0_0.index t = ![t.val / 2, 0] := (by decide +kernel : ∀ t : Fin grid0.N, _)
theorem i1 : ∀ t : Fin cfg0.N, win0_1.index t = ![t.val % 2, 0] := (by decide +kernel : ∀ t : Fin grid0.N, _)
theorem i2 : ∀ t : Fin cfg0.N, win0_2.index t = ![t.val / 2, t.val % 2] := (by decide +kernel : ∀ t : Fin grid0.N, _)

theorem arr (m : (ℓ : Loc nD τ sig) → Buf (Elt Ideal) ℓ) (c : Dev nD) : (dats m 0 c).arrAt 2 cfg0.N
    = ntOf (M := 4096) (K := 1024) (N := 2816) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i2 t) (nt (blk (win0_0.rect_emb_val_off t) (i0 t) fun _ => congrFun (V_main_arg0 m c) _)
    (blk (win0_1.rect_emb_val_off t) (i1 t) fun _ => congrFun (V_main_arg1 m c) _)) j

theorem same : Cert.algebraic_DxFfnOutIdeal_DxFfnOutRefIdeal (hDxFfnOutIdeal := facts) (hDxFfnOutRefIdeal := Cert.DxFfnOutRefIdeal.Gen.facts) :=
  fun m g m' g' _ hm => agree (Cert.DxFfnOutIdeal.Value.run_blocks m g) (θ_run _ _ _).mono (Cert.DxFfnOutRefIdeal.Value.run m' g') fun c => by
    rw [(hm c).1, (hm c).2, arr m c]
    exact funext fun y => (Cert.DxFfnOutRefIdeal.Read.val_main_v4_apply _ _ y).trans (nt_ref (fun _ => at2_ix _ _) fun _ => at2_ix _ _)

end Cert.DxFfnOutIdeal.MM

/-! The input gradient of the state space branch's projection. -/
namespace Cert.DxBrBIdeal.MM

open Cert.DxBrBIdeal.Gen

theorem i0 : ∀ t : Fin cfg0.N, win0_0.index t = ![t.val / 2, 0] := (by decide +kernel : ∀ t : Fin grid0.N, _)
theorem i1 : ∀ t : Fin cfg0.N, win0_1.index t = ![t.val % 2, 0] := (by decide +kernel : ∀ t : Fin grid0.N, _)
theorem i2 : ∀ t : Fin cfg0.N, win0_2.index t = ![t.val / 2, t.val % 2] := (by decide +kernel : ∀ t : Fin grid0.N, _)

theorem arr (m : (ℓ : Loc nD τ sig) → Buf (Elt Ideal) ℓ) (c : Dev nD) : (dats m 0 c).arrAt 2 cfg0.N
    = ntOf (M := 4096) (K := 1024) (N := 2048) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i2 t) (nt (blk (win0_0.rect_emb_val_off t) (i0 t) fun _ => congrFun (V_main_arg0 m c) _)
    (blk (win0_1.rect_emb_val_off t) (i1 t) fun _ => congrFun (V_main_arg1 m c) _)) j

theorem same : Cert.algebraic_DxBrBIdeal_DxBrBRefIdeal (hDxBrBIdeal := facts) (hDxBrBRefIdeal := Cert.DxBrBRefIdeal.Gen.facts) :=
  fun m g m' g' _ hm => agree (Cert.DxBrBIdeal.Value.run_blocks m g) (θ_run _ _ _).mono (Cert.DxBrBRefIdeal.Value.run m' g') fun c => by
    rw [(hm c).1, (hm c).2, arr m c]
    exact funext fun y => (Cert.DxBrBRefIdeal.Read.val_main_v4_apply _ _ y).trans (nt_ref (fun _ => at2_ix _ _) fun _ => at2_ix _ _)

end Cert.DxBrBIdeal.MM

/-! The input gradients of the square products, rounded -/
namespace Cert.DxSquareLowIdeal.MM

open Cert.DxSquareLowIdeal.Gen

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

theorem arr (m : (ℓ : Loc nD τ sig) → Buf (Elt Ideal) ℓ) (c : Dev nD) : (dats m 0 c).arrAt 2 cfg0.N
    = ntOf (M := 4096) (K := 1024) (N := 1024) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i0 t) (nt (blk (win0_0.rect_emb_val_off t) (i0 t) fun _ => congrFun (V_main_arg0 m c) _)
    (blk (win0_1.rect_emb_val_off t) (i1 t) fun _ => congrFun (V_main_arg1 m c) _)) j

theorem same : Cert.algebraic_DxSquareLowIdeal_DxSquareLowRefIdeal (hDxSquareLowIdeal := facts) (hDxSquareLowRefIdeal := Cert.DxSquareLowRefIdeal.Gen.facts) :=
  fun m g m' g' _ hm => agree (Cert.DxSquareLowIdeal.Value.run_blocks m g) (θ_run _ _ _).mono (Cert.DxSquareLowRefIdeal.Value.run m' g') fun c => by
    rw [(hm c).1, (hm c).2, arr m c]
    exact funext fun y => (Cert.DxSquareLowRefIdeal.Read.val_main_v4_apply _ _ y).trans (nt_ref (fun _ => at2_ix _ _) fun _ => at2_ix _ _)

end Cert.DxSquareLowIdeal.MM

/-! and in single precision. -/
namespace Cert.DxSquareIdeal.MM

open Cert.DxSquareIdeal.Gen

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)

theorem arr (m : (ℓ : Loc nD τ sig) → Buf (Elt Ideal) ℓ) (c : Dev nD) : (dats m 0 c).arrAt 2 cfg0.N
    = ntOf (M := 4096) (K := 1024) (N := 1024) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i0 t) (nt (blk (win0_0.rect_emb_val_off t) (i0 t) fun _ => congrFun (V_main_arg0 m c) _)
    (blk (win0_1.rect_emb_val_off t) (i1 t) fun _ => congrFun (V_main_arg1 m c) _)) j

theorem same : Cert.algebraic_DxSquareIdeal_DxSquareRefIdeal (hDxSquareIdeal := facts) (hDxSquareRefIdeal := Cert.DxSquareRefIdeal.Gen.facts) :=
  fun m g m' g' _ hm => agree (Cert.DxSquareIdeal.Value.run_blocks m g) (θ_run _ _ _).mono (Cert.DxSquareRefIdeal.Value.run m' g') fun c => by
    rw [(hm c).1, (hm c).2, arr m c]
    exact funext fun y => (Cert.DxSquareRefIdeal.Read.val_main_v4_apply _ _ y).trans (nt_ref (fun _ => at2_ix _ _) fun _ => at2_ix _ _)

end Cert.DxSquareIdeal.MM

/-! The input gradient of the keys' and values' product. -/
namespace Cert.DxKvIdeal.MM

open Cert.DxKvIdeal.Gen

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)

theorem arr (m : (ℓ : Loc nD τ sig) → Buf (Elt Ideal) ℓ) (c : Dev nD) : (dats m 0 c).arrAt 2 cfg0.N
    = ntOf (M := 512) (K := 2048) (N := 1024) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i2 t) (nt (blk (win0_0.rect_emb_val_off t) (i0 t) fun _ => congrFun (V_main_arg0 m c) _)
    (blk (win0_1.rect_emb_val_off t) (i1 t) fun _ => congrFun (V_main_arg1 m c) _)) j

theorem same : Cert.algebraic_DxKvIdeal_DxKvRefIdeal (hDxKvIdeal := facts) (hDxKvRefIdeal := Cert.DxKvRefIdeal.Gen.facts) :=
  fun m g m' g' _ hm => agree (Cert.DxKvIdeal.Value.run_blocks m g) (θ_run _ _ _).mono (Cert.DxKvRefIdeal.Value.run m' g') fun c => by
    rw [(hm c).1, (hm c).2, arr m c]
    exact funext fun y => (Cert.DxKvRefIdeal.Read.val_main_v4_apply _ _ y).trans (nt_ref (fun _ => at2_ix _ _) fun _ => at2_ix _ _)

end Cert.DxKvIdeal.MM

/-! The weight gradient of the step sizes' projection. -/
namespace Cert.DwDtIdeal.MM

open Cert.DwDtIdeal.Gen

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)

theorem arr (m : (ℓ : Loc nD τ sig) → Buf (Elt Ideal) ℓ) (c : Dev nD) : (dats m 0 c).arrAt 2 cfg0.N
    = tnOf (K := 4096) (M := 1024) (N := 128) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i2 t) (tn (blk (win0_0.rect_emb_val_off t) (i0 t) fun _ => congrFun (V_main_arg0 m c) _)
    (blk (win0_1.rect_emb_val_off t) (i1 t) fun _ => congrFun (V_main_arg1 m c) _)) j

theorem same : Cert.algebraic_DwDtIdeal_DwDtRefIdeal (hDwDtIdeal := facts) (hDwDtRefIdeal := Cert.DwDtRefIdeal.Gen.facts) :=
  fun m g m' g' _ hm => agree (Cert.DwDtIdeal.Value.run_blocks m g) (θ_run _ _ _).mono (Cert.DwDtRefIdeal.Value.run m' g') fun c => by
    rw [(hm c).1, (hm c).2, arr m c]
    exact funext fun y => (Cert.DwDtRefIdeal.Read.val_main_v4_apply _ _ y).trans ((Cert.DwDtRefIdeal.Read.val_main_v3_apply _ _ _).trans
      (tn_ref (fun _ => at2_ix _ _) fun _ => at2_ix _ _))

end Cert.DwDtIdeal.MM

/-! The weight gradient of the keys' and values' product. -/
namespace Cert.DwKvIdeal.MM

open Cert.DwKvIdeal.Gen

theorem i0 : ∀ t : Fin cfg0.N, win0_0.index t = ![0, 0] := (by decide +kernel : ∀ t : Fin grid0.N, _)
theorem i1 : ∀ t : Fin cfg0.N, win0_1.index t = ![0, t.val] := (by decide +kernel : ∀ t : Fin grid0.N, _)
theorem i2 : ∀ t : Fin cfg0.N, win0_2.index t = ![0, t.val] := (by decide +kernel : ∀ t : Fin grid0.N, _)

theorem arr (m : (ℓ : Loc nD τ sig) → Buf (Elt Ideal) ℓ) (c : Dev nD) : (dats m 0 c).arrAt 2 cfg0.N
    = tnOf (K := 512) (M := 1024) (N := 2048) (m ((c : Thread nD τ).loc main_arg0)) (m ((c : Thread nD τ).loc main_arg1)) := by
  refine (dats m 0 c).arrAt_eq_of_covers 2 _ (by decide +kernel) fun t hf j => ?_
  blk_simp
  rw [after0_2]
  frame_out
  exact put (win0_2.rect_emb_val_off t) (i2 t) (tn (blk (win0_0.rect_emb_val_off t) (i0 t) fun _ => congrFun (V_main_arg0 m c) _)
    (blk (win0_1.rect_emb_val_off t) (i1 t) fun _ => congrFun (V_main_arg1 m c) _)) j

theorem same : Cert.algebraic_DwKvIdeal_DwKvRefIdeal (hDwKvIdeal := facts) (hDwKvRefIdeal := Cert.DwKvRefIdeal.Gen.facts) :=
  fun m g m' g' _ hm => agree (Cert.DwKvIdeal.Value.run_blocks m g) (θ_run _ _ _).mono (Cert.DwKvRefIdeal.Value.run m' g') fun c => by
    rw [(hm c).1, (hm c).2, arr m c]
    exact funext fun y => (Cert.DwKvRefIdeal.Read.val_main_v5_apply _ _ y).trans ((Cert.DwKvRefIdeal.Read.val_main_v4_apply _ _ _).trans
      (tn_ref (fun _ => at2_ix _ _) fun _ => at2_ix _ _))

end Cert.DwKvIdeal.MM

end

end
-- ==== Proof.Halves.lean ====
module

public import proofs.«01_k».proof.Proof.DwMain
public import proofs.«01_k».proof.Proof.Gen.DwFfnInIdeal.Value
public import proofs.«01_k».proof.Proof.Gen.DwFfnInRefIdeal.Run
public import proofs.«01_k».proof.Proof.Gen.DwFfnInRefIdeal.Read
public import proofs.«01_k».proof.Proof.Gen.DxFfnInIdeal.Value
public import proofs.«01_k».proof.Proof.Gen.DxFfnInRefIdeal.Run
public import proofs.«01_k».proof.Proof.Gen.DxFfnInRefIdeal.Read
public import proofs.«01_k».proof.Proof.Gen.DwFfnOutIdeal.Value
public import proofs.«01_k».proof.Proof.Gen.DwFfnOutRefIdeal.Run
public import proofs.«01_k».proof.Proof.Gen.DwFfnOutRefIdeal.Read
public import proofs.«01_k».proof.Proof.Gen.DwBrBIdeal.Value
public import proofs.«01_k».proof.Proof.Gen.DwBrBRefIdeal.Run
public import proofs.«01_k».proof.Proof.Gen.DwBrBRefIdeal.Read
public import proofs.«01_k».proof.Proof.Gen.DwSquareIdeal.Value
public import proofs.«01_k».proof.Proof.Gen.DwSquareRefIdeal.Run
public import proofs.«01_k».proof.Proof.Gen.DwSquareRefIdeal.Read

/- The other backward products taken in two halves: the lemmas of the products applied to each, with where its blocks lie. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM

/-! The weight gradient of the feed-forward block's first product. -/
namespace Cert.DwFfnInIdeal.MM

open Cert.DwFfnInIdeal.Gen

theorem i0 : ∀ t : Fin cfg0.N, win0_0.index t = ![t.val % 2, 0] := (by decide +kernel : ∀ t : Fin grid0.N, _)
theorem i1 : ∀ t : Fin cfg0.N, win0_1.index t = ![t.val % 2, t.val / 2] := (by decide +kernel : ∀ t : Fin grid0.N, _)
theorem i2 : ∀ t : Fin cfg0.N, win0_2.index t = ![0, t.val / 2] := (by decide +kernel : ∀ t : Fin grid0.N, _)
theorem f2 : ∀ t : Fin cfg0.N, win0_2.flush t = true → t.val % 2 = 1 := (by decide +kernel : ∀ t : Fin grid0.N, _)

variable (m : (ℓ : Loc nD τ sig) → Buf (Elt Ideal) ℓ) (c : Dev nD)

theorem scr (t : Fin cfg0.N) (h : t.val % 2 = 0) : (outsAt0 m c t.val t.isLt).2 = k0_pay1 (iblk m c 0 t) (iblk m c 1 t) := by
  rw [outsAt0_A m c t h (by omega)]
  frame_out
  unfold k0_pay2
  rw [shapeCast_self]

theorem out (t : Fin cfg0.N) (h : t.val % 2 = 1) : (outsAt0 m c t.val t.isLt).1
    = fun j => (outsAt0 m c (t.val - 1) (by have := t.isLt; omega)).2 j + k0_pay1 (iblk m c 0 t) (iblk m c 1 t) j := by
  rw [outsAt0_B m c t (by omega) h]
  frame_out
  rw [read_unread_whole]
  rfl

theorem arr : (dats m 0 c).arrAt 2 cfg0.N
    = tnOf (K := 4096) (M := 1024) (N := 5632) (m ((c : Thread nD τ).loc main_arg0)) (m ((c : Thread nD τ).loc main_arg1)) := by
  refine (dats m 0 c).arrAt_eq_of_covers 2 _ (by decide +kernel) fun t hf j => ?_
  blk_simp
  rw [after0_2]
  exact put (win0_2.rect_emb_val_off t) (i2 t) (halves (I := fun _ => 0) (J := fun t => t / 2) (tnS_two 2048 _ _) (fun _ _ => rfl) (fun _ _ => by omega)
    (fun t => tn (blk (win0_0.rect_emb_val_off t) (i0 t) fun _ => congrFun (V_main_arg0 m c) _)
      (blk (win0_1.rect_emb_val_off t) (i1 t) fun _ => congrFun (V_main_arg1 m c) _)) (scr m c) (out m c) t (f2 t hf)) j

theorem same : Cert.algebraic_DwFfnInIdeal_DwFfnInRefIdeal (hDwFfnInIdeal := facts) (hDwFfnInRefIdeal := Cert.DwFfnInRefIdeal.Gen.facts) :=
  fun m g m' g' _ hm => agree (Cert.DwFfnInIdeal.Value.run_blocks m g) (θ_run _ _ _).mono (Cert.DwFfnInRefIdeal.Value.run m' g') fun c => by
    rw [(hm c).1, (hm c).2, arr m c]
    exact funext fun y => (Cert.DwFfnInRefIdeal.Read.val_main_v5_apply _ _ y).trans ((Cert.DwFfnInRefIdeal.Read.val_main_v4_apply _ _ _).trans
      (tn_ref (fun _ => at2_ix _ _) fun _ => at2_ix _ _))

end Cert.DwFfnInIdeal.MM

/-! The input gradient of the feed-forward block's first product. -/
namespace Cert.DxFfnInIdeal.MM

open Cert.DxFfnInIdeal.Gen

theorem i0 : ∀ t : Fin cfg0.N, win0_0.index t = ![t.val / 2, t.val % 2] := (by decide +kernel : ∀ t : Fin grid0.N, _)
theorem i1 : ∀ t : Fin cfg0.N, win0_1.index t = ![0, t.val % 2] := (by decide +kernel : ∀ t : Fin grid0.N, _)
theorem i2 : ∀ t : Fin cfg0.N, win0_2.index t = ![t.val / 2, 0] := (by decide +kernel : ∀ t : Fin grid0.N, _)
theorem f2 : ∀ t : Fin cfg0.N, win0_2.flush t = true → t.val % 2 = 1 := (by decide +kernel : ∀ t : Fin grid0.N, _)

variable (m : (ℓ : Loc nD τ sig) → Buf (Elt Ideal) ℓ) (c : Dev nD)

theorem scr (t : Fin cfg0.N) (h : t.val % 2 = 0) : (outsAt0 m c t.val t.isLt).2 = k0_pay1 (iblk m c 0 t) (iblk m c 1 t) := by
  rw [outsAt0_A m c t h (by omega)]
  frame_out
  unfold k0_pay2
  rw [shapeCast_self]

theorem out (t : Fin cfg0.N) (h : t.val % 2 = 1) : (outsAt0 m c t.val t.isLt).1
    = fun j => (outsAt0 m c (t.val - 1) (by have := t.isLt; omega)).2 j + k0_pay1 (iblk m c 0 t) (iblk m c 1 t) j := by
  rw [outsAt0_B m c t (by omega) h]
  frame_out
  rw [read_unread_whole]
  rfl

theorem arr : (dats m 0 c).arrAt 2 cfg0.N
    = ntOf (M := 4096) (K := 5632) (N := 1024) (m ((c : Thread nD τ).loc main_arg0)) (m ((c : Thread nD τ).loc main_arg1)) := by
  refine (dats m 0 c).arrAt_eq_of_covers 2 _ (by decide +kernel) fun t hf j => ?_
  blk_simp
  rw [after0_2]
  exact put (win0_2.rect_emb_val_off t) (i2 t) (halves (I := fun t => t / 2) (J := fun _ => 0) (ntS_two 2816 _ _) (fun _ _ => by omega) (fun _ _ => rfl)
    (fun t => nt (blk (win0_0.rect_emb_val_off t) (i0 t) fun _ => congrFun (V_main_arg0 m c) _)
      (blk (win0_1.rect_emb_val_off t) (i1 t) fun _ => congrFun (V_main_arg1 m c) _)) (scr m c) (out m c) t (f2 t hf)) j

theorem same : Cert.algebraic_DxFfnInIdeal_DxFfnInRefIdeal (hDxFfnInIdeal := facts) (hDxFfnInRefIdeal := Cert.DxFfnInRefIdeal.Gen.facts) :=
  fun m g m' g' _ hm => agree (Cert.DxFfnInIdeal.Value.run_blocks m g) (θ_run _ _ _).mono (Cert.DxFfnInRefIdeal.Value.run m' g') fun c => by
    rw [(hm c).1, (hm c).2, arr m c]
    exact funext fun y => (Cert.DxFfnInRefIdeal.Read.val_main_v4_apply _ _ y).trans (nt_ref (fun _ => at2_ix _ _) fun _ => at2_ix _ _)

end Cert.DxFfnInIdeal.MM

/-! The weight gradient of the feed-forward block's second product. -/
namespace Cert.DwFfnOutIdeal.MM

open Cert.DwFfnOutIdeal.Gen

theorem i0 : ∀ t : Fin cfg0.N, win0_0.index t = ![t.val % 2, t.val / 2] := (by decide +kernel : ∀ t : Fin grid0.N, _)
theorem i1 : ∀ t : Fin cfg0.N, win0_1.index t = ![t.val % 2, 0] := (by decide +kernel : ∀ t : Fin grid0.N, _)
theorem i2 : ∀ t : Fin cfg0.N, win0_2.index t = ![t.val / 2, 0] := (by decide +kernel : ∀ t : Fin grid0.N, _)
theorem f2 : ∀ t : Fin cfg0.N, win0_2.flush t = true → t.val % 2 = 1 := (by decide +kernel : ∀ t : Fin grid0.N, _)

variable (m : (ℓ : Loc nD τ sig) → Buf (Elt Ideal) ℓ) (c : Dev nD)

theorem scr (t : Fin cfg0.N) (h : t.val % 2 = 0) : (outsAt0 m c t.val t.isLt).2 = k0_pay1 (iblk m c 0 t) (iblk m c 1 t) := by
  rw [outsAt0_A m c t h (by omega)]
  frame_out
  unfold k0_pay2
  rw [shapeCast_self]

theorem out (t : Fin cfg0.N) (h : t.val % 2 = 1) : (outsAt0 m c t.val t.isLt).1
    = fun j => (outsAt0 m c (t.val - 1) (by have := t.isLt; omega)).2 j + k0_pay1 (iblk m c 0 t) (iblk m c 1 t) j := by
  rw [outsAt0_B m c t (by omega) h]
  frame_out
  rw [read_unread_whole]
  rfl

theorem arr : (dats m 0 c).arrAt 2 cfg0.N
    = tnOf (K := 4096) (M := 2816) (N := 1024) (m ((c : Thread nD τ).loc main_arg0)) (m ((c : Thread nD τ).loc main_arg1)) := by
  refine (dats m 0 c).arrAt_eq_of_covers 2 _ (by decide +kernel) fun t hf j => ?_
  blk_simp
  rw [after0_2]
  exact put (win0_2.rect_emb_val_off t) (i2 t) (halves (I := fun t => t / 2) (J := fun _ => 0) (tnS_two 2048 _ _) (fun _ _ => by omega) (fun _ _ => rfl)
    (fun t => tn (blk (win0_0.rect_emb_val_off t) (i0 t) fun _ => congrFun (V_main_arg0 m c) _)
      (blk (win0_1.rect_emb_val_off t) (i1 t) fun _ => congrFun (V_main_arg1 m c) _)) (scr m c) (out m c) t (f2 t hf)) j

theorem same : Cert.algebraic_DwFfnOutIdeal_DwFfnOutRefIdeal (hDwFfnOutIdeal := facts) (hDwFfnOutRefIdeal := Cert.DwFfnOutRefIdeal.Gen.facts) :=
  fun m g m' g' _ hm => agree (Cert.DwFfnOutIdeal.Value.run_blocks m g) (θ_run _ _ _).mono (Cert.DwFfnOutRefIdeal.Value.run m' g') fun c => by
    rw [(hm c).1, (hm c).2, arr m c]
    exact funext fun y => (Cert.DwFfnOutRefIdeal.Read.val_main_v5_apply _ _ y).trans ((Cert.DwFfnOutRefIdeal.Read.val_main_v4_apply _ _ _).trans
      (tn_ref (fun _ => at2_ix _ _) fun _ => at2_ix _ _))

end Cert.DwFfnOutIdeal.MM

/-! The weight gradient of the state space branch's projection. -/
namespace Cert.DwBrBIdeal.MM

open Cert.DwBrBIdeal.Gen

theorem i0 : ∀ t : Fin cfg0.N, win0_0.index t = ![t.val % 2, t.val / 2] := (by decide +kernel : ∀ t : Fin grid0.N, _)
theorem i1 : ∀ t : Fin cfg0.N, win0_1.index t = ![t.val % 2, 0] := (by decide +kernel : ∀ t : Fin grid0.N, _)
theorem i2 : ∀ t : Fin cfg0.N, win0_2.index t = ![t.val / 2, 0] := (by decide +kernel : ∀ t : Fin grid0.N, _)
theorem f2 : ∀ t : Fin cfg0.N, win0_2.flush t = true → t.val % 2 = 1 := (by decide +kernel : ∀ t : Fin grid0.N, _)

variable (m : (ℓ : Loc nD τ sig) → Buf (Elt Ideal) ℓ) (c : Dev nD)

theorem scr (t : Fin cfg0.N) (h : t.val % 2 = 0) : (outsAt0 m c t.val t.isLt).2 = k0_pay1 (iblk m c 0 t) (iblk m c 1 t) := by
  rw [outsAt0_A m c t h (by omega)]
  frame_out
  unfold k0_pay2
  rw [shapeCast_self]

theorem out (t : Fin cfg0.N) (h : t.val % 2 = 1) : (outsAt0 m c t.val t.isLt).1
    = fun j => (outsAt0 m c (t.val - 1) (by have := t.isLt; omega)).2 j + k0_pay1 (iblk m c 0 t) (iblk m c 1 t) j := by
  rw [outsAt0_B m c t (by omega) h]
  frame_out
  rw [read_unread_whole]
  rfl

theorem arr : (dats m 0 c).arrAt 2 cfg0.N
    = tnOf (K := 4096) (M := 2048) (N := 1024) (m ((c : Thread nD τ).loc main_arg0)) (m ((c : Thread nD τ).loc main_arg1)) := by
  refine (dats m 0 c).arrAt_eq_of_covers 2 _ (by decide +kernel) fun t hf j => ?_
  blk_simp
  rw [after0_2]
  exact put (win0_2.rect_emb_val_off t) (i2 t) (halves (I := fun t => t / 2) (J := fun _ => 0) (tnS_two 2048 _ _) (fun _ _ => by omega) (fun _ _ => rfl)
    (fun t => tn (blk (win0_0.rect_emb_val_off t) (i0 t) fun _ => congrFun (V_main_arg0 m c) _)
      (blk (win0_1.rect_emb_val_off t) (i1 t) fun _ => congrFun (V_main_arg1 m c) _)) (scr m c) (out m c) t (f2 t hf)) j

theorem same : Cert.algebraic_DwBrBIdeal_DwBrBRefIdeal (hDwBrBIdeal := facts) (hDwBrBRefIdeal := Cert.DwBrBRefIdeal.Gen.facts) :=
  fun m g m' g' _ hm => agree (Cert.DwBrBIdeal.Value.run_blocks m g) (θ_run _ _ _).mono (Cert.DwBrBRefIdeal.Value.run m' g') fun c => by
    rw [(hm c).1, (hm c).2, arr m c]
    exact funext fun y => (Cert.DwBrBRefIdeal.Read.val_main_v5_apply _ _ y).trans ((Cert.DwBrBRefIdeal.Read.val_main_v4_apply _ _ _).trans
      (tn_ref (fun _ => at2_ix _ _) fun _ => at2_ix _ _))

end Cert.DwBrBIdeal.MM

/-! The weight gradient of the square products. -/
namespace Cert.DwSquareIdeal.MM

open Cert.DwSquareIdeal.Gen

theorem i0 : ∀ t : Fin cfg0.N, win0_0.index t = ![t.val % 2, 0] := (by decide +kernel : ∀ t : Fin grid0.N, _)
theorem i1 : ∀ t : Fin cfg0.N, win0_1.index t = ![t.val % 2, 0] := (by decide +kernel : ∀ t : Fin grid0.N, _)
theorem i2 : ∀ t : Fin cfg0.N, win0_2.index t = ![0, 0] := (by decide +kernel : ∀ t : Fin grid0.N, _)
theorem f2 : ∀ t : Fin cfg0.N, win0_2.flush t = true → t.val % 2 = 1 := (by decide +kernel : ∀ t : Fin grid0.N, _)

variable (m : (ℓ : Loc nD τ sig) → Buf (Elt Ideal) ℓ) (c : Dev nD)

theorem scr (t : Fin cfg0.N) (h : t.val % 2 = 0) : (outsAt0 m c t.val t.isLt).2 = k0_pay1 (iblk m c 0 t) (iblk m c 1 t) := by
  rw [outsAt0_A m c t h (by omega)]
  frame_out
  unfold k0_pay2
  rw [shapeCast_self]

theorem out (t : Fin cfg0.N) (h : t.val % 2 = 1) : (outsAt0 m c t.val t.isLt).1
    = fun j => (outsAt0 m c (t.val - 1) (by have := t.isLt; omega)).2 j + k0_pay1 (iblk m c 0 t) (iblk m c 1 t) j := by
  rw [outsAt0_B m c t (by omega) h]
  frame_out
  rw [read_unread_whole]
  rfl

theorem arr : (dats m 0 c).arrAt 2 cfg0.N
    = tnOf (K := 4096) (M := 1024) (N := 1024) (m ((c : Thread nD τ).loc main_arg0)) (m ((c : Thread nD τ).loc main_arg1)) := by
  refine (dats m 0 c).arrAt_eq_of_covers 2 _ (by decide +kernel) fun t hf j => ?_
  blk_simp
  rw [after0_2]
  exact put (win0_2.rect_emb_val_off t) (i2 t) (halves (I := fun _ => 0) (J := fun _ => 0) (tnS_two 2048 _ _) (fun _ _ => rfl) (fun _ _ => rfl)
    (fun t => tn (blk (win0_0.rect_emb_val_off t) (i0 t) fun _ => congrFun (V_main_arg0 m c) _)
      (blk (win0_1.rect_emb_val_off t) (i1 t) fun _ => congrFun (V_main_arg1 m c) _)) (scr m c) (out m c) t (f2 t hf)) j

theorem same : Cert.algebraic_DwSquareIdeal_DwSquareRefIdeal (hDwSquareIdeal := facts) (hDwSquareRefIdeal := Cert.DwSquareRefIdeal.Gen.facts) :=
  fun m g m' g' _ hm => agree (Cert.DwSquareIdeal.Value.run_blocks m g) (θ_run _ _ _).mono (Cert.DwSquareRefIdeal.Value.run m' g') fun c => by
    rw [(hm c).1, (hm c).2, arr m c]
    exact funext fun y => (Cert.DwSquareRefIdeal.Read.val_main_v5_apply _ _ y).trans ((Cert.DwSquareRefIdeal.Read.val_main_v4_apply _ _ _).trans
      (tn_ref (fun _ => at2_ix _ _) fun _ => at2_ix _ _))

end Cert.DwSquareIdeal.MM

end

end
-- ==== Proof.Soft.lean ====
module

public import proofs.«01_k».proof.Proof.Mm

/- The mathematics of one head's attention and of its gradient, on extended reals: functions of the entries of the head's
   queries `Q`, keys `K`, values `V` and of the incoming gradient `D`; and the two forms of the scores' gradient, the
   kernel's and the reference's, which agree on real entries. -/

@[expose] public section

noncomputable section

namespace Cert.AT

open Idealize.ShloMosaic Idealize.ShloMosaic.TcCoe Idealize.ShloMosaic.ValueIdx
open Cert.SG

/-- The scale of the scores. -/
abbrev sixteenth : EReal := Ideal.ofBits .f32 0x3D800000#32

theorem c_sixteenth : sixteenth = ((1 / 16 : ℝ) : EReal) := by
  simp [sixteenth, Ideal.ofBits, Ideal.ieee, -EReal.coe_mul]; norm_num

/-- The greatest of a row of 256. -/
def peak (f : Fin 256 → EReal) : EReal := Finset.univ.fold max (Ideal.ofBits .f32 0xFF800000#32) f

section

variable (Q K V D : ℕ → ℕ → EReal)

/-- The score of token `s` at memory row `m`, -/
def sc (s m : ℕ) : EReal := (∑ d : Fin 256, Q s d.val * K m d.val) * sixteenth
/-- its exponential below the row's greatest score, -/
def ex (s m : ℕ) : EReal := Ideal.exp (sc Q K s m - peak fun j => sc Q K s j.val)
/-- the row's sum of these, -/
def tot (s : ℕ) : EReal := ∑ j : Fin 256, ex Q K s j.val
/-- and the probability. -/
def pr (s m : ℕ) : EReal := Ideal.div (ex Q K s m) (tot Q K s)
/-- The head's output. -/
def att (s d : ℕ) : EReal := ∑ m : Fin 256, pr Q K s m.val * V m.val d
/-- The gradient of the probability, -/
def dp (s m : ℕ) : EReal := ∑ d : Fin 256, D s d.val * V m d.val
/-- of the score, as the kernel computes it, -/
def ds (s m : ℕ) : EReal := pr Q K s m * (dp V D s m - ∑ j : Fin 256, dp V D s j.val * pr Q K s j.val) * sixteenth
/-- and as the reference does: through the quotient's numerator and denominator. -/
def dsR (s m : ℕ) : EReal :=
  (Ideal.div (dp V D s m) (tot Q K s)
    + -∑ j : Fin 256, dp V D s j.val * Ideal.div ((1 : ℝ) : EReal) (tot Q K s * tot Q K s) * ex Q K s j.val) * ex Q K s m * sixteenth
/-- The gradients of the queries, keys and values. -/
def dq (s d : ℕ) : EReal := ∑ m : Fin 256, ds Q K V D s m.val * K m.val d
def dk (m d : ℕ) : EReal := ∑ s : Fin 2048, ds Q K V D s.val m * Q s.val d
def dv (m d : ℕ) : EReal := ∑ s : Fin 2048, pr Q K s.val m * D s.val d

end

theorem isR_peak {f : Fin 256 → EReal} (h : ∀ k, IsR (f k)) : IsR (peak f) := by
  unfold peak
  rw [c_ninf]
  refine isR_of_lt ?_ ?_
  · obtain ⟨r, hr⟩ := h 0
    exact (Finset.lt_fold_max _).mpr (Or.inr ⟨0, Finset.mem_univ _, hr ▸ EReal.bot_lt_coe r⟩)
  · refine (Finset.fold_max_lt _).mpr ⟨bot_lt_top, fun k _ => ?_⟩
    obtain ⟨r, hr⟩ := h k
    exact hr ▸ EReal.coe_lt_top r

variable {Q K V D : ℕ → ℕ → EReal} (hQ : ∀ s d, IsR (Q s d)) (hK : ∀ m d, IsR (K m d)) (hV : ∀ m d, IsR (V m d)) (hD : ∀ s d, IsR (D s d))

include hQ hK in
/-- On real entries an exponential is a positive number. -/
theorem ex_pos (s m : ℕ) : ∃ e : ℝ, 0 < e ∧ ex Q K s m = (e : EReal) := by
  have hs : ∀ j, IsR (sc Q K s j) := fun j => (IsR.sum _ fun d => (hQ _ _).mul (hK _ _)).mul ⟨_, c_sixteenth⟩
  obtain ⟨r, hr⟩ := (hs m).sub (isR_peak fun k => hs k.val)
  exact ⟨Real.exp r, Real.exp_pos r, by unfold ex; rw [hr, Ideal.exp_coe]⟩

include hQ hK hV hD in
/-- The two forms of the scores' gradient agree. -/
theorem dsR_eq (s m : ℕ) : dsR Q K V D s m = ds Q K V D s m := by
  choose e he hE using ex_pos hQ hK s
  have hg' : ∀ j, IsR (dp V D s j) := fun j => IsR.sum _ fun d => (hD _ _).mul (hV _ _)
  choose g hg using hg'
  have hS : 0 < ∑ j : Fin 256, e j.val := Finset.sum_pos (fun j _ => he j.val) ⟨0, Finset.mem_univ _⟩
  have ht : tot Q K s = ((∑ j : Fin 256, e j.val : ℝ) : EReal) := by unfold tot; simp only [hE, coe_sum]
  unfold dsR ds pr
  rw [ht, c_sixteenth]
  generalize hT : ∑ j : Fin 256, e j.val = T at hS
  simp only [hE, hg, ← EReal.coe_mul, Ideal.div_coe hS.ne', Ideal.div_coe (mul_pos hS hS).ne', coe_sum, ← EReal.coe_neg, ← EReal.coe_add, ← EReal.coe_sub]
  rw [EReal.coe_eq_coe_iff]
  have e1 : ∑ j : Fin 256, g j.val * (1 * (1 / (T * T))) * e j.val = (∑ j : Fin 256, g j.val * e j.val) * (1 / (T * T)) := by
    rw [Finset.sum_mul]; exact Finset.sum_congr rfl fun _ _ => by ring
  have e2 : ∑ j : Fin 256, g j.val * (e j.val * (1 / T)) = (∑ j : Fin 256, g j.val * e j.val) * (1 / T) := by
    rw [Finset.sum_mul]; exact Finset.sum_congr rfl fun _ _ => by ring
  rw [e1, e2]
  generalize ∑ j : Fin 256, g j.val * e j.val = S
  field_simp
  ring

/-- A block of an array. -/
def cut (X : ℕ → ℕ → EReal) (p q i k : ℕ) : ℕ → ℕ → EReal := fun r c => X (p * i + r) (q * k + c)

/-- An array made of blocks. -/
def tile (p q : ℕ) (f : ℕ → ℕ → ℕ → ℕ → EReal) (r c : ℕ) : EReal := f (r / p) (c / q) (r % p) (c % q)

theorem tile_at (p q : ℕ) (f : ℕ → ℕ → ℕ → ℕ → EReal) (i k : ℕ) (r : Fin p) (c : Fin q) :
    tile p q f (p * i + r.val) (q * k + c.val) = f i k r.val c.val := by
  have hp : 0 < p := r.pos
  have hq : 0 < q := c.pos
  unfold tile
  rw [Nat.mul_add_div hp, Nat.mul_add_div hq, Nat.div_eq_of_lt r.isLt, Nat.div_eq_of_lt c.isLt, Nat.mul_add_mod, Nat.mul_add_mod,
    Nat.mod_eq_of_lt r.isLt, Nat.mod_eq_of_lt c.isLt, Nat.add_zero, Nat.add_zero]

/-- The four results over a device's two sequences and four heads: of the queries `Q`, the keys and values side by side in
    `M`, and the incoming gradient `D`. -/
def attOf (Q M : ℕ → ℕ → EReal) : ℕ → ℕ → EReal :=
  tile 2048 256 fun b h => att (cut Q 2048 256 b h) (cut M 256 256 b h) (cut M 256 256 b (4 + h))
def dqOf (Q M D : ℕ → ℕ → EReal) : ℕ → ℕ → EReal :=
  tile 2048 256 fun b h => dq (cut Q 2048 256 b h) (cut M 256 256 b h) (cut M 256 256 b (4 + h)) (cut D 2048 256 b h)
def dkOf (Q M D : ℕ → ℕ → EReal) : ℕ → ℕ → EReal :=
  tile 256 256 fun b h => dk (cut Q 2048 256 b h) (cut M 256 256 b h) (cut M 256 256 b (4 + h)) (cut D 2048 256 b h)
def dvOf (Q M D : ℕ → ℕ → EReal) : ℕ → ℕ → EReal :=
  tile 256 256 fun b h => dv (cut Q 2048 256 b h) (cut M 256 256 b h) (cut D 2048 256 b h)

/-- Each at a place of a block. -/
theorem attOf_at (Q M : ℕ → ℕ → EReal) (b h : ℕ) (r : Fin 2048) (n : Fin 256) : attOf Q M (2048 * b + r.val) (256 * h + n.val)
    = att (cut Q 2048 256 b h) (cut M 256 256 b h) (cut M 256 256 b (4 + h)) r.val n.val := tile_at 2048 256 _ b h r n
theorem dqOf_at (Q M D : ℕ → ℕ → EReal) (b h : ℕ) (r : Fin 2048) (n : Fin 256) : dqOf Q M D (2048 * b + r.val) (256 * h + n.val)
    = dq (cut Q 2048 256 b h) (cut M 256 256 b h) (cut M 256 256 b (4 + h)) (cut D 2048 256 b h) r.val n.val := tile_at 2048 256 _ b h r n
theorem dkOf_at (Q M D : ℕ → ℕ → EReal) (b h : ℕ) (r n : Fin 256) : dkOf Q M D (256 * b + r.val) (256 * h + n.val)
    = dk (cut Q 2048 256 b h) (cut M 256 256 b h) (cut M 256 256 b (4 + h)) (cut D 2048 256 b h) r.val n.val := tile_at 256 256 _ b h r n
theorem dvOf_at (Q M D : ℕ → ℕ → EReal) (b h : ℕ) (r n : Fin 256) : dvOf Q M D (256 * b + r.val) (256 * h + n.val)
    = dv (cut Q 2048 256 b h) (cut M 256 256 b h) (cut D 2048 256 b h) r.val n.val := tile_at 256 256 _ b h r n

end Cert.AT

end

end
-- ==== Proof.Head.lean ====
module

public import proofs.«01_k».proof.Defs
public import proofs.«01_k».proof.Proof.Gen.AttnBwdIdeal.Value
public import proofs.«01_k».proof.Proof.Gen.AttnIdeal.Value
public import proofs.«01_k».proof.Proof.Soft
public import proofs.«01_k».proof.Proof.Tile
public import Idealize.ShloMosaic.Lib.Pipeline.ValueKit
public import Idealize.ShloMosaic.Lib.Pipeline.ReadBack

/- The attention kernels, forward and backward: each grid point's results are those of one sequence and head, and the
   grid covers the arrays. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM

namespace Cert.AT

open Cert.KernelIdeal.SG

/-- A maximum along the rows of a block, kept as a column. -/
theorem rowPeak {a : ℕ} (x : FVec Ideal ⟨2, ![a, 256]⟩ .f32) (h : Shape.Reduces ⟨2, ![a, 256]⟩ [1] ⟨1, ![a]⟩)
    (hc : (⟨1, ![a]⟩ : Shape).ShapeCasts ⟨2, ![a, 1]⟩) (i : Fin a) (u : Fin 1) :
    shapeCast ⟨2, ![a, 1]⟩ (multiReduction .maximumf [1] ⟨1, ![a]⟩ x 0xFF800000#32 h (.inl rfl) rfl) hc (ix2 i u) = peak fun k => x (ix2 i k) := by
  rw [shapeCast_a_a1_apply]
  refine (Ideal.multiReduction_maximumf_single x _ h (.inl rfl) rfl (ix1 i)).trans ?_
  refine congrArg (Finset.univ.fold max (Ideal.ofBits .f32 0xFF800000#32)) (funext fun k => congrArg x ?_)
  funext ax
  match ax with
  | ⟨0, _⟩ => rfl
  | ⟨1, _⟩ => rfl

/-- Each row's exponentials below its greatest, -/
theorem rowEx {a : ℕ} (x : FVec Ideal ⟨2, ![a, 256]⟩ .f32) (h : Shape.Reduces ⟨2, ![a, 256]⟩ [1] ⟨1, ![a]⟩)
    (hc : (⟨1, ![a]⟩ : Shape).ShapeCasts ⟨2, ![a, 1]⟩) (hb : (⟨2, ![a, 1]⟩ : Shape).Broadcasts ⟨2, ![a, 256]⟩) (ha : a ≠ 1) (i : Fin a) (j : Fin 256) :
    exp (subf x (broadcastTo ⟨2, ![a, 256]⟩
      (shapeCast ⟨2, ![a, 1]⟩ (multiReduction .maximumf [1] ⟨1, ![a]⟩ x 0xFF800000#32 h (.inl rfl) rfl) hc) hb)) (ix2 i j)
      = Ideal.exp (x (ix2 i j) - peak fun k => x (ix2 i k)) := by
  show Ideal.exp (x (ix2 i j) - broadcastTo ⟨2, ![a, 256]⟩ _ hb (ix2 i j)) = _
  rw [bc_a1 _ hb ha, rowPeak]

/-- and each row's quotients by its sum. -/
theorem rowDiv {a : ℕ} (x y : FVec Ideal ⟨2, ![a, 256]⟩ .f32) (h : Shape.Reduces ⟨2, ![a, 256]⟩ [1] ⟨1, ![a]⟩)
    (hc : (⟨1, ![a]⟩ : Shape).ShapeCasts ⟨2, ![a, 1]⟩) (hb : (⟨2, ![a, 1]⟩ : Shape).Broadcasts ⟨2, ![a, 256]⟩) (ha : a ≠ 1) (i : Fin a) (j : Fin 256) :
    divf y (broadcastTo ⟨2, ![a, 256]⟩ (shapeCast ⟨2, ![a, 1]⟩ (multiReduction .add [1] ⟨1, ![a]⟩ x 0x00000000#32 h (.inl rfl) rfl) hc) hb) (ix2 i j)
      = Ideal.div (y (ix2 i j)) (∑ k : Fin 256, x (ix2 i k)) := by
  show Ideal.div (y (ix2 i j)) (broadcastTo ⟨2, ![a, 256]⟩ _ hb (ix2 i j)) = _
  rw [bc_a1 _ hb ha, rowSum]

/-- A sum of products of blocks' rows, -/
theorem dotNT {M K N : ℕ} {x : FVec Ideal ⟨2, ![M, K]⟩ .bf16} {y : FVec Ideal ⟨2, ![N, K]⟩ .bf16} {A B : ℕ → ℕ → EReal}
    (hx : ∀ r c, x (ix2 r c) = A r.val c.val) (hy : ∀ r c, y (ix2 r c) = B r.val c.val) (r : Fin M) (c : Fin N) :
    matmul (DotDims.transposedRhs M K N) none x y (constant ⟨2, ![M, N]⟩ .f32 0x00000000#32) (ix2 r c) = ∑ k : Fin K, A r.val k.val * B c.val k.val := by
  refine (Ideal.matmul_transposedRhs_apply none x y _ r c).trans ?_
  rw [constant_apply, c_zero, zero_add]
  exact Finset.sum_congr rfl fun k _ => by rw [hx, hy]

/-- of rows and columns, -/
theorem dotNN {M K N : ℕ} {x : FVec Ideal ⟨2, ![M, K]⟩ .bf16} {y : FVec Ideal ⟨2, ![K, N]⟩ .bf16} {A B : ℕ → ℕ → EReal}
    (hx : ∀ r c, x (ix2 r c) = A r.val c.val) (hy : ∀ r c, y (ix2 r c) = B r.val c.val) (r : Fin M) (c : Fin N) :
    matmul (DotDims.plain M K N) none x y (constant ⟨2, ![M, N]⟩ .f32 0x00000000#32) (ix2 r c) = ∑ k : Fin K, A r.val k.val * B k.val c.val := by
  refine (Ideal.matmul_plain_apply none x y _ r c).trans ?_
  rw [constant_apply, c_zero, zero_add]
  exact Finset.sum_congr rfl fun k _ => by rw [hx, hy]

/-- and of columns. -/
theorem dotTN {K M N : ℕ} {wf : DotDims.WF ⟨2, ![K, M]⟩ ⟨2, ![K, N]⟩ ⟨2, ![M, N]⟩ [0] [0] [1] [1] [] []}
    {x : FVec Ideal ⟨2, ![K, M]⟩ .bf16} {y : FVec Ideal ⟨2, ![K, N]⟩ .bf16} {A B : ℕ → ℕ → EReal}
    (hx : ∀ r c, x (ix2 r c) = A r.val c.val) (hy : ∀ r c, y (ix2 r c) = B r.val c.val) (r : Fin M) (c : Fin N) :
    matmul (tnDims K M N wf) none x y (constant ⟨2, ![M, N]⟩ .f32 0x00000000#32) (ix2 r c) = ∑ k : Fin K, A k.val r.val * B k.val c.val := by
  refine (tn (A := A) (B := B) (o := 0) (p := 0) (q := 0) ?_ ?_ r c).trans ?_
  · intro k r; rw [hx, Nat.mul_zero, Nat.zero_add, Nat.zero_add]
  · intro k r; rw [hy, Nat.mul_zero, Nat.zero_add, Nat.zero_add]
  · unfold tnS; simp only [Nat.mul_zero, Nat.zero_add]

/-- A block's values known at its places are the array's function there. -/
theorem place {p q i k : ℕ} {G : ℕ → ℕ → EReal} {v : (⟨2, ![p, q]⟩ : Shape).Idx → EReal} {I : Fin 2 → ℕ} (hi : I = ![i, k])
    (hv : ∀ (r : Fin p) (n : Fin q), v (ix2 r n) = G (p * i + r.val) (q * k + n.val)) (j : (⟨2, ![p, q]⟩ : Shape).Idx) :
    v j = G (I 0 * p + (j 0).val) (I 1 * q + (j 1).val) := by
  subst hi
  refine (congrArg v (eq_ix2 j)).trans ((hv (j 0) (j 1)).trans ?_)
  show G (p * i + (j 0).val) (q * k + (j 1).val) = G (i * p + (j 0).val) (k * q + (j 1).val)
  rw [Nat.mul_comm i, Nat.mul_comm k]

variable {q d : Vec Ideal ⟨2, ![2048, 256]⟩ .bf16} {k v : Vec Ideal ⟨2, ![256, 256]⟩ .bf16} {Q K V D : ℕ → ℕ → EReal}
variable (hq : ∀ r c, q (ix2 r c) = Q r.val c.val) (hk : ∀ r c, k (ix2 r c) = K r.val c.val)
  (hv : ∀ r c, v (ix2 r c) = V r.val c.val) (hd : ∀ r c, d (ix2 r c) = D r.val c.val)

section

open Cert.AttnBwdIdeal Cert.AttnBwdIdeal.Gen

include hq hk in
/-- The probabilities, -/
theorem pay2 (s : Fin 2048) (m : Fin 256) : k0_pay2 q k (ix2 s m) = pr Q K s.val m.val := by
  have h1 : ∀ s m, mulf (matmul dot_S2048x256_S256x256_S2048x256_1_1_0_0_n_n none q k (constant S2048x256 .f32 0x00000000#32))
      (broadcast S2048x256 (Scalar.ofBits (F := Ideal) .f32 0x3D800000#32)) (ix2 s m) = sc Q K s.val m.val := fun s m =>
    congrArg (· * sixteenth) (dotNT hq hk s m)
  unfold k0_pay2
  dsimp only
  refine (rowDiv _ _ _ _ _ (by decide) s m).trans ?_
  simp only [rowEx _ _ _ _ (by decide : (2048 : ℕ) ≠ 1), h1]
  rfl

include hq hk hv hd in
/-- the gradient of the scores, -/
theorem pay4 (s : Fin 2048) (m : Fin 256) : k0_pay4 q k v d (ix2 s m) = ds Q K V D s.val m.val := by
  have h1 : ∀ (s : Fin 2048) (m : Fin 256), matmul (F := Ideal) (φ₁ := .bf16) (φ₂ := .bf16) dot_S2048x256_S256x256_S2048x256_1_1_0_0_n_n none d v (constant S2048x256 .f32 0x00000000#32) (ix2 s m)
      = dp V D s.val m.val := dotNT hd hv
  unfold k0_pay4
  dsimp only
  show k0_pay2 q k (ix2 s m) * (_ - broadcastTo S2048x256 _ broadcasts_S2048x1_S2048x256 (ix2 s m)) * sixteenth = _
  rw [bc_a1 _ _ (by decide), rowSum, h1, pay2 hq hk]
  refine congrArg (fun z => pr Q K s.val m.val * (dp V D s.val m.val - z) * sixteenth) (Finset.sum_congr rfl fun j _ => ?_)
  show matmul dot_S2048x256_S256x256_S2048x256_1_1_0_0_n_n none d v _ (ix2 s j) * k0_pay2 q k (ix2 s j) = _
  rw [h1, pay2 hq hk]

include hq hk hd in
/-- and those of the values, -/
theorem pay3 (m : Fin 256) (e : Fin 256) : k0_pay3 q k d (ix2 m e) = dv Q K D m.val e.val := dotTN (pay2 hq hk) hd m e

include hq hk hv hd in
/-- the queries -/
theorem pay5 (s : Fin 2048) (e : Fin 256) : k0_pay5 q k v d (ix2 s e) = dq Q K V D s.val e.val := dotNN (pay4 hq hk hv hd) hk s e

include hq hk hv hd in
/-- and the keys. -/
theorem pay6 (m : Fin 256) (e : Fin 256) : k0_pay6 q k v d (ix2 m e) = dk Q K V D m.val e.val := dotTN (pay4 hq hk hv hd) hq m e

end

include hq hk hv in
/-- The forward kernel's output, from the same probabilities. -/
theorem payF (s : Fin 2048) (e : Fin 256) : Cert.AttnIdeal.Gen.k0_pay1 q k v (ix2 s e) = att Q K V s.val e.val := dotNN (pay2 hq hk) hv s e

end Cert.AT

namespace Cert.AttnBwdIdeal.AT

open Cert.AttnBwdIdeal.Gen Cert.AT

theorem i0 : ∀ t : Fin cfg0.N, win0_0.index t = ![t.val / 4, t.val % 4] := (by decide +kernel : ∀ t : Fin grid0.N, _)
theorem i1 : ∀ t : Fin cfg0.N, win0_1.index t = ![t.val / 4, t.val % 4] := (by decide +kernel : ∀ t : Fin grid0.N, _)
theorem i2 : ∀ t : Fin cfg0.N, win0_2.index t = ![t.val / 4, 4 + t.val % 4] := (by decide +kernel : ∀ t : Fin grid0.N, _)
theorem i3 : ∀ t : Fin cfg0.N, win0_3.index t = ![t.val / 4, t.val % 4] := (by decide +kernel : ∀ t : Fin grid0.N, _)
theorem i4 : ∀ t : Fin cfg0.N, win0_4.index t = ![t.val / 4, t.val % 4] := (by decide +kernel : ∀ t : Fin grid0.N, _)
theorem i5 : ∀ t : Fin cfg0.N, win0_5.index t = ![t.val / 4, t.val % 4] := (by decide +kernel : ∀ t : Fin grid0.N, _)
theorem i6 : ∀ t : Fin cfg0.N, win0_6.index t = ![t.val / 4, t.val % 4] := (by decide +kernel : ∀ t : Fin grid0.N, _)

variable (m : (ℓ : Loc nD τ sig) → Buf (Elt Ideal) ℓ) (c : Dev nD)

/-- The three arrays, as functions of their coordinates. -/
abbrev qs : ℕ → ℕ → EReal := at2 (a := 4096) (b := 1024) (m ((c : Thread nD τ).loc main_arg0))
abbrev ms : ℕ → ℕ → EReal := at2 (a := 512) (b := 2048) (m ((c : Thread nD τ).loc main_arg1))
abbrev gs : ℕ → ℕ → EReal := at2 (a := 4096) (b := 1024) (m ((c : Thread nD τ).loc main_arg2))

theorem b0 (t : Fin cfg0.N) (r : Fin 2048) (n : Fin 256) : iblk m c 0 t (ix2 r n) = cut (qs m c) 2048 256 (t.val / 4) (t.val % 4) r.val n.val :=
  blk (win0_0.rect_emb_val_off t) (i0 t) (fun _ => congrFun (V_main_arg0 m c) _) r n
theorem b1 (t : Fin cfg0.N) (r n : Fin 256) : iblk m c 1 t (ix2 r n) = cut (ms m c) 256 256 (t.val / 4) (t.val % 4) r.val n.val :=
  blk (win0_1.rect_emb_val_off t) (i1 t) (fun _ => congrFun (V_main_arg1 m c) _) r n
theorem b2 (t : Fin cfg0.N) (r n : Fin 256) : iblk m c 2 t (ix2 r n) = cut (ms m c) 256 256 (t.val / 4) (4 + t.val % 4) r.val n.val :=
  blk (win0_2.rect_emb_val_off t) (i2 t) (fun _ => congrFun (V_main_arg1 m c) _) r n
theorem b3 (t : Fin cfg0.N) (r : Fin 2048) (n : Fin 256) : iblk m c 3 t (ix2 r n) = cut (gs m c) 2048 256 (t.val / 4) (t.val % 4) r.val n.val :=
  blk (win0_3.rect_emb_val_off t) (i3 t) (fun _ => congrFun (V_main_arg2 m c) _) r n

/-- The gradients of the queries, -/
theorem arr4 : (dats m 0 c).arrAt 4 cfg0.N = fun j : S4096x1024.Idx => dqOf (qs m c) (ms m c) (gs m c) (j 0).val (j 1).val := by
  have hG : ∀ (t : Fin cfg0.N) (r : Fin 2048) (n : Fin 256), _ = dqOf (qs m c) (ms m c) (gs m c) (2048 * (t.val / 4) + r.val) (256 * (t.val % 4) + n.val) := fun t r n => (pay5 (b0 m c t) (b1 m c t) (b2 m c t) (b3 m c t) r n).trans (dqOf_at _ _ _ _ _ r n).symm
  generalize dqOf (qs m c) (ms m c) (gs m c) = G at hG ⊢
  refine (dats m 0 c).arrAt_eq_of_covers 4 _ (by decide +kernel) fun t hf j => ?_
  blk_simp
  rw [after0_4]
  frame_out
  exact place (i4 t) (hG t) j

/-- the keys -/
theorem arr5 : (dats m 0 c).arrAt 5 cfg0.N = fun j : S512x1024.Idx => dkOf (qs m c) (ms m c) (gs m c) (j 0).val (j 1).val := by
  have hG : ∀ (t : Fin cfg0.N) (r n : Fin 256), _ = dkOf (qs m c) (ms m c) (gs m c) (256 * (t.val / 4) + r.val) (256 * (t.val % 4) + n.val) := fun t r n => (pay6 (b0 m c t) (b1 m c t) (b2 m c t) (b3 m c t) r n).trans (dkOf_at _ _ _ _ _ r n).symm
  generalize dkOf (qs m c) (ms m c) (gs m c) = G at hG ⊢
  refine (dats m 0 c).arrAt_eq_of_covers 5 _ (by decide +kernel) fun t hf j => ?_
  blk_simp
  rw [after0_5]
  frame_out
  exact place (i5 t) (hG t) j

/-- and the values. -/
theorem arr6 : (dats m 0 c).arrAt 6 cfg0.N = fun j : S512x1024.Idx => dvOf (qs m c) (ms m c) (gs m c) (j 0).val (j 1).val := by
  have hG : ∀ (t : Fin cfg0.N) (r n : Fin 256), _ = dvOf (qs m c) (ms m c) (gs m c) (256 * (t.val / 4) + r.val) (256 * (t.val % 4) + n.val) := fun t r n => (pay3 (b0 m c t) (b1 m c t) (b3 m c t) r n).trans (dvOf_at _ _ _ _ _ r n).symm
  generalize dvOf (qs m c) (ms m c) (gs m c) = G at hG ⊢
  refine (dats m 0 c).arrAt_eq_of_covers 6 _ (by decide +kernel) fun t hf j => ?_
  blk_simp
  rw [after0_6]
  frame_out
  exact place (i6 t) (hG t) j

end Cert.AttnBwdIdeal.AT

namespace Cert.AttnIdeal.AT

open Cert.AttnIdeal.Gen Cert.AT

theorem i0 : ∀ t : Fin cfg0.N, win0_0.index t = ![t.val / 4, t.val % 4] := (by decide +kernel : ∀ t : Fin grid0.N, _)
theorem i1 : ∀ t : Fin cfg0.N, win0_1.index t = ![t.val / 4, t.val % 4] := (by decide +kernel : ∀ t : Fin grid0.N, _)
theorem i2 : ∀ t : Fin cfg0.N, win0_2.index t = ![t.val / 4, 4 + t.val % 4] := (by decide +kernel : ∀ t : Fin grid0.N, _)
theorem i3 : ∀ t : Fin cfg0.N, win0_3.index t = ![t.val / 4, t.val % 4] := (by decide +kernel : ∀ t : Fin grid0.N, _)

variable (m : (ℓ : Loc nD τ sig) → Buf (Elt Ideal) ℓ) (c : Dev nD)

abbrev qs : ℕ → ℕ → EReal := at2 (a := 4096) (b := 1024) (m ((c : Thread nD τ).loc main_arg0))
abbrev ms : ℕ → ℕ → EReal := at2 (a := 512) (b := 2048) (m ((c : Thread nD τ).loc main_arg1))

theorem b0 (t : Fin cfg0.N) (r : Fin 2048) (n : Fin 256) : iblk m c 0 t (ix2 r n) = cut (qs m c) 2048 256 (t.val / 4) (t.val % 4) r.val n.val :=
  blk (win0_0.rect_emb_val_off t) (i0 t) (fun _ => congrFun (V_main_arg0 m c) _) r n
theorem b1 (t : Fin cfg0.N) (r n : Fin 256) : iblk m c 1 t (ix2 r n) = cut (ms m c) 256 256 (t.val / 4) (t.val % 4) r.val n.val :=
  blk (win0_1.rect_emb_val_off t) (i1 t) (fun _ => congrFun (V_main_arg1 m c) _) r n
theorem b2 (t : Fin cfg0.N) (r n : Fin 256) : iblk m c 2 t (ix2 r n) = cut (ms m c) 256 256 (t.val / 4) (4 + t.val % 4) r.val n.val :=
  blk (win0_2.rect_emb_val_off t) (i2 t) (fun _ => congrFun (V_main_arg1 m c) _) r n

/-- The forward output. -/
theorem arr3 : (dats m 0 c).arrAt 3 cfg0.N = fun j : S4096x1024.Idx => attOf (qs m c) (ms m c) (j 0).val (j 1).val := by
  have hG : ∀ (t : Fin cfg0.N) (r : Fin 2048) (n : Fin 256), _ = attOf (qs m c) (ms m c) (2048 * (t.val / 4) + r.val) (256 * (t.val % 4) + n.val) := fun t r n =>
    (payF (b0 m c t) (b1 m c t) (b2 m c t) r n).trans (attOf_at _ _ _ _ r n).symm
  generalize attOf (qs m c) (ms m c) = G at hG ⊢
  refine (dats m 0 c).arrAt_eq_of_covers 3 _ (by decide +kernel) fun t hf j => ?_
  blk_simp
  rw [after0_3]
  frame_out
  exact place (i3 t) (hG t) j

end Cert.AttnIdeal.AT

end

end
-- ==== Proof.HeadRef.lean ====
module

public import proofs.«01_k».proof.Proof.Gen.AttnBwdRefIdeal.Read
public import proofs.«01_k».proof.Proof.Gen.AttnBwdRefIdeal.Run
public import proofs.«01_k».proof.Proof.Gen.AttnRefIdeal.Read
public import proofs.«01_k».proof.Proof.Gen.AttnRefIdeal.Run
public import proofs.«01_k».proof.Proof.Soft
public import Idealize.ShloMosaic.Lib.KernelVsHost

/- The attention references read at an index, by sequence, head, token and memory row. -/

@[expose] public section

set_option maxRecDepth 16384

noncomputable section

open Idealize.ShloMosaic Idealize.ShloMosaic.TcCoe Idealize.ShloMosaic.ValueIdx
open Idealize.SL Idealize.SL.Sem Cert.SG Cert.MM Cert.AT

namespace Cert.AttnBwdRefIdeal.AT

open Cert.AttnBwdRefIdeal Cert.AttnBwdRefIdeal.Gen Cert.AttnBwdRefIdeal.Read Cert.AttnBwdRefIdeal.Facts

/-- A two-axis array at an index whose coordinates are known. -/
theorem at2_place {a b : ℕ} (x : (⟨2, ![a, b]⟩ : Shape).Idx → EReal) (y : (⟨2, ![a, b]⟩ : Shape).Idx) {r c : ℕ} (hr : (y 0).val = r) (hc : (y 1).val = c) :
    x y = at2 x r c := by subst hr; subst hc; exact at2_ix x y

theorem four {F : ℕ → ℕ → ℕ → ℕ → EReal} {a b c d a' b' c' d' : ℕ} (ha : a = a') (hb : b = b') (hc : c = c') (hd : d = d') :
    F a b c d = F a' b' c' d' := by subst ha; subst hb; subst hc; subst hd; rfl

variable (x0 x2 : FVec Ideal S4096x1024 .bf16) (x1 : FVec Ideal S512x2048 .bf16)

/-- A head's queries, keys, values and incoming gradient. -/
abbrev qh (b h : ℕ) : ℕ → ℕ → EReal := cut (at2 x0) 2048 256 b h
abbrev kh (b h : ℕ) : ℕ → ℕ → EReal := cut (at2 x1) 256 256 b h
abbrev vh (b h : ℕ) : ℕ → ℕ → EReal := cut (at2 x1) 256 256 b (4 + h)

theorem v8 (i : S2x2048x4x256.Idx) : val_main_v8 (F := Ideal) x0 i = qh x0 (i 0).val (i 2).val (i 1).val (i 3).val := by
  have h0 : (i 0).val < 2 := (i 0).isLt
  have h1 : (i 1).val < 2048 := (i 1).isLt
  have h2 : (i 2).val < 4 := (i 2).isLt
  have h3 : (i 3).val < 256 := (i 3).isLt
  rw [val_main_v8_apply, val_main_v7_apply, val_main_v6_apply]
  refine at2_place x0 _ ?_ ?_ <;> · dsimp only [idx_main_v7, idx_main_v8]; omega

theorem v9 (i : S2x256x4x256.Idx) : val_main_v9 (F := Ideal) x1 i = kh x1 (i 0).val (i 2).val (i 1).val (i 3).val := by
  have h0 : (i 0).val < 2 := (i 0).isLt
  have h1 : (i 1).val < 256 := (i 1).isLt
  have h2 : (i 2).val < 4 := (i 2).isLt
  have h3 : (i 3).val < 256 := (i 3).isLt
  rw [val_main_v9_apply, val_main_v4_apply, val_main_v3_apply, val_main_v2_apply]
  refine at2_place x1 _ ?_ ?_ <;> · dsimp only [idx_main_v3, idx_main_v4, idx_main_v9]; omega

theorem v10 (i : S2x256x4x256.Idx) : val_main_v10 (F := Ideal) x1 i = vh x1 (i 0).val (i 2).val (i 1).val (i 3).val := by
  have h0 : (i 0).val < 2 := (i 0).isLt
  have h1 : (i 1).val < 256 := (i 1).isLt
  have h2 : (i 2).val < 4 := (i 2).isLt
  have h3 : (i 3).val < 256 := (i 3).isLt
  rw [val_main_v10_apply, val_main_v5_apply, val_main_v3_apply, val_main_v2_apply]
  refine at2_place x1 _ ?_ ?_ <;> · dsimp only [idx_main_v3, idx_main_v5, idx_main_v10]; omega

theorem v46 (i : S2x4x256x2048.Idx) : val_main_v46 (F := Ideal) x2 i = qh x2 (i 0).val (i 1).val (i 3).val (i 2).val := by
  have h0 : (i 0).val < 2 := (i 0).isLt
  have h1 : (i 1).val < 4 := (i 1).isLt
  have h2 : (i 2).val < 256 := (i 2).isLt
  have h3 : (i 3).val < 2048 := (i 3).isLt
  rw [val_main_v46_apply, val_main_v45_apply, val_main_v1_apply, val_main_v0_apply]
  refine at2_place x2 _ ?_ ?_ <;> · dsimp only [idx_main_v1, idx_main_v45, idx_main_v46]; omega

/-- The scores, -/
theorem v13 (i : S2x4x2048x256.Idx) : val_main_v13 (F := Ideal) x0 x1 i
    = sc (qh x0 (i 0).val (i 1).val) (kh x1 (i 0).val (i 1).val) (i 2).val (i 3).val := by
  rw [val_main_v13_apply, val_main_v11_apply, val_main_v12_apply, val_main_cst_apply]
  refine congrArg (· * sixteenth) (Finset.sum_congr rfl fun k _ => ?_)
  rw [v8, v9]

/-- each token's greatest, -/
theorem v14 (i : S2x4x2048.Idx) : val_main_v14 (F := Ideal) x0 x1 i
    = peak fun k => sc (qh x0 (i 0).val (i 1).val) (kh x1 (i 0).val (i 1).val) (i 2).val k.val := by
  have h' : S2x4x2048x256.Reduces [3] S2x4x2048 := by decide
  unfold val_main_v14
  generalize hx : val_main_v13 (F := Ideal) x0 x1 = x
  refine (congrFun (hostReduce_maximumf_eq_multiReduction (F := Ideal) (φ := .f32) x 0xFF800000#32 reducesTo_S2x4x2048x256_S2x4x2048_d3 h_S_ h' (.inl rfl) rfl) i).trans
    ((Ideal.multiReduction_maximumf_single x _ _ _ _ i).trans ?_)
  exact congrArg (Finset.univ.fold max (Ideal.ofBits .f32 0xFF800000#32)) (funext fun k => (congrFun hx.symm _).trans (v13 x0 x1 _))

/-- the exponentials, -/
theorem v34 (i : S2x4x2048x256.Idx) : val_main_v34 (F := Ideal) x0 x1 i
    = ex (qh x0 (i 0).val (i 1).val) (kh x1 (i 0).val (i 1).val) (i 2).val (i 3).val := by
  rw [val_main_v34_apply, val_main_v33_apply, val_main_v32_apply, val_main_v31_apply, val_main_v21_apply, val_main_v20_apply, val_main_cst_2_apply, v13, v14]
  show Ideal.exp (_ - max (Ideal.ofBits .f32 0xFF800000#32) _) = _
  rw [c_ninf, max_bot_left]
  rfl

/-- their sums -/
theorem v36 (i : S2x4x2048x1.Idx) : val_main_v36 (F := Ideal) x0 x1 i
    = tot (qh x0 (i 0).val (i 1).val) (kh x1 (i 0).val (i 1).val) (i 2).val := by
  rw [val_main_v36_apply, val_main_v35_apply, val_main_cst_8_apply]
  show Ideal.ofBits .f32 0x00000000#32 + _ = _
  rw [c_zero, zero_add]
  exact Finset.sum_congr rfl fun k _ => v34 x0 x1 _

/-- and the probabilities. -/
theorem v38 (i : S2x4x2048x256.Idx) : val_main_v38 (F := Ideal) x0 x1 i
    = pr (qh x0 (i 0).val (i 1).val) (kh x1 (i 0).val (i 1).val) (i 2).val (i 3).val := by
  rw [val_main_v38_apply, val_main_v37_apply, v34, v36]
  rfl

/-- The probabilities' gradient, -/
theorem v47 (i : S2x4x2048x256.Idx) : val_main_v47 (F := Ideal) x1 x2 i
    = dp (vh x1 (i 0).val (i 1).val) (qh x2 (i 0).val (i 1).val) (i 2).val (i 3).val := by
  rw [val_main_v47_apply]
  exact Finset.sum_congr rfl fun k _ => by rw [v46, v10]

/-- the correction through the denominator -/
theorem v53 (i : S2x4x2048.Idx) : val_main_v53 (F := Ideal) x0 x1 x2 i
    = ∑ k : Fin 256, dp (vh x1 (i 0).val (i 1).val) (qh x2 (i 0).val (i 1).val) (i 2).val k.val
        * Ideal.div ((1 : ℝ) : EReal) (tot (qh x0 (i 0).val (i 1).val) (kh x1 (i 0).val (i 1).val) (i 2).val
            * tot (qh x0 (i 0).val (i 1).val) (kh x1 (i 0).val (i 1).val) (i 2).val)
        * ex (qh x0 (i 0).val (i 1).val) (kh x1 (i 0).val (i 1).val) (i 2).val k.val := by
  rw [val_main_v53_apply, val_main_cst_10_apply]
  show Ideal.ofBits .f32 0x00000000#32 + _ = _
  rw [c_zero, zero_add, ← c_one]
  refine Finset.sum_congr rfl fun k _ => ?_
  rw [val_main_v52_apply, val_main_v51_apply, val_main_v50_apply, val_main_v41_apply, val_main_v40_apply, val_main_v39_apply, val_main_cst_9_apply,
    v34, v36, v47]
  rfl

theorem v54 (i : S2x4x2048x1.Idx) : val_main_v54 (F := Ideal) x0 x1 x2 i = val_main_v53 (F := Ideal) x0 x1 x2 (ix3 (i 0) (i 1) (i 2)) := by
  have h0 : (i 0).val < 2 := (i 0).isLt
  have h1 : (i 1).val < 4 := (i 1).isLt
  have h2 : (i 2).val < 2048 := (i 2).isLt
  have h3 : (i 3).val < 1 := (i 3).isLt
  rw [val_main_v54_apply]
  refine congrArg _ (funext fun a => Fin.ext ?_)
  match a with
  | ⟨0, _⟩ => show ((((i 0).val * 4 + (i 1).val) * 2048 + (i 2).val) * 1 + (i 3).val) / 8192 = (i 0).val; omega
  | ⟨1, _⟩ => show ((((i 0).val * 4 + (i 1).val) * 2048 + (i 2).val) * 1 + (i 3).val) / 2048 % 4 = (i 1).val; omega
  | ⟨2, _⟩ => show ((((i 0).val * 4 + (i 1).val) * 2048 + (i 2).val) * 1 + (i 3).val) % 2048 = (i 2).val; omega

/-- and the scores'. -/
theorem v63 (i : S2x4x2048x256.Idx) : val_main_v63 (F := Ideal) x0 x1 x2 i
    = dsR (qh x0 (i 0).val (i 1).val) (kh x1 (i 0).val (i 1).val) (vh x1 (i 0).val (i 1).val) (qh x2 (i 0).val (i 1).val) (i 2).val (i 3).val := by
  rw [val_main_v63_apply, val_main_v62_apply, val_main_v61_apply, val_main_v60_apply, val_main_v59_apply, val_main_v58_apply, Fin.sum_univ_one,
    val_main_v57_apply, val_main_v56_apply, val_main_v55_apply, v54, v53, v34, v36, v47, val_main_cst_11_apply, val_main_cst_12_apply]
  show (_ + (Ideal.ofBits .f32 0x00000000#32 + _)) * _ * _ = _
  rw [c_zero, zero_add]
  rfl

/-- Rows of sequences, and columns of heads. -/
theorem v71 (i : S4096x1024.Idx) {F : ℕ → ℕ → ℕ → ℕ → EReal} (hF : ∀ j, val_main_v67 (F := Ideal) x0 x1 x2 j = F (j 0).val (j 2).val (j 1).val (j 3).val) :
    val_main_v71 (F := Ideal) x0 x1 x2 i = tile 2048 256 F (i 0).val (i 1).val := by
  have h0 : (i 0).val < 4096 := (i 0).isLt
  have h1 : (i 1).val < 1024 := (i 1).isLt
  rw [val_main_v71_apply, val_main_v70_apply, hF]
  refine four ?_ ?_ ?_ ?_ <;> · dsimp only [idx_main_v70, idx_main_v71]; omega

theorem v73 (i : S512x1024.Idx) {F : ℕ → ℕ → ℕ → ℕ → EReal} (hF : ∀ j, val_main_v65 (F := Ideal) x0 x1 x2 j = F (j 0).val (j 2).val (j 1).val (j 3).val) :
    val_main_v73 (F := Ideal) x0 x1 x2 i = tile 256 256 F (i 0).val (i 1).val := by
  have h0 : (i 0).val < 512 := (i 0).isLt
  have h1 : (i 1).val < 1024 := (i 1).isLt
  rw [val_main_v73_apply, val_main_v69_apply, hF]
  refine four ?_ ?_ ?_ ?_ <;> · dsimp only [idx_main_v69, idx_main_v73]; omega

theorem v75 (i : S512x1024.Idx) {F : ℕ → ℕ → ℕ → ℕ → EReal} (hF : ∀ j, val_main_v49 (F := Ideal) x0 x1 x2 j = F (j 0).val (j 2).val (j 1).val (j 3).val) :
    val_main_v75 (F := Ideal) x0 x1 x2 i = tile 256 256 F (i 0).val (i 1).val := by
  have h0 : (i 0).val < 512 := (i 0).isLt
  have h1 : (i 1).val < 1024 := (i 1).isLt
  rw [val_main_v75_apply, val_main_v68_apply, hF]
  refine four ?_ ?_ ?_ ?_ <;> · dsimp only [idx_main_v68, idx_main_v75]; omega

/-- The values' gradient, on any entries; -/
theorem v76 (i : S512x1024.Idx) : val_main_v76 (F := Ideal) x0 x1 x2 i = dvOf (at2 x0) (at2 x1) (at2 x2) (i 0).val (i 1).val := by
  refine (val_main_v76_apply _ _ _ i).trans (v75 x0 x2 x1 i fun j => ?_)
  rw [val_main_v49_apply, val_main_v48_apply]
  exact Finset.sum_congr rfl fun k _ => by rw [v46, v38]; exact mul_comm _ _

variable (h0 : ∀ i, IsR (x0 i)) (h1 : ∀ i, IsR (x1 i)) (h2 : ∀ i, IsR (x2 i))

theorem isR_at {a b : ℕ} {x : (⟨2, ![a, b]⟩ : Shape).Idx → EReal} (h : ∀ i, IsR (x i)) (r c : ℕ) : IsR (at2 x r c) := by
  unfold at2; split
  · exact h _
  · exact ⟨0, rfl⟩

include h0 h1 h2 in
theorem v63R (i : S2x4x2048x256.Idx) : val_main_v63 (F := Ideal) x0 x1 x2 i
    = ds (qh x0 (i 0).val (i 1).val) (kh x1 (i 0).val (i 1).val) (vh x1 (i 0).val (i 1).val) (qh x2 (i 0).val (i 1).val) (i 2).val (i 3).val :=
  (v63 x0 x2 x1 i).trans (dsR_eq (fun _ _ => isR_at h0 _ _) (fun _ _ => isR_at h1 _ _) (fun _ _ => isR_at h1 _ _) (fun _ _ => isR_at h2 _ _) _ _)

include h0 h1 h2 in
/-- the queries' -/
theorem v72 (i : S4096x1024.Idx) : val_main_v72 (F := Ideal) x0 x1 x2 i = dqOf (at2 x0) (at2 x1) (at2 x2) (i 0).val (i 1).val := by
  refine (val_main_v72_apply _ _ _ i).trans (v71 x0 x2 x1 i fun j => ?_)
  rw [val_main_v67_apply, val_main_v66_apply]
  exact Finset.sum_congr rfl fun k _ => by rw [v63R x0 x2 x1 h0 h1 h2, v9]

include h0 h1 h2 in
/-- and the keys'. -/
theorem v74 (i : S512x1024.Idx) : val_main_v74 (F := Ideal) x0 x1 x2 i = dkOf (at2 x0) (at2 x1) (at2 x2) (i 0).val (i 1).val := by
  refine (val_main_v74_apply _ _ _ i).trans (v73 x0 x2 x1 i fun j => ?_)
  rw [val_main_v65_apply, val_main_v64_apply]
  exact Finset.sum_congr rfl fun k _ => by rw [v63R x0 x2 x1 h0 h1 h2, v8]

end Cert.AttnBwdRefIdeal.AT

namespace Cert.AttnRefIdeal.AT

open Cert.AttnRefIdeal Cert.AttnRefIdeal.Gen Cert.AttnRefIdeal.Read Cert.AttnBwdRefIdeal.AT

variable (x0 : FVec Ideal S4096x1024 .bf16) (x1 : FVec Ideal S512x2048 .bf16)

/-- The forward reference's probabilities and values are the backward's. -/
theorem probs : val_main_v22 (F := Ideal) x0 x1 = Cert.AttnBwdRefIdeal.Read.val_main_v38 (F := Ideal) x0 x1 := rfl
theorem vals : val_main_v8 (F := Ideal) x1 = Cert.AttnBwdRefIdeal.Read.val_main_v10 (F := Ideal) x1 := rfl

theorem v27 (i : S4096x1024.Idx) : val_main_v27 (F := Ideal) x0 x1 i = attOf (at2 x0) (at2 x1) (i 0).val (i 1).val := by
  have h0 : (i 0).val < 4096 := (i 0).isLt
  have h1 : (i 1).val < 1024 := (i 1).isLt
  have hF : ∀ j, val_main_v24 (F := Ideal) x0 x1 j = att (qh x0 (j 0).val (j 2).val) (kh x1 (j 0).val (j 2).val) (vh x1 (j 0).val (j 2).val) (j 1).val (j 3).val := fun j => by
    rw [val_main_v24_apply, val_main_v23_apply, probs, vals]
    exact Finset.sum_congr rfl fun k _ => by rw [v38, v10]; exact mul_comm _ _
  refine (val_main_v27_apply _ _ i).trans ?_
  show val_main_v26 (F := Ideal) x0 x1 i = _
  rw [val_main_v26_apply, val_main_v25_apply, hF]
  refine four (F := fun b h s d => att (qh x0 b h) (kh x1 b h) (vh x1 b h) s d) ?_ ?_ ?_ ?_ <;> · dsimp only [idx_main_v25, idx_main_v26]; omega

end Cert.AttnRefIdeal.AT

end

end
-- ==== Proof.Attend.lean ====
module

public import proofs.«01_k».proof.Pre_real_entries
public import proofs.«01_k».proof.Proof.Pre
public import proofs.«01_k».proof.Proof.Head
public import proofs.«01_k».proof.Proof.HeadRef

/- Attention, forward and backward: kernel and reference end with the same arrays; the backward where the entries of the
   queries, of the keys and values and of the incoming gradient are real numbers. -/

@[expose] public section

set_option maxRecDepth 16384

noncomputable section

open Idealize.ShloMosaic Idealize.ShloMosaic.TcCoe
open Idealize.SL Idealize.SL.Sem Cert.SG Cert.MM Cert.AT

namespace Cert.Pre_real_entries

theorem facts : Facts where
  bitsLt_bf16_f32 := by decide
  bcast_S_S4096x1024 := by decide
  reducesTo_S4096x1024_S_d0_1 := by decide
  h_S_ := by decide
  bcast_S_S512x2048 := by decide
  reducesTo_S512x2048_S_d0_1 := by decide

variable [Facts]

/-- What the precondition says. -/
theorem decode (x0 x2 : FVec Ideal S4096x1024 .bf16) (x1 : FVec Ideal S512x2048 .bf16) (h : fn (F := Ideal) x0 x1 x2 = fun _ => 1#1) :
    (∀ i, IsR (x0 i)) ∧ (∀ i, IsR (x1 i)) ∧ ∀ i, IsR (x2 i) := by
  haveI := Cert.Pre_finite.facts
  have h := congrFun h (fun k => k.elim0)
  dsimp only [fn, fn_part1] at h
  obtain ⟨h, h2⟩ := Cert.Pre_finite.andi_split h
  obtain ⟨h0, h1⟩ := Cert.Pre_finite.andi_split h
  exact ⟨Cert.Pre_finite.all_isR _ _ _ h0, Cert.Pre_finite.all_isR _ _ _ h1, Cert.Pre_finite.all_isR _ _ _ h2⟩

end Cert.Pre_real_entries

namespace Cert.AT

theorem same : Cert.algebraic_AttnIdeal_AttnRefIdeal (hAttnIdeal := Cert.AttnIdeal.Gen.facts) (hAttnRefIdeal := Cert.AttnRefIdeal.Gen.facts) :=
  fun m g m' g' _ hm => agree (Cert.AttnIdeal.Value.run_blocks m g) (θ_run _ _ _).mono (Cert.AttnRefIdeal.Value.run m' g') fun c => by
    rw [(hm c).1, (hm c).2, Cert.AttnIdeal.AT.arr3 m c]
    exact funext fun y => Cert.AttnRefIdeal.AT.v27 _ _ y

theorem bwd_same : Cert.algebraic_AttnBwdIdeal_AttnBwdRefIdeal_pre_real_entries (hAttnBwdIdeal := Cert.AttnBwdIdeal.Gen.facts)
    (hAttnBwdRefIdeal := Cert.AttnBwdRefIdeal.Gen.facts) (hPre_real_entries := Cert.Pre_real_entries.facts) := by
  intro m g m' g' hp hm
  refine ⟨_, _, _, Cert.AttnBwdIdeal.Value.run_blocks m g, ?_⟩
  refine (θ_run _ _ _).mono (fun r h c => ?_) (Cert.AttnBwdRefIdeal.Value.run m' g')
  obtain ⟨r0, r1, r2, rest⟩ := h c
  obtain ⟨e0, e1, e2⟩ := hm c
  obtain ⟨h0, h1, h2⟩ := @Cert.Pre_real_entries.decode Cert.Pre_real_entries.facts _ _ _ (hp c)
  refine ⟨(r0.trans (Cert.AttnBwdRefIdeal.Read.val_main_v72_eq m' c)).trans ?_, (r1.trans (Cert.AttnBwdRefIdeal.Read.val_main_v74_eq m' c)).trans ?_,
    (r2.trans (Cert.AttnBwdRefIdeal.Read.val_main_v76_eq _ _ _)).trans ?_, rest⟩
  · rw [e0, e1, e2, Cert.AttnBwdIdeal.AT.arr4 m c]
    exact funext fun y => Cert.AttnBwdRefIdeal.AT.v72 _ _ _ h0 h1 h2 y
  · rw [e0, e1, e2, Cert.AttnBwdIdeal.AT.arr5 m c]
    exact funext fun y => Cert.AttnBwdRefIdeal.AT.v74 _ _ _ h0 h1 h2 y
  · rw [e0, e1, e2, Cert.AttnBwdIdeal.AT.arr6 m c]
    exact funext fun y => Cert.AttnBwdRefIdeal.AT.v76 _ _ _ y

end Cert.AT

end

end
-- ==== Proof.Gate.lean ====
module

public import proofs.«01_k».proof.Proof.Mm
public import proofs.«01_k».proof.Proof.Block

/- The gates: the logistic function by its two formulas, the gated products and their gradients, and a block written as
   two halves. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM

namespace Cert.GT

/-- One and a half, as the programs write them. -/
abbrev one : EReal := Ideal.ofBits .f32 0x3F800000#32
abbrev half : EReal := Ideal.ofBits .f32 0x3F000000#32

/-- The logistic function by the exponential, -/
def sig (x : EReal) : EReal := Ideal.div one (one + Ideal.exp (-x))

/-- on real numbers, -/
theorem sig_coe (r : ℝ) : sig (r : EReal) = ((1 / (1 + Real.exp (-r)) : ℝ) : EReal) := by
  have h : (1 + Real.exp (-r) : ℝ) ≠ 0 := by positivity
  unfold sig one
  rw [c_one, ← EReal.coe_neg, Ideal.exp_coe, ← EReal.coe_add, Ideal.div_coe h, ← EReal.coe_mul, one_mul]

/-- and by the hyperbolic tangent: the same everywhere. -/
theorem sig_tanh (x : EReal) : half * Ideal.tanh (half * x) + half = sig x := by
  unfold half
  rw [c_half]
  induction x with
  | bot =>
    have e : ((1 / 2 : ℝ) : EReal) * ⊥ = ⊥ := EReal.coe_mul_bot_of_pos (by norm_num)
    rw [e]
    show ((1 / 2 : ℝ) : EReal) * (-1) + ((1 / 2 : ℝ) : EReal) = Ideal.div one (one + ⊤)
    unfold one
    rw [c_one, EReal.coe_add_top]
    have d : Ideal.div ((1 : ℝ) : EReal) ⊤ = 0 := by simp [Ideal.div]
    rw [d, mul_neg, mul_one, ← EReal.coe_neg, ← EReal.coe_add]
    norm_num
  | top =>
    have e : ((1 / 2 : ℝ) : EReal) * ⊤ = ⊤ := EReal.coe_mul_top_of_pos (by norm_num)
    rw [e]
    show ((1 / 2 : ℝ) : EReal) * 1 + ((1 / 2 : ℝ) : EReal) = Ideal.div one (one + 0)
    unfold one
    rw [c_one, add_zero, Ideal.div_coe one_ne_zero, mul_one, ← EReal.coe_add]
    norm_num
  | coe r =>
    rw [sig_coe, ← EReal.coe_mul]
    show ((1 / 2 : ℝ) : EReal) * ((Real.tanh (1 / 2 * r) : ℝ) : EReal) + _ = _
    rw [← EReal.coe_mul, ← EReal.coe_add]
    refine congrArg _ ?_
    have h1 : Real.exp (1 / 2 * r) * Real.exp (-(1 / 2 * r)) = 1 := by rw [← Real.exp_add]; simp
    have h2 : Real.exp (-r) = Real.exp (-(1 / 2 * r)) * Real.exp (-(1 / 2 * r)) := by rw [← Real.exp_add]; ring_nf
    have p1 := Real.exp_pos (1 / 2 * r)
    have p2 := Real.exp_pos (-(1 / 2 * r))
    rw [Real.tanh_eq_sinh_div_cosh, Real.sinh_eq, Real.cosh_eq, h2]
    generalize Real.exp (1 / 2 * r) = a at h1 p1
    generalize Real.exp (-(1 / 2 * r)) = b at h1 p2 ⊢
    have p3 : 0 < a + b := by positivity
    have p4 : 0 < 1 + b * b := by positivity
    field_simp
    nlinarith

/-- The gated product and the gradients of its two factors. -/
def glu (g u : EReal) : EReal := g * sig g * u
def gluG (g u d : EReal) : EReal := d * u * (sig g * (one + g * (one - sig g)))
def gluU (g d : EReal) : EReal := d * g * sig g

/-- and at the two infinities, -/
theorem sig_top : sig ⊤ = 1 := by
  show Ideal.div one (one + 0) = 1
  unfold one
  rw [c_one, add_zero, Ideal.div_coe one_ne_zero, ← EReal.coe_mul]
  norm_num

theorem sig_bot : sig ⊥ = 0 := by
  show Ideal.div one (one + ⊤) = 0
  unfold one
  rw [c_one, EReal.coe_add_top]
  simp [Ideal.div]

/-- The first gradient as the sum of the two terms of the product rule, where the second factor and the incoming gradient are
    real numbers; -/
theorem gluG_eq (g : EReal) {u d : EReal} (hu : IsR u) (hd : IsR d) :
    d * u * sig g + g * (d * u) * (sig g * (one - sig g)) = gluG g u d := by
  obtain ⟨u, rfl⟩ := hu
  obtain ⟨d, rfl⟩ := hd
  unfold gluG one
  rw [c_one]
  induction g with
  | bot => rw [sig_bot, mul_zero, zero_mul, zero_mul, mul_zero, mul_zero, add_zero]
  | top =>
    have e : (((1 : ℝ) : EReal) - 1) = 0 := by
      rw [← EReal.coe_one, ← EReal.coe_sub, sub_self, EReal.coe_zero]
    rw [sig_top, e, mul_zero, mul_zero, mul_zero, add_zero, add_zero, one_mul, EReal.coe_one]
  | coe g =>
    rw [sig_coe]
    simp only [← EReal.coe_mul, ← EReal.coe_add, ← EReal.coe_sub]
    refine congrArg _ ?_
    ring

theorem gluU_eq (g d : EReal) : g * sig g * d = gluU g d := by
  unfold gluU
  rw [mul_comm, mul_assoc]

/-- two branches merged by their gates, and the gradients of a branch and of a gate. -/
def mrg (a b x y : EReal) : EReal := sig x * a + sig y * b
def brn (d x : EReal) : EReal := d * sig x
def gat (d a x : EReal) : EReal := d * a * sig x * (one - sig x)

/-- The gradient of two halves side by side. -/
def side (q : ℕ) (P Q : ℕ → ℕ → EReal) (r c : ℕ) : EReal := if c < q then P r c else Q r (c - q)

/-- A block written as two halves. -/
theorem two {p q w : ℕ} (hw : w = q + q) {G : ℕ → ℕ → EReal} (h0 : ∀ a, (![0, 0] : Fin 2 → ℕ) a + (![p, q] : Fin 2 → ℕ) a ≤ (![p, w] : Fin 2 → ℕ) a)
    (h1 : ∀ a, (![0, q] : Fin 2 → ℕ) a + (![p, q] : Fin 2 → ℕ) a ≤ (![p, w] : Fin 2 → ℕ) a) {x z : FVec Ideal ⟨2, ![p, q]⟩ .bf16}
    (hx : ∀ (r : Fin p) (n : Fin q), x (ix2 r n) = G r.val n.val) (hz : ∀ (r : Fin p) (n : Fin q), z (ix2 r n) = G r.val (q + n.val))
    (r : Fin p) (n : Fin w) :
    View.canon [(⟨Rect.unit (s := ⟨2, ![p, w]⟩) ![0, q] ![p, q] h1, z⟩ : View.Piece (Elt Ideal) ⟨2, ![p, w]⟩ .bf16),
      ⟨Rect.unit (s := ⟨2, ![p, w]⟩) ![0, 0] ![p, q] h0, x⟩] (ix2 r n) = G r.val n.val := by
  let H : (⟨2, ![p, w]⟩ : Shape).Idx → Elt Ideal .bf16 := fun y => G (y 0).val (y 1).val
  have hL : View.PiecesOf H [(⟨Rect.unit (s := ⟨2, ![p, w]⟩) ![0, q] ![p, q] h1, z⟩ : View.Piece (Elt Ideal) ⟨2, ![p, w]⟩ .bf16),
      ⟨Rect.unit (s := ⟨2, ![p, w]⟩) ![0, 0] ![p, q] h0, x⟩] := by
    refine ⟨fun v => ?_, fun v => ?_, trivial⟩
    · change (⟨2, ![p, q]⟩ : Shape).Idx at v
      obtain ⟨i, j, rfl⟩ : ∃ (i : Fin p) (j : Fin q), v = ix2 i j := ⟨v 0, v 1, eq_ix2 v⟩
      refine (hz i j).trans ?_
      show _ = G (0 + 1 * i.val) (q + 1 * j.val)
      rw [Nat.zero_add, Nat.one_mul, Nat.one_mul]
    · change (⟨2, ![p, q]⟩ : Shape).Idx at v
      obtain ⟨i, j, rfl⟩ : ∃ (i : Fin p) (j : Fin q), v = ix2 i j := ⟨v 0, v 1, eq_ix2 v⟩
      refine (hx i j).trans ?_
      show _ = G (0 + 1 * i.val) (0 + 1 * j.val)
      rw [Nat.zero_add, Nat.one_mul, Nat.one_mul, Nat.zero_add]
  have hr := r.isLt
  have hn := n.isLt
  refine View.canon_apply_of_pieces H _ hL.mem (ix2 r n) ?_
  by_cases h : n.val < q
  · refine ⟨_, List.mem_cons_of_mem _ List.mem_cons_self, (Rect.mem_set_unit (inb := h0)).mpr fun a => ?_⟩
    match a with
    | ⟨0, _⟩ => show 0 ≤ r.val ∧ r.val < 0 + p; omega
    | ⟨1, _⟩ => show 0 ≤ n.val ∧ n.val < 0 + q; omega
  · refine ⟨_, List.mem_cons_self, (Rect.mem_set_unit (inb := h1)).mpr fun a => ?_⟩
    match a with
    | ⟨0, _⟩ => show 0 ≤ r.val ∧ r.val < 0 + p; omega
    | ⟨1, _⟩ => show q ≤ n.val ∧ n.val < q + q; omega

/-- The whole arrays of the gated product and of its gradient: the gate's half of the projection, then the other half. -/
def gluOf (H : ℕ → ℕ → EReal) (r c : ℕ) : EReal := glu (H r c) (H r (2816 + c))
def gluB (H D : ℕ → ℕ → EReal) : ℕ → ℕ → EReal :=
  side 2816 (fun r c => gluG (H r c) (H r (2816 + c)) (D r c)) fun r c => gluU (H r c) (D r c)

/-- The merged branches, the gates in the columns behind the first 4096, and the gradients. -/
def mrgOf (A B P : ℕ → ℕ → EReal) (r c : ℕ) : EReal := mrg (A r c) (B r c) (P r (4096 + c)) (P r (5120 + c))
def brnOf (D P : ℕ → ℕ → EReal) (k r c : ℕ) : EReal := brn (D r c) (P r (k + c))
def gatB (D A B P : ℕ → ℕ → EReal) : ℕ → ℕ → EReal :=
  side 1024 (fun r c => gat (D r c) (A r c) (P r (4096 + c))) fun r c => gat (D r c) (B r c) (P r (5120 + c))

theorem side_lt {q : ℕ} {P Q : ℕ → ℕ → EReal} {r c : ℕ} (h : c < q) : side q P Q r c = P r c := if_pos h
theorem side_add {q : ℕ} {P Q : ℕ → ℕ → EReal} {r c : ℕ} : side q P Q r (q + c) = Q r c := by
  unfold side
  rw [if_neg (by omega), Nat.add_sub_cancel_left]

end Cert.GT

end

end
-- ==== Proof.GateKernel.lean ====
module

public import proofs.«01_k».proof.Defs
public import proofs.«01_k».proof.Proof.Gen.SwigluIdeal.Value
public import proofs.«01_k».proof.Proof.Gen.SwigluBwdIdeal.Value
public import proofs.«01_k».proof.Proof.Gen.MergeIdeal.Value
public import proofs.«01_k».proof.Proof.Gen.MergeBwdIdeal.Frame
public import proofs.«01_k».proof.Proof.Gate
public import proofs.«01_k».proof.Proof.Head
public import Idealize.ShloMosaic.Lib.Pipeline.ValueKit
public import Idealize.ShloMosaic.Lib.Pipeline.ReadBack

/- The gate kernels: each grid point's results are those of its rows, and the grid covers the arrays. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT

namespace Cert.SwigluIdeal.GT

open Cert.SwigluIdeal.Gen

theorem i0 : ∀ t : Fin cfg0.N, win0_0.index t = ![t.val, 0] := (by decide +kernel : ∀ t : Fin grid0.N, _)
theorem i1 : ∀ t : Fin cfg0.N, win0_1.index t = ![t.val, 1] := (by decide +kernel : ∀ t : Fin grid0.N, _)
theorem i2 : ∀ t : Fin cfg0.N, win0_2.index t = ![t.val, 0] := (by decide +kernel : ∀ t : Fin grid0.N, _)

theorem pay (g u : Vec Ideal S512x2816 .bf16) (i : S512x2816.Idx) : k0_pay1 g u i = glu (g i) (u i) := by
  show g i * (half * Ideal.tanh (half * g i) + half) * u i = _
  rw [sig_tanh, glu]

variable (m : (ℓ : Loc nD τ sig) → Buf (Elt Ideal) ℓ) (c : Dev nD)

abbrev hs : ℕ → ℕ → EReal := at2 (a := 4096) (b := 5632) (m ((c : Thread nD τ).loc main_arg0))

theorem b0 (t : Fin cfg0.N) (r : Fin 512) (n : Fin 2816) : iblk m c 0 t (ix2 r n) = hs m c (512 * t.val + r.val) (2816 * 0 + n.val) :=
  blk (win0_0.rect_emb_val_off t) (i0 t) (fun _ => congrFun (V_main_arg0 m c) _) r n
theorem b1 (t : Fin cfg0.N) (r : Fin 512) (n : Fin 2816) : iblk m c 1 t (ix2 r n) = hs m c (512 * t.val + r.val) (2816 * 1 + n.val) :=
  blk (win0_1.rect_emb_val_off t) (i1 t) (fun _ => congrFun (V_main_arg0 m c) _) r n

/-- The gated product. -/
theorem arr2 : (dats m 0 c).arrAt 2 cfg0.N = fun j : S4096x2816.Idx => gluOf (hs m c) (j 0).val (j 1).val := by
  have hG : ∀ (t : Fin cfg0.N) (r : Fin 512) (n : Fin 2816), k0_pay1 (iblk m c 0 t) (iblk m c 1 t) (ix2 r n)
      = gluOf (hs m c) (512 * t.val + r.val) (2816 * 0 + n.val) := fun t r n => by
    refine (pay _ _ _).trans ?_
    rw [b0, b1]
    simp only [gluOf, Nat.mul_zero, Nat.zero_add, Nat.mul_one]
  generalize gluOf (hs m c) = G at hG ⊢
  refine (dats m 0 c).arrAt_eq_of_covers 2 _ (by decide +kernel) fun t hf j => ?_
  blk_simp
  rw [after0_2]
  frame_out
  exact Cert.AT.place (i2 t) (hG t) j

end Cert.SwigluIdeal.GT

namespace Cert.SwigluBwdIdeal.GT

open Cert.SwigluBwdIdeal.Gen

theorem i0 : ∀ t : Fin cfg0.N, win0_0.index t = ![t.val, 0] := (by decide +kernel : ∀ t : Fin grid0.N, _)
theorem i1 : ∀ t : Fin cfg0.N, win0_1.index t = ![t.val, 1] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 0] := (by decide +kernel : ∀ t : Fin grid0.N, _)

theorem payG (g d u : Vec Ideal S512x2816 .bf16) (i : S512x2816.Idx) : k0_pay4 g d u i = gluG (g i) (u i) (d i) := by
  show d i * u i * ((half * Ideal.tanh (half * g i) + half) * (one + g i * (one - (half * Ideal.tanh (half * g i) + half)))) = _
  rw [sig_tanh, gluG]

theorem payU (g d : Vec Ideal S512x2816 .bf16) (i : S512x2816.Idx) : k0_pay5 g d i = gluU (g i) (d i) := by
  show d i * g i * (half * Ideal.tanh (half * g i) + half) = _
  rw [sig_tanh, gluU]

variable (m : (ℓ : Loc nD τ sig) → Buf (Elt Ideal) ℓ) (c : Dev nD)

abbrev hs : ℕ → ℕ → EReal := at2 (a := 4096) (b := 5632) (m ((c : Thread nD τ).loc main_arg0))
abbrev ds : ℕ → ℕ → EReal := at2 (a := 4096) (b := 2816) (m ((c : Thread nD τ).loc main_arg1))

theorem b0 (t : Fin cfg0.N) (r : Fin 512) (n : Fin 2816) : iblk m c 0 t (ix2 r n) = hs m c (512 * t.val + r.val) (2816 * 0 + n.val) :=
  blk (win0_0.rect_emb_val_off t) (i0 t) (fun _ => congrFun (V_main_arg0 m c) _) r n
theorem b1 (t : Fin cfg0.N) (r : Fin 512) (n : Fin 2816) : iblk m c 1 t (ix2 r n) = hs m c (512 * t.val + r.val) (2816 * 1 + n.val) :=
  blk (win0_1.rect_emb_val_off t) (i1 t) (fun _ => congrFun (V_main_arg0 m c) _) r n
theorem b2 (t : Fin cfg0.N) (r : Fin 512) (n : Fin 2816) : iblk m c 2 t (ix2 r n) = ds m c (512 * t.val + r.val) (2816 * 0 + n.val) :=
  blk (win0_2.rect_emb_val_off t) (i2 t) (fun _ => congrFun (V_main_arg1 m c) _) r n

/-- The gradient of the two halves of the projection. -/
theorem arr3 : (dats m 0 c).arrAt 3 cfg0.N = fun j : S4096x5632.Idx => gluB (hs m c) (ds m c) (j 0).val (j 1).val := by
  have hx : ∀ (t : Fin cfg0.N) (r : Fin 512) (n : Fin 2816), k0_pay4 (iblk m c 0 t) (iblk m c 2 t) (iblk m c 1 t) (ix2 r n)
      = gluB (hs m c) (ds m c) (512 * t.val + r.val) (5632 * 0 + n.val) := fun t r n => by
    refine (payG _ _ _ _).trans ?_
    rw [b0, b1, b2, Nat.mul_zero, Nat.zero_add, gluB, side_lt n.isLt]
  have hz : ∀ (t : Fin cfg0.N) (r : Fin 512) (n : Fin 2816), k0_pay5 (iblk m c 0 t) (iblk m c 2 t) (ix2 r n)
      = gluB (hs m c) (ds m c) (512 * t.val + r.val) (5632 * 0 + (2816 + n.val)) := fun t r n => by
    refine (payU _ _ _).trans ?_
    rw [b0, b2, Nat.mul_zero, Nat.zero_add, Nat.zero_add, gluB, side_add]
  generalize gluB (hs m c) (ds m c) = G at hx hz ⊢
  refine (dats m 0 c).arrAt_eq_of_covers 3 _ (by decide +kernel) fun t hf j => ?_
  blk_simp
  rw [after0_3]
  frame_out
  exact Cert.AT.place (i3 t) (fun r n => two (G := fun r n => G (512 * t.val + r) (5632 * 0 + n)) rfl _ _ (hx t) (hz t) r n) j

end Cert.SwigluBwdIdeal.GT

namespace Cert.MergeIdeal.GT

open Cert.MergeIdeal.Gen

variable (m : (ℓ : Loc nD τ sig) → Buf (Elt Ideal) ℓ) (c : Dev nD)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 4] := (by decide +kernel : ∀ t : Fin grid0.N, _)
theorem i3 : ∀ t : Fin cfg0.N, win0_3.index t = ![t.val, 5] := (by decide +kernel : ∀ t : Fin grid0.N, _)
theorem i4 : ∀ t : Fin cfg0.N, win0_4.index t = ![t.val, 0] := (by decide +kernel : ∀ t : Fin grid0.N, _)

theorem pay (x a y b : Vec Ideal S1024x1024 .bf16) (i : S1024x1024.Idx) : k0_pay1 x a y b i = mrg (a i) (b i) (x i) (y i) := by
  show (half * Ideal.tanh (half * x i) + half) * a i + (half * Ideal.tanh (half * y i) + half) * b i = _
  rw [sig_tanh, sig_tanh, mrg]

abbrev xs : ℕ → ℕ → EReal := at2 (a := 4096) (b := 1024) (m ((c : Thread nD τ).loc main_arg0))
abbrev bs : ℕ → ℕ → EReal := at2 (a := 4096) (b := 1024) (m ((c : Thread nD τ).loc main_arg1))
abbrev ps : ℕ → ℕ → EReal := at2 (a := 4096) (b := 9216) (m ((c : Thread nD τ).loc main_arg2))

theorem b0 (t : Fin cfg0.N) (r n : Fin 1024) : iblk m c 0 t (ix2 r n) = xs m c (1024 * t.val + r.val) (1024 * 0 + n.val) :=
  blk (win0_0.rect_emb_val_off t) (i0 t) (fun _ => congrFun (V_main_arg0 m c) _) r n
theorem b1 (t : Fin cfg0.N) (r n : Fin 1024) : iblk m c 1 t (ix2 r n) = bs m c (1024 * t.val + r.val) (1024 * 0 + n.val) :=
  blk (win0_1.rect_emb_val_off t) (i1 t) (fun _ => congrFun (V_main_arg1 m c) _) r n
theorem b2 (t : Fin cfg0.N) (r n : Fin 1024) : iblk m c 2 t (ix2 r n) = ps m c (1024 * t.val + r.val) (1024 * 4 + n.val) :=
  blk (win0_2.rect_emb_val_off t) (i2 t) (fun _ => congrFun (V_main_arg2 m c) _) r n
theorem b3 (t : Fin cfg0.N) (r n : Fin 1024) : iblk m c 3 t (ix2 r n) = ps m c (1024 * t.val + r.val) (1024 * 5 + n.val) :=
  blk (win0_3.rect_emb_val_off t) (i3 t) (fun _ => congrFun (V_main_arg2 m c) _) r n

/-- The merged branches. -/
theorem arr4 : (dats m 0 c).arrAt 4 cfg0.N = fun j : S4096x1024.Idx => mrgOf (xs m c) (bs m c) (ps m c) (j 0).val (j 1).val := by
  have hG : ∀ (t : Fin cfg0.N) (r n : Fin 1024), k0_pay1 (iblk m c 2 t) (iblk m c 0 t) (iblk m c 3 t) (iblk m c 1 t) (ix2 r n)
      = mrgOf (xs m c) (bs m c) (ps m c) (1024 * t.val + r.val) (1024 * 0 + n.val) := fun t r n => by
    refine (pay _ _ _ _ _).trans ?_
    rw [b0, b1, b2, b3, Nat.mul_zero, Nat.zero_add, mrgOf]
  generalize mrgOf (xs m c) (bs m c) (ps m c) = G at hG ⊢
  refine (dats m 0 c).arrAt_eq_of_covers 4 _ (by decide +kernel) fun t hf j => ?_
  blk_simp
  rw [after0_4]
  frame_out
  exact Cert.AT.place (i4 t) (hG t) j

end Cert.MergeIdeal.GT

namespace Cert.MergeBwdIdeal.GT

open Cert.MergeBwdIdeal.Gen

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![t.val, 4] := (by decide +kernel : ∀ t : Fin grid0.N, _)
theorem i4 : ∀ t : Fin cfg0.N, win0_4.index t = ![t.val, 5] := (by decide +kernel : ∀ t : Fin grid0.N, _)
theorem i5 : ∀ t : Fin cfg0.N, win0_5.index t = ![t.val, 0] := (by decide +kernel : ∀ t : Fin grid0.N, _)
theorem i6 : ∀ t : Fin cfg0.N, win0_6.index t = ![t.val, 0] := (by decide +kernel : ∀ t : Fin grid0.N, _)
theorem i7 : ∀ t : Fin cfg0.N, win0_7.index t = ![t.val, 2] := (by decide +kernel : ∀ t : Fin grid0.N, _)

theorem pay5 (d x : Vec Ideal S1024x1024 .bf16) (i : S1024x1024.Idx) : k0_pay5 d x i = brn (d i) (x i) := by
  show d i * (half * Ideal.tanh (half * x i) + half) = _
  rw [sig_tanh, brn]

theorem pay6 (d x : Vec Ideal S1024x1024 .bf16) (i : S1024x1024.Idx) : k0_pay6 d x i = brn (d i) (x i) := by
  show d i * (half * Ideal.tanh (half * x i) + half) = _
  rw [sig_tanh, brn]

theorem pay7 (d x a : Vec Ideal S1024x1024 .bf16) (i : S1024x1024.Idx) : k0_pay7 d x a i = gat (d i) (a i) (x i) := by
  show d i * a i * (half * Ideal.tanh (half * x i) + half) * (one - (half * Ideal.tanh (half * x i) + half)) = _
  rw [sig_tanh, gat]

theorem pay1 (d x a : Vec Ideal S1024x1024 .bf16) (i : S1024x1024.Idx) : k0_pay1 (k0_pay2 d) (k0_pay4 x) a i = gat (d i) (a i) (x i) := by
  show d i * a i * (half * Ideal.tanh (half * x i) + half) * (one - (half * Ideal.tanh (half * x i) + half)) = _
  rw [sig_tanh, gat]

variable (m : (ℓ : Loc nD τ sig) → Buf (Elt Ideal) ℓ) (c : Dev nD)

abbrev ds : ℕ → ℕ → EReal := at2 (a := 4096) (b := 1024) (m ((c : Thread nD τ).loc main_arg0))
abbrev xs : ℕ → ℕ → EReal := at2 (a := 4096) (b := 1024) (m ((c : Thread nD τ).loc main_arg1))
abbrev bs : ℕ → ℕ → EReal := at2 (a := 4096) (b := 1024) (m ((c : Thread nD τ).loc main_arg2))
abbrev ps : ℕ → ℕ → EReal := at2 (a := 4096) (b := 9216) (m ((c : Thread nD τ).loc main_arg3))

theorem b0 (t : Fin cfg0.N) (r n : Fin 1024) : iblk m c 0 t (ix2 r n) = ds m c (1024 * t.val + r.val) (1024 * 0 + n.val) :=
  blk (win0_0.rect_emb_val_off t) (i0 t) (fun _ => congrFun (V_main_arg0 m c) _) r n
theorem b1 (t : Fin cfg0.N) (r n : Fin 1024) : iblk m c 1 t (ix2 r n) = xs m c (1024 * t.val + r.val) (1024 * 0 + n.val) :=
  blk (win0_1.rect_emb_val_off t) (i1 t) (fun _ => congrFun (V_main_arg1 m c) _) r n
theorem b2 (t : Fin cfg0.N) (r n : Fin 1024) : iblk m c 2 t (ix2 r n) = bs m c (1024 * t.val + r.val) (1024 * 0 + n.val) :=
  blk (win0_2.rect_emb_val_off t) (i2 t) (fun _ => congrFun (V_main_arg2 m c) _) r n
theorem b3 (t : Fin cfg0.N) (r n : Fin 1024) : iblk m c 3 t (ix2 r n) = ps m c (1024 * t.val + r.val) (1024 * 4 + n.val) :=
  blk (win0_3.rect_emb_val_off t) (i3 t) (fun _ => congrFun (V_main_arg3 m c) _) r n
theorem b4 (t : Fin cfg0.N) (r n : Fin 1024) : iblk m c 4 t (ix2 r n) = ps m c (1024 * t.val + r.val) (1024 * 5 + n.val) :=
  blk (win0_4.rect_emb_val_off t) (i4 t) (fun _ => congrFun (V_main_arg3 m c) _) r n

/-- The gradients of the two branches -/
theorem arr5 : (dats m 0 c).arrAt 5 cfg0.N = fun j : S4096x1024.Idx => brnOf (ds m c) (ps m c) 4096 (j 0).val (j 1).val := by
  have hG : ∀ (t : Fin cfg0.N) (r n : Fin 1024), k0_pay5 (iblk m c 0 t) (iblk m c 3 t) (ix2 r n)
      = brnOf (ds m c) (ps m c) 4096 (1024 * t.val + r.val) (1024 * 0 + n.val) := fun t r n => by
    refine (pay5 _ _ _).trans ?_
    rw [b0, b3, Nat.mul_zero, Nat.zero_add, brnOf]
  generalize brnOf (ds m c) (ps m c) 4096 = G at hG ⊢
  refine (dats m 0 c).arrAt_eq_of_covers 5 _ (by decide +kernel) fun t hf j => ?_
  blk_simp
  rw [after0_5]
  frame_out
  exact Cert.AT.place (i5 t) (hG t) j

theorem arr6 : (dats m 0 c).arrAt 6 cfg0.N = fun j : S4096x1024.Idx => brnOf (ds m c) (ps m c) 5120 (j 0).val (j 1).val := by
  have hG : ∀ (t : Fin cfg0.N) (r n : Fin 1024), k0_pay6 (iblk m c 0 t) (iblk m c 4 t) (ix2 r n)
      = brnOf (ds m c) (ps m c) 5120 (1024 * t.val + r.val) (1024 * 0 + n.val) := fun t r n => by
    refine (pay6 _ _ _).trans ?_
    rw [b0, b4, Nat.mul_zero, Nat.zero_add, brnOf]
  generalize brnOf (ds m c) (ps m c) 5120 = G at hG ⊢
  refine (dats m 0 c).arrAt_eq_of_covers 6 _ (by decide +kernel) fun t hf j => ?_
  blk_simp
  rw [after0_6]
  frame_out
  exact Cert.AT.place (i6 t) (hG t) j

/-- A point's block of the gates' gradients, -/
theorem o7 (t : Fin cfg0.N) (j : S1024x2048.Idx) : out0_7 (iblk m c 0 t) (iblk m c 1 t) (iblk m c 2 t) (iblk m c 3 t) (iblk m c 4 t) j
    = gatB (ds m c) (xs m c) (bs m c) (ps m c) (1024 * t.val + (j 0).val) (j 1).val := by
  have hx : ∀ (r n : Fin 1024), k0_pay7 (iblk m c 0 t) (iblk m c 3 t) (iblk m c 1 t) (ix2 r n)
      = gatB (ds m c) (xs m c) (bs m c) (ps m c) (1024 * t.val + r.val) n.val := fun r n => by
    refine (pay7 _ _ _ _).trans ?_
    rw [b0, b1, b3, Nat.mul_zero, Nat.zero_add, gatB, side_lt n.isLt]
  have hz : ∀ (r n : Fin 1024), k0_pay1 (k0_pay2 (iblk m c 0 t)) (k0_pay4 (iblk m c 4 t)) (iblk m c 2 t) (ix2 r n)
      = gatB (ds m c) (xs m c) (bs m c) (ps m c) (1024 * t.val + r.val) (1024 + n.val) := fun r n => by
    refine (pay1 _ _ _ _).trans ?_
    rw [b0, b2, b4, Nat.mul_zero, Nat.zero_add, gatB, side_add]
  generalize gatB (ds m c) (xs m c) (bs m c) (ps m c) = G at hx hz ⊢
  frame_out
  exact (congrArg _ (eq_ix2 j)).trans (two (G := fun r n => G (1024 * t.val + r) n) rfl _ _ hx hz (j 0) (j 1))

/-- and the gates' columns of the third array. -/
theorem arr7 (y : S4096x9216.Idx) (h0 : 4096 ≤ (y 1).val) (h1 : (y 1).val < 6144) :
    (dats m 0 c).arrAt 7 cfg0.N y = gatB (ds m c) (xs m c) (bs m c) (ps m c) (y 0).val ((y 1).val - 4096) := by
  refine ((dats m 0 c).arrAt_apply_of_coversWhere 7 (fun y : S4096x9216.Idx => gatB (ds m c) (xs m c) (bs m c) (ps m c) (y 0).val ((y 1).val - 4096))
    (P := fun y : S4096x9216.Idx => 4096 ≤ (y 1).val ∧ (y 1).val < 6144) (fun q => q 1 = 2) (by decide +kernel) (fun t _ j => ?_) (fun j => ?_) y).trans (if_pos ⟨h0, h1⟩)
  · blk_simp
    rw [after0_7]
    refine (o7 m c t _).trans ?_
    rw [i7]
    show gatB _ _ _ _ (1024 * t.val + (j 0).val) (j 1).val = gatB _ _ _ _ (t.val * 1024 + (j 0).val) (4096 + (j 1).val - 4096)
    rw [Nat.mul_comm t.val, Nat.add_sub_cancel_left]
  · blk_simp [Pipeline.Window.cell_apply]
    omega

/-- The slice of the third array that holds the gates' columns. -/
abbrev cols (x : FVec Ideal S4096x9216 .bf16) : FVec Ideal S4096x2048 .bf16 := extractStridedSlice S4096x2048 ![0, 4096] x (by decide)

theorem cols_apply (y : S4096x2048.Idx) : cols ((dats m 0 c).arrAt 7 cfg0.N) y = gatB (ds m c) (xs m c) (bs m c) (ps m c) (y 0).val (y 1).val := by
  have hy : (y 1).val < 2048 := (y 1).isLt
  have hy0 : (y 0).val < 4096 := (y 0).isLt
  let i : S4096x9216.Idx := ix2 (⟨(y 0).val, hy0⟩ : Fin 4096) (⟨4096 + (y 1).val, by omega⟩ : Fin 9216)
  refine (extractStridedSlice_apply ![0, 4096] _ _ y i fun a => ?_).trans ?_
  · match a with
    | ⟨0, _⟩ => exact (Nat.zero_add _).symm
    | ⟨1, _⟩ => rfl
  · refine (arr7 m c i (Nat.le_add_right _ _) ?_).trans ?_
    · show 4096 + (y 1).val < 6144
      omega
    · show gatB _ _ _ _ (y 0).val (4096 + (y 1).val - 4096) = _
      rw [Nat.add_sub_cancel_left]

/-- The run: the branches' gradients, the gates' columns, and the arguments kept. -/
theorem run (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v1) = cols ((dats m 0 c).arrAt 7 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 5, (h c).1 6,
      ((h c).2 main_v1 (Pipeline.mem_restRefs_of _ rfl (by decide))).trans (by
        unfold Pipeline.afterTail₀
        have e := (dats m 0 c).withArrays_arrAt launch₀0.sharedIn (V0 m c) (A_eq m c) 7
        after_results
        exact congrArg cols e),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c)))⟩)
    (run_main m ρ)

end Cert.MergeBwdIdeal.GT

end

end
-- ==== Proof.GateRef.lean ====
module

public import proofs.«01_k».proof.Proof.Gen.SwigluRefIdeal.Read
public import proofs.«01_k».proof.Proof.Gen.SwigluBwdRefIdeal.Read
public import proofs.«01_k».proof.Proof.Gen.MergeRefIdeal.Read
public import proofs.«01_k».proof.Proof.Gen.MergeBwdRefIdeal.Read
public import proofs.«01_k».proof.Proof.Gate
public import proofs.«01_k».proof.Proof.HeadRef

/- The gates' references read at an index. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT

namespace Cert.GT

open Cert.AttnBwdRefIdeal.AT

/-- Two arrays side by side. -/
theorem cat {p q w : ℕ} (hw : w = q + q) {P Q : ℕ → ℕ → EReal} {x z : FVec Ideal ⟨2, ![p, q]⟩ .f32}
    (h : Shape.Concatenates (([⟨⟨2, ![p, q]⟩, x⟩, ⟨⟨2, ![p, q]⟩, z⟩] : List ((s : Shape) × FVec Ideal s .f32)).map (·.1)) ⟨2, ![p, w]⟩ 1)
    (hx : ∀ i : (⟨2, ![p, q]⟩ : Shape).Idx, x i = P (i 0).val (i 1).val) (hz : ∀ i : (⟨2, ![p, q]⟩ : Shape).Idx, z i = Q (i 0).val (i 1).val)
    (y : (⟨2, ![p, w]⟩ : Shape).Idx) : concatenate ⟨2, ![p, w]⟩ 1 [⟨⟨2, ![p, q]⟩, x⟩, ⟨⟨2, ![p, q]⟩, z⟩] h y = side q P Q (y 0).val (y 1).val := by
  have hy : (y 1).val < w := (y 1).isLt
  unfold side
  by_cases hc : (y 1).val < q
  · rw [if_pos hc]
    refine (concatenate_pair_apply_left (t := ⟨2, ![p, w]⟩) (s₁ := ⟨2, ![p, q]⟩) (s₂ := ⟨2, ![p, q]⟩) (1 : Fin 2) _ _ _ y rfl
      (ix2 (y 0) (⟨(y 1).val, hc⟩ : Fin q)) fun b => ?_).trans (hx _)
    match b with
    | ⟨0, _⟩ => rfl
    | ⟨1, _⟩ => rfl
  · rw [if_neg hc]
    have h3 : (y 1).val - q < q := by omega
    refine (concatenate_pair_apply_right (t := ⟨2, ![p, w]⟩) (s₁ := ⟨2, ![p, q]⟩) (s₂ := ⟨2, ![p, q]⟩) (1 : Fin 2) _ _ _ y rfl rfl
      (ix2 (y 0) (⟨(y 1).val - q, h3⟩ : Fin q)) (fun b hb => ?_) ?_).trans (hz _)
    · match b with
      | ⟨0, _⟩ => rfl
      | ⟨1, _⟩ => exact absurd rfl hb
    · show (y 1).val - q + q = (y 1).val
      omega

end Cert.GT

namespace Cert.SwigluRefIdeal.GT

open Cert.SwigluRefIdeal.Gen Cert.SwigluRefIdeal.Read Cert.AttnBwdRefIdeal.AT

variable (x0 : FVec Ideal S4096x5632 .bf16)

theorem v1 (i : S4096x2816.Idx) : val_main_v1 (F := Ideal) x0 i = at2 x0 (i 0).val (i 1).val :=
  (val_main_v1_apply (F := Ideal) x0 i).trans (at2_place x0 _ rfl rfl)

theorem v2 (i : S4096x2816.Idx) : val_main_v2 (F := Ideal) x0 i = at2 x0 (i 0).val (2816 + (i 1).val) :=
  (val_main_v2_apply (F := Ideal) x0 i).trans (at2_place x0 _ rfl rfl)

theorem v5 (i : S4096x2816.Idx) : val_main_v5 (F := Ideal) x0 i = gluOf (at2 x0) (i 0).val (i 1).val := by
  show val_main_v1 (F := Ideal) x0 i * Cert.GT.sig (val_main_v1 (F := Ideal) x0 i) * val_main_v2 (F := Ideal) x0 i = _
  rw [v1, v2, gluOf, glu]

end Cert.SwigluRefIdeal.GT

namespace Cert.SwigluBwdRefIdeal.GT

open Cert.SwigluBwdRefIdeal.Gen Cert.SwigluBwdRefIdeal.Read Cert.AttnBwdRefIdeal.AT

variable (x0 : FVec Ideal S4096x5632 .bf16) (x1 : FVec Ideal S4096x2816 .bf16)

theorem v1 (i : S4096x2816.Idx) : val_main_v1 (F := Ideal) x0 i = at2 x0 (i 0).val (i 1).val :=
  (val_main_v1_apply (F := Ideal) x0 i).trans (at2_place x0 _ rfl rfl)

theorem v2 (i : S4096x2816.Idx) : val_main_v2 (F := Ideal) x0 i = at2 x0 (i 0).val (2816 + (i 1).val) :=
  (val_main_v2_apply (F := Ideal) x0 i).trans (at2_place x0 _ rfl rfl)

theorem v10 (h0 : ∀ i, IsR (val_main_v2 (F := Ideal) x0 i)) (h1 : ∀ i, IsR (x1 i)) (y : S4096x5632.Idx) :
    val_main_v10 (F := Ideal) x0 x1 y = gluB (at2 x0) (at2 x1) (y 0).val (y 1).val := by
  refine cat (p := 4096) (q := 2816) (w := 5632) rfl Cert.SwigluBwdRefIdeal.Gen.facts.concatenates_S4096x2816_S4096x2816_S4096x5632_d1 (fun i => ?_) (fun i => ?_) y
  · show x1 i * val_main_v2 (F := Ideal) x0 i * Cert.GT.sig (val_main_v1 (F := Ideal) x0 i)
      + val_main_v1 (F := Ideal) x0 i * (x1 i * val_main_v2 (F := Ideal) x0 i) * (Cert.GT.sig (val_main_v1 (F := Ideal) x0 i) * (one - Cert.GT.sig (val_main_v1 (F := Ideal) x0 i))) = _
    refine (gluG_eq _ (h0 i) (h1 i)).trans ?_
    rw [v1, v2, at2_place x1 i rfl rfl]
  · show val_main_v1 (F := Ideal) x0 i * Cert.GT.sig (val_main_v1 (F := Ideal) x0 i) * x1 i = _
    rw [v1, at2_place x1 i rfl rfl]
    exact gluU_eq _ _

end Cert.SwigluBwdRefIdeal.GT

namespace Cert.MergeRefIdeal.GT

open Cert.MergeRefIdeal.Gen Cert.MergeRefIdeal.Read Cert.AttnBwdRefIdeal.AT

variable (x0 x1 : FVec Ideal S4096x1024 .bf16) (x2 : FVec Ideal S4096x9216 .bf16)

theorem v21 (i : S4096x1024.Idx) : val_main_v21 (F := Ideal) x0 x1 x2 i = mrgOf (at2 x0) (at2 x1) (at2 x2) (i 0).val (i 1).val := by
  show Cert.GT.sig (val_main_v2 (F := Ideal) x2 i) * x0 i + Cert.GT.sig (val_main_v4 (F := Ideal) x2 i) * x1 i = _
  rw [val_main_v2_apply, val_main_v4_apply, at2_place x0 i rfl rfl, at2_place x1 i rfl rfl, at2_place x2 (idx_main_v2 i) rfl rfl,
    at2_place x2 (idx_main_v4 i) rfl rfl, mrgOf, mrg]

end Cert.MergeRefIdeal.GT

namespace Cert.MergeBwdRefIdeal.GT

open Cert.MergeBwdRefIdeal.Gen Cert.MergeBwdRefIdeal.Read Cert.AttnBwdRefIdeal.AT

variable (x0 x1 x2 : FVec Ideal S4096x1024 .bf16) (x3 : FVec Ideal S4096x9216 .bf16)

theorem v2 (i : S4096x1024.Idx) : val_main_v2 (F := Ideal) x3 i = at2 x3 (i 0).val (4096 + (i 1).val) :=
  (val_main_v2_apply (F := Ideal) x3 i).trans (at2_place x3 _ rfl rfl)

theorem v4 (i : S4096x1024.Idx) : val_main_v4 (F := Ideal) x3 i = at2 x3 (i 0).val (5120 + (i 1).val) :=
  (val_main_v4_apply (F := Ideal) x3 i).trans (at2_place x3 _ rfl rfl)

theorem v34 (i : S4096x1024.Idx) : val_main_v34 (F := Ideal) x0 x3 i = brnOf (at2 x0) (at2 x3) 4096 (i 0).val (i 1).val := by
  show Cert.GT.sig (val_main_v2 (F := Ideal) x3 i) * x0 i = _
  rw [v2, at2_place x0 i rfl rfl, brnOf, brn, mul_comm]

theorem v35 (i : S4096x1024.Idx) : val_main_v35 (F := Ideal) x0 x3 i = brnOf (at2 x0) (at2 x3) 5120 (i 0).val (i 1).val := by
  show Cert.GT.sig (val_main_v4 (F := Ideal) x3 i) * x0 i = _
  rw [v4, at2_place x0 i rfl rfl, brnOf, brn, mul_comm]

theorem v37 (y : S4096x2048.Idx) : val_main_v37 (F := Ideal) x0 x1 x2 x3 y = gatB (at2 x0) (at2 x1) (at2 x2) (at2 x3) (y 0).val (y 1).val := by
  refine cat (p := 4096) (q := 1024) (w := 2048) rfl Cert.MergeBwdRefIdeal.Gen.facts.concatenates_S4096x1024_S4096x1024_S4096x2048_d1 (fun i => ?_) (fun i => ?_) y
  · show x0 i * x1 i * (Cert.GT.sig (val_main_v2 (F := Ideal) x3 i) * (one - Cert.GT.sig (val_main_v2 (F := Ideal) x3 i))) = _
    rw [v2, at2_place x0 i rfl rfl, at2_place x1 i rfl rfl, gat]
    exact (mul_assoc _ _ _).symm
  · show x0 i * x2 i * (Cert.GT.sig (val_main_v4 (F := Ideal) x3 i) * (one - Cert.GT.sig (val_main_v4 (F := Ideal) x3 i))) = _
    rw [v4, at2_place x0 i rfl rfl, at2_place x2 i rfl rfl, gat]
    exact (mul_assoc _ _ _).symm

end Cert.MergeBwdRefIdeal.GT

end

end
-- ==== Proof.GateSame.lean ====
module

public import proofs.«01_k».proof.Pre_real_hidden
public import proofs.«01_k».proof.Proof.Pre
public import proofs.«01_k».proof.Proof.GateKernel
public import proofs.«01_k».proof.Proof.GateRef
public import proofs.«01_k».proof.Proof.Gen.SwigluRefIdeal.Run
public import proofs.«01_k».proof.Proof.Gen.SwigluBwdRefIdeal.Run
public import proofs.«01_k».proof.Proof.Gen.MergeRefIdeal.Run
public import proofs.«01_k».proof.Proof.Gen.MergeBwdRefIdeal.Run

/- The gates, forward and backward: kernel and reference end with the same arrays; the gated product's backward where the
   entries of the projection's second half and of the incoming gradient are real numbers. -/

@[expose] public section

set_option maxRecDepth 16384

noncomputable section

open Idealize.ShloMosaic Idealize.ShloMosaic.TcCoe
open Idealize.SL Idealize.SL.Sem Cert.SG Cert.MM

namespace Cert.Pre_real_hidden

theorem facts : Facts where
  slices_S4096x5632_S4096x2816_0_2816 := by decide
  bitsLt_bf16_f32 := by decide
  bcast_S_S4096x2816 := by decide
  reducesTo_S4096x2816_S_d0_1 := by decide
  h_S_ := by decide

variable [Facts]

/-- What the precondition says. -/
theorem decode (x0 : FVec Ideal S4096x5632 .bf16) (x1 : FVec Ideal S4096x2816 .bf16) (h : fn (F := Ideal) x0 x1 = fun _ => 1#1) :
    (∀ i, IsR (extractStridedSlice S4096x2816 ![0, 2816] x0 Facts.slices_S4096x5632_S4096x2816_0_2816 i)) ∧ ∀ i, IsR (x1 i) := by
  haveI := Cert.Pre_finite.facts
  have h := congrFun h (fun k => k.elim0)
  dsimp only [fn] at h
  obtain ⟨h0, h1⟩ := Cert.Pre_finite.andi_split h
  exact ⟨Cert.Pre_finite.all_isR _ _ _ h0, Cert.Pre_finite.all_isR _ _ _ h1⟩

end Cert.Pre_real_hidden

namespace Cert.GT

theorem glu_same : Cert.algebraic_SwigluIdeal_SwigluRefIdeal (hSwigluIdeal := Cert.SwigluIdeal.Gen.facts) (hSwigluRefIdeal := Cert.SwigluRefIdeal.Gen.facts) :=
  fun m g m' g' _ hm => agree (Cert.SwigluIdeal.Value.run_blocks m g) (θ_run _ _ _).mono (Cert.SwigluRefIdeal.Value.run m' g') fun c => by
    rw [hm c, Cert.SwigluIdeal.GT.arr2 m c]
    exact funext fun y => Cert.SwigluRefIdeal.GT.v5 _ y

theorem glu_bwd_same : Cert.algebraic_SwigluBwdIdeal_SwigluBwdRefIdeal_pre_real_hidden (hSwigluBwdIdeal := Cert.SwigluBwdIdeal.Gen.facts)
    (hSwigluBwdRefIdeal := Cert.SwigluBwdRefIdeal.Gen.facts) (hPre_real_hidden := Cert.Pre_real_hidden.facts) :=
  fun m g m' g' hp hm => agree (Cert.SwigluBwdIdeal.Value.run_blocks m g) (θ_run _ _ _).mono (Cert.SwigluBwdRefIdeal.Value.run m' g') fun c => by
    obtain ⟨h0, h1⟩ := @Cert.Pre_real_hidden.decode Cert.Pre_real_hidden.facts _ _ (hp c)
    rw [(hm c).1, (hm c).2, Cert.SwigluBwdIdeal.GT.arr3 m c]
    exact funext fun y => Cert.SwigluBwdRefIdeal.GT.v10 _ _ h0 h1 y

theorem mrg_same : Cert.algebraic_MergeIdeal_MergeRefIdeal (hMergeIdeal := Cert.MergeIdeal.Gen.facts) (hMergeRefIdeal := Cert.MergeRefIdeal.Gen.facts) :=
  fun m g m' g' _ hm => agree (Cert.MergeIdeal.Value.run_blocks m g) (θ_run _ _ _).mono (Cert.MergeRefIdeal.Value.run m' g') fun c => by
    rw [(hm c).1, (hm c).2.1, (hm c).2.2, Cert.MergeIdeal.GT.arr4 m c]
    exact funext fun y => Cert.MergeRefIdeal.GT.v21 _ _ _ y

theorem mrg_bwd_same : Cert.algebraic_MergeBwdIdeal_MergeBwdRefIdeal (hMergeBwdIdeal := Cert.MergeBwdIdeal.Gen.facts)
    (hMergeBwdRefIdeal := Cert.MergeBwdRefIdeal.Gen.facts) := by
  intro m g m' g' _ hm
  refine ⟨_, _, _, Cert.MergeBwdIdeal.GT.run m g, ?_⟩
  refine (θ_run _ _ _).mono (fun r h c => ?_) (Cert.MergeBwdRefIdeal.Value.run m' g')
  obtain ⟨r0, r1, r2, rest⟩ := h c
  obtain ⟨e0, e1, e2, e3⟩ := hm c
  refine ⟨(r0.trans (Cert.MergeBwdRefIdeal.Read.val_main_v34_eq _ _)).trans ?_, (r1.trans (Cert.MergeBwdRefIdeal.Read.val_main_v35_eq _ _)).trans ?_,
    (r2.trans (Cert.MergeBwdRefIdeal.Read.val_main_v37_eq _ _ _ _)).trans ?_, rest⟩
  · rw [e0, e3, Cert.MergeBwdIdeal.GT.arr5 m c]
    exact funext fun y => Cert.MergeBwdRefIdeal.GT.v34 _ _ y
  · rw [e0, e3, Cert.MergeBwdIdeal.GT.arr6 m c]
    exact funext fun y => Cert.MergeBwdRefIdeal.GT.v35 _ _ y
  · rw [e0, e1, e2, e3]
    exact funext fun y => (Cert.MergeBwdRefIdeal.GT.v37 _ _ _ _ y).trans (Cert.MergeBwdIdeal.GT.cols_apply m c y).symm

end Cert.GT

end

end
-- ==== Proof.Conv.lean ====
module

public import proofs.«01_k».proof.Proof.Gate
public import proofs.«01_k».proof.Proof.Head
public import Idealize.ShloMosaic.Lib.KernelVsHost
public import Idealize.ShloMosaic.Lib.WordCmp
public import Idealize.ShloMosaic.Lib.Pipeline.ValueKit
public import Idealize.ShloMosaic.Lib.Pipeline.ReadBack

/- The convolution over the positions of a sequence: its four taps, the rows it reads, its gradients, and a tile of rows
   moved by the kernels' masked rotations. Rows 0 to 2047 are the first sequence's positions and rows 2048 to 4095 the
   second's. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT

namespace Cert.CV

/-- The row `k` positions before, or after, in the same sequence; zero outside it. -/
def back (G : ℕ → ℕ → EReal) (k r c : ℕ) : EReal := if k ≤ r % 2048 then G (r - k) c else 0
def ahead (G : ℕ → ℕ → EReal) (k r c : ℕ) : EReal := if r % 2048 + k < 2048 then G (r + k) c else 0

theorem back_zero (G : ℕ → ℕ → EReal) (r c : ℕ) : back G 0 r c = G r c := if_pos (Nat.zero_le _)

/-- The convolution with its bias, and its activation. -/
def pre (X W : ℕ → ℕ → EReal) (b : ℕ → EReal) (r c : ℕ) : EReal :=
  b c + back X 3 r c * W 0 c + back X 2 r c * W 1 c + back X 1 r c * W 2 c + X r c * W 3 c
def act (X W : ℕ → ℕ → EReal) (b : ℕ → EReal) (r c : ℕ) : EReal := pre X W b r c * Cert.GT.sig (pre X W b r c)

/-- The gradient of the activation's argument, -/
def slope (p d : EReal) : EReal := d * (Cert.GT.sig p * (one + p * (one - Cert.GT.sig p)))
def dpre (X W : ℕ → ℕ → EReal) (b : ℕ → EReal) (D : ℕ → ℕ → EReal) (r c : ℕ) : EReal := slope (pre X W b r c) (D r c)

/-- of the convolution's input, -/
def dx (G W : ℕ → ℕ → EReal) (r c : ℕ) : EReal :=
  G r c * W 3 c + ahead G 3 r c * W 0 c + ahead G 2 r c * W 1 c + ahead G 1 r c * W 2 c

/-- and a sum over the rows of one sequence, and of both. -/
def seqSum (f : ℕ → EReal) (s : ℕ) : EReal := ∑ n : Fin 2048, f (2048 * s + n.val)
def rowSum (f : ℕ → EReal) : EReal := seqSum f 0 + seqSum f 1

/-- The gradient of the taps and of the bias. -/
def dw (G X : ℕ → ℕ → EReal) (k c : ℕ) : EReal := rowSum fun r => G r c * back X (3 - k) r c
def db (G : ℕ → ℕ → EReal) (c : ℕ) : EReal := rowSum fun r => G r c

/-! ### A tile of 2048 rows -/

abbrev Tile : Shape := ⟨2, ![2048, 256]⟩
abbrev Row : Shape := ⟨2, ![1, 256]⟩

variable {G : ℕ → ℕ → EReal} {x : FVec Ideal Tile .f32} {B C : ℕ}

/-- The tile's rows moved down, the first ones set to zero, -/
theorem back_tile (hx : ∀ (r : Fin 2048) (n : Fin 256), x (ix2 r n) = G (2048 * B + r.val) (C + n.val)) (k : ℕ) (hk : k < 2048)
    (hi : Tile.Iotas .tc 32 [0]) (hr : Tile.Rotates 0 none) (r : Fin 2048) (n : Fin 256) :
    select (cmpi .sge (iota .tc Tile 32 [0] hi) (broadcast Tile (BitVec.ofNat 32 k))) (dynamicRotate 0 (BitVec.ofNat 32 k) none x hr)
      (broadcast Tile (Scalar.ofBits (F := Ideal) .f32 0x00000000#32)) (ix2 r n) = back G k (2048 * B + r.val) (C + n.val) := by
  have h := r.isLt
  have e0 : iota .tc Tile 32 [0] hi (ix2 r n) = BitVec.ofNat 32 r.val := iota_single_apply _ _ _ _ _ _
  have hm : (2048 * B + r.val) % 2048 = r.val := by omega
  show Scalar.select (IntOp.cmpi .sge (iota .tc Tile 32 [0] hi (ix2 r n)) (BitVec.ofNat 32 k)) (dynamicRotate 0 (BitVec.ofNat 32 k) none x hr (ix2 r n))
    (Ideal.ofBits .f32 0x00000000#32) = _
  rw [e0, WordCmp.cmpi_sge_ofNat (by omega) (by omega), back, hm]
  by_cases hc : k ≤ r.val
  · rw [if_pos hc, dynamicRotate_apply (0 : Fin 2) _ x hr (ix2 r n) (ix2 (⟨r.val - k, by omega⟩ : Fin 2048) n) fun b => ?_, hx]
    · simp only [hc, decide_true]
      exact congrArg (G · _) (by show 2048 * B + (r.val - k) = _; omega)
    · match b with
      | ⟨0, _⟩ =>
        show r.val - k = (r.val + 2048 - (BitVec.ofNat 32 k).toNat % 2048) % 2048
        rw [BitVec.toNat_ofNat]
        omega
      | ⟨1, _⟩ => rfl
  · rw [if_neg hc, c_zero]
    simp only [hc, decide_false]
    rfl

/-- and moved up, the last ones set to zero. -/
theorem ahead_tile (hx : ∀ (r : Fin 2048) (n : Fin 256), x (ix2 r n) = G (2048 * B + r.val) (C + n.val)) (s k : ℕ) (hs : s + k = 2048) (hk : 0 < k)
    (hi : Tile.Iotas .tc 32 [0]) (hr : Tile.Rotates 0 none) (r : Fin 2048) (n : Fin 256) :
    select (cmpi .slt (iota .tc Tile 32 [0] hi) (broadcast Tile (BitVec.ofNat 32 s))) (dynamicRotate 0 (BitVec.ofNat 32 s) none x hr)
      (broadcast Tile (Scalar.ofBits (F := Ideal) .f32 0x00000000#32)) (ix2 r n) = ahead G k (2048 * B + r.val) (C + n.val) := by
  have h := r.isLt
  have e0 : iota .tc Tile 32 [0] hi (ix2 r n) = BitVec.ofNat 32 r.val := iota_single_apply _ _ _ _ _ _
  have hm : (2048 * B + r.val) % 2048 = r.val := by omega
  show Scalar.select (IntOp.cmpi .slt (iota .tc Tile 32 [0] hi (ix2 r n)) (BitVec.ofNat 32 s)) (dynamicRotate 0 (BitVec.ofNat 32 s) none x hr (ix2 r n))
    (Ideal.ofBits .f32 0x00000000#32) = _
  rw [e0, WordCmp.cmpi_slt_ofNat (by omega) (by omega), ahead, hm]
  by_cases hc : r.val < s
  · rw [if_pos (by omega), dynamicRotate_apply (0 : Fin 2) _ x hr (ix2 r n) (ix2 (⟨r.val + k, by omega⟩ : Fin 2048) n) fun b => ?_, hx]
    · simp only [hc, decide_true]
      exact congrArg (G · _) (by show 2048 * B + (r.val + k) = _; omega)
    · match b with
      | ⟨0, _⟩ =>
        show r.val + k = (r.val + 2048 - (BitVec.ofNat 32 s).toNat % 2048) % 2048
        rw [BitVec.toNat_ofNat]
        omega
      | ⟨1, _⟩ => rfl
  · rw [if_neg (by omega), c_zero]
    simp only [hc, decide_false]
    rfl

/-- A row spread down the tile. -/
theorem spread (v : FVec Ideal Row .f32) (h : Row.Broadcasts Tile) (r : Fin 2048) (n : Fin 256) : broadcastTo Tile v h (ix2 r n) = v (ix2 (0 : Fin 1) n) :=
  broadcastTo_1b_ab_apply v h r n

theorem inK : ∀ q : Fin 4, ∀ a, ![q.val, 0] a + ![1, 256] a ≤ (⟨2, ![4, 256]⟩ : Shape).size a := by decide

/-- A row of the taps. -/
abbrev tapAt (w : FVec Ideal ⟨2, ![4, 256]⟩ .f32) (q : Fin 4) : FVec Ideal Row .f32 :=
  View.ld (Val := Elt Ideal) (e' := .f32) w (Rect.unit (s := ⟨2, ![4, 256]⟩) ![q.val, 0] ![1, 256] (inK q))

theorem tapRow (w : FVec Ideal ⟨2, ![4, 256]⟩ .f32) (q : Fin 4) (u : Fin 1) (n : Fin 256) : tapAt w q (ix2 u n) = w (ix2 q n) :=
  View.ld_unit_apply_of (Val := Elt Ideal) (e := .f32) w _ _ _ _ _ fun a => match a with
    | ⟨0, _⟩ => by show q.val = q.val + u.val; omega
    | ⟨1, _⟩ => (Nat.zero_add _).symm

/-- A row of the taps' gradient, written; and the four of them, the last first. -/
abbrev pc (q : Fin 4) (v : FVec Ideal Row .f32) : View.Piece (Elt Ideal) ⟨2, ![4, 256]⟩ .f32 := ⟨Rect.unit ![q.val, 0] ![1, 256] (inK q), v⟩
abbrev rows (v0 v1 v2 v3 : FVec Ideal Row .f32) : List (View.Piece (Elt Ideal) ⟨2, ![4, 256]⟩ .f32) := [pc 3 v3, pc 2 v2, pc 1 v1, pc 0 v0]

/-- The four rows of the taps' gradient, each one with its part added, over anything written before. -/
theorem canon_rows (Z : FVec Ideal ⟨2, ![4, 256]⟩ .f32) (F : ℕ → ℕ → EReal) {v0 v1 v2 v3 : FVec Ideal Row .f32}
    (h0 : ∀ u n, v0 (ix2 u n) = Z (ix2 (0 : Fin 4) n) + F 0 n.val) (h1 : ∀ u n, v1 (ix2 u n) = Z (ix2 (1 : Fin 4) n) + F 1 n.val)
    (h2 : ∀ u n, v2 (ix2 u n) = Z (ix2 (2 : Fin 4) n) + F 2 n.val) (h3 : ∀ u n, v3 (ix2 u n) = Z (ix2 (3 : Fin 4) n) + F 3 n.val)
    (L : List (View.Piece (Elt Ideal) ⟨2, ![4, 256]⟩ .f32)) (y : (⟨2, ![4, 256]⟩ : Shape).Idx) :
    View.canon (Val := Elt Ideal) (e := .f32) (rows v0 v1 v2 v3 ++ L) y = Z y + F (y 0).val (y 1).val := by
  have emb : ∀ (q : Fin 4) (u : Fin 1) (n : Fin 256), (Rect.unit (s := ⟨2, ![4, 256]⟩) ![q.val, 0] ![1, 256] (inK q)).emb (ix2 u n) = ix2 q n :=
    fun q u n => funext fun a => Fin.ext (match a with
      | ⟨0, _⟩ => by show q.val + 1 * u.val = q.val; omega
      | ⟨1, _⟩ => by show 0 + 1 * n.val = n.val; omega)
  have one : ∀ (q : Fin 4) (v : FVec Ideal Row .f32), (∀ u n, v (ix2 u n) = Z (ix2 q n) + F q.val n.val) → ∀ x : Row.Idx,
      v x = (fun y : (⟨2, ![4, 256]⟩ : Shape).Idx => Z y + F (y 0).val (y 1).val)
        ((Rect.unit (s := ⟨2, ![4, 256]⟩) ![q.val, 0] ![1, 256] (inK q)).emb x) := fun q v h x => by
    obtain ⟨u, n, rfl⟩ : ∃ (u : Fin 1) (n : Fin 256), x = ix2 u n := ⟨x 0, x 1, eq_ix2 x⟩
    rw [h, emb]
  have mem : ∀ q : Fin 4, y 0 = q → y ∈ (Rect.unit (s := ⟨2, ![4, 256]⟩) ![q.val, 0] ![1, 256] (inK q)).set := fun q hq =>
    (Rect.mem_set_unit (inb := inK q)).mpr fun a => match a with
      | ⟨0, _⟩ => by rw [← hq]; exact ⟨le_refl _, Nat.lt_succ_self _⟩
      | ⟨1, _⟩ => ⟨Nat.zero_le _, (y 1).isLt.trans_eq (Nat.zero_add _).symm⟩
  have hp : View.PiecesOf (Val := Elt Ideal) (e := .f32) (fun y : (⟨2, ![4, 256]⟩ : Shape).Idx => Z y + F (y 0).val (y 1).val) (rows v0 v1 v2 v3) :=
    ⟨one 3 v3 h3, one 2 v2 h2, one 1 v1 h1, one 0 v0 h0, trivial⟩
  refine View.canon_append_of_piecesOf (Val := Elt Ideal) (e := .f32) (fun y : (⟨2, ![4, 256]⟩ : Shape).Idx => Z y + F (y 0).val (y 1).val) L
    (rows v0 v1 v2 v3) hp y ?_
  have hy : (y 0).val < 4 := (y 0).isLt
  obtain h | h | h | h : (y 0).val = 0 ∨ (y 0).val = 1 ∨ (y 0).val = 2 ∨ (y 0).val = 3 := by omega
  · exact ⟨pc 0 v0, List.mem_cons_of_mem _ (List.mem_cons_of_mem _ (List.mem_cons_of_mem _ List.mem_cons_self)), mem 0 (Fin.ext h)⟩
  · exact ⟨pc 1 v1, List.mem_cons_of_mem _ (List.mem_cons_of_mem _ List.mem_cons_self), mem 1 (Fin.ext h)⟩
  · exact ⟨pc 2 v2, List.mem_cons_of_mem _ List.mem_cons_self, mem 2 (Fin.ext h)⟩
  · exact ⟨pc 3 v3, List.mem_cons_self, mem 3 (Fin.ext h)⟩

end Cert.CV

end

end
-- ==== Proof.ConvKernel.lean ====
module

public import proofs.«01_k».proof.Defs
public import proofs.«01_k».proof.Proof.Gen.ConvIdeal.Value
public import proofs.«01_k».proof.Proof.Args
public import proofs.«01_k».proof.Proof.Conv
public import Idealize.ShloMosaic.Lib.Pipeline.ValueKit
public import Idealize.ShloMosaic.Lib.Pipeline.ReadBack

/- The convolution kernel: each grid point's tile is the activated convolution of its sequence and columns, and the grid
   covers the array. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT Cert.CV

namespace Cert.ConvIdeal.CV

open Cert.ConvIdeal.Gen

variable {X W : ℕ → ℕ → EReal} {b : ℕ → EReal} {B C : ℕ}

/-- The convolution of a tile. -/
theorem pre_tile {x : Vec Ideal S2048x256 .bf16} {v w0 w1 w2 w3 : Vec Ideal S1x256 .f32}
    (hx : ∀ (r : Fin 2048) (n : Fin 256), x (ix2 r n) = X (2048 * B + r.val) (C + n.val)) (hv : ∀ n : Fin 256, v (ix2 (0 : Fin 1) n) = b (C + n.val))
    (h0 : ∀ n : Fin 256, w0 (ix2 (0 : Fin 1) n) = W 0 (C + n.val)) (h1 : ∀ n : Fin 256, w1 (ix2 (0 : Fin 1) n) = W 1 (C + n.val))
    (h2 : ∀ n : Fin 256, w2 (ix2 (0 : Fin 1) n) = W 2 (C + n.val)) (h3 : ∀ n : Fin 256, w3 (ix2 (0 : Fin 1) n) = W 3 (C + n.val))
    (r : Fin 2048) (n : Fin 256) : k0_pay2 x v w0 w1 w2 w3 (ix2 r n) = pre X W b (2048 * B + r.val) (C + n.val) := by
  unfold k0_pay2
  simp only [addf_apply, mulf_apply]
  have e3 := back_tile (x := x) hx 3 (by omega) iota_S2048x256_d0_w32 rotates_S2048x256_d0 r n
  have e2 := back_tile (x := x) hx 2 (by omega) iota_S2048x256_d0_w32 rotates_S2048x256_d0 r n
  have e1 := back_tile (x := x) hx 1 (by omega) iota_S2048x256_d0_w32 rotates_S2048x256_d0 r n
  have es := fun w : Vec Ideal S1x256 .f32 => spread w broadcasts_S1x256_S2048x256 r n
  rw [pre, ← e3, ← e2, ← e1, ← hx, ← hv, ← h0, ← h1, ← h2, ← h3, ← es v, ← es w0, ← es w1, ← es w2, ← es w3, shapeCast_self]
  rfl

theorem act_tile (p : FVec Ideal S2048x256 .f32) (i : S2048x256.Idx) : k0_pay1 p i = p i * Cert.GT.sig (p i) := by
  show p i * (half * Ideal.tanh (half * p i) + half) = _
  rw [sig_tanh]

theorem i0 : ∀ t : Fin cfg0.N, win0_0.index t = ![t.val / 12, 24 + t.val % 12] := (by decide +kernel : ∀ t : Fin grid0.N, _)
theorem i1 : ∀ t : Fin cfg0.N, win0_1.index t = ![0, t.val % 12] := (by decide +kernel : ∀ t : Fin grid0.N, _)
theorem i2 : ∀ t : Fin cfg0.N, win0_2.index t = ![0, t.val % 12] := (by decide +kernel : ∀ t : Fin grid0.N, _)
theorem i3 : ∀ t : Fin cfg0.N, win0_3.index t = ![t.val / 12, t.val % 12] := (by decide +kernel : ∀ t : Fin grid0.N, _)

variable (m : (ℓ : Loc nD τ sig) → Buf (Elt Ideal) ℓ) (c : Dev nD)

/-- The convolved columns of the projection, the taps and the bias. -/
abbrev xs (r n : ℕ) : EReal := at2 (a := 4096) (b := 9216) (m ((c : Thread nD τ).loc main_arg0)) r (6144 + n)
abbrev ws : ℕ → ℕ → EReal := at2 (a := 4) (b := 3072) (m ((c : Thread nD τ).loc main_arg1))
abbrev bs : ℕ → EReal := at1 (a := 3072) (m ((c : Thread nD τ).loc main_arg2))

theorem b0 (t : Fin cfg0.N) (r : Fin 2048) (n : Fin 256) : iblk m c 0 t (ix2 r n) = xs m c (2048 * (t.val / 12) + r.val) (256 * (t.val % 12) + n.val) :=
  (blk (win0_0.rect_emb_val_off t) (i0 t) (fun _ => congrFun (V_main_arg0 m c) _) r n).trans (congrArg (at2 _ _) (by omega))
theorem b1 (t : Fin cfg0.N) (q : Fin 4) (n : Fin 256) : iblk m c 1 t (ix2 q n) = ws m c q.val (256 * (t.val % 12) + n.val) :=
  (blk (win0_1.rect_emb_val_off t) (i1 t) (fun _ => congrFun (V_main_arg1 m c) _) q n).trans (congrArg (at2 _ · _) (by omega))
theorem b2 (t : Fin cfg0.N) (n : Fin 256) : (iblk m c 2 t : FVec Ideal S1x256 .f32) (ix2 (0 : Fin 1) n) = bs m c (256 * (t.val % 12) + n.val) := by
  have hn := n.isLt
  have ht := t.isLt
  have hc : 256 * (t.val % 12) + n.val < 3072 := by omega
  refine Eq.trans ?_ (at1_eq _ _ hc).symm
  show iblk m c 2 t (ix2 0 n) = _
  have e : ((View.whole main_v0).slice (win0_2.rect t)).emb (ix2 (0 : Fin 1) n) = ix2 (0 : Fin 1) (⟨256 * (t.val % 12) + n.val, hc⟩ : Fin 3072) := by
    blk_ext [i2 t]
    show t.val % 12 * 256 + n.val = _
    omega
  blk_simp [iblk]; entry_read
  rw [e]
  exact shapeCast_a_1a_apply _ _ _ _

/-- The activated convolution. -/
theorem arr3 : (dats m 0 c).arrAt 3 cfg0.N = fun j : S4096x3072.Idx => act (xs m c) (ws m c) (bs m c) (j 0).val (j 1).val := by
  refine (dats m 0 c).arrAt_eq_of_covers 3 _ (by decide +kernel) fun t hf j => ?_
  blk_simp
  rw [after0_3]
  frame_out
  refine Cert.AT.place (G := act (xs m c) (ws m c) (bs m c)) (i3 t) (fun r n => (act_tile _ _).trans (congrArg (fun z => z * Cert.GT.sig z) ?_)) j
  exact pre_tile (b0 m c t) (b2 m c t) (fun n => (tapRow _ 0 0 n).trans (b1 m c t 0 n)) (fun n => (tapRow _ 1 0 n).trans (b1 m c t 1 n))
    (fun n => (tapRow _ 2 0 n).trans (b1 m c t 2 n)) (fun n => (tapRow _ 3 0 n).trans (b1 m c t 3 n)) r n

end Cert.ConvIdeal.CV

end

end
-- ==== Proof.ConvBwdKernel.lean ====
module

public import proofs.«01_k».proof.Defs
public import proofs.«01_k».proof.Proof.Gen.ConvBwdIdeal.Value
public import proofs.«01_k».proof.Proof.Args
public import proofs.«01_k».proof.Proof.Conv
public import Idealize.ShloMosaic.Lib.Pipeline.ValueKit
public import Idealize.ShloMosaic.Lib.Pipeline.ReadBack

/- The convolution's backward kernel: each grid point's tile of the input's gradient, the parts of the gradients of the taps
   and of the bias that it adds, and the arrays the grid leaves. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT Cert.CV

namespace Cert.ConvBwdIdeal.CV

open Cert.ConvBwdIdeal.Gen

variable {X W D G : ℕ → ℕ → EReal} {b : ℕ → EReal} {B C : ℕ}

/-- The gradient of a tile's convolution. -/
theorem dpre_tile {x d : Vec Ideal S2048x256 .bf16} {v w0 w1 w2 w3 : Vec Ideal S1x256 .f32}
    (hx : ∀ (r : Fin 2048) (n : Fin 256), x (ix2 r n) = X (2048 * B + r.val) (C + n.val))
    (hd : ∀ (r : Fin 2048) (n : Fin 256), d (ix2 r n) = D (2048 * B + r.val) (C + n.val)) (hv : ∀ n : Fin 256, v (ix2 (0 : Fin 1) n) = b (C + n.val))
    (h0 : ∀ n : Fin 256, w0 (ix2 (0 : Fin 1) n) = W 0 (C + n.val)) (h1 : ∀ n : Fin 256, w1 (ix2 (0 : Fin 1) n) = W 1 (C + n.val))
    (h2 : ∀ n : Fin 256, w2 (ix2 (0 : Fin 1) n) = W 2 (C + n.val)) (h3 : ∀ n : Fin 256, w3 (ix2 (0 : Fin 1) n) = W 3 (C + n.val))
    (r : Fin 2048) (n : Fin 256) :
    k0_pay9 (k0_pay4 x) (k0_pay8 x v w0 w1 w2) w3 d (ix2 r n) = dpre X W b D (2048 * B + r.val) (C + n.val) := by
  have e3 : k0_pay5 x (ix2 r n) = _ := back_tile (x := x) hx 3 (by omega) iota_S2048x256_d0_w32 rotates_S2048x256_d0 r n
  have e2 : k0_pay6 x (ix2 r n) = _ := back_tile (x := x) hx 2 (by omega) iota_S2048x256_d0_w32 rotates_S2048x256_d0 r n
  have e1 : k0_pay7 x (ix2 r n) = _ := back_tile (x := x) hx 1 (by omega) iota_S2048x256_d0_w32 rotates_S2048x256_d0 r n
  have es := fun w : Vec Ideal S1x256 .f32 => spread w broadcasts_S1x256_S2048x256 r n
  have ep : k0_pay8 x v w0 w1 w2 (ix2 r n) + x (ix2 r n) * broadcastTo S2048x256 w3 broadcasts_S1x256_S2048x256 (ix2 r n)
      = pre X W b (2048 * B + r.val) (C + n.val) := by
    rw [pre, ← e3, ← e2, ← e1, ← hx, ← hv, ← h0, ← h1, ← h2, ← h3, ← es v, ← es w0, ← es w1, ← es w2, ← es w3]
    unfold k0_pay8
    rw [shapeCast_self]
    rfl
  rw [dpre, ← ep, ← hd]
  generalize he : k0_pay8 x v w0 w1 w2 = p
  show d (ix2 r n) * ((half * Ideal.tanh (half * _) + half) * (one + _ * (one - (half * Ideal.tanh (half * _) + half)))) = _
  rw [sig_tanh]
  rfl

/-- The gradient of a tile's input. -/
theorem dx_tile {g z : FVec Ideal S2048x256 .f32} {w0 w1 w2 : Vec Ideal S1x256 .f32}
    (hg : ∀ (r : Fin 2048) (n : Fin 256), g (ix2 r n) = G (2048 * B + r.val) (C + n.val))
    (hz : ∀ (r : Fin 2048) (n : Fin 256), z (ix2 r n) = G (2048 * B + r.val) (C + n.val) * W 3 (C + n.val))
    (h0 : ∀ n : Fin 256, w0 (ix2 (0 : Fin 1) n) = W 0 (C + n.val)) (h1 : ∀ n : Fin 256, w1 (ix2 (0 : Fin 1) n) = W 1 (C + n.val))
    (h2 : ∀ n : Fin 256, w2 (ix2 (0 : Fin 1) n) = W 2 (C + n.val)) (r : Fin 2048) (n : Fin 256) :
    k0_pay1 g (iota .tc S2048x256 32 [0] iota_S2048x256_d0_w32) (k0_pay16 g (iota .tc S2048x256 32 [0] iota_S2048x256_d0_w32) z w0)
      (k0_pay17 (iota .tc S2048x256 32 [0] iota_S2048x256_d0_w32)) (k0_pay18 g) k0_pay19 w1 w2 (ix2 r n)
      = dx G W (2048 * B + r.val) (C + n.val) := by
  have e3 := ahead_tile hg 2045 3 rfl (by omega) iota_S2048x256_d0_w32 rotates_S2048x256_d0 r n
  have e2 := ahead_tile hg 2046 2 rfl (by omega) iota_S2048x256_d0_w32 rotates_S2048x256_d0 r n
  have e1 := ahead_tile hg 2047 1 rfl (by omega) iota_S2048x256_d0_w32 rotates_S2048x256_d0 r n
  have es := fun w : Vec Ideal S1x256 .f32 => spread w broadcasts_S1x256_S2048x256 r n
  rw [dx, ← e3, ← e2, ← e1, ← hz, ← h0, ← h1, ← h2, ← es w0, ← es w1, ← es w2]
  rfl

/-- A row with a tile's sum added. -/
theorem row_add (x : FVec Ideal S2048x256 .f32) (v : Vec Ideal S1x256 .f32) (u : Fin 1) (n : Fin 256) :
    addf (shapeCast S1x256 v shapeCasts_S1x256_S1x256)
      (shapeCast S1x256 (multiReduction .add [0] S256 x 0x00000000#32 reduces_S2048x256_S256 (.inl rfl) rfl) shapeCasts_S256_S1x256) (ix2 u n)
      = v (ix2 u n) + ∑ r : Fin 2048, x (ix2 r n) := by
  rw [shapeCast_self]
  exact congrArg (v (ix2 u n) + ·) (Cert.KernelIdeal.SG.colSum x _ _ n u)

/-- A row of the taps' gradient with a tile's part added. -/
theorem dw_row {g x : FVec Ideal S2048x256 .f32} {v : Vec Ideal S1x256 .f32} {P : ℕ → ℕ → EReal} {z : Fin 256 → EReal}
    (hg : ∀ (r : Fin 2048) (n : Fin 256), g (ix2 r n) = G (2048 * B + r.val) (C + n.val))
    (hx : ∀ (r : Fin 2048) (n : Fin 256), x (ix2 r n) = P (2048 * B + r.val) (C + n.val)) (hv : ∀ u n, v (ix2 u n) = z n) (u : Fin 1) (n : Fin 256) :
    k0_pay13 x g v (ix2 u n) = z n + seqSum (fun r => G r (C + n.val) * P r (C + n.val)) B :=
  (row_add (mulf g x) v u n).trans (congrArg₂ (· + ·) (hv u n) (Finset.sum_congr rfl fun r _ => congrArg₂ (· * ·) (hg r n) (hx r n)))

theorem i0 : ∀ t : Fin cfg0.N, win0_0.index t = ![t.val % 2, 24 + t.val / 2] := (by decide +kernel : ∀ t : Fin grid0.N, _)
theorem i1 : ∀ t : Fin cfg0.N, win0_1.index t = ![t.val % 2, t.val / 2] := (by decide +kernel : ∀ t : Fin grid0.N, _)
theorem i2 : ∀ t : Fin cfg0.N, win0_2.index t = ![0, t.val / 2] := (by decide +kernel : ∀ t : Fin grid0.N, _)
theorem i3 : ∀ t : Fin cfg0.N, win0_3.index t = ![0, t.val / 2] := (by decide +kernel : ∀ t : Fin grid0.N, _)
theorem i4 : ∀ t : Fin cfg0.N, win0_4.index t = ![t.val % 2, 24 + t.val / 2] := (by decide +kernel : ∀ t : Fin grid0.N, _)
theorem i5 : ∀ t : Fin cfg0.N, win0_5.index t = ![0, t.val / 2] := (by decide +kernel : ∀ t : Fin grid0.N, _)
theorem i6 : ∀ t : Fin cfg0.N, win0_6.index t = ![0, t.val / 2] := (by decide +kernel : ∀ t : Fin grid0.N, _)

variable (m : (ℓ : Loc nD τ sig) → Buf (Elt Ideal) ℓ) (c : Dev nD)

/-- The convolved columns of the projection, the incoming gradient, the taps and the bias, -/
abbrev xs (r n : ℕ) : EReal := at2 (a := 4096) (b := 9216) (m ((c : Thread nD τ).loc main_arg0)) r (6144 + n)
abbrev ds : ℕ → ℕ → EReal := at2 (a := 4096) (b := 3072) (m ((c : Thread nD τ).loc main_arg1))
abbrev ws : ℕ → ℕ → EReal := at2 (a := 4) (b := 3072) (m ((c : Thread nD τ).loc main_arg2))
abbrev bs : ℕ → EReal := at1 (a := 3072) (m ((c : Thread nD τ).loc main_arg3))

/-- and the gradient of the convolution. -/
def gs : ℕ → ℕ → EReal := dpre (xs m c) (ws m c) (bs m c) (ds m c)

theorem b0 (t : Fin cfg0.N) (r : Fin 2048) (n : Fin 256) : iblk m c 0 t (ix2 r n) = xs m c (2048 * (t.val % 2) + r.val) (256 * (t.val / 2) + n.val) :=
  (blk (win0_0.rect_emb_val_off t) (i0 t) (fun _ => congrFun (V_main_arg0 m c) _) r n).trans (congrArg (at2 _ _) (by omega))
theorem b1 (t : Fin cfg0.N) (r : Fin 2048) (n : Fin 256) : iblk m c 1 t (ix2 r n) = ds m c (2048 * (t.val % 2) + r.val) (256 * (t.val / 2) + n.val) :=
  blk (win0_1.rect_emb_val_off t) (i1 t) (fun _ => congrFun (V_main_arg1 m c) _) r n
theorem b2 (t : Fin cfg0.N) (q : Fin 4) (n : Fin 256) : iblk m c 2 t (ix2 q n) = ws m c q.val (256 * (t.val / 2) + n.val) :=
  (blk (win0_2.rect_emb_val_off t) (i2 t) (fun _ => congrFun (V_main_arg2 m c) _) q n).trans (congrArg (at2 _ · _) (by omega))
theorem b3 (t : Fin cfg0.N) (n : Fin 256) : (iblk m c 3 t : FVec Ideal S1x256 .f32) (ix2 (0 : Fin 1) n) = bs m c (256 * (t.val / 2) + n.val) := by
  have hn := n.isLt
  have ht : t.val < 24 := t.isLt
  have hc : 256 * (t.val / 2) + n.val < 3072 := by omega
  refine Eq.trans ?_ (at1_eq _ _ hc).symm
  show iblk m c 3 t (ix2 0 n) = _
  have e : ((View.whole main_v0).slice (win0_3.rect t)).emb (ix2 (0 : Fin 1) n) = ix2 (0 : Fin 1) (⟨256 * (t.val / 2) + n.val, hc⟩ : Fin 3072) := by
    blk_ext [i3 t]
    show t.val / 2 * 256 + n.val = _
    omega
  blk_simp [iblk]; entry_read
  rw [e]
  exact shapeCast_a_1a_apply _ _ _ _

/-- A row of the taps at a point. -/
theorem wq (t : Fin cfg0.N) (q : Fin 4) (n : Fin 256) :
    tapAt (iblk m c 2 t) q (ix2 (0 : Fin 1) n) = ws m c q.val (256 * (t.val / 2) + n.val) := (tapRow _ q 0 n).trans (b2 m c t q n)

/-- The gradient of a point's convolution, as the kernel computes it. -/
abbrev gT (t : Fin cfg0.N) : FVec Ideal S2048x256 .f32 :=
  k0_pay9 (k0_pay4 (iblk m c 0 t)) (k0_pay8 (iblk m c 0 t) (iblk m c 3 t) (View.ld (iblk m c 2 t) (Rect.unit ![0, 0] ![1, 256] inb_S4x256_S1x256_0_0))
    (View.ld (iblk m c 2 t) (Rect.unit ![1, 0] ![1, 256] inb_S4x256_S1x256_1_0)) (View.ld (iblk m c 2 t) (Rect.unit ![2, 0] ![1, 256] inb_S4x256_S1x256_2_0)))
    (View.ld (iblk m c 2 t) (Rect.unit ![3, 0] ![1, 256] inb_S4x256_S1x256_3_0)) (iblk m c 1 t)

theorem gT_apply (t : Fin cfg0.N) (r : Fin 2048) (n : Fin 256) : gT m c t (ix2 r n) = gs m c (2048 * (t.val % 2) + r.val) (256 * (t.val / 2) + n.val) :=
  dpre_tile (b0 m c t) (b1 m c t) (b3 m c t) (wq m c t 0) (wq m c t 1) (wq m c t 2) (wq m c t 3) r n

/-- What a point leaves of the input's gradient, -/
theorem dx_point (t : Fin cfg0.N) (r : Fin 2048) (n : Fin 256) :
    (outsAt0 m c t.val t.isLt).1 (ix2 r n) = dx (gs m c) (ws m c) (2048 * (t.val % 2) + r.val) (256 * (t.val / 2) + n.val) := by
  have hz : ∀ (r : Fin 2048) (n : Fin 256), mulf (gT m c t) (broadcastTo S2048x256
      (View.ld (iblk m c 2 t) (Rect.unit ![3, 0] ![1, 256] inb_S4x256_S1x256_3_0)) broadcasts_S1x256_S2048x256) (ix2 r n)
      = gs m c (2048 * (t.val % 2) + r.val) (256 * (t.val / 2) + n.val) * ws m c 3 (256 * (t.val / 2) + n.val) := fun r n =>
    congrArg₂ (· * ·) (gT_apply m c t r n) ((spread _ broadcasts_S1x256_S2048x256 r n).trans (wq m c t 3 n))
  have e := dx_tile (gT_apply m c t) hz (wq m c t 0) (wq m c t 1) (wq m c t 2) r n
  by_cases h : t.val % 2 = 0
  · rw [outsAt0_A m c t h]
    frame_out
    exact e
  · rw [outsAt0_B m c t h]
    frame_out
    exact e

/-- the taps' gradient's part of it, -/
abbrev dwPart (t : Fin cfg0.N) (q n : ℕ) : EReal :=
  seqSum (fun r => gs m c r (256 * (t.val / 2) + n) * back (xs m c) (3 - q) r (256 * (t.val / 2) + n)) (t.val % 2)

theorem dw_rows (t : Fin cfg0.N) (Z : FVec Ideal S4x256 .f32) (L : List (View.Piece (Elt Ideal) S4x256 .f32)) (y : S4x256.Idx) :
    View.canon (Val := Elt Ideal) (e := .f32) (rows (k0_pay13 (k0_pay5 (iblk m c 0 t)) (gT m c t) (tapAt Z 0))
      (k0_pay13 (k0_pay6 (iblk m c 0 t)) (gT m c t) (tapAt Z 1))
      (k0_pay13 (k0_pay7 (iblk m c 0 t)) (gT m c t) (tapAt Z 2))
      (k0_pay13 (k0_pay4 (iblk m c 0 t)) (gT m c t) (tapAt Z 3)) ++ L) y
      = Z y + dwPart m c t (y 0).val (y 1).val := by
  have hb := fun (k : ℕ) (hk : k < 2048) => back_tile (G := xs m c) (x := k0_pay4 (iblk m c 0 t)) (b0 m c t) k hk iota_S2048x256_d0_w32 rotates_S2048x256_d0
  exact canon_rows Z (dwPart m c t)
    (dw_row (P := back (xs m c) 3) (gT_apply m c t) (hb 3 (by omega)) (tapRow Z 0))
    (dw_row (P := back (xs m c) 2) (gT_apply m c t) (hb 2 (by omega)) (tapRow Z 1))
    (dw_row (P := back (xs m c) 1) (gT_apply m c t) (hb 1 (by omega)) (tapRow Z 2))
    (dw_row (P := back (xs m c) 0) (gT_apply m c t) (fun r n => (b0 m c t r n).trans (back_zero _ _ _).symm) (tapRow Z 3)) L y

theorem dwA (t : Fin cfg0.N) (h : t.val % 2 = 0) (y : S4x256.Idx) : (outsAt0 m c t.val t.isLt).2.1 y = 0 + dwPart m c t (y 0).val (y 1).val := by
  rw [outsAt0_A m c t h]
  frame_out
  simp (disch := decide) only [↓View.readCov_skip, ↓View.readCov_fill]
  refine (dw_rows m c t (k0_pay2 (F := Ideal)) [_] y).trans (congrArg (· + _) ?_)
  exact Cert.KernelIdeal.SG.k_zero

theorem dwB (t : Fin cfg0.N) (h : ¬t.val % 2 = 0) (y : S4x256.Idx) : (outsAt0 m c t.val t.isLt).2.1 y
    = (outsAt0 m c (t.val - 1) (by have := t.isLt; omega)).2.1 y + dwPart m c t (y 0).val (y 1).val := by
  rw [outsAt0_B m c t h]
  frame_out
  exact dw_rows m c t _ [] y

/-- and the bias's gradient's. -/
abbrev dbPart (t : Fin cfg0.N) (n : ℕ) : EReal := seqSum (fun r => gs m c r (256 * (t.val / 2) + n)) (t.val % 2)

theorem db_row (t : Fin cfg0.N) (v : Vec Ideal S1x256 .f32) (u : Fin 1) (n : Fin 256) :
    addf (shapeCast S1x256 v shapeCasts_S1x256_S1x256)
      (shapeCast S1x256 (multiReduction .add [0] S256 (gT m c t) 0x00000000#32 reduces_S2048x256_S256 (.inl rfl) rfl) shapeCasts_S256_S1x256) (ix2 u n)
      = v (ix2 u n) + dbPart m c t n.val :=
  (row_add (gT m c t) v u n).trans (congrArg (_ + ·) (Finset.sum_congr rfl fun r _ => gT_apply m c t r n))

theorem dbA (t : Fin cfg0.N) (h : t.val % 2 = 0) (u : Fin 1) (n : Fin 256) : (outsAt0 m c t.val t.isLt).2.2 (ix2 u n) = 0 + dbPart m c t n.val := by
  rw [outsAt0_A m c t h]
  frame_out
  refine (db_row m c t (k0_pay3 (F := Ideal)) u n).trans (congrArg (· + _) ?_)
  exact Cert.KernelIdeal.SG.k_zero

theorem dbB (t : Fin cfg0.N) (h : ¬t.val % 2 = 0) (u : Fin 1) (n : Fin 256) : (outsAt0 m c t.val t.isLt).2.2 (ix2 u n)
    = (outsAt0 m c (t.val - 1) (by have := t.isLt; omega)).2.2 (ix2 u n) + dbPart m c t n.val := by
  rw [outsAt0_B m c t h]
  frame_out
  exact db_row m c t _ u n

/-! ### The arrays -/

/-- The point before, in the same columns. -/
theorem before (t : Fin cfg0.N) (h : t.val % 2 = 1) : (⟨t.val - 1, by have := t.isLt; omega⟩ : Fin cfg0.N).val % 2 = 0 ∧ (t.val - 1) / 2 = t.val / 2 :=
  ⟨by show (t.val - 1) % 2 = 0; omega, by omega⟩

/-- What the second point of a pair leaves of the taps' gradient, -/
theorem dw_pair (t : Fin cfg0.N) (h : t.val % 2 = 1) (q : Fin 4) (n : Fin 256) :
    (outsAt0 m c t.val t.isLt).2.1 (ix2 q n) = dw (gs m c) (xs m c) q.val (256 * (t.val / 2) + n.val) := by
  obtain ⟨h0, h1⟩ := before t h
  refine (dwB m c t (by omega) (ix2 q n)).trans ?_
  refine (congrArg (· + _) ((dwA m c ⟨t.val - 1, by have := t.isLt; omega⟩ h0 (ix2 q n)).trans (zero_add _))).trans ?_
  show seqSum (fun r => gs m c r (256 * ((t.val - 1) / 2) + n.val) * back (xs m c) (3 - q.val) r (256 * ((t.val - 1) / 2) + n.val)) ((t.val - 1) % 2)
    + seqSum (fun r => gs m c r (256 * (t.val / 2) + n.val) * back (xs m c) (3 - q.val) r (256 * (t.val / 2) + n.val)) (t.val % 2) = _
  rw [h1, h, show (t.val - 1) % 2 = 0 from h0]
  rfl

/-- and of the bias's. -/
theorem db_pair (t : Fin cfg0.N) (h : t.val % 2 = 1) (u : Fin 1) (n : Fin 256) :
    (outsAt0 m c t.val t.isLt).2.2 (ix2 u n) = db (gs m c) (256 * (t.val / 2) + n.val) := by
  obtain ⟨h0, h1⟩ := before t h
  refine (dbB m c t (by omega) u n).trans ?_
  refine (congrArg (· + _) ((dbA m c ⟨t.val - 1, by have := t.isLt; omega⟩ h0 u n).trans (zero_add _))).trans ?_
  show seqSum (fun r => gs m c r (256 * ((t.val - 1) / 2) + n.val)) ((t.val - 1) % 2) + seqSum (fun r => gs m c r (256 * (t.val / 2) + n.val)) (t.val % 2) = _
  rw [h1, h, show (t.val - 1) % 2 = 0 from h0]
  rfl

/-- The projection's gradient: the convolved columns are written, the others are kept. -/
def dp (r n : ℕ) : EReal := dx (gs m c) (ws m c) r (n - 6144)

theorem arr4 (y : S4096x9216.Idx) : (dats m 0 c).arrAt 4 cfg0.N y
    = if 6144 ≤ (y 1).val then dp m c (y 0).val (y 1).val else m ((c : Thread nD τ).loc main_arg4) y := by
  refine ((dats m 0 c).arrAt_apply_of_coversWhere 4 (fun y : S4096x9216.Idx => dp m c (y 0).val (y 1).val) (P := fun y : S4096x9216.Idx => 6144 ≤ (y 1).val)
    (fun q => 24 ≤ q 1) (by decide +kernel) (fun t _ j => ?_) (fun j => ?_) y).trans ?_
  · blk_simp
    rw [after0_4]
    exact Cert.AT.place (G := dp m c) (i4 t) (fun r n => (dx_point m c t r n).trans (congrArg (dx (gs m c) (ws m c) _) (by omega))) j
  · blk_simp [Pipeline.Window.cell_apply]
    omega
  · refine if_congr Iff.rfl rfl ?_
    rw [A_eq]
    show V m c main_v1_0 y = _
    entry_read
    rfl

/-- The taps' gradient, -/
theorem arr5 : (dats m 0 c).arrAt 5 cfg0.N = fun j : S4x3072.Idx => dw (gs m c) (xs m c) (j 0).val (j 1).val := by
  refine (dats m 0 c).arrAt_eq_of_covers 5 _ (by decide +kernel) fun t hf j => ?_
  blk_simp
  rw [after0_5]
  exact Cert.AT.place (G := dw (gs m c) (xs m c)) (i5 t) (fun q n => (dw_pair m c t ((flush0_5 t).mp hf) q n).trans
    (congrArg (dw (gs m c) (xs m c) · _) (by omega))) j

/-- and the bias's. -/
theorem arr6 : (dats m 0 c).arrAt 6 cfg0.N = fun j : S1x3072.Idx => db (gs m c) (j 1).val := by
  refine (dats m 0 c).arrAt_eq_of_covers 6 _ (by decide +kernel) fun t hf j => ?_
  blk_simp
  rw [after0_6]
  exact Cert.AT.place (G := fun _ n => db (gs m c) n) (i6 t) (fun u n => db_pair m c t ((flush0_6 t).mp hf) u n) j

end Cert.ConvBwdIdeal.CV

end

end
-- ==== Proof.ConvRef.lean ====
module

public import proofs.«01_k».proof.Proof.Gen.ConvRefIdeal.Read
public import proofs.«01_k».proof.Proof.Gen.ConvBwdRefIdeal.Read
public import proofs.«01_k».proof.Proof.RefSum
public import proofs.«01_k».proof.Proof.HeadRef
public import proofs.«01_k».proof.Proof.Conv

/- The references of the convolution and of its gradients read at an index. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT Cert.CV

namespace Cert.CV

/-- Two sequences of 2048 rows; and the same with three more rows each. -/
abbrev Seqs : Shape := ⟨3, ![2, 2048, 3072]⟩
abbrev Long : Shape := ⟨3, ![2, 2051, 3072]⟩
abbrev Head3 : Shape := ⟨3, ![2, 3, 3072]⟩

/-- Three rows of zeros before each sequence. -/
theorem joined {G : ℕ → ℕ → EReal} {z : FVec Ideal Head3 .f32} {x : FVec Ideal Seqs .f32} (hz : ∀ i, z i = 0)
    (hx : ∀ i : Seqs.Idx, x i = G (2048 * (i 0).val + (i 1).val) (i 2).val)
    (h : Shape.Concatenates (([⟨Head3, z⟩, ⟨Seqs, x⟩] : List ((s : Shape) × FVec Ideal s .f32)).map (·.1)) Long 1) (k : ℕ) (hk : k ≤ 3)
    (y : Long.Idx) {r p c : ℕ} (hr : (y 0).val = r) (hp : (y 1).val = k + p) (hc : (y 2).val = c) (hp' : p < 2048) :
    concatenate Long 1 [⟨Head3, z⟩, ⟨Seqs, x⟩] h y = back G (3 - k) (2048 * r + p) c := by
  have e : (2048 * r + p) % 2048 = p := by omega
  unfold back
  rw [e]
  by_cases hq : (y 1).val < 3
  · rw [if_neg (by omega)]
    refine (concatenate_pair_apply_left (t := Long) (s₁ := Head3) (s₂ := Seqs) (1 : Fin 3) _ _ _ y rfl
      (ix3 (y 0) (⟨(y 1).val, hq⟩ : Fin 3) (y 2)) fun b => ?_).trans (hz _)
    match b with
    | ⟨0, _⟩ => rfl
    | ⟨1, _⟩ => rfl
    | ⟨2, _⟩ => rfl
  · rw [if_pos (by omega)]
    refine (concatenate_pair_apply_right (t := Long) (s₁ := Head3) (s₂ := Seqs) (1 : Fin 3) _ _ _ y rfl rfl
      (ix3 (y 0) (⟨(y 1).val - 3, by omega⟩ : Fin 2048) (y 2)) (fun b hb => ?_) ?_).trans ((hx _).trans ?_)
    · match b with
      | ⟨0, _⟩ => rfl
      | ⟨1, _⟩ => exact absurd rfl hb
      | ⟨2, _⟩ => rfl
    · show (y 1).val - 3 + 3 = (y 1).val
      omega
    · show G (2048 * (y 0).val + ((y 1).val - 3)) (y 2).val = _
      rw [hr, hc]
      exact congrArg (G · c) (by omega)

/-- Rows moved by `k` in a longer sequence, with zeros around them, three rows in: those `3 - k` positions after. -/
theorem padSeq {F : ℕ → ℕ → EReal} {hi : ℕ} (k j : ℕ) (hj : k + j = 3) (x : FVec Ideal Seqs .f32) (v : (⟨0, ![]⟩ : Shape).Idx → EReal) (hv : ∀ i, v i = 0)
    (hx : ∀ i : Seqs.Idx, x i = F (2048 * (i 0).val + (i 1).val) (i 2).val)
    (h : Seqs.Pads ![0, k, 0] ![0, hi, 0] ![0, 0, 0] Long) (hu : 0 < (⟨0, ![]⟩ : Shape).numel)
    (y : Long.Idx) {r p c : ℕ} (hr : (y 0).val = r) (hp : (y 1).val = 3 + p) (hc : (y 2).val = c) (hp' : p < 2048) :
    pad Long ![0, k, 0] ![0, hi, 0] ![0, 0, 0] x v h hu y = ahead F j (2048 * r + p) c := by
  have e : (2048 * r + p) % 2048 = p := by omega
  unfold ahead
  rw [e]
  by_cases hq : p + j < 2048
  · rw [if_pos hq]
    refine (pad_apply_of_inside ![0, k, 0] ![0, hi, 0] ![0, 0, 0] x v h hu y (ix3 (y 0) (⟨p + j, hq⟩ : Fin 2048) (y 2)) fun a => ?_).trans ((hx _).trans ?_)
    · match a with
      | ⟨0, _⟩ => show (y 0).val = 0 + (y 0).val * (0 + 1); omega
      | ⟨1, _⟩ => show (y 1).val = k + (p + j) * (0 + 1); omega
      | ⟨2, _⟩ => show (y 2).val = 0 + (y 2).val * (0 + 1); omega
    · show F (2048 * (y 0).val + (p + j)) (y 2).val = _
      rw [hr, hc, Nat.add_assoc]
  · rw [if_neg hq]
    refine (pad_apply_of_not_inside ![0, k, 0] ![0, hi, 0] ![0, 0, 0] x v h hu y (1 : Fin 3) fun hn => hq ?_).trans (hv _)
    have h3 : ((y 1).val - k) / (0 + 1) < 2048 := hn.2.2
    omega

/-- One row among four, the others zero. -/
theorem padRow {hi : ℕ} (k : ℕ) (x : FVec Ideal ⟨2, ![1, 3072]⟩ .f32) (v : (⟨0, ![]⟩ : Shape).Idx → EReal) (hv : ∀ i, v i = 0)
    (h : (⟨2, ![1, 3072]⟩ : Shape).Pads ![k, 0] ![hi, 0] ![0, 0] ⟨2, ![4, 3072]⟩) (hu : 0 < (⟨0, ![]⟩ : Shape).numel) (y : (⟨2, ![4, 3072]⟩ : Shape).Idx) :
    pad ⟨2, ![4, 3072]⟩ ![k, 0] ![hi, 0] ![0, 0] x v h hu y = if (y 0).val = k then x (ix2 (0 : Fin 1) (y 1)) else 0 := by
  by_cases hq : (y 0).val = k
  · rw [if_pos hq]
    refine pad_apply_of_inside ![k, 0] ![hi, 0] ![0, 0] x v h hu y (ix2 (0 : Fin 1) (y 1)) fun a => ?_
    match a with
    | ⟨0, _⟩ => show (y 0).val = k + 0 * (0 + 1); omega
    | ⟨1, _⟩ => show (y 1).val = 0 + (y 1).val * (0 + 1); omega
  · rw [if_neg hq]
    refine (pad_apply_of_not_inside ![k, 0] ![hi, 0] ![0, 0] x v h hu y (0 : Fin 2) fun hn => hq ?_).trans (hv _)
    have h1 : k ≤ (y 0).val := hn.1
    have h3 : ((y 0).val - k) / (0 + 1) < 1 := hn.2.2
    omega

/-- A sum over both sequences, -/
theorem seqs_sum {F : ℕ → ℕ → EReal} (h : Seqs.ReducesTo [0, 1] ⟨1, ![3072]⟩) (x : Seqs.Idx → EReal) (init : EReal) (h0 : init = 0)
    (hx : ∀ i : Seqs.Idx, x i = F (2048 * (i 0).val + (i 1).val) (i 2).val) (j : (⟨1, ![3072]⟩ : Shape).Idx) :
    Ideal.hostReduceAdd h x init j = rowSum fun r => F r (j 0).val := by
  rw [Cert.ReferenceIdeal.SG.reduce_by h x init j (κ := Fin 2 × Fin 2048) (fun p => ix3 p.1 p.2 (j 0)) (fun i => (i 0, i 1)) (fun k => ?_) (fun k => rfl)
    fun i hi => ?_, h0, zero_add, Fintype.sum_prod_type, Fin.sum_univ_two]
  · simp only [hx]
    rfl
  · refine funext fun a => Fin.ext ?_
    match a with
    | ⟨0, _⟩ => exact h.drop_apply_val_of_eq _ 0 2
  · refine funext fun a => ?_
    match a with
    | ⟨0, _⟩ => rfl
    | ⟨1, _⟩ => rfl
    | ⟨2, _⟩ => refine Fin.ext ?_; show (j 0).val = (i 2).val; rw [← hi]; exact h.drop_apply_val_of_eq i 0 2

/-- and over two axes of size one. -/
theorem one_sum (h : (⟨3, ![1, 1, 3072]⟩ : Shape).ReducesTo [0, 1] ⟨1, ![3072]⟩) (x : (⟨3, ![1, 1, 3072]⟩ : Shape).Idx → EReal) (init : EReal) (h0 : init = 0)
    (j : (⟨1, ![3072]⟩ : Shape).Idx) : Ideal.hostReduceAdd h x init j = x (ix3 (0 : Fin 1) (0 : Fin 1) (j 0)) := by
  rw [Cert.ReferenceIdeal.SG.reduce_by h x init j (κ := Unit) (fun _ => ix3 (0 : Fin 1) (0 : Fin 1) (j 0)) (fun _ => ()) (fun k => ?_) (fun k => rfl)
    fun i hi => ?_, h0, zero_add, Fintype.sum_unique]
  · refine funext fun a => Fin.ext ?_
    match a with
    | ⟨0, _⟩ => exact h.drop_apply_val_of_eq _ 0 2
  · have h0 : (i 0).val < 1 := (i 0).isLt
    have h1 : (i 1).val < 1 := (i 1).isLt
    refine funext fun a => Fin.ext ?_
    match a with
    | ⟨0, _⟩ => show 0 = (i 0).val; omega
    | ⟨1, _⟩ => show 0 = (i 1).val; omega
    | ⟨2, _⟩ => show (j 0).val = (i 2).val; rw [← hi]; exact h.drop_apply_val_of_eq i 0 2

/-- The product rule's two terms together, where the incoming gradient is a real number. -/
theorem slope_eq (p : EReal) {d : EReal} (hd : IsR d) :
    d * Cert.GT.sig p + p * d * (Cert.GT.sig p * (one - Cert.GT.sig p)) = slope p d := by
  have h := gluG_eq p (u := 1) ⟨1, EReal.coe_one.symm⟩ hd
  simp only [gluG, mul_one] at h
  exact h

theorem ahead_mul (G : ℕ → ℕ → EReal) (w : ℕ → EReal) (k r c : ℕ) : ahead (fun r c => G r c * w c) k r c = ahead G k r c * w c := by
  unfold ahead
  split
  · rfl
  · exact (zero_mul _).symm

end Cert.CV

namespace Cert.ConvBwdRefIdeal.CV

open Cert.ConvBwdRefIdeal.Gen Cert.ConvBwdRefIdeal.Read Cert.AttnBwdRefIdeal.AT

variable (x0 x4 : FVec Ideal S4096x9216 .bf16) (x1 : FVec Ideal S4096x3072 .bf16) (x2 : FVec Ideal S4x3072 .f32) (x3 : FVec Ideal S3072 .f32)

abbrev xc (r n : ℕ) : EReal := at2 x0 r (6144 + n)

theorem v4 (i : S2x2048x3072.Idx) : val_main_v4 (F := Ideal) x0 i = xc x0 (2048 * (i 0).val + (i 1).val) (i 2).val := by
  have h0 : (i 0).val < 2 := (i 0).isLt
  have h1 : (i 1).val < 2048 := (i 1).isLt
  have h2 : (i 2).val < 3072 := (i 2).isLt
  rw [val_main_v4_apply, val_main_v3_apply]
  refine (val_main_v2_apply (F := Ideal) x0 _).trans (at2_place x0 _ ?_ ?_) <;> · dsimp only [idx_main_v2, idx_main_v4]; omega

theorem v1 (i : S2x2048x3072.Idx) : val_main_v1 (F := Ideal) x1 i = at2 x1 (2048 * (i 0).val + (i 1).val) (i 2).val := by
  have h0 : (i 0).val < 2 := (i 0).isLt
  have h1 : (i 1).val < 2048 := (i 1).isLt
  have h2 : (i 2).val < 3072 := (i 2).isLt
  rw [val_main_v1_apply]
  refine at2_place x1 _ ?_ ?_ <;> · dsimp only [idx_main_v1]; omega

theorem v5 (i : S2x3x3072.Idx) : val_main_v5 (F := Ideal) i = 0 := by
  rw [val_main_v5_apply]
  exact c_zero

/-- The four moved copies of the rows, -/
theorem v6 (k : ℕ) (hk : k ≤ 3) (y : S2x2051x3072.Idx) {r p c : ℕ} (hr : (y 0).val = r) (hp : (y 1).val = k + p) (hc : (y 2).val = c) (hp' : p < 2048) :
    val_main_v6 (F := Ideal) x0 y = back (xc x0) (3 - k) (2048 * r + p) c :=
  joined v5 (v4 x0) concatenates_S2x3x3072_S2x2048x3072_S2x2051x3072_d1 k hk y hr hp hc hp'

theorem v8 (i : S2x2048x3072.Idx) : val_main_v8 (F := Ideal) x0 i = back (xc x0) 3 (2048 * (i 0).val + (i 1).val) (i 2).val :=
  (val_main_v8_apply (F := Ideal) x0 i).trans (v6 x0 0 (by omega) _ rfl (Nat.zero_add _).symm rfl (i 1).isLt)
theorem v16 (i : S2x2048x3072.Idx) : val_main_v16 (F := Ideal) x0 i = back (xc x0) 2 (2048 * (i 0).val + (i 1).val) (i 2).val :=
  (val_main_v16_apply (F := Ideal) x0 i).trans (v6 x0 1 (by omega) _ rfl rfl rfl (i 1).isLt)
theorem v23 (i : S2x2048x3072.Idx) : val_main_v23 (F := Ideal) x0 i = back (xc x0) 1 (2048 * (i 0).val + (i 1).val) (i 2).val :=
  (val_main_v23_apply (F := Ideal) x0 i).trans (v6 x0 2 (by omega) _ rfl rfl rfl (i 1).isLt)
theorem v30 (i : S2x2048x3072.Idx) : val_main_v30 (F := Ideal) x0 i = back (xc x0) 0 (2048 * (i 0).val + (i 1).val) (i 2).val :=
  (val_main_v30_apply (F := Ideal) x0 i).trans (v6 x0 3 (by omega) _ rfl rfl rfl (i 1).isLt)

/-- the four rows of the taps, -/
theorem v11 (i : S1x1x3072.Idx) : val_main_v11 (F := Ideal) x2 i = at2 x2 0 (i 2).val := by
  have h2 : (i 2).val < 3072 := (i 2).isLt
  rw [val_main_v11_apply, val_main_v10_apply]
  refine (val_main_v9_apply (F := Ideal) x2 _).trans (at2_place x2 _ ?_ ?_) <;> · dsimp only [idx_main_v9, idx_main_v10, idx_main_v11]; try omega
theorem v19 (i : S1x1x3072.Idx) : val_main_v19 (F := Ideal) x2 i = at2 x2 1 (i 2).val := by
  have h2 : (i 2).val < 3072 := (i 2).isLt
  rw [val_main_v19_apply, val_main_v18_apply]
  refine (val_main_v17_apply (F := Ideal) x2 _).trans (at2_place x2 _ ?_ ?_) <;> · dsimp only [idx_main_v17, idx_main_v18, idx_main_v19]; try omega
theorem v26 (i : S1x1x3072.Idx) : val_main_v26 (F := Ideal) x2 i = at2 x2 2 (i 2).val := by
  have h2 : (i 2).val < 3072 := (i 2).isLt
  rw [val_main_v26_apply, val_main_v25_apply]
  refine (val_main_v24_apply (F := Ideal) x2 _).trans (at2_place x2 _ ?_ ?_) <;> · dsimp only [idx_main_v24, idx_main_v25, idx_main_v26]; try omega
theorem v33 (i : S1x1x3072.Idx) : val_main_v33 (F := Ideal) x2 i = at2 x2 3 (i 2).val := by
  have h2 : (i 2).val < 3072 := (i 2).isLt
  rw [val_main_v33_apply, val_main_v32_apply]
  refine (val_main_v31_apply (F := Ideal) x2 _).trans (at2_place x2 _ ?_ ?_) <;> · dsimp only [idx_main_v31, idx_main_v32, idx_main_v33]; try omega

theorem v38 (i : S2x2048x3072.Idx) : val_main_v38 (F := Ideal) x3 i = at1 x3 (i 2).val := by
  rw [val_main_v38_apply, val_main_v37_apply]
  refine Eq.trans (congrArg x3 (eq_ix1 _)) (at1_eq x3 _ (i 2).isLt).symm

/-- the convolution, -/
theorem v39 (i : S2x2048x3072.Idx) : val_main_v39 (F := Ideal) x0 x2 x3 i = pre (xc x0) (at2 x2) (at1 x3) (2048 * (i 0).val + (i 1).val) (i 2).val := by
  show val_main_v14 (F := Ideal) i + val_main_v8 (F := Ideal) x0 i * val_main_v12 (F := Ideal) x2 i + val_main_v16 (F := Ideal) x0 i * val_main_v20 (F := Ideal) x2 i
    + val_main_v23 (F := Ideal) x0 i * val_main_v27 (F := Ideal) x2 i + val_main_v30 (F := Ideal) x0 i * val_main_v34 (F := Ideal) x2 i + val_main_v38 (F := Ideal) x3 i = _
  rw [val_main_v14_apply, val_main_cst_1_apply, v8, v16, v23, v30, val_main_v12_apply, val_main_v20_apply, val_main_v27_apply, val_main_v34_apply, v11, v19, v26, v33,
    v38, back_zero, pre]
  rw [show FloatOps.ofBits (F := Ideal) .f32 0x00000000#32 = 0 from c_zero, zero_add, add_comm, ← add_assoc, ← add_assoc, ← add_assoc]

/-- and its gradient, where the incoming gradient is of real numbers. -/
abbrev gr : ℕ → ℕ → EReal := dpre (xc x0) (at2 x2) (at1 x3) (at2 x1)

variable {x1} (hd : ∀ i, IsR (x1 i))

include hd in
theorem v41 (i : S2x2048x3072.Idx) : val_main_v41 (F := Ideal) x0 x1 x2 x3 i = gr x0 x1 x2 x3 (2048 * (i 0).val + (i 1).val) (i 2).val := by
  have hr : IsR (val_main_v1 (F := Ideal) x1 i) := by
    rw [val_main_v1_apply]
    exact hd _
  rw [gr, dpre, ← v39, ← v1, ← slope_eq _ hr]
  rfl

/-- The sum over both sequences and then over two axes of size one, as the reference has it, -/
theorem summed {F : ℕ → ℕ → EReal} (x : FVec Ideal S2x2048x3072 .f32) (hx : ∀ i : S2x2048x3072.Idx, x i = F (2048 * (i 0).val + (i 1).val) (i 2).val)
    (z z' : FVec Ideal S_ .f32) (hz : ∀ i, z i = 0) (hz' : ∀ i, z' i = 0) (j : S3072.Idx) :
    Host.reduceAdd (F := Ideal) (shapeCast S1x1x3072 (Host.reduceAdd (F := Ideal) x z reducesTo_S2x2048x3072_S3072_d0_1 h_S_) shapeCasts_S3072_S1x1x3072) z'
      reducesTo_S1x1x3072_S3072_d0_1 h_S_ j = rowSum fun r => F r (j 0).val := by
  refine (one_sum reducesTo_S1x1x3072_S3072_d0_1 _ _ (hz' _) j).trans ?_
  refine (shapeCast_apply _ shapeCasts_S3072_S1x1x3072 _ j ?_).trans (seqs_sum reducesTo_S2x2048x3072_S3072_d0_1 x _ (hz _) hx j)
  rewrite [Shape.rowMajor_val_one, Shape.rowMajor_val_three]
  show (j 0).val = (0 * 1 + 0) * 3072 + (j 0).val
  omega

/-- and as one row among four. -/
theorem summedRow {F : ℕ → ℕ → EReal} {hi : ℕ} (k : ℕ) (x : FVec Ideal S2x2048x3072 .f32) (hx : ∀ i : S2x2048x3072.Idx, x i = F (2048 * (i 0).val + (i 1).val) (i 2).val)
    (z z' z'' : FVec Ideal S_ .f32) (hz : ∀ i, z i = 0) (hz' : ∀ i, z' i = 0) (hz'' : ∀ i, z'' i = 0) (h : S1x3072.Pads ![k, 0] ![hi, 0] ![0, 0] S4x3072) (y : S4x3072.Idx) :
    pad S4x3072 ![k, 0] ![hi, 0] ![0, 0] (broadcastInDim S1x3072 ![1] bcast_S3072_S1x3072_1 (Host.reduceAdd (F := Ideal) (shapeCast S1x1x3072
      (Host.reduceAdd (F := Ideal) x z reducesTo_S2x2048x3072_S3072_d0_1 h_S_) shapeCasts_S3072_S1x1x3072) z' reducesTo_S1x1x3072_S3072_d0_1 h_S_)) z'' h h_S_ y
      = if (y 0).val = k then rowSum fun r => F r (y 1).val else 0 := by
  refine (padRow k _ _ hz'' h h_S_ y).trans (if_congr Iff.rfl ?_ rfl)
  refine (broadcastInDim_apply _ bcast_S3072_S1x3072_1 _ _ (ix1 (y 1)) (fun a => match a with
    | ⟨0, _⟩ => rfl)).trans ?_
  exact summed x hx z z' hz hz' _

theorem zeros (i : S_.Idx) : constant (F := Ideal) S_ .f32 0x00000000#32 i = 0 := c_zero

include hd in
/-- The bias' gradient, -/
theorem v93 (y : S1x3072.Idx) : val_main_v93 (F := Ideal) x0 x1 x2 x3 y = db (gr x0 x1 x2 x3) (y 1).val := by
  have h0 : (y 0).val < 1 := (y 0).isLt
  refine (val_main_v93_apply (F := Ideal) x0 x1 x2 x3 y).trans ((summed _ (v41 x0 x2 x3 hd) _ _ zeros zeros _).trans ?_)
  refine congrArg (fun n => rowSum fun r => gr x0 x1 x2 x3 r n) ?_
  dsimp only [idx_main_v93]
  omega

include hd in
/-- the taps' gradient, -/
theorem v84 (y : S4x3072.Idx) : val_main_v84 (F := Ideal) x0 x1 x2 x3 y = dw (gr x0 x1 x2 x3) (xc x0) (y 0).val (y 1).val := by
  have e : ∀ (k : ℕ) (u : FVec Ideal S2x2048x3072 .f32), (∀ i : S2x2048x3072.Idx, u i = back (xc x0) k (2048 * (i 0).val + (i 1).val) (i 2).val) →
      ∀ i : S2x2048x3072.Idx, mulf u (val_main_v41 (F := Ideal) x0 x1 x2 x3) i
        = (fun r n => gr x0 x1 x2 x3 r n * back (xc x0) k r n) (2048 * (i 0).val + (i 1).val) (i 2).val := fun k u hu i => by
    show u i * val_main_v41 (F := Ideal) x0 x1 x2 x3 i = _
    rw [hu, v41 x0 x2 x3 hd, mul_comm]
  have h3 : val_main_v52 (F := Ideal) x0 x1 x2 x3 y = _ := summedRow (F := fun r n => gr x0 x1 x2 x3 r n * back (xc x0) 0 r n) 3 _ (e 0 _ (v30 x0)) _ _ _ zeros zeros zeros _ y
  have h2 : val_main_v61 (F := Ideal) x0 x1 x2 x3 y = _ := summedRow (F := fun r n => gr x0 x1 x2 x3 r n * back (xc x0) 1 r n) 2 _ (e 1 _ (v23 x0)) _ _ _ zeros zeros zeros _ y
  have h1 : val_main_v72 (F := Ideal) x0 x1 x2 x3 y = _ := summedRow (F := fun r n => gr x0 x1 x2 x3 r n * back (xc x0) 2 r n) 1 _ (e 2 _ (v16 x0)) _ _ _ zeros zeros zeros _ y
  have h0 : val_main_v83 (F := Ideal) x0 x1 x2 x3 y = _ := summedRow (F := fun r n => gr x0 x1 x2 x3 r n * back (xc x0) 3 r n) 0 _ (e 3 _ (v8 x0)) _ _ _ zeros zeros zeros _ y
  show val_main_v52 (F := Ideal) x0 x1 x2 x3 y + val_main_v61 (F := Ideal) x0 x1 x2 x3 y + val_main_v72 (F := Ideal) x0 x1 x2 x3 y + val_main_v83 (F := Ideal) x0 x1 x2 x3 y = _
  rw [h3, h2, h1, h0, dw]
  have hy : (y 0).val < 4 := (y 0).isLt
  generalize (y 0).val = k at hy ⊢
  match k, hy with
  | 0, _ => rw [if_neg (by decide), if_neg (by decide), if_neg (by decide), if_pos rfl, add_zero, add_zero, zero_add]
  | 1, _ => rw [if_neg (by decide), if_neg (by decide), if_pos rfl, if_neg (by decide), add_zero, add_zero, zero_add]
  | 2, _ => rw [if_neg (by decide), if_pos rfl, if_neg (by decide), if_neg (by decide), add_zero, add_zero, zero_add]
  | 3, _ => rw [if_pos rfl, if_neg (by decide), if_neg (by decide), if_neg (by decide), add_zero, add_zero, add_zero]

include hd in
/-- the channels' gradient, -/
theorem v88 (i : S2x2048x3072.Idx) : val_main_v88 (F := Ideal) x0 x1 x2 x3 i = dx (gr x0 x1 x2 x3) (at2 x2) (2048 * (i 0).val + (i 1).val) (i 2).val := by
  have e : ∀ (k : ℕ) (u : FVec Ideal S2x2048x3072 .f32), (∀ i : S2x2048x3072.Idx, u i = at2 x2 k (i 2).val) →
      ∀ i : S2x2048x3072.Idx, mulf (val_main_v41 (F := Ideal) x0 x1 x2 x3) u i
        = (fun r n => gr x0 x1 x2 x3 r n * at2 x2 k n) (2048 * (i 0).val + (i 1).val) (i 2).val := fun k u hu i => by
    show val_main_v41 (F := Ideal) x0 x1 x2 x3 i * u i = _
    rw [hu, v41 x0 x2 x3 hd]
  have hi : (i 1).val < 2048 := (i 1).isLt
  have h3 : val_main_v53 (F := Ideal) x0 x1 x2 x3 (idx_main_v88 i) = _ := padSeq (F := fun r n => gr x0 x1 x2 x3 r n * at2 x2 3 n) 3 0 rfl _ _ zeros
    (e 3 _ fun i => (val_main_v48_apply (F := Ideal) x2 i).trans (v33 x2 _)) _ _ (idx_main_v88 i) rfl rfl rfl hi
  have h2 : val_main_v63 (F := Ideal) x0 x1 x2 x3 (idx_main_v88 i) = _ := padSeq (F := fun r n => gr x0 x1 x2 x3 r n * at2 x2 2 n) 2 1 rfl _ _ zeros
    (e 2 _ fun i => (val_main_v57_apply (F := Ideal) x2 i).trans (v26 x2 _)) _ _ (idx_main_v88 i) rfl rfl rfl hi
  have h1 : val_main_v74 (F := Ideal) x0 x1 x2 x3 (idx_main_v88 i) = _ := padSeq (F := fun r n => gr x0 x1 x2 x3 r n * at2 x2 1 n) 1 2 rfl _ _ zeros
    (e 1 _ fun i => (val_main_v68_apply (F := Ideal) x2 i).trans (v19 x2 _)) _ _ (idx_main_v88 i) rfl rfl rfl hi
  have h0 : val_main_v85 (F := Ideal) x0 x1 x2 x3 (idx_main_v88 i) = _ := padSeq (F := fun r n => gr x0 x1 x2 x3 r n * at2 x2 0 n) 0 3 rfl _ _ zeros
    (e 0 _ fun i => (val_main_v79_apply (F := Ideal) x2 i).trans (v11 x2 _)) _ _ (idx_main_v88 i) rfl rfl rfl hi
  refine (val_main_v88_apply (F := Ideal) x0 x1 x2 x3 i).trans ?_
  show val_main_v53 (F := Ideal) x0 x1 x2 x3 (idx_main_v88 i) + val_main_v63 (F := Ideal) x0 x1 x2 x3 (idx_main_v88 i)
    + val_main_v74 (F := Ideal) x0 x1 x2 x3 (idx_main_v88 i) + val_main_v85 (F := Ideal) x0 x1 x2 x3 (idx_main_v88 i) = _
  rw [h3, h2, h1, h0, ahead_mul, ahead_mul, ahead_mul, ahead_mul, dx]
  have ez : ahead (gr x0 x1 x2 x3) 0 (2048 * (i 0).val + (i 1).val) (i 2).val = gr x0 x1 x2 x3 (2048 * (i 0).val + (i 1).val) (i 2).val :=
    if_pos (by omega)
  rw [ez]
  abel

include hd in
theorem v91 (i : S4096x3072.Idx) : val_main_v91 (F := Ideal) x0 x1 x2 x3 i = dx (gr x0 x1 x2 x3) (at2 x2) (i 0).val (i 1).val := by
  have h0 : (i 0).val < 4096 := (i 0).isLt
  have h1 : (i 1).val < 3072 := (i 1).isLt
  refine (val_main_v91_apply (F := Ideal) x0 x1 x2 x3 _).trans ((val_main_v90_apply (F := Ideal) x0 x1 x2 x3 _).trans ((v88 x0 x2 x3 hd _).trans ?_))
  refine congr (congrArg (dx _ _) ?_) ?_ <;> · dsimp only [idx_main_v90]; omega

include hd in
/-- put behind the columns that are passed on. -/
theorem v92 (y : S4096x9216.Idx) : val_main_v92 (F := Ideal) x0 x1 x2 x3 x4 y
    = if 6144 ≤ (y 1).val then dx (gr x0 x1 x2 x3) (at2 x2) (y 0).val ((y 1).val - 6144) else x4 y := by
  have hy0 : (y 0).val < 4096 := (y 0).isLt
  have hy1 : (y 1).val < 9216 := (y 1).isLt
  unfold val_main_v92
  by_cases hq : 6144 ≤ (y 1).val
  · rw [if_pos hq]
    refine (concatenate_pair_apply_right (t := S4096x9216) (s₁ := S4096x6144) (s₂ := S4096x3072) (1 : Fin 2) _ _ _ y rfl rfl
      (ix2 (y 0) (⟨(y 1).val - 6144, by omega⟩ : Fin 3072)) (fun b hb => ?_) ?_).trans ?_
    · match b with
      | ⟨0, _⟩ => rfl
      | ⟨1, _⟩ => exact absurd rfl hb
    · show (y 1).val - 6144 + 6144 = (y 1).val
      omega
    · exact v91 x0 x2 x3 hd _
  · rw [if_neg hq]
    refine (concatenate_pair_apply_left (t := S4096x9216) (s₁ := S4096x6144) (s₂ := S4096x3072) (1 : Fin 2) _ _ _ y rfl
      (ix2 (y 0) (⟨(y 1).val, by omega⟩ : Fin 6144)) fun b => ?_).trans ?_
    · match b with
      | ⟨0, _⟩ => rfl
      | ⟨1, _⟩ => rfl
    · refine (val_main_v89_apply (F := Ideal) x4 _).trans (congrArg x4 (funext fun a => Fin.ext ?_))
      match a with
      | ⟨0, _⟩ => rfl
      | ⟨1, _⟩ => rfl

end Cert.ConvBwdRefIdeal.CV

namespace Cert.ConvRefIdeal.CV

open Cert.ConvRefIdeal.Gen Cert.ConvRefIdeal.Read Cert.AttnBwdRefIdeal.AT

variable (x0 : FVec Ideal S4096x9216 .bf16) (x2 : FVec Ideal S4x3072 .f32) (x3 : FVec Ideal S3072 .f32)

/-- The forward reference's convolution is the gradient's. -/
theorem v36 : val_main_v36 (F := Ideal) x0 x2 x3 = Cert.ConvBwdRefIdeal.Read.val_main_v39 (F := Ideal) x0 x2 x3 := rfl

theorem v39 (y : S4096x3072.Idx) : val_main_v39 (F := Ideal) x0 x2 x3 y
    = act (fun r n => at2 x0 r (6144 + n)) (at2 x2) (at1 x3) (y 0).val (y 1).val := by
  have hy0 : (y 0).val < 4096 := (y 0).isLt
  have hy1 : (y 1).val < 3072 := (y 1).isLt
  rw [val_main_v39_apply, val_main_v38_apply]
  show val_main_v36 (F := Ideal) x0 x2 x3 (idx_main_v38 y) * Cert.GT.sig (val_main_v36 (F := Ideal) x0 x2 x3 (idx_main_v38 y)) = _
  rw [v36, Cert.ConvBwdRefIdeal.CV.v39, act]
  have er : 2048 * (idx_main_v38 y 0).val + (idx_main_v38 y 1).val = (y 0).val := by dsimp only [idx_main_v38]; omega
  have ec : (idx_main_v38 y 2).val = (y 1).val := by dsimp only [idx_main_v38]; omega
  rw [er, ec]

end Cert.ConvRefIdeal.CV

end

end
-- ==== Proof.ConvSame.lean ====
module

public import proofs.«01_k».proof.Pre_real_cotangent
public import proofs.«01_k».proof.Proof.Pre
public import proofs.«01_k».proof.Proof.ConvKernel
public import proofs.«01_k».proof.Proof.ConvBwdKernel
public import proofs.«01_k».proof.Proof.ConvRef
public import proofs.«01_k».proof.Proof.Gen.ConvRefIdeal.Run
public import proofs.«01_k».proof.Proof.Gen.ConvBwdRefIdeal.Run

/- The convolution, forward and backward: kernel and reference end with the same arrays; backward where the entries of the
   incoming gradient are real numbers. -/

@[expose] public section

set_option maxRecDepth 16384

noncomputable section

open Idealize.ShloMosaic Idealize.ShloMosaic.TcCoe
open Idealize.SL Idealize.SL.Sem Cert.SG Cert.MM

namespace Cert.Pre_real_cotangent

theorem facts : Facts where
  bitsLt_bf16_f32 := by decide
  bcast_S_S4096x3072 := by decide
  reducesTo_S4096x3072_S_d0_1 := by decide
  h_S_ := by decide

variable [Facts]

/-- What the precondition says. -/
theorem decode (x0 : FVec Ideal S4096x9216 .bf16) (x1 : FVec Ideal S4096x3072 .bf16) (x2 : FVec Ideal S4x3072 .f32) (x3 : FVec Ideal S3072 .f32)
    (x4 : FVec Ideal S4096x9216 .bf16) (h : fn (F := Ideal) x0 x1 x2 x3 x4 = fun _ => 1#1) : ∀ i, IsR (x1 i) := by
  haveI := Cert.Pre_finite.facts
  have h := congrFun h (fun k => k.elim0)
  dsimp only [fn] at h
  exact Cert.Pre_finite.all_isR _ _ _ h

end Cert.Pre_real_cotangent

namespace Cert.CV

theorem same : Cert.algebraic_ConvIdeal_ConvRefIdeal (hConvIdeal := Cert.ConvIdeal.Gen.facts) (hConvRefIdeal := Cert.ConvRefIdeal.Gen.facts) :=
  fun m g m' g' _ hm => agree (Cert.ConvIdeal.Value.run_blocks m g) (θ_run _ _ _).mono (Cert.ConvRefIdeal.Value.run m' g') fun c => by
    refine (Cert.ConvRefIdeal.Read.val_main_v39_eq m' c).trans ?_
    rw [(hm c).1, (hm c).2.1, (hm c).2.2, Cert.ConvIdeal.CV.arr3 m c]
    exact funext fun y => Cert.ConvRefIdeal.CV.v39 _ _ _ y

theorem bwd_same : Cert.algebraic_ConvBwdIdeal_ConvBwdRefIdeal_pre_real_cotangent (hConvBwdIdeal := Cert.ConvBwdIdeal.Gen.facts)
    (hConvBwdRefIdeal := Cert.ConvBwdRefIdeal.Gen.facts) (hPre_real_cotangent := Cert.Pre_real_cotangent.facts) := by
  intro m g m' g' hp hm
  refine ⟨_, _, _, Cert.ConvBwdIdeal.Value.run_blocks m g, ?_⟩
  refine (θ_run _ _ _).mono (fun r h c => ?_) (Cert.ConvBwdRefIdeal.Value.run m' g')
  have hd := @Cert.Pre_real_cotangent.decode Cert.Pre_real_cotangent.facts _ _ _ _ _ (hp c)
  obtain ⟨r0, r1, r2, rest⟩ := h c
  obtain ⟨e0, e1, e2, e3, e4⟩ := hm c
  refine ⟨(r0.trans (Cert.ConvBwdRefIdeal.Read.val_main_v92_eq _ _)).trans ?_, (r1.trans (Cert.ConvBwdRefIdeal.Read.val_main_v84_eq _ _)).trans ?_,
    (r2.trans (Cert.ConvBwdRefIdeal.Read.val_main_v93_eq _ _)).trans ?_, rest⟩
  · rw [e0, e1, e2, e3, e4]
    exact funext fun y => (Cert.ConvBwdRefIdeal.CV.v92 _ _ _ _ hd y).trans (Cert.ConvBwdIdeal.CV.arr4 m c y).symm
  · rw [e0, e1, e2, e3, Cert.ConvBwdIdeal.CV.arr5 m c]
    exact funext fun y => Cert.ConvBwdRefIdeal.CV.v84 _ _ _ hd y
  · rw [e0, e1, e2, e3, Cert.ConvBwdIdeal.CV.arr6 m c]
    exact funext fun y => Cert.ConvBwdRefIdeal.CV.v93 _ _ _ hd y

end Cert.CV

end

end
-- ==== Proof.Norm.lean ====
module

public import proofs.«01_k».proof.Proof.Conv
public import proofs.«01_k».proof.Proof.Tile

/- The gated norm over groups of 512 channels: a row's values and gradients, one group of a tile's columns at a variable
   column offset, a block written as four groups, and the norm's gradient on the reals. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT

namespace Cert.NM

theorem c_512 : Ideal.ofBits .f32 0x44000000#32 = ((512 : ℝ) : EReal) := by
  simp [Ideal.ofBits, Ideal.ieee, -EReal.coe_mul]; norm_num

/-- A group's mean, and the first column of the group of a column. -/
def mean512 (f : ℕ → EReal) : EReal := Ideal.div (∑ k : Fin 512, f k.val) (Ideal.ofBits .f32 0x44000000#32)
def off (c : ℕ) : ℕ := 512 * (c / 512)

/-- The gated value, -/
def seg (Y Z : ℕ → ℕ → EReal) (r c : ℕ) : EReal := Y r c * (Z r c * Cert.GT.sig (Z r c))

/-- the factor of a row's group that starts at column `o`, and the normed value, -/
def scale (S : ℕ → ℕ → EReal) (r o : ℕ) : EReal :=
  Ideal.rsqrt (mean512 (fun k => S r (o + k) * S r (o + k)) + Ideal.ofBits .f32 0x3727C5AC#32)
def nrm (S : ℕ → ℕ → EReal) (r c : ℕ) : EReal := S r c * scale S r (off c)
def out (S : ℕ → ℕ → EReal) (g : ℕ → EReal) (r c : ℕ) : EReal := nrm S r c * g c

/-- the gradient of the gated value, -/
def dyz (S D : ℕ → ℕ → EReal) (g : ℕ → EReal) (r c : ℕ) : EReal :=
  scale S r (off c) * (D r c * g c - nrm S r c * mean512 fun k => D r (off c + k) * g (off c + k) * nrm S r (off c + k))

/-- of its two factors, -/
def dyOf (Y Z D : ℕ → ℕ → EReal) (g : ℕ → EReal) (r c : ℕ) : EReal := dyz (seg Y Z) D g r c * (Z r c * Cert.GT.sig (Z r c))
def dzOf (Y Z D : ℕ → ℕ → EReal) (g : ℕ → EReal) (r c : ℕ) : EReal := Cert.CV.slope (Z r c) (dyz (seg Y Z) D g r c * Y r c)

/-- and of the gain, over 512 rows and over the eight parts. -/
def dgPart (S D : ℕ → ℕ → EReal) (c b : ℕ) : EReal := ∑ r : Fin 512, D (512 * b + r.val) c * nrm S (512 * b + r.val) c
def dgOf (S D : ℕ → ℕ → EReal) (c : ℕ) : EReal := ∑ r : Fin 4096, nrm S r.val c * D r.val c

theorem off_add {o n : ℕ} (ho : off o = o) (hn : n < 512) : off (o + n) = o := by
  unfold off at ho ⊢
  omega

theorem dg_parts (S D : ℕ → ℕ → EReal) (c : ℕ) : ∑ b ∈ Finset.range 8, dgPart S D c b = dgOf S D c := by
  have e : dgOf S D c = ∑ r : Fin (8 * 512), D r.val c * nrm S r.val c := Finset.sum_congr rfl fun r _ => mul_comm _ _
  rw [e, ← finProdFinEquiv.sum_comp, Fintype.sum_prod_type, Finset.sum_range]
  refine Finset.sum_congr rfl fun b _ => Finset.sum_congr rfl fun r _ => ?_
  show D (512 * b.val + r.val) c * nrm S (512 * b.val + r.val) c = D (r.val + 512 * b.val) c * nrm S (r.val + 512 * b.val) c
  rw [Nat.add_comm]

/-! ### A tile of 512 rows, and a group of its columns -/

abbrev Tile : Shape := ⟨2, ![512, 2048]⟩
abbrev Grp : Shape := ⟨2, ![512, 512]⟩
abbrev Col : Shape := ⟨2, ![512, 1]⟩
abbrev Row : Shape := ⟨2, ![1, 512]⟩
abbrev Lst : Shape := ⟨1, ![512]⟩

theorem red1 : Grp.Reduces [1] Lst := by decide
theorem red0 : Grp.Reduces [0] Lst := by decide
theorem cast1 : Lst.ShapeCasts Col := by decide
theorem cast0 : Lst.ShapeCasts Row := by decide
theorem castR : Row.ShapeCasts Row := by decide
theorem bcC : Col.Broadcasts Grp := by decide
theorem bcR : Row.Broadcasts Grp := by decide

/-- A group's columns, the mean of each of its rows, a row's factor, the normed group, -/
abbrev grp (o : ℕ) (h : Tile.Slices ![0, o] Grp) (x : FVec Ideal Tile .f32) : FVec Ideal Grp .f32 := extractStridedSlice Grp ![0, o] x h
abbrev gMean (x : FVec Ideal Grp .f32) : FVec Ideal Col .f32 :=
  divf (shapeCast Col (multiReduction .add [1] Lst x 0x00000000#32 red1 (.inl rfl) rfl) cast1) (broadcast Col (Scalar.ofBits .f32 0x44000000#32))
abbrev gScale (x : FVec Ideal Grp .f32) : FVec Ideal Col .f32 := rsqrt (addf (gMean (mulf x x)) (broadcast Col (Scalar.ofBits .f32 0x3727C5AC#32)))
abbrev gNrm (x : FVec Ideal Grp .f32) : FVec Ideal Grp .f32 := mulf x (broadcastTo Grp (gScale x) bcC)

/-- the gain's product with a group, and the gradients. -/
abbrev gGain (x : FVec Ideal Grp .f32) (v : FVec Ideal Row .f32) : FVec Ideal Grp .f32 := mulf x (broadcastTo Grp (shapeCast Row v castR) bcR)
abbrev gDyz (x d : FVec Ideal Grp .f32) (v : FVec Ideal Row .f32) : FVec Ideal Grp .f32 :=
  mulf (broadcastTo Grp (gScale x) bcC) (subf (gGain d v) (mulf (gNrm x) (broadcastTo Grp (gMean (mulf (gGain d v) (gNrm x))) bcC)))
abbrev gDz (x d y z s : FVec Ideal Grp .f32) (v : FVec Ideal Row .f32) : FVec Ideal Grp .f32 :=
  mulf (mulf (gDyz x d v) y) (mulf s (addf (broadcast Grp (Scalar.ofBits .f32 0x3F800000#32)) (mulf z (subf (broadcast Grp (Scalar.ofBits .f32 0x3F800000#32)) s))))
abbrev gDg (x d : FVec Ideal Grp .f32) (v : FVec Ideal Row .f32) : FVec Ideal Row .f32 :=
  addf (shapeCast Row v castR) (shapeCast Row (multiReduction .add [0] Lst (mulf d (gNrm x)) 0x00000000#32 red0 (.inl rfl) rfl) cast0)

variable {S D Y Z : ℕ → ℕ → EReal} {g : ℕ → EReal} {B o : ℕ} {x d y z s : FVec Ideal Grp .f32} {v : FVec Ideal Row .f32}

theorem grp_apply {G : ℕ → ℕ → EReal} {w : FVec Ideal Tile .f32} (h : Tile.Slices ![0, o] Grp)
    (hw : ∀ (r : Fin 512) (n : Fin 2048), w (ix2 r n) = G (512 * B + r.val) n.val) (ho : o ≤ 1536) (r n : Fin 512) :
    grp o h w (ix2 r n) = G (512 * B + r.val) (o + n.val) := by
  have hn := n.isLt
  refine (extractStridedSlice_apply ![0, o] w h (ix2 r n) (ix2 r (⟨o + n.val, by omega⟩ : Fin 2048)) fun a => ?_).trans (hw r _)
  match a with
  | ⟨0, _⟩ => exact (Nat.zero_add _).symm
  | ⟨1, _⟩ => rfl

theorem gMean_apply {f : ℕ → ℕ → EReal} (hx : ∀ r n : Fin 512, x (ix2 r n) = f r.val n.val) (r : Fin 512) (u : Fin 1) :
    gMean x (ix2 r u) = mean512 (f r.val) := by
  show Ideal.div (shapeCast Col (multiReduction .add [1] Lst x 0x00000000#32 red1 (.inl rfl) rfl) cast1 (ix2 r u)) (Ideal.ofBits .f32 0x44000000#32) = _
  rw [Cert.KernelIdeal.SG.rowSum x red1 cast1 r u]
  exact congrArg (Ideal.div · _) (Finset.sum_congr rfl fun k _ => hx r k)

theorem gScale_apply (hx : ∀ r n : Fin 512, x (ix2 r n) = S (512 * B + r.val) (o + n.val)) (r : Fin 512) (u : Fin 1) :
    gScale x (ix2 r u) = scale S (512 * B + r.val) o := by
  have e := gMean_apply (x := mulf x x) (f := fun r n => S (512 * B + r) (o + n) * S (512 * B + r) (o + n))
    (fun r n => congrArg₂ (· * ·) (hx r n) (hx r n)) r u
  show Ideal.rsqrt (gMean (mulf x x) (ix2 r u) + _) = _
  rw [e]
  rfl

theorem gNrm_apply (ho : off o = o) (hx : ∀ r n : Fin 512, x (ix2 r n) = S (512 * B + r.val) (o + n.val)) (r n : Fin 512) :
    gNrm x (ix2 r n) = nrm S (512 * B + r.val) (o + n.val) := by
  show x (ix2 r n) * broadcastTo Grp (gScale x) bcC (ix2 r n) = _
  rw [Cert.KernelIdeal.SG.bc_a1 _ bcC (by decide), gScale_apply hx, hx, nrm, off_add ho n.isLt]

theorem gGain_apply (hd : ∀ r n : Fin 512, d (ix2 r n) = D (512 * B + r.val) (o + n.val)) (hv : ∀ n : Fin 512, v (ix2 (0 : Fin 1) n) = g (o + n.val))
    (r n : Fin 512) : gGain d v (ix2 r n) = D (512 * B + r.val) (o + n.val) * g (o + n.val) := by
  show d (ix2 r n) * broadcastTo Grp (shapeCast Row v castR) bcR (ix2 r n) = _
  rw [broadcastTo_1b_ab_apply, shapeCast_self, hd, hv]

theorem gDyz_apply (ho : off o = o) (hx : ∀ r n : Fin 512, x (ix2 r n) = S (512 * B + r.val) (o + n.val))
    (hd : ∀ r n : Fin 512, d (ix2 r n) = D (512 * B + r.val) (o + n.val)) (hv : ∀ n : Fin 512, v (ix2 (0 : Fin 1) n) = g (o + n.val))
    (r n : Fin 512) : gDyz x d v (ix2 r n) = dyz S D g (512 * B + r.val) (o + n.val) := by
  have e := gMean_apply (x := mulf (gGain d v) (gNrm x))
    (f := fun r n => D (512 * B + r) (o + n) * g (o + n) * nrm S (512 * B + r) (o + n))
    (fun r n => congrArg₂ (· * ·) (gGain_apply hd hv r n) (gNrm_apply ho hx r n)) r 0
  show broadcastTo Grp (gScale x) bcC (ix2 r n) * (gGain d v (ix2 r n) - gNrm x (ix2 r n) * broadcastTo Grp (gMean (mulf (gGain d v) (gNrm x))) bcC (ix2 r n)) = _
  rw [Cert.KernelIdeal.SG.bc_a1 _ bcC (by decide), Cert.KernelIdeal.SG.bc_a1 _ bcC (by decide), e, gScale_apply hx, gNrm_apply ho hx, gGain_apply hd hv, dyz,
    off_add ho n.isLt]

theorem gDz_apply (ho : off o = o) (hx : ∀ r n : Fin 512, x (ix2 r n) = seg Y Z (512 * B + r.val) (o + n.val))
    (hd : ∀ r n : Fin 512, d (ix2 r n) = D (512 * B + r.val) (o + n.val)) (hv : ∀ n : Fin 512, v (ix2 (0 : Fin 1) n) = g (o + n.val))
    (hy : ∀ r n : Fin 512, y (ix2 r n) = Y (512 * B + r.val) (o + n.val)) (hz : ∀ r n : Fin 512, z (ix2 r n) = Z (512 * B + r.val) (o + n.val))
    (hs : ∀ r n : Fin 512, s (ix2 r n) = Cert.GT.sig (Z (512 * B + r.val) (o + n.val)))
    (r n : Fin 512) : gDz x d y z s v (ix2 r n) = dzOf Y Z D g (512 * B + r.val) (o + n.val) := by
  show gDyz x d v (ix2 r n) * y (ix2 r n) * (s (ix2 r n) * (one + z (ix2 r n) * (one - s (ix2 r n)))) = _
  rw [gDyz_apply ho hx hd hv, hy, hz, hs]
  rfl

theorem gDg_apply (ho : off o = o) (hx : ∀ r n : Fin 512, x (ix2 r n) = S (512 * B + r.val) (o + n.val))
    (hd : ∀ r n : Fin 512, d (ix2 r n) = D (512 * B + r.val) (o + n.val)) (u : Fin 1) (n : Fin 512) :
    gDg x d v (ix2 u n) = v (ix2 u n) + dgPart S D (o + n.val) B := by
  show shapeCast Row v castR (ix2 u n) + shapeCast Row (multiReduction .add [0] Lst (mulf d (gNrm x)) 0x00000000#32 red0 (.inl rfl) rfl) cast0 (ix2 u n) = _
  rw [shapeCast_self, Cert.KernelIdeal.SG.colSum _ red0 cast0 n u]
  exact congrArg (_ + ·) (Finset.sum_congr rfl fun r _ => congrArg₂ (· * ·) (hd r n) (gNrm_apply ho hx r n))

/-! ### A block written as four groups -/

theorem inQ {p o : ℕ} (ho : o ≤ 1536) : ∀ a, (![0, o] : Fin 2 → ℕ) a + (![p, 512] : Fin 2 → ℕ) a ≤ (⟨2, ![p, 2048]⟩ : Shape).size a
  | ⟨0, _⟩ => (Nat.zero_add p).le
  | ⟨1, _⟩ => by show o + 512 ≤ 2048; omega

/-- A group, written, and the four of them over anything written before. -/
abbrev pc {p : ℕ} {e : EltTy} (o : ℕ) (ho : o ≤ 1536) (v : Vec Ideal ⟨2, ![p, 512]⟩ e) : View.Piece (Elt Ideal) ⟨2, ![p, 2048]⟩ e :=
  ⟨Rect.unit ![0, o] ![p, 512] (inQ ho), v⟩

theorem quarters {p : ℕ} {e : EltTy} (G : ℕ → ℕ → Elt Ideal e) {v0 v1 v2 v3 : Vec Ideal ⟨2, ![p, 512]⟩ e}
    (h0 : ∀ (r : Fin p) (n : Fin 512), v0 (ix2 r n) = G r.val (0 + n.val)) (h1 : ∀ (r : Fin p) (n : Fin 512), v1 (ix2 r n) = G r.val (512 + n.val))
    (h2 : ∀ (r : Fin p) (n : Fin 512), v2 (ix2 r n) = G r.val (1024 + n.val)) (h3 : ∀ (r : Fin p) (n : Fin 512), v3 (ix2 r n) = G r.val (1536 + n.val))
    (L : List (View.Piece (Elt Ideal) ⟨2, ![p, 2048]⟩ e)) (r : Fin p) (n : Fin 2048) :
    View.canon (Val := Elt Ideal) (e := e) ([pc 1536 (by omega) v3, pc 1024 (by omega) v2, pc 512 (by omega) v1, pc 0 (by omega) v0] ++ L) (ix2 r n) = G r.val n.val := by
  let H : (⟨2, ![p, 2048]⟩ : Shape).Idx → Elt Ideal e := fun y => G (y 0).val (y 1).val
  have one : ∀ (o : ℕ) (ho : o ≤ 1536) (v : Vec Ideal ⟨2, ![p, 512]⟩ e), (∀ (r : Fin p) (n : Fin 512), v (ix2 r n) = G r.val (o + n.val)) →
      ∀ x : (⟨2, ![p, 512]⟩ : Shape).Idx, v x = H ((Rect.unit (s := ⟨2, ![p, 2048]⟩) ![0, o] ![p, 512] (inQ ho)).emb x) := fun o ho v h x => by
    obtain ⟨i, j, rfl⟩ : ∃ (i : Fin p) (j : Fin 512), x = ix2 i j := ⟨x 0, x 1, eq_ix2 x⟩
    refine (h i j).trans ?_
    show _ = G (0 + 1 * i.val) (o + 1 * j.val)
    rw [Nat.zero_add, Nat.one_mul, Nat.one_mul]
  have mem : ∀ (o : ℕ) (ho : o ≤ 1536), o ≤ n.val → n.val < o + 512 → ix2 r n ∈ (Rect.unit (s := ⟨2, ![p, 2048]⟩) ![0, o] ![p, 512] (inQ ho)).set :=
    fun o ho ha hb => (Rect.mem_set_unit (inb := inQ ho)).mpr fun a => match a with
      | ⟨0, _⟩ => ⟨Nat.zero_le _, r.isLt.trans_eq (Nat.zero_add _).symm⟩
      | ⟨1, _⟩ => ⟨ha, hb⟩
  have hp : View.PiecesOf (Val := Elt Ideal) (e := e) H [pc 1536 (by omega) v3, pc 1024 (by omega) v2, pc 512 (by omega) v1, pc 0 (by omega) v0] :=
    ⟨one 1536 (by omega) v3 h3, one 1024 (by omega) v2 h2, one 512 (by omega) v1 h1, one 0 (by omega) v0 h0, trivial⟩
  refine View.canon_append_of_piecesOf (Val := Elt Ideal) (e := e) H L _ hp (ix2 r n) ?_
  have hn := n.isLt
  by_cases a0 : n.val < 512
  · exact ⟨_, List.mem_cons_of_mem _ (List.mem_cons_of_mem _ (List.mem_cons_of_mem _ List.mem_cons_self)), mem 0 (by omega) (by omega) (by omega)⟩
  by_cases a1 : n.val < 1024
  · exact ⟨_, List.mem_cons_of_mem _ (List.mem_cons_of_mem _ List.mem_cons_self), mem 512 (by omega) (by omega) (by omega)⟩
  by_cases a2 : n.val < 1536
  · exact ⟨_, List.mem_cons_of_mem _ List.mem_cons_self, mem 1024 (by omega) (by omega) (by omega)⟩
  · exact ⟨_, List.mem_cons_self, mem 1536 (by omega) (by omega) (by omega)⟩

/-- A group of a one-row block. -/
theorem ldRow {w : FVec Ideal ⟨2, ![1, 2048]⟩ .f32} (o : ℕ) (ho : o ≤ 1536) (u : Fin 1) (n : Fin 512) :
    View.ld (Val := Elt Ideal) (e' := .f32) w (Rect.unit (s := ⟨2, ![1, 2048]⟩) ![0, o] ![1, 512] (inQ ho)) (ix2 u n)
      = w (ix2 (0 : Fin 1) (⟨o + n.val, by have := n.isLt; omega⟩ : Fin 2048)) :=
  View.ld_unit_apply_of (Val := Elt Ideal) (e := .f32) w _ _ _ _ _ fun a => match a with
    | ⟨0, _⟩ => by show 0 = 0 + u.val; omega
    | ⟨1, _⟩ => rfl

/-! ### On the reals -/

theorem mean_congr {f g : ℕ → EReal} (h : ∀ k < 512, f k = g k) : mean512 f = mean512 g :=
  congrArg (Ideal.div · _) (Finset.sum_congr rfl fun k _ => h k.val k.isLt)

theorem isR_mean {f : ℕ → EReal} (h : ∀ k < 512, IsR (f k)) : IsR (mean512 f) := by
  unfold mean512
  rw [c_512, Ideal.div_coe (by norm_num)]
  exact (IsR.sum _ fun k : Fin 512 => h k.val k.isLt).mul (isR_coe _)

/-- A group of real numbers, continued by zeros. -/
theorem continued {f : ℕ → EReal} (h : ∀ k < 512, IsR (f k)) : ∃ a : ℕ → EReal, (∀ k, IsR (a k)) ∧ ∀ k < 512, a k = f k := by
  refine ⟨fun k => if k < 512 then f k else 0, fun k => ?_, fun k hk => if_pos hk⟩
  show IsR (if k < 512 then f k else 0)
  split
  · exact h k ‹_›
  · exact isR_zero

theorem not_isR {x : EReal} (h : ¬IsR x) : x = ⊤ ∨ x = ⊥ := by
  induction x with
  | bot => exact .inr rfl
  | coe r => exact absurd (isR_coe r) h
  | top => exact .inl rfl

/-- A group with an infinite value has an infinite mean square. -/
theorem mean_top {f : ℕ → EReal} (h : ¬∀ k < 512, IsR (f k)) : mean512 (fun k => f k * f k) + Ideal.ofBits .f32 0x3727C5AC#32 = ⊤ := by
  obtain ⟨k, h⟩ := not_forall.mp h
  obtain ⟨hk, h⟩ := Classical.not_imp.mp h
  have hs : ∀ x : EReal, 0 ≤ x * x := fun x => by
    induction x with
    | bot => rw [EReal.bot_mul_bot]; exact le_top
    | coe r => rw [← EReal.coe_mul]; exact EReal.coe_nonneg.mpr (mul_self_nonneg r)
    | top => rw [EReal.top_mul_top]; exact le_top
  have hk2 : f k * f k = ⊤ := by
    obtain h | h := not_isR h <;> rw [h]
    · exact EReal.top_mul_top
    · exact EReal.bot_mul_bot
  have e : (∑ k : Fin 512, f k.val * f k.val) = ⊤ := top_le_iff.mp (hk2.symm.le.trans
    (Finset.single_le_sum (f := fun k : Fin 512 => f k.val * f k.val) (fun k _ => hs (f k.val)) (Finset.mem_univ (⟨k, hk⟩ : Fin 512))))
  obtain ⟨e0, he, hE⟩ := c_eps
  unfold mean512
  rw [hE, c_512, Ideal.div_coe (by norm_num), e, EReal.top_mul_coe_of_pos (by norm_num), EReal.top_add_coe]

theorem isR_scale {f : ℕ → EReal} (h : ∀ k, IsR (f k)) : IsR (Ideal.rsqrt (mean512 (fun k => f k * f k) + Ideal.ofBits .f32 0x3727C5AC#32)) := by
  choose a ha using h
  obtain rfl : f = fun k => ((a k : ℝ) : EReal) := funext ha
  obtain ⟨e, he, hE⟩ := c_eps
  unfold mean512
  rw [c_512, hE, Ideal.div_coe (by norm_num)]
  simp only [← EReal.coe_mul, coe_sum, ← EReal.coe_add]
  have hS : 0 ≤ ∑ k : Fin 512, a k.val * a k.val := Finset.sum_nonneg fun k _ => mul_self_nonneg _
  have hw0 : 0 < (∑ k : Fin 512, a k.val * a k.val) * (1 / 512) + e := by positivity
  rw [Ideal.rsqrt_coe, if_neg hw0.le.not_gt, if_neg hw0.ne']
  exact isR_coe _

/-- The two forms of the norm's gradient agree. -/
theorem dyz_form (f h : ℕ → EReal) (hf : ∀ k, IsR (f k)) (hh : ∀ k, IsR (h k)) (k : ℕ) :
    h k * Ideal.rsqrt (mean512 (fun k => f k * f k) + Ideal.ofBits .f32 0x3727C5AC#32)
      + Ideal.div ((∑ k : Fin 512, f k.val * h k.val) * (Ideal.ofBits .f32 0xBF000000#32
          * Ideal.div (Ideal.rsqrt (mean512 (fun k => f k * f k) + Ideal.ofBits .f32 0x3727C5AC#32))
            (mean512 (fun k => f k * f k) + Ideal.ofBits .f32 0x3727C5AC#32))) (Ideal.ofBits .f32 0x44000000#32)
        * (Ideal.ofBits .f32 0x40000000#32 * f k)
      = Ideal.rsqrt (mean512 (fun k => f k * f k) + Ideal.ofBits .f32 0x3727C5AC#32)
        * (h k - f k * Ideal.rsqrt (mean512 (fun k => f k * f k) + Ideal.ofBits .f32 0x3727C5AC#32)
          * mean512 fun k => h k * (f k * Ideal.rsqrt (mean512 (fun k => f k * f k) + Ideal.ofBits .f32 0x3727C5AC#32))) := by
  choose a ha using hf
  choose d hd using hh
  obtain ⟨e, he, hE⟩ := c_eps
  have hn : (512 : ℝ) ≠ 0 := by norm_num
  obtain rfl : f = fun k => ((a k : ℝ) : EReal) := funext ha
  obtain rfl : h = fun k => ((d k : ℝ) : EReal) := funext hd
  rw [hE, c_two, c_neg_half]
  have hv : (mean512 fun k => (a k : EReal) * (a k : EReal)) = (((∑ k : Fin 512, a k.val * a k.val) * (1 / 512) : ℝ) : EReal) := by
    unfold mean512
    rw [c_512, Ideal.div_coe hn]
    simp only [← EReal.coe_mul, coe_sum]
  rw [hv]
  unfold mean512
  rw [c_512]
  simp only [← EReal.coe_add]
  have hS : 0 ≤ ∑ k : Fin 512, a k.val * a k.val := Finset.sum_nonneg fun k _ => mul_self_nonneg _
  generalize hw : (∑ k : Fin 512, a k.val * a k.val) * (1 / 512) + e = w
  have hw0 : 0 < w := by rw [← hw]; positivity
  rw [Ideal.rsqrt_coe, if_neg hw0.le.not_gt, if_neg hw0.ne']
  simp only [Ideal.div_coe hn, Ideal.div_coe hw0.ne', ← EReal.coe_mul, coe_sum, ← EReal.coe_add, ← EReal.coe_sub, ← EReal.coe_neg]
  rw [EReal.coe_eq_coe_iff]
  have hs : 0 < Real.sqrt w := Real.sqrt_pos.mpr hw0
  have hss : Real.sqrt w * Real.sqrt w = w := Real.mul_self_sqrt hw0.le
  generalize Real.sqrt w = s at hs hss
  rw [← hss]
  rw [show (∑ k : Fin 512, d k.val * (a k.val * s⁻¹)) = (∑ k : Fin 512, a k.val * d k.val) * s⁻¹ by
    rw [Finset.sum_mul]; exact Finset.sum_congr rfl fun _ _ => by ring]
  generalize (∑ k : Fin 512, a k.val * d k.val) = T
  field_simp
  ring

end Cert.NM

end

end
-- ==== Proof.NormKernel.lean ====
module

public import proofs.«01_k».proof.Defs
public import proofs.«01_k».proof.Proof.Gen.NormIdeal.Value
public import proofs.«01_k».proof.Proof.Args
public import proofs.«01_k».proof.Proof.Norm
public import Idealize.ShloMosaic.Lib.Pipeline.ValueKit
public import Idealize.ShloMosaic.Lib.Pipeline.ReadBack

/- The gated norm's kernel: each grid point's four groups, and the array the grid leaves. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT Cert.NM

namespace Cert.NormIdeal.NM

open Cert.NormIdeal.Gen

theorem i0 : ∀ t : Fin cfg0.N, win0_0.index t = ![t.val, 0] := (by decide +kernel : ∀ t : Fin grid0.N, _)
theorem i1 : ∀ t : Fin cfg0.N, win0_1.index t = ![t.val, 1] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![t.val, 0] := (by decide +kernel : ∀ t : Fin grid0.N, _)

variable (m : (ℓ : Loc nD τ sig) → Buf (Elt Ideal) ℓ) (c : Dev nD)

/-- The values, the gate's columns of the projection, and the gain. -/
abbrev ys : ℕ → ℕ → EReal := at2 (a := 4096) (b := 2048) (m ((c : Thread nD τ).loc main_arg0))
abbrev zs (r n : ℕ) : EReal := at2 (a := 4096) (b := 9216) (m ((c : Thread nD τ).loc main_arg1)) r (2048 + n)
abbrev gs : ℕ → EReal := at1 (a := 2048) (m ((c : Thread nD τ).loc main_arg2))

theorem b0 (t : Fin cfg0.N) (r : Fin 512) (n : Fin 2048) : iblk m c 0 t (ix2 r n) = ys m c (512 * t.val + r.val) n.val :=
  (blk (win0_0.rect_emb_val_off t) (i0 t) (fun _ => congrFun (V_main_arg0 m c) _) r n).trans (congrArg (at2 _ _) (by omega))

theorem b1 (t : Fin cfg0.N) (r : Fin 512) (n : Fin 2048) : X0_1 m c t (ix2 r n) = zs m c (512 * t.val + r.val) n.val := by
  refine blk (p := 512) (q := 2048) (i := t.val) (k := 1) (X := m ((c : Thread nD τ).loc main_arg1)) (x := X0_1 m c t) (fun j => win0_1.rect_emb_val_off t
    (fun a => ⟨(j a).val, ((cfg0.win 1).moved_iff _ j).mp (moved0_1 t j) a⟩)) (i1 t) (fun j => ?_) r n
  unfold X0_1 Pipeline.Window.fill
  rw [dif_pos (moved0_1 t j)]
  exact congrFun (V_main_arg1 m c) _

theorem b2 (t : Fin cfg0.N) (n : Fin 2048) : (iblk m c 2 t : FVec Ideal S1x2048 .f32) (ix2 (0 : Fin 1) n) = gs m c n.val := by
  refine Eq.trans ?_ (at1_eq _ _ n.isLt).symm
  show iblk m c 2 t (ix2 0 n) = _
  have e : ((View.whole main_v0).slice (win0_2.rect t)).emb (ix2 (0 : Fin 1) n) = ix2 (0 : Fin 1) n := by
    blk_ext [i2 t]
  blk_simp [iblk]; entry_read
  rw [e]
  exact shapeCast_a_1a_apply _ _ _ _

/-- The gated tile of a gate and values, -/
theorem seg_tile (z y : Vec Ideal S512x2048 .bf16) (i : S512x2048.Idx) : k0_pay1 z y i = y i * (z i * Cert.GT.sig (z i)) := by
  show y i * z i * (half * Ideal.tanh (half * _) + half) = _
  rw [sig_tanh, mul_assoc]
  rfl

/-- a point's, -/
theorem segT (t : Fin cfg0.N) (r : Fin 512) (n : Fin 2048) :
    k0_pay1 (X0_1 m c t) (iblk m c 0 t) (ix2 r n) = seg (ys m c) (zs m c) (512 * t.val + r.val) n.val := by
  rw [seg, ← b0, ← b1]
  exact seg_tile _ _ _

/-- and what the point leaves. -/
theorem out_point (t : Fin cfg0.N) (r : Fin 512) (n : Fin 2048) :
    outsAt0 m c t (ix2 r n) = out (seg (ys m c) (zs m c)) (gs m c) (512 * t.val + r.val) n.val := by
  have q : ∀ (o : ℕ) (ho : o ≤ 1536) (hf : off o = o) (h : Tile.Slices ![0, o] Grp) (r n : Fin 512),
      gGain (gNrm (grp o h (k0_pay1 (X0_1 m c t) (iblk m c 0 t))))
        (View.ld (Val := Elt Ideal) (e' := .f32) (iblk m c 2 t) (Rect.unit (s := S1x2048) ![0, o] ![1, 512] (inQ ho))) (ix2 r n)
      = out (seg (ys m c) (zs m c)) (gs m c) (512 * t.val + r.val) (o + n.val) := fun o ho hf h r n =>
    gGain_apply (B := t.val) (o := o) (D := nrm (seg (ys m c) (zs m c))) (g := gs m c) (gNrm_apply hf (grp_apply h (segT m c t) ho))
      (fun n => (ldRow o ho 0 n).trans (b2 m c t _)) r n
  unfold outsAt0
  frame_out
  exact quarters (e := .bf16) (fun r n => out (seg (ys m c) (zs m c)) (gs m c) (512 * t.val + r) n)
    (q 0 (by omega) rfl slices_S512x2048_o0_0_S512x512) (q 512 (by omega) rfl slices_S512x2048_o0_512_S512x512)
    (q 1024 (by omega) rfl slices_S512x2048_o0_1024_S512x512) (q 1536 (by omega) rfl slices_S512x2048_o0_1536_S512x512) [] r n

theorem arr3 : (dats m 0 c).arrAt 3 cfg0.N = fun j : S4096x2048.Idx => out (seg (ys m c) (zs m c)) (gs m c) (j 0).val (j 1).val := by
  refine (dats m 0 c).arrAt_eq_of_covers 3 _ (by decide +kernel) fun t hf j => ?_
  blk_simp
  rw [after0_3]
  exact Cert.AT.place (G := out (seg (ys m c) (zs m c)) (gs m c)) (i3 t)
    (fun r n => (out_point m c t r n).trans (congrArg (out (seg (ys m c) (zs m c)) (gs m c) _) (by omega))) j

end Cert.NormIdeal.NM

end

end
-- ==== Proof.NormBwdKernel.lean ====
module

public import proofs.«01_k».proof.Defs
public import proofs.«01_k».proof.Proof.Gen.NormBwdIdeal.Value
public import proofs.«01_k».proof.Proof.Args
public import proofs.«01_k».proof.Proof.Norm
public import Idealize.ShloMosaic.Lib.Pipeline.ValueKit
public import Idealize.ShloMosaic.Lib.Pipeline.ReadBack

/- The gated norm's backward kernel: each grid point's four groups of the gradients of the values and of the gate, the part of
   the gain's gradient that it adds, and the arrays the grid leaves. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT Cert.NM

namespace Cert.NormBwdIdeal.NM

open Cert.NormBwdIdeal.Gen

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![t.val, 1] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![t.val, 0] := (by decide +kernel : ∀ t : Fin grid0.N, _)
theorem i5 : ∀ t : Fin cfg0.N, win0_5.index t = ![t.val, 1] := (by decide +kernel : ∀ t : Fin grid0.N, _)
theorem i6 : ∀ t : Fin cfg0.N, win0_6.index t = ![0, 0] := (by decide +kernel : ∀ t : Fin grid0.N, _)

variable (m : (ℓ : Loc nD τ sig) → Buf (Elt Ideal) ℓ) (c : Dev nD)

/-- The incoming gradient, the values, the gate's columns of the projection, and the gain. -/
abbrev ds : ℕ → ℕ → EReal := at2 (a := 4096) (b := 2048) (m ((c : Thread nD τ).loc main_arg0))
abbrev ys : ℕ → ℕ → EReal := at2 (a := 4096) (b := 2048) (m ((c : Thread nD τ).loc main_arg1))
abbrev zs (r n : ℕ) : EReal := at2 (a := 4096) (b := 9216) (m ((c : Thread nD τ).loc main_arg2)) r (2048 + n)
abbrev gs : ℕ → EReal := at1 (a := 2048) (m ((c : Thread nD τ).loc main_arg3))

theorem b0 (t : Fin cfg0.N) (r : Fin 512) (n : Fin 2048) : iblk m c 0 t (ix2 r n) = ds m c (512 * t.val + r.val) n.val :=
  (blk (win0_0.rect_emb_val_off t) (i0 t) (fun _ => congrFun (V_main_arg0 m c) _) r n).trans (congrArg (at2 _ _) (by omega))

theorem b1 (t : Fin cfg0.N) (r : Fin 512) (n : Fin 2048) : iblk m c 1 t (ix2 r n) = ys m c (512 * t.val + r.val) n.val :=
  (blk (win0_1.rect_emb_val_off t) (i1 t) (fun _ => congrFun (V_main_arg1 m c) _) r n).trans (congrArg (at2 _ _) (by omega))

theorem b2 (t : Fin cfg0.N) (r : Fin 512) (n : Fin 2048) : X0_2 m c t (ix2 r n) = zs m c (512 * t.val + r.val) n.val := by
  refine blk (p := 512) (q := 2048) (i := t.val) (k := 1) (X := m ((c : Thread nD τ).loc main_arg2)) (x := X0_2 m c t) (fun j => win0_2.rect_emb_val_off t
    (fun a => ⟨(j a).val, ((cfg0.win 2).moved_iff _ j).mp (moved0_2 t j) a⟩)) (i2 t) (fun j => ?_) r n
  unfold X0_2 Pipeline.Window.fill
  rw [dif_pos (moved0_2 t j)]
  exact congrFun (V_main_arg2 m c) _

theorem b3 (t : Fin cfg0.N) (n : Fin 2048) : (iblk m c 3 t : FVec Ideal S1x2048 .f32) (ix2 (0 : Fin 1) n) = gs m c n.val := by
  refine Eq.trans ?_ (at1_eq _ _ n.isLt).symm
  show iblk m c 3 t (ix2 0 n) = _
  have e : ((View.whole main_v0).slice (win0_3.rect t)).emb (ix2 (0 : Fin 1) n) = ix2 (0 : Fin 1) n := by
    blk_ext [i3 t]
  blk_simp [iblk]; entry_read
  rw [e]
  exact shapeCast_a_1a_apply _ _ _ _

/-- The gate's sigmoid and the gated tile, -/
theorem sig_tile (z : Vec Ideal S512x2048 .bf16) (i : S512x2048.Idx) : k0_pay5 z i = Cert.GT.sig (z i) := by
  show half * Ideal.tanh (half * _) + half = _
  rw [sig_tanh]
  rfl

theorem silu_tile (z : Vec Ideal S512x2048 .bf16) (i : S512x2048.Idx) : k0_pay6 z i = z i * Cert.GT.sig (z i) := by
  rw [← sig_tile]
  rfl

theorem seg_tile (z y : Vec Ideal S512x2048 .bf16) (i : S512x2048.Idx) : k0_pay7 z y i = y i * (z i * Cert.GT.sig (z i)) := by
  rw [← silu_tile]
  rfl

/-- a point's, -/
theorem sigT (t : Fin cfg0.N) (r : Fin 512) (n : Fin 2048) : k0_pay5 (X0_2 m c t) (ix2 r n) = Cert.GT.sig (zs m c (512 * t.val + r.val) n.val) := by
  rw [← b2]
  exact sig_tile _ _

theorem siluT (t : Fin cfg0.N) (r : Fin 512) (n : Fin 2048) :
    k0_pay6 (X0_2 m c t) (ix2 r n) = zs m c (512 * t.val + r.val) n.val * Cert.GT.sig (zs m c (512 * t.val + r.val) n.val) := by
  rw [← b2]
  exact silu_tile _ _

theorem segT (t : Fin cfg0.N) (r : Fin 512) (n : Fin 2048) :
    k0_pay7 (X0_2 m c t) (iblk m c 1 t) (ix2 r n) = seg (ys m c) (zs m c) (512 * t.val + r.val) n.val := by
  rw [seg, ← b1, ← b2]
  exact seg_tile _ _ _

abbrev gl (t : Fin cfg0.N) (o : ℕ) (ho : o ≤ 1536) : FVec Ideal Row .f32 :=
  View.ld (Val := Elt Ideal) (e' := .f32) (iblk m c 3 t) (Rect.unit (s := S1x2048) ![0, o] ![1, 512] (inQ ho))

/-- and what the point leaves of the values' gradient, -/
theorem dy_point (t : Fin cfg0.N) (r : Fin 512) (n : Fin 2048) :
    (outsAt0 m c t.val t.isLt).1 (ix2 r n) = dyOf (ys m c) (zs m c) (ds m c) (gs m c) (512 * t.val + r.val) n.val := by
  have q : ∀ (o : ℕ) (ho : o ≤ 1536) (hf : off o = o) (h : Tile.Slices ![0, o] Grp) (r n : Fin 512),
      mulf (gDyz (grp o h (k0_pay7 (X0_2 m c t) (iblk m c 1 t))) (grp o h (k0_pay8 (iblk m c 0 t))) (gl m c t o ho)) (grp o h (k0_pay6 (X0_2 m c t))) (ix2 r n)
      = dyOf (ys m c) (zs m c) (ds m c) (gs m c) (512 * t.val + r.val) (o + n.val) := fun o ho hf h r n =>
    congrArg₂ HMul.hMul (gDyz_apply (B := t.val) (o := o) (S := seg (ys m c) (zs m c)) (D := ds m c) (g := gs m c) hf (grp_apply h (segT m c t) ho)
        (grp_apply (w := k0_pay8 (iblk m c 0 t)) h (b0 m c t) ho) (fun n => (ldRow o ho 0 n).trans (b3 m c t _)) r n)
      (grp_apply (B := t.val) (G := fun r n => zs m c r n * Cert.GT.sig (zs m c r n)) h (siluT m c t) ho r n)
  have e := quarters (e := .bf16) (fun r n => dyOf (ys m c) (zs m c) (ds m c) (gs m c) (512 * t.val + r) n)
    (q 0 (by omega) rfl slices_S512x2048_o0_0_S512x512) (q 512 (by omega) rfl slices_S512x2048_o0_512_S512x512)
    (q 1024 (by omega) rfl slices_S512x2048_o0_1024_S512x512) (q 1536 (by omega) rfl slices_S512x2048_o0_1536_S512x512) [] r n
  by_cases h : t.val % 8 = 0
  · rw [outsAt0_A m c t h]
    frame_out
    exact e
  · rw [outsAt0_B m c t h]
    frame_out
    exact e

/-- of the gate's, -/
theorem dz_point (t : Fin cfg0.N) (r : Fin 512) (n : Fin 2048) :
    (outsAt0 m c t.val t.isLt).2.1 (ix2 r n) = dzOf (ys m c) (zs m c) (ds m c) (gs m c) (512 * t.val + r.val) n.val := by
  have q : ∀ (o : ℕ) (ho : o ≤ 1536) (hf : off o = o) (h : Tile.Slices ![0, o] Grp) (r n : Fin 512),
      gDz (grp o h (k0_pay7 (X0_2 m c t) (iblk m c 1 t))) (grp o h (k0_pay8 (iblk m c 0 t))) (grp o h (k0_pay4 (iblk m c 1 t)))
        (grp o h (k0_pay3 (X0_2 m c t))) (grp o h (k0_pay5 (X0_2 m c t))) (gl m c t o ho) (ix2 r n)
      = dzOf (ys m c) (zs m c) (ds m c) (gs m c) (512 * t.val + r.val) (o + n.val) := fun o ho hf h r n =>
    gDz_apply (B := t.val) (o := o) (Y := ys m c) (Z := zs m c) (D := ds m c) (g := gs m c) hf (grp_apply h (segT m c t) ho)
      (grp_apply (w := k0_pay8 (iblk m c 0 t)) h (b0 m c t) ho) (fun n => (ldRow o ho 0 n).trans (b3 m c t _))
      (grp_apply (w := k0_pay4 (iblk m c 1 t)) h (b1 m c t) ho) (grp_apply (w := k0_pay3 (X0_2 m c t)) h (b2 m c t) ho)
      (grp_apply (B := t.val) (G := fun r n => Cert.GT.sig (zs m c r n)) h (sigT m c t) ho) r n
  have e := quarters (e := .bf16) (fun r n => dzOf (ys m c) (zs m c) (ds m c) (gs m c) (512 * t.val + r) n)
    (q 0 (by omega) rfl slices_S512x2048_o0_0_S512x512) (q 512 (by omega) rfl slices_S512x2048_o0_512_S512x512)
    (q 1024 (by omega) rfl slices_S512x2048_o0_1024_S512x512) (q 1536 (by omega) rfl slices_S512x2048_o0_1536_S512x512) [] r n
  by_cases h : t.val % 8 = 0
  · rw [outsAt0_A m c t h]
    frame_out
    exact e
  · rw [outsAt0_B m c t h]
    frame_out
    exact e

theorem dz_at (t : Fin cfg0.N) (i : S512x2048.Idx) :
    (outsAt0 m c t.val t.isLt).2.1 i = dzOf (ys m c) (zs m c) (ds m c) (gs m c) (512 * t.val + (i 0).val) (i 1).val :=
  (congrArg (outsAt0 m c t.val t.isLt).2.1 (eq_ix2 i)).trans (dz_point m c t (i 0) (i 1))

/-- and of the gain's, added to a row. -/
abbrev part (b n : ℕ) : EReal := dgPart (seg (ys m c) (zs m c)) (ds m c) n b

theorem dg_row (t : Fin cfg0.N) (w : FVec Ideal S1x2048 .f32) (L : List (View.Piece (Elt Ideal) S1x2048 .f32)) (u : Fin 1) (n : Fin 2048) :
    View.canon (Val := Elt Ideal) (e := .f32) ([pc 1536 (by omega) (gDg (grp 1536 slices_S512x2048_o0_1536_S512x512 (k0_pay7 (X0_2 m c t) (iblk m c 1 t)))
        (grp 1536 slices_S512x2048_o0_1536_S512x512 (k0_pay8 (iblk m c 0 t))) (View.ld (Val := Elt Ideal) (e' := .f32) w (Rect.unit (s := S1x2048) ![0, 1536] ![1, 512] (inQ (by omega))))),
      pc 1024 (by omega) (gDg (grp 1024 slices_S512x2048_o0_1024_S512x512 (k0_pay7 (X0_2 m c t) (iblk m c 1 t)))
        (grp 1024 slices_S512x2048_o0_1024_S512x512 (k0_pay8 (iblk m c 0 t))) (View.ld (Val := Elt Ideal) (e' := .f32) w (Rect.unit (s := S1x2048) ![0, 1024] ![1, 512] (inQ (by omega))))),
      pc 512 (by omega) (gDg (grp 512 slices_S512x2048_o0_512_S512x512 (k0_pay7 (X0_2 m c t) (iblk m c 1 t)))
        (grp 512 slices_S512x2048_o0_512_S512x512 (k0_pay8 (iblk m c 0 t))) (View.ld (Val := Elt Ideal) (e' := .f32) w (Rect.unit (s := S1x2048) ![0, 512] ![1, 512] (inQ (by omega))))),
      pc 0 (by omega) (gDg (grp 0 slices_S512x2048_o0_0_S512x512 (k0_pay7 (X0_2 m c t) (iblk m c 1 t)))
        (grp 0 slices_S512x2048_o0_0_S512x512 (k0_pay8 (iblk m c 0 t))) (View.ld (Val := Elt Ideal) (e' := .f32) w (Rect.unit (s := S1x2048) ![0, 0] ![1, 512] (inQ (by omega)))))]
      ++ L) (ix2 u n) = w (ix2 u n) + part m c t.val n.val := by
  have q : ∀ (o : ℕ) (ho : o ≤ 1536) (hf : off o = o) (h : Tile.Slices ![0, o] Grp) (u : Fin 1) (n : Fin 512),
      gDg (grp o h (k0_pay7 (X0_2 m c t) (iblk m c 1 t))) (grp o h (k0_pay8 (iblk m c 0 t)))
        (View.ld (Val := Elt Ideal) (e' := .f32) w (Rect.unit (s := S1x2048) ![0, o] ![1, 512] (inQ ho))) (ix2 u n)
      = at2 (a := 1) (b := 2048) w u.val (o + n.val) + part m c t.val (o + n.val) := fun o ho hf h u n => by
    have hn := n.isLt
    refine (gDg_apply (B := t.val) (o := o) (S := seg (ys m c) (zs m c)) (D := ds m c) hf (grp_apply h (segT m c t) ho)
      (grp_apply (w := k0_pay8 (iblk m c 0 t)) h (b0 m c t) ho) u n).trans (congrArg (· + _) ((ldRow o ho u n).trans ?_))
    exact (at2_ix (a := 1) (b := 2048) w _).trans (congrArg (at2 (a := 1) (b := 2048) w · _) (by show 0 = u.val; omega))
  refine (quarters (e := .f32) (fun r n => at2 (a := 1) (b := 2048) w r n + part m c t.val n)
    (q 0 (by omega) rfl slices_S512x2048_o0_0_S512x512) (q 512 (by omega) rfl slices_S512x2048_o0_512_S512x512)
    (q 1024 (by omega) rfl slices_S512x2048_o0_1024_S512x512) (q 1536 (by omega) rfl slices_S512x2048_o0_1536_S512x512) L u n).trans ?_
  exact congrArg (· + _) (at2_ix (a := 1) (b := 2048) w (ix2 u n)).symm

theorem dgA (t : Fin cfg0.N) (h : t.val % 8 = 0) (u : Fin 1) (n : Fin 2048) :
    (outsAt0 m c t.val t.isLt).2.2 (ix2 u n) = 0 + part m c t.val n.val := by
  rw [outsAt0_A m c t h]
  frame_out
  simp (disch := decide) only [↓View.readCov_skip, ↓View.readCov_fill]
  refine (dg_row m c t (k0_pay2 (F := Ideal)) [_] u n).trans (congrArg (· + _) ?_)
  exact Cert.KernelIdeal.SG.k_zero

theorem dgB (t : Fin cfg0.N) (h : ¬t.val % 8 = 0) (u : Fin 1) (n : Fin 2048) : (outsAt0 m c t.val t.isLt).2.2 (ix2 u n)
    = (outsAt0 m c (t.val - 1) (by have := t.isLt; omega)).2.2 (ix2 u n) + part m c t.val n.val := by
  rw [outsAt0_B m c t h]
  frame_out
  exact dg_row m c t _ [] u n

/-- The parts added up to a point, -/
theorem dg_sum (u : Fin 1) (n : Fin 2048) : ∀ (b : ℕ) (h : b < cfg0.N), (outsAt0 m c b h).2.2 (ix2 u n) = ∑ k ∈ Finset.range (b + 1), part m c k n.val
  | 0, h => (dgA m c ⟨0, h⟩ rfl u n).trans ((zero_add _).trans (Finset.sum_range_one _).symm)
  | b + 1, h => by
    have hb : b + 1 < 8 := h
    rw [Finset.sum_range_succ, ← dg_sum u n b (Nat.lt_of_succ_lt h)]
    exact dgB m c ⟨b + 1, h⟩ (by show ¬(b + 1) % 8 = 0; omega) u n

/-- up to the last. -/
theorem dg_last (t : Fin cfg0.N) (h : t.val % 8 = 7) (u : Fin 1) (n : Fin 2048) :
    (outsAt0 m c t.val t.isLt).2.2 (ix2 u n) = dgOf (seg (ys m c) (zs m c)) (ds m c) n.val := by
  have ht : t.val < 8 := t.isLt
  rw [dg_sum, show t.val + 1 = 8 by omega]
  exact dg_parts _ _ _

/-! ### The arrays -/

theorem arr4 : (dats m 0 c).arrAt 4 cfg0.N = fun j : S4096x2048.Idx => dyOf (ys m c) (zs m c) (ds m c) (gs m c) (j 0).val (j 1).val := by
  refine (dats m 0 c).arrAt_eq_of_covers 4 _ (by decide +kernel) fun t hf j => ?_
  blk_simp
  rw [after0_4]
  exact Cert.AT.place (G := dyOf (ys m c) (zs m c) (ds m c) (gs m c)) (i4 t)
    (fun r n => (dy_point m c t r n).trans (congrArg (dyOf (ys m c) (zs m c) (ds m c) (gs m c) _) (by omega))) j

/-- The projection's gradient: the gate's columns are written, the others are kept. -/
def dp (r n : ℕ) : EReal := dzOf (ys m c) (zs m c) (ds m c) (gs m c) r (n - 2048)

theorem arr5 (y : S4096x9216.Idx) : (dats m 0 c).arrAt 5 cfg0.N y
    = if 2048 ≤ (y 1).val ∧ (y 1).val < 4096 then dp m c (y 0).val (y 1).val else m ((c : Thread nD τ).loc main_arg4) y := by
  refine ((dats m 0 c).arrAt_apply_of_coversWhere 5 (fun y : S4096x9216.Idx => dp m c (y 0).val (y 1).val)
    (P := fun y : S4096x9216.Idx => 2048 ≤ (y 1).val ∧ (y 1).val < 4096) (fun q => q 1 = 1) (by decide +kernel) (fun t _ j => ?_) (fun j => ?_) y).trans ?_
  · blk_simp
    rw [after0_5]
    refine (dz_at m c t _).trans ?_
    rw [i5]
    show dzOf _ _ _ _ (512 * t.val + (j 0).val) (j 1).val = dzOf _ _ _ _ (t.val * 512 + (j 0).val) (1 * 2048 + (j 1).val - 2048)
    rw [Nat.mul_comm t.val, Nat.one_mul, Nat.add_sub_cancel_left]
  · blk_simp [Pipeline.Window.cell_apply]
    omega
  · refine if_congr Iff.rfl rfl ?_
    rw [A_eq]
    show V m c main_v1_1 y = _
    entry_read
    rfl

/-- The gain's gradient. -/
theorem arr6 : (dats m 0 c).arrAt 6 cfg0.N = fun j : S1x2048.Idx => dgOf (seg (ys m c) (zs m c)) (ds m c) (j 1).val := by
  refine (dats m 0 c).arrAt_eq_of_covers 6 _ (by decide +kernel) fun t hf j => ?_
  blk_simp
  rw [after0_6]
  exact Cert.AT.place (G := fun _ n => dgOf (seg (ys m c) (zs m c)) (ds m c) n) (i6 t)
    (fun u n => (dg_last m c t ((flush0_6 t).mp hf) u n).trans (congrArg (dgOf (seg (ys m c) (zs m c)) (ds m c)) (by omega))) j

end Cert.NormBwdIdeal.NM

end

end
-- ==== Proof.NormRef.lean ====
module

public import proofs.«01_k».proof.Proof.Gen.NormRefIdeal.Read
public import proofs.«01_k».proof.Proof.Gen.NormBwdRefIdeal.Read
public import proofs.«01_k».proof.Proof.RefSum
public import proofs.«01_k».proof.Proof.HeadRef
public import proofs.«01_k».proof.Proof.ConvRef
public import proofs.«01_k».proof.Proof.Norm

/- The references of the gated norm and of its gradients read at an index. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT Cert.NM

namespace Cert.NM

theorem off_mul (q : ℕ) : off (512 * q) = 512 * q := by unfold off; omega

theorem scale_zero {S : ℕ → ℕ → EReal} {r o : ℕ} (h : ¬∀ k < 512, IsR (S r (o + k))) : scale S r o = 0 := by
  unfold scale
  rw [mean_top (f := fun k => S r (o + k)) h, Ideal.rsqrt_top]

/-- The gradient of the gated value in a group, as a product rule: in a group with an infinite value both are zero. -/
theorem dyz_group (S D : ℕ → ℕ → EReal) (g : ℕ → EReal) (hD : ∀ r c, IsR (D r c)) (hg : ∀ c, IsR (g c)) (r q n : ℕ) (hn : n < 512) :
    D r (512 * q + n) * g (512 * q + n) * scale S r (512 * q)
      + Ideal.div ((∑ k : Fin 512, S r (512 * q + k.val) * (D r (512 * q + k.val) * g (512 * q + k.val))) * (Ideal.ofBits .f32 0xBF000000#32
          * Ideal.div (scale S r (512 * q))
            (mean512 (fun k => S r (512 * q + k) * S r (512 * q + k)) + Ideal.ofBits .f32 0x3727C5AC#32))) (Ideal.ofBits .f32 0x44000000#32)
        * (Ideal.ofBits .f32 0x40000000#32 * S r (512 * q + n))
      = dyz S D g r (512 * q + n) := by
  unfold dyz
  by_cases h : ∀ k < 512, IsR (S r (512 * q + k))
  · obtain ⟨f, hf, e⟩ := continued h
    have e1 : mean512 (fun k => f k * f k) = mean512 (fun k => S r (512 * q + k) * S r (512 * q + k)) := mean_congr fun k hk => by rw [e k hk]
    have e2 : (∑ k : Fin 512, f k.val * (D r (512 * q + k.val) * g (512 * q + k.val)))
        = ∑ k : Fin 512, S r (512 * q + k.val) * (D r (512 * q + k.val) * g (512 * q + k.val)) := Finset.sum_congr rfl fun k _ => by rw [e k.val k.isLt]
    have d := dyz_form f (fun k => D r (512 * q + k) * g (512 * q + k)) hf (fun k => (hD _ _).mul (hg _)) n
    rw [e1, e2, e n hn] at d
    refine d.trans ?_
    unfold nrm
    rw [off_add (off_mul q) hn]
    refine congrArg (fun x => scale S r (512 * q) * (D r (512 * q + n) * g (512 * q + n) - S r (512 * q + n) * scale S r (512 * q) * x)) (mean_congr fun k hk => ?_)
    rw [off_add (off_mul q) hk, e k hk]
    rfl
  · rw [off_add (off_mul q) hn, scale_zero h, mean_top (f := fun k => S r (512 * q + k)) h, mul_zero, zero_mul, Ideal.zero_div EReal.top_ne_zero,
      mul_zero, mul_zero, c_512, Ideal.div_coe (by norm_num), zero_mul, zero_mul, add_zero]

/-- The gradient of the gated value is a real number. -/
theorem isR_dyz (S : ℕ → ℕ → EReal) {D : ℕ → ℕ → EReal} {g : ℕ → EReal} (hD : ∀ r c, IsR (D r c)) (hg : ∀ c, IsR (g c)) (r c : ℕ) :
    IsR (dyz S D g r c) := by
  unfold dyz
  by_cases h : ∀ k < 512, IsR (S r (off c + k))
  · have ho : off (off c) = off c := off_mul _
    have hs : IsR (scale S r (off c)) := by
      obtain ⟨f, hf, e⟩ := continued h
      have d := isR_scale hf
      rwa [mean_congr (g := fun k => S r (off c + k) * S r (off c + k)) fun k hk => by rw [e k hk]] at d
    have hn : ∀ k < 512, IsR (nrm S r (off c + k)) := fun k hk => by
      unfold nrm
      rw [off_add ho hk]
      exact (h k hk).mul hs
    have hc := hn (c - off c) (by unfold off; omega)
    rw [show off c + (c - off c) = c by unfold off; omega] at hc
    exact hs.mul (((hD r c).mul (hg c)).sub (hc.mul (isR_mean fun k hk => ((hD r _).mul (hg _)).mul (hn k hk))))
  · rw [scale_zero h, zero_mul]
    exact isR_zero

/-- Where an infinite value is gated to a real number, the gate is shut. -/
theorem shut {y z : EReal} (hy : ¬IsR y) (h : IsR (y * (z * Cert.GT.sig z))) : z = 0 ∨ z = ⊥ := by
  have hi : ∀ w : EReal, (w = ⊤ ∨ w = ⊥) → ¬IsR w := fun w hw => by
    rintro ⟨a, rfl⟩
    obtain hw | hw := hw
    · exact EReal.coe_ne_top a hw
    · exact EReal.coe_ne_bot a hw
  induction z with
  | bot => exact .inr rfl
  | top =>
    rw [sig_top, mul_one] at h
    obtain e | e := not_isR hy <;> rw [e] at h
    · exact absurd h (hi _ (.inl EReal.top_mul_top))
    · exact absurd h (hi _ (.inr EReal.bot_mul_top))
  | coe a =>
    by_cases ha : a = 0
    · exact .inl (by rw [ha, EReal.coe_zero])
    have hp : 0 < 1 / (1 + Real.exp (-a)) := by positivity
    rw [sig_coe, ← EReal.coe_mul] at h
    obtain hn | hn := lt_or_gt_of_ne ha
    · have := mul_neg_of_neg_of_pos hn hp
      obtain e | e := not_isR hy <;> rw [e] at h
      · exact absurd h (hi _ (.inr (EReal.top_mul_coe_of_neg this)))
      · exact absurd h (hi _ (.inl (EReal.bot_mul_coe_of_neg this)))
    · have := mul_pos hn hp
      obtain e | e := not_isR hy <;> rw [e] at h
      · exact absurd h (hi _ (.inl (EReal.top_mul_coe_of_pos this)))
      · exact absurd h (hi _ (.inr (EReal.bot_mul_coe_of_pos this)))

/-- The two forms of the gate's gradient agree, whatever the value and the gate. -/
theorem slope_dyz {Y Z D : ℕ → ℕ → EReal} {g : ℕ → EReal} (hD : ∀ r c, IsR (D r c)) (hg : ∀ c, IsR (g c)) (r c : ℕ) {d : EReal}
    (e : d = dyz (seg Y Z) D g r c * Y r c) :
    d * Cert.GT.sig (Z r c) + Z r c * d * (Cert.GT.sig (Z r c) * (one - Cert.GT.sig (Z r c))) = Cert.CV.slope (Z r c) d := by
  by_cases hd : IsR d
  · exact Cert.CV.slope_eq _ hd
  have hy : ¬IsR (Y r c) := fun h => hd (by rw [e]; exact (isR_dyz _ hD hg r c).mul h)
  have hs : ∀ k < 512, IsR (seg Y Z r (off c + k)) := Classical.byContradiction fun h => hd (by
    unfold dyz at e
    rw [e, scale_zero h, zero_mul, zero_mul]
    exact isR_zero)
  have hc := hs (c - off c) (by unfold off; omega)
  rw [show off c + (c - off c) = c by unfold off; omega] at hc
  have h1 : one = 1 := c_one.trans EReal.coe_one
  unfold Cert.CV.slope
  obtain hz | hz := shut hy hc <;> rw [hz]
  · rw [zero_mul, zero_mul, zero_mul, add_zero, h1, add_zero, mul_one]
  · rw [sig_bot, zero_mul, zero_mul, mul_zero, mul_zero, add_zero]

end Cert.NM

namespace Cert.NormBwdRefIdeal.NM

open Cert.NormBwdRefIdeal.Gen Cert.NormBwdRefIdeal.Read Cert.AttnBwdRefIdeal.AT

variable (x0 x1 : FVec Ideal S4096x2048 .bf16) (x2 x4 : FVec Ideal S4096x9216 .bf16) (x3 : FVec Ideal S2048 .f32)

abbrev zc (r n : ℕ) : EReal := at2 x2 r (2048 + n)
abbrev sg : ℕ → ℕ → EReal := seg (at2 x1) (zc x2)

theorem v2 (i : S4096x2048.Idx) : val_main_v2 (F := Ideal) x2 i = zc x2 (i 0).val (i 1).val :=
  (val_main_v1_apply (F := Ideal) x2 i).trans (at2_place x2 _ rfl rfl)

/-- The gated values, -/
theorem v4 (i : S4096x2048.Idx) : val_main_v4 (F := Ideal) x1 x2 i = sg x1 x2 (i 0).val (i 1).val := by
  rw [sg, seg, ← v2, ← at2_ix x1]
  rfl

/-- in groups, -/
theorem v5 (i : S4096x4x512.Idx) : val_main_v5 (F := Ideal) x1 x2 i = sg x1 x2 (i 0).val (512 * (i 1).val + (i 2).val) := by
  have h0 : (i 0).val < 4096 := (i 0).isLt
  have h1 : (i 1).val < 4 := (i 1).isLt
  have h2 : (i 2).val < 512 := (i 2).isLt
  refine (val_main_v5_apply (F := Ideal) x1 x2 i).trans ((v4 x1 x2 _).trans ?_)
  refine congr (congrArg (sg x1 x2) ?_) ?_ <;> · dsimp only [idx_main_v5]; omega

theorem v14 (i : S4096x4x1.Idx) : val_main_v14 (F := Ideal) x1 x2 i
    = mean512 (fun k => sg x1 x2 (i 0).val (512 * (i 1).val + k) * sg x1 x2 (i 0).val (512 * (i 1).val + k)) + Ideal.ofBits .f32 0x3727C5AC#32 := by
  show Ideal.div (val_main_v10 (F := Ideal) x1 x2 i) (Ideal.ofBits .f32 0x44000000#32) + Ideal.ofBits .f32 0x3727C5AC#32 = _
  rw [val_main_v10_apply, val_main_v9_apply, show val_main_cst_0 (F := Ideal) (Shape.Idx.first h_S_) = 0 from c_zero, zero_add]
  refine congrArg (fun s => Ideal.div s (Ideal.ofBits .f32 0x44000000#32) + Ideal.ofBits .f32 0x3727C5AC#32) (Finset.sum_congr rfl fun k _ => ?_)
  show val_main_v5 (F := Ideal) x1 x2 _ * val_main_v5 (F := Ideal) x1 x2 _ = _
  rw [v5]

/-- each group's factor, -/
theorem v15 (i : S4096x4x1.Idx) : val_main_v15 (F := Ideal) x1 x2 i = scale (sg x1 x2) (i 0).val (512 * (i 1).val) := by
  rw [scale, ← v14]
  rfl

theorem v20 (i : S4096x4x512.Idx) : val_main_v20 (F := Ideal) x1 x2 i = nrm (sg x1 x2) (i 0).val (512 * (i 1).val + (i 2).val) := by
  show val_main_v5 (F := Ideal) x1 x2 i * val_main_v19 (F := Ideal) x1 x2 i = _
  rw [v5, val_main_v19_apply, v15, nrm, off_add (off_mul _) (i 2).isLt]

/-- the normed values, -/
theorem v21 (i : S4096x2048.Idx) : val_main_v21 (F := Ideal) x1 x2 i = nrm (sg x1 x2) (i 0).val (i 1).val := by
  have h0 : (i 0).val < 4096 := (i 0).isLt
  have h1 : (i 1).val < 2048 := (i 1).isLt
  refine (val_main_v21_apply (F := Ideal) x1 x2 i).trans ((v20 x1 x2 _).trans ?_)
  refine congr (congrArg (nrm (sg x1 x2)) ?_) ?_ <;> · dsimp only [idx_main_v21]; omega

/-- the gain, -/
theorem v23 (i : S4096x2048.Idx) : val_main_v23 (F := Ideal) x3 i = at1 x3 (i 1).val := by
  rw [val_main_v23_apply, val_main_v22_apply]
  exact Eq.trans (congrArg x3 (eq_ix1 _)) (at1_eq x3 _ (i 1).isLt).symm

theorem v24 (i : S4096x2048.Idx) : val_main_v24 (F := Ideal) x1 x2 x3 i = out (sg x1 x2) (at1 x3) (i 0).val (i 1).val := by
  rw [out, ← v21, ← v23]
  rfl

/-- the gain's gradient, -/
theorem v55 (y : S1x2048.Idx) : val_main_v55 (F := Ideal) x0 x1 x2 y = dgOf (sg x1 x2) (at2 x0) (y 1).val := by
  have hy : (y 0).val < 1 := (y 0).isLt
  rw [val_main_v55_apply, val_main_v31_apply, show val_main_cst_5 (F := Ideal) (Shape.Idx.first h_S_) = 0 from c_zero, zero_add, Fin.sum_univ_one,
    val_main_v28_apply, val_main_v27_apply, show val_main_cst_4 (F := Ideal) (Shape.Idx.first h_S_) = 0 from c_zero, zero_add]
  refine Finset.sum_congr rfl fun k _ => ?_
  show val_main_v21 (F := Ideal) x1 x2 _ * x0 _ = _
  rw [v21, at2_ix x0]
  refine congrArg (fun n => nrm (sg x1 x2) k.val n * at2 x0 k.val n) ?_
  dsimp only [idx_main_v27, idx_main_v28, idx_main_v31, idx_main_v55]
  omega

/-- the incoming gradient times the gain, in groups, -/
theorem v30 (i : S4096x2048.Idx) : val_main_v30 (F := Ideal) x0 x3 i = at2 x0 (i 0).val (i 1).val * at1 x3 (i 1).val := by
  rw [← v23, ← at2_ix x0]
  rfl

theorem v32 (i : S4096x4x512.Idx) : val_main_v32 (F := Ideal) x0 x3 i
    = at2 x0 (i 0).val (512 * (i 1).val + (i 2).val) * at1 x3 (512 * (i 1).val + (i 2).val) := by
  have h0 : (i 0).val < 4096 := (i 0).isLt
  have h1 : (i 1).val < 4 := (i 1).isLt
  have h2 : (i 2).val < 512 := (i 2).isLt
  refine (val_main_v32_apply (F := Ideal) x0 x3 i).trans ((v30 x0 x3 _).trans ?_)
  refine congrArg₂ (fun r c => at2 x0 r c * at1 x3 c) ?_ ?_ <;> · dsimp only [idx_main_v32]; omega

theorem v34 (i : S4096x4.Idx) : val_main_v34 (F := Ideal) x0 x1 x2 x3 i = ∑ k : Fin 512, sg x1 x2 (i 0).val (512 * (i 1).val + k.val)
    * (at2 x0 (i 0).val (512 * (i 1).val + k.val) * at1 x3 (512 * (i 1).val + k.val)) := by
  rw [val_main_v34_apply, show val_main_cst_6 (F := Ideal) (Shape.Idx.first h_S_) = 0 from c_zero, zero_add]
  refine Finset.sum_congr rfl fun k _ => ?_
  show val_main_v5 (F := Ideal) x1 x2 _ * val_main_v32 (F := Ideal) x0 x3 _ = _
  rw [v5, v32]

theorem v35 (i : S4096x4x1.Idx) : val_main_v35 (F := Ideal) x0 x1 x2 x3 i = ∑ k : Fin 512, sg x1 x2 (i 0).val (512 * (i 1).val + k.val)
    * (at2 x0 (i 0).val (512 * (i 1).val + k.val) * at1 x3 (512 * (i 1).val + k.val)) := by
  have h0 : (i 0).val < 4096 := (i 0).isLt
  have h1 : (i 1).val < 4 := (i 1).isLt
  have h2 : (i 2).val < 1 := (i 2).isLt
  refine (val_main_v35_apply (F := Ideal) x0 x1 x2 x3 i).trans ((v34 x0 x1 x2 x3 _).trans ?_)
  refine congrArg₂ (fun r q => ∑ k : Fin 512, sg x1 x2 r (512 * q + k.val) * (at2 x0 r (512 * q + k.val) * at1 x3 (512 * q + k.val))) ?_ ?_ <;>
    · dsimp only [idx_main_v35]; omega

variable {x0 x3} (h0 : ∀ r c, IsR (at2 x0 r c)) (h3 : ∀ c, IsR (at1 x3 c))

include h0 h3

/-- the gated values' gradient in groups, -/
theorem v44 (i : S4096x4x512.Idx) : val_main_v44 (F := Ideal) x0 x1 x2 x3 i = dyz (sg x1 x2) (at2 x0) (at1 x3) (i 0).val (512 * (i 1).val + (i 2).val) := by
  have e : val_main_v42 (F := Ideal) x0 x1 x2 x3 i = val_main_v40 (F := Ideal) x0 x1 x2 x3 (idx_main_v41 (idx_main_v42 i) 0) := by
    rw [val_main_v42_apply, val_main_v41_apply, show val_main_cst_8 (F := Ideal) (Shape.Idx.first h_S_) = 0 from c_zero, zero_add, Fin.sum_univ_one]
  rw [← dyz_group (sg x1 x2) (at2 x0) (at1 x3) h0 h3 _ _ _ (i 2).isLt]
  show val_main_v32 (F := Ideal) x0 x3 i * val_main_v36 (F := Ideal) x1 x2 i
    + val_main_v42 (F := Ideal) x0 x1 x2 x3 i * (Ideal.ofBits .f32 0x40000000#32 * val_main_v5 (F := Ideal) x1 x2 i) = _
  rw [e, v32, v5, val_main_v36_apply, v15]
  refine congrArg₂ HAdd.hAdd rfl (congrArg₂ HMul.hMul ?_ rfl)
  show Ideal.div (val_main_v35 (F := Ideal) x0 x1 x2 x3 _ * (Ideal.ofBits .f32 0xBF000000#32
    * Ideal.div (val_main_v15 (F := Ideal) x1 x2 _) (val_main_v14 (F := Ideal) x1 x2 _))) (Ideal.ofBits .f32 0x44000000#32) = _
  rw [v35, v15, v14]

theorem v45 (i : S4096x2048.Idx) : val_main_v45 (F := Ideal) x0 x1 x2 x3 i = dyz (sg x1 x2) (at2 x0) (at1 x3) (i 0).val (i 1).val := by
  have h0' : (i 0).val < 4096 := (i 0).isLt
  have h1' : (i 1).val < 2048 := (i 1).isLt
  refine (val_main_v45_apply (F := Ideal) x0 x1 x2 x3 i).trans ((v44 x1 x2 h0 h3 _).trans ?_)
  refine congr (congrArg (dyz (sg x1 x2) (at2 x0) (at1 x3)) ?_) ?_ <;> · dsimp only [idx_main_v45]; omega

/-- the values', -/
theorem v54 (y : S4096x2048.Idx) : val_main_v54 (F := Ideal) x0 x1 x2 x3 y = dyOf (at2 x1) (zc x2) (at2 x0) (at1 x3) (y 0).val (y 1).val := by
  show val_main_v45 (F := Ideal) x0 x1 x2 x3 y * (val_main_v2 (F := Ideal) x2 y * Cert.GT.sig (val_main_v2 (F := Ideal) x2 y)) = _
  rw [v45 x1 x2 h0 h3, v2]
  rfl

/-- the gate's, -/
theorem v48 (i : S4096x2048.Idx) : val_main_v48 (F := Ideal) x0 x1 x2 x3 i = dzOf (at2 x1) (zc x2) (at2 x0) (at1 x3) (i 0).val (i 1).val := by
  have e : val_main_v46 (F := Ideal) x0 x1 x2 x3 i = dyz (sg x1 x2) (at2 x0) (at1 x3) (i 0).val (i 1).val * at2 x1 (i 0).val (i 1).val := by
    show x1 i * val_main_v45 (F := Ideal) x0 x1 x2 x3 i = _
    rw [v45 x1 x2 h0 h3, at2_ix x1, mul_comm]
  rw [dzOf, ← e, ← slope_dyz h0 h3 _ _ e, ← v2]
  rfl

/-- put between the columns that are passed on. -/
theorem v53 (y : S4096x9216.Idx) : val_main_v53 (F := Ideal) x0 x1 x2 x3 x4 y = if 2048 ≤ (y 1).val ∧ (y 1).val < 4096
    then dzOf (at2 x1) (zc x2) (at2 x0) (at1 x3) (y 0).val ((y 1).val - 2048) else x4 y := by
  have hy0 : (y 0).val < 4096 := (y 0).isLt
  have hy1 : (y 1).val < 9216 := (y 1).isLt
  unfold val_main_v53
  by_cases hq : (y 1).val < 2048
  · rw [if_neg (by omega)]
    refine (concatenate_pair_apply_left (t := S4096x9216) (s₁ := S4096x2048) (s₂ := S4096x7168) (1 : Fin 2) _ _ _ y rfl
      (ix2 (y 0) (⟨(y 1).val, hq⟩ : Fin 2048)) fun b => ?_).trans ?_
    · match b with
      | ⟨0, _⟩ => rfl
      | ⟨1, _⟩ => rfl
    · refine (val_main_v52_apply (F := Ideal) x4 _).trans (congrArg x4 (funext fun a => Fin.ext ?_))
      match a with
      | ⟨0, _⟩ => rfl
      | ⟨1, _⟩ => rfl
  · refine (concatenate_pair_apply_right (t := S4096x9216) (s₁ := S4096x2048) (s₂ := S4096x7168) (1 : Fin 2) _ _ _ y rfl rfl
      (ix2 (y 0) (⟨(y 1).val - 2048, by omega⟩ : Fin 7168)) (fun b hb => ?_) ?_).trans ?_
    · match b with
      | ⟨0, _⟩ => rfl
      | ⟨1, _⟩ => exact absurd rfl hb
    · show (y 1).val - 2048 + 2048 = (y 1).val
      omega
    unfold val_main_v51
    by_cases hp : (y 1).val < 4096
    · rw [if_pos ⟨by omega, hp⟩]
      refine (concatenate_pair_apply_left (t := S4096x7168) (s₁ := S4096x2048) (s₂ := S4096x5120) (1 : Fin 2) _ _ _ _ rfl
        (ix2 (y 0) (⟨(y 1).val - 2048, by omega⟩ : Fin 2048)) fun b => ?_).trans ?_
      · match b with
        | ⟨0, _⟩ => rfl
        | ⟨1, _⟩ => rfl
      · exact v48 x1 x2 h0 h3 _
    · rw [if_neg (by omega)]
      refine (concatenate_pair_apply_right (t := S4096x7168) (s₁ := S4096x2048) (s₂ := S4096x5120) (1 : Fin 2) _ _ _ _ rfl rfl
        (ix2 (y 0) (⟨(y 1).val - 4096, by omega⟩ : Fin 5120)) (fun b hb => ?_) ?_).trans ?_
      · match b with
        | ⟨0, _⟩ => rfl
        | ⟨1, _⟩ => exact absurd rfl hb
      · show (y 1).val - 4096 + 2048 = (y 1).val - 2048
        omega
      · refine (val_main_v50_apply (F := Ideal) x4 _).trans (congrArg x4 (funext fun a => Fin.ext ?_))
        match a with
        | ⟨0, _⟩ => rfl
        | ⟨1, _⟩ => show 4096 + ((y 1).val - 4096) = (y 1).val; omega

end Cert.NormBwdRefIdeal.NM

namespace Cert.NormRefIdeal.NM

open Cert.NormRefIdeal.Gen Cert.NormRefIdeal.Read

variable (x0 : FVec Ideal S4096x2048 .bf16) (x1 : FVec Ideal S4096x9216 .bf16) (x2 : FVec Ideal S2048 .f32)

/-- The forward reference's values are the gradient's. -/
theorem v19 : val_main_v19 (F := Ideal) x0 x1 x2 = Cert.NormBwdRefIdeal.Read.val_main_v24 (F := Ideal) x0 x1 x2 := rfl

theorem v20 (y : S4096x2048.Idx) : val_main_v20 (F := Ideal) x0 x1 x2 y
    = out (seg (at2 x0) fun r n => at2 x1 r (2048 + n)) (at1 x2) (y 0).val (y 1).val :=
  (congrFun (v19 x0 x1 x2) y).trans (Cert.NormBwdRefIdeal.NM.v24 x0 x1 x2 y)

end Cert.NormRefIdeal.NM

end

end
-- ==== Proof.NormSame.lean ====
module

public import proofs.«01_k».proof.Pre_real_normed
public import proofs.«01_k».proof.Proof.Pre
public import proofs.«01_k».proof.Proof.NormKernel
public import proofs.«01_k».proof.Proof.NormBwdKernel
public import proofs.«01_k».proof.Proof.NormRef
public import proofs.«01_k».proof.Proof.Gen.NormRefIdeal.Run
public import proofs.«01_k».proof.Proof.Gen.NormBwdRefIdeal.Run

/- The gated norm, forward and backward: kernel and reference end with the same arrays; backward where the entries of the
   incoming gradient and of the gain are real numbers. -/

@[expose] public section

set_option maxRecDepth 16384

noncomputable section

open Idealize.ShloMosaic hiding ix1 ix2 ix3 eq_ix1 eq_ix2 eq_ix3
open Idealize.ShloMosaic.TcCoe Idealize.ShloMosaic.ValueIdx
open Idealize.SL Idealize.SL.Sem Cert.SG Cert.MM Cert.GT

namespace Cert.Pre_real_normed

theorem facts : Facts where
  bitsLt_bf16_f32 := by decide
  bcast_S_S4096x2048 := by decide
  reducesTo_S4096x2048_S_d0_1 := by decide
  h_S_ := by decide
  bcast_S_S2048 := by decide
  reducesTo_S2048_S_d0 := by decide

variable [Facts]

/-- What the precondition says. -/
theorem decode (x0 x1 : FVec Ideal S4096x2048 .bf16) (x2 : FVec Ideal S4096x9216 .bf16) (x3 : FVec Ideal S2048 .f32) (x4 : FVec Ideal S4096x9216 .bf16)
    (h : fn (F := Ideal) x0 x1 x2 x3 x4 = fun _ => 1#1) : (∀ i, IsR (x0 i)) ∧ ∀ i, IsR (x3 i) := by
  haveI := Cert.Pre_finite.facts
  have h := congrFun h (fun k => k.elim0)
  dsimp only [fn] at h
  obtain ⟨h0, h1⟩ := Cert.Pre_finite.andi_split h
  exact ⟨Cert.Pre_finite.all_isR _ _ _ h0, Cert.Pre_finite.all_isR _ _ _ h1⟩

end Cert.Pre_real_normed

namespace Cert.NM

theorem isR_at2 {a b : ℕ} {x : (⟨2, ![a, b]⟩ : Shape).Idx → EReal} (h : ∀ i, IsR (x i)) (r c : ℕ) : IsR (at2 x r c) := by
  unfold at2
  split
  · exact h _
  · exact isR_zero

theorem isR_at1 {a : ℕ} {x : (⟨1, ![a]⟩ : Shape).Idx → EReal} (h : ∀ i, IsR (x i)) (c : ℕ) : IsR (at1 x c) := by
  unfold at1
  split
  · exact h _
  · exact isR_zero

theorem same : Cert.algebraic_NormIdeal_NormRefIdeal (hNormIdeal := Cert.NormIdeal.Gen.facts) (hNormRefIdeal := Cert.NormRefIdeal.Gen.facts) :=
  fun m g m' g' _ hm => agree (Cert.NormIdeal.Value.run_blocks m g) (θ_run _ _ _).mono (Cert.NormRefIdeal.Value.run m' g') fun c => by
    refine (Cert.NormRefIdeal.Read.val_main_v20_eq _ _ _).trans ?_
    rw [(hm c).1, (hm c).2.1, (hm c).2.2, Cert.NormIdeal.NM.arr3 m c]
    exact funext fun y => Cert.NormRefIdeal.NM.v20 _ _ _ y

theorem bwd_same : Cert.algebraic_NormBwdIdeal_NormBwdRefIdeal_pre_real_normed (hNormBwdIdeal := Cert.NormBwdIdeal.Gen.facts)
    (hNormBwdRefIdeal := Cert.NormBwdRefIdeal.Gen.facts) (hPre_real_normed := Cert.Pre_real_normed.facts) := by
  intro m g m' g' hp hm
  refine ⟨_, _, _, Cert.NormBwdIdeal.Value.run_blocks m g, ?_⟩
  refine (θ_run _ _ _).mono (fun r h c => ?_) (Cert.NormBwdRefIdeal.Value.run m' g')
  obtain ⟨h0, h3⟩ := @Cert.Pre_real_normed.decode Cert.Pre_real_normed.facts _ _ _ _ _ (hp c)
  obtain ⟨r0, r1, r2, rest⟩ := h c
  obtain ⟨e0, e1, e2, e3, e4⟩ := hm c
  refine ⟨(r0.trans (Cert.NormBwdRefIdeal.Read.val_main_v54_eq _ _)).trans ?_, (r1.trans (Cert.NormBwdRefIdeal.Read.val_main_v53_eq _ _)).trans ?_,
    (r2.trans (Cert.NormBwdRefIdeal.Read.val_main_v55_eq _ _ _)).trans ?_, rest⟩
  · rw [e0, e1, e2, e3, Cert.NormBwdIdeal.NM.arr4 m c]
    exact funext fun y => Cert.NormBwdRefIdeal.NM.v54 _ _ (isR_at2 h0) (isR_at1 h3) y
  · rw [e0, e1, e2, e3, e4]
    exact funext fun y => (Cert.NormBwdRefIdeal.NM.v53 _ _ _ (isR_at2 h0) (isR_at1 h3) y).trans (Cert.NormBwdIdeal.NM.arr5 m c y).symm
  · rw [e0, e1, e2, Cert.NormBwdIdeal.NM.arr6 m c]
    exact funext fun y => Cert.NormBwdRefIdeal.NM.v55 _ _ _ y

end Cert.NM

end

end
-- ==== Proof.lean ====
/- The proof of the claim: the frames, the two named constants, and the gradient of the spatial gating unit. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DwMain
public import proofs.«01_k».proof.Proof.Gen.DwMain.Skeleton
public import proofs.«01_k».proof.Proof.Gen.DwMain.Launch
public import proofs.«01_k».proof.Proof.Gen.DwMain.Points
public import proofs.«01_k».proof.Proof.Gen.DwMain.Frame
public import proofs.«01_k».proof.Proof.Gen.DwMainIdeal
public import proofs.«01_k».proof.Proof.Gen.DwMainIdeal.Skeleton
public import proofs.«01_k».proof.Proof.Gen.DwMainIdeal.Launch
public import proofs.«01_k».proof.Proof.Gen.DwMainIdeal.Points
public import proofs.«01_k».proof.Proof.Gen.DwMainIdeal.Frame
public import proofs.«01_k».proof.Proof.Gen.DwMainIdeal.Value
public import proofs.«01_k».proof.Proof.Gen.DwMainRefIdeal
public import proofs.«01_k».proof.Proof.Gen.DwMainRefIdeal.Run
public import proofs.«01_k».proof.Proof.Gen.DwMainRefIdeal.Read
public import proofs.«01_k».proof.Proof.Gen.DxMain
public import proofs.«01_k».proof.Proof.Gen.DxMain.Skeleton
public import proofs.«01_k».proof.Proof.Gen.DxMain.Launch
public import proofs.«01_k».proof.Proof.Gen.DxMain.Points
public import proofs.«01_k».proof.Proof.Gen.DxMain.Frame
public import proofs.«01_k».proof.Proof.Gen.DxMainIdeal
public import proofs.«01_k».proof.Proof.Gen.DxMainIdeal.Skeleton
public import proofs.«01_k».proof.Proof.Gen.DxMainIdeal.Launch
public import proofs.«01_k».proof.Proof.Gen.DxMainIdeal.Points
public import proofs.«01_k».proof.Proof.Gen.DxMainIdeal.Frame
public import proofs.«01_k».proof.Proof.Gen.DxMainIdeal.Value
public import proofs.«01_k».proof.Proof.Gen.DxMainRefIdeal
public import proofs.«01_k».proof.Proof.Gen.DxMainRefIdeal.Run
public import proofs.«01_k».proof.Proof.Gen.DxMainRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.DwDt
public import proofs.«01_k».proof.Proof.Gen.DwDt.Skeleton
public import proofs.«01_k».proof.Proof.Gen.DwDt.Launch
public import proofs.«01_k».proof.Proof.Gen.DwDt.Points
public import proofs.«01_k».proof.Proof.Gen.DwDt.Frame
public import proofs.«01_k».proof.Proof.Gen.DwDtIdeal
public import proofs.«01_k».proof.Proof.Gen.DwDtIdeal.Skeleton
public import proofs.«01_k».proof.Proof.Gen.DwDtIdeal.Launch
public import proofs.«01_k».proof.Proof.Gen.DwDtIdeal.Points
public import proofs.«01_k».proof.Proof.Gen.DwDtIdeal.Frame
public import proofs.«01_k».proof.Proof.Gen.DwDtIdeal.Value
public import proofs.«01_k».proof.Proof.Gen.DwDtRefIdeal
public import proofs.«01_k».proof.Proof.Gen.DwDtRefIdeal.Run
public import proofs.«01_k».proof.Proof.Gen.DwDtRefIdeal.Read
public import proofs.«01_k».proof.Proof.Gen.DxDt
public import proofs.«01_k».proof.Proof.Gen.DxDt.Skeleton
public import proofs.«01_k».proof.Proof.Gen.DxDt.Launch
public import proofs.«01_k».proof.Proof.Gen.DxDt.Points
public import proofs.«01_k».proof.Proof.Gen.DxDt.Frame
public import proofs.«01_k».proof.Proof.Gen.DxDtIdeal
public import proofs.«01_k».proof.Proof.Gen.DxDtIdeal.Skeleton
public import proofs.«01_k».proof.Proof.Gen.DxDtIdeal.Launch
public import proofs.«01_k».proof.Proof.Gen.DxDtIdeal.Points
public import proofs.«01_k».proof.Proof.Gen.DxDtIdeal.Frame
public import proofs.«01_k».proof.Proof.Gen.DxDtIdeal.Value
public import proofs.«01_k».proof.Proof.Gen.DxDtRefIdeal
public import proofs.«01_k».proof.Proof.Gen.DxDtRefIdeal.Run
public import proofs.«01_k».proof.Proof.Gen.DxDtRefIdeal.Read
public import proofs.«01_k».proof.Proof.Gen.DtProj
public import proofs.«01_k».proof.Proof.Gen.DtProj.Skeleton
public import proofs.«01_k».proof.Proof.Gen.DtProj.Launch
public import proofs.«01_k».proof.Proof.Gen.DtProj.Points
public import proofs.«01_k».proof.Proof.Gen.DtProj.Frame
public import proofs.«01_k».proof.Proof.Gen.DtProjIdeal
public import proofs.«01_k».proof.Proof.Gen.DtProjIdeal.Skeleton
public import proofs.«01_k».proof.Proof.Gen.DtProjIdeal.Launch
public import proofs.«01_k».proof.Proof.Gen.DtProjIdeal.Points
public import proofs.«01_k».proof.Proof.Gen.DtProjIdeal.Frame
public import proofs.«01_k».proof.Proof.Gen.DtProjIdeal.Value
public import proofs.«01_k».proof.Proof.Gen.DtProjRefIdeal
public import proofs.«01_k».proof.Proof.Gen.DtProjRefIdeal.Run
public import proofs.«01_k».proof.Proof.Gen.DtProjRefIdeal.Read
public import proofs.«01_k».proof.Proof.Gen.DwFfnIn
public import proofs.«01_k».proof.Proof.Gen.DwFfnIn.Skeleton
public import proofs.«01_k».proof.Proof.Gen.DwFfnIn.Launch
public import proofs.«01_k».proof.Proof.Gen.DwFfnIn.Points
public import proofs.«01_k».proof.Proof.Gen.DwFfnIn.Frame
public import proofs.«01_k».proof.Proof.Gen.DwFfnInIdeal
public import proofs.«01_k».proof.Proof.Gen.DwFfnInIdeal.Skeleton
public import proofs.«01_k».proof.Proof.Gen.DwFfnInIdeal.Launch
public import proofs.«01_k».proof.Proof.Gen.DwFfnInIdeal.Points
public import proofs.«01_k».proof.Proof.Gen.DwFfnInIdeal.Frame
public import proofs.«01_k».proof.Proof.Gen.DwFfnInIdeal.Value
public import proofs.«01_k».proof.Proof.Gen.DwFfnInRefIdeal
public import proofs.«01_k».proof.Proof.Gen.DwFfnInRefIdeal.Run
public import proofs.«01_k».proof.Proof.Gen.DwFfnInRefIdeal.Read
public import proofs.«01_k».proof.Proof.Gen.DxFfnIn
public import proofs.«01_k».proof.Proof.Gen.DxFfnIn.Skeleton
public import proofs.«01_k».proof.Proof.Gen.DxFfnIn.Launch
public import proofs.«01_k».proof.Proof.Gen.DxFfnIn.Points
public import proofs.«01_k».proof.Proof.Gen.DxFfnIn.Frame
public import proofs.«01_k».proof.Proof.Gen.DxFfnInIdeal
public import proofs.«01_k».proof.Proof.Gen.DxFfnInIdeal.Skeleton
public import proofs.«01_k».proof.Proof.Gen.DxFfnInIdeal.Launch
public import proofs.«01_k».proof.Proof.Gen.DxFfnInIdeal.Points
public import proofs.«01_k».proof.Proof.Gen.DxFfnInIdeal.Frame
public import proofs.«01_k».proof.Proof.Gen.DxFfnInIdeal.Value
public import proofs.«01_k».proof.Proof.Gen.DxFfnInRefIdeal
public import proofs.«01_k».proof.Proof.Gen.DxFfnInRefIdeal.Run
public import proofs.«01_k».proof.Proof.Gen.DxFfnInRefIdeal.Read
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.DwFfnOut
public import proofs.«01_k».proof.Proof.Gen.DwFfnOut.Skeleton
public import proofs.«01_k».proof.Proof.Gen.DwFfnOut.Launch
public import proofs.«01_k».proof.Proof.Gen.DwFfnOut.Points
public import proofs.«01_k».proof.Proof.Gen.DwFfnOut.Frame
public import proofs.«01_k».proof.Proof.Gen.DwFfnOutIdeal
public import proofs.«01_k».proof.Proof.Gen.DwFfnOutIdeal.Skeleton
public import proofs.«01_k».proof.Proof.Gen.DwFfnOutIdeal.Launch
public import proofs.«01_k».proof.Proof.Gen.DwFfnOutIdeal.Points
public import proofs.«01_k».proof.Proof.Gen.DwFfnOutIdeal.Frame
public import proofs.«01_k».proof.Proof.Gen.DwFfnOutIdeal.Value
public import proofs.«01_k».proof.Proof.Gen.DwFfnOutRefIdeal
public import proofs.«01_k».proof.Proof.Gen.DwFfnOutRefIdeal.Run
public import proofs.«01_k».proof.Proof.Gen.DwFfnOutRefIdeal.Read
public import proofs.«01_k».proof.Proof.Gen.DxFfnOut
public import proofs.«01_k».proof.Proof.Gen.DxFfnOut.Skeleton
public import proofs.«01_k».proof.Proof.Gen.DxFfnOut.Launch
public import proofs.«01_k».proof.Proof.Gen.DxFfnOut.Points
public import proofs.«01_k».proof.Proof.Gen.DxFfnOut.Frame
public import proofs.«01_k».proof.Proof.Gen.DxFfnOutIdeal
public import proofs.«01_k».proof.Proof.Gen.DxFfnOutIdeal.Skeleton
public import proofs.«01_k».proof.Proof.Gen.DxFfnOutIdeal.Launch
public import proofs.«01_k».proof.Proof.Gen.DxFfnOutIdeal.Points
public import proofs.«01_k».proof.Proof.Gen.DxFfnOutIdeal.Frame
public import proofs.«01_k».proof.Proof.Gen.DxFfnOutIdeal.Value
public import proofs.«01_k».proof.Proof.Gen.DxFfnOutRefIdeal
public import proofs.«01_k».proof.Proof.Gen.DxFfnOutRefIdeal.Run
public import proofs.«01_k».proof.Proof.Gen.DxFfnOutRefIdeal.Read
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutRefIdeal.Read
public import proofs.«01_k».proof.Proof.Gen.DwBrB
public import proofs.«01_k».proof.Proof.Gen.DwBrB.Skeleton
public import proofs.«01_k».proof.Proof.Gen.DwBrB.Launch
public import proofs.«01_k».proof.Proof.Gen.DwBrB.Points
public import proofs.«01_k».proof.Proof.Gen.DwBrB.Frame
public import proofs.«01_k».proof.Proof.Gen.DwBrBIdeal
public import proofs.«01_k».proof.Proof.Gen.DwBrBIdeal.Skeleton
public import proofs.«01_k».proof.Proof.Gen.DwBrBIdeal.Launch
public import proofs.«01_k».proof.Proof.Gen.DwBrBIdeal.Points
public import proofs.«01_k».proof.Proof.Gen.DwBrBIdeal.Frame
public import proofs.«01_k».proof.Proof.Gen.DwBrBIdeal.Value
public import proofs.«01_k».proof.Proof.Gen.DwBrBRefIdeal
public import proofs.«01_k».proof.Proof.Gen.DwBrBRefIdeal.Run
public import proofs.«01_k».proof.Proof.Gen.DwBrBRefIdeal.Read
public import proofs.«01_k».proof.Proof.Gen.DxBrB
public import proofs.«01_k».proof.Proof.Gen.DxBrB.Skeleton
public import proofs.«01_k».proof.Proof.Gen.DxBrB.Launch
public import proofs.«01_k».proof.Proof.Gen.DxBrB.Points
public import proofs.«01_k».proof.Proof.Gen.DxBrB.Frame
public import proofs.«01_k».proof.Proof.Gen.DxBrBIdeal
public import proofs.«01_k».proof.Proof.Gen.DxBrBIdeal.Skeleton
public import proofs.«01_k».proof.Proof.Gen.DxBrBIdeal.Launch
public import proofs.«01_k».proof.Proof.Gen.DxBrBIdeal.Points
public import proofs.«01_k».proof.Proof.Gen.DxBrBIdeal.Frame
public import proofs.«01_k».proof.Proof.Gen.DxBrBIdeal.Value
public import proofs.«01_k».proof.Proof.Gen.DxBrBRefIdeal
public import proofs.«01_k».proof.Proof.Gen.DxBrBRefIdeal.Run
public import proofs.«01_k».proof.Proof.Gen.DxBrBRefIdeal.Read
public import proofs.«01_k».proof.Proof.Gen.BrB
public import proofs.«01_k».proof.Proof.Gen.BrB.Skeleton
public import proofs.«01_k».proof.Proof.Gen.BrB.Launch
public import proofs.«01_k».proof.Proof.Gen.BrB.Points
public import proofs.«01_k».proof.Proof.Gen.BrB.Frame
public import proofs.«01_k».proof.Proof.Gen.BrBIdeal
public import proofs.«01_k».proof.Proof.Gen.BrBIdeal.Skeleton
public import proofs.«01_k».proof.Proof.Gen.BrBIdeal.Launch
public import proofs.«01_k».proof.Proof.Gen.BrBIdeal.Points
public import proofs.«01_k».proof.Proof.Gen.BrBIdeal.Frame
public import proofs.«01_k».proof.Proof.Gen.BrBIdeal.Value
public import proofs.«01_k».proof.Proof.Gen.BrBRefIdeal
public import proofs.«01_k».proof.Proof.Gen.BrBRefIdeal.Run
public import proofs.«01_k».proof.Proof.Gen.BrBRefIdeal.Read
public import proofs.«01_k».proof.Proof.Gen.DwSquare
public import proofs.«01_k».proof.Proof.Gen.DwSquare.Skeleton
public import proofs.«01_k».proof.Proof.Gen.DwSquare.Launch
public import proofs.«01_k».proof.Proof.Gen.DwSquare.Points
public import proofs.«01_k».proof.Proof.Gen.DwSquare.Frame
public import proofs.«01_k».proof.Proof.Gen.DwSquareIdeal
public import proofs.«01_k».proof.Proof.Gen.DwSquareIdeal.Skeleton
public import proofs.«01_k».proof.Proof.Gen.DwSquareIdeal.Launch
public import proofs.«01_k».proof.Proof.Gen.DwSquareIdeal.Points
public import proofs.«01_k».proof.Proof.Gen.DwSquareIdeal.Frame
public import proofs.«01_k».proof.Proof.Gen.DwSquareIdeal.Value
public import proofs.«01_k».proof.Proof.Gen.DwSquareRefIdeal
public import proofs.«01_k».proof.Proof.Gen.DwSquareRefIdeal.Run
public import proofs.«01_k».proof.Proof.Gen.DwSquareRefIdeal.Read
public import proofs.«01_k».proof.Proof.Gen.DxSquareLow
public import proofs.«01_k».proof.Proof.Gen.DxSquareLow.Skeleton
public import proofs.«01_k».proof.Proof.Gen.DxSquareLow.Launch
public import proofs.«01_k».proof.Proof.Gen.DxSquareLow.Points
public import proofs.«01_k».proof.Proof.Gen.DxSquareLow.Frame
public import proofs.«01_k».proof.Proof.Gen.DxSquareLowIdeal
public import proofs.«01_k».proof.Proof.Gen.DxSquareLowIdeal.Skeleton
public import proofs.«01_k».proof.Proof.Gen.DxSquareLowIdeal.Launch
public import proofs.«01_k».proof.Proof.Gen.DxSquareLowIdeal.Points
public import proofs.«01_k».proof.Proof.Gen.DxSquareLowIdeal.Frame
public import proofs.«01_k».proof.Proof.Gen.DxSquareLowIdeal.Value
public import proofs.«01_k».proof.Proof.Gen.DxSquareLowRefIdeal
public import proofs.«01_k».proof.Proof.Gen.DxSquareLowRefIdeal.Run
public import proofs.«01_k».proof.Proof.Gen.DxSquareLowRefIdeal.Read
public import proofs.«01_k».proof.Proof.Gen.DxSquare
public import proofs.«01_k».proof.Proof.Gen.DxSquare.Skeleton
public import proofs.«01_k».proof.Proof.Gen.DxSquare.Launch
public import proofs.«01_k».proof.Proof.Gen.DxSquare.Points
public import proofs.«01_k».proof.Proof.Gen.DxSquare.Frame
public import proofs.«01_k».proof.Proof.Gen.DxSquareIdeal
public import proofs.«01_k».proof.Proof.Gen.DxSquareIdeal.Skeleton
public import proofs.«01_k».proof.Proof.Gen.DxSquareIdeal.Launch
public import proofs.«01_k».proof.Proof.Gen.DxSquareIdeal.Points
public import proofs.«01_k».proof.Proof.Gen.DxSquareIdeal.Frame
public import proofs.«01_k».proof.Proof.Gen.DxSquareIdeal.Value
public import proofs.«01_k».proof.Proof.Gen.DxSquareRefIdeal
public import proofs.«01_k».proof.Proof.Gen.DxSquareRefIdeal.Run
public import proofs.«01_k».proof.Proof.Gen.DxSquareRefIdeal.Read
public import proofs.«01_k».proof.Proof.Gen.SquareLow
public import proofs.«01_k».proof.Proof.Gen.SquareLow.Skeleton
public import proofs.«01_k».proof.Proof.Gen.SquareLow.Launch
public import proofs.«01_k».proof.Proof.Gen.SquareLow.Points
public import proofs.«01_k».proof.Proof.Gen.SquareLow.Frame
public import proofs.«01_k».proof.Proof.Gen.SquareLowIdeal
public import proofs.«01_k».proof.Proof.Gen.SquareLowIdeal.Skeleton
public import proofs.«01_k».proof.Proof.Gen.SquareLowIdeal.Launch
public import proofs.«01_k».proof.Proof.Gen.SquareLowIdeal.Points
public import proofs.«01_k».proof.Proof.Gen.SquareLowIdeal.Frame
public import proofs.«01_k».proof.Proof.Gen.SquareLowIdeal.Value
public import proofs.«01_k».proof.Proof.Gen.SquareLowRefIdeal
public import proofs.«01_k».proof.Proof.Gen.SquareLowRefIdeal.Run
public import proofs.«01_k».proof.Proof.Gen.SquareLowRefIdeal.Read
public import proofs.«01_k».proof.Proof.Gen.Square
public import proofs.«01_k».proof.Proof.Gen.Square.Skeleton
public import proofs.«01_k».proof.Proof.Gen.Square.Launch
public import proofs.«01_k».proof.Proof.Gen.Square.Points
public import proofs.«01_k».proof.Proof.Gen.Square.Frame
public import proofs.«01_k».proof.Proof.Gen.SquareIdeal
public import proofs.«01_k».proof.Proof.Gen.SquareIdeal.Skeleton
public import proofs.«01_k».proof.Proof.Gen.SquareIdeal.Launch
public import proofs.«01_k».proof.Proof.Gen.SquareIdeal.Points
public import proofs.«01_k».proof.Proof.Gen.SquareIdeal.Frame
public import proofs.«01_k».proof.Proof.Gen.SquareIdeal.Value
public import proofs.«01_k».proof.Proof.Gen.SquareRefIdeal
public import proofs.«01_k».proof.Proof.Gen.SquareRefIdeal.Run
public import proofs.«01_k».proof.Proof.Gen.SquareRefIdeal.Read
public import proofs.«01_k».proof.Proof.Gen.DwKv
public import proofs.«01_k».proof.Proof.Gen.DwKv.Skeleton
public import proofs.«01_k».proof.Proof.Gen.DwKv.Launch
public import proofs.«01_k».proof.Proof.Gen.DwKv.Points
public import proofs.«01_k».proof.Proof.Gen.DwKv.Frame
public import proofs.«01_k».proof.Proof.Gen.DwKvIdeal
public import proofs.«01_k».proof.Proof.Gen.DwKvIdeal.Skeleton
public import proofs.«01_k».proof.Proof.Gen.DwKvIdeal.Launch
public import proofs.«01_k».proof.Proof.Gen.DwKvIdeal.Points
public import proofs.«01_k».proof.Proof.Gen.DwKvIdeal.Frame
public import proofs.«01_k».proof.Proof.Gen.DwKvIdeal.Value
public import proofs.«01_k».proof.Proof.Gen.DwKvRefIdeal
public import proofs.«01_k».proof.Proof.Gen.DwKvRefIdeal.Run
public import proofs.«01_k».proof.Proof.Gen.DwKvRefIdeal.Read
public import proofs.«01_k».proof.Proof.Gen.DxKv
public import proofs.«01_k».proof.Proof.Gen.DxKv.Skeleton
public import proofs.«01_k».proof.Proof.Gen.DxKv.Launch
public import proofs.«01_k».proof.Proof.Gen.DxKv.Points
public import proofs.«01_k».proof.Proof.Gen.DxKv.Frame
public import proofs.«01_k».proof.Proof.Gen.DxKvIdeal
public import proofs.«01_k».proof.Proof.Gen.DxKvIdeal.Skeleton
public import proofs.«01_k».proof.Proof.Gen.DxKvIdeal.Launch
public import proofs.«01_k».proof.Proof.Gen.DxKvIdeal.Points
public import proofs.«01_k».proof.Proof.Gen.DxKvIdeal.Frame
public import proofs.«01_k».proof.Proof.Gen.DxKvIdeal.Value
public import proofs.«01_k».proof.Proof.Gen.DxKvRefIdeal
public import proofs.«01_k».proof.Proof.Gen.DxKvRefIdeal.Run
public import proofs.«01_k».proof.Proof.Gen.DxKvRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdIdeal.Value
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.SwigluBwd
public import proofs.«01_k».proof.Proof.Gen.SwigluBwd.Skeleton
public import proofs.«01_k».proof.Proof.Gen.SwigluBwd.Launch
public import proofs.«01_k».proof.Proof.Gen.SwigluBwd.Points
public import proofs.«01_k».proof.Proof.Gen.SwigluBwd.Frame
public import proofs.«01_k».proof.Proof.Gen.SwigluBwdIdeal
public import proofs.«01_k».proof.Proof.Gen.SwigluBwdIdeal.Skeleton
public import proofs.«01_k».proof.Proof.Gen.SwigluBwdIdeal.Launch
public import proofs.«01_k».proof.Proof.Gen.SwigluBwdIdeal.Points
public import proofs.«01_k».proof.Proof.Gen.SwigluBwdIdeal.Frame
public import proofs.«01_k».proof.Proof.Gen.SwigluBwdIdeal.Value
public import proofs.«01_k».proof.Proof.Gen.SwigluBwdRefIdeal
public import proofs.«01_k».proof.Proof.Gen.SwigluBwdRefIdeal.Run
public import proofs.«01_k».proof.Proof.Gen.SwigluBwdRefIdeal.Read
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.SwigluRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Gen.ConvBwdRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Alg
public import proofs.«01_k».proof.Proof.Proj
public import proofs.«01_k».proof.Proof.Forward
public import proofs.«01_k».proof.Proof.DwMain
public import proofs.«01_k».proof.Proof.DxMain
public import proofs.«01_k».proof.Proof.Backward
public import proofs.«01_k».proof.Proof.Halves
public import proofs.«01_k».proof.Proof.Attend
public import proofs.«01_k».proof.Proof.GateSame
public import proofs.«01_k».proof.Proof.ConvSame
public import proofs.«01_k».proof.Proof.NormSame
public import Idealize.ShloMosaic.Adequacy
public import Idealize.ShloMosaic.Init

@[expose] public section

noncomputable section

namespace Cert.Proof

open Idealize.ShloMosaic Idealize.SL.Sem

/-- The reference ends with its arguments unchanged; it declares no semaphore. -/
theorem frame_reference : Cert.quiescent_ReferenceIdeal (hReferenceIdeal := Cert.ReferenceIdeal.Gen.facts) := fun m ρ _ =>
  (θ_run _ _ _).mono (fun r h => ⟨fun c => (h c).2.2.2.2.2, sem_eq_zero_of_no_sems rfl r.2⟩) (Cert.ReferenceIdeal.Value.run m ρ)

/-- So does the attention gradient's. -/
theorem frame_attention_gradient : Cert.quiescent_AttnBwdRefIdeal (hAttnBwdRefIdeal := Cert.AttnBwdRefIdeal.Gen.facts) := fun m ρ _ =>
  (θ_run _ _ _).mono (fun r h => ⟨fun c => (h c).2.2.2, sem_eq_zero_of_no_sems rfl r.2⟩) (Cert.AttnBwdRefIdeal.Value.run m ρ)

/-- So does the merge gradient's. -/
theorem frame_merge_gradient : Cert.quiescent_MergeBwdRefIdeal (hMergeBwdRefIdeal := Cert.MergeBwdRefIdeal.Gen.facts) := fun m ρ _ =>
  (θ_run _ _ _).mono (fun r h => ⟨fun c => (h c).2.2.2, sem_eq_zero_of_no_sems rfl r.2⟩) (Cert.MergeBwdRefIdeal.Value.run m ρ)

/-- So does the gated product's gradient's. -/
theorem frame_gated_gradient : Cert.quiescent_SwigluBwdRefIdeal (hSwigluBwdRefIdeal := Cert.SwigluBwdRefIdeal.Gen.facts) := fun m ρ _ =>
  MM.keeps (θ_run _ _ _).mono (fun r => sem_eq_zero_of_no_sems rfl r.2) (Cert.SwigluBwdRefIdeal.Value.run m ρ)

/-- So does the convolution's gradient's. -/
theorem frame_convolution_gradient : Cert.quiescent_ConvBwdRefIdeal (hConvBwdRefIdeal := Cert.ConvBwdRefIdeal.Gen.facts) := fun m ρ _ =>
  (θ_run _ _ _).mono (fun r h => ⟨fun c => (h c).2.2.2, sem_eq_zero_of_no_sems rfl r.2⟩) (Cert.ConvBwdRefIdeal.Value.run m ρ)

/-- So does the gated norm's gradient's. -/
theorem frame_norm_gradient : Cert.quiescent_NormBwdRefIdeal (hNormBwdRefIdeal := Cert.NormBwdRefIdeal.Gen.facts) := fun m ρ _ =>
  (θ_run _ _ _).mono (fun r h => ⟨fun c => (h c).2.2.2, sem_eq_zero_of_no_sems rfl r.2⟩) (Cert.NormBwdRefIdeal.Value.run m ρ)

theorem claim : Cert.Claim :=
  ⟨Cert.Kernel.Gen.facts, Cert.KernelIdeal.Gen.facts, Cert.ReferenceIdeal.Gen.facts,
    Cert.DwMain.Gen.facts, Cert.DwMainIdeal.Gen.facts, Cert.DwMainRefIdeal.Gen.facts,
    Cert.DxMain.Gen.facts, Cert.DxMainIdeal.Gen.facts, Cert.DxMainRefIdeal.Gen.facts,
    Cert.Proj.Gen.facts, Cert.ProjIdeal.Gen.facts, Cert.ProjRefIdeal.Gen.facts,
    Cert.DwDt.Gen.facts, Cert.DwDtIdeal.Gen.facts, Cert.DwDtRefIdeal.Gen.facts,
    Cert.DxDt.Gen.facts, Cert.DxDtIdeal.Gen.facts, Cert.DxDtRefIdeal.Gen.facts,
    Cert.DtProj.Gen.facts, Cert.DtProjIdeal.Gen.facts, Cert.DtProjRefIdeal.Gen.facts,
    Cert.DwFfnIn.Gen.facts, Cert.DwFfnInIdeal.Gen.facts, Cert.DwFfnInRefIdeal.Gen.facts,
    Cert.DxFfnIn.Gen.facts, Cert.DxFfnInIdeal.Gen.facts, Cert.DxFfnInRefIdeal.Gen.facts,
    Cert.FfnIn.Gen.facts, Cert.FfnInIdeal.Gen.facts, Cert.FfnInRefIdeal.Gen.facts,
    Cert.DwFfnOut.Gen.facts, Cert.DwFfnOutIdeal.Gen.facts, Cert.DwFfnOutRefIdeal.Gen.facts,
    Cert.DxFfnOut.Gen.facts, Cert.DxFfnOutIdeal.Gen.facts, Cert.DxFfnOutRefIdeal.Gen.facts,
    Cert.FfnOut.Gen.facts, Cert.FfnOutIdeal.Gen.facts, Cert.FfnOutRefIdeal.Gen.facts,
    Cert.DwBrB.Gen.facts, Cert.DwBrBIdeal.Gen.facts, Cert.DwBrBRefIdeal.Gen.facts,
    Cert.DxBrB.Gen.facts, Cert.DxBrBIdeal.Gen.facts, Cert.DxBrBRefIdeal.Gen.facts,
    Cert.BrB.Gen.facts, Cert.BrBIdeal.Gen.facts, Cert.BrBRefIdeal.Gen.facts,
    Cert.DwSquare.Gen.facts, Cert.DwSquareIdeal.Gen.facts, Cert.DwSquareRefIdeal.Gen.facts,
    Cert.DxSquareLow.Gen.facts, Cert.DxSquareLowIdeal.Gen.facts, Cert.DxSquareLowRefIdeal.Gen.facts,
    Cert.DxSquare.Gen.facts, Cert.DxSquareIdeal.Gen.facts, Cert.DxSquareRefIdeal.Gen.facts,
    Cert.SquareLow.Gen.facts, Cert.SquareLowIdeal.Gen.facts, Cert.SquareLowRefIdeal.Gen.facts,
    Cert.Square.Gen.facts, Cert.SquareIdeal.Gen.facts, Cert.SquareRefIdeal.Gen.facts,
    Cert.DwKv.Gen.facts, Cert.DwKvIdeal.Gen.facts, Cert.DwKvRefIdeal.Gen.facts,
    Cert.DxKv.Gen.facts, Cert.DxKvIdeal.Gen.facts, Cert.DxKvRefIdeal.Gen.facts,
    Cert.Kv.Gen.facts, Cert.KvIdeal.Gen.facts, Cert.KvRefIdeal.Gen.facts,
    Cert.AttnBwd.Gen.facts, Cert.AttnBwdIdeal.Gen.facts, Cert.AttnBwdRefIdeal.Gen.facts,
    Cert.Attn.Gen.facts, Cert.AttnIdeal.Gen.facts, Cert.AttnRefIdeal.Gen.facts,
    Cert.SwigluBwd.Gen.facts, Cert.SwigluBwdIdeal.Gen.facts, Cert.SwigluBwdRefIdeal.Gen.facts,
    Cert.MergeBwd.Gen.facts, Cert.MergeBwdIdeal.Gen.facts, Cert.MergeBwdRefIdeal.Gen.facts,
    Cert.Swiglu.Gen.facts, Cert.SwigluIdeal.Gen.facts, Cert.SwigluRefIdeal.Gen.facts,
    Cert.Merge.Gen.facts, Cert.MergeIdeal.Gen.facts, Cert.MergeRefIdeal.Gen.facts,
    Cert.ConvBwd.Gen.facts, Cert.ConvBwdIdeal.Gen.facts, Cert.ConvBwdRefIdeal.Gen.facts,
    Cert.Conv.Gen.facts, Cert.ConvIdeal.Gen.facts, Cert.ConvRefIdeal.Gen.facts,
    Cert.NormBwd.Gen.facts, Cert.NormBwdIdeal.Gen.facts, Cert.NormBwdRefIdeal.Gen.facts,
    Cert.Norm.Gen.facts, Cert.NormIdeal.Gen.facts, Cert.NormRefIdeal.Gen.facts,
    Cert.Pre_finite.facts, Cert.Pre_real_entries.facts, Cert.Pre_real_hidden.facts, Cert.Pre_real_cotangent.facts, Cert.Pre_real_normed.facts,
    fun m ρ _ => Cert.Kernel.Gen.frame m ρ, fun m ρ _ => Cert.KernelIdeal.Gen.frame m ρ,
    fun m ρ _ => Cert.KernelIdeal.Gen.frame m ρ, frame_reference,
    fun m ρ _ => frame_reference m ρ trivial,
    fun m ρ _ => Cert.DwMain.Gen.frame m ρ, fun m ρ _ => Cert.DwMainIdeal.Gen.frame m ρ,
    fun m ρ _ => MM.keeps (θ_run _ _ _).mono (fun r => sem_eq_zero_of_no_sems rfl r.2) (Cert.DwMainRefIdeal.Value.run m ρ),
    fun m ρ _ => Cert.DxMain.Gen.frame m ρ, fun m ρ _ => Cert.DxMainIdeal.Gen.frame m ρ,
    fun m ρ _ => MM.keeps (θ_run _ _ _).mono (fun r => sem_eq_zero_of_no_sems rfl r.2) (Cert.DxMainRefIdeal.Value.run m ρ),
    fun m ρ _ => Cert.Proj.Gen.frame m ρ, fun m ρ _ => Cert.ProjIdeal.Gen.frame m ρ,
    fun m ρ _ => MM.keeps (θ_run _ _ _).mono (fun r => sem_eq_zero_of_no_sems rfl r.2) (Cert.ProjRefIdeal.Value.run m ρ),
    fun m ρ _ => Cert.DwDt.Gen.frame m ρ, fun m ρ _ => Cert.DwDtIdeal.Gen.frame m ρ,
    fun m ρ _ => MM.keeps (θ_run _ _ _).mono (fun r => sem_eq_zero_of_no_sems rfl r.2) (Cert.DwDtRefIdeal.Value.run m ρ),
    fun m ρ _ => Cert.DxDt.Gen.frame m ρ, fun m ρ _ => Cert.DxDtIdeal.Gen.frame m ρ,
    fun m ρ _ => MM.keeps (θ_run _ _ _).mono (fun r => sem_eq_zero_of_no_sems rfl r.2) (Cert.DxDtRefIdeal.Value.run m ρ),
    fun m ρ _ => Cert.DtProj.Gen.frame m ρ, fun m ρ _ => Cert.DtProjIdeal.Gen.frame m ρ,
    fun m ρ _ => MM.keeps (θ_run _ _ _).mono (fun r => sem_eq_zero_of_no_sems rfl r.2) (Cert.DtProjRefIdeal.Value.run m ρ),
    fun m ρ _ => Cert.DwFfnIn.Gen.frame m ρ, fun m ρ _ => Cert.DwFfnInIdeal.Gen.frame m ρ,
    fun m ρ _ => MM.keeps (θ_run _ _ _).mono (fun r => sem_eq_zero_of_no_sems rfl r.2) (Cert.DwFfnInRefIdeal.Value.run m ρ),
    fun m ρ _ => Cert.DxFfnIn.Gen.frame m ρ, fun m ρ _ => Cert.DxFfnInIdeal.Gen.frame m ρ,
    fun m ρ _ => MM.keeps (θ_run _ _ _).mono (fun r => sem_eq_zero_of_no_sems rfl r.2) (Cert.DxFfnInRefIdeal.Value.run m ρ),
    fun m ρ _ => Cert.FfnIn.Gen.frame m ρ, fun m ρ _ => Cert.FfnInIdeal.Gen.frame m ρ,
    fun m ρ _ => MM.keeps (θ_run _ _ _).mono (fun r => sem_eq_zero_of_no_sems rfl r.2) (Cert.FfnInRefIdeal.Value.run m ρ),
    fun m ρ _ => Cert.DwFfnOut.Gen.frame m ρ, fun m ρ _ => Cert.DwFfnOutIdeal.Gen.frame m ρ,
    fun m ρ _ => MM.keeps (θ_run _ _ _).mono (fun r => sem_eq_zero_of_no_sems rfl r.2) (Cert.DwFfnOutRefIdeal.Value.run m ρ),
    fun m ρ _ => Cert.DxFfnOut.Gen.frame m ρ, fun m ρ _ => Cert.DxFfnOutIdeal.Gen.frame m ρ,
    fun m ρ _ => MM.keeps (θ_run _ _ _).mono (fun r => sem_eq_zero_of_no_sems rfl r.2) (Cert.DxFfnOutRefIdeal.Value.run m ρ),
    fun m ρ _ => Cert.FfnOut.Gen.frame m ρ, fun m ρ _ => Cert.FfnOutIdeal.Gen.frame m ρ,
    fun m ρ _ => MM.keeps (θ_run _ _ _).mono (fun r => sem_eq_zero_of_no_sems rfl r.2) (Cert.FfnOutRefIdeal.Value.run m ρ),
    fun m ρ _ => Cert.DwBrB.Gen.frame m ρ, fun m ρ _ => Cert.DwBrBIdeal.Gen.frame m ρ,
    fun m ρ _ => MM.keeps (θ_run _ _ _).mono (fun r => sem_eq_zero_of_no_sems rfl r.2) (Cert.DwBrBRefIdeal.Value.run m ρ),
    fun m ρ _ => Cert.DxBrB.Gen.frame m ρ, fun m ρ _ => Cert.DxBrBIdeal.Gen.frame m ρ,
    fun m ρ _ => MM.keeps (θ_run _ _ _).mono (fun r => sem_eq_zero_of_no_sems rfl r.2) (Cert.DxBrBRefIdeal.Value.run m ρ),
    fun m ρ _ => Cert.BrB.Gen.frame m ρ, fun m ρ _ => Cert.BrBIdeal.Gen.frame m ρ,
    fun m ρ _ => MM.keeps (θ_run _ _ _).mono (fun r => sem_eq_zero_of_no_sems rfl r.2) (Cert.BrBRefIdeal.Value.run m ρ),
    fun m ρ _ => Cert.DwSquare.Gen.frame m ρ, fun m ρ _ => Cert.DwSquareIdeal.Gen.frame m ρ,
    fun m ρ _ => MM.keeps (θ_run _ _ _).mono (fun r => sem_eq_zero_of_no_sems rfl r.2) (Cert.DwSquareRefIdeal.Value.run m ρ),
    fun m ρ _ => Cert.DxSquareLow.Gen.frame m ρ, fun m ρ _ => Cert.DxSquareLowIdeal.Gen.frame m ρ,
    fun m ρ _ => MM.keeps (θ_run _ _ _).mono (fun r => sem_eq_zero_of_no_sems rfl r.2) (Cert.DxSquareLowRefIdeal.Value.run m ρ),
    fun m ρ _ => Cert.DxSquare.Gen.frame m ρ, fun m ρ _ => Cert.DxSquareIdeal.Gen.frame m ρ,
    fun m ρ _ => MM.keeps (θ_run _ _ _).mono (fun r => sem_eq_zero_of_no_sems rfl r.2) (Cert.DxSquareRefIdeal.Value.run m ρ),
    fun m ρ _ => Cert.SquareLow.Gen.frame m ρ, fun m ρ _ => Cert.SquareLowIdeal.Gen.frame m ρ,
    fun m ρ _ => MM.keeps (θ_run _ _ _).mono (fun r => sem_eq_zero_of_no_sems rfl r.2) (Cert.SquareLowRefIdeal.Value.run m ρ),
    fun m ρ _ => Cert.Square.Gen.frame m ρ, fun m ρ _ => Cert.SquareIdeal.Gen.frame m ρ,
    fun m ρ _ => MM.keeps (θ_run _ _ _).mono (fun r => sem_eq_zero_of_no_sems rfl r.2) (Cert.SquareRefIdeal.Value.run m ρ),
    fun m ρ _ => Cert.DwKv.Gen.frame m ρ, fun m ρ _ => Cert.DwKvIdeal.Gen.frame m ρ,
    fun m ρ _ => MM.keeps (θ_run _ _ _).mono (fun r => sem_eq_zero_of_no_sems rfl r.2) (Cert.DwKvRefIdeal.Value.run m ρ),
    fun m ρ _ => Cert.DxKv.Gen.frame m ρ, fun m ρ _ => Cert.DxKvIdeal.Gen.frame m ρ,
    fun m ρ _ => MM.keeps (θ_run _ _ _).mono (fun r => sem_eq_zero_of_no_sems rfl r.2) (Cert.DxKvRefIdeal.Value.run m ρ),
    fun m ρ _ => Cert.Kv.Gen.frame m ρ, fun m ρ _ => Cert.KvIdeal.Gen.frame m ρ,
    fun m ρ _ => MM.keeps (θ_run _ _ _).mono (fun r => sem_eq_zero_of_no_sems rfl r.2) (Cert.KvRefIdeal.Value.run m ρ),
    fun m ρ _ => Cert.AttnBwd.Gen.frame m ρ, fun m ρ _ => Cert.AttnBwdIdeal.Gen.frame m ρ,
    fun m ρ _ => Cert.AttnBwdIdeal.Gen.frame m ρ, frame_attention_gradient,
    fun m ρ _ => frame_attention_gradient m ρ trivial,
    fun m ρ _ => Cert.Attn.Gen.frame m ρ, fun m ρ _ => Cert.AttnIdeal.Gen.frame m ρ,
    fun m ρ _ => MM.keeps (θ_run _ _ _).mono (fun r => sem_eq_zero_of_no_sems rfl r.2) (Cert.AttnRefIdeal.Value.run m ρ),
    fun m ρ _ => Cert.SwigluBwd.Gen.frame m ρ, fun m ρ _ => Cert.SwigluBwdIdeal.Gen.frame m ρ,
    fun m ρ _ => Cert.SwigluBwdIdeal.Gen.frame m ρ, frame_gated_gradient,
    fun m ρ _ => frame_gated_gradient m ρ trivial,
    fun m ρ _ => Cert.MergeBwd.Gen.frame m ρ, fun m ρ _ => Cert.MergeBwdIdeal.Gen.frame m ρ, frame_merge_gradient,
    fun m ρ _ => Cert.Swiglu.Gen.frame m ρ, fun m ρ _ => Cert.SwigluIdeal.Gen.frame m ρ,
    fun m ρ _ => MM.keeps (θ_run _ _ _).mono (fun r => sem_eq_zero_of_no_sems rfl r.2) (Cert.SwigluRefIdeal.Value.run m ρ),
    fun m ρ _ => Cert.Merge.Gen.frame m ρ, fun m ρ _ => Cert.MergeIdeal.Gen.frame m ρ,
    fun m ρ _ => MM.keeps (θ_run _ _ _).mono (fun r => sem_eq_zero_of_no_sems rfl r.2) (Cert.MergeRefIdeal.Value.run m ρ),
    fun m ρ _ => Cert.ConvBwd.Gen.frame m ρ, fun m ρ _ => Cert.ConvBwdIdeal.Gen.frame m ρ,
    fun m ρ _ => Cert.ConvBwdIdeal.Gen.frame m ρ, frame_convolution_gradient,
    fun m ρ _ => frame_convolution_gradient m ρ trivial,
    fun m ρ _ => Cert.Conv.Gen.frame m ρ, fun m ρ _ => Cert.ConvIdeal.Gen.frame m ρ,
    fun m ρ _ => MM.keeps (θ_run _ _ _).mono (fun r => sem_eq_zero_of_no_sems rfl r.2) (Cert.ConvRefIdeal.Value.run m ρ),
    fun m ρ _ => Cert.NormBwd.Gen.frame m ρ, fun m ρ _ => Cert.NormBwdIdeal.Gen.frame m ρ,
    fun m ρ _ => Cert.NormBwdIdeal.Gen.frame m ρ, frame_norm_gradient,
    fun m ρ _ => frame_norm_gradient m ρ trivial,
    fun m ρ _ => Cert.Norm.Gen.frame m ρ, fun m ρ _ => Cert.NormIdeal.Gen.frame m ρ,
    fun m ρ _ => MM.keeps (θ_run _ _ _).mono (fun r => sem_eq_zero_of_no_sems rfl r.2) (Cert.NormRefIdeal.Value.run m ρ),
    ⟨IdealRules.named_const.statement Cert.KernelIdeal.κ "inv_sqrt2" .f32 0x3F3504F3#32 _ rfl,
      IdealRules.named_const.statement Cert.KernelIdeal.κ "inv_sqrt_2pi" .f32 0x3ECC422A#32 _ rfl⟩,
    algebraic,
    trivial, Cert.DwMainIdeal.MM.same, trivial, Cert.DxMainIdeal.MM.same, trivial, Cert.ProjIdeal.MM.same,
    trivial, Cert.DwDtIdeal.MM.same, trivial, Cert.DxDtIdeal.MM.same, trivial, Cert.DtProjIdeal.MM.same,
    trivial, Cert.DwFfnInIdeal.MM.same, trivial, Cert.DxFfnInIdeal.MM.same, trivial, Cert.FfnInIdeal.MM.same,
    trivial, Cert.DwFfnOutIdeal.MM.same, trivial, Cert.DxFfnOutIdeal.MM.same, trivial, Cert.FfnOutIdeal.MM.same,
    trivial, Cert.DwBrBIdeal.MM.same, trivial, Cert.DxBrBIdeal.MM.same, trivial, Cert.BrBIdeal.MM.same,
    trivial, Cert.DwSquareIdeal.MM.same, trivial, Cert.DxSquareLowIdeal.MM.same, trivial, Cert.DxSquareIdeal.MM.same,
    trivial, Cert.SquareLowIdeal.MM.same, trivial, Cert.SquareIdeal.MM.same, trivial, Cert.DwKvIdeal.MM.same,
    trivial, Cert.DxKvIdeal.MM.same, trivial, Cert.KvIdeal.MM.same,
    trivial, Cert.AT.bwd_same, trivial, Cert.AT.same,
    trivial, Cert.GT.glu_bwd_same, trivial, Cert.GT.mrg_bwd_same, trivial, Cert.GT.glu_same, trivial, Cert.GT.mrg_same,
    trivial, Cert.CV.bwd_same, trivial, Cert.CV.same, trivial, Cert.NM.bwd_same, trivial, Cert.NM.same⟩

end Cert.Proof

end

end
